-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))) = (fun _ => 1#1)

def Pre_Dwb (m : (ℓ : Loc Cert.Dwb.nD Cert.Dwb.τ Cert.Dwb.sig) → Buf (Elt Bits) ℓ) : Prop :=
  True

def Pre_DwbIdeal (m : (ℓ : Loc Cert.DwbIdeal.nD Cert.DwbIdeal.τ Cert.DwbIdeal.sig) → Buf (Elt Ideal) ℓ) : Prop :=
  True

def Pre_DwbRefIdeal (m : (ℓ : Loc Cert.DwbRefIdeal.nD Cert.DwbRefIdeal.τ Cert.DwbRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Dwa (m : (ℓ : Loc Cert.Dwa.nD Cert.Dwa.τ Cert.Dwa.sig) → Buf (Elt Bits) ℓ) : Prop :=
  True

def Pre_DwaIdeal (m : (ℓ : Loc Cert.DwaIdeal.nD Cert.DwaIdeal.τ Cert.DwaIdeal.sig) → Buf (Elt Ideal) ℓ) : Prop :=
  True

def Pre_DwaRefIdeal (m : (ℓ : Loc Cert.DwaRefIdeal.nD Cert.DwaRefIdeal.τ Cert.DwaRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Zx (m : (ℓ : Loc Cert.Zx.nD Cert.Zx.τ Cert.Zx.sig) → Buf (Elt Bits) ℓ) : Prop :=
  True

def Pre_ZxIdeal (m : (ℓ : Loc Cert.ZxIdeal.nD Cert.ZxIdeal.τ Cert.ZxIdeal.sig) → Buf (Elt Ideal) ℓ) : Prop :=
  True

def Pre_ZxRefIdeal (m : (ℓ : Loc Cert.ZxRefIdeal.nD Cert.ZxRefIdeal.τ Cert.ZxRefIdeal.sig) → Buf (Elt Ideal) ℓ) : Prop :=
  True

def Pre_Dwz (m : (ℓ : Loc Cert.Dwz.nD Cert.Dwz.τ Cert.Dwz.sig) → Buf (Elt Bits) ℓ) : Prop :=
  True

def Pre_DwzIdeal (m : (ℓ : Loc Cert.DwzIdeal.nD Cert.DwzIdeal.τ Cert.DwzIdeal.sig) → Buf (Elt Ideal) ℓ) : Prop :=
  True

def Pre_DwzRefIdeal (m : (ℓ : Loc Cert.DwzRefIdeal.nD Cert.DwzRefIdeal.τ Cert.DwzRefIdeal.sig) → Buf (Elt Ideal) ℓ) : Prop :=
  True

def Pre_Dwx (m : (ℓ : Loc Cert.Dwx.nD Cert.Dwx.τ Cert.Dwx.sig) → Buf (Elt Bits) ℓ) : Prop :=
  True

def Pre_DwxIdeal (m : (ℓ : Loc Cert.DwxIdeal.nD Cert.DwxIdeal.τ Cert.DwxIdeal.sig) → Buf (Elt Ideal) ℓ) : Prop :=
  True

def Pre_DwxRefIdeal (m : (ℓ : Loc Cert.DwxRefIdeal.nD Cert.DwxRefIdeal.τ Cert.DwxRefIdeal.sig) → Buf (Elt Ideal) ℓ) : Prop :=
  True

def Pre_Duz (m : (ℓ : Loc Cert.Duz.nD Cert.Duz.τ Cert.Duz.sig) → Buf (Elt Bits) ℓ) : Prop :=
  True

def Pre_DuzIdeal (m : (ℓ : Loc Cert.DuzIdeal.nD Cert.DuzIdeal.τ Cert.DuzIdeal.sig) → Buf (Elt Ideal) ℓ) : Prop :=
  True

def Pre_DuzRefIdeal (m : (ℓ : Loc Cert.DuzRefIdeal.nD Cert.DuzRefIdeal.τ Cert.DuzRefIdeal.sig) → Buf (Elt Ideal) ℓ) : Prop :=
  True

def Pre_Dux (m : (ℓ : Loc Cert.Dux.nD Cert.Dux.τ Cert.Dux.sig) → Buf (Elt Bits) ℓ) : Prop :=
  True

def Pre_DuxIdeal (m : (ℓ : Loc Cert.DuxIdeal.nD Cert.DuxIdeal.τ Cert.DuxIdeal.sig) → Buf (Elt Ideal) ℓ) : Prop :=
  True

def Pre_DuxRefIdeal (m : (ℓ : Loc Cert.DuxRefIdeal.nD Cert.DuxRefIdeal.τ Cert.DuxRefIdeal.sig) → Buf (Elt Ideal) ℓ) : Prop :=
  True

def Pre_So (m : (ℓ : Loc Cert.So.nD Cert.So.τ Cert.So.sig) → Buf (Elt Bits) ℓ) : Prop :=
  True

def Pre_SoIdeal (m : (ℓ : Loc Cert.SoIdeal.nD Cert.SoIdeal.τ Cert.SoIdeal.sig) → Buf (Elt Ideal) ℓ) : Prop :=
  True

def Pre_SoRefIdeal (m : (ℓ : Loc Cert.SoRefIdeal.nD Cert.SoRefIdeal.τ Cert.SoRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Qp (m : (ℓ : Loc Cert.Qp.nD Cert.Qp.τ Cert.Qp.sig) → Buf (Elt Bits) ℓ) : Prop :=
  True

def Pre_QpIdeal (m : (ℓ : Loc Cert.QpIdeal.nD Cert.QpIdeal.τ Cert.QpIdeal.sig) → Buf (Elt Ideal) ℓ) : Prop :=
  True

def Pre_QpRefIdeal (m : (ℓ : Loc Cert.QpRefIdeal.nD Cert.QpRefIdeal.τ Cert.QpRefIdeal.sig) → Buf (Elt Ideal) ℓ) : Prop :=
  True

def Pre_Vp (m : (ℓ : Loc Cert.Vp.nD Cert.Vp.τ Cert.Vp.sig) → Buf (Elt Bits) ℓ) : Prop :=
  True

def Pre_VpIdeal (m : (ℓ : Loc Cert.VpIdeal.nD Cert.VpIdeal.τ Cert.VpIdeal.sig) → Buf (Elt Ideal) ℓ) : Prop :=
  True

def Pre_VpRefIdeal (m : (ℓ : Loc Cert.VpRefIdeal.nD Cert.VpRefIdeal.τ Cert.VpRefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Ao (m : (ℓ : Loc Cert.Ao.nD Cert.Ao.τ Cert.Ao.sig) → Buf (Elt Bits) ℓ) : Prop :=
  True

def Pre_AoIdeal (m : (ℓ : Loc Cert.AoIdeal.nD Cert.AoIdeal.τ Cert.AoIdeal.sig) → Buf (Elt Ideal) ℓ) : Prop :=
  True

def Pre_AoRefIdeal (m : (ℓ : Loc Cert.AoRefIdeal.nD Cert.AoRefIdeal.τ Cert.AoRefIdeal.sig) → Buf (Elt Ideal) ℓ) : Prop :=
  True

def Pre_Dwp (m : (ℓ : Loc Cert.Dwp.nD Cert.Dwp.τ Cert.Dwp.sig) → Buf (Elt Bits) ℓ) : Prop :=
  True

def Pre_DwpIdeal (m : (ℓ : Loc Cert.DwpIdeal.nD Cert.DwpIdeal.τ Cert.DwpIdeal.sig) → Buf (Elt Ideal) ℓ) : Prop :=
  True

def Pre_DwpRefIdeal (m : (ℓ : Loc Cert.DwpRefIdeal.nD Cert.DwpRefIdeal.τ Cert.DwpRefIdeal.sig) → Buf (Elt Ideal) ℓ) : Prop :=
  True

def Pre_Dwq (m : (ℓ : Loc Cert.Dwq.nD Cert.Dwq.τ Cert.Dwq.sig) → Buf (Elt Bits) ℓ) : Prop :=
  True

def Pre_DwqIdeal (m : (ℓ : Loc Cert.DwqIdeal.nD Cert.DwqIdeal.τ Cert.DwqIdeal.sig) → Buf (Elt Ideal) ℓ) : Prop :=
  True

def Pre_DwqRefIdeal (m : (ℓ : Loc Cert.DwqRefIdeal.nD Cert.DwqRefIdeal.τ Cert.DwqRefIdeal.sig) → Buf (Elt Ideal) ℓ) : Prop :=
  True

def Pre_Duq (m : (ℓ : Loc Cert.Duq.nD Cert.Duq.τ Cert.Duq.sig) → Buf (Elt Bits) ℓ) : Prop :=
  True

def Pre_DuqIdeal (m : (ℓ : Loc Cert.DuqIdeal.nD Cert.DuqIdeal.τ Cert.DuqIdeal.sig) → Buf (Elt Ideal) ℓ) : Prop :=
  True

def Pre_DuqRefIdeal (m : (ℓ : Loc Cert.DuqRefIdeal.nD Cert.DuqRefIdeal.τ Cert.DuqRefIdeal.sig) → Buf (Elt Ideal) ℓ) : Prop :=
  True

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvRefIdeal (m : (ℓ : Loc Cert.DkvRefIdeal.nD Cert.DkvRefIdeal.τ Cert.DkvRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Dwb [hDwb : Cert.Dwb.Facts] : Prop :=
  ∀ (m : (ℓ : Loc Cert.Dwb.nD Cert.Dwb.τ Cert.Dwb.sig) → Buf (Elt Bits) ℓ) (g : Dev Cert.Dwb.nD → PrngReg), Pre_Dwb m →
    θ_run (Cert.Dwb.defs (F := Bits)) (onTc (τ := Cert.Dwb.τ) (Cert.Dwb.main (F := Bits))) ⟨m, fun _ => 0, g⟩ (fun r => (∀ c : Dev Cert.Dwb.nD,
      r.2.mem ((c.tc : Thread Cert.Dwb.nD Cert.Dwb.τ).loc Cert.Dwb.main_arg0) = m ((c.tc : Thread Cert.Dwb.nD Cert.Dwb.τ).loc Cert.Dwb.main_arg0)
      ∧ r.2.mem ((c.tc : Thread Cert.Dwb.nD Cert.Dwb.τ).loc Cert.Dwb.main_arg1) = m ((c.tc : Thread Cert.Dwb.nD Cert.Dwb.τ).loc Cert.Dwb.main_arg1))
      ∧ r.2.sem = fun _ => 0)

def quiescent_DwbIdeal [hDwbIdeal : Cert.DwbIdeal.Facts] : Prop :=
  ∀ (m : (ℓ : Loc Cert.DwbIdeal.nD Cert.DwbIdeal.τ Cert.DwbIdeal.sig) → Buf (Elt Ideal) ℓ) (g : Dev Cert.DwbIdeal.nD → PrngReg), Pre_DwbIdeal m →
    θ_run (Cert.DwbIdeal.defs (F := Ideal)) (onTc (τ := Cert.DwbIdeal.τ) (Cert.DwbIdeal.main (F := Ideal))) ⟨m, fun _ => 0, g⟩ (fun r => (∀ c : Dev Cert.DwbIdeal.nD,
      r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
      ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ r.2.sem = fun _ => 0)

def quiescent_DwbRefIdeal [hDwbRefIdeal : Cert.DwbRefIdeal.Facts] : Prop :=
  ∀ (m : (ℓ : Loc Cert.DwbRefIdeal.nD Cert.DwbRefIdeal.τ Cert.DwbRefIdeal.sig) → Buf (Elt Ideal) ℓ) (g : Dev Cert.DwbRefIdeal.nD → PrngReg), Pre_DwbRefIdeal m →
    θ_run (Cert.DwbRefIdeal.defs (F := Ideal)) (onTc (τ := Cert.DwbRefIdeal.τ) (Cert.DwbRefIdeal.main (F := Ideal))) ⟨m, fun _ => 0, g⟩ (fun r => (∀ c : Dev Cert.DwbRefIdeal.nD,
      r.2.mem ((c.tc : Thread Cert.DwbRefIdeal.nD Cert.DwbRefIdeal.τ).loc Cert.DwbRefIdeal.main_arg0) = m ((c.tc : Thread Cert.DwbRefIdeal.nD Cert.DwbRefIdeal.τ).loc Cert.DwbRefIdeal.main_arg0)
      ∧ r.2.mem ((c.tc : Thread Cert.DwbRefIdeal.nD Cert.DwbRefIdeal.τ).loc Cert.DwbRefIdeal.main_arg1) = m ((c.tc : Thread Cert.DwbRefIdeal.nD Cert.DwbRefIdeal.τ).loc Cert.DwbRefIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3))
      ∧ r.2.sem = fun _ => 0)

def quiescent_Dwa [hDwa : Cert.Dwa.Facts] : Prop :=
  ∀ (m : (ℓ : Loc Cert.Dwa.nD Cert.Dwa.τ Cert.Dwa.sig) → Buf (Elt Bits) ℓ) (g : Dev Cert.Dwa.nD → PrngReg), Pre_Dwa m →
    θ_run (Cert.Dwa.defs (F := Bits)) (onTc (τ := Cert.Dwa.τ) (Cert.Dwa.main (F := Bits))) ⟨m, fun _ => 0, g⟩ (fun r => (∀ c : Dev Cert.Dwa.nD,
      r.2.mem ((c.tc : Thread Cert.Dwa.nD Cert.Dwa.τ).loc Cert.Dwa.main_arg0) = m ((c.tc : Thread Cert.Dwa.nD Cert.Dwa.τ).loc Cert.Dwa.main_arg0)
      ∧ r.2.mem ((c.tc : Thread Cert.Dwa.nD Cert.Dwa.τ).loc Cert.Dwa.main_arg1) = m ((c.tc : Thread Cert.Dwa.nD Cert.Dwa.τ).loc Cert.Dwa.main_arg1))
      ∧ r.2.sem = fun _ => 0)

def quiescent_DwaIdeal [hDwaIdeal : Cert.DwaIdeal.Facts] : Prop :=
  ∀ (m : (ℓ : Loc Cert.DwaIdeal.nD Cert.DwaIdeal.τ Cert.DwaIdeal.sig) → Buf (Elt Ideal) ℓ) (g : Dev Cert.DwaIdeal.nD → PrngReg), Pre_DwaIdeal m →
    θ_run (Cert.DwaIdeal.defs (F := Ideal)) (onTc (τ := Cert.DwaIdeal.τ) (Cert.DwaIdeal.main (F := Ideal))) ⟨m, fun _ => 0, g⟩ (fun r => (∀ c : Dev Cert.DwaIdeal.nD,
      r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
      ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ r.2.sem = fun _ => 0)

def quiescent_DwaRefIdeal [hDwaRefIdeal : Cert.DwaRefIdeal.Facts] : Prop :=
  ∀ (m : (ℓ : Loc Cert.DwaRefIdeal.nD Cert.DwaRefIdeal.τ Cert.DwaRefIdeal.sig) → Buf (Elt Ideal) ℓ) (g : Dev Cert.DwaRefIdeal.nD → PrngReg), Pre_DwaRefIdeal m →
    θ_run (Cert.DwaRefIdeal.defs (F := Ideal)) (onTc (τ := Cert.DwaRefIdeal.τ) (Cert.DwaRefIdeal.main (F := Ideal))) ⟨m, fun _ => 0, g⟩ (fun r => (∀ c : Dev Cert.DwaRefIdeal.nD,
      r.2.mem ((c.tc : Thread Cert.DwaRefIdeal.nD Cert.DwaRefIdeal.τ).loc Cert.DwaRefIdeal.main_arg0) = m ((c.tc : Thread Cert.DwaRefIdeal.nD Cert.DwaRefIdeal.τ).loc Cert.DwaRefIdeal.main_arg0)
      ∧ r.2.mem ((c.tc : Thread Cert.DwaRefIdeal.nD Cert.DwaRefIdeal.τ).loc Cert.DwaRefIdeal.main_arg1) = m ((c.tc : Thread Cert.DwaRefIdeal.nD Cert.DwaRefIdeal.τ).loc Cert.DwaRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Zx [hZx : Cert.Zx.Facts] : Prop :=
  ∀ (m : (ℓ : Loc Cert.Zx.nD Cert.Zx.τ Cert.Zx.sig) → Buf (Elt Bits) ℓ) (g : Dev Cert.Zx.nD → PrngReg), Pre_Zx m →
    θ_run (Cert.Zx.defs (F := Bits)) (onTc (τ := Cert.Zx.τ) (Cert.Zx.main (F := Bits))) ⟨m, fun _ => 0, g⟩ (fun r => (∀ c : Dev Cert.Zx.nD,
      r.2.mem ((c.tc : Thread Cert.Zx.nD Cert.Zx.τ).loc Cert.Zx.main_arg0) = m ((c.tc : Thread Cert.Zx.nD Cert.Zx.τ).loc Cert.Zx.main_arg0)
      ∧ r.2.mem ((c.tc : Thread Cert.Zx.nD Cert.Zx.τ).loc Cert.Zx.main_arg1) = m ((c.tc : Thread Cert.Zx.nD Cert.Zx.τ).loc Cert.Zx.main_arg1))
      ∧ r.2.sem = fun _ => 0)

def quiescent_ZxIdeal [hZxIdeal : Cert.ZxIdeal.Facts] : Prop :=
  ∀ (m : (ℓ : Loc Cert.ZxIdeal.nD Cert.ZxIdeal.τ Cert.ZxIdeal.sig) → Buf (Elt Ideal) ℓ) (g : Dev Cert.ZxIdeal.nD → PrngReg), Pre_ZxIdeal m →
    θ_run (Cert.ZxIdeal.defs (F := Ideal)) (onTc (τ := Cert.ZxIdeal.τ) (Cert.ZxIdeal.main (F := Ideal))) ⟨m, fun _ => 0, g⟩ (fun r => (∀ c : Dev Cert.ZxIdeal.nD,
      r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
      ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ r.2.sem = fun _ => 0)

def quiescent_ZxRefIdeal [hZxRefIdeal : Cert.ZxRefIdeal.Facts] : Prop :=
  ∀ (m : (ℓ : Loc Cert.ZxRefIdeal.nD Cert.ZxRefIdeal.τ Cert.ZxRefIdeal.sig) → Buf (Elt Ideal) ℓ) (g : Dev Cert.ZxRefIdeal.nD → PrngReg), Pre_ZxRefIdeal m →
    θ_run (Cert.ZxRefIdeal.defs (F := Ideal)) (onTc (τ := Cert.ZxRefIdeal.τ) (Cert.ZxRefIdeal.main (F := Ideal))) ⟨m, fun _ => 0, g⟩ (fun r => (∀ c : Dev Cert.ZxRefIdeal.nD,
      r.2.mem ((c.tc : Thread Cert.ZxRefIdeal.nD Cert.ZxRefIdeal.τ).loc Cert.ZxRefIdeal.main_arg0) = m ((c.tc : Thread Cert.ZxRefIdeal.nD Cert.ZxRefIdeal.τ).loc Cert.ZxRefIdeal.main_arg0)
      ∧ r.2.mem ((c.tc : Thread Cert.ZxRefIdeal.nD Cert.ZxRefIdeal.τ).loc Cert.ZxRefIdeal.main_arg1) = m ((c.tc : Thread Cert.ZxRefIdeal.nD Cert.ZxRefIdeal.τ).loc Cert.ZxRefIdeal.main_arg1))
      ∧ r.2.sem = fun _ => 0)

def quiescent_Dwz [hDwz : Cert.Dwz.Facts] : Prop :=
  ∀ (m : (ℓ : Loc Cert.Dwz.nD Cert.Dwz.τ Cert.Dwz.sig) → Buf (Elt Bits) ℓ) (g : Dev Cert.Dwz.nD → PrngReg), Pre_Dwz m →
    θ_run (Cert.Dwz.defs (F := Bits)) (onTc (τ := Cert.Dwz.τ) (Cert.Dwz.main (F := Bits))) ⟨m, fun _ => 0, g⟩ (fun r => (∀ c : Dev Cert.Dwz.nD,
      r.2.mem ((c.tc : Thread Cert.Dwz.nD Cert.Dwz.τ).loc Cert.Dwz.main_arg0) = m ((c.tc : Thread Cert.Dwz.nD Cert.Dwz.τ).loc Cert.Dwz.main_arg0)
      ∧ r.2.mem ((c.tc : Thread Cert.Dwz.nD Cert.Dwz.τ).loc Cert.Dwz.main_arg1) = m ((c.tc : Thread Cert.Dwz.nD Cert.Dwz.τ).loc Cert.Dwz.main_arg1))
      ∧ r.2.sem = fun _ => 0)

def quiescent_DwzIdeal [hDwzIdeal : Cert.DwzIdeal.Facts] : Prop :=
  ∀ (m : (ℓ : Loc Cert.DwzIdeal.nD Cert.DwzIdeal.τ Cert.DwzIdeal.sig) → Buf (Elt Ideal) ℓ) (g : Dev Cert.DwzIdeal.nD → PrngReg), Pre_DwzIdeal m →
    θ_run (Cert.DwzIdeal.defs (F := Ideal)) (onTc (τ := Cert.DwzIdeal.τ) (Cert.DwzIdeal.main (F := Ideal))) ⟨m, fun _ => 0, g⟩ (fun r => (∀ c : Dev Cert.DwzIdeal.nD,
      r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
      ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1))
      ∧ r.2.sem = fun _ => 0)

def quiescent_DwzRefIdeal [hDwzRefIdeal : Cert.DwzRefIdeal.Facts] : Prop :=
  ∀ (m : (ℓ : Loc Cert.DwzRefIdeal.nD Cert.DwzRefIdeal.τ Cert.DwzRefIdeal.sig) → Buf (Elt Ideal) ℓ) (g : Dev Cert.DwzRefIdeal.nD → PrngReg), Pre_DwzRefIdeal m →
    θ_run (Cert.DwzRefIdeal.defs (F := Ideal)) (onTc (τ := Cert.DwzRefIdeal.τ) (Cert.DwzRefIdeal.main (F := Ideal))) ⟨m, fun _ => 0, g⟩ (fun r => (∀ c : Dev Cert.DwzRefIdeal.nD,
      r.2.mem ((c.tc : Thread Cert.DwzRefIdeal.nD Cert.DwzRefIdeal.τ).loc Cert.DwzRefIdeal.main_arg0) = m ((c.tc : Thread Cert.DwzRefIdeal.nD Cert.DwzRefIdeal.τ).loc Cert.DwzRefIdeal.main_arg0)
      ∧ r.2.mem ((c.tc : Thread Cert.DwzRefIdeal.nD Cert.DwzRefIdeal.τ).loc Cert.DwzRefIdeal.main_arg1) = m ((c.tc : Thread Cert.DwzRefIdeal.nD Cert.DwzRefIdeal.τ).loc Cert.DwzRefIdeal.main_arg1))
      ∧ r.2.sem = fun _ => 0)

def quiescent_Dwx [hDwx : Cert.Dwx.Facts] : Prop :=
  ∀ (m : (ℓ : Loc Cert.Dwx.nD Cert.Dwx.τ Cert.Dwx.sig) → Buf (Elt Bits) ℓ) (g : Dev Cert.Dwx.nD → PrngReg), Pre_Dwx m →
    θ_run (Cert.Dwx.defs (F := Bits)) (onTc (τ := Cert.Dwx.τ) (Cert.Dwx.main (F := Bits))) ⟨m, fun _ => 0, g⟩ (fun r => (∀ c : Dev Cert.Dwx.nD,
      r.2.mem ((c.tc : Thread Cert.Dwx.nD Cert.Dwx.τ).loc Cert.Dwx.main_arg0) = m ((c.tc : Thread Cert.Dwx.nD Cert.Dwx.τ).loc Cert.Dwx.main_arg0)
      ∧ r.2.mem ((c.tc : Thread Cert.Dwx.nD Cert.Dwx.τ).loc Cert.Dwx.main_arg1) = m ((c.tc : Thread Cert.Dwx.nD Cert.Dwx.τ).loc Cert.Dwx.main_arg1))
      ∧ r.2.sem = fun _ => 0)

def quiescent_DwxIdeal [hDwxIdeal : Cert.DwxIdeal.Facts] : Prop :=
  ∀ (m : (ℓ : Loc Cert.DwxIdeal.nD Cert.DwxIdeal.τ Cert.DwxIdeal.sig) → Buf (Elt Ideal) ℓ) (g : Dev Cert.DwxIdeal.nD → PrngReg), Pre_DwxIdeal m →
    θ_run (Cert.DwxIdeal.defs (F := Ideal)) (onTc (τ := Cert.DwxIdeal.τ) (Cert.DwxIdeal.main (F := Ideal))) ⟨m, fun _ => 0, g⟩ (fun r => (∀ c : Dev Cert.DwxIdeal.nD,
      r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
      ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ r.2.sem = fun _ => 0)

def quiescent_DwxRefIdeal [hDwxRefIdeal : Cert.DwxRefIdeal.Facts] : Prop :=
  ∀ (m : (ℓ : Loc Cert.DwxRefIdeal.nD Cert.DwxRefIdeal.τ Cert.DwxRefIdeal.sig) → Buf (Elt Ideal) ℓ) (g : Dev Cert.DwxRefIdeal.nD → PrngReg), Pre_DwxRefIdeal m →
    θ_run (Cert.DwxRefIdeal.defs (F := Ideal)) (onTc (τ := Cert.DwxRefIdeal.τ) (Cert.DwxRefIdeal.main (F := Ideal))) ⟨m, fun _ => 0, g⟩ (fun r => (∀ c : Dev Cert.DwxRefIdeal.nD,
      r.2.mem ((c.tc : Thread Cert.DwxRefIdeal.nD Cert.DwxRefIdeal.τ).loc Cert.DwxRefIdeal.main_arg0) = m ((c.tc : Thread Cert.DwxRefIdeal.nD Cert.DwxRefIdeal.τ).loc Cert.DwxRefIdeal.main_arg0)
      ∧ r.2.mem ((c.tc : Thread Cert.DwxRefIdeal.nD Cert.DwxRefIdeal.τ).loc Cert.DwxRefIdeal.main_arg1) = m ((c.tc : Thread Cert.DwxRefIdeal.nD Cert.DwxRefIdeal.τ).loc Cert.DwxRefIdeal.main_arg1))
      ∧ r.2.sem = fun _ => 0)

def quiescent_Duz [hDuz : Cert.Duz.Facts] : Prop :=
  ∀ (m : (ℓ : Loc Cert.Duz.nD Cert.Duz.τ Cert.Duz.sig) → Buf (Elt Bits) ℓ) (g : Dev Cert.Duz.nD → PrngReg), Pre_Duz m →
    θ_run (Cert.Duz.defs (F := Bits)) (onTc (τ := Cert.Duz.τ) (Cert.Duz.main (F := Bits))) ⟨m, fun _ => 0, g⟩ (fun r => (∀ c : Dev Cert.Duz.nD,
      r.2.mem ((c.tc : Thread Cert.Duz.nD Cert.Duz.τ).loc Cert.Duz.main_arg0) = m ((c.tc : Thread Cert.Duz.nD Cert.Duz.τ).loc Cert.Duz.main_arg0)
      ∧ r.2.mem ((c.tc : Thread Cert.Duz.nD Cert.Duz.τ).loc Cert.Duz.main_arg1) = m ((c.tc : Thread Cert.Duz.nD Cert.Duz.τ).loc Cert.Duz.main_arg1))
      ∧ r.2.sem = fun _ => 0)

def quiescent_DuzIdeal [hDuzIdeal : Cert.DuzIdeal.Facts] : Prop :=
  ∀ (m : (ℓ : Loc Cert.DuzIdeal.nD Cert.DuzIdeal.τ Cert.DuzIdeal.sig) → Buf (Elt Ideal) ℓ) (g : Dev Cert.DuzIdeal.nD → PrngReg), Pre_DuzIdeal m →
    θ_run (Cert.DuzIdeal.defs (F := Ideal)) (onTc (τ := Cert.DuzIdeal.τ) (Cert.DuzIdeal.main (F := Ideal))) ⟨m, fun _ => 0, g⟩ (fun r => (∀ c : Dev Cert.DuzIdeal.nD,
      r.2.mem ((c.tc : Thread Cert.DuzIdeal.nD Cert.DuzIdeal.τ).loc Cert.DuzIdeal.main_arg0) = m ((c.tc : Thread Cert.DuzIdeal.nD Cert.DuzIdeal.τ).loc Cert.DuzIdeal.main_arg0)
      ∧ r.2.mem ((c.tc : Thread Cert.DuzIdeal.nD Cert.DuzIdeal.τ).loc Cert.DuzIdeal.main_arg1) = m ((c.tc : Thread Cert.DuzIdeal.nD Cert.DuzIdeal.τ).loc Cert.DuzIdeal.main_arg1))
      ∧ r.2.sem = fun _ => 0)

def quiescent_DuzRefIdeal [hDuzRefIdeal : Cert.DuzRefIdeal.Facts] : Prop :=
  ∀ (m : (ℓ : Loc Cert.DuzRefIdeal.nD Cert.DuzRefIdeal.τ Cert.DuzRefIdeal.sig) → Buf (Elt Ideal) ℓ) (g : Dev Cert.DuzRefIdeal.nD → PrngReg), Pre_DuzRefIdeal m →
    θ_run (Cert.DuzRefIdeal.defs (F := Ideal)) (onTc (τ := Cert.DuzRefIdeal.τ) (Cert.DuzRefIdeal.main (F := Ideal))) ⟨m, fun _ => 0, g⟩ (fun r => (∀ c : Dev Cert.DuzRefIdeal.nD,
      r.2.mem ((c.tc : Thread Cert.DuzRefIdeal.nD Cert.DuzRefIdeal.τ).loc Cert.DuzRefIdeal.main_arg0) = m ((c.tc : Thread Cert.DuzRefIdeal.nD Cert.DuzRefIdeal.τ).loc Cert.DuzRefIdeal.main_arg0)
      ∧ r.2.mem ((c.tc : Thread Cert.DuzRefIdeal.nD Cert.DuzRefIdeal.τ).loc Cert.DuzRefIdeal.main_arg1) = m ((c.tc : Thread Cert.DuzRefIdeal.nD Cert.DuzRefIdeal.τ).loc Cert.DuzRefIdeal.main_arg1))
      ∧ r.2.sem = fun _ => 0)

def quiescent_Dux [hDux : Cert.Dux.Facts] : Prop :=
  ∀ (m : (ℓ : Loc Cert.Dux.nD Cert.Dux.τ Cert.Dux.sig) → Buf (Elt Bits) ℓ) (g : Dev Cert.Dux.nD → PrngReg), Pre_Dux m →
    θ_run (Cert.Dux.defs (F := Bits)) (onTc (τ := Cert.Dux.τ) (Cert.Dux.main (F := Bits))) ⟨m, fun _ => 0, g⟩ (fun r => (∀ c : Dev Cert.Dux.nD,
      r.2.mem ((c.tc : Thread Cert.Dux.nD Cert.Dux.τ).loc Cert.Dux.main_arg0) = m ((c.tc : Thread Cert.Dux.nD Cert.Dux.τ).loc Cert.Dux.main_arg0)
      ∧ r.2.mem ((c.tc : Thread Cert.Dux.nD Cert.Dux.τ).loc Cert.Dux.main_arg1) = m ((c.tc : Thread Cert.Dux.nD Cert.Dux.τ).loc Cert.Dux.main_arg1)
      ∧ r.2.mem ((c.tc : Thread Cert.Dux.nD Cert.Dux.τ).loc Cert.Dux.main_arg2) = m ((c.tc : Thread Cert.Dux.nD Cert.Dux.τ).loc Cert.Dux.main_arg2))
      ∧ r.2.sem = fun _ => 0)

def quiescent_DuxIdeal [hDuxIdeal : Cert.DuxIdeal.Facts] : Prop :=
  ∀ (m : (ℓ : Loc Cert.DuxIdeal.nD Cert.DuxIdeal.τ Cert.DuxIdeal.sig) → Buf (Elt Ideal) ℓ) (g : Dev Cert.DuxIdeal.nD → PrngReg), Pre_DuxIdeal m →
    θ_run (Cert.DuxIdeal.defs (F := Ideal)) (onTc (τ := Cert.DuxIdeal.τ) (Cert.DuxIdeal.main (F := Ideal))) ⟨m, fun _ => 0, g⟩ (fun r => (∀ c : Dev Cert.DuxIdeal.nD,
      r.2.mem ((c.tc : Thread Cert.DuxIdeal.nD Cert.DuxIdeal.τ).loc Cert.DuxIdeal.main_arg0) = m ((c.tc : Thread Cert.DuxIdeal.nD Cert.DuxIdeal.τ).loc Cert.DuxIdeal.main_arg0)
      ∧ r.2.mem ((c.tc : Thread Cert.DuxIdeal.nD Cert.DuxIdeal.τ).loc Cert.DuxIdeal.main_arg1) = m ((c.tc : Thread Cert.DuxIdeal.nD Cert.DuxIdeal.τ).loc Cert.DuxIdeal.main_arg1)
      ∧ r.2.mem ((c.tc : Thread Cert.DuxIdeal.nD Cert.DuxIdeal.τ).loc Cert.DuxIdeal.main_arg2) = m ((c.tc : Thread Cert.DuxIdeal.nD Cert.DuxIdeal.τ).loc Cert.DuxIdeal.main_arg2))
      ∧ r.2.sem = fun _ => 0)

def quiescent_DuxRefIdeal [hDuxRefIdeal : Cert.DuxRefIdeal.Facts] : Prop :=
  ∀ (m : (ℓ : Loc Cert.DuxRefIdeal.nD Cert.DuxRefIdeal.τ Cert.DuxRefIdeal.sig) → Buf (Elt Ideal) ℓ) (g : Dev Cert.DuxRefIdeal.nD → PrngReg), Pre_DuxRefIdeal m →
    θ_run (Cert.DuxRefIdeal.defs (F := Ideal)) (onTc (τ := Cert.DuxRefIdeal.τ) (Cert.DuxRefIdeal.main (F := Ideal))) ⟨m, fun _ => 0, g⟩ (fun r => (∀ c : Dev Cert.DuxRefIdeal.nD,
      r.2.mem ((c.tc : Thread Cert.DuxRefIdeal.nD Cert.DuxRefIdeal.τ).loc Cert.DuxRefIdeal.main_arg0) = m ((c.tc : Thread Cert.DuxRefIdeal.nD Cert.DuxRefIdeal.τ).loc Cert.DuxRefIdeal.main_arg0)
      ∧ r.2.mem ((c.tc : Thread Cert.DuxRefIdeal.nD Cert.DuxRefIdeal.τ).loc Cert.DuxRefIdeal.main_arg1) = m ((c.tc : Thread Cert.DuxRefIdeal.nD Cert.DuxRefIdeal.τ).loc Cert.DuxRefIdeal.main_arg1)
      ∧ r.2.mem ((c.tc : Thread Cert.DuxRefIdeal.nD Cert.DuxRefIdeal.τ).loc Cert.DuxRefIdeal.main_arg2) = m ((c.tc : Thread Cert.DuxRefIdeal.nD Cert.DuxRefIdeal.τ).loc Cert.DuxRefIdeal.main_arg2))
      ∧ r.2.sem = fun _ => 0)

def quiescent_So [hSo : Cert.So.Facts] : Prop :=
  ∀ (m : (ℓ : Loc Cert.So.nD Cert.So.τ Cert.So.sig) → Buf (Elt Bits) ℓ) (g : Dev Cert.So.nD → PrngReg), Pre_So m →
    θ_run (Cert.So.defs (F := Bits)) (onTc (τ := Cert.So.τ) (Cert.So.main (F := Bits))) ⟨m, fun _ => 0, g⟩ (fun r => (∀ c : Dev Cert.So.nD,
      r.2.mem ((c.tc : Thread Cert.So.nD Cert.So.τ).loc Cert.So.main_arg0) = m ((c.tc : Thread Cert.So.nD Cert.So.τ).loc Cert.So.main_arg0)
      ∧ r.2.mem ((c.tc : Thread Cert.So.nD Cert.So.τ).loc Cert.So.main_arg1) = m ((c.tc : Thread Cert.So.nD Cert.So.τ).loc Cert.So.main_arg1)
      ∧ r.2.mem ((c.tc : Thread Cert.So.nD Cert.So.τ).loc Cert.So.main_arg2) = m ((c.tc : Thread Cert.So.nD Cert.So.τ).loc Cert.So.main_arg2))
      ∧ r.2.sem = fun _ => 0)

def quiescent_SoIdeal [hSoIdeal : Cert.SoIdeal.Facts] : Prop :=
  ∀ (m : (ℓ : Loc Cert.SoIdeal.nD Cert.SoIdeal.τ Cert.SoIdeal.sig) → Buf (Elt Ideal) ℓ) (g : Dev Cert.SoIdeal.nD → PrngReg), Pre_SoIdeal m →
    θ_run (Cert.SoIdeal.defs (F := Ideal)) (onTc (τ := Cert.SoIdeal.τ) (Cert.SoIdeal.main (F := Ideal))) ⟨m, fun _ => 0, g⟩ (fun r => (∀ c : Dev Cert.SoIdeal.nD,
      r.2.mem ((c.tc : Thread Cert.SoIdeal.nD Cert.SoIdeal.τ).loc Cert.SoIdeal.main_arg0) = m ((c.tc : Thread Cert.SoIdeal.nD Cert.SoIdeal.τ).loc Cert.SoIdeal.main_arg0)
      ∧ r.2.mem ((c.tc : Thread Cert.SoIdeal.nD Cert.SoIdeal.τ).loc Cert.SoIdeal.main_arg1) = m ((c.tc : Thread Cert.SoIdeal.nD Cert.SoIdeal.τ).loc Cert.SoIdeal.main_arg1)
      ∧ r.2.mem ((c.tc : Thread Cert.SoIdeal.nD Cert.SoIdeal.τ).loc Cert.SoIdeal.main_arg2) = m ((c.tc : Thread Cert.SoIdeal.nD Cert.SoIdeal.τ).loc Cert.SoIdeal.main_arg2))
      ∧ r.2.sem = fun _ => 0)

def quiescent_SoRefIdeal [hSoRefIdeal : Cert.SoRefIdeal.Facts] : Prop :=
  ∀ (m : (ℓ : Loc Cert.SoRefIdeal.nD Cert.SoRefIdeal.τ Cert.SoRefIdeal.sig) → Buf (Elt Ideal) ℓ) (g : Dev Cert.SoRefIdeal.nD → PrngReg), Pre_SoRefIdeal m →
    θ_run (Cert.SoRefIdeal.defs (F := Ideal)) (onTc (τ := Cert.SoRefIdeal.τ) (Cert.SoRefIdeal.main (F := Ideal))) ⟨m, fun _ => 0, g⟩ (fun r => (∀ c : Dev Cert.SoRefIdeal.nD,
      r.2.mem ((c.tc : Thread Cert.SoRefIdeal.nD Cert.SoRefIdeal.τ).loc Cert.SoRefIdeal.main_arg0) = m ((c.tc : Thread Cert.SoRefIdeal.nD Cert.SoRefIdeal.τ).loc Cert.SoRefIdeal.main_arg0)
      ∧ r.2.mem ((c.tc : Thread Cert.SoRefIdeal.nD Cert.SoRefIdeal.τ).loc Cert.SoRefIdeal.main_arg1) = m ((c.tc : Thread Cert.SoRefIdeal.nD Cert.SoRefIdeal.τ).loc Cert.SoRefIdeal.main_arg1)
      ∧ r.2.mem ((c.tc : Thread Cert.SoRefIdeal.nD Cert.SoRefIdeal.τ).loc Cert.SoRefIdeal.main_arg2) = m ((c.tc : Thread Cert.SoRefIdeal.nD Cert.SoRefIdeal.τ).loc Cert.SoRefIdeal.main_arg2))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1))
      ∧ r.2.sem = fun _ => 0)

def quiescent_Qp [hQp : Cert.Qp.Facts] : Prop :=
  ∀ (m : (ℓ : Loc Cert.Qp.nD Cert.Qp.τ Cert.Qp.sig) → Buf (Elt Bits) ℓ) (g : Dev Cert.Qp.nD → PrngReg), Pre_Qp m →
    θ_run (Cert.Qp.defs (F := Bits)) (onTc (τ := Cert.Qp.τ) (Cert.Qp.main (F := Bits))) ⟨m, fun _ => 0, g⟩ (fun r => (∀ c : Dev Cert.Qp.nD,
      r.2.mem ((c.tc : Thread Cert.Qp.nD Cert.Qp.τ).loc Cert.Qp.main_arg0) = m ((c.tc : Thread Cert.Qp.nD Cert.Qp.τ).loc Cert.Qp.main_arg0)
      ∧ r.2.mem ((c.tc : Thread Cert.Qp.nD Cert.Qp.τ).loc Cert.Qp.main_arg1) = m ((c.tc : Thread Cert.Qp.nD Cert.Qp.τ).loc Cert.Qp.main_arg1))
      ∧ r.2.sem = fun _ => 0)

def quiescent_QpIdeal [hQpIdeal : Cert.QpIdeal.Facts] : Prop :=
  ∀ (m : (ℓ : Loc Cert.QpIdeal.nD Cert.QpIdeal.τ Cert.QpIdeal.sig) → Buf (Elt Ideal) ℓ) (g : Dev Cert.QpIdeal.nD → PrngReg), Pre_QpIdeal m →
    θ_run (Cert.QpIdeal.defs (F := Ideal)) (onTc (τ := Cert.QpIdeal.τ) (Cert.QpIdeal.main (F := Ideal))) ⟨m, fun _ => 0, g⟩ (fun r => (∀ c : Dev Cert.QpIdeal.nD,
      r.2.mem ((c.tc : Thread Cert.QpIdeal.nD Cert.QpIdeal.τ).loc Cert.QpIdeal.main_arg0) = m ((c.tc : Thread Cert.QpIdeal.nD Cert.QpIdeal.τ).loc Cert.QpIdeal.main_arg0)
      ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ r.2.sem = fun _ => 0)

def quiescent_QpRefIdeal [hQpRefIdeal : Cert.QpRefIdeal.Facts] : Prop :=
  ∀ (m : (ℓ : Loc Cert.QpRefIdeal.nD Cert.QpRefIdeal.τ Cert.QpRefIdeal.sig) → Buf (Elt Ideal) ℓ) (g : Dev Cert.QpRefIdeal.nD → PrngReg), Pre_QpRefIdeal m →
    θ_run (Cert.QpRefIdeal.defs (F := Ideal)) (onTc (τ := Cert.QpRefIdeal.τ) (Cert.QpRefIdeal.main (F := Ideal))) ⟨m, fun _ => 0, g⟩ (fun r => (∀ c : Dev Cert.QpRefIdeal.nD,
      r.2.mem ((c.tc : Thread Cert.QpRefIdeal.nD Cert.QpRefIdeal.τ).loc Cert.QpRefIdeal.main_arg0) = m ((c.tc : Thread Cert.QpRefIdeal.nD Cert.QpRefIdeal.τ).loc Cert.QpRefIdeal.main_arg0)
      ∧ r.2.mem ((c.tc : Thread Cert.QpRefIdeal.nD Cert.QpRefIdeal.τ).loc Cert.QpRefIdeal.main_arg1) = m ((c.tc : Thread Cert.QpRefIdeal.nD Cert.QpRefIdeal.τ).loc Cert.QpRefIdeal.main_arg1))
      ∧ r.2.sem = fun _ => 0)

def quiescent_Vp [hVp : Cert.Vp.Facts] : Prop :=
  ∀ (m : (ℓ : Loc Cert.Vp.nD Cert.Vp.τ Cert.Vp.sig) → Buf (Elt Bits) ℓ) (g : Dev Cert.Vp.nD → PrngReg), Pre_Vp m →
    θ_run (Cert.Vp.defs (F := Bits)) (onTc (τ := Cert.Vp.τ) (Cert.Vp.main (F := Bits))) ⟨m, fun _ => 0, g⟩ (fun r => (∀ c : Dev Cert.Vp.nD,
      r.2.mem ((c.tc : Thread Cert.Vp.nD Cert.Vp.τ).loc Cert.Vp.main_arg0) = m ((c.tc : Thread Cert.Vp.nD Cert.Vp.τ).loc Cert.Vp.main_arg0)
      ∧ r.2.mem ((c.tc : Thread Cert.Vp.nD Cert.Vp.τ).loc Cert.Vp.main_arg1) = m ((c.tc : Thread Cert.Vp.nD Cert.Vp.τ).loc Cert.Vp.main_arg1))
      ∧ r.2.sem = fun _ => 0)

def quiescent_VpIdeal [hVpIdeal : Cert.VpIdeal.Facts] : Prop :=
  ∀ (m : (ℓ : Loc Cert.VpIdeal.nD Cert.VpIdeal.τ Cert.VpIdeal.sig) → Buf (Elt Ideal) ℓ) (g : Dev Cert.VpIdeal.nD → PrngReg), Pre_VpIdeal m →
    θ_run (Cert.VpIdeal.defs (F := Ideal)) (onTc (τ := Cert.VpIdeal.τ) (Cert.VpIdeal.main (F := Ideal))) ⟨m, fun _ => 0, g⟩ (fun r => (∀ c : Dev Cert.VpIdeal.nD,
      r.2.mem ((c.tc : Thread Cert.VpIdeal.nD Cert.VpIdeal.τ).loc Cert.VpIdeal.main_arg0) = m ((c.tc : Thread Cert.VpIdeal.nD Cert.VpIdeal.τ).loc Cert.VpIdeal.main_arg0)
      ∧ r.2.mem ((c.tc : Thread Cert.VpIdeal.nD Cert.VpIdeal.τ).loc Cert.VpIdeal.main_arg1) = m ((c.tc : Thread Cert.VpIdeal.nD Cert.VpIdeal.τ).loc Cert.VpIdeal.main_arg1))
      ∧ r.2.sem = fun _ => 0)

def quiescent_VpRefIdeal [hVpRefIdeal : Cert.VpRefIdeal.Facts] : Prop :=
  ∀ (m : (ℓ : Loc Cert.VpRefIdeal.nD Cert.VpRefIdeal.τ Cert.VpRefIdeal.sig) → Buf (Elt Ideal) ℓ) (g : Dev Cert.VpRefIdeal.nD → PrngReg), Pre_VpRefIdeal m →
    θ_run (Cert.VpRefIdeal.defs (F := Ideal)) (onTc (τ := Cert.VpRefIdeal.τ) (Cert.VpRefIdeal.main (F := Ideal))) ⟨m, fun _ => 0, g⟩ (fun r => (∀ c : Dev Cert.VpRefIdeal.nD,
      r.2.mem ((c.tc : Thread Cert.VpRefIdeal.nD Cert.VpRefIdeal.τ).loc Cert.VpRefIdeal.main_arg0) = m ((c.tc : Thread Cert.VpRefIdeal.nD Cert.VpRefIdeal.τ).loc Cert.VpRefIdeal.main_arg0)
      ∧ r.2.mem ((c.tc : Thread Cert.VpRefIdeal.nD Cert.VpRefIdeal.τ).loc Cert.VpRefIdeal.main_arg1) = m ((c.tc : Thread Cert.VpRefIdeal.nD Cert.VpRefIdeal.τ).loc Cert.VpRefIdeal.main_arg1))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Ao [hAo : Cert.Ao.Facts] : Prop :=
  ∀ (m : (ℓ : Loc Cert.Ao.nD Cert.Ao.τ Cert.Ao.sig) → Buf (Elt Bits) ℓ) (g : Dev Cert.Ao.nD → PrngReg), Pre_Ao m →
    θ_run (Cert.Ao.defs (F := Bits)) (onTc (τ := Cert.Ao.τ) (Cert.Ao.main (F := Bits))) ⟨m, fun _ => 0, g⟩ (fun r => (∀ c : Dev Cert.Ao.nD,
      r.2.mem ((c.tc : Thread Cert.Ao.nD Cert.Ao.τ).loc Cert.Ao.main_arg0) = m ((c.tc : Thread Cert.Ao.nD Cert.Ao.τ).loc Cert.Ao.main_arg0)
      ∧ r.2.mem ((c.tc : Thread Cert.Ao.nD Cert.Ao.τ).loc Cert.Ao.main_arg1) = m ((c.tc : Thread Cert.Ao.nD Cert.Ao.τ).loc Cert.Ao.main_arg1)
      ∧ r.2.mem ((c.tc : Thread Cert.Ao.nD Cert.Ao.τ).loc Cert.Ao.main_arg2) = m ((c.tc : Thread Cert.Ao.nD Cert.Ao.τ).loc Cert.Ao.main_arg2))
      ∧ r.2.sem = fun _ => 0)

def quiescent_AoIdeal [hAoIdeal : Cert.AoIdeal.Facts] : Prop :=
  ∀ (m : (ℓ : Loc Cert.AoIdeal.nD Cert.AoIdeal.τ Cert.AoIdeal.sig) → Buf (Elt Ideal) ℓ) (g : Dev Cert.AoIdeal.nD → PrngReg), Pre_AoIdeal m →
    θ_run (Cert.AoIdeal.defs (F := Ideal)) (onTc (τ := Cert.AoIdeal.τ) (Cert.AoIdeal.main (F := Ideal))) ⟨m, fun _ => 0, g⟩ (fun r => (∀ c : Dev Cert.AoIdeal.nD,
      r.2.mem ((c.tc : Thread Cert.AoIdeal.nD Cert.AoIdeal.τ).loc Cert.AoIdeal.main_arg0) = m ((c.tc : Thread Cert.AoIdeal.nD Cert.AoIdeal.τ).loc Cert.AoIdeal.main_arg0)
      ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
      ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ r.2.sem = fun _ => 0)

def quiescent_AoRefIdeal [hAoRefIdeal : Cert.AoRefIdeal.Facts] : Prop :=
  ∀ (m : (ℓ : Loc Cert.AoRefIdeal.nD Cert.AoRefIdeal.τ Cert.AoRefIdeal.sig) → Buf (Elt Ideal) ℓ) (g : Dev Cert.AoRefIdeal.nD → PrngReg), Pre_AoRefIdeal m →
    θ_run (Cert.AoRefIdeal.defs (F := Ideal)) (onTc (τ := Cert.AoRefIdeal.τ) (Cert.AoRefIdeal.main (F := Ideal))) ⟨m, fun _ => 0, g⟩ (fun r => (∀ c : Dev Cert.AoRefIdeal.nD,
      r.2.mem ((c.tc : Thread Cert.AoRefIdeal.nD Cert.AoRefIdeal.τ).loc Cert.AoRefIdeal.main_arg0) = m ((c.tc : Thread Cert.AoRefIdeal.nD Cert.AoRefIdeal.τ).loc Cert.AoRefIdeal.main_arg0)
      ∧ r.2.mem ((c.tc : Thread Cert.AoRefIdeal.nD Cert.AoRefIdeal.τ).loc Cert.AoRefIdeal.main_arg1) = m ((c.tc : Thread Cert.AoRefIdeal.nD Cert.AoRefIdeal.τ).loc Cert.AoRefIdeal.main_arg1)
      ∧ r.2.mem ((c.tc : Thread Cert.AoRefIdeal.nD Cert.AoRefIdeal.τ).loc Cert.AoRefIdeal.main_arg2) = m ((c.tc : Thread Cert.AoRefIdeal.nD Cert.AoRefIdeal.τ).loc Cert.AoRefIdeal.main_arg2))
      ∧ r.2.sem = fun _ => 0)

def quiescent_Dwp [hDwp : Cert.Dwp.Facts] : Prop :=
  ∀ (m : (ℓ : Loc Cert.Dwp.nD Cert.Dwp.τ Cert.Dwp.sig) → Buf (Elt Bits) ℓ) (g : Dev Cert.Dwp.nD → PrngReg), Pre_Dwp m →
    θ_run (Cert.Dwp.defs (F := Bits)) (onTc (τ := Cert.Dwp.τ) (Cert.Dwp.main (F := Bits))) ⟨m, fun _ => 0, g⟩ (fun r => (∀ c : Dev Cert.Dwp.nD,
      r.2.mem ((c.tc : Thread Cert.Dwp.nD Cert.Dwp.τ).loc Cert.Dwp.main_arg0) = m ((c.tc : Thread Cert.Dwp.nD Cert.Dwp.τ).loc Cert.Dwp.main_arg0)
      ∧ r.2.mem ((c.tc : Thread Cert.Dwp.nD Cert.Dwp.τ).loc Cert.Dwp.main_arg1) = m ((c.tc : Thread Cert.Dwp.nD Cert.Dwp.τ).loc Cert.Dwp.main_arg1))
      ∧ r.2.sem = fun _ => 0)

def quiescent_DwpIdeal [hDwpIdeal : Cert.DwpIdeal.Facts] : Prop :=
  ∀ (m : (ℓ : Loc Cert.DwpIdeal.nD Cert.DwpIdeal.τ Cert.DwpIdeal.sig) → Buf (Elt Ideal) ℓ) (g : Dev Cert.DwpIdeal.nD → PrngReg), Pre_DwpIdeal m →
    θ_run (Cert.DwpIdeal.defs (F := Ideal)) (onTc (τ := Cert.DwpIdeal.τ) (Cert.DwpIdeal.main (F := Ideal))) ⟨m, fun _ => 0, g⟩ (fun r => (∀ c : Dev Cert.DwpIdeal.nD,
      r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
      ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1))
      ∧ r.2.sem = fun _ => 0)

def quiescent_DwpRefIdeal [hDwpRefIdeal : Cert.DwpRefIdeal.Facts] : Prop :=
  ∀ (m : (ℓ : Loc Cert.DwpRefIdeal.nD Cert.DwpRefIdeal.τ Cert.DwpRefIdeal.sig) → Buf (Elt Ideal) ℓ) (g : Dev Cert.DwpRefIdeal.nD → PrngReg), Pre_DwpRefIdeal m →
    θ_run (Cert.DwpRefIdeal.defs (F := Ideal)) (onTc (τ := Cert.DwpRefIdeal.τ) (Cert.DwpRefIdeal.main (F := Ideal))) ⟨m, fun _ => 0, g⟩ (fun r => (∀ c : Dev Cert.DwpRefIdeal.nD,
      r.2.mem ((c.tc : Thread Cert.DwpRefIdeal.nD Cert.DwpRefIdeal.τ).loc Cert.DwpRefIdeal.main_arg0) = m ((c.tc : Thread Cert.DwpRefIdeal.nD Cert.DwpRefIdeal.τ).loc Cert.DwpRefIdeal.main_arg0)
      ∧ r.2.mem ((c.tc : Thread Cert.DwpRefIdeal.nD Cert.DwpRefIdeal.τ).loc Cert.DwpRefIdeal.main_arg1) = m ((c.tc : Thread Cert.DwpRefIdeal.nD Cert.DwpRefIdeal.τ).loc Cert.DwpRefIdeal.main_arg1))
      ∧ r.2.sem = fun _ => 0)

def quiescent_Dwq [hDwq : Cert.Dwq.Facts] : Prop :=
  ∀ (m : (ℓ : Loc Cert.Dwq.nD Cert.Dwq.τ Cert.Dwq.sig) → Buf (Elt Bits) ℓ) (g : Dev Cert.Dwq.nD → PrngReg), Pre_Dwq m →
    θ_run (Cert.Dwq.defs (F := Bits)) (onTc (τ := Cert.Dwq.τ) (Cert.Dwq.main (F := Bits))) ⟨m, fun _ => 0, g⟩ (fun r => (∀ c : Dev Cert.Dwq.nD,
      r.2.mem ((c.tc : Thread Cert.Dwq.nD Cert.Dwq.τ).loc Cert.Dwq.main_arg0) = m ((c.tc : Thread Cert.Dwq.nD Cert.Dwq.τ).loc Cert.Dwq.main_arg0)
      ∧ r.2.mem ((c.tc : Thread Cert.Dwq.nD Cert.Dwq.τ).loc Cert.Dwq.main_arg1) = m ((c.tc : Thread Cert.Dwq.nD Cert.Dwq.τ).loc Cert.Dwq.main_arg1))
      ∧ r.2.sem = fun _ => 0)

def quiescent_DwqIdeal [hDwqIdeal : Cert.DwqIdeal.Facts] : Prop :=
  ∀ (m : (ℓ : Loc Cert.DwqIdeal.nD Cert.DwqIdeal.τ Cert.DwqIdeal.sig) → Buf (Elt Ideal) ℓ) (g : Dev Cert.DwqIdeal.nD → PrngReg), Pre_DwqIdeal m →
    θ_run (Cert.DwqIdeal.defs (F := Ideal)) (onTc (τ := Cert.DwqIdeal.τ) (Cert.DwqIdeal.main (F := Ideal))) ⟨m, fun _ => 0, g⟩ (fun r => (∀ c : Dev Cert.DwqIdeal.nD,
      r.2.mem ((c.tc : Thread Cert.DwqIdeal.nD Cert.DwqIdeal.τ).loc Cert.DwqIdeal.main_arg0) = m ((c.tc : Thread Cert.DwqIdeal.nD Cert.DwqIdeal.τ).loc Cert.DwqIdeal.main_arg0)
      ∧ r.2.mem ((c.tc : Thread Cert.DwqIdeal.nD Cert.DwqIdeal.τ).loc Cert.DwqIdeal.main_arg1) = m ((c.tc : Thread Cert.DwqIdeal.nD Cert.DwqIdeal.τ).loc Cert.DwqIdeal.main_arg1))
      ∧ r.2.sem = fun _ => 0)

def quiescent_DwqRefIdeal [hDwqRefIdeal : Cert.DwqRefIdeal.Facts] : Prop :=
  ∀ (m : (ℓ : Loc Cert.DwqRefIdeal.nD Cert.DwqRefIdeal.τ Cert.DwqRefIdeal.sig) → Buf (Elt Ideal) ℓ) (g : Dev Cert.DwqRefIdeal.nD → PrngReg), Pre_DwqRefIdeal m →
    θ_run (Cert.DwqRefIdeal.defs (F := Ideal)) (onTc (τ := Cert.DwqRefIdeal.τ) (Cert.DwqRefIdeal.main (F := Ideal))) ⟨m, fun _ => 0, g⟩ (fun r => (∀ c : Dev Cert.DwqRefIdeal.nD,
      r.2.mem ((c.tc : Thread Cert.DwqRefIdeal.nD Cert.DwqRefIdeal.τ).loc Cert.DwqRefIdeal.main_arg0) = m ((c.tc : Thread Cert.DwqRefIdeal.nD Cert.DwqRefIdeal.τ).loc Cert.DwqRefIdeal.main_arg0)
      ∧ r.2.mem ((c.tc : Thread Cert.DwqRefIdeal.nD Cert.DwqRefIdeal.τ).loc Cert.DwqRefIdeal.main_arg1) = m ((c.tc : Thread Cert.DwqRefIdeal.nD Cert.DwqRefIdeal.τ).loc Cert.DwqRefIdeal.main_arg1))
      ∧ r.2.sem = fun _ => 0)

def quiescent_Duq [hDuq : Cert.Duq.Facts] : Prop :=
  ∀ (m : (ℓ : Loc Cert.Duq.nD Cert.Duq.τ Cert.Duq.sig) → Buf (Elt Bits) ℓ) (g : Dev Cert.Duq.nD → PrngReg), Pre_Duq m →
    θ_run (Cert.Duq.defs (F := Bits)) (onTc (τ := Cert.Duq.τ) (Cert.Duq.main (F := Bits))) ⟨m, fun _ => 0, g⟩ (fun r => (∀ c : Dev Cert.Duq.nD,
      r.2.mem ((c.tc : Thread Cert.Duq.nD Cert.Duq.τ).loc Cert.Duq.main_arg0) = m ((c.tc : Thread Cert.Duq.nD Cert.Duq.τ).loc Cert.Duq.main_arg0)
      ∧ r.2.mem ((c.tc : Thread Cert.Duq.nD Cert.Duq.τ).loc Cert.Duq.main_arg1) = m ((c.tc : Thread Cert.Duq.nD Cert.Duq.τ).loc Cert.Duq.main_arg1))
      ∧ r.2.sem = fun _ => 0)

def quiescent_DuqIdeal [hDuqIdeal : Cert.DuqIdeal.Facts] : Prop :=
  ∀ (m : (ℓ : Loc Cert.DuqIdeal.nD Cert.DuqIdeal.τ Cert.DuqIdeal.sig) → Buf (Elt Ideal) ℓ) (g : Dev Cert.DuqIdeal.nD → PrngReg), Pre_DuqIdeal m →
    θ_run (Cert.DuqIdeal.defs (F := Ideal)) (onTc (τ := Cert.DuqIdeal.τ) (Cert.DuqIdeal.main (F := Ideal))) ⟨m, fun _ => 0, g⟩ (fun r => (∀ c : Dev Cert.DuqIdeal.nD,
      r.2.mem ((c.tc : Thread Cert.DuqIdeal.nD Cert.DuqIdeal.τ).loc Cert.DuqIdeal.main_arg0) = m ((c.tc : Thread Cert.DuqIdeal.nD Cert.DuqIdeal.τ).loc Cert.DuqIdeal.main_arg0)
      ∧ r.2.mem ((c.tc : Thread Cert.DuqIdeal.nD Cert.DuqIdeal.τ).loc Cert.DuqIdeal.main_arg1) = m ((c.tc : Thread Cert.DuqIdeal.nD Cert.DuqIdeal.τ).loc Cert.DuqIdeal.main_arg1))
      ∧ r.2.sem = fun _ => 0)

def quiescent_DuqRefIdeal [hDuqRefIdeal : Cert.DuqRefIdeal.Facts] : Prop :=
  ∀ (m : (ℓ : Loc Cert.DuqRefIdeal.nD Cert.DuqRefIdeal.τ Cert.DuqRefIdeal.sig) → Buf (Elt Ideal) ℓ) (g : Dev Cert.DuqRefIdeal.nD → PrngReg), Pre_DuqRefIdeal m →
    θ_run (Cert.DuqRefIdeal.defs (F := Ideal)) (onTc (τ := Cert.DuqRefIdeal.τ) (Cert.DuqRefIdeal.main (F := Ideal))) ⟨m, fun _ => 0, g⟩ (fun r => (∀ c : Dev Cert.DuqRefIdeal.nD,
      r.2.mem ((c.tc : Thread Cert.DuqRefIdeal.nD Cert.DuqRefIdeal.τ).loc Cert.DuqRefIdeal.main_arg0) = m ((c.tc : Thread Cert.DuqRefIdeal.nD Cert.DuqRefIdeal.τ).loc Cert.DuqRefIdeal.main_arg0)
      ∧ r.2.mem ((c.tc : Thread Cert.DuqRefIdeal.nD Cert.DuqRefIdeal.τ).loc Cert.DuqRefIdeal.main_arg1) = m ((c.tc : Thread Cert.DuqRefIdeal.nD Cert.DuqRefIdeal.τ).loc Cert.DuqRefIdeal.main_arg1))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v12) = v1 c
          ∧ r.2.mem ((c.tc : Thread Cert.UpRefIdeal.nD Cert.UpRefIdeal.τ).loc Cert.UpRefIdeal.main_v13) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v8_0)) (v1 : (c : Dev Cert.MidIdeal.nD) → Buf (Elt Ideal) ((c.tc : Thread Cert.MidIdeal.nD Cert.MidIdeal.τ).loc Cert.MidIdeal.main_v8_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v8_0) = v0 c
          ∧ r.2.mem ((c.tc : Thread Cert.MidIdeal.nD Cert.MidIdeal.τ).loc Cert.MidIdeal.main_v8_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v12) = v0 c
          ∧ r.2.mem ((c.tc : Thread Cert.MidRefIdeal.nD Cert.MidRefIdeal.τ).loc Cert.MidRefIdeal.main_v13) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Dwb_DwbIdeal : Prop :=
  True

def algebraic_DwbIdeal_DwbRefIdeal [hDwbIdeal : Cert.DwbIdeal.Facts] [hDwbRefIdeal : Cert.DwbRefIdeal.Facts] : Prop :=
  ∀ (m : (ℓ : Loc Cert.DwbIdeal.nD Cert.DwbIdeal.τ Cert.DwbIdeal.sig) → Buf (Elt Ideal) ℓ) (g : Dev Cert.DwbIdeal.nD → PrngReg)
    (m' : (ℓ : Loc Cert.DwbRefIdeal.nD Cert.DwbRefIdeal.τ Cert.DwbRefIdeal.sig) → Buf (Elt Ideal) ℓ) (g' : Dev Cert.DwbRefIdeal.nD → PrngReg), Pre_DwbIdeal m →
    (∀ c : Dev Cert.DwbIdeal.nD,
      m' ((c.tc : Thread Cert.DwbRefIdeal.nD Cert.DwbRefIdeal.τ).loc Cert.DwbRefIdeal.main_arg0) = m ((c.tc : Thread Cert.DwbIdeal.nD Cert.DwbIdeal.τ).loc Cert.DwbIdeal.main_arg0)
      ∧ m' ((c.tc : Thread Cert.DwbRefIdeal.nD Cert.DwbRefIdeal.τ).loc Cert.DwbRefIdeal.main_arg1) = m ((c.tc : Thread Cert.DwbIdeal.nD Cert.DwbIdeal.τ).loc Cert.DwbIdeal.main_arg1)) →
    ∃ (v0 : (c : Dev Cert.DwbIdeal.nD) → Buf (Elt Ideal) ((c.tc : Thread Cert.DwbIdeal.nD Cert.DwbIdeal.τ).loc Cert.DwbIdeal.main_v0)),
      θ_run (Cert.DwbIdeal.defs (F := Ideal)) (onTc (τ := Cert.DwbIdeal.τ) (Cert.DwbIdeal.main (F := Ideal))) ⟨m, fun _ => 0, g⟩ (fun r => ∀ c : Dev Cert.DwbIdeal.nD,
          r.2.mem ((c.tc : Thread Cert.DwbIdeal.nD Cert.DwbIdeal.τ).loc Cert.DwbIdeal.main_v0) = v0 c
          ∧ r.2.mem ((c.tc : Thread Cert.DwbIdeal.nD Cert.DwbIdeal.τ).loc Cert.DwbIdeal.main_arg0) = m ((c.tc : Thread Cert.DwbIdeal.nD Cert.DwbIdeal.τ).loc Cert.DwbIdeal.main_arg0)
          ∧ r.2.mem ((c.tc : Thread Cert.DwbIdeal.nD Cert.DwbIdeal.τ).loc Cert.DwbIdeal.main_arg1) = m ((c.tc : Thread Cert.DwbIdeal.nD Cert.DwbIdeal.τ).loc Cert.DwbIdeal.main_arg1))
      ∧ θ_run (Cert.DwbRefIdeal.defs (F := Ideal)) (onTc (τ := Cert.DwbRefIdeal.τ) (Cert.DwbRefIdeal.main (F := Ideal))) ⟨m', fun _ => 0, g'⟩ (fun r => ∀ c : Dev Cert.DwbRefIdeal.nD,
          r.2.mem ((c.tc : Thread Cert.DwbRefIdeal.nD Cert.DwbRefIdeal.τ).loc Cert.DwbRefIdeal.main_v9) = v0 c
          ∧ r.2.mem ((c.tc : Thread Cert.DwbRefIdeal.nD Cert.DwbRefIdeal.τ).loc Cert.DwbRefIdeal.main_arg0) = m' ((c.tc : Thread Cert.DwbRefIdeal.nD Cert.DwbRefIdeal.τ).loc Cert.DwbRefIdeal.main_arg0)
          ∧ r.2.mem ((c.tc : Thread Cert.DwbRefIdeal.nD Cert.DwbRefIdeal.τ).loc Cert.DwbRefIdeal.main_arg1) = m' ((c.tc : Thread Cert.DwbRefIdeal.nD Cert.DwbRefIdeal.τ).loc Cert.DwbRefIdeal.main_arg1))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)
      ∧ m' ((c.tc : Thread Cert.DnRefIdeal.nD Cert.DnRefIdeal.τ).loc Cert.DnRefIdeal.main_arg3) = m ((c.tc : Thread Cert.DnIdeal.nD Cert.DnIdeal.τ).loc Cert.DnIdeal.main_arg3)) →
    ∃ (v0 : (c : Dev Cert.DnIdeal.nD) → Buf (Elt Ideal) ((c.tc : Thread Cert.DnIdeal.nD Cert.DnIdeal.τ).loc Cert.DnIdeal.main_v0)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v0) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v9) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3))

def preserves_Dwa_DwaIdeal : Prop :=
  True

def algebraic_DwaIdeal_DwaRefIdeal [hDwaIdeal : Cert.DwaIdeal.Facts] [hDwaRefIdeal : Cert.DwaRefIdeal.Facts] : Prop :=
  ∀ (m : (ℓ : Loc Cert.DwaIdeal.nD Cert.DwaIdeal.τ Cert.DwaIdeal.sig) → Buf (Elt Ideal) ℓ) (g : Dev Cert.DwaIdeal.nD → PrngReg)
    (m' : (ℓ : Loc Cert.DwaRefIdeal.nD Cert.DwaRefIdeal.τ Cert.DwaRefIdeal.sig) → Buf (Elt Ideal) ℓ) (g' : Dev Cert.DwaRefIdeal.nD → PrngReg), Pre_DwaIdeal m →
    (∀ c : Dev Cert.DwaIdeal.nD,
      m' ((c.tc : Thread Cert.DwaRefIdeal.nD Cert.DwaRefIdeal.τ).loc Cert.DwaRefIdeal.main_arg0) = m ((c.tc : Thread Cert.DwaIdeal.nD Cert.DwaIdeal.τ).loc Cert.DwaIdeal.main_arg0)
      ∧ m' ((c.tc : Thread Cert.DwaRefIdeal.nD Cert.DwaRefIdeal.τ).loc Cert.DwaRefIdeal.main_arg1) = m ((c.tc : Thread Cert.DwaIdeal.nD Cert.DwaIdeal.τ).loc Cert.DwaIdeal.main_arg1)) →
    ∃ (v0 : (c : Dev Cert.DwaIdeal.nD) → Buf (Elt Ideal) ((c.tc : Thread Cert.DwaIdeal.nD Cert.DwaIdeal.τ).loc Cert.DwaIdeal.main_v0)),
      θ_run (Cert.DwaIdeal.defs (F := Ideal)) (onTc (τ := Cert.DwaIdeal.τ) (Cert.DwaIdeal.main (F := Ideal))) ⟨m, fun _ => 0, g⟩ (fun r => ∀ c : Dev Cert.DwaIdeal.nD,
          r.2.mem ((c.tc : Thread Cert.DwaIdeal.nD Cert.DwaIdeal.τ).loc Cert.DwaIdeal.main_v0) = v0 c
          ∧ r.2.mem ((c.tc : Thread Cert.DwaIdeal.nD Cert.DwaIdeal.τ).loc Cert.DwaIdeal.main_arg0) = m ((c.tc : Thread Cert.DwaIdeal.nD Cert.DwaIdeal.τ).loc Cert.DwaIdeal.main_arg0)
          ∧ r.2.mem ((c.tc : Thread Cert.DwaIdeal.nD Cert.DwaIdeal.τ).loc Cert.DwaIdeal.main_arg1) = m ((c.tc : Thread Cert.DwaIdeal.nD Cert.DwaIdeal.τ).loc Cert.DwaIdeal.main_arg1))
      ∧ θ_run (Cert.DwaRefIdeal.defs (F := Ideal)) (onTc (τ := Cert.DwaRefIdeal.τ) (Cert.DwaRefIdeal.main (F := Ideal))) ⟨m', fun _ => 0, g'⟩ (fun r => ∀ c : Dev Cert.DwaRefIdeal.nD,
          r.2.mem ((c.tc : Thread Cert.DwaRefIdeal.nD Cert.DwaRefIdeal.τ).loc Cert.DwaRefIdeal.main_v8) = v0 c
          ∧ r.2.mem ((c.tc : Thread Cert.DwaRefIdeal.nD Cert.DwaRefIdeal.τ).loc Cert.DwaRefIdeal.main_arg0) = m' ((c.tc : Thread Cert.DwaRefIdeal.nD Cert.DwaRefIdeal.τ).loc Cert.DwaRefIdeal.main_arg0)
          ∧ r.2.mem ((c.tc : Thread Cert.DwaRefIdeal.nD Cert.DwaRefIdeal.τ).loc Cert.DwaRefIdeal.main_arg1) = m' ((c.tc : Thread Cert.DwaRefIdeal.nD Cert.DwaRefIdeal.τ).loc Cert.DwaRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Zx_ZxIdeal : Prop :=
  True

def algebraic_ZxIdeal_ZxRefIdeal [hZxIdeal : Cert.ZxIdeal.Facts] [hZxRefIdeal : Cert.ZxRefIdeal.Facts] : Prop :=
  ∀ (m : (ℓ : Loc Cert.ZxIdeal.nD Cert.ZxIdeal.τ Cert.ZxIdeal.sig) → Buf (Elt Ideal) ℓ) (g : Dev Cert.ZxIdeal.nD → PrngReg)
    (m' : (ℓ : Loc Cert.ZxRefIdeal.nD Cert.ZxRefIdeal.τ Cert.ZxRefIdeal.sig) → Buf (Elt Ideal) ℓ) (g' : Dev Cert.ZxRefIdeal.nD → PrngReg), Pre_ZxIdeal m →
    (∀ c : Dev Cert.ZxIdeal.nD,
      m' ((c.tc : Thread Cert.ZxRefIdeal.nD Cert.ZxRefIdeal.τ).loc Cert.ZxRefIdeal.main_arg0) = m ((c.tc : Thread Cert.ZxIdeal.nD Cert.ZxIdeal.τ).loc Cert.ZxIdeal.main_arg0)
      ∧ m' ((c.tc : Thread Cert.ZxRefIdeal.nD Cert.ZxRefIdeal.τ).loc Cert.ZxRefIdeal.main_arg1) = m ((c.tc : Thread Cert.ZxIdeal.nD Cert.ZxIdeal.τ).loc Cert.ZxIdeal.main_arg1)) →
    ∃ (v0 : (c : Dev Cert.ZxIdeal.nD) → Buf (Elt Ideal) ((c.tc : Thread Cert.ZxIdeal.nD Cert.ZxIdeal.τ).loc Cert.ZxIdeal.main_v1)),
      θ_run (Cert.ZxIdeal.defs (F := Ideal)) (onTc (τ := Cert.ZxIdeal.τ) (Cert.ZxIdeal.main (F := Ideal))) ⟨m, fun _ => 0, g⟩ (fun r => ∀ c : Dev Cert.ZxIdeal.nD,
          r.2.mem ((c.tc : Thread Cert.ZxIdeal.nD Cert.ZxIdeal.τ).loc Cert.ZxIdeal.main_v1) = v0 c
          ∧ r.2.mem ((c.tc : Thread Cert.ZxIdeal.nD Cert.ZxIdeal.τ).loc Cert.ZxIdeal.main_arg0) = m ((c.tc : Thread Cert.ZxIdeal.nD Cert.ZxIdeal.τ).loc Cert.ZxIdeal.main_arg0)
          ∧ r.2.mem ((c.tc : Thread Cert.ZxIdeal.nD Cert.ZxIdeal.τ).loc Cert.ZxIdeal.main_arg1) = m ((c.tc : Thread Cert.ZxIdeal.nD Cert.ZxIdeal.τ).loc Cert.ZxIdeal.main_arg1))
      ∧ θ_run (Cert.ZxRefIdeal.defs (F := Ideal)) (onTc (τ := Cert.ZxRefIdeal.τ) (Cert.ZxRefIdeal.main (F := Ideal))) ⟨m', fun _ => 0, g'⟩ (fun r => ∀ c : Dev Cert.ZxRefIdeal.nD,
          r.2.mem ((c.tc : Thread Cert.ZxRefIdeal.nD Cert.ZxRefIdeal.τ).loc Cert.ZxRefIdeal.main_v3) = v0 c
          ∧ r.2.mem ((c.tc : Thread Cert.ZxRefIdeal.nD Cert.ZxRefIdeal.τ).loc Cert.ZxRefIdeal.main_arg0) = m' ((c.tc : Thread Cert.ZxRefIdeal.nD Cert.ZxRefIdeal.τ).loc Cert.ZxRefIdeal.main_arg0)
          ∧ r.2.mem ((c.tc : Thread Cert.ZxRefIdeal.nD Cert.ZxRefIdeal.τ).loc Cert.ZxRefIdeal.main_arg1) = m' ((c.tc : Thread Cert.ZxRefIdeal.nD Cert.ZxRefIdeal.τ).loc Cert.ZxRefIdeal.main_arg1))

def preserves_Dwz_DwzIdeal : Prop :=
  True

def algebraic_DwzIdeal_DwzRefIdeal [hDwzIdeal : Cert.DwzIdeal.Facts] [hDwzRefIdeal : Cert.DwzRefIdeal.Facts] : Prop :=
  ∀ (m : (ℓ : Loc Cert.DwzIdeal.nD Cert.DwzIdeal.τ Cert.DwzIdeal.sig) → Buf (Elt Ideal) ℓ) (g : Dev Cert.DwzIdeal.nD → PrngReg)
    (m' : (ℓ : Loc Cert.DwzRefIdeal.nD Cert.DwzRefIdeal.τ Cert.DwzRefIdeal.sig) → Buf (Elt Ideal) ℓ) (g' : Dev Cert.DwzRefIdeal.nD → PrngReg), Pre_DwzIdeal m →
    (∀ c : Dev Cert.DwzIdeal.nD,
      m' ((c.tc : Thread Cert.DwzRefIdeal.nD Cert.DwzRefIdeal.τ).loc Cert.DwzRefIdeal.main_arg0) = m ((c.tc : Thread Cert.DwzIdeal.nD Cert.DwzIdeal.τ).loc Cert.DwzIdeal.main_arg0)
      ∧ m' ((c.tc : Thread Cert.DwzRefIdeal.nD Cert.DwzRefIdeal.τ).loc Cert.DwzRefIdeal.main_arg1) = m ((c.tc : Thread Cert.DwzIdeal.nD Cert.DwzIdeal.τ).loc Cert.DwzIdeal.main_arg1)) →
    ∃ (v0 : (c : Dev Cert.DwzIdeal.nD) → Buf (Elt Ideal) ((c.tc : Thread Cert.DwzIdeal.nD Cert.DwzIdeal.τ).loc Cert.DwzIdeal.main_v0)),
      θ_run (Cert.DwzIdeal.defs (F := Ideal)) (onTc (τ := Cert.DwzIdeal.τ) (Cert.DwzIdeal.main (F := Ideal))) ⟨m, fun _ => 0, g⟩ (fun r => ∀ c : Dev Cert.DwzIdeal.nD,
          r.2.mem ((c.tc : Thread Cert.DwzIdeal.nD Cert.DwzIdeal.τ).loc Cert.DwzIdeal.main_v0) = v0 c
          ∧ r.2.mem ((c.tc : Thread Cert.DwzIdeal.nD Cert.DwzIdeal.τ).loc Cert.DwzIdeal.main_arg0) = m ((c.tc : Thread Cert.DwzIdeal.nD Cert.DwzIdeal.τ).loc Cert.DwzIdeal.main_arg0)
          ∧ r.2.mem ((c.tc : Thread Cert.DwzIdeal.nD Cert.DwzIdeal.τ).loc Cert.DwzIdeal.main_arg1) = m ((c.tc : Thread Cert.DwzIdeal.nD Cert.DwzIdeal.τ).loc Cert.DwzIdeal.main_arg1))
      ∧ θ_run (Cert.DwzRefIdeal.defs (F := Ideal)) (onTc (τ := Cert.DwzRefIdeal.τ) (Cert.DwzRefIdeal.main (F := Ideal))) ⟨m', fun _ => 0, g'⟩ (fun r => ∀ c : Dev Cert.DwzRefIdeal.nD,
          r.2.mem ((c.tc : Thread Cert.DwzRefIdeal.nD Cert.DwzRefIdeal.τ).loc Cert.DwzRefIdeal.main_v5) = v0 c
          ∧ r.2.mem ((c.tc : Thread Cert.DwzRefIdeal.nD Cert.DwzRefIdeal.τ).loc Cert.DwzRefIdeal.main_arg0) = m' ((c.tc : Thread Cert.DwzRefIdeal.nD Cert.DwzRefIdeal.τ).loc Cert.DwzRefIdeal.main_arg0)
          ∧ r.2.mem ((c.tc : Thread Cert.DwzRefIdeal.nD Cert.DwzRefIdeal.τ).loc Cert.DwzRefIdeal.main_arg1) = m' ((c.tc : Thread Cert.DwzRefIdeal.nD Cert.DwzRefIdeal.τ).loc Cert.DwzRefIdeal.main_arg1))

def preserves_Dwx_DwxIdeal : Prop :=
  True

def algebraic_DwxIdeal_DwxRefIdeal [hDwxIdeal : Cert.DwxIdeal.Facts] [hDwxRefIdeal : Cert.DwxRefIdeal.Facts] : Prop :=
  ∀ (m : (ℓ : Loc Cert.DwxIdeal.nD Cert.DwxIdeal.τ Cert.DwxIdeal.sig) → Buf (Elt Ideal) ℓ) (g : Dev Cert.DwxIdeal.nD → PrngReg)
    (m' : (ℓ : Loc Cert.DwxRefIdeal.nD Cert.DwxRefIdeal.τ Cert.DwxRefIdeal.sig) → Buf (Elt Ideal) ℓ) (g' : Dev Cert.DwxRefIdeal.nD → PrngReg), Pre_DwxIdeal m →
    (∀ c : Dev Cert.DwxIdeal.nD,
      m' ((c.tc : Thread Cert.DwxRefIdeal.nD Cert.DwxRefIdeal.τ).loc Cert.DwxRefIdeal.main_arg0) = m ((c.tc : Thread Cert.DwxIdeal.nD Cert.DwxIdeal.τ).loc Cert.DwxIdeal.main_arg0)
      ∧ m' ((c.tc : Thread Cert.DwxRefIdeal.nD Cert.DwxRefIdeal.τ).loc Cert.DwxRefIdeal.main_arg1) = m ((c.tc : Thread Cert.DwxIdeal.nD Cert.DwxIdeal.τ).loc Cert.DwxIdeal.main_arg1)) →
    ∃ (v0 : (c : Dev Cert.DwxIdeal.nD) → Buf (Elt Ideal) ((c.tc : Thread Cert.DwxIdeal.nD Cert.DwxIdeal.τ).loc Cert.DwxIdeal.main_v0)),
      θ_run (Cert.DwxIdeal.defs (F := Ideal)) (onTc (τ := Cert.DwxIdeal.τ) (Cert.DwxIdeal.main (F := Ideal))) ⟨m, fun _ => 0, g⟩ (fun r => ∀ c : Dev Cert.DwxIdeal.nD,
          r.2.mem ((c.tc : Thread Cert.DwxIdeal.nD Cert.DwxIdeal.τ).loc Cert.DwxIdeal.main_v0) = v0 c
          ∧ r.2.mem ((c.tc : Thread Cert.DwxIdeal.nD Cert.DwxIdeal.τ).loc Cert.DwxIdeal.main_arg0) = m ((c.tc : Thread Cert.DwxIdeal.nD Cert.DwxIdeal.τ).loc Cert.DwxIdeal.main_arg0)
          ∧ r.2.mem ((c.tc : Thread Cert.DwxIdeal.nD Cert.DwxIdeal.τ).loc Cert.DwxIdeal.main_arg1) = m ((c.tc : Thread Cert.DwxIdeal.nD Cert.DwxIdeal.τ).loc Cert.DwxIdeal.main_arg1))
      ∧ θ_run (Cert.DwxRefIdeal.defs (F := Ideal)) (onTc (τ := Cert.DwxRefIdeal.τ) (Cert.DwxRefIdeal.main (F := Ideal))) ⟨m', fun _ => 0, g'⟩ (fun r => ∀ c : Dev Cert.DwxRefIdeal.nD,
          r.2.mem ((c.tc : Thread Cert.DwxRefIdeal.nD Cert.DwxRefIdeal.τ).loc Cert.DwxRefIdeal.main_v5) = v0 c
          ∧ r.2.mem ((c.tc : Thread Cert.DwxRefIdeal.nD Cert.DwxRefIdeal.τ).loc Cert.DwxRefIdeal.main_arg0) = m' ((c.tc : Thread Cert.DwxRefIdeal.nD Cert.DwxRefIdeal.τ).loc Cert.DwxRefIdeal.main_arg0)
          ∧ r.2.mem ((c.tc : Thread Cert.DwxRefIdeal.nD Cert.DwxRefIdeal.τ).loc Cert.DwxRefIdeal.main_arg1) = m' ((c.tc : Thread Cert.DwxRefIdeal.nD Cert.DwxRefIdeal.τ).loc Cert.DwxRefIdeal.main_arg1))

def preserves_Duz_DuzIdeal : Prop :=
  True

def algebraic_DuzIdeal_DuzRefIdeal [hDuzIdeal : Cert.DuzIdeal.Facts] [hDuzRefIdeal : Cert.DuzRefIdeal.Facts] : Prop :=
  ∀ (m : (ℓ : Loc Cert.DuzIdeal.nD Cert.DuzIdeal.τ Cert.DuzIdeal.sig) → Buf (Elt Ideal) ℓ) (g : Dev Cert.DuzIdeal.nD → PrngReg)
    (m' : (ℓ : Loc Cert.DuzRefIdeal.nD Cert.DuzRefIdeal.τ Cert.DuzRefIdeal.sig) → Buf (Elt Ideal) ℓ) (g' : Dev Cert.DuzRefIdeal.nD → PrngReg), Pre_DuzIdeal m →
    (∀ c : Dev Cert.DuzIdeal.nD,
      m' ((c.tc : Thread Cert.DuzRefIdeal.nD Cert.DuzRefIdeal.τ).loc Cert.DuzRefIdeal.main_arg0) = m ((c.tc : Thread Cert.DuzIdeal.nD Cert.DuzIdeal.τ).loc Cert.DuzIdeal.main_arg0)
      ∧ m' ((c.tc : Thread Cert.DuzRefIdeal.nD Cert.DuzRefIdeal.τ).loc Cert.DuzRefIdeal.main_arg1) = m ((c.tc : Thread Cert.DuzIdeal.nD Cert.DuzIdeal.τ).loc Cert.DuzIdeal.main_arg1)) →
    ∃ (v0 : (c : Dev Cert.DuzIdeal.nD) → Buf (Elt Ideal) ((c.tc : Thread Cert.DuzIdeal.nD Cert.DuzIdeal.τ).loc Cert.DuzIdeal.main_v1)),
      θ_run (Cert.DuzIdeal.defs (F := Ideal)) (onTc (τ := Cert.DuzIdeal.τ) (Cert.DuzIdeal.main (F := Ideal))) ⟨m, fun _ => 0, g⟩ (fun r => ∀ c : Dev Cert.DuzIdeal.nD,
          r.2.mem ((c.tc : Thread Cert.DuzIdeal.nD Cert.DuzIdeal.τ).loc Cert.DuzIdeal.main_v1) = v0 c
          ∧ r.2.mem ((c.tc : Thread Cert.DuzIdeal.nD Cert.DuzIdeal.τ).loc Cert.DuzIdeal.main_arg0) = m ((c.tc : Thread Cert.DuzIdeal.nD Cert.DuzIdeal.τ).loc Cert.DuzIdeal.main_arg0)
          ∧ r.2.mem ((c.tc : Thread Cert.DuzIdeal.nD Cert.DuzIdeal.τ).loc Cert.DuzIdeal.main_arg1) = m ((c.tc : Thread Cert.DuzIdeal.nD Cert.DuzIdeal.τ).loc Cert.DuzIdeal.main_arg1))
      ∧ θ_run (Cert.DuzRefIdeal.defs (F := Ideal)) (onTc (τ := Cert.DuzRefIdeal.τ) (Cert.DuzRefIdeal.main (F := Ideal))) ⟨m', fun _ => 0, g'⟩ (fun r => ∀ c : Dev Cert.DuzRefIdeal.nD,
          r.2.mem ((c.tc : Thread Cert.DuzRefIdeal.nD Cert.DuzRefIdeal.τ).loc Cert.DuzRefIdeal.main_v4) = v0 c
          ∧ r.2.mem ((c.tc : Thread Cert.DuzRefIdeal.nD Cert.DuzRefIdeal.τ).loc Cert.DuzRefIdeal.main_arg0) = m' ((c.tc : Thread Cert.DuzRefIdeal.nD Cert.DuzRefIdeal.τ).loc Cert.DuzRefIdeal.main_arg0)
          ∧ r.2.mem ((c.tc : Thread Cert.DuzRefIdeal.nD Cert.DuzRefIdeal.τ).loc Cert.DuzRefIdeal.main_arg1) = m' ((c.tc : Thread Cert.DuzRefIdeal.nD Cert.DuzRefIdeal.τ).loc Cert.DuzRefIdeal.main_arg1))

def preserves_Dux_DuxIdeal : Prop :=
  True

def algebraic_DuxIdeal_DuxRefIdeal [hDuxIdeal : Cert.DuxIdeal.Facts] [hDuxRefIdeal : Cert.DuxRefIdeal.Facts] : Prop :=
  ∀ (m : (ℓ : Loc Cert.DuxIdeal.nD Cert.DuxIdeal.τ Cert.DuxIdeal.sig) → Buf (Elt Ideal) ℓ) (g : Dev Cert.DuxIdeal.nD → PrngReg)
    (m' : (ℓ : Loc Cert.DuxRefIdeal.nD Cert.DuxRefIdeal.τ Cert.DuxRefIdeal.sig) → Buf (Elt Ideal) ℓ) (g' : Dev Cert.DuxRefIdeal.nD → PrngReg), Pre_DuxIdeal m →
    (∀ c : Dev Cert.DuxIdeal.nD,
      m' ((c.tc : Thread Cert.DuxRefIdeal.nD Cert.DuxRefIdeal.τ).loc Cert.DuxRefIdeal.main_arg0) = m ((c.tc : Thread Cert.DuxIdeal.nD Cert.DuxIdeal.τ).loc Cert.DuxIdeal.main_arg0)
      ∧ m' ((c.tc : Thread Cert.DuxRefIdeal.nD Cert.DuxRefIdeal.τ).loc Cert.DuxRefIdeal.main_arg1) = m ((c.tc : Thread Cert.DuxIdeal.nD Cert.DuxIdeal.τ).loc Cert.DuxIdeal.main_arg1)
      ∧ m' ((c.tc : Thread Cert.DuxRefIdeal.nD Cert.DuxRefIdeal.τ).loc Cert.DuxRefIdeal.main_arg2) = m ((c.tc : Thread Cert.DuxIdeal.nD Cert.DuxIdeal.τ).loc Cert.DuxIdeal.main_arg2)) →
    ∃ (v0 : (c : Dev Cert.DuxIdeal.nD) → Buf (Elt Ideal) ((c.tc : Thread Cert.DuxIdeal.nD Cert.DuxIdeal.τ).loc Cert.DuxIdeal.main_v1)),
      θ_run (Cert.DuxIdeal.defs (F := Ideal)) (onTc (τ := Cert.DuxIdeal.τ) (Cert.DuxIdeal.main (F := Ideal))) ⟨m, fun _ => 0, g⟩ (fun r => ∀ c : Dev Cert.DuxIdeal.nD,
          r.2.mem ((c.tc : Thread Cert.DuxIdeal.nD Cert.DuxIdeal.τ).loc Cert.DuxIdeal.main_v1) = v0 c
          ∧ r.2.mem ((c.tc : Thread Cert.DuxIdeal.nD Cert.DuxIdeal.τ).loc Cert.DuxIdeal.main_arg0) = m ((c.tc : Thread Cert.DuxIdeal.nD Cert.DuxIdeal.τ).loc Cert.DuxIdeal.main_arg0)
          ∧ r.2.mem ((c.tc : Thread Cert.DuxIdeal.nD Cert.DuxIdeal.τ).loc Cert.DuxIdeal.main_arg1) = m ((c.tc : Thread Cert.DuxIdeal.nD Cert.DuxIdeal.τ).loc Cert.DuxIdeal.main_arg1)
          ∧ r.2.mem ((c.tc : Thread Cert.DuxIdeal.nD Cert.DuxIdeal.τ).loc Cert.DuxIdeal.main_arg2) = m ((c.tc : Thread Cert.DuxIdeal.nD Cert.DuxIdeal.τ).loc Cert.DuxIdeal.main_arg2))
      ∧ θ_run (Cert.DuxRefIdeal.defs (F := Ideal)) (onTc (τ := Cert.DuxRefIdeal.τ) (Cert.DuxRefIdeal.main (F := Ideal))) ⟨m', fun _ => 0, g'⟩ (fun r => ∀ c : Dev Cert.DuxRefIdeal.nD,
          r.2.mem ((c.tc : Thread Cert.DuxRefIdeal.nD Cert.DuxRefIdeal.τ).loc Cert.DuxRefIdeal.main_v5) = v0 c
          ∧ r.2.mem ((c.tc : Thread Cert.DuxRefIdeal.nD Cert.DuxRefIdeal.τ).loc Cert.DuxRefIdeal.main_arg0) = m' ((c.tc : Thread Cert.DuxRefIdeal.nD Cert.DuxRefIdeal.τ).loc Cert.DuxRefIdeal.main_arg0)
          ∧ r.2.mem ((c.tc : Thread Cert.DuxRefIdeal.nD Cert.DuxRefIdeal.τ).loc Cert.DuxRefIdeal.main_arg1) = m' ((c.tc : Thread Cert.DuxRefIdeal.nD Cert.DuxRefIdeal.τ).loc Cert.DuxRefIdeal.main_arg1)
          ∧ r.2.mem ((c.tc : Thread Cert.DuxRefIdeal.nD Cert.DuxRefIdeal.τ).loc Cert.DuxRefIdeal.main_arg2) = m' ((c.tc : Thread Cert.DuxRefIdeal.nD Cert.DuxRefIdeal.τ).loc Cert.DuxRefIdeal.main_arg2))

def preserves_So_SoIdeal : Prop :=
  True

def algebraic_SoIdeal_SoRefIdeal [hSoIdeal : Cert.SoIdeal.Facts] [hSoRefIdeal : Cert.SoRefIdeal.Facts] : Prop :=
  ∀ (m : (ℓ : Loc Cert.SoIdeal.nD Cert.SoIdeal.τ Cert.SoIdeal.sig) → Buf (Elt Ideal) ℓ) (g : Dev Cert.SoIdeal.nD → PrngReg)
    (m' : (ℓ : Loc Cert.SoRefIdeal.nD Cert.SoRefIdeal.τ Cert.SoRefIdeal.sig) → Buf (Elt Ideal) ℓ) (g' : Dev Cert.SoRefIdeal.nD → PrngReg), Pre_SoIdeal m →
    (∀ c : Dev Cert.SoIdeal.nD,
      m' ((c.tc : Thread Cert.SoRefIdeal.nD Cert.SoRefIdeal.τ).loc Cert.SoRefIdeal.main_arg0) = m ((c.tc : Thread Cert.SoIdeal.nD Cert.SoIdeal.τ).loc Cert.SoIdeal.main_arg0)
      ∧ m' ((c.tc : Thread Cert.SoRefIdeal.nD Cert.SoRefIdeal.τ).loc Cert.SoRefIdeal.main_arg1) = m ((c.tc : Thread Cert.SoIdeal.nD Cert.SoIdeal.τ).loc Cert.SoIdeal.main_arg1)
      ∧ m' ((c.tc : Thread Cert.SoRefIdeal.nD Cert.SoRefIdeal.τ).loc Cert.SoRefIdeal.main_arg2) = m ((c.tc : Thread Cert.SoIdeal.nD Cert.SoIdeal.τ).loc Cert.SoIdeal.main_arg2)) →
    ∃ (v0 : (c : Dev Cert.SoIdeal.nD) → Buf (Elt Ideal) ((c.tc : Thread Cert.SoIdeal.nD Cert.SoIdeal.τ).loc Cert.SoIdeal.main_v0)),
      θ_run (Cert.SoIdeal.defs (F := Ideal)) (onTc (τ := Cert.SoIdeal.τ) (Cert.SoIdeal.main (F := Ideal))) ⟨m, fun _ => 0, g⟩ (fun r => ∀ c : Dev Cert.SoIdeal.nD,
          r.2.mem ((c.tc : Thread Cert.SoIdeal.nD Cert.SoIdeal.τ).loc Cert.SoIdeal.main_v0) = v0 c
          ∧ r.2.mem ((c.tc : Thread Cert.SoIdeal.nD Cert.SoIdeal.τ).loc Cert.SoIdeal.main_arg0) = m ((c.tc : Thread Cert.SoIdeal.nD Cert.SoIdeal.τ).loc Cert.SoIdeal.main_arg0)
          ∧ r.2.mem ((c.tc : Thread Cert.SoIdeal.nD Cert.SoIdeal.τ).loc Cert.SoIdeal.main_arg1) = m ((c.tc : Thread Cert.SoIdeal.nD Cert.SoIdeal.τ).loc Cert.SoIdeal.main_arg1)
          ∧ r.2.mem ((c.tc : Thread Cert.SoIdeal.nD Cert.SoIdeal.τ).loc Cert.SoIdeal.main_arg2) = m ((c.tc : Thread Cert.SoIdeal.nD Cert.SoIdeal.τ).loc Cert.SoIdeal.main_arg2))
      ∧ θ_run (Cert.SoRefIdeal.defs (F := Ideal)) (onTc (τ := Cert.SoRefIdeal.τ) (Cert.SoRefIdeal.main (F := Ideal))) ⟨m', fun _ => 0, g'⟩ (fun r => ∀ c : Dev Cert.SoRefIdeal.nD,
          r.2.mem ((c.tc : Thread Cert.SoRefIdeal.nD Cert.SoRefIdeal.τ).loc Cert.SoRefIdeal.main_v3) = v0 c
          ∧ r.2.mem ((c.tc : Thread Cert.SoRefIdeal.nD Cert.SoRefIdeal.τ).loc Cert.SoRefIdeal.main_arg0) = m' ((c.tc : Thread Cert.SoRefIdeal.nD Cert.SoRefIdeal.τ).loc Cert.SoRefIdeal.main_arg0)
          ∧ r.2.mem ((c.tc : Thread Cert.SoRefIdeal.nD Cert.SoRefIdeal.τ).loc Cert.SoRefIdeal.main_arg1) = m' ((c.tc : Thread Cert.SoRefIdeal.nD Cert.SoRefIdeal.τ).loc Cert.SoRefIdeal.main_arg1)
          ∧ r.2.mem ((c.tc : Thread Cert.SoRefIdeal.nD Cert.SoRefIdeal.τ).loc Cert.SoRefIdeal.main_arg2) = m' ((c.tc : Thread Cert.SoRefIdeal.nD Cert.SoRefIdeal.τ).loc Cert.SoRefIdeal.main_arg2))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v5) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v3) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1))

def preserves_Qp_QpIdeal : Prop :=
  True

def algebraic_QpIdeal_QpRefIdeal [hQpIdeal : Cert.QpIdeal.Facts] [hQpRefIdeal : Cert.QpRefIdeal.Facts] : Prop :=
  ∀ (m : (ℓ : Loc Cert.QpIdeal.nD Cert.QpIdeal.τ Cert.QpIdeal.sig) → Buf (Elt Ideal) ℓ) (g : Dev Cert.QpIdeal.nD → PrngReg)
    (m' : (ℓ : Loc Cert.QpRefIdeal.nD Cert.QpRefIdeal.τ Cert.QpRefIdeal.sig) → Buf (Elt Ideal) ℓ) (g' : Dev Cert.QpRefIdeal.nD → PrngReg), Pre_QpIdeal m →
    (∀ c : Dev Cert.QpIdeal.nD,
      m' ((c.tc : Thread Cert.QpRefIdeal.nD Cert.QpRefIdeal.τ).loc Cert.QpRefIdeal.main_arg0) = m ((c.tc : Thread Cert.QpIdeal.nD Cert.QpIdeal.τ).loc Cert.QpIdeal.main_arg0)
      ∧ m' ((c.tc : Thread Cert.QpRefIdeal.nD Cert.QpRefIdeal.τ).loc Cert.QpRefIdeal.main_arg1) = m ((c.tc : Thread Cert.QpIdeal.nD Cert.QpIdeal.τ).loc Cert.QpIdeal.main_arg1)) →
    ∃ (v0 : (c : Dev Cert.QpIdeal.nD) → Buf (Elt Ideal) ((c.tc : Thread Cert.QpIdeal.nD Cert.QpIdeal.τ).loc Cert.QpIdeal.main_v0)),
      θ_run (Cert.QpIdeal.defs (F := Ideal)) (onTc (τ := Cert.QpIdeal.τ) (Cert.QpIdeal.main (F := Ideal))) ⟨m, fun _ => 0, g⟩ (fun r => ∀ c : Dev Cert.QpIdeal.nD,
          r.2.mem ((c.tc : Thread Cert.QpIdeal.nD Cert.QpIdeal.τ).loc Cert.QpIdeal.main_v0) = v0 c
          ∧ r.2.mem ((c.tc : Thread Cert.QpIdeal.nD Cert.QpIdeal.τ).loc Cert.QpIdeal.main_arg0) = m ((c.tc : Thread Cert.QpIdeal.nD Cert.QpIdeal.τ).loc Cert.QpIdeal.main_arg0)
          ∧ r.2.mem ((c.tc : Thread Cert.QpIdeal.nD Cert.QpIdeal.τ).loc Cert.QpIdeal.main_arg1) = m ((c.tc : Thread Cert.QpIdeal.nD Cert.QpIdeal.τ).loc Cert.QpIdeal.main_arg1))
      ∧ θ_run (Cert.QpRefIdeal.defs (F := Ideal)) (onTc (τ := Cert.QpRefIdeal.τ) (Cert.QpRefIdeal.main (F := Ideal))) ⟨m', fun _ => 0, g'⟩ (fun r => ∀ c : Dev Cert.QpRefIdeal.nD,
          r.2.mem ((c.tc : Thread Cert.QpRefIdeal.nD Cert.QpRefIdeal.τ).loc Cert.QpRefIdeal.main_v4) = v0 c
          ∧ r.2.mem ((c.tc : Thread Cert.QpRefIdeal.nD Cert.QpRefIdeal.τ).loc Cert.QpRefIdeal.main_arg0) = m' ((c.tc : Thread Cert.QpRefIdeal.nD Cert.QpRefIdeal.τ).loc Cert.QpRefIdeal.main_arg0)
          ∧ r.2.mem ((c.tc : Thread Cert.QpRefIdeal.nD Cert.QpRefIdeal.τ).loc Cert.QpRefIdeal.main_arg1) = m' ((c.tc : Thread Cert.QpRefIdeal.nD Cert.QpRefIdeal.τ).loc Cert.QpRefIdeal.main_arg1))

def preserves_Vp_VpIdeal : Prop :=
  True

def algebraic_VpIdeal_VpRefIdeal [hVpIdeal : Cert.VpIdeal.Facts] [hVpRefIdeal : Cert.VpRefIdeal.Facts] : Prop :=
  ∀ (m : (ℓ : Loc Cert.VpIdeal.nD Cert.VpIdeal.τ Cert.VpIdeal.sig) → Buf (Elt Ideal) ℓ) (g : Dev Cert.VpIdeal.nD → PrngReg)
    (m' : (ℓ : Loc Cert.VpRefIdeal.nD Cert.VpRefIdeal.τ Cert.VpRefIdeal.sig) → Buf (Elt Ideal) ℓ) (g' : Dev Cert.VpRefIdeal.nD → PrngReg), Pre_VpIdeal m →
    (∀ c : Dev Cert.VpIdeal.nD,
      m' ((c.tc : Thread Cert.VpRefIdeal.nD Cert.VpRefIdeal.τ).loc Cert.VpRefIdeal.main_arg0) = m ((c.tc : Thread Cert.VpIdeal.nD Cert.VpIdeal.τ).loc Cert.VpIdeal.main_arg0)
      ∧ m' ((c.tc : Thread Cert.VpRefIdeal.nD Cert.VpRefIdeal.τ).loc Cert.VpRefIdeal.main_arg1) = m ((c.tc : Thread Cert.VpIdeal.nD Cert.VpIdeal.τ).loc Cert.VpIdeal.main_arg1)) →
    ∃ (v0 : (c : Dev Cert.VpIdeal.nD) → Buf (Elt Ideal) ((c.tc : Thread Cert.VpIdeal.nD Cert.VpIdeal.τ).loc Cert.VpIdeal.main_v0)),
      θ_run (Cert.VpIdeal.defs (F := Ideal)) (onTc (τ := Cert.VpIdeal.τ) (Cert.VpIdeal.main (F := Ideal))) ⟨m, fun _ => 0, g⟩ (fun r => ∀ c : Dev Cert.VpIdeal.nD,
          r.2.mem ((c.tc : Thread Cert.VpIdeal.nD Cert.VpIdeal.τ).loc Cert.VpIdeal.main_v0) = v0 c
          ∧ r.2.mem ((c.tc : Thread Cert.VpIdeal.nD Cert.VpIdeal.τ).loc Cert.VpIdeal.main_arg0) = m ((c.tc : Thread Cert.VpIdeal.nD Cert.VpIdeal.τ).loc Cert.VpIdeal.main_arg0)
          ∧ r.2.mem ((c.tc : Thread Cert.VpIdeal.nD Cert.VpIdeal.τ).loc Cert.VpIdeal.main_arg1) = m ((c.tc : Thread Cert.VpIdeal.nD Cert.VpIdeal.τ).loc Cert.VpIdeal.main_arg1))
      ∧ θ_run (Cert.VpRefIdeal.defs (F := Ideal)) (onTc (τ := Cert.VpRefIdeal.τ) (Cert.VpRefIdeal.main (F := Ideal))) ⟨m', fun _ => 0, g'⟩ (fun r => ∀ c : Dev Cert.VpRefIdeal.nD,
          r.2.mem ((c.tc : Thread Cert.VpRefIdeal.nD Cert.VpRefIdeal.τ).loc Cert.VpRefIdeal.main_v5) = v0 c
          ∧ r.2.mem ((c.tc : Thread Cert.VpRefIdeal.nD Cert.VpRefIdeal.τ).loc Cert.VpRefIdeal.main_arg0) = m' ((c.tc : Thread Cert.VpRefIdeal.nD Cert.VpRefIdeal.τ).loc Cert.VpRefIdeal.main_arg0)
          ∧ r.2.mem ((c.tc : Thread Cert.VpRefIdeal.nD Cert.VpRefIdeal.τ).loc Cert.VpRefIdeal.main_arg1) = m' ((c.tc : Thread Cert.VpRefIdeal.nD Cert.VpRefIdeal.τ).loc Cert.VpRefIdeal.main_arg1))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v7) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Ao_AoIdeal : Prop :=
  True

def algebraic_AoIdeal_AoRefIdeal [hAoIdeal : Cert.AoIdeal.Facts] [hAoRefIdeal : Cert.AoRefIdeal.Facts] : Prop :=
  ∀ (m : (ℓ : Loc Cert.AoIdeal.nD Cert.AoIdeal.τ Cert.AoIdeal.sig) → Buf (Elt Ideal) ℓ) (g : Dev Cert.AoIdeal.nD → PrngReg)
    (m' : (ℓ : Loc Cert.AoRefIdeal.nD Cert.AoRefIdeal.τ Cert.AoRefIdeal.sig) → Buf (Elt Ideal) ℓ) (g' : Dev Cert.AoRefIdeal.nD → PrngReg), Pre_AoIdeal m →
    (∀ c : Dev Cert.AoIdeal.nD,
      m' ((c.tc : Thread Cert.AoRefIdeal.nD Cert.AoRefIdeal.τ).loc Cert.AoRefIdeal.main_arg0) = m ((c.tc : Thread Cert.AoIdeal.nD Cert.AoIdeal.τ).loc Cert.AoIdeal.main_arg0)
      ∧ m' ((c.tc : Thread Cert.AoRefIdeal.nD Cert.AoRefIdeal.τ).loc Cert.AoRefIdeal.main_arg1) = m ((c.tc : Thread Cert.AoIdeal.nD Cert.AoIdeal.τ).loc Cert.AoIdeal.main_arg1)
      ∧ m' ((c.tc : Thread Cert.AoRefIdeal.nD Cert.AoRefIdeal.τ).loc Cert.AoRefIdeal.main_arg2) = m ((c.tc : Thread Cert.AoIdeal.nD Cert.AoIdeal.τ).loc Cert.AoIdeal.main_arg2)) →
    ∃ (v0 : (c : Dev Cert.AoIdeal.nD) → Buf (Elt Ideal) ((c.tc : Thread Cert.AoIdeal.nD Cert.AoIdeal.τ).loc Cert.AoIdeal.main_v0)),
      θ_run (Cert.AoIdeal.defs (F := Ideal)) (onTc (τ := Cert.AoIdeal.τ) (Cert.AoIdeal.main (F := Ideal))) ⟨m, fun _ => 0, g⟩ (fun r => ∀ c : Dev Cert.AoIdeal.nD,
          r.2.mem ((c.tc : Thread Cert.AoIdeal.nD Cert.AoIdeal.τ).loc Cert.AoIdeal.main_v0) = v0 c
          ∧ r.2.mem ((c.tc : Thread Cert.AoIdeal.nD Cert.AoIdeal.τ).loc Cert.AoIdeal.main_arg0) = m ((c.tc : Thread Cert.AoIdeal.nD Cert.AoIdeal.τ).loc Cert.AoIdeal.main_arg0)
          ∧ r.2.mem ((c.tc : Thread Cert.AoIdeal.nD Cert.AoIdeal.τ).loc Cert.AoIdeal.main_arg1) = m ((c.tc : Thread Cert.AoIdeal.nD Cert.AoIdeal.τ).loc Cert.AoIdeal.main_arg1)
          ∧ r.2.mem ((c.tc : Thread Cert.AoIdeal.nD Cert.AoIdeal.τ).loc Cert.AoIdeal.main_arg2) = m ((c.tc : Thread Cert.AoIdeal.nD Cert.AoIdeal.τ).loc Cert.AoIdeal.main_arg2))
      ∧ θ_run (Cert.AoRefIdeal.defs (F := Ideal)) (onTc (τ := Cert.AoRefIdeal.τ) (Cert.AoRefIdeal.main (F := Ideal))) ⟨m', fun _ => 0, g'⟩ (fun r => ∀ c : Dev Cert.AoRefIdeal.nD,
          r.2.mem ((c.tc : Thread Cert.AoRefIdeal.nD Cert.AoRefIdeal.τ).loc Cert.AoRefIdeal.main_v4) = v0 c
          ∧ r.2.mem ((c.tc : Thread Cert.AoRefIdeal.nD Cert.AoRefIdeal.τ).loc Cert.AoRefIdeal.main_arg0) = m' ((c.tc : Thread Cert.AoRefIdeal.nD Cert.AoRefIdeal.τ).loc Cert.AoRefIdeal.main_arg0)
          ∧ r.2.mem ((c.tc : Thread Cert.AoRefIdeal.nD Cert.AoRefIdeal.τ).loc Cert.AoRefIdeal.main_arg1) = m' ((c.tc : Thread Cert.AoRefIdeal.nD Cert.AoRefIdeal.τ).loc Cert.AoRefIdeal.main_arg1)
          ∧ r.2.mem ((c.tc : Thread Cert.AoRefIdeal.nD Cert.AoRefIdeal.τ).loc Cert.AoRefIdeal.main_arg2) = m' ((c.tc : Thread Cert.AoRefIdeal.nD Cert.AoRefIdeal.τ).loc Cert.AoRefIdeal.main_arg2))

def preserves_Dwp_DwpIdeal : Prop :=
  True

def algebraic_DwpIdeal_DwpRefIdeal [hDwpIdeal : Cert.DwpIdeal.Facts] [hDwpRefIdeal : Cert.DwpRefIdeal.Facts] : Prop :=
  ∀ (m : (ℓ : Loc Cert.DwpIdeal.nD Cert.DwpIdeal.τ Cert.DwpIdeal.sig) → Buf (Elt Ideal) ℓ) (g : Dev Cert.DwpIdeal.nD → PrngReg)
    (m' : (ℓ : Loc Cert.DwpRefIdeal.nD Cert.DwpRefIdeal.τ Cert.DwpRefIdeal.sig) → Buf (Elt Ideal) ℓ) (g' : Dev Cert.DwpRefIdeal.nD → PrngReg), Pre_DwpIdeal m →
    (∀ c : Dev Cert.DwpIdeal.nD,
      m' ((c.tc : Thread Cert.DwpRefIdeal.nD Cert.DwpRefIdeal.τ).loc Cert.DwpRefIdeal.main_arg0) = m ((c.tc : Thread Cert.DwpIdeal.nD Cert.DwpIdeal.τ).loc Cert.DwpIdeal.main_arg0)
      ∧ m' ((c.tc : Thread Cert.DwpRefIdeal.nD Cert.DwpRefIdeal.τ).loc Cert.DwpRefIdeal.main_arg1) = m ((c.tc : Thread Cert.DwpIdeal.nD Cert.DwpIdeal.τ).loc Cert.DwpIdeal.main_arg1)) →
    ∃ (v0 : (c : Dev Cert.DwpIdeal.nD) → Buf (Elt Ideal) ((c.tc : Thread Cert.DwpIdeal.nD Cert.DwpIdeal.τ).loc Cert.DwpIdeal.main_v0)),
      θ_run (Cert.DwpIdeal.defs (F := Ideal)) (onTc (τ := Cert.DwpIdeal.τ) (Cert.DwpIdeal.main (F := Ideal))) ⟨m, fun _ => 0, g⟩ (fun r => ∀ c : Dev Cert.DwpIdeal.nD,
          r.2.mem ((c.tc : Thread Cert.DwpIdeal.nD Cert.DwpIdeal.τ).loc Cert.DwpIdeal.main_v0) = v0 c
          ∧ r.2.mem ((c.tc : Thread Cert.DwpIdeal.nD Cert.DwpIdeal.τ).loc Cert.DwpIdeal.main_arg0) = m ((c.tc : Thread Cert.DwpIdeal.nD Cert.DwpIdeal.τ).loc Cert.DwpIdeal.main_arg0)
          ∧ r.2.mem ((c.tc : Thread Cert.DwpIdeal.nD Cert.DwpIdeal.τ).loc Cert.DwpIdeal.main_arg1) = m ((c.tc : Thread Cert.DwpIdeal.nD Cert.DwpIdeal.τ).loc Cert.DwpIdeal.main_arg1))
      ∧ θ_run (Cert.DwpRefIdeal.defs (F := Ideal)) (onTc (τ := Cert.DwpRefIdeal.τ) (Cert.DwpRefIdeal.main (F := Ideal))) ⟨m', fun _ => 0, g'⟩ (fun r => ∀ c : Dev Cert.DwpRefIdeal.nD,
          r.2.mem ((c.tc : Thread Cert.DwpRefIdeal.nD Cert.DwpRefIdeal.τ).loc Cert.DwpRefIdeal.main_v6) = v0 c
          ∧ r.2.mem ((c.tc : Thread Cert.DwpRefIdeal.nD Cert.DwpRefIdeal.τ).loc Cert.DwpRefIdeal.main_arg0) = m' ((c.tc : Thread Cert.DwpRefIdeal.nD Cert.DwpRefIdeal.τ).loc Cert.DwpRefIdeal.main_arg0)
          ∧ r.2.mem ((c.tc : Thread Cert.DwpRefIdeal.nD Cert.DwpRefIdeal.τ).loc Cert.DwpRefIdeal.main_arg1) = m' ((c.tc : Thread Cert.DwpRefIdeal.nD Cert.DwpRefIdeal.τ).loc Cert.DwpRefIdeal.main_arg1))

def preserves_Dwq_DwqIdeal : Prop :=
  True

def algebraic_DwqIdeal_DwqRefIdeal [hDwqIdeal : Cert.DwqIdeal.Facts] [hDwqRefIdeal : Cert.DwqRefIdeal.Facts] : Prop :=
  ∀ (m : (ℓ : Loc Cert.DwqIdeal.nD Cert.DwqIdeal.τ Cert.DwqIdeal.sig) → Buf (Elt Ideal) ℓ) (g : Dev Cert.DwqIdeal.nD → PrngReg)
    (m' : (ℓ : Loc Cert.DwqRefIdeal.nD Cert.DwqRefIdeal.τ Cert.DwqRefIdeal.sig) → Buf (Elt Ideal) ℓ) (g' : Dev Cert.DwqRefIdeal.nD → PrngReg), Pre_DwqIdeal m →
    (∀ c : Dev Cert.DwqIdeal.nD,
      m' ((c.tc : Thread Cert.DwqRefIdeal.nD Cert.DwqRefIdeal.τ).loc Cert.DwqRefIdeal.main_arg0) = m ((c.tc : Thread Cert.DwqIdeal.nD Cert.DwqIdeal.τ).loc Cert.DwqIdeal.main_arg0)
      ∧ m' ((c.tc : Thread Cert.DwqRefIdeal.nD Cert.DwqRefIdeal.τ).loc Cert.DwqRefIdeal.main_arg1) = m ((c.tc : Thread Cert.DwqIdeal.nD Cert.DwqIdeal.τ).loc Cert.DwqIdeal.main_arg1)) →
    ∃ (v0 : (c : Dev Cert.DwqIdeal.nD) → Buf (Elt Ideal) ((c.tc : Thread Cert.DwqIdeal.nD Cert.DwqIdeal.τ).loc Cert.DwqIdeal.main_v0)),
      θ_run (Cert.DwqIdeal.defs (F := Ideal)) (onTc (τ := Cert.DwqIdeal.τ) (Cert.DwqIdeal.main (F := Ideal))) ⟨m, fun _ => 0, g⟩ (fun r => ∀ c : Dev Cert.DwqIdeal.nD,
          r.2.mem ((c.tc : Thread Cert.DwqIdeal.nD Cert.DwqIdeal.τ).loc Cert.DwqIdeal.main_v0) = v0 c
          ∧ r.2.mem ((c.tc : Thread Cert.DwqIdeal.nD Cert.DwqIdeal.τ).loc Cert.DwqIdeal.main_arg0) = m ((c.tc : Thread Cert.DwqIdeal.nD Cert.DwqIdeal.τ).loc Cert.DwqIdeal.main_arg0)
          ∧ r.2.mem ((c.tc : Thread Cert.DwqIdeal.nD Cert.DwqIdeal.τ).loc Cert.DwqIdeal.main_arg1) = m ((c.tc : Thread Cert.DwqIdeal.nD Cert.DwqIdeal.τ).loc Cert.DwqIdeal.main_arg1))
      ∧ θ_run (Cert.DwqRefIdeal.defs (F := Ideal)) (onTc (τ := Cert.DwqRefIdeal.τ) (Cert.DwqRefIdeal.main (F := Ideal))) ⟨m', fun _ => 0, g'⟩ (fun r => ∀ c : Dev Cert.DwqRefIdeal.nD,
          r.2.mem ((c.tc : Thread Cert.DwqRefIdeal.nD Cert.DwqRefIdeal.τ).loc Cert.DwqRefIdeal.main_v9) = v0 c
          ∧ r.2.mem ((c.tc : Thread Cert.DwqRefIdeal.nD Cert.DwqRefIdeal.τ).loc Cert.DwqRefIdeal.main_arg0) = m' ((c.tc : Thread Cert.DwqRefIdeal.nD Cert.DwqRefIdeal.τ).loc Cert.DwqRefIdeal.main_arg0)
          ∧ r.2.mem ((c.tc : Thread Cert.DwqRefIdeal.nD Cert.DwqRefIdeal.τ).loc Cert.DwqRefIdeal.main_arg1) = m' ((c.tc : Thread Cert.DwqRefIdeal.nD Cert.DwqRefIdeal.τ).loc Cert.DwqRefIdeal.main_arg1))

def preserves_Duq_DuqIdeal : Prop :=
  True

def algebraic_DuqIdeal_DuqRefIdeal [hDuqIdeal : Cert.DuqIdeal.Facts] [hDuqRefIdeal : Cert.DuqRefIdeal.Facts] : Prop :=
  ∀ (m : (ℓ : Loc Cert.DuqIdeal.nD Cert.DuqIdeal.τ Cert.DuqIdeal.sig) → Buf (Elt Ideal) ℓ) (g : Dev Cert.DuqIdeal.nD → PrngReg)
    (m' : (ℓ : Loc Cert.DuqRefIdeal.nD Cert.DuqRefIdeal.τ Cert.DuqRefIdeal.sig) → Buf (Elt Ideal) ℓ) (g' : Dev Cert.DuqRefIdeal.nD → PrngReg), Pre_DuqIdeal m →
    (∀ c : Dev Cert.DuqIdeal.nD,
      m' ((c.tc : Thread Cert.DuqRefIdeal.nD Cert.DuqRefIdeal.τ).loc Cert.DuqRefIdeal.main_arg0) = m ((c.tc : Thread Cert.DuqIdeal.nD Cert.DuqIdeal.τ).loc Cert.DuqIdeal.main_arg0)
      ∧ m' ((c.tc : Thread Cert.DuqRefIdeal.nD Cert.DuqRefIdeal.τ).loc Cert.DuqRefIdeal.main_arg1) = m ((c.tc : Thread Cert.DuqIdeal.nD Cert.DuqIdeal.τ).loc Cert.DuqIdeal.main_arg1)) →
    ∃ (v0 : (c : Dev Cert.DuqIdeal.nD) → Buf (Elt Ideal) ((c.tc : Thread Cert.DuqIdeal.nD Cert.DuqIdeal.τ).loc Cert.DuqIdeal.main_v0)),
      θ_run (Cert.DuqIdeal.defs (F := Ideal)) (onTc (τ := Cert.DuqIdeal.τ) (Cert.DuqIdeal.main (F := Ideal))) ⟨m, fun _ => 0, g⟩ (fun r => ∀ c : Dev Cert.DuqIdeal.nD,
          r.2.mem ((c.tc : Thread Cert.DuqIdeal.nD Cert.DuqIdeal.τ).loc Cert.DuqIdeal.main_v0) = v0 c
          ∧ r.2.mem ((c.tc : Thread Cert.DuqIdeal.nD Cert.DuqIdeal.τ).loc Cert.DuqIdeal.main_arg0) = m ((c.tc : Thread Cert.DuqIdeal.nD Cert.DuqIdeal.τ).loc Cert.DuqIdeal.main_arg0)
          ∧ r.2.mem ((c.tc : Thread Cert.DuqIdeal.nD Cert.DuqIdeal.τ).loc Cert.DuqIdeal.main_arg1) = m ((c.tc : Thread Cert.DuqIdeal.nD Cert.DuqIdeal.τ).loc Cert.DuqIdeal.main_arg1))
      ∧ θ_run (Cert.DuqRefIdeal.defs (F := Ideal)) (onTc (τ := Cert.DuqRefIdeal.τ) (Cert.DuqRefIdeal.main (F := Ideal))) ⟨m', fun _ => 0, g'⟩ (fun r => ∀ c : Dev Cert.DuqRefIdeal.nD,
          r.2.mem ((c.tc : Thread Cert.DuqRefIdeal.nD Cert.DuqRefIdeal.τ).loc Cert.DuqRefIdeal.main_v7) = v0 c
          ∧ r.2.mem ((c.tc : Thread Cert.DuqRefIdeal.nD Cert.DuqRefIdeal.τ).loc Cert.DuqRefIdeal.main_arg0) = m' ((c.tc : Thread Cert.DuqRefIdeal.nD Cert.DuqRefIdeal.τ).loc Cert.DuqRefIdeal.main_arg0)
          ∧ r.2.mem ((c.tc : Thread Cert.DuqRefIdeal.nD Cert.DuqRefIdeal.τ).loc Cert.DuqRefIdeal.main_arg1) = m' ((c.tc : Thread Cert.DuqRefIdeal.nD Cert.DuqRefIdeal.τ).loc Cert.DuqRefIdeal.main_arg1))

def preserves_Dkv_DkvIdeal : Prop :=
  True

def algebraic_DkvIdeal_DkvRefIdeal [hDkvIdeal : Cert.DkvIdeal.Facts] [hDkvRefIdeal : Cert.DkvRefIdeal.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)) →
    ∃ (v0 : (c : Dev Cert.DkvIdeal.nD) → Buf (Elt Ideal) ((c.tc : Thread Cert.DkvIdeal.nD Cert.DkvIdeal.τ).loc Cert.DkvIdeal.main_v0)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v0) = v0 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v15) = v0 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3))

def preserves_Fwd_FwdIdeal : Prop :=
  IdealRules.named_const.Statement Cert.FwdIdeal.κ "neg_log2e" .f32 0xBFB8AA3B#32 ((-((Real.log 2)⁻¹) : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v1_0)) (v1 : (c : Dev Cert.FwdIdeal.nD) → Buf (Elt Ideal) ((c.tc : Thread Cert.FwdIdeal.nD Cert.FwdIdeal.τ).loc Cert.FwdIdeal.main_v1_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v1_0) = v0 c
          ∧ r.2.mem ((c.tc : Thread Cert.FwdIdeal.nD Cert.FwdIdeal.τ).loc Cert.FwdIdeal.main_v1_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v20) = v0 c
          ∧ r.2.mem ((c.tc : Thread Cert.FwdRefIdeal.nD Cert.FwdRefIdeal.τ).loc Cert.FwdRefIdeal.main_v43) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hMid : Cert.Mid.Facts) (hMidIdeal : Cert.MidIdeal.Facts) (hMidRefIdeal : Cert.MidRefIdeal.Facts) (hDwb : Cert.Dwb.Facts) (hDwbIdeal : Cert.DwbIdeal.Facts) (hDwbRefIdeal : Cert.DwbRefIdeal.Facts) (hDn : Cert.Dn.Facts) (hDnIdeal : Cert.DnIdeal.Facts) (hDnRefIdeal : Cert.DnRefIdeal.Facts) (hDwa : Cert.Dwa.Facts) (hDwaIdeal : Cert.DwaIdeal.Facts) (hDwaRefIdeal : Cert.DwaRefIdeal.Facts) (hDown : Cert.Down.Facts) (hDownIdeal : Cert.DownIdeal.Facts) (hDownRefIdeal : Cert.DownRefIdeal.Facts) (hZx : Cert.Zx.Facts) (hZxIdeal : Cert.ZxIdeal.Facts) (hZxRefIdeal : Cert.ZxRefIdeal.Facts) (hDwz : Cert.Dwz.Facts) (hDwzIdeal : Cert.DwzIdeal.Facts) (hDwzRefIdeal : Cert.DwzRefIdeal.Facts) (hDwx : Cert.Dwx.Facts) (hDwxIdeal : Cert.DwxIdeal.Facts) (hDwxRefIdeal : Cert.DwxRefIdeal.Facts) (hDuz : Cert.Duz.Facts) (hDuzIdeal : Cert.DuzIdeal.Facts) (hDuzRefIdeal : Cert.DuzRefIdeal.Facts) (hDux : Cert.Dux.Facts) (hDuxIdeal : Cert.DuxIdeal.Facts) (hDuxRefIdeal : Cert.DuxRefIdeal.Facts) (hSo : Cert.So.Facts) (hSoIdeal : Cert.SoIdeal.Facts) (hSoRefIdeal : Cert.SoRefIdeal.Facts) (hDwo : Cert.Dwo.Facts) (hDwoIdeal : Cert.DwoIdeal.Facts) (hDwoRefIdeal : Cert.DwoRefIdeal.Facts) (hDy : Cert.Dy.Facts) (hDyIdeal : Cert.DyIdeal.Facts) (hDyRefIdeal : Cert.DyRefIdeal.Facts) (hQp : Cert.Qp.Facts) (hQpIdeal : Cert.QpIdeal.Facts) (hQpRefIdeal : Cert.QpRefIdeal.Facts) (hVp : Cert.Vp.Facts) (hVpIdeal : Cert.VpIdeal.Facts) (hVpRefIdeal : Cert.VpRefIdeal.Facts) (hDo : Cert.Do.Facts) (hDoIdeal : Cert.DoIdeal.Facts) (hDoRefIdeal : Cert.DoRefIdeal.Facts) (hAo : Cert.Ao.Facts) (hAoIdeal : Cert.AoIdeal.Facts) (hAoRefIdeal : Cert.AoRefIdeal.Facts) (hDwp : Cert.Dwp.Facts) (hDwpIdeal : Cert.DwpIdeal.Facts) (hDwpRefIdeal : Cert.DwpRefIdeal.Facts) (hDwq : Cert.Dwq.Facts) (hDwqIdeal : Cert.DwqIdeal.Facts) (hDwqRefIdeal : Cert.DwqRefIdeal.Facts) (hDuq : Cert.Duq.Facts) (hDuqIdeal : Cert.DuqIdeal.Facts) (hDuqRefIdeal : Cert.DuqRefIdeal.Facts) (hDkv : Cert.Dkv.Facts) (hDkvIdeal : Cert.DkvIdeal.Facts) (hDkvRefIdeal : Cert.DkvRefIdeal.Facts) (hFwd : Cert.Fwd.Facts) (hFwdIdeal : Cert.FwdIdeal.Facts) (hFwdRefIdeal : Cert.FwdRefIdeal.Facts) (hPre_finite : Cert.Pre_finite.Facts) (hPre_finite_up : Cert.Pre_finite_up.Facts) (hPre_finite_mid : Cert.Pre_finite_mid.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_Dwb (hDwb := hDwb)
    ∧ quiescent_DwbIdeal (hDwbIdeal := hDwbIdeal)
    ∧ quiescent_DwbRefIdeal (hDwbRefIdeal := hDwbRefIdeal)
    ∧ quiescent_Dn (hDn := hDn)
    ∧ quiescent_DnIdeal (hDnIdeal := hDnIdeal)
    ∧ quiescent_DnRefIdeal (hDnRefIdeal := hDnRefIdeal)
    ∧ quiescent_Dwa (hDwa := hDwa)
    ∧ quiescent_DwaIdeal (hDwaIdeal := hDwaIdeal)
    ∧ quiescent_DwaRefIdeal (hDwaRefIdeal := hDwaRefIdeal)
    ∧ quiescent_Down (hDown := hDown)
    ∧ quiescent_DownIdeal (hDownIdeal := hDownIdeal)
    ∧ quiescent_DownRefIdeal (hDownRefIdeal := hDownRefIdeal)
    ∧ quiescent_Zx (hZx := hZx)
    ∧ quiescent_ZxIdeal (hZxIdeal := hZxIdeal)
    ∧ quiescent_ZxRefIdeal (hZxRefIdeal := hZxRefIdeal)
    ∧ quiescent_Dwz (hDwz := hDwz)
    ∧ quiescent_DwzIdeal (hDwzIdeal := hDwzIdeal)
    ∧ quiescent_DwzRefIdeal (hDwzRefIdeal := hDwzRefIdeal)
    ∧ quiescent_Dwx (hDwx := hDwx)
    ∧ quiescent_DwxIdeal (hDwxIdeal := hDwxIdeal)
    ∧ quiescent_DwxRefIdeal (hDwxRefIdeal := hDwxRefIdeal)
    ∧ quiescent_Duz (hDuz := hDuz)
    ∧ quiescent_DuzIdeal (hDuzIdeal := hDuzIdeal)
    ∧ quiescent_DuzRefIdeal (hDuzRefIdeal := hDuzRefIdeal)
    ∧ quiescent_Dux (hDux := hDux)
    ∧ quiescent_DuxIdeal (hDuxIdeal := hDuxIdeal)
    ∧ quiescent_DuxRefIdeal (hDuxRefIdeal := hDuxRefIdeal)
    ∧ quiescent_So (hSo := hSo)
    ∧ quiescent_SoIdeal (hSoIdeal := hSoIdeal)
    ∧ quiescent_SoRefIdeal (hSoRefIdeal := hSoRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dy (hDy := hDy)
    ∧ quiescent_DyIdeal (hDyIdeal := hDyIdeal)
    ∧ quiescent_DyRefIdeal (hDyRefIdeal := hDyRefIdeal)
    ∧ quiescent_Qp (hQp := hQp)
    ∧ quiescent_QpIdeal (hQpIdeal := hQpIdeal)
    ∧ quiescent_QpRefIdeal (hQpRefIdeal := hQpRefIdeal)
    ∧ quiescent_Vp (hVp := hVp)
    ∧ quiescent_VpIdeal (hVpIdeal := hVpIdeal)
    ∧ quiescent_VpRefIdeal (hVpRefIdeal := hVpRefIdeal)
    ∧ quiescent_Do (hDo := hDo)
    ∧ quiescent_DoIdeal (hDoIdeal := hDoIdeal)
    ∧ quiescent_DoRefIdeal (hDoRefIdeal := hDoRefIdeal)
    ∧ quiescent_Ao (hAo := hAo)
    ∧ quiescent_AoIdeal (hAoIdeal := hAoIdeal)
    ∧ quiescent_AoRefIdeal (hAoRefIdeal := hAoRefIdeal)
    ∧ quiescent_Dwp (hDwp := hDwp)
    ∧ quiescent_DwpIdeal (hDwpIdeal := hDwpIdeal)
    ∧ quiescent_DwpRefIdeal (hDwpRefIdeal := hDwpRefIdeal)
    ∧ quiescent_Dwq (hDwq := hDwq)
    ∧ quiescent_DwqIdeal (hDwqIdeal := hDwqIdeal)
    ∧ quiescent_DwqRefIdeal (hDwqRefIdeal := hDwqRefIdeal)
    ∧ quiescent_Duq (hDuq := hDuq)
    ∧ quiescent_DuqIdeal (hDuqIdeal := hDuqIdeal)
    ∧ quiescent_DuqRefIdeal (hDuqRefIdeal := hDuqRefIdeal)
    ∧ quiescent_Dkv (hDkv := hDkv)
    ∧ quiescent_DkvIdeal (hDkvIdeal := hDkvIdeal)
    ∧ quiescent_DkvRefIdeal (hDkvRefIdeal := hDkvRefIdeal)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal_pre_finite_up (hUpIdeal := hUpIdeal) (hUpRefIdeal := hUpRefIdeal) (hPre_finite_up := hPre_finite_up)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_Dwb_DwbIdeal
    ∧ algebraic_DwbIdeal_DwbRefIdeal (hDwbIdeal := hDwbIdeal) (hDwbRefIdeal := hDwbRefIdeal)
    ∧ preserves_Dn_DnIdeal
    ∧ algebraic_DnIdeal_DnRefIdeal (hDnIdeal := hDnIdeal) (hDnRefIdeal := hDnRefIdeal)
    ∧ preserves_Dwa_DwaIdeal
    ∧ algebraic_DwaIdeal_DwaRefIdeal (hDwaIdeal := hDwaIdeal) (hDwaRefIdeal := hDwaRefIdeal)
    ∧ preserves_Down_DownIdeal
    ∧ algebraic_DownIdeal_DownRefIdeal (hDownIdeal := hDownIdeal) (hDownRefIdeal := hDownRefIdeal)
    ∧ preserves_Zx_ZxIdeal
    ∧ algebraic_ZxIdeal_ZxRefIdeal (hZxIdeal := hZxIdeal) (hZxRefIdeal := hZxRefIdeal)
    ∧ preserves_Dwz_DwzIdeal
    ∧ algebraic_DwzIdeal_DwzRefIdeal (hDwzIdeal := hDwzIdeal) (hDwzRefIdeal := hDwzRefIdeal)
    ∧ preserves_Dwx_DwxIdeal
    ∧ algebraic_DwxIdeal_DwxRefIdeal (hDwxIdeal := hDwxIdeal) (hDwxRefIdeal := hDwxRefIdeal)
    ∧ preserves_Duz_DuzIdeal
    ∧ algebraic_DuzIdeal_DuzRefIdeal (hDuzIdeal := hDuzIdeal) (hDuzRefIdeal := hDuzRefIdeal)
    ∧ preserves_Dux_DuxIdeal
    ∧ algebraic_DuxIdeal_DuxRefIdeal (hDuxIdeal := hDuxIdeal) (hDuxRefIdeal := hDuxRefIdeal)
    ∧ preserves_So_SoIdeal
    ∧ algebraic_SoIdeal_SoRefIdeal (hSoIdeal := hSoIdeal) (hSoRefIdeal := hSoRefIdeal)
    ∧ preserves_Dwo_DwoIdeal
    ∧ algebraic_DwoIdeal_DwoRefIdeal (hDwoIdeal := hDwoIdeal) (hDwoRefIdeal := hDwoRefIdeal)
    ∧ preserves_Dy_DyIdeal
    ∧ algebraic_DyIdeal_DyRefIdeal (hDyIdeal := hDyIdeal) (hDyRefIdeal := hDyRefIdeal)
    ∧ preserves_Qp_QpIdeal
    ∧ algebraic_QpIdeal_QpRefIdeal (hQpIdeal := hQpIdeal) (hQpRefIdeal := hQpRefIdeal)
    ∧ preserves_Vp_VpIdeal
    ∧ algebraic_VpIdeal_VpRefIdeal (hVpIdeal := hVpIdeal) (hVpRefIdeal := hVpRefIdeal)
    ∧ preserves_Do_DoIdeal
    ∧ algebraic_DoIdeal_DoRefIdeal (hDoIdeal := hDoIdeal) (hDoRefIdeal := hDoRefIdeal)
    ∧ preserves_Ao_AoIdeal
    ∧ algebraic_AoIdeal_AoRefIdeal (hAoIdeal := hAoIdeal) (hAoRefIdeal := hAoRefIdeal)
    ∧ preserves_Dwp_DwpIdeal
    ∧ algebraic_DwpIdeal_DwpRefIdeal (hDwpIdeal := hDwpIdeal) (hDwpRefIdeal := hDwpRefIdeal)
    ∧ preserves_Dwq_DwqIdeal
    ∧ algebraic_DwqIdeal_DwqRefIdeal (hDwqIdeal := hDwqIdeal) (hDwqRefIdeal := hDwqRefIdeal)
    ∧ preserves_Duq_DuqIdeal
    ∧ algebraic_DuqIdeal_DuqRefIdeal (hDuqIdeal := hDuqIdeal) (hDuqRefIdeal := hDuqRefIdeal)
    ∧ preserves_Dkv_DkvIdeal
    ∧ algebraic_DkvIdeal_DkvRefIdeal (hDkvIdeal := hDkvIdeal) (hDkvRefIdeal := hDkvRefIdeal)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
-- ==== Pre_finite.lean ====
abbrev S16x8448x64 : Shape := ⟨3, ![16, 8448, 64]⟩
abbrev S_ : Shape := ⟨0, ![]⟩

class Facts : Prop where
  bitsLt_bf16_f32 : FTy.bits .bf16 < FTy.bits .f32
  bcast_S_S16x8448x64 : S_.BroadcastsInDim S16x8448x64 (![] : Fin 0 → Fin S16x8448x64.rank)

variable [Facts]

def fn {F : FTy → Type} [FloatOps F] (main_arg0 : FVec F S16x8448x64 .bf16) (main_arg1 : FVec F S16x8448x64 .bf16) (main_arg2 : FVec F S16x8448x64 .bf16) (main_arg3 : FVec F S16x8448x64 .f32) : IVec S16x8448x64 1 :=
  let main_v0 : FVec F S16x8448x64 .f32 := (extf .f32 · bitsLt_bf16_f32) main_arg0
  let main_v1 : FVec F S16x8448x64 .f32 := Host.absf main_v0
  let main_cst : FVec F S_ .f32 := constant S_ .f32 0x7F800000#32
  let main_v2 : FVec F S16x8448x64 .f32 := broadcastInDim S16x8448x64 ![] bcast_S_S16x8448x64 main_cst
  let main_v3 : IVec S16x8448x64 1 := cmpf .olt main_v1 main_v2
  let main_v4 : FVec F S16x8448x64 .f32 := (extf .f32 · bitsLt_bf16_f32) main_arg1
  let main_v5 : FVec F S16x8448x64 .f32 := Host.absf main_v4
  let main_cst_0 : FVec F S_ .f32 := constant S_ .f32 0x7F800000#32
  let main_v6 : FVec F S16x8448x64 .f32 := broadcastInDim S16x8448x64 ![] bcast_S_S16x8448x64 main_cst_0
  let main_v7 : IVec S16x8448x64 1 := cmpf .olt main_v5 main_v6
  let main_v8 : IVec S16x8448x64 1 := andi main_v3 main_v7
  let main_v9 : FVec F S16x8448x64 .f32 := (extf .f32 · bitsLt_bf16_f32) main_arg2
  let main_v10 : FVec F S16x8448x64 .f32 := Host.absf main_v9
  let main_cst_1 : FVec F S_ .f32 := constant S_ .f32 0x7F800000#32
  let main_v11 : FVec F S16x8448x64 .f32 := broadcastInDim S16x8448x64 ![] bcast_S_S16x8448x64 main_cst_1
  let main_v12 : IVec S16x8448x64 1 := cmpf .olt main_v10 main_v11
  let main_v13 : IVec S16x8448x64 1 := andi main_v8 main_v12
  let main_v14 : FVec F S16x8448x64 .f32 := Host.absf main_arg3
  let main_cst_2 : FVec F S_ .f32 := constant S_ .f32 0x7F800000#32
  let main_v15 : FVec F S16x8448x64 .f32 := broadcastInDim S16x8448x64 ![] bcast_S_S16x8448x64 main_cst_2
  let main_v16 : IVec S16x8448x64 1 := cmpf .olt main_v14 main_v15
  let main_v17 : IVec S16x8448x64 1 := andi main_v13 main_v16
  main_v17
-- ==== Pre_finite_fwd.lean ====
abbrev S16x8448x64 : Shape := ⟨3, ![16, 8448, 64]⟩
abbrev S_ : Shape := ⟨0, ![]⟩

class Facts : Prop where
  bitsLt_bf16_f32 : FTy.bits .bf16 < FTy.bits .f32
  bcast_S_S16x8448x64 : S_.BroadcastsInDim S16x8448x64 (![] : Fin 0 → Fin S16x8448x64.rank)

variable [Facts]

def fn {F : FTy → Type} [FloatOps F] (main_arg0 : FVec F S16x8448x64 .bf16) (main_arg1 : FVec F S16x8448x64 .bf16) (main_arg2 : FVec F S16x8448x64 .bf16) : IVec S16x8448x64 1 :=
  let main_v0 : FVec F S16x8448x64 .f32 := (extf .f32 · bitsLt_bf16_f32) main_arg0
  let main_v1 : FVec F S16x8448x64 .f32 := Host.absf main_v0
  let main_cst : FVec F S_ .f32 := constant S_ .f32 0x7F800000#32
  let main_v2 : FVec F S16x8448x64 .f32 := broadcastInDim S16x8448x64 ![] bcast_S_S16x8448x64 main_cst
  let main_v3 : IVec S16x8448x64 1 := cmpf .olt main_v1 main_v2
  let main_v4 : FVec F S16x8448x64 .f32 := (extf .f32 · bitsLt_bf16_f32) main_arg1
  let main_v5 : FVec F S16x8448x64 .f32 := Host.absf main_v4
  let main_cst_0 : FVec F S_ .f32 := constant S_ .f32 0x7F800000#32
  let main_v6 : FVec F S16x8448x64 .f32 := broadcastInDim S16x8448x64 ![] bcast_S_S16x8448x64 main_cst_0
  let main_v7 : IVec S16x8448x64 1 := cmpf .olt main_v5 main_v6
  let main_v8 : IVec S16x8448x64 1 := andi main_v3 main_v7
  main_v8
-- ==== Pre_finite_mid.lean ====
abbrev S8448x2816 : Shape := ⟨2, ![8448, 2816]⟩
abbrev S2816x1024 : Shape := ⟨2, ![2816, 1024]⟩
abbrev S8448x1024 : Shape := ⟨2, ![8448, 1024]⟩
abbrev S_ : Shape := ⟨0, ![]⟩

class Facts : Prop where
  bcast_S_S8448x2816 : S_.BroadcastsInDim S8448x2816 (![] : Fin 0 → Fin S8448x2816.rank)
  reducesTo_S8448x2816_S_d0_1 : S8448x2816.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8448x1024 : S_.BroadcastsInDim S8448x1024 (![] : Fin 0 → Fin S8448x1024.rank)
  reducesTo_S8448x1024_S_d0_1 : S8448x1024.ReducesTo [0, 1] S_

variable [Facts]

def fn_part1 {F : FTy → Type} [FloatOps F] (main_v14 : IVec S_ 1) (main_v15 : FVec F S8448x1024 .f32) (main_v16 : FVec F S8448x1024 .f32) : IVec S_ 1 :=
  let main_v17 : IVec S8448x1024 1 := cmpf .olt main_v15 main_v16
  let main_c_5 : IVec S_ 1 := constantI S_ 1 1#1
  let main_v18 : IVec S_ 1 := (fun x v => Host.reduce IntOp.andi x v reducesTo_S8448x1024_S_d0_1 h_S_) main_v17 main_c_5
  let main_v19 : IVec S_ 1 := andi main_v14 main_v18
  main_v19

def fn {F : FTy → Type} [FloatOps F] (main_arg0 : FVec F S8448x2816 .f32) (main_arg1 : FVec F S8448x2816 .f32) (main_arg2 : FVec F S2816x1024 .bf16) (main_arg3 : FVec F S8448x1024 .f32) : IVec S_ 1 :=
  let main_v0 : FVec F S8448x2816 .f32 := Host.absf main_arg0
  let main_cst : FVec F S_ .f32 := constant S_ .f32 0x7F800000#32
  let main_v1 : FVec F S8448x2816 .f32 := broadcastInDim S8448x2816 ![] bcast_S_S8448x2816 main_cst
  let main_v2 : IVec S8448x2816 1 := cmpf .olt main_v0 main_v1
  let main_c : IVec S_ 1 := constantI S_ 1 1#1
  let main_v3 : IVec S_ 1 := (fun x v => Host.reduce IntOp.andi x v reducesTo_S8448x2816_S_d0_1 h_S_) main_v2 main_c
  let main_v4 : FVec F S8448x2816 .f32 := Host.absf main_arg1
  let main_cst_0 : FVec F S_ .f32 := constant S_ .f32 0x7F800000#32
  let main_v5 : FVec F S8448x2816 .f32 := broadcastInDim S8448x2816 ![] bcast_S_S8448x2816 main_cst_0
  let main_v6 : IVec S8448x2816 1 := cmpf .olt main_v4 main_v5
  let main_c_1 : IVec S_ 1 := constantI S_ 1 1#1
  let main_v7 : IVec S_ 1 := (fun x v => Host.reduce IntOp.andi x v reducesTo_S8448x2816_S_d0_1 h_S_) main_v6 main_c_1
  let main_v8 : IVec S_ 1 := andi main_v3 main_v7
  let main_v9 : FVec F S2816x1024 .f32 := (extf .f32 · bitsLt_bf16_f32) main_arg2
  let main_v10 : FVec F S2816x1024 .f32 := Host.absf main_v9
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v8 main_v13
  let main_v15 : FVec F S8448x1024 .f32 := Host.absf main_arg3
  let main_cst_4 : FVec F S_ .f32 := constant S_ .f32 0x7F800000#32
  let main_v16 : FVec F S8448x1024 .f32 := broadcastInDim S8448x1024 ![] bcast_S_S8448x1024 main_cst_4
  fn_part1 (F := F) main_v14 main_v15 main_v16
-- ==== Pre_finite_up.lean ====
abbrev S8448x1024 : Shape := ⟨2, ![8448, 1024]⟩
abbrev S1024x2816 : Shape := ⟨2, ![1024, 2816]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S8448x1024 .bf16) (main_arg1 : FVec F S1024x2816 .bf16) (main_arg2 : FVec F S1024x2816 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S1024x2816 .f32 := (extf .f32 · bitsLt_bf16_f32) main_arg1
  let main_v6 : FVec F S1024x2816 .f32 := Host.absf main_v5
  let main_cst_0 : FVec F S_ .f32 := constant S_ .f32 0x7F800000#32
  let main_v7 : FVec F S1024x2816 .f32 := broadcastInDim S1024x2816 ![] bcast_S_S1024x2816 main_cst_0
  let main_v8 : IVec S1024x2816 1 := cmpf .olt main_v6 main_v7
  let main_c_1 : IVec S_ 1 := constantI S_ 1 1#1
  let main_v9 : IVec S_ 1 := (fun x v => Host.reduce IntOp.andi x v reducesTo_S1024x2816_S_d0_1 h_S_) main_v8 main_c_1
  let main_v10 : IVec S_ 1 := andi main_v4 main_v9
  let main_v11 : FVec F S1024x2816 .f32 := (extf .f32 · bitsLt_bf16_f32) main_arg2
  let main_v12 : FVec F S1024x2816 .f32 := Host.absf main_v11
  let main_cst_2 : FVec F S_ .f32 := constant S_ .f32 0x7F800000#32
  let main_v13 : FVec F S1024x2816 .f32 := broadcastInDim S1024x2816 ![] bcast_S_S1024x2816 main_cst_2
  let main_v14 : IVec S1024x2816 1 := cmpf .olt main_v12 main_v13
  let main_c_3 : IVec S_ 1 := constantI S_ 1 1#1
  let main_v15 : IVec S_ 1 := (fun x v => Host.reduce IntOp.andi x v reducesTo_S1024x2816_S_d0_1 h_S_) main_v14 main_c_3
  let main_v16 : IVec S_ 1 := andi main_v10 main_v15
  main_v16
-- ==== Kernel.lean ====
abbrev S16x8448x64 : Shape := ⟨3, ![16, 8448, 64]⟩
abbrev S16x8448x8448 : Shape := ⟨3, ![16, 8448, 8448]⟩
abbrev S_ : Shape := ⟨0, ![]⟩
abbrev S16x8448x33x256 : Shape := ⟨4, ![16, 8448, 33, 256]⟩
abbrev S16x8448x33 : Shape := ⟨3, ![16, 8448, 33]⟩
abbrev S16x8448x128x33 : Shape := ⟨4, ![16, 8448, 128, 33]⟩
abbrev S16x8448x1x33 : Shape := ⟨4, ![16, 8448, 1, 33]⟩
abbrev S16x8448x128 : Shape := ⟨3, ![16, 8448, 128]⟩
abbrev S16x33 : Shape := ⟨2, ![16, 33]⟩
abbrev S1x256x64 : Shape := ⟨3, ![1, 256, 64]⟩
abbrev S1x8448x64 : Shape := ⟨3, ![1, 8448, 64]⟩
abbrev S1x256x128 : Shape := ⟨3, ![1, 256, 128]⟩
abbrev S8448x64 : Shape := ⟨2, ![8448, 64]⟩
abbrev S256x256 : Shape := ⟨2, ![256, 256]⟩
abbrev S256x128 : Shape := ⟨2, ![256, 128]⟩
abbrev S512x256 : Shape := ⟨2, ![512, 256]⟩
abbrev S256x64 : Shape := ⟨2, ![256, 64]⟩
abbrev S1x1 : Shape := ⟨2, ![1, 1]⟩
abbrev S256x1 : Shape := ⟨2, ![256, 1]⟩
abbrev S256 : Shape := ⟨1, ![256]⟩
abbrev S256x512 : Shape := ⟨2, ![256, 512]⟩

abbrev nBuf : Space → Nat
  | .hbm => 39
  | .vmem => 16
  | .smem => 1
  | _ => 0

abbrev bufTy : (tb : Table) → Fin (tcTables nBuf tb) → BufTy
  | .hbm, ⟨0, _⟩ => ⟨S16x8448x64, .bf16⟩
  | .hbm, ⟨1, _⟩ => ⟨S16x8448x64, .bf16⟩
  | .hbm, ⟨2, _⟩ => ⟨S16x8448x64, .bf16⟩
  | .hbm, ⟨3, _⟩ => ⟨S16x8448x64, .f32⟩
  | .hbm, ⟨4, _⟩ => ⟨S16x8448x64, .f32⟩
  | .hbm, ⟨5, _⟩ => ⟨S16x8448x64, .f32⟩
  | .hbm, ⟨6, _⟩ => ⟨S16x8448x8448, .f32⟩
  | .hbm, ⟨7, _⟩ => ⟨S16x8448x8448, .i32⟩
  | .hbm, ⟨8, _⟩ => ⟨S16x8448x8448, .i32⟩
  | .hbm, ⟨9, _⟩ => ⟨S_, .f32⟩
  | .hbm, ⟨10, _⟩ => ⟨S16x8448x8448, .f32⟩
  | .hbm, ⟨11, _⟩ => ⟨S16x8448x8448, .f32⟩
  | .hbm, ⟨12, _⟩ => ⟨S16x8448x8448, .f32⟩
  | .hbm, ⟨13, _⟩ => ⟨S16x8448x8448, .f32⟩
  | .hbm, ⟨14, _⟩ => ⟨S16x8448x8448, .f32⟩
  | .hbm, ⟨15, _⟩ => ⟨S16x8448x8448, .f32⟩
  | .hbm, ⟨16, _⟩ => ⟨S16x8448x8448, .f32⟩
  | .hbm, ⟨17, _⟩ => ⟨S16x8448x8448, .i1⟩
  | .hbm, ⟨18, _⟩ => ⟨S16x8448x8448, .f32⟩
  | .hbm, ⟨19, _⟩ => ⟨S_, .f32⟩
  | .hbm, ⟨20, _⟩ => ⟨S16x8448x8448, .f32⟩
  | .hbm, ⟨21, _⟩ => ⟨S16x8448x8448, .f32⟩
  | .hbm, ⟨22, _⟩ => ⟨S16x8448x33x256, .f32⟩
  | .hbm, ⟨23, _⟩ => ⟨S_, .f32⟩
  | .hbm, ⟨24, _⟩ => ⟨S16x8448x33, .f32⟩
  | .hbm, ⟨25, _⟩ => ⟨S16x8448x128x33, .i32⟩
  | .hbm, ⟨26, _⟩ => ⟨S16x8448x128x33, .i32⟩
  | .hbm, ⟨27, _⟩ => ⟨S16x8448x1x33, .f32⟩
  | .hbm, ⟨28, _⟩ => ⟨S16x8448x128x33, .f32⟩
  | .hbm, ⟨29, _⟩ => ⟨S16x8448x128x33, .i1⟩
  | .hbm, ⟨30, _⟩ => ⟨S_, .f32⟩
  | .hbm, ⟨31, _⟩ => ⟨S16x8448x128x33, .f32⟩
  | .hbm, ⟨32, _⟩ => ⟨S16x8448x128x33, .f32⟩
  | .hbm, ⟨33, _⟩ => ⟨S_, .f32⟩
  | .hbm, ⟨34, _⟩ => ⟨S16x8448x128, .f32⟩
  | .hbm, ⟨35, _⟩ => ⟨S_, .i32⟩
  | .hbm, ⟨36, _⟩ => ⟨S16x8448x64, .f32⟩
  | .hbm, ⟨37, _⟩ => ⟨S16x8448x64, .f32⟩
  | .hbm, ⟨38, _⟩ => ⟨S16x8448x64, .f32⟩
  | .local _ .vmem, ⟨0, _⟩ => ⟨S1x256x64, .bf16⟩
  | .local _ .vmem, ⟨1, _⟩ => ⟨S1x256x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x64, .bf16⟩
  | .local _ .vmem, ⟨5, _⟩ => ⟨S1x8448x64, .bf16⟩
  | .local _ .vmem, ⟨6, _⟩ => ⟨S1x256x128, .f32⟩
  | .local _ .vmem, ⟨7, _⟩ => ⟨S1x256x128, .f32⟩
  | .local _ .vmem, ⟨8, _⟩ => ⟨S1x256x64, .f32⟩
  | .local _ .vmem, ⟨9, _⟩ => ⟨S1x256x64, .f32⟩
  | .local _ .vmem, ⟨10, _⟩ => ⟨S1x256x64, .f32⟩
  | .local _ .vmem, ⟨11, _⟩ => ⟨S1x256x64, .f32⟩
  | .local _ .vmem, ⟨12, _⟩ => ⟨S1x8448x64, .f32⟩
  | .local _ .vmem, ⟨13, _⟩ => ⟨S1x8448x64, .f32⟩
  | .local _ .vmem, ⟨14, _⟩ => ⟨S1x8448x64, .f32⟩
  | .local _ .vmem, ⟨15, _⟩ => ⟨S1x8448x64, .f32⟩
  | .local _ .smem, ⟨0, _⟩ => ⟨S16x33, .i32⟩
  | _, _ => ⟨S16x8448x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_c : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v26 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 33], ![false, false]⟩

abbrev pre0 : Pipeline.Prefetch sig := ⟨1, ![main_v26.idx], fun | 0 => main_v26.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v57 : Index := Scalar.indexCast arg0
  let arg1 : BitVec 32 := BitVec.ofNat 32 (i 1).val
  let v58 : Index := Scalar.indexCast arg1
  ![v57.toNat, v58.toNat]
@[reducible] def k0_t1_loop (i : grid0.Coords) (v59 : BitVec 32) : Scf.Loop 32 :=
  let arg1 : BitVec 32 := BitVec.ofNat 32 (i 1).val
  let c1_i32_19 : BitVec 32 := 1#32
  let v60 : BitVec 32 := Scalar.subi arg1 c1_i32_19
  let v63 : BitVec 32 := Scalar.subi v60 v59
  let c1_i32_21 : BitVec 32 := 1#32
  let v65 : BitVec 32 := Scalar.divsi v63 c1_i32_21
  let v66 : BitVec 32 := Scalar.muli v65 c1_i32_21
  let v67 : BitVec 32 := Scalar.addi v59 v66
  let c1_i32_22 : BitVec 32 := 1#32
  ⟨v59, v67, c1_i32_22⟩

def k0_mult1 (i : grid0.Coords) (v59 : BitVec 32) (k0_t1 : Fin (k0_t1_loop i v59).trips) : BitVec 32 :=
  let c1_i32_22 : BitVec 32 := 1#32
  let arg11 : BitVec 32 := Scf.iv v59 c1_i32_22 k0_t1
  let c256_i32_87 : BitVec 32 := 256#32
  let v235 : BitVec 32 := Scalar.muli arg11 c256_i32_87
  v235
def k0_off2 (i : grid0.Coords) (v59 : BitVec 32) (k0_t1 : Fin (k0_t1_loop i v59).trips) : Fin 3 → Nat :=
  let c0_88 : Index := 0#32
  let c1_i32_22 : BitVec 32 := 1#32
  let arg11 : BitVec 32 := Scf.iv v59 c1_i32_22 k0_t1
  let c256_i32_87 : BitVec 32 := 256#32
  let v235 : BitVec 32 := Scalar.muli arg11 c256_i32_87
  let v236 : BitVec 32 := v235
  let v237 : Index := Scalar.indexCast v236
  let c0_89 : Index := 0#32
  ![0, v237.toNat, 0]
@[reducible] def k0_t2_loop (i : grid0.Coords) (v59 : BitVec 32) : Scf.Loop 32 :=
  let arg1 : BitVec 32 := BitVec.ofNat 32 (i 1).val
  let c1_i32_19 : BitVec 32 := 1#32
  let v60 : BitVec 32 := Scalar.subi arg1 c1_i32_19
  let v63 : BitVec 32 := Scalar.subi v60 v59
  let c1_i32_21 : BitVec 32 := 1#32
  let v65 : BitVec 32 := Scalar.divsi v63 c1_i32_21
  let v66 : BitVec 32 := Scalar.muli v65 c1_i32_21
  let v67 : BitVec 32 := Scalar.addi v59 v66
  let v64 : BitVec 32 := Scalar.addi v59 v63
  let c1_i32_23 : BitVec 32 := 1#32
  ⟨v67, v64, c1_i32_23⟩
def k0_mult2 (i : grid0.Coords) (v59 : BitVec 32) (k0_t2 : Fin (k0_t2_loop i v59).trips) : BitVec 32 :=
  let arg1 : BitVec 32 := BitVec.ofNat 32 (i 1).val
  let c1_i32_19 : BitVec 32 := 1#32
  let v60 : BitVec 32 := Scalar.subi arg1 c1_i32_19
  let v63 : BitVec 32 := Scalar.subi v60 v59
  let c1_i32_21 : BitVec 32 := 1#32
  let v65 : BitVec 32 := Scalar.divsi v63 c1_i32_21
  let v66 : BitVec 32 := Scalar.muli v65 c1_i32_21
  let v67 : BitVec 32 := Scalar.addi v59 v66
  let c1_i32_23 : BitVec 32 := 1#32
  let arg11 : BitVec 32 := Scf.iv v67 c1_i32_23 k0_t2
  let c256_i32_87 : BitVec 32 := 256#32
  let v235 : BitVec 32 := Scalar.muli arg11 c256_i32_87
  v235
def k0_off3 (i : grid0.Coords) (v59 : BitVec 32) (k0_t2 : Fin (k0_t2_loop i v59).trips) : Fin 3 → Nat :=
  let c0_88 : Index := 0#32
  let arg1 : BitVec 32 := BitVec.ofNat 32 (i 1).val
  let c1_i32_19 : BitVec 32 := 1#32
  let v60 : BitVec 32 := Scalar.subi arg1 c1_i32_19
  let v63 : BitVec 32 := Scalar.subi v60 v59
  let c1_i32_21 : BitVec 32 := 1#32
  let v65 : BitVec 32 := Scalar.divsi v63 c1_i32_21
  let v66 : BitVec 32 := Scalar.muli v65 c1_i32_21
  let v67 : BitVec 32 := Scalar.addi v59 v66
  let c1_i32_23 : BitVec 32 := 1#32
  let arg11 : BitVec 32 := Scf.iv v67 c1_i32_23 k0_t2
  let c256_i32_87 : BitVec 32 := 256#32
  let v235 : BitVec 32 := Scalar.muli arg11 c256_i32_87
  let v236 : BitVec 32 := v235
  let v237 : Index := Scalar.indexCast v236
  let c0_89 : Index := 0#32
  ![0, v237.toNat, 0]

def k0_chk1 (i : grid0.Coords) (v59 : BitVec 32) : Prop :=
  ((k0_t1_loop i v59).OK) ∧
  (∀ k0_t1 : Fin (k0_t1_loop i v59).trips, 256 ∣ (k0_mult1 i v59 k0_t1).toNat) ∧
  (∀ k0_t1 : Fin (k0_t1_loop i v59).trips, ∀ a, (k0_off2 i v59 k0_t1) a + S1x256x64.size a ≤ S1x8448x64.size a) ∧
  ((k0_t2_loop i v59).OK) ∧
  (∀ k0_t2 : Fin (k0_t2_loop i v59).trips, 256 ∣ (k0_mult2 i v59 k0_t2).toNat) ∧
  (∀ k0_t2 : Fin (k0_t2_loop i v59).trips, ∀ a, (k0_off3 i v59 k0_t2) a + S1x256x64.size a ≤ S1x8448x64.size a)
theorem k0_t1_ok : ∀ (i : grid0.Coords) (v59 : BitVec 32) (k0_hw1 : k0_chk1 i v59), (k0_t1_loop i v59).OK := fun i v59 k0_hw1 => k0_hw1.1
theorem k0_mult1_dvd : ∀ (i : grid0.Coords) (v59 : BitVec 32) (k0_hw1 : k0_chk1 i v59) (k0_t1 : Fin (k0_t1_loop i v59).trips), 256 ∣ (k0_mult1 i v59 k0_t1).toNat := fun i v59 k0_hw1 k0_t1 => k0_hw1.2.1 k0_t1
theorem k0_off2_inb : ∀ (i : grid0.Coords) (v59 : BitVec 32) (k0_hw1 : k0_chk1 i v59) (k0_t1 : Fin (k0_t1_loop i v59).trips), ∀ a, (k0_off2 i v59 k0_t1) a + S1x256x64.size a ≤ S1x8448x64.size a := fun i v59 k0_hw1 k0_t1 => k0_hw1.2.2.1 k0_t1
theorem k0_t2_ok : ∀ (i : grid0.Coords) (v59 : BitVec 32) (k0_hw1 : k0_chk1 i v59), (k0_t2_loop i v59).OK := fun i v59 k0_hw1 => k0_hw1.2.2.2.1
theorem k0_mult2_dvd : ∀ (i : grid0.Coords) (v59 : BitVec 32) (k0_hw1 : k0_chk1 i v59) (k0_t2 : Fin (k0_t2_loop i v59).trips), 256 ∣ (k0_mult2 i v59 k0_t2).toNat := fun i v59 k0_hw1 k0_t2 => k0_hw1.2.2.2.2.1 k0_t2
theorem k0_off3_inb : ∀ (i : grid0.Coords) (v59 : BitVec 32) (k0_hw1 : k0_chk1 i v59) (k0_t2 : Fin (k0_t2_loop i v59).trips), ∀ a, (k0_off3 i v59 k0_t2) a + S1x256x64.size a ≤ S1x8448x64.size a := fun i v59 k0_hw1 k0_t2 => k0_hw1.2.2.2.2.2 k0_t2

def k0_mult3 (i : grid0.Coords) : BitVec 32 :=
  let arg1 : BitVec 32 := BitVec.ofNat 32 (i 1).val
  let c1_i32_25 : BitVec 32 := 1#32
  let v73 : BitVec 32 := Scalar.subi arg1 c1_i32_25
  let c0_i32_26 : BitVec 32 := 0#32
  let v74 : BitVec 32 := Scalar.maxsi v73 c0_i32_26
  let c256_i32_27 : BitVec 32 := 256#32
  let v75 : BitVec 32 := Scalar.muli v74 c256_i32_27
  v75
def k0_off4 (i : grid0.Coords) : Fin 3 → Nat :=
  let c0_28 : Index := 0#32
  let arg1 : BitVec 32 := BitVec.ofNat 32 (i 1).val
  let c1_i32_25 : BitVec 32 := 1#32
  let v73 : BitVec 32 := Scalar.subi arg1 c1_i32_25
  let c0_i32_26 : BitVec 32 := 0#32
  let v74 : BitVec 32 := Scalar.maxsi v73 c0_i32_26
  let c256_i32_27 : BitVec 32 := 256#32
  let v75 : BitVec 32 := Scalar.muli v74 c256_i32_27
  let v76 : BitVec 32 := v75
  let v77 : Index := Scalar.indexCast v76
  let c0_29 : Index := 0#32
  ![0, v77.toNat, 0]
def k0_mult4 (i : grid0.Coords) : BitVec 32 :=
  let arg1 : BitVec 32 := BitVec.ofNat 32 (i 1).val
  let c256_i32_43 : BitVec 32 := 256#32
  let v124 : BitVec 32 := Scalar.muli arg1 c256_i32_43
  v124
def k0_off5 (i : grid0.Coords) : Fin 3 → Nat :=
  let c0_44 : Index := 0#32
  let arg1 : BitVec 32 := BitVec.ofNat 32 (i 1).val
  let c256_i32_43 : BitVec 32 := 256#32
  let v124 : BitVec 32 := Scalar.muli arg1 c256_i32_43
  let v125 : BitVec 32 := v124
  let v126 : Index := Scalar.indexCast v125
  let c0_45 : Index := 0#32
  ![0, v126.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8448x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8448x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "neg_log2e" => some ((-((Real.log 2)⁻¹) : ℝ) : EReal)
  | _ => none
-- ==== ReferenceIdeal.lean ====
abbrev S16x8448x64 : Shape := ⟨3, ![16, 8448, 64]⟩
abbrev S16x8448x8448 : Shape := ⟨3, ![16, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S_ : Shape := ⟨0, ![]⟩
abbrev S16x64x8448 : Shape := ⟨3, ![16, 64, 8448]⟩

abbrev nBuf : Space → Nat
  | .hbm => 158
  | .vmem => 0
  | .smem => 0
  | _ => 0

abbrev hbmTy0_0 (i : Nat) : BufTy := match i % 128 with
  | 0 => ⟨S16x8448x64, .bf16⟩
  | 1 => ⟨S16x8448x64, .bf16⟩
  | 2 => ⟨S16x8448x64, .bf16⟩
  | 3 => ⟨S16x8448x64, .f32⟩
  | 4 => ⟨S16x8448x64, .f32⟩
  | 5 => ⟨S16x8448x64, .f32⟩
  | 6 => ⟨S16x8448x64, .f32⟩
  | 7 => ⟨S16x8448x8448, .f32⟩
  | 8 => ⟨S8448, .i32⟩
  | 9 => ⟨S1x8448, .i32⟩
  | 10 => ⟨S8448, .i32⟩
  | 11 => ⟨S8448x1, .i32⟩
  | 12 => ⟨S8448x8448, .i32⟩
  | 13 => ⟨S8448x8448, .i32⟩
  | 14 => ⟨S8448x8448, .i1⟩
  | 15 => ⟨S16x8448x8448, .f32⟩
  | 16 => ⟨S16x8448x8448, .f32⟩
  | 17 => ⟨S_, .f32⟩
  | 18 => ⟨S16x8448x8448, .f32⟩
  | 19 => ⟨S16x8448x8448, .f32⟩
  | 20 => ⟨S16x8448x8448, .f32⟩
  | 21 => ⟨S16x8448x8448, .f32⟩
  | 22 => ⟨S16x8448x8448, .i1⟩
  | 23 => ⟨S16x8448x8448, .f32⟩
  | 24 => ⟨S16x8448x8448, .f32⟩
  | 25 => ⟨S16x8448x8448, .f32⟩
  | 26 => ⟨S16x8448x8448, .f32⟩
  | 27 => ⟨S16x8448x8448, .f32⟩
  | 28 => ⟨S16x8448x8448, .f32⟩
  | 29 => ⟨S16x8448x8448, .f32⟩
  | 30 => ⟨S16x8448x8448, .f32⟩
  | 31 => ⟨S_, .f32⟩
  | 32 => ⟨S16x8448x8448, .f32⟩
  | 33 => ⟨S16x8448x8448, .i1⟩
  | 34 => ⟨S_, .f32⟩
  | 35 => ⟨S16x8448x8448, .f32⟩
  | 36 => ⟨S16x8448x8448, .f32⟩
  | 37 => ⟨S_, .f32⟩
  | 38 => ⟨S16x8448x8448, .f32⟩
  | 39 => ⟨S16x8448x8448, .i1⟩
  | 40 => ⟨S_, .f32⟩
  | 41 => ⟨S16x8448x8448, .f32⟩
  | 42 => ⟨S16x8448x8448, .f32⟩
  | 43 => ⟨S16x8448x8448, .f32⟩
  | 44 => ⟨S16x8448x8448, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S16x8448x8448, .f32⟩
  | 53 => ⟨S16x8448x8448, .i1⟩
  | 54 => ⟨S_, .f32⟩
  | 55 => ⟨S16x8448x8448, .f32⟩
  | 56 => ⟨S16x8448x8448, .f32⟩
  | 57 => ⟨S16x8448x8448, .f32⟩
  | 58 => ⟨S16x8448x8448, .f32⟩
  | 59 => ⟨S16x8448x8448, .f32⟩
  | 60 => ⟨S_, .f32⟩
  | 61 => ⟨S16x8448x8448, .f32⟩
  | 62 => ⟨S16x8448x8448, .f32⟩
  | 63 => ⟨S16x8448x8448, .f32⟩
  | 64 => ⟨S_, .f32⟩
  | 65 => ⟨S_, .f32⟩
  | 66 => ⟨S16x8448x8448, .i1⟩
  | 67 => ⟨S16x8448x8448, .f32⟩
  | 68 => ⟨S16x8448x8448, .f32⟩
  | 69 => ⟨S_, .f32⟩
  | 70 => ⟨S16x8448x8448, .f32⟩
  | 71 => ⟨S16x8448x8448, .f32⟩
  | 72 => ⟨S_, .f32⟩
  | 73 => ⟨S16x8448x8448, .f32⟩
  | 74 => ⟨S16x8448x8448, .f32⟩
  | 75 => ⟨S16x8448x8448, .f32⟩
  | 76 => ⟨S16x8448x8448, .f32⟩
  | 77 => ⟨S16x8448x8448, .i1⟩
  | 78 => ⟨S16x8448x8448, .f32⟩
  | 79 => ⟨S16x8448x8448, .f32⟩
  | 80 => ⟨S16x8448x8448, .f32⟩
  | 81 => ⟨S16x8448x8448, .f32⟩
  | 82 => ⟨S16x8448x8448, .f32⟩
  | 83 => ⟨S16x8448x8448, .f32⟩
  | 84 => ⟨S16x8448x8448, .f32⟩
  | 85 => ⟨S16x8448x8448, .f32⟩
  | 86 => ⟨S_, .f32⟩
  | 87 => ⟨S16x8448x8448, .f32⟩
  | 88 => ⟨S16x8448x8448, .i1⟩
  | 89 => ⟨S_, .f32⟩
  | 90 => ⟨S16x8448x8448, .f32⟩
  | 91 => ⟨S16x8448x8448, .f32⟩
  | 92 => ⟨S_, .f32⟩
  | 93 => ⟨S16x8448x8448, .f32⟩
  | 94 => ⟨S16x8448x8448, .i1⟩
  | 95 => ⟨S_, .f32⟩
  | 96 => ⟨S16x8448x8448, .f32⟩
  | 97 => ⟨S16x8448x8448, .f32⟩
  | 98 => ⟨S16x8448x8448, .f32⟩
  | 99 => ⟨S16x8448x8448, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S16x8448x8448, .f32⟩
  | 108 => ⟨S16x8448x8448, .i1⟩
  | 109 => ⟨S_, .f32⟩
  | 110 => ⟨S16x8448x8448, .f32⟩
  | 111 => ⟨S16x8448x8448, .f32⟩
  | 112 => ⟨S16x8448x8448, .f32⟩
  | 113 => ⟨S16x8448x8448, .f32⟩
  | 114 => ⟨S16x8448x8448, .f32⟩
  | 115 => ⟨S_, .f32⟩
  | 116 => ⟨S16x8448x8448, .f32⟩
  | 117 => ⟨S16x8448x8448, .f32⟩
  | 118 => ⟨S16x8448x8448, .f32⟩
  | 119 => ⟨S_, .f32⟩
  | 120 => ⟨S_, .f32⟩
  | 121 => ⟨S16x8448x8448, .f32⟩
  | 122 => ⟨S16x8448x8448, .f32⟩
  | 123 => ⟨S16x8448x8448, .f32⟩
  | 124 => ⟨S16x8448x8448, .f32⟩
  | 125 => ⟨S_, .f32⟩
  | 126 => ⟨S_, .f32⟩
  | 127 => ⟨S16x8448x8448, .i1⟩
  | _ => ⟨S16x8448x64, .bf16⟩

abbrev hbmTy0_1 (i : Nat) : BufTy := match i % 128 with
  | 0 => ⟨S16x8448x8448, .f32⟩
  | 1 => ⟨S16x8448x8448, .f32⟩
  | 2 => ⟨S_, .f32⟩
  | 3 => ⟨S16x8448x8448, .f32⟩
  | 4 => ⟨S16x8448x64, .f32⟩
  | 5 => ⟨S16x64x8448, .f32⟩
  | 6 => ⟨S16x8448x64, .f32⟩
  | 7 => ⟨S16x8448x8448, .f32⟩
  | 8 => ⟨S_, .f32⟩
  | 9 => ⟨S16x8448x8448, .f32⟩
  | 10 => ⟨S16x8448x8448, .f32⟩
  | 11 => ⟨S16x8448x8448, .f32⟩
  | 12 => ⟨S16x8448x8448, .f32⟩
  | 13 => ⟨S_, .f32⟩
  | 14 => ⟨S_, .f32⟩
  | 15 => ⟨S16x8448x8448, .f32⟩
  | 16 => ⟨S16x8448x8448, .f32⟩
  | 17 => ⟨S16x8448x8448, .f32⟩
  | 18 => ⟨S16x8448x8448, .f32⟩
  | 19 => ⟨S16x8448x8448, .f32⟩
  | 20 => ⟨S_, .f32⟩
  | 21 => ⟨S16x8448x8448, .f32⟩
  | 22 => ⟨S16x8448x8448, .f32⟩
  | 23 => ⟨S16x8448x8448, .f32⟩
  | 24 => ⟨S16x8448x8448, .f32⟩
  | 25 => ⟨S16x8448x8448, .f32⟩
  | 26 => ⟨S16x8448x8448, .f32⟩
  | 27 => ⟨S16x8448x8448, .f32⟩
  | 28 => ⟨S16x8448x64, .f32⟩
  | 29 => ⟨S16x8448x64, .f32⟩
  | _ => ⟨S16x8448x64, .bf16⟩

abbrev hbmTy (i : Nat) : BufTy := match i / 128 with
  | 0 => hbmTy0_0 i
  | 1 => hbmTy0_1 i
  | _ => ⟨S16x8448x64, .bf16⟩

abbrev bufTy : (tb : Table) → Fin (tcTables nBuf tb) → BufTy
  | .hbm, ⟨i, _⟩ => hbmTy i
  | _, _ => ⟨S16x8448x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v12_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v12_2 : Ref sig .tc := ⟨.hbm, 62, rfl⟩
abbrev main_v12_0 : Ref sig .tc := ⟨.hbm, 63, rfl⟩
abbrev main_cst : Ref sig .tc := ⟨.hbm, 64, rfl⟩
abbrev main_call1_v0 : Ref sig .tc := ⟨.hbm, 65, rfl⟩
abbrev main_v13_1 : Ref sig .tc := ⟨.hbm, 66, rfl⟩
abbrev main_call1_v2 : Ref sig .tc := ⟨.hbm, 67, rfl⟩
abbrev main_v13_0 : Ref sig .tc := ⟨.hbm, 68, rfl⟩
abbrev main_call1_cst : Ref sig .tc := ⟨.hbm, 69, rfl⟩
abbrev main_v13_2 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1_0 : Ref sig .tc := ⟨.hbm, 85, rfl⟩
abbrev main_call2_call0_cst_0 : Ref sig .tc := ⟨.hbm, 86, rfl⟩
abbrev main_call2_call0_v13 : Ref sig .tc := ⟨.hbm, 87, rfl⟩
abbrev main_call2_call0_v14 : Ref sig .tc := ⟨.hbm, 88, rfl⟩
abbrev main_call2_call0_cst_1 : Ref sig .tc := ⟨.hbm, 89, rfl⟩
abbrev main_call2_call0_v15 : Ref sig .tc := ⟨.hbm, 90, rfl⟩
abbrev main_call2_call0_v16 : Ref sig .tc := ⟨.hbm, 91, rfl⟩
abbrev main_call2_call0_cst_2 : Ref sig .tc := ⟨.hbm, 92, rfl⟩
abbrev main_call2_call0_v17 : Ref sig .tc := ⟨.hbm, 93, rfl⟩
abbrev main_call2_call0_v18 : Ref sig .tc := ⟨.hbm, 94, rfl⟩
abbrev main_call2_call0_cst_3 : Ref sig .tc := ⟨.hbm, 95, rfl⟩
abbrev main_call2_call0_v19 : Ref sig .tc := ⟨.hbm, 96, rfl⟩
abbrev main_call2_call0_v20 : Ref sig .tc := ⟨.hbm, 97, rfl⟩
abbrev main_call2_call0_v21 : Ref sig .tc := ⟨.hbm, 98, rfl⟩
abbrev main_v14_1 : Ref sig .tc := ⟨.hbm, 99, rfl⟩
abbrev main_call2_call0_cst_4 : Ref sig .tc := ⟨.hbm, 100, rfl⟩
abbrev main_call2_call0_cst_5 : Ref sig .tc := ⟨.hbm, 101, rfl⟩
abbrev main_call2_call0_v23 : Ref sig .tc := ⟨.hbm, 102, rfl⟩
abbrev main_call2_call0_cst_6 : Ref sig .tc := ⟨.hbm, 103, rfl⟩
abbrev main_call2_call0_cst_7 : Ref sig .tc := ⟨.hbm, 104, rfl⟩
abbrev main_call2_call0_v24 : Ref sig .tc := ⟨.hbm, 105, rfl⟩
abbrev main_call2_call0_cst_8 : Ref sig .tc := ⟨.hbm, 106, rfl⟩
abbrev main_call2_call0_v25 : Ref sig .tc := ⟨.hbm, 107, rfl⟩
abbrev main_call2_call0_v26 : Ref sig .tc := ⟨.hbm, 108, rfl⟩
abbrev main_call2_call0_cst_9 : Ref sig .tc := ⟨.hbm, 109, rfl⟩
abbrev main_call2_call0_v27 : Ref sig .tc := ⟨.hbm, 110, rfl⟩
abbrev main_call2_call0_v28 : Ref sig .tc := ⟨.hbm, 111, rfl⟩
abbrev main_call2_call0_v29 : Ref sig .tc := ⟨.hbm, 112, rfl⟩
abbrev main_call2_call0_v30 : Ref sig .tc := ⟨.hbm, 113, rfl⟩
abbrev main_call2_call0_v31 : Ref sig .tc := ⟨.hbm, 114, rfl⟩
abbrev main_call2_call0_cst_10 : Ref sig .tc := ⟨.hbm, 115, rfl⟩
abbrev main_call2_call0_v32 : Ref sig .tc := ⟨.hbm, 116, rfl⟩
abbrev main_v14_2 : Ref sig .tc := ⟨.hbm, 117, rfl⟩
abbrev main_v14_0 : Ref sig .tc := ⟨.hbm, 118, rfl⟩
abbrev main_call3_cst : Ref sig .tc := ⟨.hbm, 119, rfl⟩
abbrev main_call3_v0 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_cst_0 : Ref sig .tc := ⟨.hbm, 125, rfl⟩
abbrev main_call4_v0 : Ref sig .tc := ⟨.hbm, 126, rfl⟩
abbrev main_v19_1 : Ref sig .tc := ⟨.hbm, 127, rfl⟩
abbrev main_call4_v2 : Ref sig .tc := ⟨.hbm, 128, rfl⟩
abbrev main_v19_0 : Ref sig .tc := ⟨.hbm, 129, rfl⟩
abbrev main_call4_cst : Ref sig .tc := ⟨.hbm, 130, rfl⟩
abbrev main_v19_2 : Ref sig .tc := ⟨.hbm, 131, rfl⟩
abbrev main_v20 : Ref sig .tc := ⟨.hbm, 132, rfl⟩
abbrev main_v21 : Ref sig .tc := ⟨.hbm, 133, rfl⟩
abbrev main_v22 : Ref sig .tc := ⟨.hbm, 134, rfl⟩
abbrev main_v23 : Ref sig .tc := ⟨.hbm, 135, rfl⟩
abbrev main_call5_cst : Ref sig .tc := ⟨.hbm, 136, rfl⟩
abbrev main_call5_v0 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_call6_cst : Ref sig .tc := ⟨.hbm, 141, rfl⟩
abbrev main_call6_v0 : Ref sig .tc := ⟨.hbm, 142, rfl⟩
abbrev main_v27 : Ref sig .tc := ⟨.hbm, 143, rfl⟩
abbrev main_v28 : Ref sig .tc := ⟨.hbm, 144, rfl⟩
abbrev main_call7_v0 : Ref sig .tc := ⟨.hbm, 145, rfl⟩
abbrev main_call7_v1 : Ref sig .tc := ⟨.hbm, 146, rfl⟩
abbrev main_v29 : Ref sig .tc := ⟨.hbm, 147, rfl⟩
abbrev main_call8_cst : Ref sig .tc := ⟨.hbm, 148, rfl⟩
abbrev main_call8_v0 : Ref sig .tc := ⟨.hbm, 149, rfl⟩
abbrev main_v30 : Ref sig .tc := ⟨.hbm, 150, rfl⟩
abbrev main_call9_v0 : Ref sig .tc := ⟨.hbm, 151, rfl⟩
abbrev main_call9_v1 : Ref sig .tc := ⟨.hbm, 152, rfl⟩
abbrev main_v31 : Ref sig .tc := ⟨.hbm, 153, rfl⟩
abbrev main_v32 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩

abbrev nD : Nat := 1
abbrev τ : Topo := Topo.v7x

variable {F : FTy → Type} [FloatOps F]
-- ==== Up.lean ====
abbrev S8448x1024 : Shape := ⟨2, ![8448, 1024]⟩
abbrev S1024x2816 : Shape := ⟨2, ![1024, 2816]⟩
abbrev S8448x2816 : Shape := ⟨2, ![8448, 2816]⟩
abbrev S384x1024 : Shape := ⟨2, ![384, 1024]⟩
abbrev S1024x1408 : Shape := ⟨2, ![1024, 1408]⟩
abbrev S384x1408 : Shape := ⟨2, ![384, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S1024x2816, .bf16⟩
  | .hbm, ⟨2, _⟩ => ⟨S1024x2816, .bf16⟩
  | .hbm, ⟨3, _⟩ => ⟨S8448x2816, .bf16⟩
  | .hbm, ⟨4, _⟩ => ⟨S8448x2816, .bf16⟩
  | .hbm, ⟨5, _⟩ => ⟨S8448x2816, .bf16⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S8448x1024 : Shape := ⟨2, ![8448, 1024]⟩
abbrev S1024x2816 : Shape := ⟨2, ![1024, 2816]⟩
abbrev S8448x2816 : Shape := ⟨2, ![8448, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2816, .bf16⟩
  | .hbm, ⟨2, _⟩ => ⟨S1024x2816, .bf16⟩
  | .hbm, ⟨3, _⟩ => ⟨S8448x1024, .f32⟩
  | .hbm, ⟨4, _⟩ => ⟨S1024x2816, .f32⟩
  | .hbm, ⟨5, _⟩ => ⟨S1024x2816, .f32⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S8448x2816, .f32⟩
  | .hbm, ⟨10, _⟩ => ⟨S_, .f32⟩
  | .hbm, ⟨11, _⟩ => ⟨S8448x2816, .f32⟩
  | .hbm, ⟨12, _⟩ => ⟨S8448x2816, .f32⟩
  | .hbm, ⟨13, _⟩ => ⟨S_, .f32⟩
  | .hbm, ⟨14, _⟩ => ⟨S8448x2816, .f32⟩
  | .hbm, ⟨15, _⟩ => ⟨S8448x2816, .f32⟩
  | .hbm, ⟨16, _⟩ => ⟨S_, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S_, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .bf16⟩
  | .hbm, ⟨31, _⟩ => ⟨S8448x2816, .bf16⟩
  | .hbm, ⟨32, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Mid.lean ====
abbrev S8448x2816 : Shape := ⟨2, ![8448, 2816]⟩
abbrev S2816x1024 : Shape := ⟨2, ![2816, 1024]⟩
abbrev S8448x1024 : Shape := ⟨2, ![8448, 1024]⟩
abbrev S_ : Shape := ⟨0, ![]⟩
abbrev S384x1024 : Shape := ⟨2, ![384, 1024]⟩
abbrev S1408x1024 : Shape := ⟨2, ![1408, 1024]⟩
abbrev S384x1408 : Shape := ⟨2, ![384, 1408]⟩

abbrev nBuf : Space → Nat
  | .hbm => 30
  | .vmem => 12
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S2816x1024, .bf16⟩
  | .hbm, ⟨3, _⟩ => ⟨S8448x1024, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S_, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .bf16⟩
  | .hbm, ⟨27, _⟩ => ⟨S8448x2816, .bf16⟩
  | .hbm, ⟨28, _⟩ => ⟨S8448x2816, .bf16⟩
  | .hbm, ⟨29, _⟩ => ⟨S8448x2816, .bf16⟩
  | .local _ .vmem, ⟨0, _⟩ => ⟨S384x1024, .f32⟩
  | .local _ .vmem, ⟨1, _⟩ => ⟨S384x1024, .f32⟩
  | .local _ .vmem, ⟨2, _⟩ => ⟨S1408x1024, .bf16⟩
  | .local _ .vmem, ⟨3, _⟩ => ⟨S1408x1024, .bf16⟩
  | .local _ .vmem, ⟨4, _⟩ => ⟨S384x1408, .bf16⟩
  | .local _ .vmem, ⟨5, _⟩ => ⟨S384x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S8448x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MidRefIdeal.lean ====
abbrev S8448x2816 : Shape := ⟨2, ![8448, 2816]⟩
abbrev S2816x1024 : Shape := ⟨2, ![2816, 1024]⟩
abbrev S8448x1024 : Shape := ⟨2, ![8448, 1024]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8448x2816, .f32⟩
  | .hbm, ⟨1, _⟩ => ⟨S8448x2816, .f32⟩
  | .hbm, ⟨2, _⟩ => ⟨S2816x1024, .bf16⟩
  | .hbm, ⟨3, _⟩ => ⟨S8448x1024, .f32⟩
  | .hbm, ⟨4, _⟩ => ⟨S8448x2816, .f32⟩
  | .hbm, ⟨5, _⟩ => ⟨S8448x2816, .f32⟩
  | .hbm, ⟨6, _⟩ => ⟨S_, .f32⟩
  | .hbm, ⟨7, _⟩ => ⟨S8448x2816, .f32⟩
  | .hbm, ⟨8, _⟩ => ⟨S8448x2816, .f32⟩
  | .hbm, ⟨9, _⟩ => ⟨S_, .f32⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S2816x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S_, .f32⟩
  | .hbm, ⟨24, _⟩ => ⟨S8448x1024, .f32⟩
  | .hbm, ⟨25, _⟩ => ⟨S8448x1024, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .bf16⟩
  | .hbm, ⟨34, _⟩ => ⟨S8448x2816, .bf16⟩
  | _, _ => ⟨S8448x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]
-- ==== Dwb.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwbRefIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dn.lean ====
abbrev S1024x2816 : Shape := ⟨2, ![1024, 2816]⟩
abbrev S8448x2816 : Shape := ⟨2, ![8448, 2816]⟩
abbrev S8448x1024 : Shape := ⟨2, ![8448, 1024]⟩
abbrev S768x1408 : Shape := ⟨2, ![768, 1408]⟩
abbrev S1024x1408 : Shape := ⟨2, ![1024, 1408]⟩
abbrev S768x1024 : Shape := ⟨2, ![768, 1024]⟩

abbrev nBuf : Space → Nat
  | .hbm => 5
  | .vmem => 11
  | .smem => 0
  | _ => 0

abbrev bufTy : (tb : Table) → Fin (tcTables nBuf tb) → BufTy
  | .hbm, ⟨0, _⟩ => ⟨S1024x2816, .bf16⟩
  | .hbm, ⟨1, _⟩ => ⟨S1024x2816, .bf16⟩
  | .hbm, ⟨2, _⟩ => ⟨S8448x2816, .bf16⟩
  | .hbm, ⟨3, _⟩ => ⟨S8448x2816, .bf16⟩
  | .hbm, ⟨4, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1024x1408, .bf16⟩
  | .local _ .vmem, ⟨3, _⟩ => ⟨S1024x1408, .bf16⟩
  | .local _ .vmem, ⟨4, _⟩ => ⟨S768x1408, .bf16⟩
  | .local _ .vmem, ⟨5, _⟩ => ⟨S768x1408, .bf16⟩
  | .local _ .vmem, ⟨6, _⟩ => ⟨S1024x1408, .bf16⟩
  | .local _ .vmem, ⟨7, _⟩ => ⟨S1024x1408, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | _, _ => ⟨S1024x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DnRefIdeal.lean ====
abbrev S1024x2816 : Shape := ⟨2, ![1024, 2816]⟩
abbrev S8448x2816 : Shape := ⟨2, ![8448, 2816]⟩
abbrev S_ : Shape := ⟨0, ![]⟩
abbrev S8448x1024 : Shape := ⟨2, ![8448, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x2816, .bf16⟩
  | .hbm, ⟨1, _⟩ => ⟨S1024x2816, .bf16⟩
  | .hbm, ⟨2, _⟩ => ⟨S8448x2816, .bf16⟩
  | .hbm, ⟨3, _⟩ => ⟨S8448x2816, .bf16⟩
  | .hbm, ⟨4, _⟩ => ⟨S1024x2816, .f32⟩
  | .hbm, ⟨5, _⟩ => ⟨S1024x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x1024, .f32⟩
  | .hbm, ⟨10, _⟩ => ⟨S8448x2816, .f32⟩
  | .hbm, ⟨11, _⟩ => ⟨S8448x2816, .f32⟩
  | .hbm, ⟨12, _⟩ => ⟨S8448x1024, .f32⟩
  | .hbm, ⟨13, _⟩ => ⟨S8448x1024, .f32⟩
  | .hbm, ⟨14, _⟩ => ⟨S8448x1024, .f32⟩
  | _, _ => ⟨S1024x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dwa.lean ====
abbrev S8448x1024 : Shape := ⟨2, ![8448, 1024]⟩
abbrev S8448x2816 : Shape := ⟨2, ![8448, 2816]⟩
abbrev S8x1024x352 : Shape := ⟨3, ![8, 1024, 352]⟩
abbrev S1408x512 : Shape := ⟨2, ![1408, 512]⟩
abbrev S1408x2816 : Shape := ⟨2, ![1408, 2816]⟩
abbrev S8x512x352 : Shape := ⟨3, ![8, 512, 352]⟩
abbrev S512x2816 : Shape := ⟨2, ![512, 2816]⟩
abbrev S512x352 : Shape := ⟨2, ![512, 352]⟩
abbrev S1x512x352 : Shape := ⟨3, ![1, 512, 352]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S8x1024x352, .bf16⟩
  | .local _ .vmem, ⟨0, _⟩ => ⟨S1408x512, .bf16⟩
  | .local _ .vmem, ⟨1, _⟩ => ⟨S1408x512, .bf16⟩
  | .local _ .vmem, ⟨2, _⟩ => ⟨S1408x2816, .bf16⟩
  | .local _ .vmem, ⟨3, _⟩ => ⟨S1408x2816, .bf16⟩
  | .local _ .vmem, ⟨4, _⟩ => ⟨S8x512x352, .bf16⟩
  | .local _ .vmem, ⟨5, _⟩ => ⟨S8x512x352, .bf16⟩
  | .local _ .vmem, ⟨6, _⟩ => ⟨S512x2816, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v11 : BitVec 1 := Scalar.cmpi .eq arg2 c5_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwaRefIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 12
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S8448x1024, .f32⟩
  | .hbm, ⟨3, _⟩ => ⟨S8448x2816, .f32⟩
  | .hbm, ⟨4, _⟩ => ⟨S_, .f32⟩
  | .hbm, ⟨5, _⟩ => ⟨S1024x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S1024x8x352, .bf16⟩
  | .hbm, ⟨11, _⟩ => ⟨S8x1024x352, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Down.lean ====
abbrev S8448x1024 : Shape := ⟨2, ![8448, 1024]⟩
abbrev S8448x2816 : Shape := ⟨2, ![8448, 2816]⟩
abbrev S2816x1024 : Shape := ⟨2, ![2816, 1024]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2816x1024, .bf16⟩
  | .hbm, ⟨3, _⟩ => ⟨S8448x1024, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8448x1024 : Shape := ⟨2, ![8448, 1024]⟩
abbrev S8448x2816 : Shape := ⟨2, ![8448, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2816, .bf16⟩
  | .hbm, ⟨2, _⟩ => ⟨S2816x1024, .bf16⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Zx.lean ====
abbrev S8448x1024 : Shape := ⟨2, ![8448, 1024]⟩
abbrev S1024x6176 : Shape := ⟨2, ![1024, 6176]⟩
abbrev S1024x6144 : Shape := ⟨2, ![1024, 6144]⟩
abbrev S8448x6144 : Shape := ⟨2, ![8448, 6144]⟩
abbrev S768x1024 : Shape := ⟨2, ![768, 1024]⟩
abbrev S1024x2048 : Shape := ⟨2, ![1024, 2048]⟩
abbrev S768x2048 : Shape := ⟨2, ![768, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x6176, .bf16⟩
  | .hbm, ⟨2, _⟩ => ⟨S1024x6144, .bf16⟩
  | .hbm, ⟨3, _⟩ => ⟨S8448x6144, .f32⟩
  | .local _ .vmem, ⟨0, _⟩ => ⟨S768x1024, .bf16⟩
  | .local _ .vmem, ⟨1, _⟩ => ⟨S768x1024, .bf16⟩
  | .local _ .vmem, ⟨2, _⟩ => ⟨S1024x2048, .bf16⟩
  | .local _ .vmem, ⟨3, _⟩ => ⟨S1024x2048, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZxRefIdeal.lean ====
abbrev S8448x1024 : Shape := ⟨2, ![8448, 1024]⟩
abbrev S1024x6176 : Shape := ⟨2, ![1024, 6176]⟩
abbrev S1024x6144 : Shape := ⟨2, ![1024, 6144]⟩
abbrev S8448x6144 : Shape := ⟨2, ![8448, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x6176, .bf16⟩
  | .hbm, ⟨2, _⟩ => ⟨S8448x1024, .f32⟩
  | .hbm, ⟨3, _⟩ => ⟨S1024x6176, .f32⟩
  | .hbm, ⟨4, _⟩ => ⟨S1024x6144, .f32⟩
  | .hbm, ⟨5, _⟩ => ⟨S8448x6144, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwz.lean ====
abbrev S8448x1024 : Shape := ⟨2, ![8448, 1024]⟩
abbrev S8448x2048 : Shape := ⟨2, ![8448, 2048]⟩
abbrev S1024x2048 : Shape := ⟨2, ![1024, 2048]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .f32⟩
  | .hbm, ⟨2, _⟩ => ⟨S1024x2048, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .f32⟩
  | .local _ .vmem, ⟨3, _⟩ => ⟨S1408x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwzRefIdeal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .f32⟩
  | .hbm, ⟨2, _⟩ => ⟨S_, .f32⟩
  | .hbm, ⟨3, _⟩ => ⟨S1024x2048, .f32⟩
  | .hbm, ⟨4, _⟩ => ⟨S8448x1024, .f32⟩
  | .hbm, ⟨5, _⟩ => ⟨S8448x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwx.lean ====
abbrev S8448x1024 : Shape := ⟨2, ![8448, 1024]⟩
abbrev S8448x4096 : Shape := ⟨2, ![8448, 4096]⟩
abbrev S1024x4096 : Shape := ⟨2, ![1024, 4096]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .f32⟩
  | .hbm, ⟨2, _⟩ => ⟨S1024x4096, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .f32⟩
  | .local _ .vmem, ⟨3, _⟩ => ⟨S1408x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwxRefIdeal.lean ====
abbrev S8448x1024 : Shape := ⟨2, ![8448, 1024]⟩
abbrev S8448x4096 : Shape := ⟨2, ![8448, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x4096, .f32⟩
  | .hbm, ⟨2, _⟩ => ⟨S_, .f32⟩
  | .hbm, ⟨3, _⟩ => ⟨S1024x4096, .f32⟩
  | .hbm, ⟨4, _⟩ => ⟨S8448x1024, .f32⟩
  | .hbm, ⟨5, _⟩ => ⟨S8448x4096, .f32⟩
  | .hbm, ⟨6, _⟩ => ⟨S4096x1024, .f32⟩
  | .hbm, ⟨7, _⟩ => ⟨S1024x4096, .f32⟩
  | .hbm, ⟨8, _⟩ => ⟨S1024x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Duz.lean ====
abbrev S1024x6176 : Shape := ⟨2, ![1024, 6176]⟩
abbrev S8448x2048 : Shape := ⟨2, ![8448, 2048]⟩
abbrev S1024x6144 : Shape := ⟨2, ![1024, 6144]⟩
abbrev S8448x1024 : Shape := ⟨2, ![8448, 1024]⟩
abbrev S768x1024 : Shape := ⟨2, ![768, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x6176, .bf16⟩
  | .hbm, ⟨1, _⟩ => ⟨S8448x2048, .f32⟩
  | .hbm, ⟨2, _⟩ => ⟨S1024x6144, .bf16⟩
  | .hbm, ⟨3, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S1024x6176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuzRefIdeal.lean ====
abbrev S1024x6176 : Shape := ⟨2, ![1024, 6176]⟩
abbrev S8448x2048 : Shape := ⟨2, ![8448, 2048]⟩
abbrev S_ : Shape := ⟨0, ![]⟩
abbrev S8448x1024 : Shape := ⟨2, ![8448, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1024x6176, .bf16⟩
  | .hbm, ⟨1, _⟩ => ⟨S8448x2048, .f32⟩
  | .hbm, ⟨2, _⟩ => ⟨S1024x6176, .f32⟩
  | .hbm, ⟨3, _⟩ => ⟨S_, .f32⟩
  | .hbm, ⟨4, _⟩ => ⟨S8448x1024, .f32⟩
  | .hbm, ⟨5, _⟩ => ⟨S1024x2048, .f32⟩
  | .hbm, ⟨6, _⟩ => ⟨S8448x2048, .f32⟩
  | .hbm, ⟨7, _⟩ => ⟨S8448x1024, .f32⟩
  | _, _ => ⟨S1024x6176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dux.lean ====
abbrev S1024x6176 : Shape := ⟨2, ![1024, 6176]⟩
abbrev S8448x4096 : Shape := ⟨2, ![8448, 4096]⟩
abbrev S8448x1024 : Shape := ⟨2, ![8448, 1024]⟩
abbrev S1024x6144 : Shape := ⟨2, ![1024, 6144]⟩
abbrev S768x1024 : Shape := ⟨2, ![768, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1024x6176, .bf16⟩
  | .hbm, ⟨1, _⟩ => ⟨S8448x4096, .f32⟩
  | .hbm, ⟨2, _⟩ => ⟨S8448x1024, .f32⟩
  | .hbm, ⟨3, _⟩ => ⟨S1024x6144, .bf16⟩
  | .hbm, ⟨4, _⟩ => ⟨S8448x1024, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S1024x6176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DuxRefIdeal.lean ====
abbrev S1024x6176 : Shape := ⟨2, ![1024, 6176]⟩
abbrev S8448x4096 : Shape := ⟨2, ![8448, 4096]⟩
abbrev S8448x1024 : Shape := ⟨2, ![8448, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S1024x6176, .bf16⟩
  | .hbm, ⟨1, _⟩ => ⟨S8448x4096, .f32⟩
  | .hbm, ⟨2, _⟩ => ⟨S8448x1024, .f32⟩
  | .hbm, ⟨3, _⟩ => ⟨S1024x6176, .f32⟩
  | .hbm, ⟨4, _⟩ => ⟨S_, .f32⟩
  | .hbm, ⟨5, _⟩ => ⟨S8448x1024, .f32⟩
  | .hbm, ⟨6, _⟩ => ⟨S1024x4096, .f32⟩
  | .hbm, ⟨7, _⟩ => ⟨S8448x4096, .f32⟩
  | .hbm, ⟨8, _⟩ => ⟨S8448x1024, .f32⟩
  | .hbm, ⟨9, _⟩ => ⟨S8448x1024, .f32⟩
  | _, _ => ⟨S1024x6176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== So.lean ====
abbrev S8448x1024 : Shape := ⟨2, ![8448, 1024]⟩
abbrev S8448x2048 : Shape := ⟨2, ![8448, 2048]⟩
abbrev S2048x1024 : Shape := ⟨2, ![2048, 1024]⟩
abbrev S768x1024 : Shape := ⟨2, ![768, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S2048x1024, .bf16⟩
  | .hbm, ⟨3, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SoRefIdeal.lean ====
abbrev S8448x1024 : Shape := ⟨2, ![8448, 1024]⟩
abbrev S8448x2048 : Shape := ⟨2, ![8448, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x2048, .bf16⟩
  | .hbm, ⟨2, _⟩ => ⟨S2048x1024, .bf16⟩
  | .hbm, ⟨3, _⟩ => ⟨S8448x2048, .f32⟩
  | .hbm, ⟨4, _⟩ => ⟨S2048x1024, .f32⟩
  | .hbm, ⟨5, _⟩ => ⟨S8448x1024, .f32⟩
  | .hbm, ⟨6, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dwo.lean ====
abbrev S8448x2048 : Shape := ⟨2, ![8448, 2048]⟩
abbrev S8448x1024 : Shape := ⟨2, ![8448, 1024]⟩
abbrev S2048x1024 : Shape := ⟨2, ![2048, 1024]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .f32⟩
  | .hbm, ⟨2, _⟩ => ⟨S2048x1024, .bf16⟩
  | .local _ .vmem, ⟨0, _⟩ => ⟨S1408x512, .bf16⟩
  | .local _ .vmem, ⟨1, _⟩ => ⟨S1408x512, .bf16⟩
  | .local _ .vmem, ⟨2, _⟩ => ⟨S1408x1024, .f32⟩
  | .local _ .vmem, ⟨3, _⟩ => ⟨S1408x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond2 (i : grid0.Coords) : BitVec 1 :=
  let arg2 : BitVec 32 := BitVec.ofNat 32 (i 2).val
  let c5_i32 : BitVec 32 := 5#32
  let v12 : BitVec 1 := Scalar.cmpi .eq arg2 c5_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S8448x2048 : Shape := ⟨2, ![8448, 2048]⟩
abbrev S8448x1024 : Shape := ⟨2, ![8448, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .f32⟩
  | .hbm, ⟨2, _⟩ => ⟨S_, .f32⟩
  | .hbm, ⟨3, _⟩ => ⟨S2048x1024, .f32⟩
  | .hbm, ⟨4, _⟩ => ⟨S8448x2048, .f32⟩
  | .hbm, ⟨5, _⟩ => ⟨S8448x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dy.lean ====
abbrev S2048x1024 : Shape := ⟨2, ![2048, 1024]⟩
abbrev S8448x1024 : Shape := ⟨2, ![8448, 1024]⟩
abbrev S8448x2048 : Shape := ⟨2, ![8448, 2048]⟩
abbrev S768x1024 : Shape := ⟨2, ![768, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S8448x1024, .f32⟩
  | .hbm, ⟨2, _⟩ => ⟨S8448x2048, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S2048x1024 : Shape := ⟨2, ![2048, 1024]⟩
abbrev S8448x1024 : Shape := ⟨2, ![8448, 1024]⟩
abbrev S_ : Shape := ⟨0, ![]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8448x1024, .f32⟩
  | .hbm, ⟨2, _⟩ => ⟨S_, .f32⟩
  | .hbm, ⟨3, _⟩ => ⟨S8448x2048, .f32⟩
  | .hbm, ⟨4, _⟩ => ⟨S2048x1024, .f32⟩
  | .hbm, ⟨5, _⟩ => ⟨S8448x1024, .f32⟩
  | .hbm, ⟨6, _⟩ => ⟨S8448x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qp.lean ====
abbrev S8448x1024 : Shape := ⟨2, ![8448, 1024]⟩
abbrev S1024x1024 : Shape := ⟨2, ![1024, 1024]⟩
abbrev S16x8448x64 : Shape := ⟨3, ![16, 8448, 64]⟩
abbrev S768x1024 : Shape := ⟨2, ![768, 1024]⟩
abbrev S16x768x64 : Shape := ⟨3, ![16, 768, 64]⟩
abbrev S768x64 : Shape := ⟨2, ![768, 64]⟩
abbrev S1x768x64 : Shape := ⟨3, ![1, 768, 64]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S16x8448x64, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S16x768x64, .f32⟩
  | .local _ .vmem, ⟨4, _⟩ => ⟨S16x768x64, .f32⟩
  | .local _ .vmem, ⟨5, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S16x768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QpRefIdeal.lean ====
abbrev S8448x1024 : Shape := ⟨2, ![8448, 1024]⟩
abbrev S1024x1024 : Shape := ⟨2, ![1024, 1024]⟩
abbrev S8448x16x64 : Shape := ⟨3, ![8448, 16, 64]⟩
abbrev S16x8448x64 : Shape := ⟨3, ![16, 8448, 64]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x16x64, .f32⟩
  | .hbm, ⟨6, _⟩ => ⟨S16x8448x64, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Vp.lean ====
abbrev S8448x1024 : Shape := ⟨2, ![8448, 1024]⟩
abbrev S1024x1024 : Shape := ⟨2, ![1024, 1024]⟩
abbrev S16x8448x64 : Shape := ⟨3, ![16, 8448, 64]⟩
abbrev S768x1024 : Shape := ⟨2, ![768, 1024]⟩
abbrev S16x768x64 : Shape := ⟨3, ![16, 768, 64]⟩
abbrev S768x64 : Shape := ⟨2, ![768, 64]⟩
abbrev S1x768x64 : Shape := ⟨3, ![1, 768, 64]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S16x8448x64, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S16x768x64, .bf16⟩
  | .local _ .vmem, ⟨4, _⟩ => ⟨S16x768x64, .bf16⟩
  | .local _ .vmem, ⟨5, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S16x768x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== VpRefIdeal.lean ====
abbrev S8448x1024 : Shape := ⟨2, ![8448, 1024]⟩
abbrev S1024x1024 : Shape := ⟨2, ![1024, 1024]⟩
abbrev S8448x16x64 : Shape := ⟨3, ![8448, 16, 64]⟩
abbrev S16x8448x64 : Shape := ⟨3, ![16, 8448, 64]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x16x64, .f32⟩
  | .hbm, ⟨6, _⟩ => ⟨S16x8448x64, .f32⟩
  | .hbm, ⟨7, _⟩ => ⟨S16x8448x64, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Do.lean ====
abbrev S1024x1024 : Shape := ⟨2, ![1024, 1024]⟩
abbrev S8448x1024 : Shape := ⟨2, ![8448, 1024]⟩
abbrev S16x8448x64 : Shape := ⟨3, ![16, 8448, 64]⟩
abbrev S768x1024 : Shape := ⟨2, ![768, 1024]⟩
abbrev S16x768x64 : Shape := ⟨3, ![16, 768, 64]⟩
abbrev S768x64 : Shape := ⟨2, ![768, 64]⟩
abbrev S1x768x64 : Shape := ⟨3, ![1, 768, 64]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S8448x1024, .f32⟩
  | .hbm, ⟨2, _⟩ => ⟨S16x8448x64, .f32⟩
  | .local _ .vmem, ⟨0, _⟩ => ⟨S768x1024, .f32⟩
  | .local _ .vmem, ⟨1, _⟩ => ⟨S768x1024, .f32⟩
  | .local _ .vmem, ⟨2, _⟩ => ⟨S1024x1024, .bf16⟩
  | .local _ .vmem, ⟨3, _⟩ => ⟨S16x768x64, .f32⟩
  | .local _ .vmem, ⟨4, _⟩ => ⟨S16x768x64, .f32⟩
  | .local _ .vmem, ⟨5, _⟩ => ⟨S768x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S16x768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DoRefIdeal.lean ====
abbrev S1024x1024 : Shape := ⟨2, ![1024, 1024]⟩
abbrev S8448x1024 : Shape := ⟨2, ![8448, 1024]⟩
abbrev S_ : Shape := ⟨0, ![]⟩
abbrev S16x8448x64 : Shape := ⟨3, ![16, 8448, 64]⟩
abbrev S8448x16x64 : Shape := ⟨3, ![8448, 16, 64]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8448x1024, .f32⟩
  | .hbm, ⟨2, _⟩ => ⟨S_, .f32⟩
  | .hbm, ⟨3, _⟩ => ⟨S16x8448x64, .f32⟩
  | .hbm, ⟨4, _⟩ => ⟨S1024x1024, .f32⟩
  | .hbm, ⟨5, _⟩ => ⟨S8448x16x64, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x16x64, .f32⟩
  | .hbm, ⟨10, _⟩ => ⟨S16x8448x64, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ao.lean ====
abbrev S8448x1024 : Shape := ⟨2, ![8448, 1024]⟩
abbrev S16x8448x64 : Shape := ⟨3, ![16, 8448, 64]⟩
abbrev S1024x1024 : Shape := ⟨2, ![1024, 1024]⟩
abbrev S16x768x64 : Shape := ⟨3, ![16, 768, 64]⟩
abbrev S768x1024 : Shape := ⟨2, ![768, 1024]⟩
abbrev S1x768x64 : Shape := ⟨3, ![1, 768, 64]⟩
abbrev S768x64 : Shape := ⟨2, ![768, 64]⟩

abbrev nBuf : Space → Nat
  | .hbm => 4
  | .vmem => 9
  | .smem => 0
  | _ => 0

abbrev bufTy : (tb : Table) → Fin (tcTables nBuf tb) → BufTy
  | .hbm, ⟨0, _⟩ => ⟨S8448x1024, .f32⟩
  | .hbm, ⟨1, _⟩ => ⟨S16x8448x64, .f32⟩
  | .hbm, ⟨2, _⟩ => ⟨S1024x1024, .bf16⟩
  | .hbm, ⟨3, _⟩ => ⟨S8448x1024, .f32⟩
  | .local _ .vmem, ⟨0, _⟩ => ⟨S16x768x64, .f32⟩
  | .local _ .vmem, ⟨1, _⟩ => ⟨S16x768x64, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_58 : BitVec 32 := 0#32
  let v107 : BitVec 1 := Scalar.cmpi .eq arg2 c0_i32_58
  let v108 : BitVec 32 := Scalar.extui v107
  let c0_i32_59 : BitVec 32 := 0#32
  let v109 : BitVec 1 := Scalar.cmpi .ne v108 c0_i32_59
  v109

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AoRefIdeal.lean ====
abbrev S8448x1024 : Shape := ⟨2, ![8448, 1024]⟩
abbrev S16x8448x64 : Shape := ⟨3, ![16, 8448, 64]⟩
abbrev S1024x1024 : Shape := ⟨2, ![1024, 1024]⟩
abbrev S8448x16x64 : Shape := ⟨3, ![8448, 16, 64]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S16x8448x64, .f32⟩
  | .hbm, ⟨2, _⟩ => ⟨S1024x1024, .bf16⟩
  | .hbm, ⟨3, _⟩ => ⟨S1024x1024, .f32⟩
  | .hbm, ⟨4, _⟩ => ⟨S8448x16x64, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwp.lean ====
abbrev S16x8448x64 : Shape := ⟨3, ![16, 8448, 64]⟩
abbrev S8448x1024 : Shape := ⟨2, ![8448, 1024]⟩
abbrev S1024x1024 : Shape := ⟨2, ![1024, 1024]⟩
abbrev S16x1408x64 : Shape := ⟨3, ![16, 1408, 64]⟩
abbrev S1408x1024 : Shape := ⟨2, ![1408, 1024]⟩
abbrev S1x1408x64 : Shape := ⟨3, ![1, 1408, 64]⟩
abbrev S1408x64 : Shape := ⟨2, ![1408, 64]⟩

abbrev nBuf : Space → Nat
  | .hbm => 3
  | .vmem => 7
  | .smem => 0
  | _ => 0

abbrev bufTy : (tb : Table) → Fin (tcTables nBuf tb) → BufTy
  | .hbm, ⟨0, _⟩ => ⟨S16x8448x64, .f32⟩
  | .hbm, ⟨1, _⟩ => ⟨S8448x1024, .f32⟩
  | .hbm, ⟨2, _⟩ => ⟨S1024x1024, .bf16⟩
  | .local _ .vmem, ⟨0, _⟩ => ⟨S16x1408x64, .f32⟩
  | .local _ .vmem, ⟨1, _⟩ => ⟨S16x1408x64, .f32⟩
  | .local _ .vmem, ⟨2, _⟩ => ⟨S1408x1024, .f32⟩
  | .local _ .vmem, ⟨3, _⟩ => ⟨S1408x1024, .f32⟩
  | .local _ .vmem, ⟨4, _⟩ => ⟨S1024x1024, .bf16⟩
  | .local _ .vmem, ⟨5, _⟩ => ⟨S1024x1024, .f32⟩
  | .local _ .vmem, ⟨6, _⟩ => ⟨S1408x1024, .bf16⟩
  | _, _ => ⟨S16x8448x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v108 : BitVec 1 := Scalar.cmpi .eq arg2 c5_i32
  let v109 : BitVec 32 := Scalar.extui v108
  let c0_i32_58 : BitVec 32 := 0#32
  let v110 : BitVec 1 := Scalar.cmpi .ne v109 c0_i32_58
  v110

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1408x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwpRefIdeal.lean ====
abbrev S16x8448x64 : Shape := ⟨3, ![16, 8448, 64]⟩
abbrev S8448x1024 : Shape := ⟨2, ![8448, 1024]⟩
abbrev S_ : Shape := ⟨0, ![]⟩
abbrev S1024x1024 : Shape := ⟨2, ![1024, 1024]⟩
abbrev S8448x16x64 : Shape := ⟨3, ![8448, 16, 64]⟩

abbrev nBuf : Space → Nat
  | .hbm => 10
  | .vmem => 0
  | .smem => 0
  | _ => 0

abbrev bufTy : (tb : Table) → Fin (tcTables nBuf tb) → BufTy
  | .hbm, ⟨0, _⟩ => ⟨S16x8448x64, .f32⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x16x64, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16x8448x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwq.lean ====
abbrev S8448x1024 : Shape := ⟨2, ![8448, 1024]⟩
abbrev S16x8448x64 : Shape := ⟨3, ![16, 8448, 64]⟩
abbrev S1024x1024 : Shape := ⟨2, ![1024, 1024]⟩
abbrev S1408x512 : Shape := ⟨2, ![1408, 512]⟩
abbrev S16x1408x64 : Shape := ⟨3, ![16, 1408, 64]⟩
abbrev S512x1024 : Shape := ⟨2, ![512, 1024]⟩
abbrev S1408x1024 : Shape := ⟨2, ![1408, 1024]⟩
abbrev S1x1408x64 : Shape := ⟨3, ![1, 1408, 64]⟩
abbrev S1408x64 : Shape := ⟨2, ![1408, 64]⟩

abbrev nBuf : Space → Nat
  | .hbm => 3
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S16x8448x64, .f32⟩
  | .hbm, ⟨2, _⟩ => ⟨S1024x1024, .bf16⟩
  | .local _ .vmem, ⟨0, _⟩ => ⟨S1408x512, .bf16⟩
  | .local _ .vmem, ⟨1, _⟩ => ⟨S1408x512, .bf16⟩
  | .local _ .vmem, ⟨2, _⟩ => ⟨S16x1408x64, .f32⟩
  | .local _ .vmem, ⟨3, _⟩ => ⟨S16x1408x64, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S1408x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v107 : BitVec 1 := Scalar.cmpi .eq arg2 c5_i32
  let v108 : BitVec 32 := Scalar.extui v107
  let c0_i32_58 : BitVec 32 := 0#32
  let v109 : BitVec 1 := Scalar.cmpi .ne v108 c0_i32_58
  v109

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x1408x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwqRefIdeal.lean ====
abbrev S8448x1024 : Shape := ⟨2, ![8448, 1024]⟩
abbrev S16x8448x64 : Shape := ⟨3, ![16, 8448, 64]⟩
abbrev S_ : Shape := ⟨0, ![]⟩
abbrev S1024x1024 : Shape := ⟨2, ![1024, 1024]⟩
abbrev S8448x16x64 : Shape := ⟨3, ![8448, 16, 64]⟩

abbrev nBuf : Space → Nat
  | .hbm => 13
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S16x8448x64, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x16x64, .f32⟩
  | .hbm, ⟨7, _⟩ => ⟨S16x8448x64, .f32⟩
  | .hbm, ⟨8, _⟩ => ⟨S8448x16x64, .f32⟩
  | .hbm, ⟨9, _⟩ => ⟨S8448x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Duq.lean ====
abbrev S1024x1024 : Shape := ⟨2, ![1024, 1024]⟩
abbrev S16x8448x64 : Shape := ⟨3, ![16, 8448, 64]⟩
abbrev S8448x1024 : Shape := ⟨2, ![8448, 1024]⟩
abbrev S16x768x64 : Shape := ⟨3, ![16, 768, 64]⟩
abbrev S768x1024 : Shape := ⟨2, ![768, 1024]⟩
abbrev S1x768x64 : Shape := ⟨3, ![1, 768, 64]⟩
abbrev S768x64 : Shape := ⟨2, ![768, 64]⟩

abbrev nBuf : Space → Nat
  | .hbm => 3
  | .vmem => 7
  | .smem => 0
  | _ => 0

abbrev bufTy : (tb : Table) → Fin (tcTables nBuf tb) → BufTy
  | .hbm, ⟨0, _⟩ => ⟨S1024x1024, .bf16⟩
  | .hbm, ⟨1, _⟩ => ⟨S16x8448x64, .f32⟩
  | .hbm, ⟨2, _⟩ => ⟨S8448x1024, .f32⟩
  | .local _ .vmem, ⟨0, _⟩ => ⟨S16x768x64, .f32⟩
  | .local _ .vmem, ⟨1, _⟩ => ⟨S16x768x64, .f32⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_58 : BitVec 32 := 0#32
  let v107 : BitVec 1 := Scalar.cmpi .eq arg2 c0_i32_58
  let v108 : BitVec 32 := Scalar.extui v107
  let c0_i32_59 : BitVec 32 := 0#32
  let v109 : BitVec 1 := Scalar.cmpi .ne v108 c0_i32_59
  v109

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DuqRefIdeal.lean ====
abbrev S1024x1024 : Shape := ⟨2, ![1024, 1024]⟩
abbrev S16x8448x64 : Shape := ⟨3, ![16, 8448, 64]⟩
abbrev S_ : Shape := ⟨0, ![]⟩
abbrev S8448x1024 : Shape := ⟨2, ![8448, 1024]⟩
abbrev S8448x16x64 : Shape := ⟨3, ![8448, 16, 64]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S16x8448x64, .f32⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x16x64, .f32⟩
  | .hbm, ⟨7, _⟩ => ⟨S16x8448x64, .f32⟩
  | .hbm, ⟨8, _⟩ => ⟨S8448x16x64, .f32⟩
  | .hbm, ⟨9, _⟩ => ⟨S8448x1024, .f32⟩
  | .hbm, ⟨10, _⟩ => ⟨S8448x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dkv.lean ====
abbrev S1024x1024 : Shape := ⟨2, ![1024, 1024]⟩
abbrev S16x8448x64 : Shape := ⟨3, ![16, 8448, 64]⟩
abbrev S8448x1024 : Shape := ⟨2, ![8448, 1024]⟩
abbrev S16x768x64 : Shape := ⟨3, ![16, 768, 64]⟩
abbrev S768x1024 : Shape := ⟨2, ![768, 1024]⟩
abbrev S1x768x64 : Shape := ⟨3, ![1, 768, 64]⟩
abbrev S768x64 : Shape := ⟨2, ![768, 64]⟩

abbrev nBuf : Space → Nat
  | .hbm => 5
  | .vmem => 11
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S16x8448x64, .f32⟩
  | .hbm, ⟨3, _⟩ => ⟨S16x8448x64, .f32⟩
  | .hbm, ⟨4, _⟩ => ⟨S8448x1024, .f32⟩
  | .local _ .vmem, ⟨0, _⟩ => ⟨S16x768x64, .f32⟩
  | .local _ .vmem, ⟨1, _⟩ => ⟨S16x768x64, .f32⟩
  | .local _ .vmem, ⟨2, _⟩ => ⟨S1024x1024, .bf16⟩
  | .local _ .vmem, ⟨3, _⟩ => ⟨S16x768x64, .f32⟩
  | .local _ .vmem, ⟨4, _⟩ => ⟨S16x768x64, .f32⟩
  | .local _ .vmem, ⟨5, _⟩ => ⟨S1024x1024, .bf16⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S768x1024, .bf16⟩
  | .local _ .vmem, ⟨10, _⟩ => ⟨S768x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![11, 1, 1], ![false, false, false]⟩

def k0_cond2 (i : grid0.Coords) : BitVec 1 :=
  let arg2 : BitVec 32 := BitVec.ofNat 32 (i 2).val
  let c0_i32_143 : BitVec 32 := 0#32
  let v207 : BitVec 1 := Scalar.cmpi .eq arg2 c0_i32_143
  let v208 : BitVec 32 := Scalar.extui v207
  let c0_i32_144 : BitVec 32 := 0#32
  let v209 : BitVec 1 := Scalar.cmpi .ne v208 c0_i32_144
  v209

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S16x768x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DkvRefIdeal.lean ====
abbrev S1024x1024 : Shape := ⟨2, ![1024, 1024]⟩
abbrev S16x8448x64 : Shape := ⟨3, ![16, 8448, 64]⟩
abbrev S_ : Shape := ⟨0, ![]⟩
abbrev S8448x1024 : Shape := ⟨2, ![8448, 1024]⟩
abbrev S8448x16x64 : Shape := ⟨3, ![8448, 16, 64]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S16x8448x64, .f32⟩
  | .hbm, ⟨3, _⟩ => ⟨S16x8448x64, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x16x64, .f32⟩
  | .hbm, ⟨10, _⟩ => ⟨S16x8448x64, .f32⟩
  | .hbm, ⟨11, _⟩ => ⟨S8448x1024, .f32⟩
  | .hbm, ⟨12, _⟩ => ⟨S8448x16x64, .f32⟩
  | .hbm, ⟨13, _⟩ => ⟨S16x8448x64, .f32⟩
  | .hbm, ⟨14, _⟩ => ⟨S8448x16x64, .f32⟩
  | .hbm, ⟨15, _⟩ => ⟨S8448x1024, .f32⟩
  | .hbm, ⟨16, _⟩ => ⟨S8448x1024, .f32⟩
  | .hbm, ⟨17, _⟩ => ⟨S8448x16x64, .f32⟩
  | .hbm, ⟨18, _⟩ => ⟨S8448x1024, .f32⟩
  | .hbm, ⟨19, _⟩ => ⟨S8448x1024, .f32⟩
  | .hbm, ⟨20, _⟩ => ⟨S8448x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Fwd.lean ====
abbrev S16x8448x64 : Shape := ⟨3, ![16, 8448, 64]⟩
abbrev S_ : Shape := ⟨0, ![]⟩
abbrev S1x128 : Shape := ⟨2, ![1, 128]⟩
abbrev S16x8448x128 : Shape := ⟨3, ![16, 8448, 128]⟩
abbrev S16x33x8x128 : Shape := ⟨4, ![16, 33, 8, 128]⟩
abbrev S1x256x64 : Shape := ⟨3, ![1, 256, 64]⟩
abbrev S1x8448x64 : Shape := ⟨3, ![1, 8448, 64]⟩
abbrev S1x256x128 : Shape := ⟨3, ![1, 256, 128]⟩
abbrev S1x1x8x128 : Shape := ⟨4, ![1, 1, 8, 128]⟩
abbrev S256x256 : Shape := ⟨2, ![256, 256]⟩
abbrev S256x128 : Shape := ⟨2, ![256, 128]⟩
abbrev S512x256 : Shape := ⟨2, ![512, 256]⟩
abbrev S256x64 : Shape := ⟨2, ![256, 64]⟩
abbrev S1x1 : Shape := ⟨2, ![1, 1]⟩
abbrev S256x512 : Shape := ⟨2, ![256, 512]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S8x128 : Shape := ⟨2, ![8, 128]⟩

abbrev nBuf : Space → Nat
  | .hbm => 8
  | .vmem => 13
  | .smem => 0
  | _ => 0

abbrev bufTy : (tb : Table) → Fin (tcTables nBuf tb) → BufTy
  | .hbm, ⟨0, _⟩ => ⟨S16x8448x64, .bf16⟩
  | .hbm, ⟨1, _⟩ => ⟨S16x8448x64, .bf16⟩
  | .hbm, ⟨2, _⟩ => ⟨S16x8448x64, .bf16⟩
  | .hbm, ⟨3, _⟩ => ⟨S_, .f32⟩
  | .hbm, ⟨4, _⟩ => ⟨S1x128, .f32⟩
  | .hbm, ⟨5, _⟩ => ⟨S16x8448x64, .f32⟩
  | .hbm, ⟨6, _⟩ => ⟨S16x8448x128, .f32⟩
  | .hbm, ⟨7, _⟩ => ⟨S16x33x8x128, .f32⟩
  | .local _ .vmem, ⟨0, _⟩ => ⟨S1x256x64, .bf16⟩
  | .local _ .vmem, ⟨1, _⟩ => ⟨S1x256x64, .bf16⟩
  | .local _ .vmem, ⟨2, _⟩ => ⟨S1x8448x64, .bf16⟩
  | .local _ .vmem, ⟨3, _⟩ => ⟨S1x8448x64, .bf16⟩
  | .local _ .vmem, ⟨4, _⟩ => ⟨S1x8448x64, .bf16⟩
  | .local _ .vmem, ⟨5, _⟩ => ⟨S1x8448x64, .bf16⟩
  | .local _ .vmem, ⟨6, _⟩ => ⟨S1x128, .f32⟩
  | .local _ .vmem, ⟨7, _⟩ => ⟨S1x256x64, .f32⟩
  | .local _ .vmem, ⟨8, _⟩ => ⟨S1x256x64, .f32⟩
  | .local _ .vmem, ⟨9, _⟩ => ⟨S1x256x128, .f32⟩
  | .local _ .vmem, ⟨10, _⟩ => ⟨S1x256x128, .f32⟩
  | .local _ .vmem, ⟨11, _⟩ => ⟨S1x1x8x128, .f32⟩
  | .local _ .vmem, ⟨12, _⟩ => ⟨S1x1x8x128, .f32⟩
  | _, _ => ⟨S16x8448x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 33], ![false, false]⟩

def k0_mult1 (i : grid0.Coords) : BitVec 32 :=
  let arg1 : BitVec 32 := BitVec.ofNat 32 (i 1).val
  let c256_i32_7 : BitVec 32 := 256#32
  let v29 : BitVec 32 := Scalar.muli arg1 c256_i32_7
  v29
def k0_off1 (i : grid0.Coords) : Fin 3 → Nat :=
  let c0_8 : Index := 0#32
  let arg1 : BitVec 32 := BitVec.ofNat 32 (i 1).val
  let c256_i32_7 : BitVec 32 := 256#32
  let v29 : BitVec 32 := Scalar.muli arg1 c256_i32_7
  let v30 : BitVec 32 := v29
  let v31 : Index := Scalar.indexCast v30
  let c0_9 : Index := 0#32
  ![0, v31.toNat, 0]
def k0_mult2 (i : grid0.Coords) : BitVec 32 :=
  let arg1 : BitVec 32 := BitVec.ofNat 32 (i 1).val
  let c1_i32_12 : BitVec 32 := 1#32
  let v37 : BitVec 32 := Scalar.subi arg1 c1_i32_12
  let c0_i32_13 : BitVec 32 := 0#32
  let v38 : BitVec 32 := Scalar.maxsi v37 c0_i32_13
  let c256_i32_14 : BitVec 32 := 256#32
  let v39 : BitVec 32 := Scalar.muli v38 c256_i32_14
  v39
def k0_off2 (i : grid0.Coords) : Fin 3 → Nat :=
  let c0_15 : Index := 0#32
  let arg1 : BitVec 32 := BitVec.ofNat 32 (i 1).val
  let c1_i32_12 : BitVec 32 := 1#32
  let v37 : BitVec 32 := Scalar.subi arg1 c1_i32_12
  let c0_i32_13 : BitVec 32 := 0#32
  let v38 : BitVec 32 := Scalar.maxsi v37 c0_i32_13
  let c256_i32_14 : BitVec 32 := 256#32
  let v39 : BitVec 32 := Scalar.muli v38 c256_i32_14
  let v40 : BitVec 32 := v39
  let v41 : Index := Scalar.indexCast v40
  let c0_16 : Index := 0#32
  ![0, v41.toNat, 0]
def k0_mult3 (arg9 : BitVec 32) : BitVec 32 :=
  let c256_i32_55 : BitVec 32 := 256#32
  let v142 : BitVec 32 := Scalar.muli arg9 c256_i32_55
  v142

def k0_off3 (arg9 : BitVec 32) : Fin 3 → Nat :=
  let c0_56 : Index := 0#32
  let c256_i32_55 : BitVec 32 := 256#32
  let v142 : BitVec 32 := Scalar.muli arg9 c256_i32_55
  let v143 : BitVec 32 := v142
  let v144 : Index := Scalar.indexCast v143
  let c0_57 : Index := 0#32
  ![0, v144.toNat, 0]

def k0_chk1 (arg9 : BitVec 32) : Prop :=
  (256 ∣ (k0_mult3 arg9).toNat) ∧
  (∀ a, (k0_off3 arg9) a + S1x256x64.size a ≤ S1x8448x64.size a)
theorem k0_mult3_dvd : ∀ (arg9 : BitVec 32) (k0_hw1 : k0_chk1 arg9), 256 ∣ (k0_mult3 arg9).toNat := fun arg9 k0_hw1 => k0_hw1.1
theorem k0_off3_inb : ∀ (arg9 : BitVec 32) (k0_hw1 : k0_chk1 arg9), ∀ a, (k0_off3 arg9) a + S1x256x64.size a ≤ S1x8448x64.size a := fun arg9 k0_hw1 => k0_hw1.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FwdIdeal.lean ====
variable {F : FTy → Type} [FloatOps F] [Named F]
def κ : String → Option EReal := fun
  | "neg_log2e" => some ((-((Real.log 2)⁻¹) : ℝ) : EReal)
  | _ => none
-- ==== FwdRefIdeal.lean ====
abbrev S16x8448x64 : Shape := ⟨3, ![16, 8448, 64]⟩
abbrev S16x8448x8448 : Shape := ⟨3, ![16, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S_ : Shape := ⟨0, ![]⟩
abbrev S16x8448x33x256 : Shape := ⟨4, ![16, 8448, 33, 256]⟩
abbrev S16x8448x33 : Shape := ⟨3, ![16, 8448, 33]⟩
abbrev S33 : Shape := ⟨1, ![33]⟩
abbrev S1x33 : Shape := ⟨2, ![1, 33]⟩
abbrev S128 : Shape := ⟨1, ![128]⟩
abbrev S128x1 : Shape := ⟨2, ![128, 1]⟩
abbrev S128x33 : Shape := ⟨2, ![128, 33]⟩
abbrev S16x8448x1x33 : Shape := ⟨4, ![16, 8448, 1, 33]⟩
abbrev S16x8448x128x33 : Shape := ⟨4, ![16, 8448, 128, 33]⟩
abbrev S16x8448x128 : Shape := ⟨3, ![16, 8448, 128]⟩

abbrev nBuf : Space → Nat
  | .hbm => 113
  | .vmem => 0
  | .smem => 0
  | _ => 0

abbrev bufTy : (tb : Table) → Fin (tcTables nBuf tb) → BufTy
  | .hbm, ⟨0, _⟩ => ⟨S16x8448x64, .bf16⟩
  | .hbm, ⟨1, _⟩ => ⟨S16x8448x64, .bf16⟩
  | .hbm, ⟨2, _⟩ => ⟨S16x8448x64, .bf16⟩
  | .hbm, ⟨3, _⟩ => ⟨S16x8448x64, .f32⟩
  | .hbm, ⟨4, _⟩ => ⟨S16x8448x64, .f32⟩
  | .hbm, ⟨5, _⟩ => ⟨S16x8448x64, .f32⟩
  | .hbm, ⟨6, _⟩ => ⟨S16x8448x8448, .f32⟩
  | .hbm, ⟨7, _⟩ => ⟨S8448, .i32⟩
  | .hbm, ⟨8, _⟩ => ⟨S1x8448, .i32⟩
  | .hbm, ⟨9, _⟩ => ⟨S8448, .i32⟩
  | .hbm, ⟨10, _⟩ => ⟨S8448x1, .i32⟩
  | .hbm, ⟨11, _⟩ => ⟨S8448x8448, .i32⟩
  | .hbm, ⟨12, _⟩ => ⟨S8448x8448, .i32⟩
  | .hbm, ⟨13, _⟩ => ⟨S8448x8448, .i1⟩
  | .hbm, ⟨14, _⟩ => ⟨S16x8448x8448, .f32⟩
  | .hbm, ⟨15, _⟩ => ⟨S16x8448x8448, .f32⟩
  | .hbm, ⟨16, _⟩ => ⟨S_, .f32⟩
  | .hbm, ⟨17, _⟩ => ⟨S16x8448x8448, .f32⟩
  | .hbm, ⟨18, _⟩ => ⟨S16x8448x8448, .f32⟩
  | .hbm, ⟨19, _⟩ => ⟨S16x8448x8448, .f32⟩
  | .hbm, ⟨20, _⟩ => ⟨S16x8448x8448, .f32⟩
  | .hbm, ⟨21, _⟩ => ⟨S16x8448x8448, .i1⟩
  | .hbm, ⟨22, _⟩ => ⟨S16x8448x8448, .f32⟩
  | .hbm, ⟨23, _⟩ => ⟨S16x8448x8448, .f32⟩
  | .hbm, ⟨24, _⟩ => ⟨S16x8448x8448, .f32⟩
  | .hbm, ⟨25, _⟩ => ⟨S16x8448x8448, .f32⟩
  | .hbm, ⟨26, _⟩ => ⟨S16x8448x8448, .f32⟩
  | .hbm, ⟨27, _⟩ => ⟨S16x8448x8448, .f32⟩
  | .hbm, ⟨28, _⟩ => ⟨S16x8448x8448, .f32⟩
  | .hbm, ⟨29, _⟩ => ⟨S16x8448x8448, .f32⟩
  | .hbm, ⟨30, _⟩ => ⟨S16x8448x8448, .f32⟩
  | .hbm, ⟨31, _⟩ => ⟨S_, .f32⟩
  | .hbm, ⟨32, _⟩ => ⟨S_, .f32⟩
  | .hbm, ⟨33, _⟩ => ⟨S16x8448x8448, .i1⟩
  | .hbm, ⟨34, _⟩ => ⟨S16x8448x8448, .f32⟩
  | .hbm, ⟨35, _⟩ => ⟨S16x8448x8448, .f32⟩
  | .hbm, ⟨36, _⟩ => ⟨S16x8448x8448, .f32⟩
  | .hbm, ⟨37, _⟩ => ⟨S_, .f32⟩
  | .hbm, ⟨38, _⟩ => ⟨S16x8448x8448, .f32⟩
  | .hbm, ⟨39, _⟩ => ⟨S16x8448x8448, .f32⟩
  | .hbm, ⟨40, _⟩ => ⟨S16x8448x8448, .f32⟩
  | .hbm, ⟨41, _⟩ => ⟨S16x8448x8448, .f32⟩
  | .hbm, ⟨42, _⟩ => ⟨S16x8448x8448, .i1⟩
  | .hbm, ⟨43, _⟩ => ⟨S16x8448x8448, .f32⟩
  | .hbm, ⟨44, _⟩ => ⟨S16x8448x8448, .f32⟩
  | .hbm, ⟨45, _⟩ => ⟨S16x8448x8448, .f32⟩
  | .hbm, ⟨46, _⟩ => ⟨S16x8448x8448, .f32⟩
  | .hbm, ⟨47, _⟩ => ⟨S16x8448x8448, .f32⟩
  | .hbm, ⟨48, _⟩ => ⟨S16x8448x8448, .f32⟩
  | .hbm, ⟨49, _⟩ => ⟨S16x8448x8448, .f32⟩
  | .hbm, ⟨50, _⟩ => ⟨S16x8448x8448, .f32⟩
  | .hbm, ⟨51, _⟩ => ⟨S16x8448x8448, .f32⟩
  | .hbm, ⟨52, _⟩ => ⟨S_, .f32⟩
  | .hbm, ⟨53, _⟩ => ⟨S_, .f32⟩
  | .hbm, ⟨54, _⟩ => ⟨S16x8448x8448, .f32⟩
  | .hbm, ⟨55, _⟩ => ⟨S16x8448x8448, .f32⟩
  | .hbm, ⟨56, _⟩ => ⟨S16x8448x8448, .f32⟩
  | .hbm, ⟨57, _⟩ => ⟨S16x8448x8448, .f32⟩
  | .hbm, ⟨58, _⟩ => ⟨S_, .f32⟩
  | .hbm, ⟨59, _⟩ => ⟨S_, .f32⟩
  | .hbm, ⟨60, _⟩ => ⟨S16x8448x8448, .i1⟩
  | .hbm, ⟨61, _⟩ => ⟨S16x8448x8448, .f32⟩
  | .hbm, ⟨62, _⟩ => ⟨S16x8448x8448, .f32⟩
  | .hbm, ⟨63, _⟩ => ⟨S16x8448x64, .f32⟩
  | .hbm, ⟨64, _⟩ => ⟨S16x8448x8448, .f32⟩
  | .hbm, ⟨65, _⟩ => ⟨S8448, .i32⟩
  | .hbm, ⟨66, _⟩ => ⟨S1x8448, .i32⟩
  | .hbm, ⟨67, _⟩ => ⟨S8448, .i32⟩
  | .hbm, ⟨68, _⟩ => ⟨S8448x1, .i32⟩
  | .hbm, ⟨69, _⟩ => ⟨S8448x8448, .i32⟩
  | .hbm, ⟨70, _⟩ => ⟨S8448x8448, .i32⟩
  | .hbm, ⟨71, _⟩ => ⟨S8448x8448, .i1⟩
  | .hbm, ⟨72, _⟩ => ⟨S16x8448x8448, .f32⟩
  | .hbm, ⟨73, _⟩ => ⟨S16x8448x8448, .f32⟩
  | .hbm, ⟨74, _⟩ => ⟨S_, .f32⟩
  | .hbm, ⟨75, _⟩ => ⟨S16x8448x8448, .f32⟩
  | .hbm, ⟨76, _⟩ => ⟨S16x8448x8448, .f32⟩
  | .hbm, ⟨77, _⟩ => ⟨S16x8448x8448, .f32⟩
  | .hbm, ⟨78, _⟩ => ⟨S16x8448x8448, .f32⟩
  | .hbm, ⟨79, _⟩ => ⟨S16x8448x8448, .i1⟩
  | .hbm, ⟨80, _⟩ => ⟨S16x8448x8448, .f32⟩
  | .hbm, ⟨81, _⟩ => ⟨S16x8448x8448, .f32⟩
  | .hbm, ⟨82, _⟩ => ⟨S16x8448x8448, .f32⟩
  | .hbm, ⟨83, _⟩ => ⟨S16x8448x8448, .f32⟩
  | .hbm, ⟨84, _⟩ => ⟨S16x8448x8448, .f32⟩
  | .hbm, ⟨85, _⟩ => ⟨S16x8448x8448, .f32⟩
  | .hbm, ⟨86, _⟩ => ⟨S16x8448x8448, .f32⟩
  | .hbm, ⟨87, _⟩ => ⟨S16x8448x8448, .f32⟩
  | .hbm, ⟨88, _⟩ => ⟨S16x8448x8448, .f32⟩
  | .hbm, ⟨89, _⟩ => ⟨S_, .f32⟩
  | .hbm, ⟨90, _⟩ => ⟨S_, .f32⟩
  | .hbm, ⟨91, _⟩ => ⟨S16x8448x8448, .i1⟩
  | .hbm, ⟨92, _⟩ => ⟨S16x8448x8448, .f32⟩
  | .hbm, ⟨93, _⟩ => ⟨S16x8448x8448, .f32⟩
  | .hbm, ⟨94, _⟩ => ⟨S16x8448x33x256, .f32⟩
  | .hbm, ⟨95, _⟩ => ⟨S_, .f32⟩
  | .hbm, ⟨96, _⟩ => ⟨S16x8448x33, .f32⟩
  | .hbm, ⟨97, _⟩ => ⟨S33, .i32⟩
  | .hbm, ⟨98, _⟩ => ⟨S1x33, .i32⟩
  | .hbm, ⟨99, _⟩ => ⟨S128, .i32⟩
  | .hbm, ⟨100, _⟩ => ⟨S128x1, .i32⟩
  | .hbm, ⟨101, _⟩ => ⟨S128x33, .i32⟩
  | .hbm, ⟨102, _⟩ => ⟨S128x33, .i32⟩
  | .hbm, ⟨103, _⟩ => ⟨S128x33, .i1⟩
  | .hbm, ⟨104, _⟩ => ⟨S16x8448x1x33, .f32⟩
  | .hbm, ⟨105, _⟩ => ⟨S_, .f32⟩
  | .hbm, ⟨106, _⟩ => ⟨S_, .f32⟩
  | .hbm, ⟨107, _⟩ => ⟨S16x8448x128x33, .i1⟩
  | .hbm, ⟨108, _⟩ => ⟨S16x8448x128x33, .f32⟩
  | .hbm, ⟨109, _⟩ => ⟨S16x8448x128x33, .f32⟩
  | .hbm, ⟨110, _⟩ => ⟨S16x8448x128x33, .f32⟩
  | .hbm, ⟨111, _⟩ => ⟨S_, .f32⟩
  | .hbm, ⟨112, _⟩ => ⟨S16x8448x128, .f32⟩
  | _, _ => ⟨S16x8448x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v12 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_call2_v0 : Ref sig .tc := ⟨.hbm, 36, rfl⟩
abbrev main_call2_call0_cst : Ref sig .tc := ⟨.hbm, 37, rfl⟩
abbrev main_call2_call0_v0 : Ref sig .tc := ⟨.hbm, 38, rfl⟩
abbrev main_call2_call0_v1 : Ref sig .tc := ⟨.hbm, 39, rfl⟩
abbrev main_call2_call0_v2 : Ref sig .tc := ⟨.hbm, 40, rfl⟩
abbrev main_call2_call0_v3 : Ref sig .tc := ⟨.hbm, 41, rfl⟩
abbrev main_call2_call0_v4 : Ref sig .tc := ⟨.hbm, 42, rfl⟩
abbrev main_call2_call0_v5 : Ref sig .tc := ⟨.hbm, 43, rfl⟩
abbrev main_call2_call0_v6 : Ref sig .tc := ⟨.hbm, 44, rfl⟩
abbrev main_call2_call0_v7 : Ref sig .tc := ⟨.hbm, 45, rfl⟩
abbrev main_call2_call0_v8 : Ref sig .tc := ⟨.hbm, 46, rfl⟩
abbrev main_call2_call0_v9 : Ref sig .tc := ⟨.hbm, 47, rfl⟩
abbrev main_call2_call0_v10 : Ref sig .tc := ⟨.hbm, 48, rfl⟩
abbrev main_call2_call0_v11 : Ref sig .tc := ⟨.hbm, 49, rfl⟩
abbrev main_call2_v1 : Ref sig .tc := ⟨.hbm, 50, rfl⟩
abbrev main_v14 : Ref sig .tc := ⟨.hbm, 51, rfl⟩
abbrev main_call3_cst : Ref sig .tc := ⟨.hbm, 52, rfl⟩
abbrev main_call3_v0 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_0 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_call5_v0 : Ref sig .tc := ⟨.hbm, 73, rfl⟩
abbrev main_call5_call0_cst : Ref sig .tc := ⟨.hbm, 74, rfl⟩
abbrev main_call5_call0_v0 : Ref sig .tc := ⟨.hbm, 75, rfl⟩
abbrev main_call5_call0_v1 : Ref sig .tc := ⟨.hbm, 76, rfl⟩
abbrev main_call5_call0_v2 : Ref sig .tc := ⟨.hbm, 77, rfl⟩
abbrev main_call5_call0_v3 : Ref sig .tc := ⟨.hbm, 78, rfl⟩
abbrev main_call5_call0_v4 : Ref sig .tc := ⟨.hbm, 79, rfl⟩
abbrev main_call5_call0_v5 : Ref sig .tc := ⟨.hbm, 80, rfl⟩
abbrev main_call5_call0_v6 : Ref sig .tc := ⟨.hbm, 81, rfl⟩
abbrev main_call5_call0_v7 : Ref sig .tc := ⟨.hbm, 82, rfl⟩
abbrev main_call5_call0_v8 : Ref sig .tc := ⟨.hbm, 83, rfl⟩
abbrev main_call5_call0_v9 : Ref sig .tc := ⟨.hbm, 84, rfl⟩
abbrev main_call5_call0_v10 : Ref sig .tc := ⟨.hbm, 85, rfl⟩
abbrev main_call5_call0_v11 : Ref sig .tc := ⟨.hbm, 86, rfl⟩
abbrev main_call5_v1 : Ref sig .tc := ⟨.hbm, 87, rfl⟩
abbrev main_v30 : Ref sig .tc := ⟨.hbm, 88, rfl⟩
abbrev main_cst_1 : Ref sig .tc := ⟨.hbm, 89, rfl⟩
abbrev main_call6_v0 : Ref sig .tc := ⟨.hbm, 90, rfl⟩
abbrev main_call6_v1 : Ref sig .tc := ⟨.hbm, 91, rfl⟩
abbrev main_call6_v2 : Ref sig .tc := ⟨.hbm, 92, rfl⟩
abbrev main_v31 : Ref sig .tc := ⟨.hbm, 93, rfl⟩
abbrev main_v32 : Ref sig .tc := ⟨.hbm, 94, rfl⟩
abbrev main_cst_2 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_cst_3 : Ref sig .tc := ⟨.hbm, 105, rfl⟩
abbrev main_call7_v0 : Ref sig .tc := ⟨.hbm, 106, rfl⟩
abbrev main_call7_v1 : Ref sig .tc := ⟨.hbm, 107, rfl⟩
abbrev main_call7_v2 : Ref sig .tc := ⟨.hbm, 108, rfl⟩
abbrev main_call7_v3 : Ref sig .tc := ⟨.hbm, 109, rfl⟩
abbrev main_v42 : Ref sig .tc := ⟨.hbm, 110, rfl⟩
abbrev main_cst_4 : Ref sig .tc := ⟨.hbm, 111, rfl⟩
abbrev main_v43 : Ref sig .tc := ⟨.hbm, 112, rfl⟩

abbrev nD : Nat := 1
abbrev τ : Topo := Topo.v7x

variable {F : FTy → Type} [FloatOps F]
-- ==== Proof.Sem.lean ====
module

public import proofs.«01_k».proof.Proof.Gen.KernelIdeal.Skeleton
public import Idealize.ShloMosaic.Lib.Pipeline.FrameBody

/-! What one grid point of the kernel computes, as a function of the blocks it reads: a chain of tiles, each taking
    the running sum of a row's gradients, the rows' dq and the whole dk and dv to the next. -/

@[expose] public section

noncomputable section

namespace Cert.KernelIdeal.Sem

open Idealize.ShloMosaic Idealize.ShloMosaic.TcCoe
open Cert.KernelIdeal Cert.KernelIdeal.Gen

variable {F : FTy → Type} [FloatOps F] [Named F]

/-- The running state of a grid point: the gradients' row sums, dq's rows, and the whole of dk and dv. -/
structure St (F : FTy → Type) [FloatOps F] where
  cg : FVec F S256x1 .f32
  dq : FVec F S256x64 .f32
  dk : FVec F S1x8448x64 .f32
  dv : FVec F S1x8448x64 .f32

/-- What the point reads: its rows of q, of the carries and of do, and the whole of k and v. -/
structure In (F : FTy → Type) [FloatOps F] where
  q : Vec F S1x256x64 .bf16
  k : Vec F S1x8448x64 .bf16
  v : Vec F S1x8448x64 .bf16
  c : Vec F S1x256x128 .f32
  d : Vec F S1x256x64 .f32

/-- The block of rows of a whole array at an offset. -/
abbrev blk {α : Type} (X : S1x8448x64.Idx → α) (off : Fin 3 → ℕ) (h : ∀ a, off a + S1x256x64.size a ≤ S1x8448x64.size a) :
    S1x256x64.Idx → α :=
  fun x => X ((Rect.unit (s := S1x8448x64) off S1x256x64.size h).idx x)

/-- A whole array with the block of rows at an offset replaced. -/
abbrev put {α : Type} (X : S1x8448x64.Idx → α) (off : Fin 3 → ℕ) (h : ∀ a, off a + S1x256x64.size a ≤ S1x8448x64.size a)
    (w : S1x256x64.Idx → α) : S1x8448x64.Idx → α :=
  (Rect.unit (s := S1x8448x64) off S1x256x64.size h).overlay X w

theorem blk_put {α : Type} (X : S1x8448x64.Idx → α) (off : Fin 3 → ℕ) (h : ∀ a, off a + S1x256x64.size a ≤ S1x8448x64.size a)
    (w : S1x256x64.Idx → α) : blk (put X off h w) off h = w :=
  funext fun x => (Rect.unit (s := S1x8448x64) off S1x256x64.size h).overlay_emb X w x

abbrev lane : IVec S256x128 32 := iota .tc S256x128 32 [1] iota_S256x128_d1_w32
abbrev lower2 : FVec F S512x256 .bf16 := k0_pay20
abbrev upper2 : FVec F S512x256 .bf16 := k0_pay24 k0_pay21 k0_pay22 k0_pay23
abbrev ones : IVec S256x256 1 := fun _ => 1#1
abbrev diag : IVec S256x256 1 :=
  k0_pay40 (iota .tc S256x256 32 [0] iota_S256x256_d0_w32) (iota .tc S256x256 32 [1] iota_S256x256_d1_w32)

/-- The tile's weights. -/
abbrev wT (I : In F) (mask : IVec S256x256 1) (kb : BitVec 32) (off : Fin 3 → ℕ)
    (h : ∀ a, off a + S1x256x64.size a ≤ S1x8448x64.size a) : FVec F S256x256 .f32 :=
  k0_pay46 lane lower2 (k0_pay25 I.q) (k0_pay27 I.c) mask (k0_pay42 (blk I.k off h)) (broadcast S256x128 kb)
/-- The weights times their gradients. -/
abbrev gwT (I : In F) (mask : IVec S256x256 1) (kb : BitVec 32) (off : Fin 3 → ℕ)
    (h : ∀ a, off a + S1x256x64.size a ≤ S1x8448x64.size a) : FVec F S256x256 .f32 :=
  k0_pay47 lane lower2 (k0_pay25 I.q) (k0_pay26 I.d) (k0_pay27 I.c) mask (k0_pay42 (blk I.k off h)) (broadcast S256x128 kb) (blk I.v off h)
/-- Their sums along the row inside the tile. -/
abbrev ginT (I : In F) (mask : IVec S256x256 1) (kb : BitVec 32) (off : Fin 3 → ℕ)
    (h : ∀ a, off a + S1x256x64.size a ≤ S1x8448x64.size a) : FVec F S256x256 .f32 :=
  k0_pay48 lane lower2 upper2 (k0_pay25 I.q) (k0_pay26 I.d) (k0_pay27 I.c) mask (k0_pay42 (blk I.k off h)) (broadcast S256x128 kb) (blk I.v off h)
/-- The tile's sigmoids. -/
abbrev sigT (I : In F) (mask : IVec S256x256 1) (off : Fin 3 → ℕ)
    (h : ∀ a, off a + S1x256x64.size a ≤ S1x8448x64.size a) : FVec F S256x256 .f32 :=
  k0_pay49 (k0_pay25 I.q) mask (k0_pay42 (blk I.k off h))

/-- One tile: a block of keys against the point's rows. -/
def tile (I : In F) (mask : IVec S256x256 1) (kb : BitVec 32) (off : Fin 3 → ℕ)
    (h : ∀ a, off a + S1x256x64.size a ≤ S1x8448x64.size a) (s : St F) : St F where
  cg := k0_pay33 s.cg (gwT I mask kb off h)
  dq := k0_pay60 s.cg s.dq mask (k0_pay42 (blk I.k off h)) (gwT I mask kb off h) (ginT I mask kb off h) (sigT I mask off h)
  dk := put s.dk off h (k0_pay58 (k0_pay25 I.q) s.cg mask (gwT I mask kb off h) (ginT I mask kb off h) (sigT I mask off h) (blk s.dk off h))
  dv := put s.dv off h (k0_pay59 (k0_pay26 I.d) (wT I mask kb off h) (blk s.dv off h))

/-- The tiles before the last two, first part: from the word's block to the point's. -/
def loop1 (I : In F) (i : grid0.Coords) (w : BitVec 32) (hw : k0_chk1 i w) (s : St F) : ℕ → St F
  | 0 => s
  | n + 1 =>
    if h : n < (k0_t1_loop i w).trips then
      tile I ones (Scf.iv w 1#32 n) (k0_off2 i w ⟨n, h⟩) (k0_off2_inb i w hw ⟨n, h⟩) (loop1 I i w hw s n)
    else loop1 I i w hw s n

/-- The second part. -/
def loop2 (I : In F) (i : grid0.Coords) (w : BitVec 32) (hw : k0_chk1 i w) (b : BitVec 32) (s : St F) : ℕ → St F
  | 0 => s
  | n + 1 =>
    if h : n < (k0_t2_loop i w).trips then
      tile I ones (Scf.iv b 1#32 n) (k0_off3 i w ⟨n, h⟩) (k0_off3_inb i w hw ⟨n, h⟩) (loop2 I i w hw b s n)
    else loop2 I i w hw b s n

/-- Where the second part begins. -/
abbrev mid (i : grid0.Coords) (w : BitVec 32) : BitVec 32 :=
  Scalar.addi w (Scalar.muli (Scalar.divsi (Scalar.subi (Scalar.subi (BitVec.ofNat 32 (i 1).val) 1#32) w) 1#32) 1#32)

/-- The tiles before the last two. -/
def rest (I : In F) (i : grid0.Coords) (w : BitVec 32) (hw : k0_chk1 i w) (dk dv : FVec F S1x8448x64 .f32) : St F :=
  loop2 I i w hw (mid i w) (loop1 I i w hw ⟨k0_pay28, k0_pay29, dk, dv⟩ (k0_t1_loop i w).trips) (k0_t2_loop i w).trips

/-- With the previous block's. -/
def prev (I : In F) (i : grid0.Coords) (w : BitVec 32) (hw : k0_chk1 i w) (dk dv : FVec F S1x8448x64 .f32) : St F :=
  tile I (k0_pay41 (BitVec.ofNat 32 (i 1).val)) (Scalar.maxsi (Scalar.subi (BitVec.ofNat 32 (i 1).val) 1#32) 0#32) (k0_off4 i) (k0_off4_inb i)
    (rest I i w hw dk dv)

/-- The whole point: what it leaves of dq's rows, of dk and of dv. -/
def point (I : In F) (i : grid0.Coords) (w : BitVec 32) (hw : k0_chk1 i w) (dk dv : FVec F S1x8448x64 .f32) : St F :=
  tile I diag (BitVec.ofNat 32 (i 1).val) (k0_off5 i) (k0_off5_inb i) (prev I i w hw dk dv)

end Cert.KernelIdeal.Sem
-- ==== Proof.Body.lean ====
module

public import proofs.«01_k».proof.Proof.Gen.KernelIdeal.Loops
public import proofs.«01_k».proof.Proof.Gen.KernelIdeal.Launch
public import proofs.«01_k».proof.Proof.Sem

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

theorem chk_zero (i : grid0.Coords) : k0_chk1 i 0#32 := by
  have h : ∀ j : Fin 33, k0_chk1 (fun | ⟨0, _⟩ => (⟨0, by decide⟩ : Fin 16) | ⟨1, _⟩ => j | ⟨_ + 2, h⟩ => absurd h (by simp)) 0#32 := by decide +kernel
  exact h (i 1)

theorem off4_eq (i : grid0.Coords) : k0_off4 i = ![0, 256 * ((i 1).val - 1), 0] := by
  have h : ∀ j : Fin 33, k0_off4 (fun | ⟨0, _⟩ => (⟨0, by decide⟩ : Fin 16) | ⟨1, _⟩ => j | ⟨_ + 2, h⟩ => absurd h (by simp)) = ![0, 256 * (j.val - 1), 0] := by decide +kernel
  exact h (i 1)

theorem off5_eq (i : grid0.Coords) : k0_off5 i = ![0, 256 * (i 1).val, 0] := by
  have h : ∀ j : Fin 33, k0_off5 (fun | ⟨0, _⟩ => (⟨0, by decide⟩ : Fin 16) | ⟨1, _⟩ => j | ⟨_ + 2, h⟩ => absurd h (by simp)) = ![0, 256 * j.val, 0] := by decide +kernel
  exact h (i 1)

instance (i : grid0.Coords) : ClosedOff (k0_off4 i) := ⟨![0, 256 * ((i 1).val - 1), 0], off4_eq i⟩
instance (i : grid0.Coords) : ClosedOff (k0_off5 i) := ⟨![0, 256 * (i 1).val, 0], off5_eq i⟩

theorem read_writes_cons {sig' : RefSig} {κ : Kind} {sp : Space} {s : Shape} {e : EltTy} {Val : EltTy → Type} (v : View sig' κ sp s e) (f : v.ty.Contents Val)
    (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · rw [View.read_writes_cons_miss _ _ _ _ _ hy, Rect.overlay_of_not_mem _ _ _ hy]

theorem select_ones {α : Type} (a b : S256x256.Idx → α) : select Sem.ones a b = a := by
  funext x; show Scalar.select (1#1) (a x) (b x) = a x; simp [Scalar.select]

/-! The loops' payloads are the last tiles' at the mask of ones. -/

theorem pay6_eq (q : FVec F S256x64 .bf16) (x : Vec F S1x256x64 .bf16) : k0_pay6 q x = k0_pay45 q Sem.ones (k0_pay42 x) := by
  unfold k0_pay6 k0_pay45; exact (select_ones _ _).symm

theorem pay7_eq (i : grid0.Coords) (l : IVec S256x128 32) (t : FVec F S512x256 .bf16) (q : FVec F S256x64 .bf16) (m : FVec F S256x128 .f32)
    (w : Elt F .i32) (b : BitVec 32) (k : Fin (k0_t1_loop i w).trips) (x : Vec F S1x256x64 .bf16) :
    k0_pay7 i l t q m w b k x = k0_pay46 l t q m Sem.ones (k0_pay42 x) (broadcast S256x128 (Scf.iv w b k)) := by
  unfold k0_pay7 k0_pay46; rw [pay6_eq]; exact (select_ones _ _).symm

theorem pay8_eq (i : grid0.Coords) (l : IVec S256x128 32) (t : FVec F S512x256 .bf16) (q d : FVec F S256x64 .bf16) (m : FVec F S256x128 .f32)
    (w : Elt F .i32) (b : BitVec 32) (k : Fin (k0_t1_loop i w).trips) (x y : Vec F S1x256x64 .bf16) :
    k0_pay8 i l t q d m w b k x y = k0_pay47 l t q d m Sem.ones (k0_pay42 x) (broadcast S256x128 (Scf.iv w b k)) y := by
  unfold k0_pay8 k0_pay47; rw [pay7_eq]

theorem pay9_eq (i : grid0.Coords) (l : IVec S256x128 32) (t u : FVec F S512x256 .bf16) (q d : FVec F S256x64 .bf16) (m : FVec F S256x128 .f32)
    (w : Elt F .i32) (b : BitVec 32) (k : Fin (k0_t1_loop i w).trips) (x y : Vec F S1x256x64 .bf16) :
    k0_pay9 i l t u q d m w b k x y = k0_pay48 l t u q d m Sem.ones (k0_pay42 x) (broadcast S256x128 (Scf.iv w b k)) y := by
  unfold k0_pay9 k0_pay48; rw [pay8_eq]

theorem pay10_eq (q : FVec F S256x64 .bf16) (x : Vec F S1x256x64 .bf16) : k0_pay10 q x = k0_pay49 q Sem.ones (k0_pay42 x) := by
  unfold k0_pay10 k0_pay49; rw [pay6_eq]; rfl

theorem pay30_eq (g : FVec F S256x1 .f32) (a b s : FVec F S256x256 .f32) : k0_pay30 g a b s = k0_pay57 g Sem.ones a b s := by
  unfold k0_pay30 k0_pay57; exact congrArg (fun z => truncf .bf16 z bitsLt_bf16_f32) (select_ones _ _).symm

theorem pay31_eq (q : Vec F S1x256x64 .bf16) (g : FVec F S256x1 .f32) (a b s : FVec F S256x256 .f32) (x : Vec F S1x256x64 .f32) :
    k0_pay31 q g a b s x = k0_pay58 (k0_pay25 q) g Sem.ones a b s x := by
  unfold k0_pay31 k0_pay58; rw [pay30_eq]

theorem pay32_eq (d : Vec F S1x256x64 .f32) (a : FVec F S256x256 .f32) (x : Vec F S1x256x64 .f32) :
    k0_pay32 d a x = k0_pay59 (k0_pay26 d) a x := rfl

theorem pay4_eq (x : Vec F S1x256x64 .bf16) : k0_pay4 x = k0_pay42 x := rfl
theorem pay11_eq (x : Vec F S1x256x64 .bf16) : k0_pay11 x = k0_pay42 x := rfl
theorem pay50_eq (x : Vec F S1x256x64 .bf16) : k0_pay50 x = k0_pay42 x := rfl
theorem pay38_eq (g : FVec F S256x1 .f32) (a : FVec F S256x256 .f32) : k0_pay38 g a = k0_pay33 g a := rfl

theorem pay34_eq (g : FVec F S256x1 .f32) (p : FVec F S256x64 .f32) (x : FVec F S256x64 .bf16) (a b s : FVec F S256x256 .f32) :
    k0_pay34 g p x a b s = k0_pay60 g p Sem.ones x a b s := by
  unfold k0_pay34 k0_pay60; rw [pay30_eq]

theorem pay14_eq (i : grid0.Coords) (l : IVec S256x128 32) (t : FVec F S512x256 .bf16) (q : FVec F S256x64 .bf16) (m : FVec F S256x128 .f32)
    (w : Elt F .i32) (w' b : BitVec 32) (k : Fin (k0_t2_loop i w).trips) (x : Vec F S1x256x64 .bf16) :
    k0_pay14 i l t q m w w' b k x = k0_pay46 l t q m Sem.ones (k0_pay42 x) (broadcast S256x128 (Scf.iv w' b k)) := by
  unfold k0_pay14 k0_pay46; rw [← pay6_eq]; exact (select_ones _ _).symm

theorem pay15_eq (i : grid0.Coords) (l : IVec S256x128 32) (t : FVec F S512x256 .bf16) (q d : FVec F S256x64 .bf16) (m : FVec F S256x128 .f32)
    (w : Elt F .i32) (w' b : BitVec 32) (k : Fin (k0_t2_loop i w).trips) (x y : Vec F S1x256x64 .bf16) :
    k0_pay15 i l t q d m w w' b k x y = k0_pay47 l t q d m Sem.ones (k0_pay42 x) (broadcast S256x128 (Scf.iv w' b k)) y := by
  unfold k0_pay15 k0_pay47; rw [pay14_eq]

theorem pay16_eq (i : grid0.Coords) (l : IVec S256x128 32) (t u : FVec F S512x256 .bf16) (q d : FVec F S256x64 .bf16) (m : FVec F S256x128 .f32)
    (w : Elt F .i32) (w' b : BitVec 32) (k : Fin (k0_t2_loop i w).trips) (x y : Vec F S1x256x64 .bf16) :
    k0_pay16 i l t u q d m w w' b k x y = k0_pay48 l t u q d m Sem.ones (k0_pay42 x) (broadcast S256x128 (Scf.iv w' b k)) y := by
  unfold k0_pay16 k0_pay48; rw [pay15_eq]

theorem pay17_eq (q : FVec F S256x64 .bf16) (x : Vec F S1x256x64 .bf16) : k0_pay17 q x = k0_pay49 q Sem.ones (k0_pay42 x) := pay10_eq q x
theorem pay36_eq (q : Vec F S1x256x64 .bf16) (g : FVec F S256x1 .f32) (a b s : FVec F S256x256 .f32) (x : Vec F S1x256x64 .f32) :
    k0_pay36 q g a b s x = k0_pay58 (k0_pay25 q) g Sem.ones a b s x := pay31_eq q g a b s x
theorem pay37_eq (d : Vec F S1x256x64 .f32) (a : FVec F S256x256 .f32) (x : Vec F S1x256x64 .f32) :
    k0_pay37 d a x = k0_pay59 (k0_pay26 d) a x := rfl
theorem pay39_eq (g : FVec F S256x1 .f32) (p : FVec F S256x64 .f32) (x : FVec F S256x64 .bf16) (a b s : FVec F S256x256 .f32) :
    k0_pay39 g p x a b s = k0_pay60 g p Sem.ones x a b s := pay34_eq g p x a b s

/-! The diagonal tile's payloads are the previous tile's at its mask. -/

theorem pay53_eq (a : BitVec 32) (l : IVec S256x128 32) (t : FVec F S512x256 .bf16) (q : FVec F S256x64 .bf16) (m : FVec F S256x128 .f32)
    (k : IVec S256x256 1) (x : Vec F S1x256x64 .bf16) :
    k0_pay53 a l t q m k x = k0_pay46 l t q m k (k0_pay42 x) (broadcast S256x128 a) := rfl
theorem pay54_eq (a : BitVec 32) (l : IVec S256x128 32) (t : FVec F S512x256 .bf16) (q d : FVec F S256x64 .bf16) (m : FVec F S256x128 .f32)
    (k : IVec S256x256 1) (x y : Vec F S1x256x64 .bf16) :
    k0_pay54 a l t q d m k x y = k0_pay47 l t q d m k (k0_pay42 x) (broadcast S256x128 a) y := by
  unfold k0_pay54 k0_pay47; rw [pay53_eq]
theorem pay55_eq (a : BitVec 32) (l : IVec S256x128 32) (t u : FVec F S512x256 .bf16) (q d : FVec F S256x64 .bf16) (m : FVec F S256x128 .f32)
    (k : IVec S256x256 1) (x y : Vec F S1x256x64 .bf16) :
    k0_pay55 a l t u q d m k x y = k0_pay48 l t u q d m k (k0_pay42 x) (broadcast S256x128 a) y := by
  unfold k0_pay55 k0_pay48; rw [pay54_eq]
theorem pay61_eq (g : FVec F S256x1 .f32) (k : IVec S256x256 1) (p a b : FVec F S256x256 .f32) (q : FVec F S256x64 .bf16) (x : Vec F S1x256x64 .bf16) :
    k0_pay61 g k p a b (k0_pay56 q k x) = k0_pay57 (k0_pay33 g p) k a b (k0_pay49 q k (k0_pay42 x)) := rfl
theorem pay1_eq (q : FVec F S256x64 .bf16) (g : FVec F S256x1 .f32) (k : IVec S256x256 1) (a b s : FVec F S256x256 .f32) (x : Vec F S1x256x64 .f32) :
    k0_pay1 q (k0_pay57 g k a b s) (k0_pay62 x) = k0_pay58 q g k a b s x := rfl
theorem pay2_eq (d : FVec F S256x64 .bf16) (a : FVec F S256x256 .f32) (x : Vec F S1x256x64 .f32) : k0_pay2 d a x = k0_pay59 d a x := rfl
theorem pay3_eq (x : FVec F S256x64 .bf16) (p : FVec F S256x64 .f32) (g : FVec F S256x1 .f32) (k : IVec S256x256 1) (a b s : FVec F S256x256 .f32) :
    k0_pay3 x p (k0_pay57 g k a b s) = shapeCast S1x256x64 (k0_pay60 g p k x a b s) shapeCasts_S256x64_S1x256x64 := rfl

/-- A read of a whole view is what the view reads. -/
theorem readAt_all {sig' : RefSig} {κ : Kind} {sp : Space} {s : Shape} {e : EltTy} {Val : EltTy → Type} (v : View sig' κ sp s e) (f : v.ty.Contents Val)
    {off : Fin s.rank → ℕ} (h : off = fun _ => 0) (inb : ∀ a, off a + s.size a ≤ s.size a) :
    v.readAt Val (Rect.unit off s.size inb).toLoadRect f = v.read Val f := by
  subst h; funext x; show v.read Val f ((Rect.whole s).emb x) = _; rw [Rect.emb_whole_apply]

theorem zero3 : (![0, 0, 0] : Fin 3 → ℕ) = fun _ => 0 := by decide

/-- What a view reads after the whole of it is written. -/
theorem read_all {sig' : RefSig} {κ : Kind} {sp : Space} {s : Shape} {e : EltTy} {Val : EltTy → Type} (v : View sig' κ sp s e) (f : v.ty.Contents Val)
    {off : Fin s.rank → ℕ} (h : off = fun _ => 0) (inb : ∀ a, off a + s.size a ≤ s.size a) (w : s.Idx → Val e) :
    v.read Val (v.writes Val f [⟨Rect.unit off s.size inb, w⟩]) = w := by
  subst h; exact View.read_writes_whole v f w

section

attribute [local irreducible] k0_pay1 k0_pay2 k0_pay3 k0_pay20 k0_pay21 k0_pay22 k0_pay23 k0_pay24 k0_pay25 k0_pay26 k0_pay27 k0_pay33 k0_pay40 k0_pay41 k0_pay42 k0_pay46 k0_pay47 k0_pay48 k0_pay49 k0_pay57 k0_pay58 k0_pay59 k0_pay60 Rect.overlay

variable (𝒱 : Variants) (c : Dev nD) (bd : Option 𝒱.V) (i : grid0.Coords) (arg2 : Memref sig .tc .smem S16x33 .i32) (harg2 : arg2.IsWhole) (arg3 : Memref sig .tc .vmem S1x256x64 .bf16) (harg3 : arg3.IsWhole) (arg4 : Memref sig .tc .vmem S1x8448x64 .bf16) (harg4 : arg4.IsWhole) (arg5 : Memref sig .tc .vmem S1x8448x64 .bf16) (harg5 : arg5.IsWhole) (arg6 : Memref sig .tc .vmem S1x256x128 .f32) (harg6 : arg6.IsWhole) (arg7 : Memref sig .tc .vmem S1x256x64 .f32) (harg7 : arg7.IsWhole) (arg8 : Memref sig .tc .vmem S1x256x64 .f32) (harg8 : arg8.IsWhole) (arg9 : Memref sig .tc .vmem S1x8448x64 .f32) (harg9 : arg9.IsWhole) (arg10 : Memref sig .tc .vmem S1x8448x64 .f32) (harg10 : arg10.IsWhole)

/-- One trip of loop 1 is a tile. -/
theorem trip1_eq (a0 a1 : BitVec 32) (v3 v4 : IVec S256x256 32) (q : Vec F S1x256x64 .bf16) (d : Vec F S1x256x64 .f32) (m : Vec F S1x256x128 .f32) (w : Elt F .i32) (hw : k0_chk1 i w) (X4 : BufTy.Contents (Elt F) arg4.view.ty) (X5 : BufTy.Contents (Elt F) arg5.view.ty)
    (k : Fin (k0_t1_loop i w).trips) (f9 : BufTy.Contents (Elt F) arg9.view.ty) (f10 : BufTy.Contents (Elt F) arg10.view.ty) (s : Sem.St F)
    (h9 : arg9.view.read (Elt F) f9 = s.dk) (h10 : arg10.view.read (Elt F) f10 = s.dv) :
    (trip_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 k).1 (s.cg, s.dq) f9 f10 = ((Sem.tile ⟨q, arg4.view.read (Elt F) X4, arg5.view.read (Elt F) X5, m, d⟩ Sem.ones (Scf.iv w 1#32 k.val) (k0_off2 i w k) (k0_off2_inb i w hw k) s).cg, (Sem.tile ⟨q, arg4.view.read (Elt F) X4, arg5.view.read (Elt F) X5, m, d⟩ Sem.ones (Scf.iv w 1#32 k.val) (k0_off2 i w k) (k0_off2_inb i w hw k) s).dq)
    ∧ arg9.view.read (Elt F) (arg9.view.writes (Elt F) f9 ((trip_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 k).2.1 (s.cg, s.dq) f9 f10)) = (Sem.tile ⟨q, arg4.view.read (Elt F) X4, arg5.view.read (Elt F) X5, m, d⟩ Sem.ones (Scf.iv w 1#32 k.val) (k0_off2 i w k) (k0_off2_inb i w hw k) s).dk
    ∧ arg10.view.read (Elt F) (arg10.view.writes (Elt F) f10 ((trip_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 k).2.2.1 (s.cg, s.dq) f9 f10)) = (Sem.tile ⟨q, arg4.view.read (Elt F) X4, arg5.view.read (Elt F) X5, m, d⟩ Sem.ones (Scf.iv w 1#32 k.val) (k0_off2 i w k) (k0_off2_inb i w hw k) s).dv := by
  unfold trip_k0_t1
  dsimp only
  refine ⟨?_, ?_, ?_⟩
  · simp only [trip_k0_t1.sl.r, trip_k0_t1.sl.r_1, trip_k0_t1.sl.r_2, trip_k0_t1.sl.r_3, trip_k0_t1.sl.r_4, pay4_eq, pay7_eq, pay8_eq, pay9_eq, pay10_eq, pay31_eq, pay32_eq, pay34_eq, View.readAt_eq_ld]
    rfl
  · simp only [trip_k0_t1.sl.r, trip_k0_t1.sl.r_1, trip_k0_t1.sl.r_2, trip_k0_t1.sl.r_3, trip_k0_t1.sl.r_4, pay4_eq, pay7_eq, pay8_eq, pay9_eq, pay10_eq, pay31_eq, pay32_eq, pay34_eq, View.readAt_eq_ld]
    rw [read_writes_cons, View.writes_nil, h9]; rfl
  · simp only [trip_k0_t1.sl.r, trip_k0_t1.sl.r_1, trip_k0_t1.sl.r_2, trip_k0_t1.sl.r_3, trip_k0_t1.sl.r_4, pay4_eq, pay7_eq, pay8_eq, pay9_eq, pay10_eq, pay31_eq, pay32_eq, pay34_eq, View.readAt_eq_ld]
    rw [read_writes_cons, View.writes_nil, h10]; rfl

/-- One trip of loop 2 is a tile. -/
theorem trip2_eq (a0 a1 : BitVec 32) (v3 v4 : IVec S256x256 32) (q : Vec F S1x256x64 .bf16) (d : Vec F S1x256x64 .f32) (m : Vec F S1x256x128 .f32) (w : Elt F .i32) (hw : k0_chk1 i w) (b : BitVec 32) (X4 : BufTy.Contents (Elt F) arg4.view.ty) (X5 : BufTy.Contents (Elt F) arg5.view.ty)
    (k : Fin (k0_t2_loop i w).trips) (f9 : BufTy.Contents (Elt F) arg9.view.ty) (f10 : BufTy.Contents (Elt F) arg10.view.ty) (s : Sem.St F)
    (h9 : arg9.view.read (Elt F) f9 = s.dk) (h10 : arg10.view.read (Elt F) f10 = s.dv) :
    (trip_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 k).1 (s.cg, s.dq) f9 f10 = ((Sem.tile ⟨q, arg4.view.read (Elt F) X4, arg5.view.read (Elt F) X5, m, d⟩ Sem.ones (Scf.iv b 1#32 k.val) (k0_off3 i w k) (k0_off3_inb i w hw k) s).cg, (Sem.tile ⟨q, arg4.view.read (Elt F) X4, arg5.view.read (Elt F) X5, m, d⟩ Sem.ones (Scf.iv b 1#32 k.val) (k0_off3 i w k) (k0_off3_inb i w hw k) s).dq)
    ∧ arg9.view.read (Elt F) (arg9.view.writes (Elt F) f9 ((trip_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 k).2.1 (s.cg, s.dq) f9 f10)) = (Sem.tile ⟨q, arg4.view.read (Elt F) X4, arg5.view.read (Elt F) X5, m, d⟩ Sem.ones (Scf.iv b 1#32 k.val) (k0_off3 i w k) (k0_off3_inb i w hw k) s).dk
    ∧ arg10.view.read (Elt F) (arg10.view.writes (Elt F) f10 ((trip_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 k).2.2.1 (s.cg, s.dq) f9 f10)) = (Sem.tile ⟨q, arg4.view.read (Elt F) X4, arg5.view.read (Elt F) X5, m, d⟩ Sem.ones (Scf.iv b 1#32 k.val) (k0_off3 i w k) (k0_off3_inb i w hw k) s).dv := by
  unfold trip_k0_t2
  dsimp only
  refine ⟨?_, ?_, ?_⟩
  · simp only [trip_k0_t2.sl.r, trip_k0_t2.sl.r_1, trip_k0_t2.sl.r_2, trip_k0_t2.sl.r_3, trip_k0_t2.sl.r_4, pay11_eq, pay38_eq, pay14_eq, pay15_eq, pay16_eq, pay17_eq, pay36_eq, pay37_eq, pay39_eq, View.readAt_eq_ld]
    rfl
  · simp only [trip_k0_t2.sl.r, trip_k0_t2.sl.r_1, trip_k0_t2.sl.r_2, trip_k0_t2.sl.r_3, trip_k0_t2.sl.r_4, pay11_eq, pay38_eq, pay14_eq, pay15_eq, pay16_eq, pay17_eq, pay36_eq, pay37_eq, pay39_eq, View.readAt_eq_ld]
    rw [read_writes_cons, View.writes_nil, h9]; rfl
  · simp only [trip_k0_t2.sl.r, trip_k0_t2.sl.r_1, trip_k0_t2.sl.r_2, trip_k0_t2.sl.r_3, trip_k0_t2.sl.r_4, pay11_eq, pay38_eq, pay14_eq, pay15_eq, pay16_eq, pay17_eq, pay36_eq, pay37_eq, pay39_eq, View.readAt_eq_ld]
    rw [read_writes_cons, View.writes_nil, h10]; rfl

/-- The state of loop 1 before trip `n`. -/
theorem st1_eq (a0 a1 : BitVec 32) (v3 v4 : IVec S256x256 32) (q : Vec F S1x256x64 .bf16) (d : Vec F S1x256x64 .f32) (m : Vec F S1x256x128 .f32) (w : Elt F .i32) (hw : k0_chk1 i w) (X4 : BufTy.Contents (Elt F) arg4.view.ty) (X5 : BufTy.Contents (Elt F) arg5.view.ty)
    (G9 : BufTy.Contents (Elt F) arg9.view.ty) (G10 : BufTy.Contents (Elt F) arg10.view.ty) (s : Sem.St F)
    (h9 : arg9.view.read (Elt F) G9 = s.dk) (h10 : arg10.view.read (Elt F) G10 = s.dv) : ∀ n : ℕ,
    (st_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 G9 G10 (s.cg, s.dq) n).1 = ((Sem.loop1 ⟨q, arg4.view.read (Elt F) X4, arg5.view.read (Elt F) X5, m, d⟩ i w hw s n).cg, (Sem.loop1 ⟨q, arg4.view.read (Elt F) X4, arg5.view.read (Elt F) X5, m, d⟩ i w hw s n).dq)
    ∧ arg9.view.read (Elt F) (arg9.view.writes (Elt F) G9 (st_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 G9 G10 (s.cg, s.dq) n).2.1) = (Sem.loop1 ⟨q, arg4.view.read (Elt F) X4, arg5.view.read (Elt F) X5, m, d⟩ i w hw s n).dk
    ∧ arg10.view.read (Elt F) (arg10.view.writes (Elt F) G10 (st_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 G9 G10 (s.cg, s.dq) n).2.2) = (Sem.loop1 ⟨q, arg4.view.read (Elt F) X4, arg5.view.read (Elt F) X5, m, d⟩ i w hw s n).dv
  | 0 => by
    refine ⟨rfl, ?_, ?_⟩
    · exact h9
    · exact h10
  | n + 1 => by
    obtain ⟨e1, e2, e3⟩ := st1_eq a0 a1 v3 v4 q d m w hw X4 X5 G9 G10 s h9 h10 n
    rw [st_k0_t1.eq_2]
    unfold st_k0_t1Step
    rw [Sem.loop1]
    by_cases h : n < (k0_t1_loop i w).trips
    · rw [dif_pos h, dif_pos h]
      dsimp only
      rw [e1, View.writes_append, View.writes_append]
      exact trip1_eq 𝒱 c bd i arg2 harg2 arg3 harg3 arg4 harg4 arg5 harg5 arg6 harg6 arg7 harg7 arg8 harg8 arg9 harg9 arg10 harg10 a0 a1 v3 v4 q d m w hw X4 X5 ⟨n, h⟩ _ _ _ e2 e3
    · rw [dif_neg h, dif_neg h]
      exact ⟨e1, e2, e3⟩

/-- The state of loop 2 before trip `n`. -/
theorem st2_eq (a0 a1 : BitVec 32) (v3 v4 : IVec S256x256 32) (q : Vec F S1x256x64 .bf16) (d : Vec F S1x256x64 .f32) (m : Vec F S1x256x128 .f32) (w : Elt F .i32) (hw : k0_chk1 i w) (b : BitVec 32) (X4 : BufTy.Contents (Elt F) arg4.view.ty) (X5 : BufTy.Contents (Elt F) arg5.view.ty)
    (G9 : BufTy.Contents (Elt F) arg9.view.ty) (G10 : BufTy.Contents (Elt F) arg10.view.ty) (s : Sem.St F)
    (h9 : arg9.view.read (Elt F) G9 = s.dk) (h10 : arg10.view.read (Elt F) G10 = s.dv) : ∀ n : ℕ,
    (st_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 G9 G10 (s.cg, s.dq) n).1 = ((Sem.loop2 ⟨q, arg4.view.read (Elt F) X4, arg5.view.read (Elt F) X5, m, d⟩ i w hw b s n).cg, (Sem.loop2 ⟨q, arg4.view.read (Elt F) X4, arg5.view.read (Elt F) X5, m, d⟩ i w hw b s n).dq)
    ∧ arg9.view.read (Elt F) (arg9.view.writes (Elt F) G9 (st_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 G9 G10 (s.cg, s.dq) n).2.1) = (Sem.loop2 ⟨q, arg4.view.read (Elt F) X4, arg5.view.read (Elt F) X5, m, d⟩ i w hw b s n).dk
    ∧ arg10.view.read (Elt F) (arg10.view.writes (Elt F) G10 (st_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw b X4 X5 G9 G10 (s.cg, s.dq) n).2.2) = (Sem.loop2 ⟨q, arg4.view.read (Elt F) X4, arg5.view.read (Elt F) X5, m, d⟩ i w hw b s n).dv
  | 0 => by
    refine ⟨rfl, ?_, ?_⟩
    · exact h9
    · exact h10
  | n + 1 => by
    obtain ⟨e1, e2, e3⟩ := st2_eq a0 a1 v3 v4 q d m w hw b X4 X5 G9 G10 s h9 h10 n
    rw [st_k0_t2.eq_2]
    unfold st_k0_t2Step
    rw [Sem.loop2]
    by_cases h : n < (k0_t2_loop i w).trips
    · rw [dif_pos h, dif_pos h]
      dsimp only
      rw [e1, View.writes_append, View.writes_append]
      exact trip2_eq 𝒱 c bd i arg2 harg2 arg3 harg3 arg4 harg4 arg5 harg5 arg6 harg6 arg7 harg7 arg8 harg8 arg9 harg9 arg10 harg10 a0 a1 v3 v4 q d m w hw b X4 X5 ⟨n, h⟩ _ _ _ e2 e3
    · rw [dif_neg h, dif_neg h]
      exact ⟨e1, e2, e3⟩

/-- The two loops, over a base that lists already cover. -/
theorem loops_eq (a0 a1 : BitVec 32) (v3 v4 : IVec S256x256 32) (q : Vec F S1x256x64 .bf16) (d : Vec F S1x256x64 .f32) (m : Vec F S1x256x128 .f32) (w : Elt F .i32) (hw : k0_chk1 i w) (X4 : BufTy.Contents (Elt F) arg4.view.ty) (X5 : BufTy.Contents (Elt F) arg5.view.ty)
    (G9 : BufTy.Contents (Elt F) arg9.view.ty) (G10 : BufTy.Contents (Elt F) arg10.view.ty)
    (H9 : List (View.Piece (Elt F) S1x8448x64 .f32)) (H10 : List (View.Piece (Elt F) S1x8448x64 .f32)) (dk dv : FVec F S1x8448x64 .f32)
    (h9 : arg9.view.read (Elt F) (arg9.view.writes (Elt F) G9 H9) = dk) (h10 : arg10.view.read (Elt F) (arg10.view.writes (Elt F) G10 H10) = dv)
    {S1 : _} (e1 : S1 = st_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 (arg9.view.writes (Elt F) G9 H9) (arg10.view.writes (Elt F) G10 H10) (k0_pay28, k0_pay29) (k0_t1_loop i w).trips)
    {S2 : _} (e2 : S2 = st_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw (Sem.mid i w) X4 X5 (arg9.view.writes (Elt F) G9 (S1.2.1 ++ H9)) (arg10.view.writes (Elt F) G10 (S1.2.2 ++ H10)) (S1.1.1, S1.1.2) (k0_t2_loop i w).trips) :
    S2.1 = ((Sem.rest ⟨q, arg4.view.read (Elt F) X4, arg5.view.read (Elt F) X5, m, d⟩ i w hw dk dv).cg, (Sem.rest ⟨q, arg4.view.read (Elt F) X4, arg5.view.read (Elt F) X5, m, d⟩ i w hw dk dv).dq)
    ∧ arg9.view.read (Elt F) (arg9.view.writes (Elt F) G9 (S2.2.1 ++ (S1.2.1 ++ H9))) = (Sem.rest ⟨q, arg4.view.read (Elt F) X4, arg5.view.read (Elt F) X5, m, d⟩ i w hw dk dv).dk
    ∧ arg10.view.read (Elt F) (arg10.view.writes (Elt F) G10 (S2.2.2 ++ (S1.2.2 ++ H10))) = (Sem.rest ⟨q, arg4.view.read (Elt F) X4, arg5.view.read (Elt F) X5, m, d⟩ i w hw dk dv).dv := by
  have a := st1_eq 𝒱 c bd i arg2 harg2 arg3 harg3 arg4 harg4 arg5 harg5 arg6 harg6 arg7 harg7 arg8 harg8 arg9 harg9 arg10 harg10 a0 a1 v3 v4 q d m w hw X4 X5 _ _ ⟨k0_pay28, k0_pay29, dk, dv⟩ h9 h10 (k0_t1_loop i w).trips
  dsimp only at a
  rw [← e1] at a
  obtain ⟨p1, p2, p3⟩ := a
  rw [← View.writes_append] at p2 p3
  have b := st2_eq 𝒱 c bd i arg2 harg2 arg3 harg3 arg4 harg4 arg5 harg5 arg6 harg6 arg7 harg7 arg8 harg8 arg9 harg9 arg10 harg10 a0 a1 v3 v4 q d m w hw (Sem.mid i w) X4 X5 _ _ _ p2 p3 (k0_t2_loop i w).trips
  rw [← p1] at b
  erw [← e2] at b
  rw [← View.writes_append, ← View.writes_append] at b
  exact b

/-- The same over a bare base. -/
theorem loops_eq' (a0 a1 : BitVec 32) (v3 v4 : IVec S256x256 32) (q : Vec F S1x256x64 .bf16) (d : Vec F S1x256x64 .f32) (m : Vec F S1x256x128 .f32) (w : Elt F .i32) (hw : k0_chk1 i w) (X4 : BufTy.Contents (Elt F) arg4.view.ty) (X5 : BufTy.Contents (Elt F) arg5.view.ty)
    (G9 : BufTy.Contents (Elt F) arg9.view.ty) (G10 : BufTy.Contents (Elt F) arg10.view.ty) (dk dv : FVec F S1x8448x64 .f32)
    (h9 : arg9.view.read (Elt F) G9 = dk) (h10 : arg10.view.read (Elt F) G10 = dv)
    {S1 : _} (e1 : S1 = st_k0_t1 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw X4 X5 G9 G10 (k0_pay28, k0_pay29) (k0_t1_loop i w).trips)
    {S2 : _} (e2 : S2 = st_k0_t2 (F := F) 𝒱 c bd i arg2 harg2 arg3 harg3 arg4 harg4 arg5 harg5 arg6 harg6 arg7 harg7 arg8 harg8 arg9 harg9 arg10 harg10 a0 a1 v3 v4 Sem.lane Sem.lower2 k0_pay21 k0_pay22 k0_pay23 q d m w hw (Sem.mid i w) X4 X5 (arg9.view.writes (Elt F) G9 S1.2.1) (arg10.view.writes (Elt F) G10 S1.2.2) (S1.1.1, S1.1.2) (k0_t2_loop i w).trips) :
    S2.1 = ((Sem.rest ⟨q, arg4.view.read (Elt F) X4, arg5.view.read (Elt F) X5, m, d⟩ i w hw dk dv).cg, (Sem.rest ⟨q, arg4.view.read (Elt F) X4, arg5.view.read (Elt F) X5, m, d⟩ i w hw dk dv).dq)
    ∧ arg9.view.read (Elt F) (arg9.view.writes (Elt F) G9 (S2.2.1 ++ S1.2.1)) = (Sem.rest ⟨q, arg4.view.read (Elt F) X4, arg5.view.read (Elt F) X5, m, d⟩ i w hw dk dv).dk
    ∧ arg10.view.read (Elt F) (arg10.view.writes (Elt F) G10 (S2.2.2 ++ S1.2.2)) = (Sem.rest ⟨q, arg4.view.read (Elt F) X4, arg5.view.read (Elt F) X5, m, d⟩ i w hw dk dv).dv := by
  have a := loops_eq 𝒱 c bd i arg2 harg2 arg3 harg3 arg4 harg4 arg5 harg5 arg6 harg6 arg7 harg7 arg8 harg8 arg9 harg9 arg10 harg10 a0 a1 v3 v4 q d m w hw X4 X5 G9 G10 [] [] dk dv h9 h10 (S1 := S1) e1 (S2 := S2)
  rw [List.append_nil, List.append_nil] at a
  exact a e2

/-- The last two tiles: the previous block's and the diagonal's, over whatever the loops left. -/
theorem fin_eq (I : Sem.In F) (s : Sem.St F) (acc : FVec F S256x1 .f32 × FVec F S256x64 .f32) (hacc : acc = (s.cg, s.dq))
    (C9 : BufTy.Contents (Elt F) arg9.view.ty) (C10 : BufTy.Contents (Elt F) arg10.view.ty)
    (h9 : arg9.view.read (Elt F) C9 = s.dk) (h10 : arg10.view.read (Elt F) C10 = s.dv)
    (a : BitVec 32) (ma : IVec S256x256 1) (kb : BitVec 32) (o4 o5 : Fin 3 → ℕ)
    (h4 : ∀ a, o4 a + S1x256x64.size a ≤ S1x8448x64.size a) (h5 : ∀ a, o5 a + S1x256x64.size a ≤ S1x8448x64.size a) :
    k0_pay3 (k0_pay50 (Sem.blk I.k o5 h5)) (k0_pay60 acc.1 acc.2 ma (k0_pay42 (Sem.blk I.k o4 h4)) (Sem.gwT I ma kb o4 h4) (Sem.ginT I ma kb o4 h4) (Sem.sigT I ma o4 h4))
        (k0_pay61 acc.1 Sem.diag (Sem.gwT I ma kb o4 h4) (k0_pay54 a Sem.lane Sem.lower2 (k0_pay25 I.q) (k0_pay26 I.d) (k0_pay27 I.c) Sem.diag (Sem.blk I.k o5 h5) (Sem.blk I.v o5 h5))
          (k0_pay55 a Sem.lane Sem.lower2 Sem.upper2 (k0_pay25 I.q) (k0_pay26 I.d) (k0_pay27 I.c) Sem.diag (Sem.blk I.k o5 h5) (Sem.blk I.v o5 h5)) (k0_pay56 (k0_pay25 I.q) Sem.diag (Sem.blk I.k o5 h5)))
      = shapeCast S1x256x64 (Sem.tile I Sem.diag a o5 h5 (Sem.tile I ma kb o4 h4 s)).dq shapeCasts_S256x64_S1x256x64
    ∧ arg9.view.read (Elt F) (arg9.view.writes (Elt F) C9
        [⟨Rect.unit (s := S1x8448x64) o5 S1x256x64.size h5, k0_pay1 (k0_pay25 I.q)
          (k0_pay61 acc.1 Sem.diag (Sem.gwT I ma kb o4 h4) (k0_pay54 a Sem.lane Sem.lower2 (k0_pay25 I.q) (k0_pay26 I.d) (k0_pay27 I.c) Sem.diag (Sem.blk I.k o5 h5) (Sem.blk I.v o5 h5))
            (k0_pay55 a Sem.lane Sem.lower2 Sem.upper2 (k0_pay25 I.q) (k0_pay26 I.d) (k0_pay27 I.c) Sem.diag (Sem.blk I.k o5 h5) (Sem.blk I.v o5 h5)) (k0_pay56 (k0_pay25 I.q) Sem.diag (Sem.blk I.k o5 h5)))
          (k0_pay62 (View.readAt (Elt F) arg9.view (Rect.unit (s := S1x8448x64) o5 S1x256x64.size h5).toLoadRect (arg9.view.writes (Elt F) C9
            [⟨Rect.unit (s := S1x8448x64) o4 S1x256x64.size h4, k0_pay58 (k0_pay25 I.q) acc.1 ma (Sem.gwT I ma kb o4 h4) (Sem.ginT I ma kb o4 h4) (Sem.sigT I ma o4 h4) (View.readAt (Elt F) arg9.view (Rect.unit (s := S1x8448x64) o4 S1x256x64.size h4).toLoadRect C9)⟩])))⟩,
         ⟨Rect.unit (s := S1x8448x64) o4 S1x256x64.size h4, k0_pay58 (k0_pay25 I.q) acc.1 ma (Sem.gwT I ma kb o4 h4) (Sem.ginT I ma kb o4 h4) (Sem.sigT I ma o4 h4) (View.readAt (Elt F) arg9.view (Rect.unit (s := S1x8448x64) o4 S1x256x64.size h4).toLoadRect C9)⟩])
      = (Sem.tile I Sem.diag a o5 h5 (Sem.tile I ma kb o4 h4 s)).dk
    ∧ arg10.view.read (Elt F) (arg10.view.writes (Elt F) C10
        [⟨Rect.unit (s := S1x8448x64) o5 S1x256x64.size h5, k0_pay2 (k0_pay26 I.d)
          (k0_pay53 a Sem.lane Sem.lower2 (k0_pay25 I.q) (k0_pay27 I.c) Sem.diag (Sem.blk I.k o5 h5))
          (View.readAt (Elt F) arg10.view (Rect.unit (s := S1x8448x64) o5 S1x256x64.size h5).toLoadRect (arg10.view.writes (Elt F) C10
            [⟨Rect.unit (s := S1x8448x64) o4 S1x256x64.size h4, k0_pay59 (k0_pay26 I.d) (Sem.wT I ma kb o4 h4) (View.readAt (Elt F) arg10.view (Rect.unit (s := S1x8448x64) o4 S1x256x64.size h4).toLoadRect C10)⟩]))⟩,
         ⟨Rect.unit (s := S1x8448x64) o4 S1x256x64.size h4, k0_pay59 (k0_pay26 I.d) (Sem.wT I ma kb o4 h4) (View.readAt (Elt F) arg10.view (Rect.unit (s := S1x8448x64) o4 S1x256x64.size h4).toLoadRect C10)⟩])
      = (Sem.tile I Sem.diag a o5 h5 (Sem.tile I ma kb o4 h4 s)).dv := by
  subst hacc
  simp only [View.readAt_eq_ld, read_writes_cons, View.writes_nil, h9, h10, pay61_eq, pay54_eq, pay55_eq, pay53_eq, pay50_eq, pay3_eq, pay1_eq, pay2_eq]
  exact ⟨rfl, rfl, rfl⟩

end

variable (𝒱 : Variants) (c : Dev nD) (bd : Option 𝒱.V) (i : grid0.Coords) (arg2 : Memref sig .tc .smem S16x33 .i32) (harg2 : arg2.IsWhole) (arg3 : Memref sig .tc .vmem S1x256x64 .bf16) (harg3 : arg3.IsWhole) (arg4 : Memref sig .tc .vmem S1x8448x64 .bf16) (harg4 : arg4.IsWhole) (arg5 : Memref sig .tc .vmem S1x8448x64 .bf16) (harg5 : arg5.IsWhole) (arg6 : Memref sig .tc .vmem S1x256x128 .f32) (harg6 : arg6.IsWhole) (arg7 : Memref sig .tc .vmem S1x256x64 .f32) (harg7 : arg7.IsWhole) (arg8 : Memref sig .tc .vmem S1x256x64 .f32) (harg8 : arg8.IsWhole) (arg9 : Memref sig .tc .vmem S1x8448x64 .f32) (harg9 : arg9.IsWhole) (arg10 : Memref sig .tc .vmem S1x8448x64 .f32) (harg10 : arg10.IsWhole)

set_option maxHeartbeats 4000000 in
theorem run_first (hi : Scalar.cmpi .ne (Scalar.extui (Scalar.cmpi .eq (BitVec.ofNat 32 (i 1).val) 0#32)) 0#32 = 1#1) (hz : (i 1).val = 0)
    (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
    (hchk : k0_chk1 i (View.readAt (Elt F) arg2.view (Rect.unit (s := S16x33) (k0_off1 i) S1x1.size (k0_off1_inb i)).toLoadRect f2 (Shape.Idx.first (numel1_S1x1.symm ▸ Nat.one_pos)))) :
    (iprop((arg2.view.loc (c : Thread nD τ) ↦{fullShare.right} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp (MT nD τ sig Unit (Elt F) ℕ (UR sig nD τ) ℕ))
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10)
        (fun _ => iprop((arg2.view.loc (c : Thread nD τ) ↦{fullShare.right} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = shapeCast S1x256x64 (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk k0_pay18 k0_pay19).dq shapeCasts_S256x64_S1x256x64⌝) ∗ (∃ f, (arg9.view.loc (c : Thread nD τ) ↦[arg9.view.set]{fullShare} f) ∗ ⌜arg9.view.read (Elt F) f = (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk k0_pay18 k0_pay19).dk⌝) ∗ (∃ f, (arg10.view.loc (c : Thread nD τ) ↦[arg10.view.set]{fullShare} f) ∗ ⌜arg10.view.read (Elt F) f = (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk k0_pay18 k0_pay19).dv⌝))) := by
  iintro ⟨H2, H3, H4, H5, H6, H7, H8, H9, H10⟩
  rw [cc0_sb_bwd_eq_skeleton]
  unfold cc0_sb_bwd_skel
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    have a := loops_eq 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 (arg9.view.junk) (arg10.view.junk) [⟨Rect.unit (s := S1x8448x64) ![0, 0, 0] S1x8448x64.size (by decide), k0_pay18⟩] [⟨Rect.unit (s := S1x8448x64) ![0, 0, 0] S1x8448x64.size (by decide), k0_pay19⟩] k0_pay18 k0_pay19 (read_all _ _ zero3 _ _) (read_all _ _ zero3 _ _) rfl rfl
    rw [← readAt_all arg3.view f3 zero3 (by decide), ← readAt_all arg6.view f6 zero3 (by decide), ← readAt_all arg7.view f7 zero3 (by decide)] at a ⊢
    have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
    exact (read_all _ _ zero3 _ _).trans b.1
  isplitl [H9]
  · iexists _
    isplitl [H9]; · iexact H9
    ipureintro
    have a := loops_eq 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 (arg9.view.junk) (arg10.view.junk) [⟨Rect.unit (s := S1x8448x64) ![0, 0, 0] S1x8448x64.size (by decide), k0_pay18⟩] [⟨Rect.unit (s := S1x8448x64) ![0, 0, 0] S1x8448x64.size (by decide), k0_pay19⟩] k0_pay18 k0_pay19 (read_all _ _ zero3 _ _) (read_all _ _ zero3 _ _) rfl rfl
    rw [← readAt_all arg3.view f3 zero3 (by decide), ← readAt_all arg6.view f6 zero3 (by decide), ← readAt_all arg7.view f7 zero3 (by decide)] at a ⊢
    have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
    exact b.2.1
  iexists _
  isplitl [H10]; · iexact H10
  ipureintro
  have a := loops_eq 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 (arg9.view.junk) (arg10.view.junk) [⟨Rect.unit (s := S1x8448x64) ![0, 0, 0] S1x8448x64.size (by decide), k0_pay18⟩] [⟨Rect.unit (s := S1x8448x64) ![0, 0, 0] S1x8448x64.size (by decide), k0_pay19⟩] k0_pay18 k0_pay19 (read_all _ _ zero3 _ _) (read_all _ _ zero3 _ _) rfl rfl
  rw [← readAt_all arg3.view f3 zero3 (by decide), ← readAt_all arg6.view f6 zero3 (by decide), ← readAt_all arg7.view f7 zero3 (by decide)] at a ⊢
  have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
  exact b.2.2

set_option maxHeartbeats 4000000 in
theorem run_next (hi : ¬ Scalar.cmpi .ne (Scalar.extui (Scalar.cmpi .eq (BitVec.ofNat 32 (i 1).val) 0#32)) 0#32 = 1#1) (hz : 0 < (i 1).val)
    (E : Set ℕ) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty)
    (hchk : k0_chk1 i (View.readAt (Elt F) arg2.view (Rect.unit (s := S16x33) (k0_off1 i) S1x1.size (k0_off1_inb i)).toLoadRect f2 (Shape.Idx.first (numel1_S1x1.symm ▸ Nat.one_pos)))) :
    (iprop((arg2.view.loc (c : Thread nD τ) ↦{fullShare.right} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) : sProp (MT nD τ sig Unit (Elt F) ℕ (UR sig nD τ) ℕ))
      ⊢ wp frame (wpE (defs₀ (F := F)) 𝒱 (c : Thread nD τ) bd) E (cc0_sb_bwd (F := F) i arg2 harg2 arg3 harg3 arg4 harg4 arg5 harg5 arg6 harg6 arg7 harg7 arg8 harg8 arg9 harg9 arg10 harg10)
        (fun _ => iprop((arg2.view.loc (c : Thread nD τ) ↦{fullShare.right} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = shapeCast S1x256x64 (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk (arg9.view.read (Elt F) f9) (arg10.view.read (Elt F) f10)).dq shapeCasts_S256x64_S1x256x64⌝) ∗ (∃ f, (arg9.view.loc (c : Thread nD τ) ↦[arg9.view.set]{fullShare} f) ∗ ⌜arg9.view.read (Elt F) f = (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk (arg9.view.read (Elt F) f9) (arg10.view.read (Elt F) f10)).dk⌝) ∗ (∃ f, (arg10.view.loc (c : Thread nD τ) ↦[arg10.view.set]{fullShare} f) ∗ ⌜arg10.view.read (Elt F) f = (Sem.point ⟨arg3.view.read (Elt F) f3, arg4.view.read (Elt F) f4, arg5.view.read (Elt F) f5, arg6.view.read (Elt F) f6, arg7.view.read (Elt F) f7⟩ i (View.readAt (Elt F) arg2.view (Rect.unit (s := S16x33) (k0_off1 i) S1x1.size (k0_off1_inb i)).toLoadRect f2 (Shape.Idx.first (numel1_S1x1.symm ▸ Nat.one_pos))) hchk (arg9.view.read (Elt F) f9) (arg10.view.read (Elt F) f10)).dv⌝))) := by
  iintro ⟨H2, H3, H4, H5, H6, H7, H8, H9, H10⟩
  rw [cc0_sb_bwd_eq_skeleton]
  unfold cc0_sb_bwd_skel
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]; · iexact H8
    ipureintro
    have a := loops_eq' 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 f9 f10 _ _ rfl rfl rfl rfl
    rw [← readAt_all arg3.view f3 zero3 (by decide), ← readAt_all arg6.view f6 zero3 (by decide), ← readAt_all arg7.view f7 zero3 (by decide)] at a ⊢
    have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
    exact (read_all _ _ zero3 _ _).trans b.1
  isplitl [H9]
  · iexists _
    isplitl [H9]; · iexact H9
    ipureintro
    have a := loops_eq' 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 f9 f10 _ _ rfl rfl rfl rfl
    rw [← readAt_all arg3.view f3 zero3 (by decide), ← readAt_all arg6.view f6 zero3 (by decide), ← readAt_all arg7.view f7 zero3 (by decide)] at a ⊢
    have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
    exact b.2.1
  iexists _
  isplitl [H10]; · iexact H10
  ipureintro
  have a := loops_eq' 𝒱 c bd i arg2 harg2 arg3 harg3 arg4 harg4 arg5 harg5 arg6 harg6 arg7 harg7 arg8 harg8 arg9 harg9 arg10 harg10 (BitVec.ofNat 32 (i 0).val) (BitVec.ofNat 32 (i 1).val) (iota .tc S256x256 32 [0] iota_S256x256_d0_w32) (iota .tc S256x256 32 [1] iota_S256x256_d1_w32) (arg3.view.read (Elt F) f3) (arg7.view.read (Elt F) f7) (arg6.view.read (Elt F) f6) _ hchk f4 f5 f9 f10 _ _ rfl rfl rfl rfl
  rw [← readAt_all arg3.view f3 zero3 (by decide), ← readAt_all arg6.view f6 zero3 (by decide), ← readAt_all arg7.view f7 zero3 (by decide)] at a ⊢
  have b := fin_eq arg9 arg10 ⟨View.readAt (Elt F) arg3.view (Rect.unit (s := S1x256x64) ![0, 0, 0] S1x256x64.size (by decide)).toLoadRect f3, arg4.view.read (Elt F) f4, arg5.view.read (Elt F) f5, View.readAt (Elt F) arg6.view (Rect.unit (s := S1x256x128) ![0, 0, 0] S1x256x128.size (by decide)).toLoadRect f6, View.readAt (Elt F) arg7.view (Rect.unit (s := S1x256x64) ![0, 0, 0] S1x256x64.size (by decide)).toLoadRect f7⟩ _ _ a.1 _ _ a.2.1 a.2.2 (BitVec.ofNat 32 (i 1).val) (k0_pay41 (BitVec.ofNat 32 (i 1).val)) (Scalar.maxsi (Scalar.subi (BitVec.ofNat 32 (i 1).val) 1#32) 0#32) (k0_off4 i) (k0_off5 i) (k0_off4_inb i) (k0_off5_inb i)
  exact b.2.2

end Cert.KernelIdeal.Body
-- ==== Proof.Run.lean ====
module

public import proofs.«01_k».proof.Proof.Body
public import Idealize.ShloMosaic.Lib.Pipeline.FrameBody
public import Idealize.ShloMosaic.Lib.Ring
public import Idealize.ShloMosaic.Lib.Tactic
public import Idealize.ShloMosaic.Lib.WordCmp
public import Idealize.ShloMosaic.Lib.StableHlo.Run

/-! The kernel's run: what every array holds when the launch ends, at any float instance. A point is `Sem.point` at the
    blocks its windows hold; dk and dv are carried from a head's point to the next. -/

@[expose] public section

set_option maxRecDepth 16384
noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Cert.KernelIdeal Cert.KernelIdeal.Gen

variable {F : FTy → Type} [FloatOps F] [Named F]

local notation "𝕄" => MT nD τ sig Unit (Elt F) ℕ (UR sig nD τ) ℕ

set_option synthInstance.maxHeartbeats 200000
variable (m : (ℓ : Loc nD τ sig) → Buf (Elt F) ℓ) (ρ : Dev nD → PrngReg)

/-! ## The host operations, up to the launch -/

/-- What the launch finds in a buffer. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 1000000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

set_option maxHeartbeats 1000000 in
theorem V_of_not_written (c : Dev nD) (b : Ref sig .tc)
    (h : (hostOps0 : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := V_of_not_written m c _ (by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := V_of_not_written m c _ (by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := V_of_not_written m c _ (by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := V_of_not_written m c _ (by
  simp only [List.Forall, StableHlo.nullary_writes, StableHlo.unary_writes, StableHlo.binary_writes, StableHlo.ternary_writes, StableHlo.reshape_writes, Finset.mem_singleton]
  repeat' apply And.intro
  all_goals exact StableHlo.devRef_ne_of_ne (by decide))

/-- The table is all zeros. -/
theorem V_table (c : Dev nD) : V m c main_v26 = fun _ => (0#32 : Elt F .i32) := by
  simp only [V, hostOps0]
  after_results_simp
  rfl

/-- The host's scores, -/
def scores (q k : Vec F S16x8448x64 .bf16) : Vec F S16x8448x8448 .f32 :=
  Host.dotGeneral dot_S16x8448x64_S16x8448x64_S16x8448x8448_2_2_1_1_0_0 none (extf .f32 q bitsLt_bf16_f32) (extf .f32 k bitsLt_bf16_f32)
/-- their softplus, -/
def softplus (z : Vec F S16x8448x8448 .f32) : Vec F S16x8448x8448 .f32 :=
  addf (maximumf z (broadcastInDim S16x8448x8448 ![] bcast_S_S16x8448x8448 (constant S_ .f32 0x00000000#32))) (Host.log1p (Host.exp (Host.negf (Host.absf z))))
/-- its negation before the diagonal, -/
def logKeep (z : Vec F S16x8448x8448 .f32) : Vec F S16x8448x8448 .f32 :=
  select (cmpi .slt (iotaInDim S16x8448x8448 32 2) (iotaInDim S16x8448x8448 32 1)) (Host.negf (softplus z))
    (broadcastInDim S16x8448x8448 ![] bcast_S_S16x8448x8448 (constant S_ .f32 0x00000000#32))
/-- that summed over each block of 256 columns, -/
def perBlock (z : Vec F S16x8448x8448 .f32) : Vec F S16x8448x33 .f32 :=
  Host.reduceAdd (shapeCast S16x8448x33x256 (logKeep z) shapeCasts_S16x8448x8448_S16x8448x33x256) (constant S_ .f32 0x00000000#32) reducesTo_S16x8448x33x256_S16x8448x33_d3 h_S_
/-- and those sums over the blocks after a lane's. -/
def carry (q k : Vec F S16x8448x64 .bf16) : Vec F S16x8448x128 .f32 :=
  Host.reduceAdd (select (cmpi .sgt (iotaInDim S16x8448x128x33 32 3) (iotaInDim S16x8448x128x33 32 2))
      (broadcastInDim S16x8448x128x33 ![0, 1, 2, 3] bcast_S16x8448x1x33_S16x8448x128x33_0_1_2_3
        (broadcastInDim S16x8448x1x33 ![0, 1, 3] bcast_S16x8448x33_S16x8448x1x33_0_1_3 (perBlock (scores q k))))
      (broadcastInDim S16x8448x128x33 ![] bcast_S_S16x8448x128x33 (constant S_ .f32 0x00000000#32)))
    (constant S_ .f32 0x00000000#32) reducesTo_S16x8448x128x33_S16x8448x128_d3 h_S_

theorem V_carry (c : Dev nD) : V m c main_v25 = carry (m ((c : Thread nD τ).loc main_arg0)) (m ((c : Thread nD τ).loc main_arg1)) := by
  simp only [V, hostOps0]
  after_results_simp
  rfl

/-! ## The table -/

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
abbrev tabM : Memref sig .tc .smem S16x33 .i32 := Memref.whole main_v26

theorem phiT_eq (c : Dev nD) : (Pipeline.ΦT pre0 (tbl m) c : sProp 𝕄) = iprop(tabM.view.loc (c : Thread nD τ) ↦{fullShare.right} (tbl m 0)) := by
  unfold Pipeline.ΦT Pipeline.prefHeld
  rw [show (Finset.univ : Finset (Fin 1)) = {(0 : Fin 1)} from by decide, bigSep_singleton]
  rfl

/-- The word a point reads off the table. -/
abbrev word (i : grid0.Coords) : Elt F .i32 :=
  View.readAt (Elt F) tabM.view (Rect.unit (s := S16x33) (k0_off1 i) S1x1.size (k0_off1_inb i)).toLoadRect (tbl m 0) (Shape.Idx.first (numel1_S1x1.symm ▸ Nat.one_pos))

theorem word_eq (i : grid0.Coords) : word m i = (0#32 : BitVec 32) := by
  unfold word tbl
  exact congrFun (V_table m 0) _

/-! ## The points -/

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- A point at its blocks. -/
abbrev inp (c : Dev nD) (t : Fin grid0.N) : Sem.In F := ⟨iblk m c 0 t, iblk m c 1 t, iblk m c 2 t, iblk m c 3 t, iblk m c 4 t⟩

/-- The point's body, the table's word being zero. -/
abbrev pt (I : Sem.In F) (i : grid0.Coords) (dk dv : FVec F S1x8448x64 .f32) : Sem.St F :=
  Sem.point I i (0#32 : BitVec 32) (Body.chk_zero i) dk dv

theorem point_zero (I : Sem.In F) (i : grid0.Coords) (w : Elt F .i32) (hw : k0_chk1 i w) (h : w = (0#32 : BitVec 32)) (dk dv : FVec F S1x8448x64 .f32) :
    Sem.point I i w hw dk dv = pt I i dk dv := by
  subst h; rfl

/-- What the points up to `n` leave, dk and dv starting anew at each head's first point. -/
def acc (c : Dev nD) : (n : ℕ) → n < grid0.N → Sem.St F
  | 0, h => pt (inp m c ⟨0, h⟩) (grid0.coords ⟨0, h⟩) k0_pay18 k0_pay19
  | n + 1, h =>
    if (n + 1) % 33 = 0 then pt (inp m c ⟨n + 1, h⟩) (grid0.coords ⟨n + 1, h⟩) k0_pay18 k0_pay19
    else pt (inp m c ⟨n + 1, h⟩) (grid0.coords ⟨n + 1, h⟩) (acc c n (Nat.lt_of_succ_lt h)).dk (acc c n (Nat.lt_of_succ_lt h)).dv

theorem acc_first (c : Dev nD) (t : Fin grid0.N) (h : t.val % 33 = 0) :
    acc m c t.val t.isLt = pt (inp m c t) (grid0.coords t) k0_pay18 k0_pay19 := by
  obtain ⟨n, hn⟩ := t
  cases n with
  | zero => rfl
  | succ n => rw [acc, if_pos h]

theorem acc_next (c : Dev nD) (t : Fin grid0.N) (h : ¬ t.val % 33 = 0) :
    acc m c t.val t.isLt = pt (inp m c t) (grid0.coords t) (acc m c (t.val - 1) (Nat.lt_of_le_of_lt (Nat.sub_le _ _) t.isLt)).dk
      (acc m c (t.val - 1) (Nat.lt_of_le_of_lt (Nat.sub_le _ _) t.isLt)).dv := by
  obtain ⟨n, hn⟩ := t
  cases n with
  | zero => exact absurd rfl h
  | succ n => rw [acc, if_neg h]; rfl

theorem coords_one (t : Fin grid0.N) : (grid0.coords t 1).val = t.val % 33 := by
  rw [Pipeline.Grid.coords_val (S := 1) (B := 33) t 1 (by decide) rfl, Nat.div_one]

theorem first_iff (x : Fin 33) : (Scalar.cmpi .ne (Scalar.extui (Scalar.cmpi .eq (BitVec.ofNat 32 x.val) 0#32)) 0#32 = 1#1) ↔ x.val = 0 := by
  revert x; decide

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => shapeCast S1x256x64 (acc m c t.val t.isLt).dq shapeCasts_S256x64_S1x256x64
    | ⟨6, _⟩ => (acc m c t.val t.isLt).dk
    | ⟨7, _⟩ => (acc m c t.val t.isLt).dv
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0 (c : Dev nD) (t) : (dats m 0 c).after 0 t = iblk m c 0 t := rfl
theorem after1 (c : Dev nD) (t) : (dats m 0 c).after 1 t = iblk m c 1 t := rfl
theorem after2 (c : Dev nD) (t) : (dats m 0 c).after 2 t = iblk m c 2 t := rfl
theorem after3 (c : Dev nD) (t) : (dats m 0 c).after 3 t = iblk m c 3 t := rfl
theorem after4 (c : Dev nD) (t) : (dats m 0 c).after 4 t = iblk m c 4 t := rfl
theorem after5 (c : Dev nD) (t : Fin grid0.N) : (dats m 0 c).after 5 t = shapeCast S1x256x64 (acc m c t.val t.isLt).dq shapeCasts_S256x64_S1x256x64 := rfl
theorem after6 (c : Dev nD) (t : Fin grid0.N) : (dats m 0 c).after 6 t = (acc m c t.val t.isLt).dk := rfl
theorem after7 (c : Dev nD) (t : Fin grid0.N) : (dats m 0 c).after 7 t = (acc m c t.val t.isLt).dv := rfl

theorem before0 (c : Dev nD) (t d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

theorem flush6 (t : Fin (cfgM m).N) : ((cfgM m).win 6).flush t = true ↔ t.val % 33 = 32 :=
  (fun t => Pipeline.Window.flushOf_reads cc0_transform_6 reads0_6 hreads0_6 0 (by decide) (by decide) (Pipeline.Window.sep_of_coord cc0_transform_6 0 0 (fun _ => rfl) (by decide)) (P := 33) (m := 32) (by decide) rfl t : ∀ t : Fin grid0.N, Pipeline.Window.flushOf grid0 true cc0_transform_6 t = true ↔ t.val % 33 = 32) t
theorem flush7 (t : Fin (cfgM m).N) : ((cfgM m).win 7).flush t = true ↔ t.val % 33 = 32 :=
  (fun t => Pipeline.Window.flushOf_reads cc0_transform_7 reads0_7 hreads0_7 0 (by decide) (by decide) (Pipeline.Window.sep_of_coord cc0_transform_7 0 0 (fun _ => rfl) (by decide)) (P := 33) (m := 32) (by decide) rfl t : ∀ t : Fin grid0.N, Pipeline.Window.flushOf grid0 true cc0_transform_7 t = true ↔ t.val % 33 = 32) t

theorem before6 (c : Dev nD) (t : Fin grid0.N) (h : ¬ t.val % 33 = 0) (d) :
    (dats m 0 c).before 6 t d = (acc m c (t.val - 1) (Nat.lt_of_le_of_lt (Nat.sub_le _ _) t.isLt)).dk := by
  rw [(dats m 0 c).before_out_kept 6 rfl t (fun h0 => h (by rw [h0])) (by
    rw [Bool.eq_false_iff]; intro hf; have := (flush6 m _).mp hf; dsimp only at this; omega) (fun _ => rfl) (fun _ _ => rfl) d, after6]
theorem before7 (c : Dev nD) (t : Fin grid0.N) (h : ¬ t.val % 33 = 0) (d) :
    (dats m 0 c).before 7 t d = (acc m c (t.val - 1) (Nat.lt_of_le_of_lt (Nat.sub_le _ _) t.isLt)).dv := by
  rw [(dats m 0 c).before_out_kept 7 rfl t (fun h0 => h (by rw [h0])) (by
    rw [Bool.eq_false_iff]; intro hf; have := (flush7 m _).mp hf; dsimp only at this; omega) (fun _ => rfl) (fun _ _ => rfl) d, after7]

/-! ## The body at a point -/

section Point

theorem own_of {c : Dev nD} {sp : Space} {S : Shape} {e : EltTy} {M : Memref sig .tc sp S e} {f : Buf (Elt F) (M.view.loc (c : Thread nD τ))} {X : S.Idx → Elt F e}
    (h : M.view.read (Elt F) f = X) : (iprop(M.view.loc (c : Thread nD τ) ↦[M.view.set]{fullShare} f) : sProp 𝕄) ⊢ iprop(∃ f', ⌜M.view.read (Elt F) f' = X⌝ ∗ (M.view.loc (c : Thread nD τ) ↦[M.view.set]{fullShare} f')) := by
  iintro H
  iexists f
  isplitr
  · ipureintro; exact h
  iexact H

variable (𝒱 : Variants) (c : Dev nD) (bd : Option 𝒱.V) (i : grid0.Coords) (arg2 : Memref sig .tc .smem S16x33 .i32) (harg2 : arg2.IsWhole) (arg3 : Memref sig .tc .vmem S1x256x64 .bf16) (harg3 : arg3.IsWhole) (arg4 : Memref sig .tc .vmem S1x8448x64 .bf16) (harg4 : arg4.IsWhole) (arg5 : Memref sig .tc .vmem S1x8448x64 .bf16) (harg5 : arg5.IsWhole) (arg6 : Memref sig .tc .vmem S1x256x128 .f32) (harg6 : arg6.IsWhole) (arg7 : Memref sig .tc .vmem S1x256x64 .f32) (harg7 : arg7.IsWhole) (arg8 : Memref sig .tc .vmem S1x256x64 .f32) (harg8 : arg8.IsWhole) (arg9 : Memref sig .tc .vmem S1x8448x64 .f32) (harg9 : arg9.IsWhole) (arg10 : Memref sig .tc .vmem S1x8448x64 .f32) (harg10 : arg10.IsWhole)

/-- A head's first point, over what its buffers hold. -/
theorem point_first (hi : Scalar.cmpi .ne (Scalar.extui (Scalar.cmpi .eq (BitVec.ofNat 32 (i 1).val) 0#32)) 0#32 = 1#1) (hz : (i 1).val = 0) (f2 : BufTy.Contents (Elt F) arg2.view.ty) (hw : (View.readAt (Elt F) arg2.view (Rect.unit (s := S16x33) (k0_off1 i) S1x1.size (k0_off1_inb i)).toLoadRect f2 (Shape.Idx.first (numel1_S1x1.symm ▸ Nat.one_pos))) = (0#32 : BitVec 32)) (X3 : Vec F S1x256x64 .bf16) (X4 : Vec F S1x8448x64 .bf16) (X5 : Vec F S1x8448x64 .bf16) (X6 : Vec F S1x256x128 .f32) (X7 : Vec F S1x256x64 .f32) :
    (iprop((arg2.view.loc (c : Thread nD τ) ↦{fullShare.right} f2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ (∃ d, owns (c : Thread nD τ) arg9 fullShare d) ∗ (∃ d, owns (c : Thread nD τ) arg10 fullShare d)) : sProp 𝕄)
      ⊢ wp frame (wpE (defs₀ (F := F)) 𝒱 (c : Thread nD τ) bd) Set.univ (cc0_sb_bwd (F := F) i arg2 harg2 arg3 harg3 arg4 harg4 arg5 harg5 arg6 harg6 arg7 harg7 arg8 harg8 arg9 harg9 arg10 harg10)
        (fun _ => iprop((arg2.view.loc (c : Thread nD τ) ↦{fullShare.right} f2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (shapeCast S1x256x64 (pt ⟨X3, X4, X5, X6, X7⟩ i k0_pay18 k0_pay19).dq shapeCasts_S256x64_S1x256x64) ∗ owns (c : Thread nD τ) arg9 fullShare (pt ⟨X3, X4, X5, X6, X7⟩ i k0_pay18 k0_pay19).dk ∗ owns (c : Thread nD τ) arg10 fullShare (pt ⟨X3, X4, X5, X6, X7⟩ i k0_pay18 k0_pay19).dv)) := by
  have hchk : k0_chk1 i (View.readAt (Elt F) arg2.view (Rect.unit (s := S16x33) (k0_off1 i) S1x1.size (k0_off1_inb i)).toLoadRect f2 (Shape.Idx.first (numel1_S1x1.symm ▸ Nat.one_pos))) := by rw [hw]; exact Body.chk_zero i
  unfold owns
  iintro ⟨H2, ⟨%f3, %h3, H3⟩, ⟨%f4, %h4, H4⟩, ⟨%f5, %h5, H5⟩, ⟨%f6, %h6, H6⟩, ⟨%f7, %h7, H7⟩, ⟨%d8, %f8, %h8, H8⟩, ⟨%d9, %f9, %h9, H9⟩, ⟨%d10, %f10, %h10, H10⟩⟩
  subst h3 h4 h5 h6 h7
  iapply (wp_wand_r frame (wpE (defs₀ (F := F)) 𝒱 (c : Thread nD τ) bd) Set.univ)
  isplitl [H2 H3 H4 H5 H6 H7 H8 H9 H10]
  · iapply (Body.run_first 𝒱 c bd i arg2 harg2 arg3 harg3 arg4 harg4 arg5 harg5 arg6 harg6 arg7 harg7 arg8 harg8 arg9 harg9 arg10 harg10 hi hz Set.univ f2 f3 f4 f5 f6 f7 f8 f9 f10 hchk)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨H2, H3, H4, H5, H6, H7, ⟨%g8, H8, %e8⟩, ⟨%g9, H9, %e9⟩, ⟨%g10, H10, %e10⟩⟩
  rw [point_zero _ i _ hchk hw] at e8 e9 e10
  isplitl [H2]; · iexact H2
  isplitl [H3]; · iapply (own_of rfl); iexact H3
  isplitl [H4]; · iapply (own_of rfl); iexact H4
  isplitl [H5]; · iapply (own_of rfl); iexact H5
  isplitl [H6]; · iapply (own_of rfl); iexact H6
  isplitl [H7]; · iapply (own_of rfl); iexact H7
  isplitl [H8]; · iapply (own_of e8); iexact H8
  isplitl [H9]; · iapply (own_of e9); iexact H9
  iapply (own_of e10); iexact H10

/-- A later point, over what its buffers hold. -/
theorem point_next (hi : ¬ Scalar.cmpi .ne (Scalar.extui (Scalar.cmpi .eq (BitVec.ofNat 32 (i 1).val) 0#32)) 0#32 = 1#1) (hz : 0 < (i 1).val) (f2 : BufTy.Contents (Elt F) arg2.view.ty) (hw : (View.readAt (Elt F) arg2.view (Rect.unit (s := S16x33) (k0_off1 i) S1x1.size (k0_off1_inb i)).toLoadRect f2 (Shape.Idx.first (numel1_S1x1.symm ▸ Nat.one_pos))) = (0#32 : BitVec 32)) (X3 : Vec F S1x256x64 .bf16) (X4 : Vec F S1x8448x64 .bf16) (X5 : Vec F S1x8448x64 .bf16) (X6 : Vec F S1x256x128 .f32) (X7 : Vec F S1x256x64 .f32) (X9 : Vec F S1x8448x64 .f32) (X10 : Vec F S1x8448x64 .f32) :
    (iprop((arg2.view.loc (c : Thread nD τ) ↦{fullShare.right} f2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d) ∗ owns (c : Thread nD τ) arg9 fullShare X9 ∗ owns (c : Thread nD τ) arg10 fullShare X10) : sProp 𝕄)
      ⊢ wp frame (wpE (defs₀ (F := F)) 𝒱 (c : Thread nD τ) bd) Set.univ (cc0_sb_bwd (F := F) i arg2 harg2 arg3 harg3 arg4 harg4 arg5 harg5 arg6 harg6 arg7 harg7 arg8 harg8 arg9 harg9 arg10 harg10)
        (fun _ => iprop((arg2.view.loc (c : Thread nD τ) ↦{fullShare.right} f2) ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (shapeCast S1x256x64 (pt ⟨X3, X4, X5, X6, X7⟩ i X9 X10).dq shapeCasts_S256x64_S1x256x64) ∗ owns (c : Thread nD τ) arg9 fullShare (pt ⟨X3, X4, X5, X6, X7⟩ i X9 X10).dk ∗ owns (c : Thread nD τ) arg10 fullShare (pt ⟨X3, X4, X5, X6, X7⟩ i X9 X10).dv)) := by
  have hchk : k0_chk1 i (View.readAt (Elt F) arg2.view (Rect.unit (s := S16x33) (k0_off1 i) S1x1.size (k0_off1_inb i)).toLoadRect f2 (Shape.Idx.first (numel1_S1x1.symm ▸ Nat.one_pos))) := by rw [hw]; exact Body.chk_zero i
  unfold owns
  iintro ⟨H2, ⟨%f3, %h3, H3⟩, ⟨%f4, %h4, H4⟩, ⟨%f5, %h5, H5⟩, ⟨%f6, %h6, H6⟩, ⟨%f7, %h7, H7⟩, ⟨%d8, %f8, %h8, H8⟩, ⟨%f9, %h9, H9⟩, ⟨%f10, %h10, H10⟩⟩
  subst h3 h4 h5 h6 h7 h9 h10
  iapply (wp_wand_r frame (wpE (defs₀ (F := F)) 𝒱 (c : Thread nD τ) bd) Set.univ)
  isplitl [H2 H3 H4 H5 H6 H7 H8 H9 H10]
  · iapply (Body.run_next 𝒱 c bd i arg2 harg2 arg3 harg3 arg4 harg4 arg5 harg5 arg6 harg6 arg7 harg7 arg8 harg8 arg9 harg9 arg10 harg10 hi hz Set.univ f2 f3 f4 f5 f6 f7 f8 f9 f10 hchk)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %a ⟨H2, H3, H4, H5, H6, H7, ⟨%g8, H8, %e8⟩, ⟨%g9, H9, %e9⟩, ⟨%g10, H10, %e10⟩⟩
  rw [point_zero _ i _ hchk hw] at e8 e9 e10
  isplitl [H2]; · iexact H2
  isplitl [H3]; · iapply (own_of rfl); iexact H3
  isplitl [H4]; · iapply (own_of rfl); iexact H4
  isplitl [H5]; · iapply (own_of rfl); iexact H5
  isplitl [H6]; · iapply (own_of rfl); iexact H6
  isplitl [H7]; · iapply (own_of rfl); iexact H7
  isplitl [H8]; · iapply (own_of e8); iexact H8
  isplitl [H9]; · iapply (own_of e9); iexact H9
  iapply (own_of e10); iexact H10

end Point

abbrev st0 (t : Fin (cfgM m).N) := ((cfgM m).win 0).stage ((cfgM m).slots t 0)
abbrev st1 (t : Fin (cfgM m).N) := ((cfgM m).win 1).stage ((cfgM m).slots t 1)
abbrev st2 (t : Fin (cfgM m).N) := ((cfgM m).win 2).stage ((cfgM m).slots t 2)
abbrev st3 (t : Fin (cfgM m).N) := ((cfgM m).win 3).stage ((cfgM m).slots t 3)
abbrev st4 (t : Fin (cfgM m).N) := ((cfgM m).win 4).stage ((cfgM m).slots t 4)
abbrev st5 (t : Fin (cfgM m).N) := ((cfgM m).win 5).stage ((cfgM m).slots t 5)
abbrev st6 (t : Fin (cfgM m).N) := ((cfgM m).win 6).stage ((cfgM m).slots t 6)
abbrev st7 (t : Fin (cfgM m).N) := ((cfgM m).win 7).stage ((cfgM m).slots t 7)

/-- The body at point `t`, on the buffers its windows are on. -/
abbrev bodyAt (t : Fin (cfgM m).N) : Prog (TpuEff nD τ sig (Elt F) Λ₀ .tc) PUnit :=
  cc0_sb_bwd (grid0.coords t) tabM (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (st7 m t) (hstage0_7 (((cfgM m).slots t 7).cast nbuf0_7))

theorem defs₀_row (t : Fin (cfgM m).N) :
    defs₀ (F := F) .tc (cfgM m).body ((cfgM m).bodyArgs t ((cfgM m).slots t)) = bodyAt m t := by
  unfold defs₀; rw [Defs.onTc_tc]; rfl

def bodyPre (c : Dev nD) (t : Fin (cfgM m).N) : sProp 𝕄 :=
  iprop((dats m 0 c).Φ t.castSucc ∗ (dats m 0 c).owesAt () t.castSucc
    ∗ (∃ d, owns (c : Thread nD τ) (st0 m t) fullShare ((dats m 0 c).before 0 t d)) ∗ (∃ d, owns (c : Thread nD τ) (st1 m t) fullShare ((dats m 0 c).before 1 t d)) ∗ (∃ d, owns (c : Thread nD τ) (st2 m t) fullShare ((dats m 0 c).before 2 t d)) ∗ (∃ d, owns (c : Thread nD τ) (st3 m t) fullShare ((dats m 0 c).before 3 t d)) ∗ (∃ d, owns (c : Thread nD τ) (st4 m t) fullShare ((dats m 0 c).before 4 t d)) ∗ (∃ d, owns (c : Thread nD τ) (st5 m t) fullShare ((dats m 0 c).before 5 t d)) ∗ (∃ d, owns (c : Thread nD τ) (st6 m t) fullShare ((dats m 0 c).before 6 t d)) ∗ (∃ d, owns (c : Thread nD τ) (st7 m t) fullShare ((dats m 0 c).before 7 t d)))

def bodyPost (c : Dev nD) (t : Fin (cfgM m).N) : sProp 𝕄 :=
  iprop((dats m 0 c).Φ t.succ ∗ (dats m 0 c).owesAt () t.succ
    ∗ owns (c : Thread nD τ) (st0 m t) fullShare ((dats m 0 c).after 0 t) ∗ owns (c : Thread nD τ) (st1 m t) fullShare ((dats m 0 c).after 1 t) ∗ owns (c : Thread nD τ) (st2 m t) fullShare ((dats m 0 c).after 2 t) ∗ owns (c : Thread nD τ) (st3 m t) fullShare ((dats m 0 c).after 3 t) ∗ owns (c : Thread nD τ) (st4 m t) fullShare ((dats m 0 c).after 4 t) ∗ owns (c : Thread nD τ) (st5 m t) fullShare ((dats m 0 c).after 5 t) ∗ owns (c : Thread nD τ) (st6 m t) fullShare ((dats m 0 c).after 6 t) ∗ owns (c : Thread nD τ) (st7 m t) fullShare ((dats m 0 c).after 7 t))

theorem phi_eq (c : Dev nD) (t) : (dats m 0 c).Φ t = iprop(Pipeline.ΦA spec0 c ∗ (tabM.view.loc (c : Thread nD τ) ↦{fullShare.right} (tbl m 0))) := by
  rw [← phiT_eq]; rfl

set_option maxHeartbeats 1000000 in
theorem sound_first (c : Dev nD) (t : Fin (cfgM m).N) (h : t.val % 33 = 0) :
    bodyPre m c t ⊢ wp frame (wpE (defs₀ (F := F)) Variants.none c none) Set.univ (bodyAt m t) (fun _ => bodyPost m c t) := by
  unfold bodyPre bodyPost bodyAt
  simp only [before0, before1, before2, before3, before4]
  rw [show (dats m 0 c).owesAt () t.succ = (dats m 0 c).owesAt () t.castSucc from rfl, phi_eq, phi_eq,
    after0, after1, after2, after3, after4, after5, after6, after7, acc_first m c t h]
  iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none (c : Thread nD τ) none) Set.univ)
  isplitl [HT H0 H1 H2 H3 H4 H5 H6 H7]
  · iapply (point_first Variants.none c none (grid0.coords t) tabM (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (st7 m t) (hstage0_7 (((cfgM m).slots t 7).cast nbuf0_7)) ((first_iff (grid0.coords t 1)).mpr (by rw [coords_one]; exact h)) (by rw [coords_one]; exact h) (tbl m 0) (word_eq m _) (iblk m c 0 t) (iblk m c 1 t) (iblk m c 2 t) (iblk m c 3 t) (iblk m c 4 t))
    isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iexists _; iexact H7
  iintro %a ⟨HT, H0, H1, H2, H3, H4, H5, H6, H7⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1000000 in
theorem sound_next (c : Dev nD) (t : Fin (cfgM m).N) (h : ¬ t.val % 33 = 0) :
    bodyPre m c t ⊢ wp frame (wpE (defs₀ (F := F)) Variants.none c none) Set.univ (bodyAt m t) (fun _ => bodyPost m c t) := by
  unfold bodyPre bodyPost bodyAt
  simp only [before0, before1, before2, before3, before4, before6 m c t h, before7 m c t h]
  rw [show (dats m 0 c).owesAt () t.succ = (dats m 0 c).owesAt () t.castSucc from rfl, phi_eq, phi_eq,
    after0, after1, after2, after3, after4, after5, after6, after7, acc_next m c t h]
  iintro ⟨⟨HA, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand_r frame (wpE (defs₀ (F := F)) Variants.none (c : Thread nD τ) none) Set.univ)
  isplitl [HT H0 H1 H2 H3 H4 H5 H6 H7]
  · iapply (point_next Variants.none c none (grid0.coords t) tabM (Memref.isWhole_whole _) (st0 m t) (hstage0_0 (((cfgM m).slots t 0).cast nbuf0_0)) (st1 m t) (hstage0_1 (((cfgM m).slots t 1).cast nbuf0_1)) (st2 m t) (hstage0_2 (((cfgM m).slots t 2).cast nbuf0_2)) (st3 m t) (hstage0_3 (((cfgM m).slots t 3).cast nbuf0_3)) (st4 m t) (hstage0_4 (((cfgM m).slots t 4).cast nbuf0_4)) (st5 m t) (hstage0_5 (((cfgM m).slots t 5).cast nbuf0_5)) (st6 m t) (hstage0_6 (((cfgM m).slots t 6).cast nbuf0_6)) (st7 m t) (hstage0_7 (((cfgM m).slots t 7).cast nbuf0_7)) (fun e => h ((coords_one t).symm.trans ((first_iff (grid0.coords t 1)).mp e))) (by rw [coords_one]; omega) (tbl m 0) (word_eq m _) (iblk m c 0 t) (iblk m c 1 t) (iblk m c 2 t) (iblk m c 3 t) (iblk m c 4 t) _ _)
    isplitl [HT]; · iexact HT
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iexact H7
  iintro %a ⟨HT, H0, H1, H2, H3, H4, H5, H6, H7⟩
  isplitl [HA HT]
  · isplitl [HA]; · iexact HA
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin (cfgM m).N) :
    bodyPre m c t ⊢ wp frame (wpE (defs₀ (F := F)) Variants.none c none) Set.univ (bodyAt m t) (fun _ => bodyPost m c t) := by
  by_cases h : t.val % 33 = 0
  · exact sound_first m c t h
  · exact sound_next m c t h

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 4000000 in
/-- Every array at the end: what the write-backs left of it. -/
theorem run : θ_run (defs (F := F)) (onTc (main (F := F))) ⟨m, fun _ => 0, ρ⟩
    (fun r => Pipeline.FramePost (Pipeline.pin pcfgs fun _ => adm m) (dats m) 0 (V m) r ∧ r.2.sem = fun _ => 0) :=
  Pipeline.θ_run_frameP pcfgs (fun _ => adm m) (dats m) (0 : Fin 1) launch0 defs₀ Variants.none m ρ main
    (fun c => (body_obligation m c).loose) (fun c w => by unfold Dat.share; exact ite_self _) (fun _ _ => rfl) (V m) (hmain m Variants.none)
    (A_eq m) (V_pre m) (fun _ _ => rfl) _ (fun _ h => h)

theorem args_of {r : PUnit × MemSt nD τ sig (Elt F)}
    (h : Pipeline.FramePost (Pipeline.pin pcfgs fun _ => adm m) (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 2).trans (((dats m 0 c).arrAt_in 2 rfl _).trans ((A_eq m c 2).trans (V_arg2 m c))),
    ((h c).1 4).trans (((dats m 0 c).arrAt_in 4 rfl _).trans ((A_eq m c 4).trans (V_arg3 m c)))⟩

end Cert.KernelIdeal.Run
-- ==== Proof.Frames.lean ====
module

public import proofs.«01_k».proof.Defs
public import proofs.«01_k».proof.Proof.Gen.Kernel
public import proofs.«01_k».proof.Proof.Gen.ReferenceIdeal.Run
public import proofs.«01_k».proof.Proof.Run

/-! The three programs run and leave their arguments as they were. -/

@[expose] public section

set_option maxRecDepth 16384
noncomputable section

namespace Cert.Frames

open Idealize.ShloMosaic Idealize.ShloMosaic.TcCoe Idealize.SL.Sem

/-- At the machine's floats a named constant is its bits: the kernel as printed is then the idealized text read there. -/
local instance namedBits : Named Bits where
  named _ _ {φ} bits := Scalar.ofBits φ bits

theorem kernelIdeal : Cert.quiescent_KernelIdeal := fun m g _ =>
  (θ_run _ _ _).mono (fun _ h => ⟨fun c => KernelIdeal.Run.args_of m h.1 c, h.2⟩) (KernelIdeal.Run.run (F := Ideal) m g)

/-- The frame of the idealized text at the machine's floats. -/
def bitsFrame : Prop :=
  ∀ (m : (ℓ : Loc KernelIdeal.nD KernelIdeal.τ KernelIdeal.sig) → Buf (Elt Bits) ℓ) (g : Dev KernelIdeal.nD → PrngReg), True →
    θ_run (KernelIdeal.defs (F := Bits)) (onTc (KernelIdeal.main (F := Bits))) ⟨m, fun _ => 0, g⟩
      (fun r => (∀ c : Dev KernelIdeal.nD,
        r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1)
        ∧ r.2.mem ((c : Thread KernelIdeal.nD KernelIdeal.τ).loc KernelIdeal.main_arg2) = m ((c : Thread KernelIdeal.nD KernelIdeal.τ).loc KernelIdeal.main_arg2)
        ∧ r.2.mem ((c : Thread KernelIdeal.nD KernelIdeal.τ).loc KernelIdeal.main_arg3) = m ((c : Thread KernelIdeal.nD KernelIdeal.τ).loc KernelIdeal.main_arg3))
        ∧ r.2.sem = fun _ => 0)
theorem bits_frame : bitsFrame := fun m g _ =>
  (θ_run _ _ _).mono (fun _ h => ⟨fun c => KernelIdeal.Run.args_of m h.1 c, h.2⟩) (KernelIdeal.Run.run (F := Bits) m g)

theorem kernel_eq : Cert.quiescent_Kernel = bitsFrame := by chain_rfl

theorem kernel : Cert.quiescent_Kernel := kernel_eq.mpr bits_frame

/-- The reference declares no semaphore. -/
theorem no_sem (x : GSem ReferenceIdeal.nD ReferenceIdeal.τ ReferenceIdeal.sig) : False := by
  obtain ⟨_, s⟩ := x
  cases s with
  | reg s => exact s.elim0
  | dma s => exact s.elim0

theorem referenceIdeal : Cert.quiescent_ReferenceIdeal := fun m g _ =>
  (θ_run _ _ _).mono (fun _ h => ⟨fun c => (h c).2.2.2, funext fun x => (no_sem x).elim⟩) (ReferenceIdeal.Value.run (F := Ideal) m g)

theorem preserves : Cert.preserves_Kernel_KernelIdeal :=
  ⟨rfl, fun _ => IdealRules.named_const.ideal_named _ _ _ _ rfl, rfl⟩

end Cert.Frames
-- ==== Proof.Model.lean ====
module

public import Idealize.ShloMosaic.PureOps.Ideal

/-! The gradients of one head over the reals: stick-breaking weights, their gradients and the three products, at
    rows numbered by naturals; the softplus identities; the same expressions in the extended reals. -/

@[expose] public section

noncomputable section

namespace Cert.Model

open Idealize.ShloMosaic Finset

/-- `log (1 + eˣ)`. -/
def sp (x : ℝ) : ℝ := max x 0 + Real.log (1 + Real.exp (-|x|))

/-- The derivative of `sp`. -/
def sg (x : ℝ) : ℝ := Real.exp (x - sp x)

theorem sp_eq (x : ℝ) : sp x = Real.log (1 + Real.exp x) := by
  unfold sp
  rcases le_total x 0 with h | h
  · rw [max_eq_right h, abs_of_nonpos h, neg_neg, zero_add]
  · have : 1 + Real.exp x = Real.exp x * (1 + Real.exp (-x)) := by
      rw [mul_add, mul_one, ← Real.exp_add, add_neg_cancel, Real.exp_zero, add_comm]
    rw [max_eq_left h, abs_of_nonneg h, this, Real.log_mul (Real.exp_pos x).ne' (by positivity), Real.log_exp]

theorem sg_eq (x : ℝ) : sg x = Real.exp x / (1 + Real.exp x) := by
  rw [sg, sp_eq, Real.exp_sub, Real.exp_log (by positivity)]

theorem sp_sub_neg (x : ℝ) : sp x - sp (-x) = x := by
  have : 1 + Real.exp x = Real.exp x * (1 + Real.exp (-x)) := by
    rw [mul_add, mul_one, ← Real.exp_add, add_neg_cancel, Real.exp_zero, add_comm]
  rw [sp_eq, sp_eq, this, Real.log_mul (Real.exp_pos x).ne' (by positivity), Real.log_exp]
  ring

theorem sg_neg (x : ℝ) : sg (-x) = 1 - sg x := by
  have h : (1 + Real.exp x) ≠ 0 := by positivity
  have h' : (1 + Real.exp (-x)) ≠ 0 := by positivity
  have e : Real.exp x * Real.exp (-x) = 1 := by rw [← Real.exp_add, add_neg_cancel, Real.exp_zero]
  rw [sg_eq, sg_eq]
  field_simp
  linear_combination e

/-! ## In the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : max (a : EReal) (b : EReal) = ((max a b : ℝ) : EReal) :=
  (EReal.coe_strictMono.monotone.map_max).symm

theorem coe_abs (a : ℝ) : max (a : EReal) (-(a : EReal)) = ((|a| : ℝ) : EReal) := by
  rw [← EReal.coe_neg, coe_max]; rfl

theorem coe_max_zero (a : ℝ) : max (a : EReal) 0 = ((max a 0 : ℝ) : EReal) := coe_max a 0

theorem log_coe_pos {a : ℝ} (h : 0 < a) : Ideal.log (a : EReal) = (Real.log a : EReal) := by
  rw [Ideal.log_coe, if_neg (not_le.mpr h)]

theorem coe_one_add (a : ℝ) : (1 : EReal) + (a : EReal) = ((1 + a : ℝ) : EReal) := by
  rw [EReal.coe_add, EReal.coe_one]

theorem rpow_two (x : ℝ) : Real.rpow 2 (x * -(Real.log 2)⁻¹) = Real.exp (-x) := by
  have h : Real.log 2 ≠ 0 := (Real.log_pos one_lt_two).ne'
  rw [Real.rpow_eq_pow, Real.rpow_def_of_pos two_pos]
  congr 1
  field_simp

/-- The kernel's softplus. -/
theorem kernel_sp (a : ℝ) :
    max (a : EReal) 0 + Ideal.log (1 + Ideal.exp2 (max (a : EReal) (-(a : EReal)) * ((-(Real.log 2)⁻¹ : ℝ) : EReal))) =
      ((sp a : ℝ) : EReal) := by
  rw [coe_abs, ← EReal.coe_mul, Ideal.exp2_coe, rpow_two, coe_one_add, log_coe_pos (by positivity), coe_max_zero, ← EReal.coe_add]
  rfl

/-- The host's. -/
theorem host_sp (a : ℝ) :
    max (a : EReal) 0 + Ideal.log1p (Ideal.exp (-(max (a : EReal) (-(a : EReal))))) = ((sp a : ℝ) : EReal) := by
  rw [coe_abs, ← EReal.coe_neg, Ideal.exp_coe, Ideal.log1p, coe_one_add, log_coe_pos (by positivity), coe_max_zero, ← EReal.coe_add]
  rfl

theorem kernel_sg (a : ℝ) : Ideal.exp ((a : EReal) - ((sp a : ℝ) : EReal)) = ((sg a : ℝ) : EReal) := by
  rw [← EReal.coe_sub, Ideal.exp_coe]; rfl

/-- One head's arrays, by row and column. -/
structure Arr where
  q : ℕ → Fin 64 → ℝ
  k : ℕ → Fin 64 → ℝ
  v : ℕ → Fin 64 → ℝ
  d : ℕ → Fin 64 → ℝ

namespace Arr
variable (A : Arr)

/-- The scores. -/
def z (t s : ℕ) : ℝ := ∑ e, A.q t e * A.k s e
/-- What breaking the stick at `j` keeps, negated, in logarithms. -/
def keep (t j : ℕ) : ℝ := if j < t then sp (A.z t j) else 0
/-- The weights. -/
def wt (t s : ℕ) : ℝ := if s < t then Real.exp (A.z t s - ∑ j ∈ Ico s 8448, A.keep t j) else 0
/-- The weights times their gradients. -/
def gw (t s : ℕ) : ℝ := A.wt t s * ∑ e, A.d t e * A.v s e
/-- The gradient of the scores. -/
def dz (t s : ℕ) : ℝ := if s < t then A.gw t s - sg (A.z t s) * ∑ j ∈ range (s + 1), A.gw t j else 0
/-- The gradient of q. -/
def dq (t : ℕ) (e : Fin 64) : ℝ := ∑ s ∈ range 8448, A.dz t s * A.k s e
/-- The gradient of k. -/
def dk (s : ℕ) (e : Fin 64) : ℝ := ∑ t ∈ range 8448, A.dz t s * A.q t e
/-- The gradient of v. -/
def dv (s : ℕ) (e : Fin 64) : ℝ := ∑ t ∈ range 8448, A.wt t s * A.d t e

theorem wt_of_le {t s : ℕ} (h : t ≤ s) : A.wt t s = 0 := if_neg (by omega)
theorem dz_of_le {t s : ℕ} (h : t ≤ s) : A.dz t s = 0 := if_neg (by omega)
theorem gw_of_le {t s : ℕ} (h : t ≤ s) : A.gw t s = 0 := by rw [gw, wt_of_le A h, zero_mul]

/-- The reference's form of the scores' gradient. -/
theorem dz_eq (t s : ℕ) :
    A.dz t s = A.gw t s * sg (-(A.z t s)) -
      (if s < t then (∑ j ∈ range (s + 1), A.gw t j) - A.gw t s else 0) * sg (A.z t s) := by
  rw [sg_neg]
  by_cases h : s < t
  · rw [dz, if_pos h, if_pos h]; ring
  · rw [dz, if_neg h, if_neg h, gw_of_le A (by omega)]; ring

/-- The reference's form of a weight's logarithm. -/
theorem log_wt {t s : ℕ} (h : s < t) :
    -sp (-(A.z t s)) + -(∑ j ∈ Ico s 8448, A.keep t j) + A.keep t s = A.z t s - ∑ j ∈ Ico s 8448, A.keep t j := by
  have := sp_sub_neg (A.z t s)
  rw [keep, if_pos h]
  linarith

end Arr

end Cert.Model
-- ==== Proof.Tile.lean ====
module

public import proofs.«01_k».proof.Proof.Sem
public import proofs.«01_k».proof.Proof.Model
public import Idealize.ShloMosaic.Lib.Pointwise
public import Idealize.ShloMosaic.Lib.WordCmp

/-! One tile of the kernel over the extended reals: on finite inputs its weights, gradients and sums are the
    model's. -/

@[expose] public section

set_option maxRecDepth 16384
noncomputable section

namespace Cert.KernelIdeal.Tile

open Idealize.ShloMosaic Idealize.ShloMosaic.WordCmp Cert.Model Cert.KernelIdeal Cert.KernelIdeal.Gen Cert.KernelIdeal.Sem Finset

/-! ## Words and sums -/

theorem toInt_small {n : ℕ} (h : n < 2147483648) : (BitVec.ofNat 32 n).toInt = (n : ℤ) := by
  rw [BitVec.toInt_eq_toNat_cond, BitVec.toNat_ofNat]
  omega

theorem bit_value (p : Prop) [Decidable p] :
    FloatOps.sitofp (F := Ideal) FTy.f32 (BitVec.setWidth 32 (BitVec.ofBool (decide p))) = ((if p then (1 : ℝ) else 0 : ℝ) : EReal) := by
  by_cases h : p
  · simp only [h, decide_true, if_true]
    show (((BitVec.setWidth 32 (BitVec.ofBool true)).toInt : ℝ) : EReal) = _
    have : (BitVec.setWidth 32 (BitVec.ofBool true)).toInt = 1 := by decide
    rw [this]; simp
  · simp only [h, decide_false, if_false]
    show (((BitVec.setWidth 32 (BitVec.ofBool false)).toInt : ℝ) : EReal) = _
    have : (BitVec.setWidth 32 (BitVec.ofBool false)).toInt = 0 := by decide
    rw [this]; simp

/-- The row number modulo the tile's height, as it is printed. -/
abbrev rowWord (r : BitVec 32) : BitVec 32 :=
  Scalar.select
    (IntOp.andi
      (IntOp.xori
        (IntOp.cmpi CmpIPredicate.slt
          (IntOp.remsi ArithUnit.vector r (Scalar.select (Scalar.cmpi CmpIPredicate.eq 256#32 0#32) 1#32 256#32)) 0#32)
        (Scalar.cmpi CmpIPredicate.slt (Scalar.select (Scalar.cmpi CmpIPredicate.eq 256#32 0#32) 1#32 256#32) 0#32))
      (IntOp.cmpi CmpIPredicate.ne
        (IntOp.remsi ArithUnit.vector r (Scalar.select (Scalar.cmpi CmpIPredicate.eq 256#32 0#32) 1#32 256#32)) 0#32))
    (IntOp.addi (IntOp.remsi ArithUnit.vector r (Scalar.select (Scalar.cmpi CmpIPredicate.eq 256#32 0#32) 1#32 256#32))
      (Scalar.select (Scalar.cmpi CmpIPredicate.eq 256#32 0#32) 1#32 256#32))
    (IntOp.remsi ArithUnit.vector r (Scalar.select (Scalar.cmpi CmpIPredicate.eq 256#32 0#32) 1#32 256#32))

theorem rowWord_eq : ∀ r : Fin 512, rowWord (BitVec.ofNat 32 r.val) = BitVec.ofNat 32 (r.val % 256) := by
  decide +kernel

theorem lower_apply (r : Fin 512) (s : Fin 256) :
    (lower2 (F := Ideal)) (ix2 r s) = ((if s.val ≤ r.val % 256 then (1 : ℝ) else 0 : ℝ) : EReal) := by
  pointwise [lower2, k0_pay20]
  rw [← bit_value]
  congr 2
  refine (congrArg (fun w => IntOp.cmpi CmpIPredicate.sge w (BitVec.ofNat 32 ↑s)) (rowWord_eq r)).trans ?_
  rw [cmpi_sge_eq, toInt_small (by omega), toInt_small (by omega)]
  norm_cast

theorem upper_apply (r : Fin 512) (s : Fin 256) :
    (upper2 (F := Ideal)) (ix2 r s) = ((if r.val % 256 ≤ s.val then (1 : ℝ) else 0 : ℝ) : EReal) := by
  pointwise [upper2, k0_pay24, k0_pay21, k0_pay22, k0_pay23]
  rw [← bit_value]
  congr 2
  refine (congrArg (fun w => IntOp.cmpi CmpIPredicate.sle w (BitVec.ofNat 32 ↑s)) (rowWord_eq r)).trans ?_
  rw [cmpi_sle_eq, toInt_small (by omega), toInt_small (by omega)]
  norm_cast

theorem sum_block (f : ℕ → ℝ) (n : ℕ) : ∑ x : Fin 256, f (256 * n + x.val) = ∑ j ∈ Ico (256 * n) (256 * (n + 1)), f j := by
  rw [Finset.sum_Ico_eq_sum_range, show 256 * (n + 1) - 256 * n = 256 by omega, ← Fin.sum_univ_eq_sum_range (fun x => f (256 * n + x))]

theorem sum_from (f : ℕ → ℝ) (n b : ℕ) (hb : b < 256) :
    ∑ x : Fin 256, f (256 * n + x.val) * (if b ≤ x.val then 1 else 0) = ∑ j ∈ Ico (256 * n + b) (256 * (n + 1)), f j := by
  have : ∀ x : Fin 256, f (256 * n + x.val) * (if b ≤ x.val then 1 else 0) =
      (fun j => if 256 * n + b ≤ j then f j else 0) (256 * n + x.val) := by
    intro x
    by_cases h : b ≤ x.val
    · simp [h]
    · simp [h]
  rw [Finset.sum_congr rfl fun x _ => this x, sum_block (fun j => if 256 * n + b ≤ j then f j else 0), ← Finset.sum_filter]
  congr 1
  ext j
  simp only [Finset.mem_filter, Finset.mem_Ico]
  omega

theorem sum_upto (f : ℕ → ℝ) (n b : ℕ) (hb : b < 256) :
    ∑ x : Fin 256, f (256 * n + x.val) * (if x.val ≤ b then 1 else 0) = ∑ j ∈ Ico (256 * n) (256 * n + b + 1), f j := by
  have : ∀ x : Fin 256, f (256 * n + x.val) * (if x.val ≤ b then 1 else 0) =
      (fun j => if j ≤ 256 * n + b then f j else 0) (256 * n + x.val) := by
    intro x
    by_cases h : x.val ≤ b
    · simp [h]
    · simp [h]
  rw [Finset.sum_congr rfl fun x _ => this x, sum_block (fun j => if j ≤ 256 * n + b then f j else 0), ← Finset.sum_filter]
  congr 1
  ext j
  simp only [Finset.mem_filter, Finset.mem_Ico]
  omega

/-! ## The inputs -/

/-- The point's inputs are the model's rows, of the block of rows `i`. -/
structure Reads (I : In Ideal) (A : Arr) (i : ℕ) : Prop where
  q : ∀ (a : Fin 256) (e : Fin 64), I.q (ix3 0 a e) = ((A.q (256 * i + a.val) e : ℝ) : EReal)
  k : ∀ (s : Fin 8448) (e : Fin 64), I.k (ix3 0 s e) = ((A.k s.val e : ℝ) : EReal)
  v : ∀ (s : Fin 8448) (e : Fin 64), I.v (ix3 0 s e) = ((A.v s.val e : ℝ) : EReal)
  d : ∀ (a : Fin 256) (e : Fin 64), I.d (ix3 0 a e) = ((A.d (256 * i + a.val) e : ℝ) : EReal)
  c : ∀ (a : Fin 256) (b : Fin 128), I.c (ix3 0 a b) =
    ((-(∑ j ∈ Ico (256 * (b.val + 1)) 8448, A.keep (256 * i + a.val) j) : ℝ) : EReal)

/-- The mask keeps the columns before the row. -/
abbrev Strict (mask : IVec S256x256 1) (i n : ℕ) : Prop :=
  ∀ a b : Fin 256, mask (ix2 a b) = BitVec.ofBool (decide (256 * n + b.val < 256 * i + a.val))

variable {I : In Ideal} {A : Arr} {i n : ℕ} {off : Fin 3 → ℕ} {h : ∀ a, off a + S1x256x64.size a ≤ S1x8448x64.size a}
  {mask : IVec S256x256 1}

theorem blk_apply {α : Type} (X : S1x8448x64.Idx → α) (ho : off = ![0, 256 * n, 0]) (hn : n < 33) (b : Fin 256) (e : Fin 64) :
    blk X off h (ix3 0 b e) = X (ix3 0 ⟨256 * n + b.val, by omega⟩ e) := by
  subst ho
  refine congrArg X (funext fun a => Fin.ext ?_)
  fin_cases a <;> simp [LoadRect.idx, Rect.unit, ix3]

section
variable (R : Reads I A i) (ho : off = ![0, 256 * n, 0]) (hn : n < 33) (hm : Strict mask i n)
include R ho hn

theorem z_apply (a b : Fin 256) :
    k0_pay44 (k0_pay25 I.q) (k0_pay42 (blk I.k off h)) (ix2 a b) = ((A.z (256 * i + a.val) (256 * n + b.val) : ℝ) : EReal) := by
  pointwise [k0_pay44, k0_pay25, k0_pay42]
  rw [Arr.z, coe_sum]
  refine Finset.sum_congr rfl fun e _ => ?_
  rw [R.q, blk_apply I.k ho hn, R.k, EReal.coe_mul]

theorem gv_apply (a b : Fin 256) :
    (∑ e : Fin 64, (k0_pay26 I.d) (ix2 a e) * blk I.v off h (ix3 0 b e)) =
      ((∑ e, A.d (256 * i + a.val) e * A.v (256 * n + b.val) e : ℝ) : EReal) := by
  rw [coe_sum]
  refine Finset.sum_congr rfl fun e _ => ?_
  rw [blk_apply I.v ho hn, R.v, EReal.coe_mul]
  congr 1
  pointwise [k0_pay26]
  exact R.d a e

include hm

theorem sp_apply (a b : Fin 256) :
    k0_pay45 (k0_pay25 I.q) mask (k0_pay42 (blk I.k off h)) (ix2 a b) =
      ((A.keep (256 * i + a.val) (256 * n + b.val) : ℝ) : EReal) := by
  pointwise [k0_pay45]
  rw [z_apply R ho hn, hm, select_ofBool, Arr.keep]
  by_cases hp : 256 * n + b.val < 256 * i + a.val
  · rw [if_pos (by simpa using hp), if_pos hp, ← kernel_sp]; rfl
  · rw [if_neg (by simpa using hp), if_neg hp]; rfl

theorem wt_apply (a b : Fin 256) :
    wT I mask (BitVec.ofNat 32 n) off h (ix2 a b) = ((A.wt (256 * i + a.val) (256 * n + b.val) : ℝ) : EReal) := by
  have hc : (∑ x : Fin 128, Scalar.select (IntOp.cmpi CmpIPredicate.eq (lane (ix2 a x)) ((broadcast S256x128 (BitVec.ofNat 32 n)) (ix2 a x)))
      ((k0_pay27 I.c) (ix2 a x)) 0) =
      ((-(∑ j ∈ Ico (256 * (n + 1)) 8448, A.keep (256 * i + a.val) j) : ℝ) : EReal) := by
    rw [Finset.sum_eq_single (⟨n, by omega⟩ : Fin 128)]
    · pointwise [lane, k0_pay27]
      exact R.c a ⟨n, by omega⟩
    · intro x _ hx
      pointwise [lane, k0_pay27]
      rw [cmpi_eq_eq, select_ofBool, if_neg]
      simp only [decide_eq_true_eq]
      intro he
      apply hx
      have := congrArg BitVec.toNat he
      simp only [BitVec.toNat_ofNat] at this
      apply Fin.ext
      show x.val = n
      omega
    · intro hx; exact absurd (Finset.mem_univ _) hx
  unfold wT
  pointwise [k0_pay46]
  rw [z_apply R ho hn, hm, select_ofBool, Arr.wt]
  by_cases hp : 256 * n + b.val < 256 * i + a.val
  · rw [if_pos (by simpa using hp), if_pos hp]
    have h1 : (∑ x : Fin 256, k0_pay45 (k0_pay25 I.q) mask (k0_pay42 (blk I.k off h)) (ix2 a x) * (lower2 (F := Ideal)) (ix2 ⟨x.val, by omega⟩ b)) =
        ((∑ j ∈ Ico (256 * n + b.val) (256 * (n + 1)), A.keep (256 * i + a.val) j : ℝ) : EReal) := by
      rw [← sum_from _ n b.val b.isLt, coe_sum]
      refine Finset.sum_congr rfl fun x _ => ?_
      rw [sp_apply R ho hn hm, lower_apply, EReal.coe_mul]
      simp only [Nat.mod_eq_of_lt x.isLt]
    have h2 : (∑ x : Fin 256, (k0_pay45 (k0_pay25 I.q) mask (k0_pay42 (blk I.k off h)) (ix2 a x) -
        k0_pay45 (k0_pay25 I.q) mask (k0_pay42 (blk I.k off h)) (ix2 a x)) * (lower2 (F := Ideal)) (ix2 ⟨256 + x.val, by omega⟩ b)) = (0 : EReal) := by
      refine Finset.sum_eq_zero fun x _ => ?_
      rw [sp_apply R ho hn hm, ← EReal.coe_sub, sub_self, EReal.coe_zero, zero_mul]
    rw [h1, h2, add_zero]
    refine (congrArg (fun w => Ideal.exp (_ + w)) hc).trans ?_
    rw [← EReal.coe_sub, ← EReal.coe_add, Ideal.exp_coe]
    congr 2
    rw [← Finset.sum_Ico_consecutive _ (show 256 * n + b.val ≤ 256 * (n + 1) by omega) (show 256 * (n + 1) ≤ 8448 by omega)]
    ring
  · rw [if_neg (by simpa using hp), if_neg hp]; rfl

theorem gw_apply (a b : Fin 256) :
    gwT I mask (BitVec.ofNat 32 n) off h (ix2 a b) = ((A.gw (256 * i + a.val) (256 * n + b.val) : ℝ) : EReal) := by
  unfold gwT
  pointwise [k0_pay47]
  rw [Arr.gw, EReal.coe_mul]
  exact congrArg₂ (· * ·) (wt_apply R ho hn hm a b) (gv_apply R ho hn a b)

theorem gin_apply (a b : Fin 256) :
    ginT I mask (BitVec.ofNat 32 n) off h (ix2 a b) =
      ((∑ j ∈ Ico (256 * n) (256 * n + b.val + 1), A.gw (256 * i + a.val) j : ℝ) : EReal) := by
  have hg := gw_apply (h := h) R ho hn hm
  unfold gwT at hg
  unfold ginT
  pointwise [k0_pay48]
  have h1 : (∑ x : Fin 256, k0_pay47 lane lower2 (k0_pay25 I.q) (k0_pay26 I.d) (k0_pay27 I.c) mask (k0_pay42 (blk I.k off h)) (broadcast S256x128 (BitVec.ofNat 32 n)) (blk I.v off h) (ix2 a x) * (upper2 (F := Ideal)) (ix2 ⟨x.val, by omega⟩ b)) =
        ((∑ j ∈ Ico (256 * n) (256 * n + b.val + 1), A.gw (256 * i + a.val) j : ℝ) : EReal) := by
    rw [← sum_upto _ n b.val b.isLt, coe_sum]
    refine Finset.sum_congr rfl fun x _ => ?_
    rw [hg, upper_apply, EReal.coe_mul]
    simp only [Nat.mod_eq_of_lt x.isLt]
  have h2 : (∑ x : Fin 256, (k0_pay47 lane lower2 (k0_pay25 I.q) (k0_pay26 I.d) (k0_pay27 I.c) mask (k0_pay42 (blk I.k off h)) (broadcast S256x128 (BitVec.ofNat 32 n)) (blk I.v off h) (ix2 a x) -
      k0_pay47 lane lower2 (k0_pay25 I.q) (k0_pay26 I.d) (k0_pay27 I.c) mask (k0_pay42 (blk I.k off h)) (broadcast S256x128 (BitVec.ofNat 32 n)) (blk I.v off h) (ix2 a x)) * (upper2 (F := Ideal)) (ix2 ⟨256 + x.val, by omega⟩ b)) = (0 : EReal) := by
    refine Finset.sum_eq_zero fun x _ => ?_
    rw [hg, ← EReal.coe_sub, sub_self, EReal.coe_zero, zero_mul]
  refine (congrArg₂ (· + ·) h1 h2).trans ?_
  rw [add_zero]

theorem sig_apply (a b : Fin 256) (hp : 256 * n + b.val < 256 * i + a.val) :
    sigT I mask off h (ix2 a b) = ((sg (A.z (256 * i + a.val) (256 * n + b.val)) : ℝ) : EReal) := by
  unfold sigT
  pointwise [k0_pay49]
  rw [z_apply R ho hn, sp_apply R ho hn hm, Arr.keep, if_pos hp]
  exact kernel_sg _

theorem dz_apply (cg : FVec Ideal S256x1 .f32)
    (hcg : ∀ a : Fin 256, cg (ix2 a 0) = ((∑ j ∈ range (256 * n), A.gw (256 * i + a.val) j : ℝ) : EReal)) (a b : Fin 256) :
    k0_pay57 cg mask (gwT I mask (BitVec.ofNat 32 n) off h) (ginT I mask (BitVec.ofNat 32 n) off h) (sigT I mask off h) (ix2 a b) =
      ((A.dz (256 * i + a.val) (256 * n + b.val) : ℝ) : EReal) := by
  have h1 := gw_apply (h := h) R ho hn hm a b
  have h2 := gin_apply (h := h) R ho hn hm a b
  have h3 := sig_apply (h := h) R ho hn hm a b
  revert h1 h2 h3
  generalize gwT I mask (BitVec.ofNat 32 n) off h = g1
  generalize ginT I mask (BitVec.ofNat 32 n) off h = g2
  generalize sigT I mask off h = g3
  intro h1 h2 h3
  pointwise [k0_pay57]
  rw [hm, select_ofBool, Arr.dz]
  by_cases hp : 256 * n + b.val < 256 * i + a.val
  · rw [if_pos (by simpa using hp), if_pos hp, h1, h2, h3 hp, hcg, ← EReal.coe_add, ← EReal.coe_mul, ← EReal.coe_sub]
    congr 3
    rw [Finset.range_eq_Ico, Finset.range_eq_Ico, Finset.sum_Ico_consecutive _ (by omega) (by omega)]
  · rw [if_neg (by simpa using hp), if_neg hp]; rfl

end

end Cert.KernelIdeal.Tile
-- ==== Proof.State.lean ====
module

public import proofs.«01_k».proof.Proof.Tile

/-! A tile takes the running sums one block of columns further; the whole point takes dk and dv one block of rows
    further and leaves the rows' dq. -/

@[expose] public section

set_option maxRecDepth 16384
set_option maxHeartbeats 2000000
noncomputable section

namespace Cert.KernelIdeal.State

open Idealize.ShloMosaic Idealize.ShloMosaic.WordCmp Cert.Model Cert.KernelIdeal Cert.KernelIdeal.Gen Cert.KernelIdeal.Sem Cert.KernelIdeal.Tile Finset

/-- dk after the rows before block `i` and, of block `i`, the columns before block `n`. -/
def dkAt (A : Arr) (i n x : ℕ) (e : Fin 64) : ℝ :=
  (∑ t ∈ range (256 * i), A.dz t x * A.q t e) + if x < 256 * n then ∑ t ∈ Ico (256 * i) (256 * (i + 1)), A.dz t x * A.q t e else 0
/-- dv likewise. -/
def dvAt (A : Arr) (i n x : ℕ) (e : Fin 64) : ℝ :=
  (∑ t ∈ range (256 * i), A.wt t x * A.d t e) + if x < 256 * n then ∑ t ∈ Ico (256 * i) (256 * (i + 1)), A.wt t x * A.d t e else 0

/-- The state of the point at block of rows `i` after the columns before block `n`. -/
structure Inv (A : Arr) (i n : ℕ) (s : St Ideal) : Prop where
  cg : ∀ a : Fin 256, s.cg (ix2 a 0) = ((∑ j ∈ range (256 * n), A.gw (256 * i + a.val) j : ℝ) : EReal)
  dq : ∀ (a : Fin 256) (e : Fin 64), s.dq (ix2 a e) = ((∑ j ∈ range (256 * n), A.dz (256 * i + a.val) j * A.k j e : ℝ) : EReal)
  dk : ∀ (x : Fin 8448) (e : Fin 64), s.dk (ix3 0 x e) = ((dkAt A i n x.val e : ℝ) : EReal)
  dv : ∀ (x : Fin 8448) (e : Fin 64), s.dv (ix3 0 x e) = ((dvAt A i n x.val e : ℝ) : EReal)

theorem range_succ_block (f : ℕ → ℝ) (n : ℕ) :
    ∑ j ∈ range (256 * (n + 1)), f j = ∑ j ∈ range (256 * n), f j + ∑ x : Fin 256, f (256 * n + x.val) := by
  rw [sum_block, Finset.range_eq_Ico, Finset.range_eq_Ico, Finset.sum_Ico_consecutive _ (by omega) (by omega)]

/-- A replaced block, read at a row inside it and at a row outside. -/
theorem put_apply {α : Type} (X : S1x8448x64.Idx → α) (off : Fin 3 → ℕ) (h : ∀ a, off a + S1x256x64.size a ≤ S1x8448x64.size a)
    (w : S1x256x64.Idx → α) {n : ℕ} (ho : off = ![0, 256 * n, 0]) (x : Fin 8448) (e : Fin 64) :
    put X off h w (ix3 0 x e) =
      if hx : 256 * n ≤ x.val ∧ x.val < 256 * n + 256 then w (ix3 0 ⟨x.val - 256 * n, by omega⟩ e) else X (ix3 0 x e) := by
  split
  · rename_i hx
    have he : (Rect.unit (s := S1x8448x64) off S1x256x64.size h).emb (ix3 0 ⟨x.val - 256 * n, by omega⟩ e) = ix3 0 x e := by
      subst ho
      refine funext fun a => Fin.ext ?_
      fin_cases a <;> simp [LoadRect.idx, Rect.unit, Rect.emb, ix3] <;> omega
    rw [← he]
    exact (Rect.unit (s := S1x8448x64) off S1x256x64.size h).overlay_emb X w _
  · rename_i hx
    refine Rect.overlay_of_not_mem (Rect.unit (s := S1x8448x64) off S1x256x64.size h) X w ?_
    intro hmem
    apply hx
    rw [Rect.mem_set_unit] at hmem
    have := hmem 1
    subst ho
    simpa [ix3] using this

section
variable {I : In Ideal} {A : Arr} {i n : ℕ} {off : Fin 3 → ℕ} {h : ∀ a, off a + S1x256x64.size a ≤ S1x8448x64.size a}
  {mask : IVec S256x256 1} {s : St Ideal}

theorem tile_inv (R : Reads I A i) (ho : off = ![0, 256 * n, 0]) (hn : n < 33) (hm : Strict mask i n) (hs : Inv A i n s) :
    Inv A i (n + 1) (tile I mask (BitVec.ofNat 32 n) off h s) := by
  have hgw := gw_apply (h := h) R ho hn hm
  have hwt := wt_apply (h := h) R ho hn hm
  have hdz := dz_apply (h := h) R ho hn hm s.cg hs.cg
  refine ⟨fun a => ?_, fun a e => ?_, fun x e => ?_, fun x e => ?_⟩
  · show k0_pay33 s.cg (gwT I mask (BitVec.ofNat 32 n) off h) (ix2 a 0) = _
    revert hgw
    generalize gwT I mask (BitVec.ofNat 32 n) off h = g1
    intro hgw
    pointwise [k0_pay33]
    rw [hs.cg, range_succ_block, EReal.coe_add, coe_sum univ]
    exact congrArg _ (Finset.sum_congr rfl fun x _ => hgw a x)
  · show k0_pay60 s.cg s.dq mask (k0_pay42 (blk I.k off h)) (gwT I mask (BitVec.ofNat 32 n) off h) (ginT I mask (BitVec.ofNat 32 n) off h)
      (sigT I mask off h) (ix2 a e) = _
    have hk : ∀ x : Fin 256, k0_pay42 (blk I.k off h) (ix2 x e) = ((A.k (256 * n + x.val) e : ℝ) : EReal) := by
      intro x
      pointwise [k0_pay42]
      rw [blk_apply I.k ho hn, R.k]
    revert hdz
    generalize gwT I mask (BitVec.ofNat 32 n) off h = g1
    generalize ginT I mask (BitVec.ofNat 32 n) off h = g2
    generalize sigT I mask off h = g3
    intro hdz
    pointwise [k0_pay60]
    rw [hs.dq, range_succ_block (fun j => A.dz (256 * i + a.val) j * A.k j e), EReal.coe_add, coe_sum univ]
    refine congrArg _ (Finset.sum_congr rfl fun x _ => ?_)
    rw [hdz, hk, EReal.coe_mul]
  · show put s.dk off h (k0_pay58 (k0_pay25 I.q) s.cg mask (gwT I mask (BitVec.ofNat 32 n) off h) (ginT I mask (BitVec.ofNat 32 n) off h)
      (sigT I mask off h) (blk s.dk off h)) (ix3 0 x e) = _
    have hq : ∀ y : Fin 256, k0_pay25 I.q (ix2 y e) = ((A.q (256 * i + y.val) e : ℝ) : EReal) := by
      intro y
      pointwise [k0_pay25]
      exact R.q y e
    revert hdz
    generalize gwT I mask (BitVec.ofNat 32 n) off h = g1
    generalize ginT I mask (BitVec.ofNat 32 n) off h = g2
    generalize sigT I mask off h = g3
    intro hdz
    rw [put_apply _ _ _ _ ho, hs.dk]
    split
    · rename_i hx
      have hy : ∃ y : Fin 256, x.val = 256 * n + y.val := ⟨⟨x.val - 256 * n, by omega⟩, by simp; omega⟩
      obtain ⟨y, hy⟩ := hy
      have hf : (⟨x.val - 256 * n, by omega⟩ : Fin 256) = y := Fin.ext (by simp; omega)
      have hb : blk s.dk off h (ix3 0 y e) = ((dkAt A i n x.val e : ℝ) : EReal) := by
        rw [blk_apply s.dk ho hn, hs.dk]; simp only [hy]
      rw [hf]
      have key : k0_pay58 (k0_pay25 I.q) s.cg mask g1 g2 g3 (blk s.dk off h) (ix3 0 y e) =
          blk s.dk off h (ix3 0 y e) + ∑ r : Fin 256, k0_pay57 s.cg mask g1 g2 g3 (ix2 r y) * k0_pay25 I.q (ix2 r e) := by
        pointwise [k0_pay58]
      rw [key, hb, dkAt, dkAt, if_neg (by omega), if_pos (by omega), add_zero, EReal.coe_add, ← sum_block (fun t => A.dz t x.val * A.q t e),
        coe_sum univ]
      refine congrArg _ (Finset.sum_congr rfl fun r _ => ?_)
      rw [hdz, hq, EReal.coe_mul, hy]
    · rename_i hx
      rw [dkAt, dkAt]
      by_cases hlt : x.val < 256 * n
      · rw [if_pos hlt, if_pos (by omega)]
      · rw [if_neg hlt, if_neg (by omega)]
  · show put s.dv off h (k0_pay59 (k0_pay26 I.d) (wT I mask (BitVec.ofNat 32 n) off h) (blk s.dv off h)) (ix3 0 x e) = _
    have hq : ∀ y : Fin 256, k0_pay26 I.d (ix2 y e) = ((A.d (256 * i + y.val) e : ℝ) : EReal) := by
      intro y
      pointwise [k0_pay26]
      exact R.d y e
    revert hwt
    generalize wT I mask (BitVec.ofNat 32 n) off h = g1
    intro hwt
    rw [put_apply _ _ _ _ ho, hs.dv]
    split
    · rename_i hx
      have hy : ∃ y : Fin 256, x.val = 256 * n + y.val := ⟨⟨x.val - 256 * n, by omega⟩, by simp; omega⟩
      obtain ⟨y, hy⟩ := hy
      have hf : (⟨x.val - 256 * n, by omega⟩ : Fin 256) = y := Fin.ext (by simp; omega)
      have hb : blk s.dv off h (ix3 0 y e) = ((dvAt A i n x.val e : ℝ) : EReal) := by
        rw [blk_apply s.dv ho hn, hs.dv]; simp only [hy]
      rw [hf]
      have key : k0_pay59 (k0_pay26 I.d) g1 (blk s.dv off h) (ix3 0 y e) =
          blk s.dv off h (ix3 0 y e) + ∑ r : Fin 256, g1 (ix2 r y) * k0_pay26 I.d (ix2 r e) := by
        pointwise [k0_pay59]
      rw [key, hb, dvAt, dvAt, if_neg (by omega), if_pos (by omega), add_zero, EReal.coe_add, ← sum_block (fun t => A.wt t x.val * A.d t e),
        coe_sum univ]
      refine congrArg _ (Finset.sum_congr rfl fun r _ => ?_)
      rw [hwt, hq, EReal.coe_mul, hy]
    · rename_i hx
      rw [dvAt, dvAt]
      by_cases hlt : x.val < 256 * n
      · rw [if_pos hlt, if_pos (by omega)]
      · rw [if_neg hlt, if_neg (by omega)]

/-- A tile whose mask keeps nothing changes nothing. -/
theorem tile_none (hm : ∀ a b : Fin 256, mask (ix2 a b) = 0#1) (kb : BitVec 32) (ho : off = ![0, 256 * n, 0]) (hn : n < 33) :
    (∀ a, (tile I mask kb off h s).cg (ix2 a 0) = s.cg (ix2 a 0)) ∧
    (∀ a e, (tile I mask kb off h s).dq (ix2 a e) = s.dq (ix2 a e)) ∧
    (∀ x e, (tile I mask kb off h s).dk (ix3 0 x e) = s.dk (ix3 0 x e)) ∧
    (∀ x e, (tile I mask kb off h s).dv (ix3 0 x e) = s.dv (ix3 0 x e)) := by
  have hwt : ∀ a b, wT I mask kb off h (ix2 a b) = (0 : EReal) := by
    intro a b
    unfold wT
    pointwise [k0_pay46]
    rw [hm]; rfl
  have hgw : ∀ a b, gwT I mask kb off h (ix2 a b) = (0 : EReal) := by
    intro a b
    unfold gwT
    pointwise [k0_pay47]
    exact (congrArg (· * _) (hwt a b)).trans (zero_mul _)
  have hdz : ∀ a b, k0_pay57 s.cg mask (gwT I mask kb off h) (ginT I mask kb off h) (sigT I mask off h) (ix2 a b) = (0 : EReal) := by
    intro a b
    generalize gwT I mask kb off h = g1
    generalize ginT I mask kb off h = g2
    generalize sigT I mask off h = g3
    pointwise [k0_pay57]
    rw [hm]; rfl
  refine ⟨fun a => ?_, fun a e => ?_, fun x e => ?_, fun x e => ?_⟩
  · show k0_pay33 s.cg (gwT I mask kb off h) (ix2 a 0) = _
    revert hgw
    generalize gwT I mask kb off h = g1
    intro hgw
    pointwise [k0_pay33]
    rw [Finset.sum_eq_zero fun x _ => hgw a x, add_zero]
  · show k0_pay60 s.cg s.dq mask (k0_pay42 (blk I.k off h)) (gwT I mask kb off h) (ginT I mask kb off h) (sigT I mask off h) (ix2 a e) = _
    revert hdz
    generalize gwT I mask kb off h = g1
    generalize ginT I mask kb off h = g2
    generalize sigT I mask off h = g3
    intro hdz
    pointwise [k0_pay60]
    rw [Finset.sum_eq_zero fun x _ => (by rw [hdz, zero_mul]), add_zero]
  · show put s.dk off h (k0_pay58 (k0_pay25 I.q) s.cg mask (gwT I mask kb off h) (ginT I mask kb off h)
      (sigT I mask off h) (blk s.dk off h)) (ix3 0 x e) = _
    revert hdz
    generalize gwT I mask kb off h = g1
    generalize ginT I mask kb off h = g2
    generalize sigT I mask off h = g3
    intro hdz
    rw [put_apply _ _ _ _ ho]
    split
    · rename_i hx
      have key : ∀ y : Fin 256, k0_pay58 (k0_pay25 I.q) s.cg mask g1 g2 g3 (blk s.dk off h) (ix3 0 y e) =
          blk s.dk off h (ix3 0 y e) + ∑ r : Fin 256, k0_pay57 s.cg mask g1 g2 g3 (ix2 r y) * k0_pay25 I.q (ix2 r e) := by
        intro y
        pointwise [k0_pay58]
      rw [key, Finset.sum_eq_zero fun r _ => (by rw [hdz, zero_mul]), add_zero, blk_apply s.dk ho hn]
      congr 2
      exact Fin.ext (by simp; omega)
    · rfl
  · show put s.dv off h (k0_pay59 (k0_pay26 I.d) (wT I mask kb off h) (blk s.dv off h)) (ix3 0 x e) = _
    revert hwt
    generalize wT I mask kb off h = g1
    intro hwt
    rw [put_apply _ _ _ _ ho]
    split
    · rename_i hx
      have key : ∀ y : Fin 256, k0_pay59 (k0_pay26 I.d) g1 (blk s.dv off h) (ix3 0 y e) =
          blk s.dv off h (ix3 0 y e) + ∑ r : Fin 256, g1 (ix2 r y) * k0_pay26 I.d (ix2 r e) := by
        intro y
        pointwise [k0_pay59]
      rw [key, Finset.sum_eq_zero fun r _ => (by rw [hwt, zero_mul]), add_zero, blk_apply s.dv ho hn]
      congr 2
      exact Fin.ext (by simp; omega)
    · rfl

end

end Cert.KernelIdeal.State
-- ==== Proof.Point.lean ====
module

public import proofs.«01_k».proof.Proof.State
public import proofs.«01_k».proof.Proof.Body

/-! A whole grid point: its tiles one after the other, from the sums before its rows to the sums with them. -/

@[expose] public section

set_option maxRecDepth 16384
set_option maxHeartbeats 1000000
noncomputable section

namespace Cert.KernelIdeal.Point

open Idealize.ShloMosaic Idealize.ShloMosaic.WordCmp Cert.Model Cert.KernelIdeal Cert.KernelIdeal.Gen Cert.KernelIdeal.Sem Cert.KernelIdeal.Tile
  Cert.KernelIdeal.State Cert.KernelIdeal.Body Finset

/-! ## The loops' words -/

theorem trips1 (i : grid0.Coords) : (k0_t1_loop i 0#32).trips = (i 1).val - 1 := by
  have h : ∀ j : Fin 33, (k0_t1_loop (fun | ⟨0, _⟩ => (⟨0, by decide⟩ : Fin 16) | ⟨1, _⟩ => j | ⟨_ + 2, h⟩ => absurd h (by simp)) 0#32).trips = j.val - 1 := by
    decide +kernel
  exact h (i 1)

theorem trips2 (i : grid0.Coords) : (k0_t2_loop i 0#32).trips = 0 := by
  have h : ∀ j : Fin 33, (k0_t2_loop (fun | ⟨0, _⟩ => (⟨0, by decide⟩ : Fin 16) | ⟨1, _⟩ => j | ⟨_ + 2, h⟩ => absurd h (by simp)) 0#32).trips = 0 := by
    decide +kernel
  exact h (i 1)

theorem iv_eq (n : ℕ) : Scf.iv 0#32 1#32 n = BitVec.ofNat 32 n := by
  unfold Scf.iv
  rw [BitVec.zero_add, BitVec.mul_one]

theorem off2_eq (i : grid0.Coords) (n : Fin (k0_t1_loop i 0#32).trips) : k0_off2 i 0#32 n = ![0, 256 * n.val, 0] := by
  have hn : n.val < 33 := by have h1 := n.isLt; have h2 := trips1 i; have h3 : (i 1).val < 33 := (i 1).isLt; omega
  have h : ∀ j : Fin 33, (![0, (Scalar.indexCast (Scalar.muli (Scf.iv 0#32 1#32 j.val) 256#32)).toNat, 0] : Fin 3 → ℕ) = ![0, 256 * j.val, 0] := by
    decide +kernel
  exact h ⟨n.val, hn⟩

theorem prev_word (i : grid0.Coords) :
    Scalar.maxsi (Scalar.subi (BitVec.ofNat 32 (i 1).val) 1#32) 0#32 = BitVec.ofNat 32 ((i 1).val - 1) := by
  have h : ∀ j : Fin 33, Scalar.maxsi (Scalar.subi (BitVec.ofNat 32 j.val) 1#32) 0#32 = BitVec.ofNat 32 (j.val - 1) := by
    decide +kernel
  exact h (i 1)

theorem prev_mask (i : grid0.Coords) (a b : Fin 256) :
    k0_pay41 (BitVec.ofNat 32 (i 1).val) (ix2 a b) = BitVec.ofBool (decide (0 < (i 1).val)) := by
  have h : ∀ j : Fin 33, Scalar.cmpi .sgt (BitVec.ofNat 32 j.val) 0#32 = BitVec.ofBool (decide (0 < j.val)) := by
    decide +kernel
  pointwise [k0_pay41]
  exact h (i 1)

theorem diag_strict (i : ℕ) : Strict Sem.diag i i := by
  intro a b
  pointwise [Sem.diag, k0_pay40]
  rw [cmpi_slt_eq, toInt_small (by omega), toInt_small (by omega)]
  congr 1
  simp

theorem ones_strict {i n : ℕ} (h : n < i) : Strict ones i n := by
  intro a b
  show 1#1 = _
  have : 256 * n + b.val < 256 * i + a.val := by omega
  simp [this]

/-! ## The point -/

variable {I : In Ideal} {A : Arr} {dk dv : FVec Ideal S1x8448x64 .f32}

/-- dk and dv hold the sums over the rows before block `i`. -/
structure Carried (A : Arr) (i : ℕ) (dk dv : FVec Ideal S1x8448x64 .f32) : Prop where
  dk : ∀ (x : Fin 8448) (e : Fin 64), dk (ix3 0 x e) = ((∑ t ∈ range (256 * i), A.dz t x.val * A.q t e : ℝ) : EReal)
  dv : ∀ (x : Fin 8448) (e : Fin 64), dv (ix3 0 x e) = ((∑ t ∈ range (256 * i), A.wt t x.val * A.d t e : ℝ) : EReal)

theorem zero_word : (Scalar.ofBits .f32 0x00000000#32 : Ideal .f32) = (0 : EReal) := by
  simp

theorem start_inv {i : ℕ} (h : Carried A i dk dv) : Inv A i 0 ⟨k0_pay28, k0_pay29, dk, dv⟩ := by
  refine ⟨fun a => ?_, fun a e => ?_, fun x e => ?_, fun x e => ?_⟩
  · show k0_pay28 (F := Ideal) (ix2 a 0) = _
    pointwise [k0_pay28]
    simp
  · show k0_pay29 (F := Ideal) (ix2 a e) = _
    pointwise [k0_pay29]
    simp
  · show dk _ = _
    rw [h.dk, dkAt, if_neg (by omega), add_zero]
  · show dv _ = _
    rw [h.dv, dvAt, if_neg (by omega), add_zero]

theorem loop1_inv (i : grid0.Coords) (R : Reads I A (i 1).val) (s : St Ideal) (hs : Inv A (i 1).val 0 s) (n : ℕ) (hn : n ≤ (i 1).val - 1) :
    Inv A (i 1).val n (loop1 I i 0#32 (chk_zero i) s n) := by
  induction n with
  | zero => exact hs
  | succ n ih =>
    have hi : (i 1).val < 33 := (i 1).isLt
    have hlt : n < (k0_t1_loop i 0#32).trips := by rw [trips1]; omega
    rw [loop1, dif_pos hlt, iv_eq]
    exact tile_inv R (off2_eq i ⟨n, hlt⟩) (by omega) (ones_strict (by omega)) (ih (by omega))

theorem prev_inv (i : grid0.Coords) (R : Reads I A (i 1).val) (h : Carried A (i 1).val dk dv) :
    Inv A (i 1).val (i 1).val (prev I i 0#32 (chk_zero i) dk dv) := by
  have hi : (i 1).val < 33 := (i 1).isLt
  have hr : Inv A (i 1).val ((i 1).val - 1) (rest I i 0#32 (chk_zero i) dk dv) := by
    rw [rest, trips2, loop2, trips1]
    exact loop1_inv i R _ (start_inv h) _ le_rfl
  unfold prev
  rw [prev_word]
  rcases Nat.eq_zero_or_pos (i 1).val with h0 | hpos
  · have hm : ∀ a b : Fin 256, k0_pay41 (BitVec.ofNat 32 (i 1).val) (ix2 a b) = 0#1 := by
      intro a b
      rw [prev_mask, h0]; rfl
    obtain ⟨h1, h2, h3, h4⟩ := tile_none (I := I) (s := rest I i 0#32 (chk_zero i) dk dv) (h := k0_off4_inb i) hm
      (BitVec.ofNat 32 ((i 1).val - 1)) (off4_eq i) (by omega)
    have hr' : Inv A (i 1).val (i 1).val (rest I i 0#32 (chk_zero i) dk dv) := by
      have : (i 1).val - 1 = (i 1).val := by omega
      rw [this] at hr; exact hr
    exact ⟨fun a => (h1 a).trans (hr'.cg a), fun a e => (h2 a e).trans (hr'.dq a e), fun x e => (h3 x e).trans (hr'.dk x e),
      fun x e => (h4 x e).trans (hr'.dv x e)⟩
  · have hm : Strict (k0_pay41 (BitVec.ofNat 32 (i 1).val)) (i 1).val ((i 1).val - 1) := by
      intro a b
      rw [prev_mask]
      have : 256 * ((i 1).val - 1) + b.val < 256 * (i 1).val + a.val := by omega
      simp [this, hpos]
    have := tile_inv R (h := k0_off4_inb i) (off4_eq i) (by omega) hm hr
    rwa [show (i 1).val - 1 + 1 = (i 1).val by omega] at this

theorem point_inv (i : grid0.Coords) (R : Reads I A (i 1).val) (h : Carried A (i 1).val dk dv) :
    Inv A (i 1).val ((i 1).val + 1) (point I i 0#32 (chk_zero i) dk dv) :=
  tile_inv R (h := k0_off5_inb i) (off5_eq i) (i 1).isLt (diag_strict _) (prev_inv i R h)

theorem sum_after {i x : ℕ} (f g : ℕ → ℕ → ℝ) (e : ℕ) (hf : ∀ t s, t ≤ s → f t s = 0) :
    (∑ t ∈ range (256 * i), f t x * g t e) + (if x < 256 * (i + 1) then ∑ t ∈ Ico (256 * i) (256 * (i + 1)), f t x * g t e else 0) =
      ∑ t ∈ range (256 * (i + 1)), f t x * g t e := by
  rw [Finset.range_eq_Ico, Finset.range_eq_Ico, ← Finset.sum_Ico_consecutive (fun t => f t x * g t e) (Nat.zero_le _) (by omega : 256 * i ≤ 256 * (i + 1))]
  split
  · rfl
  · rename_i hx
    rw [Finset.sum_eq_zero (s := Ico (256 * i) (256 * (i + 1))) fun t ht => (by rw [hf t x (by rw [Finset.mem_Ico] at ht; omega), zero_mul])]

theorem point_dq (i : grid0.Coords) (R : Reads I A (i 1).val) (h : Carried A (i 1).val dk dv) (a : Fin 256) (e : Fin 64) :
    (point I i 0#32 (chk_zero i) dk dv).dq (ix2 a e) = ((A.dq (256 * (i 1).val + a.val) e : ℝ) : EReal) := by
  have hi : (i 1).val < 33 := (i 1).isLt
  rw [(point_inv i R h).dq, Arr.dq]
  congr 1
  refine Finset.sum_subset (fun t ht => ?_) (fun t _ ht => ?_)
  · rw [Finset.mem_range] at *; omega
  · rw [A.dz_of_le (by rw [Finset.mem_range] at ht; omega), zero_mul]

theorem point_carried (i : grid0.Coords) (R : Reads I A (i 1).val) (h : Carried A (i 1).val dk dv) :
    Carried A ((i 1).val + 1) (point I i 0#32 (chk_zero i) dk dv).dk (point I i 0#32 (chk_zero i) dk dv).dv := by
  refine ⟨fun x e => ?_, fun x e => ?_⟩
  · rw [(point_inv i R h).dk, dkAt]
    exact congrArg _ (sum_after A.dz (fun t _ => A.q t e) 0 fun t s hts => A.dz_of_le hts)
  · rw [(point_inv i R h).dv, dvAt]
    exact congrArg _ (sum_after A.wt (fun t _ => A.d t e) 0 fun t s hts => A.wt_of_le hts)

end Cert.KernelIdeal.Point
-- ==== Proof.Carry.lean ====
module

public import proofs.«01_k».proof.Proof.Point
public import proofs.«01_k».proof.Proof.Run

/-! The carries that the host prepares, over the extended reals: with finite arguments, the model's. -/

@[expose] public section

set_option maxRecDepth 16384
set_option maxHeartbeats 1000000
noncomputable section

namespace Cert.KernelIdeal.Carry

open Idealize.ShloMosaic Idealize.ShloMosaic.TcCoe Idealize.ShloMosaic.WordCmp Cert.Model Cert.KernelIdeal Cert.KernelIdeal.Gen Cert.KernelIdeal.Sem Cert.KernelIdeal.Tile
  Cert.KernelIdeal.State Cert.KernelIdeal.Run Finset

/-- An array holds no infinity. -/
abbrev Real3 {ft : FTy} (X : FVec Ideal S16x8448x64 ft) : Prop := ∀ (h : Fin 16) (t : Fin 8448) (e : Fin 64), ∃ r : ℝ, X (ix3 h t e) = ((r : ℝ) : EReal)

/-- A head's rows as reals. -/
def rowsOf {ft : FTy} (X : FVec Ideal S16x8448x64 ft) (h : Fin 16) (t : ℕ) (e : Fin 64) : ℝ :=
  if ht : t < 8448 then EReal.toReal (X (ix3 h ⟨t, ht⟩ e)) else 0

theorem rowsOf_coe {ft : FTy} {X : FVec Ideal S16x8448x64 ft} (hX : Real3 X) (h : Fin 16) (t : Fin 8448) (e : Fin 64) :
    X (ix3 h t e) = ((rowsOf X h t.val e : ℝ) : EReal) := by
  obtain ⟨r, hr⟩ := hX h t e
  rw [rowsOf, dif_pos t.isLt, hr, EReal.toReal_coe]

/-- A head's model. -/
def arr (q k v : FVec Ideal S16x8448x64 .bf16) (d : FVec Ideal S16x8448x64 .f32) (h : Fin 16) : Arr :=
  ⟨rowsOf q h, rowsOf k h, rowsOf v h, rowsOf d h⟩

/-! ## The carries -/

theorem sum_blocks (f : ℕ → ℝ) (n : ℕ) : ∑ B ∈ range n, ∑ x : Fin 256, f (256 * B + x.val) = ∑ j ∈ range (256 * n), f j := by
  induction n with
  | zero => simp
  | succ n ih => rw [Finset.sum_range_succ, ih, range_succ_block]

theorem sum_later (f : ℕ → ℝ) (b : ℕ) :
    ∑ B : Fin 33, (if b < B.val then ∑ x : Fin 256, f (256 * B.val + x.val) else 0) = ∑ j ∈ Ico (256 * (b + 1)) 8448, f j := by
  have h : ∀ B : ℕ, (if b < B then ∑ x : Fin 256, f (256 * B + x.val) else 0) =
      ∑ x : Fin 256, (fun j => if 256 * (b + 1) ≤ j then f j else 0) (256 * B + x.val) := by
    intro B
    split
    · exact Finset.sum_congr rfl fun x _ => (if_pos (by omega)).symm
    · exact (Finset.sum_eq_zero fun x _ => if_neg (by omega)).symm
  rw [Fin.sum_univ_eq_sum_range (fun B => if b < B then ∑ x : Fin 256, f (256 * B + x.val) else 0) 33, Finset.sum_congr rfl fun B _ => h B,
    sum_blocks (fun j => if 256 * (b + 1) ≤ j then f j else 0), ← Finset.sum_filter]
  congr 1
  ext j
  simp only [Finset.mem_filter, Finset.mem_range, Finset.mem_Ico]
  omega

variable {q k v : FVec Ideal S16x8448x64 .bf16} {d : FVec Ideal S16x8448x64 .f32}

theorem scores_apply (hq : Real3 q) (hk : Real3 k) (h : Fin 16) (t s : Fin 8448) :
    scores (F := Ideal) q k (ix3 h t s) = (((arr q k v d h).z t.val s.val : ℝ) : EReal) := by
  pointwise [scores]
  rw [Arr.z, coe_sum univ]
  refine Finset.sum_congr rfl fun e _ => ?_
  rw [rowsOf_coe hq, rowsOf_coe hk, EReal.coe_mul]
  rfl

theorem logKeep_apply (hq : Real3 q) (hk : Real3 k) (h : Fin 16) (t s : Fin 8448) :
    logKeep (F := Ideal) (scores q k) (ix3 h t s) = ((-(arr q k v d h).keep t.val s.val : ℝ) : EReal) := by
  have hz := scores_apply (v := v) (d := d) hq hk h t s
  revert hz
  generalize scores (F := Ideal) q k = z
  intro hz
  pointwise [logKeep, softplus]
  rw [hz, cmpi_slt_eq, toInt_small (by omega), toInt_small (by omega), Arr.keep]
  by_cases hst : s.val < t.val
  · rw [if_pos hst, EReal.coe_neg, ← host_sp]
    simp only [Int.ofNat_lt, hst, decide_true]
    rfl
  · rw [if_neg hst]
    simp only [Int.ofNat_lt, hst, decide_false]
    simp [Scalar.select]

theorem carry_apply (hq : Real3 q) (hk : Real3 k) (h : Fin 16) (t : Fin 8448) (b : Fin 128) :
    carry (F := Ideal) q k (ix3 h t b) = ((-(∑ j ∈ Ico (256 * (b.val + 1)) 8448, (arr q k v d h).keep t.val j) : ℝ) : EReal) := by
  have hl := fun s => logKeep_apply (v := v) (d := d) hq hk h t s
  revert hl
  unfold carry perBlock
  generalize logKeep (F := Ideal) (scores q k) = l
  intro hl
  pointwise
  have hB : ∀ x : Fin 33, Scalar.select (IntOp.cmpi CmpIPredicate.sgt (BitVec.ofNat 32 x.val) (BitVec.ofNat 32 b.val))
      (∑ y : Fin 256, l (ix3 h t ⟨x.val * 256 + y.val, by omega⟩)) (0 : EReal) =
      ((if b.val < x.val then ∑ y : Fin 256, (fun j => -(arr q k v d h).keep t.val j) (256 * x.val + y.val) else 0 : ℝ) : EReal) := by
    intro x
    rw [cmpi_sgt_eq, toInt_small (by omega), toInt_small (by omega)]
    by_cases hbx : b.val < x.val
    · rw [if_pos hbx, coe_sum univ]
      simp only [Int.ofNat_lt, hbx, decide_true]
      refine Eq.trans (b := ∑ y : Fin 256, l (ix3 h t ⟨x.val * 256 + y.val, by omega⟩)) (by simp [Scalar.select]) ?_
      refine Finset.sum_congr rfl fun y _ => ?_
      rw [hl]
      simp only [Nat.mul_comm]
    · rw [if_neg hbx]
      simp only [Int.ofNat_lt, hbx, decide_false]
      simp [Scalar.select]
  rw [← Finset.sum_neg_distrib, ← sum_later, coe_sum univ]
  exact Finset.sum_congr rfl fun x _ => hB x

end Cert.KernelIdeal.Carry
-- ==== Proof.Inputs.lean ====
module

public import proofs.«01_k».proof.Proof.Point
public import proofs.«01_k».proof.Proof.Carry
public import Idealize.ShloMosaic.Lib.Pipeline.ValueKit
public import Idealize.ShloMosaic.Lib.Pipeline.Covers

/-! What a grid point reads and what it leaves, over the extended reals: with finite arguments, the model's rows and
    the model's sums. -/

@[expose] public section

set_option maxRecDepth 16384
set_option maxHeartbeats 1000000
noncomputable section

namespace Cert.KernelIdeal.Inputs

open Idealize.ShloMosaic Idealize.ShloMosaic.TcCoe Cert.Model Cert.KernelIdeal Cert.KernelIdeal.Gen Cert.KernelIdeal.Sem Cert.KernelIdeal.Tile
  Cert.KernelIdeal.State Cert.KernelIdeal.Run Cert.KernelIdeal.Carry Cert.KernelIdeal.Point Finset

variable (m : (ℓ : Loc nD τ sig) → Buf (Elt Ideal) ℓ)

/-! ## The blocks' places -/

theorem coords_zero (t : Fin grid0.N) : (grid0.coords t 0).val = t.val / 33 := by
  have h : t.val < 528 := t.isLt.trans_eq N_0
  rw [Pipeline.Grid.coords_val (S := 33) (B := 16) t 0 (by decide) rfl]
  omega

theorem row_index (i : grid0.Coords) : cc0_transform_0 i = ![(i 0).val, (i 1).val, 0] := by
  have h0 : (i 0).val < 16 := (i 0).isLt
  have h1 : (i 1).val < 33 := (i 1).isLt
  show (![(BitVec.ofNat 32 (i 0).val).toNat, (BitVec.ofNat 32 (i 1).val).toNat, 0] : Fin 3 → ℕ) = _
  rw [BitVec.toNat_ofNat, BitVec.toNat_ofNat, Nat.mod_eq_of_lt (by omega), Nat.mod_eq_of_lt (by omega)]

theorem all_index (i : grid0.Coords) : cc0_transform_1 i = ![(i 0).val, 0, 0] := by
  have h0 : (i 0).val < 16 := (i 0).isLt
  show (![(BitVec.ofNat 32 (i 0).val).toNat, 0, 0] : Fin 3 → ℕ) = _
  rw [BitVec.toNat_ofNat, Nat.mod_eq_of_lt (by omega)]

theorem rows (t : Fin grid0.N) : cc0_transform_0 (grid0.coords t) = ![t.val / 33, t.val % 33, 0] := by
  rw [row_index, coords_zero, coords_one]
theorem all (t : Fin grid0.N) : cc0_transform_1 (grid0.coords t) = ![t.val / 33, 0, 0] := by
  rw [all_index, coords_zero]

theorem idx0 (t : Fin (cfgM m).N) : ((cfgM m).win 0).index t = ![t.val / 33, t.val % 33, 0] := rows t
theorem idx1 (t : Fin (cfgM m).N) : ((cfgM m).win 1).index t = ![t.val / 33, 0, 0] := all t
theorem idx2 (t : Fin (cfgM m).N) : ((cfgM m).win 2).index t = ![t.val / 33, 0, 0] := all t
theorem idx3 (t : Fin (cfgM m).N) : ((cfgM m).win 3).index t = ![t.val / 33, t.val % 33, 0] := rows t
theorem idx4 (t : Fin (cfgM m).N) : ((cfgM m).win 4).index t = ![t.val / 33, t.val % 33, 0] := rows t
theorem idx5 (t : Fin (cfgM m).N) : ((cfgM m).win 5).index t = ![t.val / 33, t.val % 33, 0] := rows t
theorem idx6 (t : Fin (cfgM m).N) : ((cfgM m).win 6).index t = ![t.val / 33, 0, 0] := all t
theorem idx7 (t : Fin (cfgM m).N) : ((cfgM m).win 7).index t = ![t.val / 33, 0, 0] := all t

/-- A point's head. -/
def head (t : Fin grid0.N) : Fin 16 := ⟨t.val / 33, by have h : t.val < 528 := t.isLt.trans_eq N_0; omega⟩
/-- A row of a point's block. -/
def row (t : Fin grid0.N) (a : Fin 256) : Fin 8448 := ⟨256 * (t.val % 33) + a.val, by omega⟩

theorem iblk0 (c : Dev nD) (t : Fin grid0.N) (a : Fin 256) (e : Fin 64) :
    iblk m c 0 t (ix3 0 a e) = V m c main_arg0 (ix3 (head t) (row t a) e) := by
  blk_ext [iblk, idx0 m t, head, row]
theorem iblk1 (c : Dev nD) (t : Fin grid0.N) (s : Fin 8448) (e : Fin 64) :
    iblk m c 1 t (ix3 0 s e) = V m c main_arg1 (ix3 (head t) s e) := by
  blk_ext [iblk, idx1 m t, head]
theorem iblk2 (c : Dev nD) (t : Fin grid0.N) (s : Fin 8448) (e : Fin 64) :
    iblk m c 2 t (ix3 0 s e) = V m c main_arg2 (ix3 (head t) s e) := by
  blk_ext [iblk, idx2 m t, head]
theorem iblk3 (c : Dev nD) (t : Fin grid0.N) (a : Fin 256) (b : Fin 128) :
    iblk m c 3 t (ix3 0 a b) = V m c main_v25 (ix3 (head t) (row t a) b) := by
  blk_ext [iblk, idx3 m t, head, row]
theorem iblk4 (c : Dev nD) (t : Fin grid0.N) (a : Fin 256) (e : Fin 64) :
    iblk m c 4 t (ix3 0 a e) = V m c main_arg3 (ix3 (head t) (row t a) e) := by
  blk_ext [iblk, idx4 m t, head, row]

/-! ## The points' inputs -/

/-- The four arguments. -/
abbrev argQ (c : Dev nD) : FVec Ideal S16x8448x64 .bf16 := m ((c : Thread nD τ).loc main_arg0)
abbrev argK (c : Dev nD) : FVec Ideal S16x8448x64 .bf16 := m ((c : Thread nD τ).loc main_arg1)
abbrev argV (c : Dev nD) : FVec Ideal S16x8448x64 .bf16 := m ((c : Thread nD τ).loc main_arg2)
abbrev argD (c : Dev nD) : FVec Ideal S16x8448x64 .f32 := m ((c : Thread nD τ).loc main_arg3)

/-- The arguments hold no infinity. -/
structure Finite (c : Dev nD) : Prop where
  q : Real3 (argQ m c)
  k : Real3 (argK m c)
  v : Real3 (argV m c)
  d : Real3 (argD m c)

/-- A head's model. -/
abbrev mdl (c : Dev nD) (h : Fin 16) : Arr := arr (argQ m c) (argK m c) (argV m c) (argD m c) h

theorem reads {c : Dev nD} (hf : Finite m c) (t : Fin grid0.N) : Reads (inp m c t) (mdl m c (head t)) (grid0.coords t 1).val := by
  rw [coords_one]
  refine ⟨fun a e => ?_, fun s e => ?_, fun s e => ?_, fun a e => ?_, fun a b => ?_⟩
  · show iblk m c 0 t (ix3 0 a e) = _
    rw [iblk0, V_arg0]; exact rowsOf_coe hf.q _ _ _
  · show iblk m c 1 t (ix3 0 s e) = _
    rw [iblk1, V_arg1]; exact rowsOf_coe hf.k _ _ _
  · show iblk m c 2 t (ix3 0 s e) = _
    rw [iblk2, V_arg2]; exact rowsOf_coe hf.v _ _ _
  · show iblk m c 4 t (ix3 0 a e) = _
    rw [iblk4, V_arg3]; exact rowsOf_coe hf.d _ _ _
  · show iblk m c 3 t (ix3 0 a b) = _
    rw [iblk3, V_carry]; exact carry_apply hf.q hf.k _ _ _

/-! ## The points' results -/

theorem zero_carried (A : Arr) : Carried A 0 k0_pay18 k0_pay19 := by
  refine ⟨fun x e => ?_, fun x e => ?_⟩
  · pointwise [k0_pay18]
    simp
  · pointwise [k0_pay19]
    simp

/-- What a point starts from. -/
theorem acc_spec {c : Dev nD} (hf : Finite m c) (n : ℕ) : ∀ t : Fin grid0.N, t.val = n →
    ∃ dk dv, Carried (mdl m c (head t)) (grid0.coords t 1).val dk dv ∧ acc m c t.val t.isLt = pt (inp m c t) (grid0.coords t) dk dv := by
  induction n with
  | zero =>
    intro t ht
    refine ⟨_, _, ?_, acc_first m c t (by omega)⟩
    rw [coords_one, show t.val % 33 = 0 by omega]
    exact zero_carried _
  | succ n ih =>
    intro t ht
    by_cases h0 : t.val % 33 = 0
    · refine ⟨_, _, ?_, acc_first m c t h0⟩
      rw [coords_one, h0]
      exact zero_carried _
    · refine ⟨_, _, ?_, acc_next m c t h0⟩
      have hlt : t.val - 1 < grid0.N := Nat.lt_of_le_of_lt (Nat.sub_le _ _) t.isLt
      obtain ⟨dk, dv, hc, ha⟩ := ih ⟨t.val - 1, hlt⟩ (by simp only; omega)
      have hh : head ⟨t.val - 1, hlt⟩ = head t := Fin.ext (by simp only [head]; omega)
      have hr : (grid0.coords ⟨t.val - 1, hlt⟩ 1).val + 1 = (grid0.coords t 1).val := by
        rw [coords_one, coords_one]; simp only; omega
      have hp := point_carried _ (reads m hf ⟨t.val - 1, hlt⟩) hc
      rw [hh, hr] at hp
      have ha' : acc m c (t.val - 1) hlt = pt (inp m c ⟨t.val - 1, hlt⟩) (grid0.coords ⟨t.val - 1, hlt⟩) dk dv := ha
      rw [ha']
      exact hp

theorem acc_dq {c : Dev nD} (hf : Finite m c) (t : Fin grid0.N) (a : Fin 256) (e : Fin 64) :
    (acc m c t.val t.isLt).dq (ix2 a e) = (((mdl m c (head t)).dq (row t a).val e : ℝ) : EReal) := by
  obtain ⟨dk, dv, hc, ha⟩ := acc_spec m hf t.val t rfl
  rw [ha, pt, point_dq _ (reads m hf t) hc]
  simp only [coords_one, row]

theorem acc_last {c : Dev nD} (hf : Finite m c) (t : Fin grid0.N) (h : t.val % 33 = 32) :
    Carried (mdl m c (head t)) 33 (acc m c t.val t.isLt).dk (acc m c t.val t.isLt).dv := by
  obtain ⟨dk, dv, hc, ha⟩ := acc_spec m hf t.val t rfl
  have := point_carried _ (reads m hf t) hc
  rw [coords_one, h] at this
  rw [ha]
  exact this

end Cert.KernelIdeal.Inputs
-- ==== Proof.Arrays.lean ====
module

public import proofs.«01_k».proof.Proof.Inputs

/-! The three results of the launch, over the extended reals: with finite arguments, the model's gradients. -/

@[expose] public section

set_option maxRecDepth 16384
set_option maxHeartbeats 1000000
noncomputable section

namespace Cert.KernelIdeal.Arrays

open Idealize.ShloMosaic Idealize.ShloMosaic.TcCoe Cert.Model Cert.KernelIdeal Cert.KernelIdeal.Gen Cert.KernelIdeal.Run Cert.KernelIdeal.Carry
  Cert.KernelIdeal.Point Cert.KernelIdeal.Inputs

variable (m : (ℓ : Loc nD τ sig) → Buf (Elt Ideal) ℓ)

/-- dq, -/
def G5 (c : Dev nD) : FVec Ideal S16x8448x64 .f32 := fun i => (((mdl m c (i 0)).dq (i 1).val (i 2) : ℝ) : EReal)
/-- dk, -/
def G6 (c : Dev nD) : FVec Ideal S16x8448x64 .f32 := fun i => (((mdl m c (i 0)).dk (i 1).val (i 2) : ℝ) : EReal)
/-- and dv. -/
def G7 (c : Dev nD) : FVec Ideal S16x8448x64 .f32 := fun i => (((mdl m c (i 0)).dv (i 1).val (i 2) : ℝ) : EReal)

theorem exists_coords (b0 : Fin 16) (b1 : Fin 33) : ∃ i : grid0.Coords, (i 0).val = b0.val ∧ (i 1).val = b1.val :=
  ⟨fun | ⟨0, _⟩ => b0 | ⟨1, _⟩ => b1 | ⟨_ + 2, h⟩ => absurd h (by simp), rfl, rfl⟩

theorem rows_cover (β : (a : Fin 3) → Fin ((![16, 33, 1] : Fin 3 → ℕ) a)) : ∃ i : grid0.Coords, ∀ a, cc0_transform_0 i a = (β a).val := by
  obtain ⟨i, h0, h1⟩ := exists_coords (β 0) (β 1)
  refine ⟨i, fun a => ?_⟩
  rw [row_index, h0, h1]
  fin_cases a
  · rfl
  · rfl
  · exact ((Nat.lt_one_iff.1 (β 2).isLt) : (β 2).val = 0).symm

theorem all_cover (β : (a : Fin 3) → Fin ((![16, 1, 1] : Fin 3 → ℕ) a)) : ∃ i : grid0.Coords, ∀ a, cc0_transform_1 i a = (β a).val := by
  obtain ⟨i, h0, -⟩ := exists_coords (β 0) 0
  refine ⟨i, fun a => ?_⟩
  rw [all_index, h0]
  fin_cases a
  · rfl
  · exact ((Nat.lt_one_iff.1 (β 1).isLt) : (β 1).val = 0).symm
  · exact ((Nat.lt_one_iff.1 (β 2).isLt) : (β 2).val = 0).symm

theorem rows_blocks : ∀ a : Fin 3, (S16x8448x64.size a + S1x256x64.size a - 1) / S1x256x64.size a = (![16, 33, 1] : Fin 3 → ℕ) a := by decide
theorem all_blocks : ∀ a : Fin 3, (S16x8448x64.size a + S1x8448x64.size a - 1) / S1x8448x64.size a = (![16, 1, 1] : Fin 3 → ℕ) a := by decide

theorem cover5 : ((cfgM m).win 5).Covers :=
  ((cfgM m).win 5).covers_of_indexMap_surj rfl (by decide : ∀ a : Fin 3, 0 < S1x256x64.size a) fun β =>
    rows_cover fun a => (⟨(β a).val, (β a).isLt.trans_eq (rows_blocks a)⟩ : Fin ((![16, 33, 1] : Fin 3 → ℕ) a))

theorem cover6 : ((cfgM m).win 6).Covers :=
  ((cfgM m).win 6).covers_of_indexMap_surj rfl (by decide : ∀ a : Fin 3, 0 < S1x8448x64.size a) fun β =>
    all_cover fun a => (⟨(β a).val, (β a).isLt.trans_eq (all_blocks a)⟩ : Fin ((![16, 1, 1] : Fin 3 → ℕ) a))

theorem cover7 : ((cfgM m).win 7).Covers :=
  ((cfgM m).win 7).covers_of_indexMap_surj rfl (by decide : ∀ a : Fin 3, 0 < S1x8448x64.size a) fun β =>
    all_cover fun a => (⟨(β a).val, (β a).isLt.trans_eq (all_blocks a)⟩ : Fin ((![16, 1, 1] : Fin 3 → ℕ) a))

theorem exists_ix3 {n : ℕ} (y : (⟨3, ![1, n, 64]⟩ : Shape).Idx) : ∃ (a : Fin n) (e : Fin 64), y = ix3 0 a e :=
  ⟨y 1, y 2, (eq_ix3 y).trans (congrArg (fun z : Fin 1 => ix3 z (y 1) (y 2)) (Fin.fin_one_eq_zero (y 0)))⟩

theorem cast_rows (X : FVec Ideal S256x64 .f32) (a : Fin 256) (e : Fin 64) :
    shapeCast S1x256x64 X shapeCasts_S256x64_S1x256x64 (ix3 0 a e) = X (ix2 a e) := by
  pointwise

theorem arr5 {c : Dev nD} (hf : Finite m c) : (dats m 0 c).arrAt 5 (cfgM m).N = G5 m c := by
  refine (dats m 0 c).arrAt_eq_of_covers 5 _ (cover5 m) fun t hfl y => ?_
  obtain ⟨a, e, rfl⟩ := exists_ix3 (n := 256) y
  have hp : (((cfgM m).win 5).blk t).view.emb (ix3 0 a e) = (ix3 (head t) (row t a) e : S16x8448x64.Idx) := by
    blk_ext [idx5 m t, head, row]
  rw [hp]
  exact (cast_rows _ a e).trans (acc_dq m hf t a e)

theorem arr6 {c : Dev nD} (hf : Finite m c) : (dats m 0 c).arrAt 6 (cfgM m).N = G6 m c := by
  refine (dats m 0 c).arrAt_eq_of_covers 6 _ (cover6 m) fun t hfl y => ?_
  obtain ⟨a, e, rfl⟩ := exists_ix3 (n := 8448) y
  have hp : (((cfgM m).win 6).blk t).view.emb (ix3 0 a e) = (ix3 (head t) a e : S16x8448x64.Idx) := by
    blk_ext [idx6 m t, head]
  rw [hp]
  exact (acc_last m hf t ((flush6 m t).1 hfl)).dk a e

theorem arr7 {c : Dev nD} (hf : Finite m c) : (dats m 0 c).arrAt 7 (cfgM m).N = G7 m c := by
  refine (dats m 0 c).arrAt_eq_of_covers 7 _ (cover7 m) fun t hfl y => ?_
  obtain ⟨a, e, rfl⟩ := exists_ix3 (n := 8448) y
  have hp : (((cfgM m).win 7).blk t).view.emb (ix3 0 a e) = (ix3 (head t) a e : S16x8448x64.Idx) := by
    blk_ext [idx7 m t, head]
  rw [hp]
  exact (acc_last m hf t ((flush7 m t).1 hfl)).dv a e

end Cert.KernelIdeal.Arrays
-- ==== Proof.Window.lean ====
module

public import proofs.«01_k».proof.Proof.Model
public import Idealize.ShloMosaic.Lib.ValueIdx
public import Idealize.ShloMosaic.Lib.Pointwise

/-! A running sum along the last of three axes, as the host writes it (a window sum with padding), over the extended reals. -/

@[expose] public section

noncomputable section

namespace Cert.Window

open Idealize.ShloMosaic Finset

/-- A fold of additions from zero is the sum. -/
theorem foldl_add {n : ℕ} (g : Fin n → EReal) : (List.finRange n).foldl (fun r i => r + g i) 0 = ∑ i, g i := by
  have h : ∀ (l : List (Fin n)) (r : EReal), l.foldl (fun r i => r + g i) r = r + (l.map g).sum := by
    intro l
    induction l with
    | nil => intro r; simp
    | cons a l ih => intro r; rw [List.foldl_cons, ih, List.map_cons, List.sum_cons, add_assoc]
  rw [h, zero_add, Fin.sum_univ_def]

/-- A window sum with the value zero in the padding is the sum over the window's positions. -/
theorem windowAdd {s t : Shape} (window strides lo hi : Fin s.rank → ℕ) (x : s.Idx → EReal) (h : s.ReduceWindows window strides lo hi t) (j : t.Idx) :
    Ideal.hostReduceWindowAdd window strides lo hi h x 0 j
      = ∑ w : (⟨s.rank, window⟩ : Shape).Idx,
          (let p : Fin s.rank → ℕ := fun a => (j (a.cast h.1.symm)).val * strides a + (w a).val
           if hin : ∀ a, lo a ≤ p a ∧ p a - lo a < s.size a then x (fun a => ⟨p a - lo a, (hin a).2⟩) else 0) := by
  unfold Ideal.hostReduceWindowAdd Host.reduceWindow
  refine (foldl_add _).trans ?_
  refine Fintype.sum_equiv (⟨s.rank, window⟩ : Shape).rowMajor.symm _ _ fun i => ?_
  dsimp only
  split
  · rfl
  · rfl

abbrev sh (a b c : ℕ) : Shape := ⟨3, ![a, b, c]⟩

/-- The positions of a window that is one wide on two axes. -/
def rowEquiv (n : ℕ) : Fin n ≃ (sh 1 1 n).Idx where
  toFun k := ix3 0 0 k
  invFun w := w 2
  left_inv _ := rfl
  right_inv w := by
    funext a
    match a with
    | ⟨0, _⟩ => exact Subsingleton.elim (α := Fin 1) _ _
    | ⟨1, _⟩ => exact Subsingleton.elim (α := Fin 1) _ _
    | ⟨2, _⟩ => rfl

/-- The sum from a position on. -/
theorem suffix {H M N N' : ℕ} (hN : N' + 1 = N) (x : (sh H M N).Idx → EReal) (f : ℕ → ℝ) (a : Fin H) (b : Fin M)
    (hx : ∀ k : Fin N, x (ix3 a b k) = ((f k.val : ℝ) : EReal))
    (h : (sh H M N).ReduceWindows ![1, 1, N] ![1, 1, 1] ![0, 0, 0] ![0, 0, N'] (sh H M N)) (j : Fin N) :
    Ideal.hostReduceWindowAdd ![1, 1, N] ![1, 1, 1] ![0, 0, 0] ![0, 0, N'] h x 0 (ix3 a b j) = ((∑ k ∈ Ico j.val N, f k : ℝ) : EReal) := by
  rw [windowAdd]
  refine (Equiv.sum_comp (rowEquiv N) _).symm.trans ?_
  rw [Finset.sum_Ico_eq_sum_range]
  have e : (∑ k ∈ range (N - j.val), f (j.val + k)) = ∑ k ∈ range N, if j.val + k < N then f (j.val + k) else 0 := by
    rw [← Finset.sum_filter]
    refine Finset.sum_congr ?_ fun _ _ => rfl
    ext k; simp only [mem_range, mem_filter]; omega
  rw [e, ← Fin.sum_univ_eq_sum_range (fun k => if j.val + k < N then f (j.val + k) else 0), Model.coe_sum]
  refine Finset.sum_congr rfl fun k _ => ?_
  dsimp only
  split
  · next hin =>
    have h2 := (hin 2).2
    change j.val * 1 + k.val - 0 < N at h2
    rw [if_pos (by omega)]
    have := hx ⟨j.val + k.val, by omega⟩
    refine Eq.trans (congrArg x (funext fun c => Fin.ext ?_)) this
    match c with
    | ⟨0, _⟩ => show a.val * 1 + 0 - 0 = a.val; omega
    | ⟨1, _⟩ => show b.val * 1 + 0 - 0 = b.val; omega
    | ⟨2, _⟩ => show j.val * 1 + k.val - 0 = j.val + k.val; omega
  · next hin =>
    rw [if_neg fun hlt => hin fun c => ?_]
    · rfl
    match c with
    | ⟨0, _⟩ => exact ⟨Nat.zero_le _, by show a.val * 1 + 0 - 0 < H; have := a.isLt; omega⟩
    | ⟨1, _⟩ => exact ⟨Nat.zero_le _, by show b.val * 1 + 0 - 0 < M; have := b.isLt; omega⟩
    | ⟨2, _⟩ => exact ⟨Nat.zero_le _, by show j.val * 1 + k.val - 0 < N; omega⟩

/-- The sum up to a position. -/
theorem prefix_ {H M N N' : ℕ} (hN : N' + 1 = N) (x : (sh H M N).Idx → EReal) (f : ℕ → ℝ) (a : Fin H) (b : Fin M)
    (hx : ∀ k : Fin N, x (ix3 a b k) = ((f k.val : ℝ) : EReal))
    (h : (sh H M N).ReduceWindows ![1, 1, N] ![1, 1, 1] ![0, 0, N'] ![0, 0, 0] (sh H M N)) (j : Fin N) :
    Ideal.hostReduceWindowAdd ![1, 1, N] ![1, 1, 1] ![0, 0, N'] ![0, 0, 0] h x 0 (ix3 a b j) = ((∑ k ∈ range (j.val + 1), f k : ℝ) : EReal) := by
  have hj := j.isLt
  rw [windowAdd]
  refine (Equiv.sum_comp (rowEquiv N) _).symm.trans ?_
  have e : (∑ k ∈ range (j.val + 1), f k) = ∑ k ∈ range N, if N' ≤ j.val + k then f (j.val + k - N') else 0 := by
    rw [← Finset.sum_filter]
    refine Finset.sum_bij' (fun k _ => k + N' - j.val) (fun k _ => j.val + k - N') ?_ ?_ ?_ ?_ ?_
    · intro k hk; simp only [mem_range, mem_filter] at hk ⊢; omega
    · intro k hk; simp only [mem_range, mem_filter] at hk ⊢; omega
    · intro k hk; simp only [mem_range] at hk
      try dsimp only
      omega
    · intro k hk; simp only [mem_range, mem_filter] at hk
      try dsimp only
      omega
    · intro k hk; simp only [mem_range] at hk; congr 1; omega
  rw [e, ← Fin.sum_univ_eq_sum_range (fun k => if N' ≤ j.val + k then f (j.val + k - N') else 0), Model.coe_sum]
  refine Finset.sum_congr rfl fun k _ => ?_
  have hk := k.isLt
  dsimp only
  split
  · next hin =>
    have h2 := hin 2
    change N' ≤ j.val * 1 + k.val ∧ j.val * 1 + k.val - N' < N at h2
    rw [if_pos (by omega)]
    have := hx ⟨j.val + k.val - N', by omega⟩
    refine Eq.trans (congrArg x (funext fun c => Fin.ext ?_)) this
    match c with
    | ⟨0, _⟩ => show a.val * 1 + 0 - 0 = a.val; omega
    | ⟨1, _⟩ => show b.val * 1 + 0 - 0 = b.val; omega
    | ⟨2, _⟩ => show j.val * 1 + k.val - N' = j.val + k.val - N'; omega
  · next hin =>
    rw [if_neg fun hle => hin fun c => ?_]
    · rfl
    match c with
    | ⟨0, _⟩ => exact ⟨Nat.zero_le _, by show a.val * 1 + 0 - 0 < H; have := a.isLt; omega⟩
    | ⟨1, _⟩ => exact ⟨Nat.zero_le _, by show b.val * 1 + 0 - 0 < M; have := b.isLt; omega⟩
    | ⟨2, _⟩ => show N' ≤ j.val * 1 + k.val ∧ j.val * 1 + k.val - N' < N; omega

/-- The same of the host's operation. -/
theorem host_suffix {H M N N' : ℕ} (hN : N' + 1 = N) {u : Shape} (x : FVec Ideal (sh H M N) .f32) (init : FVec Ideal u .f32) (f : ℕ → ℝ) (a : Fin H) (b : Fin M)
    (hx : ∀ k : Fin N, x (ix3 a b k) = ((f k.val : ℝ) : EReal))
    (h : (sh H M N).ReduceWindows ![1, 1, N] ![1, 1, 1] ![0, 0, 0] ![0, 0, N'] (sh H M N)) (hu : 0 < u.numel) (h0 : init (Shape.Idx.first hu) = (0 : EReal)) (j : Fin N) :
    Host.reduceWindowAdd ![1, 1, N] ![1, 1, 1] ![0, 0, 0] ![0, 0, N'] x init h hu (ix3 a b j) = ((∑ k ∈ Ico j.val N, f k : ℝ) : EReal) := by
  unfold Host.reduceWindowAdd
  rw [Ideal.hostReduceWindowAdd_def, h0]
  exact suffix hN x f a b hx h j

theorem host_prefix {H M N N' : ℕ} (hN : N' + 1 = N) {u : Shape} (x : FVec Ideal (sh H M N) .f32) (init : FVec Ideal u .f32) (f : ℕ → ℝ) (a : Fin H) (b : Fin M)
    (hx : ∀ k : Fin N, x (ix3 a b k) = ((f k.val : ℝ) : EReal))
    (h : (sh H M N).ReduceWindows ![1, 1, N] ![1, 1, 1] ![0, 0, N'] ![0, 0, 0] (sh H M N)) (hu : 0 < u.numel) (h0 : init (Shape.Idx.first hu) = (0 : EReal)) (j : Fin N) :
    Host.reduceWindowAdd ![1, 1, N] ![1, 1, 1] ![0, 0, N'] ![0, 0, 0] x init h hu (ix3 a b j) = ((∑ k ∈ range (j.val + 1), f k : ℝ) : EReal) := by
  unfold Host.reduceWindowAdd
  rw [Ideal.hostReduceWindowAdd_def, h0]
  exact prefix_ hN x f a b hx h j

end Cert.Window
-- ==== Proof.RefValue.lean ====
module

public import proofs.«01_k».proof.Proof.Gen.ReferenceIdeal.Read
public import proofs.«01_k».proof.Proof.Window
public import Idealize.ShloMosaic.Lib.Pointwise
public import Idealize.ShloMosaic.Lib.WordCmp

/-! The reference's three results over the extended reals: with finite arguments, the model's gradients. -/

@[expose] public section

set_option maxRecDepth 16384
set_option maxHeartbeats 1000000
noncomputable section

namespace Cert.ReferenceIdeal.RefValue

open Idealize.ShloMosaic Idealize.ShloMosaic.TcCoe Idealize.ShloMosaic.WordCmp Cert.Model Cert.ReferenceIdeal Cert.ReferenceIdeal.Gen Cert.ReferenceIdeal.Read Finset

/-! ## Scalars -/

abbrev F0 : Ideal .f32 := FloatOps.ofBits .f32 0x00000000#32
abbrev Finf : Ideal .f32 := FloatOps.ofBits .f32 0x7F800000#32

theorem F0_eq : F0 = (0 : EReal) := Ideal.ofBits_zero_f32
theorem Finf_eq : Finf = (⊤ : EReal) := by simp [Finf, Ideal.ofBits, Ideal.ieee]

/-- The softplus with its guard. -/
theorem soft {x : Ideal .f32} {a : ℝ} (h : x = ((a : ℝ) : EReal)) :
    Scalar.select (FloatOps.cmpf .une (FloatOps.subf x F0) (FloatOps.subf x F0)) (FloatOps.addf x F0)
      (FloatOps.addf (FloatOps.maximumf x F0) (FloatOps.hostUnary .log1p (FloatOps.hostUnary .exp (FloatOps.hostNegf (FloatOps.hostAbsf (FloatOps.subf x F0))))))
      = ((sp a : ℝ) : EReal) := by
  subst h
  rw [F0_eq, ← host_sp]
  have e : (FloatOps.subf (F := Ideal) (φ := .f32) ((a : ℝ) : EReal) (0 : EReal)) = ((a : ℝ) : EReal) := by
    show ((a : ℝ) : EReal) - 0 = _
    rw [← EReal.coe_zero, ← EReal.coe_sub, sub_zero]
  rw [e]
  have c : (FloatOps.cmpf (F := Ideal) (φ := .f32) .une ((a : ℝ) : EReal) ((a : ℝ) : EReal)) = 0#1 := by
    show Ideal.cmp .une _ _ = _
    simp [Ideal.cmp]
  rw [c]
  rfl

theorem noinf (a : ℝ) (u : Ideal .f32) : Scalar.select (FloatOps.cmpf (F := Ideal) (φ := .f32) .oeq ((a : ℝ) : EReal) Finf) u (((a : ℝ) : EReal) : Ideal .f32) = ((a : ℝ) : EReal) := by
  have c : (FloatOps.cmpf (F := Ideal) (φ := .f32) .oeq ((a : ℝ) : EReal) Finf) = 0#1 := by
    rw [Finf_eq]
    show Ideal.cmp .oeq _ _ = _
    simp [Ideal.cmp]
  rw [c]
  rfl

/-- The softplus' derivative, from the softplus. -/
theorem resid {x y : Ideal .f32} {a : ℝ} (hx : x = ((a : ℝ) : EReal)) (hy : y = ((sp a : ℝ) : EReal)) :
    FloatOps.hostUnary .exp (FloatOps.subf (Scalar.select (FloatOps.cmpf .oeq x Finf) F0 x) (Scalar.select (FloatOps.cmpf .oeq y Finf) F0 y))
      = ((sg a : ℝ) : EReal) := by
  subst hx hy
  rw [noinf, noinf]
  exact kernel_sg a

theorem toInt_small {n : ℕ} (h : n < 2147483648) : (BitVec.ofNat 32 n).toInt = (n : ℤ) := by
  rw [BitVec.toInt_eq_toNat_cond, BitVec.toNat_ofNat]
  omega

/-! ## The arguments -/

abbrev B3 := (⟨S16x8448x64, .bf16⟩ : BufTy).Contents (Elt Ideal)
abbrev D3 := (⟨S16x8448x64, .f32⟩ : BufTy).Contents (Elt Ideal)

variable {x0 x1 x2 : B3} {x3 : D3} {A : Arr} {h : Fin 16}

/-- The model's rows are the arguments' rows at one head. -/
structure Is (x0 x1 x2 : B3) (x3 : D3) (A : Arr) (h : Fin 16) : Prop where
  q : ∀ (t : Fin 8448) (e : Fin 64), x0 (ix3 h t e) = ((A.q t.val e : ℝ) : EReal)
  k : ∀ (t : Fin 8448) (e : Fin 64), x1 (ix3 h t e) = ((A.k t.val e : ℝ) : EReal)
  v : ∀ (t : Fin 8448) (e : Fin 64), x2 (ix3 h t e) = ((A.v t.val e : ℝ) : EReal)
  d : ∀ (t : Fin 8448) (e : Fin 64), x3 (ix3 h t e) = ((A.d t.val e : ℝ) : EReal)

theorem idx3 {a b c : ℕ} (i : (⟨3, ![a, b, c]⟩ : Shape).Idx) (x : Fin a) (y : Fin b) (z : Fin c) (h0 : (i 0).val = x.val) (h1 : (i 1).val = y.val)
    (h2 : (i 2).val = z.val) : i = ix3 x y z := by
  funext w
  match w with
  | ⟨0, _⟩ => exact Fin.ext h0
  | ⟨1, _⟩ => exact Fin.ext h1
  | ⟨2, _⟩ => exact Fin.ext h2

theorem z_apply (H : Is x0 x1 x2 x3 A h) (t s : Fin 8448) : val_main_v3 (F := Ideal) x0 x1 (ix3 h t s) = ((A.z t.val s.val : ℝ) : EReal) := by
  rw [val_main_v3_apply, Arr.z, coe_sum univ]
  refine Finset.sum_congr rfl fun e _ => ?_
  rw [idx3 (lidx_main_v3 (ix3 h t s) e) h t e rfl rfl rfl, idx3 (ridx_main_v3 (ix3 h t s) e) h s e rfl rfl rfl, EReal.coe_mul]
  exact congrArg₂ (fun a b : EReal => a * b) (H.q t e) (H.k s e)

theorem dp_apply (H : Is x0 x1 x2 x3 A h) (t s : Fin 8448) :
    val_main_v23 (F := Ideal) x2 x3 (ix3 h t s) = ((∑ e, A.d t.val e * A.v s.val e : ℝ) : EReal) := by
  rw [val_main_v23_apply, coe_sum univ]
  refine Finset.sum_congr rfl fun e _ => ?_
  rw [idx3 (lidx_main_v23 (ix3 h t s) e) h t e rfl rfl rfl, idx3 (ridx_main_v23 (ix3 h t s) e) h s e rfl rfl rfl, EReal.coe_mul]
  exact congrArg₂ (fun a b : EReal => a * b) (H.d t e) (H.v s e)

/-- A choice by the mask. -/
theorem mask_sel {X Y : Ideal .f32} (t s : Fin 8448) :
    Scalar.select (val_main_v13_1 (F := Ideal) (ix3 h t s)) X Y = if s.val < t.val then X else Y := by
  rw [val_main_v13_1_apply, val_main_v10_apply, val_main_v8_apply, val_main_v9_apply, val_main_v5_apply, val_main_v7_apply, val_main_v4_apply, val_main_v6_apply]
  show Scalar.select (IntOp.cmpi CmpIPredicate.slt (BitVec.ofNat 32 s.val) (BitVec.ofNat 32 t.val)) X Y = _
  rw [cmpi_slt_eq, toInt_small (by omega), toInt_small (by omega)]
  by_cases hst : s.val < t.val
  · rw [if_pos hst]
    simp only [Int.ofNat_lt, hst, decide_true]
    rfl
  · rw [if_neg hst]
    simp only [Int.ofNat_lt, hst, decide_false]
    rfl

/-! ## The logarithms -/

theorem y0_apply (H : Is x0 x1 x2 x3 A h) (t s : Fin 8448) : val_main_call0_v0 (F := Ideal) x0 x1 (ix3 h t s) = ((A.z t.val s.val : ℝ) : EReal) := by
  rw [val_main_call0_v0_apply, val_main_v11_apply, z_apply H]
  show -(-(((A.z t.val s.val : ℝ) : EReal))) = _
  rw [neg_neg]

theorem sp0_apply (H : Is x0 x1 x2 x3 A h) (t s : Fin 8448) :
    val_main_call0_v1_0 (F := Ideal) x0 x1 (ix3 h t s) = ((sp (A.z t.val s.val) : ℝ) : EReal) := by
  simp only [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v2_apply, val_main_call0_call0_v5_apply, val_main_call0_call0_v0_apply, val_main_call0_call0_cst_apply]
  exact soft (y0_apply H t s)

theorem sg0_apply (H : Is x0 x1 x2 x3 A h) (t s : Fin 8448) : val_main_v12_1 (F := Ideal) x0 x1 (ix3 h t s) = ((sg (A.z t.val s.val) : ℝ) : EReal) := by
  simp only [val_main_v12_1_apply, val_main_call0_call0_v21_apply, val_main_call0_call0_v16_apply, val_main_call0_call0_v20_apply, val_main_call0_call0_v14_apply,
    val_main_call0_call0_v18_apply, val_main_call0_call0_v13_apply, val_main_call0_call0_v15_apply, val_main_call0_call0_v17_apply, val_main_call0_call0_v19_apply,
    val_main_call0_call0_cst_0_apply, val_main_call0_call0_cst_1_apply, val_main_call0_call0_cst_2_apply, val_main_call0_call0_cst_3_apply]
  exact resid (y0_apply H t s) (sp0_apply H t s)

theorem y2_apply (H : Is x0 x1 x2 x3 A h) (t s : Fin 8448) : val_main_call2_v0 (F := Ideal) x0 x1 (ix3 h t s) = ((-(A.z t.val s.val) : ℝ) : EReal) := by
  rw [val_main_call2_v0_apply, z_apply H, EReal.coe_neg]
  rfl

theorem sp2_apply (H : Is x0 x1 x2 x3 A h) (t s : Fin 8448) :
    val_main_call2_v1_0 (F := Ideal) x0 x1 (ix3 h t s) = ((sp (-(A.z t.val s.val)) : ℝ) : EReal) := by
  simp only [val_main_call2_v1_0_apply, val_main_call2_call0_v4_apply, val_main_call2_call0_v6_apply, val_main_call2_call0_v11_apply, val_main_call2_call0_v1_apply,
    val_main_call2_call0_v10_apply, val_main_call2_call0_v9_apply, val_main_call2_call0_v8_apply, val_main_call2_call0_v7_apply, val_main_call2_call0_v3_apply,
    val_main_call2_call0_v2_apply, val_main_call2_call0_v5_apply, val_main_call2_call0_v0_apply, val_main_call2_call0_cst_apply]
  exact soft (y2_apply H t s)

theorem sg2_apply (H : Is x0 x1 x2 x3 A h) (t s : Fin 8448) : val_main_v14_1 (F := Ideal) x0 x1 (ix3 h t s) = ((sg (-(A.z t.val s.val)) : ℝ) : EReal) := by
  simp only [val_main_v14_1_apply, val_main_call2_call0_v21_apply, val_main_call2_call0_v16_apply, val_main_call2_call0_v20_apply, val_main_call2_call0_v14_apply,
    val_main_call2_call0_v18_apply, val_main_call2_call0_v13_apply, val_main_call2_call0_v15_apply, val_main_call2_call0_v17_apply, val_main_call2_call0_v19_apply,
    val_main_call2_call0_cst_0_apply, val_main_call2_call0_cst_1_apply, val_main_call2_call0_cst_2_apply, val_main_call2_call0_cst_3_apply]
  exact resid (y2_apply H t s) (sp2_apply H t s)

theorem keep_apply (H : Is x0 x1 x2 x3 A h) (t s : Fin 8448) : val_main_v13_0 (F := Ideal) x0 x1 (ix3 h t s) = ((-(A.keep t.val s.val) : ℝ) : EReal) := by
  rw [val_main_v13_0_apply, mask_sel, val_main_v12_0_apply, sp0_apply H, Arr.keep]
  split
  · exact (EReal.coe_neg _).symm
  · rw [val_main_call1_v2_apply, val_main_call1_v0_apply, val_main_cst_apply, neg_zero]
    exact F0_eq

theorem keeps_apply (H : Is x0 x1 x2 x3 A h) (t s : Fin 8448) :
    val_main_v15 (F := Ideal) x0 x1 (ix3 h t s) = ((∑ j ∈ Ico s.val 8448, -(A.keep t.val j) : ℝ) : EReal) := by
  have hk := keep_apply H t
  have h0 : val_main_call3_v0 (F := Ideal) (Shape.Idx.first h_S_) = (0 : EReal) := by
    rw [val_main_call3_v0_apply, val_main_call3_cst_apply]; exact F0_eq
  unfold val_main_v15
  generalize val_main_v13_0 (F := Ideal) x0 x1 = y at hk ⊢
  exact Window.host_suffix (by norm_num) y _ (fun j => -(A.keep t.val j)) h t hk _ _ h0 s

/-- A weight's logarithm, at every position. -/
def lw (A : Arr) (t s : ℕ) : ℝ := -sp (-(A.z t s)) + -(∑ j ∈ Ico s 8448, A.keep t j) + A.keep t s

theorem exp_apply (H : Is x0 x1 x2 x3 A h) (t s : Fin 8448) : val_main_v18 (F := Ideal) x0 x1 (ix3 h t s) = ((Real.exp (lw A t.val s.val) : ℝ) : EReal) := by
  rw [val_main_v18_apply, val_main_v17_apply, val_main_v16_apply, val_main_v14_0_apply, keeps_apply H, keep_apply H, sp2_apply H]
  show Ideal.exp (-((sp (-(A.z t.val s.val)) : ℝ) : EReal) + ((_ : ℝ) : EReal) - ((_ : ℝ) : EReal)) = _
  rw [← EReal.coe_neg, ← EReal.coe_add, ← EReal.coe_sub, Ideal.exp_coe, lw, Finset.sum_neg_distrib, sub_neg_eq_add]

theorem exp_lw {t s : ℕ} (hst : s < t) : Real.exp (lw A t s) = A.wt t s := by
  rw [lw, A.log_wt hst, Arr.wt, if_pos hst]

theorem mask_sel' {X Y : Ideal .f32} (t s : Fin 8448) :
    Scalar.select (val_main_v19_1 (F := Ideal) (ix3 h t s)) X Y = if s.val < t.val then X else Y := mask_sel t s

theorem wt_apply (H : Is x0 x1 x2 x3 A h) (t s : Fin 8448) : val_main_v19_0 (F := Ideal) x0 x1 (ix3 h t s) = ((A.wt t.val s.val : ℝ) : EReal) := by
  rw [val_main_v19_0_apply, mask_sel', exp_apply H]
  split
  · next hst => rw [exp_lw hst]
  · next hst =>
    rw [A.wt_of_le (by omega), val_main_call4_v2_apply, val_main_call4_v0_apply, val_main_cst_0_apply]
    exact F0_eq

theorem gw_apply (H : Is x0 x1 x2 x3 A h) (t s : Fin 8448) : val_main_v25 (F := Ideal) x0 x1 x2 x3 (ix3 h t s) = ((A.gw t.val s.val : ℝ) : EReal) := by
  rw [val_main_v25_apply, val_main_v24_apply, mask_sel', exp_apply H, dp_apply H]
  split
  · next hst =>
    rw [exp_lw hst, Arr.gw, mul_comm, EReal.coe_mul]
    rfl
  · next hst =>
    rw [A.gw_of_le (by omega), val_main_call5_v0_apply, val_main_call5_cst_apply]
    show F0 * ((_ : ℝ) : EReal) = _
    rw [F0_eq, zero_mul]
    rfl

theorem gws_apply (H : Is x0 x1 x2 x3 A h) (t s : Fin 8448) :
    val_main_v27 (F := Ideal) x0 x1 x2 x3 (ix3 h t s) = ((∑ j ∈ range (s.val + 1), A.gw t.val j : ℝ) : EReal) := by
  have hk := gw_apply H t
  have h0 : val_main_call6_v0 (F := Ideal) (Shape.Idx.first h_S_) = (0 : EReal) := by
    rw [val_main_call6_v0_apply, val_main_call6_cst_apply]; exact F0_eq
  unfold val_main_v27
  generalize val_main_v25 (F := Ideal) x0 x1 x2 x3 = y at hk ⊢
  exact Window.host_prefix (by norm_num) y _ (fun j => A.gw t.val j) h t hk _ _ h0 s

/-! ## The scores' gradient and the three products -/

theorem later_apply (H : Is x0 x1 x2 x3 A h) (t s : Fin 8448) : val_main_v30 (F := Ideal) x0 x1 x2 x3 (ix3 h t s)
    = ((if s.val < t.val then (∑ j ∈ range (s.val + 1), A.gw t.val j) - A.gw t.val s.val else 0 : ℝ) : EReal) := by
  rw [val_main_v30_apply, mask_sel, val_main_v28_apply, val_main_v26_apply, gws_apply H, gw_apply H]
  split
  · show -((_ : ℝ) : EReal) + ((_ : ℝ) : EReal) = _
    rw [← EReal.coe_neg, ← EReal.coe_add, neg_add_eq_sub]
  · rw [val_main_call8_v0_apply, val_main_call8_cst_apply]
    exact F0_eq

theorem dz_apply (H : Is x0 x1 x2 x3 A h) (t s : Fin 8448) : val_main_v33 (F := Ideal) x0 x1 x2 x3 (ix3 h t s) = ((A.dz t.val s.val : ℝ) : EReal) := by
  rw [val_main_v33_apply, val_main_v29_apply, val_main_call7_v1_apply, val_main_call7_v0_apply, val_main_v32_apply, val_main_v31_apply, val_main_call9_v1_apply,
    val_main_call9_v0_apply, gw_apply H, sg2_apply H, later_apply H, sg0_apply H, A.dz_eq]
  generalize (if s.val < t.val then (∑ j ∈ range (s.val + 1), A.gw t.val j) - A.gw t.val s.val else 0 : ℝ) = l
  show -(-((_ : ℝ) : EReal) * ((_ : ℝ) : EReal)) + -(-(-((_ : ℝ) : EReal) * ((_ : ℝ) : EReal))) = _
  simp only [← EReal.coe_neg, ← EReal.coe_mul, ← EReal.coe_add]
  congr 1
  ring

theorem sum_rows (f : ℕ → ℝ) : ((∑ j ∈ range 8448, f j : ℝ) : EReal) = ∑ j : Fin 8448, ((f j.val : ℝ) : EReal) := by
  rw [← Fin.sum_univ_eq_sum_range, coe_sum univ]

theorem dq_apply (H : Is x0 x1 x2 x3 A h) (t : Fin 8448) (e : Fin 64) : val_main_v35 (F := Ideal) x0 x1 x2 x3 (ix3 h t e) = ((A.dq t.val e : ℝ) : EReal) := by
  rw [val_main_v35_apply, Arr.dq, sum_rows]
  refine Finset.sum_congr rfl fun s _ => ?_
  rw [idx3 (lidx_main_v35 (ix3 h t e) s) h t s rfl rfl rfl, idx3 (ridx_main_v35 (ix3 h t e) s) h s e rfl rfl rfl, EReal.coe_mul, dz_apply H]
  exact congrArg (fun b : EReal => ((A.dz t.val s.val : ℝ) : EReal) * b) (H.k s e)

theorem dk_apply (H : Is x0 x1 x2 x3 A h) (s : Fin 8448) (e : Fin 64) : val_main_v34 (F := Ideal) x0 x1 x2 x3 (ix3 h s e) = ((A.dk s.val e : ℝ) : EReal) := by
  rw [val_main_v34_apply, Arr.dk, sum_rows]
  refine Finset.sum_congr rfl fun t _ => ?_
  rw [idx3 (lidx_main_v34 (ix3 h s e) t) h t s rfl rfl rfl, idx3 (ridx_main_v34 (ix3 h s e) t) h t e rfl rfl rfl, EReal.coe_mul, dz_apply H]
  exact congrArg (fun b : EReal => ((A.dz t.val s.val : ℝ) : EReal) * b) (H.q t e)

theorem dv_apply (H : Is x0 x1 x2 x3 A h) (s : Fin 8448) (e : Fin 64) : val_main_v22 (F := Ideal) x0 x1 x3 (ix3 h s e) = ((A.dv s.val e : ℝ) : EReal) := by
  rw [val_main_v22_apply, idx3 (idx_main_v22 (ix3 h s e)) h e s rfl rfl rfl, val_main_v21_apply, Arr.dv, sum_rows]
  refine Finset.sum_congr rfl fun t _ => ?_
  rw [idx3 (lidx_main_v21 (ix3 h e s) t) h t e rfl rfl rfl, idx3 (ridx_main_v21 (ix3 h e s) t) h t s rfl rfl rfl, mul_comm (A.wt _ _), EReal.coe_mul, wt_apply H]
  exact congrArg (fun b : EReal => b * ((A.wt t.val s.val : ℝ) : EReal)) (H.d t e)

end Cert.ReferenceIdeal.RefValue
-- ==== Proof.Algebraic.lean ====
module

public import proofs.«01_k».proof.Defs
public import proofs.«01_k».proof.Proof.Arrays
public import proofs.«01_k».proof.Proof.RefValue
public import proofs.«01_k».proof.Proof.Gen.ReferenceIdeal.Run

/-! The kernel's three results are the reference's, where the arguments hold no infinity. -/

@[expose] public section

set_option maxRecDepth 16384
set_option maxHeartbeats 1000000
noncomputable section

namespace Cert.Algebraic

open Idealize.ShloMosaic Idealize.ShloMosaic.TcCoe Idealize.SL.Sem Cert.Model

/-- The side conditions of the precondition. -/
theorem preFacts : Cert.Pre_finite.Facts where
  bitsLt_bf16_f32 := by decide
  bcast_S_S16x8448x64 := by decide

/-! ## The precondition, read -/

theorem both {x y : BitVec 1} (h : IntOp.andi x y = 1#1) : x = 1#1 ∧ y = 1#1 := by
  revert x y; decide

theorem real_of_lt {x : Ideal .f32} (h : FloatOps.cmpf (F := Ideal) (φ := .f32) .olt (FloatOps.hostAbsf x) (FloatOps.ofBits .f32 0x7F800000#32) = 1#1) :
    ∃ r : ℝ, x = ((r : ℝ) : EReal) := by
  have h1 : Ideal.cmp .olt (max (x : EReal) (-(x : EReal))) ReferenceIdeal.RefValue.Finf = 1#1 := h
  rw [ReferenceIdeal.RefValue.Finf_eq] at h1
  have h2 : max (x : EReal) (-(x : EReal)) < ⊤ := by
    by_contra hn
    simp [Ideal.cmp, hn] at h1
  obtain ⟨h3, h4⟩ := max_lt_iff.mp h2
  refine ⟨EReal.toReal x, (EReal.coe_toReal h3.ne ?_).symm⟩
  rintro hb
  rw [hb] at h4
  simp at h4

local instance : Cert.Pre_finite.Facts := preFacts

theorem finite_of {m : (ℓ : Loc KernelIdeal.nD KernelIdeal.τ KernelIdeal.sig) → Buf (Elt Ideal) ℓ} (h : Cert.Pre_KernelIdeal_finite m)
    (c : Dev KernelIdeal.nD) : KernelIdeal.Inputs.Finite m c := by
  have hc := h c
  have hi : ∀ i : Pre_finite.S16x8448x64.Idx, _ := fun i => congrFun hc i
  have hr : ∀ i : Pre_finite.S16x8448x64.Idx,
      ((FloatOps.cmpf (F := Ideal) (φ := .f32) .olt (FloatOps.hostAbsf (KernelIdeal.Inputs.argQ m c i)) (FloatOps.ofBits .f32 0x7F800000#32) = 1#1
        ∧ FloatOps.cmpf (F := Ideal) (φ := .f32) .olt (FloatOps.hostAbsf (KernelIdeal.Inputs.argK m c i)) (FloatOps.ofBits .f32 0x7F800000#32) = 1#1)
        ∧ FloatOps.cmpf (F := Ideal) (φ := .f32) .olt (FloatOps.hostAbsf (KernelIdeal.Inputs.argV m c i)) (FloatOps.ofBits .f32 0x7F800000#32) = 1#1)
        ∧ FloatOps.cmpf (F := Ideal) (φ := .f32) .olt (FloatOps.hostAbsf (KernelIdeal.Inputs.argD m c i)) (FloatOps.ofBits .f32 0x7F800000#32) = 1#1 := by
    intro i
    obtain ⟨h1, hd⟩ := both (hi i)
    obtain ⟨h2, hv⟩ := both h1
    obtain ⟨hq, hk⟩ := both h2
    exact ⟨⟨⟨hq, hk⟩, hv⟩, hd⟩
  exact ⟨fun a b e => real_of_lt (hr (ix3 a b e)).1.1.1, fun a b e => real_of_lt (hr (ix3 a b e)).1.1.2,
    fun a b e => real_of_lt (hr (ix3 a b e)).1.2, fun a b e => real_of_lt (hr (ix3 a b e)).2⟩

/-! ## The reference's results -/

section
variable {m : (ℓ : Loc KernelIdeal.nD KernelIdeal.τ KernelIdeal.sig) → Buf (Elt Ideal) ℓ} {c : Dev KernelIdeal.nD}

theorem is_model (hf : KernelIdeal.Inputs.Finite m c) (h : Fin 16) :
    ReferenceIdeal.RefValue.Is (KernelIdeal.Inputs.argQ m c) (KernelIdeal.Inputs.argK m c) (KernelIdeal.Inputs.argV m c) (KernelIdeal.Inputs.argD m c)
      (KernelIdeal.Inputs.mdl m c h) h :=
  ⟨fun t e => KernelIdeal.Carry.rowsOf_coe hf.q h t e, fun t e => KernelIdeal.Carry.rowsOf_coe hf.k h t e,
    fun t e => KernelIdeal.Carry.rowsOf_coe hf.v h t e, fun t e => KernelIdeal.Carry.rowsOf_coe hf.d h t e⟩

theorem ref_dq (hf : KernelIdeal.Inputs.Finite m c) : ReferenceIdeal.Read.val_main_v35 (F := Ideal) (KernelIdeal.Inputs.argQ m c) (KernelIdeal.Inputs.argK m c)
    (KernelIdeal.Inputs.argV m c) (KernelIdeal.Inputs.argD m c) = KernelIdeal.Arrays.G5 m c := by
  funext i
  obtain ⟨a, b, e, rfl⟩ : ∃ (a : Fin 16) (b : Fin 8448) (e : Fin 64), i = ix3 a b e := ⟨i 0, i 1, i 2, ReferenceIdeal.RefValue.idx3 i _ _ _ rfl rfl rfl⟩
  exact ReferenceIdeal.RefValue.dq_apply (is_model hf a) b e

theorem ref_dk (hf : KernelIdeal.Inputs.Finite m c) : ReferenceIdeal.Read.val_main_v34 (F := Ideal) (KernelIdeal.Inputs.argQ m c) (KernelIdeal.Inputs.argK m c)
    (KernelIdeal.Inputs.argV m c) (KernelIdeal.Inputs.argD m c) = KernelIdeal.Arrays.G6 m c := by
  funext i
  obtain ⟨a, b, e, rfl⟩ : ∃ (a : Fin 16) (b : Fin 8448) (e : Fin 64), i = ix3 a b e := ⟨i 0, i 1, i 2, ReferenceIdeal.RefValue.idx3 i _ _ _ rfl rfl rfl⟩
  exact ReferenceIdeal.RefValue.dk_apply (is_model hf a) b e

theorem ref_dv (hf : KernelIdeal.Inputs.Finite m c) : ReferenceIdeal.Read.val_main_v22 (F := Ideal) (KernelIdeal.Inputs.argQ m c) (KernelIdeal.Inputs.argK m c)
    (KernelIdeal.Inputs.argD m c) = KernelIdeal.Arrays.G7 m c := by
  funext i
  obtain ⟨a, b, e, rfl⟩ : ∃ (a : Fin 16) (b : Fin 8448) (e : Fin 64), i = ix3 a b e := ⟨i 0, i 1, i 2, ReferenceIdeal.RefValue.idx3 i _ _ _ rfl rfl rfl⟩
  exact ReferenceIdeal.RefValue.dv_apply (is_model hf a) b e

end

/-! ## The two programs -/

theorem algebraic : Cert.algebraic_KernelIdeal_ReferenceIdeal_pre_finite := by
  intro m g m' g' hp ha
  have hf := finite_of hp
  refine ⟨KernelIdeal.Arrays.G5 m, KernelIdeal.Arrays.G6 m, KernelIdeal.Arrays.G7 m, ?_, ?_⟩
  · refine (θ_run _ _ _).mono (fun r h c => ?_) (KernelIdeal.Run.run (F := Ideal) m g)
    exact ⟨((h.1 c).1 5).trans (KernelIdeal.Arrays.arr5 m (hf c)), ((h.1 c).1 6).trans (KernelIdeal.Arrays.arr6 m (hf c)),
      ((h.1 c).1 7).trans (KernelIdeal.Arrays.arr7 m (hf c)), KernelIdeal.Run.args_of m h.1 c⟩
  · refine (θ_run _ _ _).mono (fun r h c => ?_) (ReferenceIdeal.Value.run (F := Ideal) m' g')
    obtain ⟨h0, h1, h2, h3⟩ := h c
    obtain ⟨a0, a1, a2, a3⟩ := ha c
    refine ⟨h0.trans ?_, h1.trans ?_, h2.trans ?_, h3⟩
    · rw [ReferenceIdeal.Read.val_main_v35_eq, a0, a1, a2, a3]; exact ref_dq (hf c)
    · rw [ReferenceIdeal.Read.val_main_v34_eq, a0, a1, a2, a3]; exact ref_dk (hf c)
    · rw [ReferenceIdeal.Read.val_main_v22_eq, a0, a1, a3]; exact ref_dv (hf c)

/-- The frames hold under the precondition too. -/
theorem frames (hk : Cert.quiescent_KernelIdeal) (hr : Cert.quiescent_ReferenceIdeal) :
    Cert.quiescent_KernelIdeal_pre_finite ∧ Cert.quiescent_ReferenceIdeal_pre_finite :=
  ⟨fun m g _ => hk m g trivial, fun m g _ => hr m g trivial⟩

end Cert.Algebraic
-- ==== Proof.Blocked.lean ====
module

public import Idealize.ShloMosaic.Lib.Pointwise

/-! An array of two axes read at any two numbers, and a sum taken block by block. -/

@[expose] public section

noncomputable section

namespace Cert.Blocked

open Idealize.ShloMosaic Finset

/-- An array's value at a row and a column, zero outside the array. -/
def at2 {m n : ℕ} (A : (⟨2, ![m, n]⟩ : Shape).Idx → EReal) (i j : ℕ) : EReal :=
  if h : i < m ∧ j < n then A (ix2 ⟨i, h.1⟩ ⟨j, h.2⟩) else 0

theorem at2_ix {m n : ℕ} (A : (⟨2, ![m, n]⟩ : Shape).Idx → EReal) (i : Fin m) (j : Fin n) : A (ix2 i j) = at2 A i.val j.val := by
  unfold at2
  rw [dif_pos ⟨i.isLt, j.isLt⟩]

/-- The sum up to a block's end is the sum up to its start and the block's own. -/
theorem next (f : ℕ → EReal) (n w : ℕ) :
    ∑ x ∈ range (n * w), f x + ∑ x : Fin w, f (w * n + x.val) = ∑ x ∈ range ((n + 1) * w), f x := by
  rw [Nat.add_mul, Nat.one_mul, Finset.sum_range_add, Fin.sum_univ_eq_sum_range (fun x => f (w * n + x)), Nat.mul_comm w n]

/-- An index of two axes, by its coordinates. -/
theorem idx2 {m n : ℕ} (i : (⟨2, ![m, n]⟩ : Shape).Idx) : ∃ (a : Fin m) (b : Fin n), i = ix2 a b :=
  ⟨i 0, i 1, by funext a; match a with | ⟨0, _⟩ => rfl | ⟨1, _⟩ => rfl⟩

theorem idx2_val {m n : ℕ} (i : (⟨2, ![m, n]⟩ : Shape).Idx) (a b : ℕ) (ha : a < m) (hb : b < n) (h0 : (i 0).val = a) (h1 : (i 1).val = b) :
    i = ix2 ⟨a, ha⟩ ⟨b, hb⟩ := by
  funext x; match x with | ⟨0, _⟩ => exact Fin.ext h0 | ⟨1, _⟩ => exact Fin.ext h1

/-- A product with a half, of a sum. -/
theorem half_eq : (FloatOps.ofBits (F := Ideal) .f32 0x3F000000#32) = (((1 / 2 : ℝ) : ℝ) : EReal) := by
  simp [Ideal.ofBits, Ideal.ieee]
  rw [← EReal.coe_mul]
  norm_num

/-- A sum scaled by a real number that is not negative. -/
theorem scaled {ι : Type} [Fintype ι] (f : ι → EReal) {a : ℝ} (h : 0 ≤ a) : (∑ x, f x) * ((a : ℝ) : EReal) = ∑ x, f x * ((a : ℝ) : EReal) := by
  classical
  induction (Finset.univ : Finset ι) using Finset.induction_on with
  | empty => simp
  | insert x s hx ih => rw [Finset.sum_insert hx, Finset.sum_insert hx, ← ih, EReal.right_distrib_of_nonneg_of_ne_top (EReal.coe_nonneg.mpr h) (EReal.coe_ne_top a)]

end Cert.Blocked
-- ==== Proof.Silu.lean ====
module

public import proofs.«01_k».proof.Defs
public import proofs.«01_k».proof.Proof.Algebraic
public import proofs.«01_k».proof.Proof.Blocked
public import Idealize.ShloMosaic.Lib.ReduceAll

/-! The gate of the feed-forward network and its derivatives at one number: as the kernels write them, as the references do, and over the reals.
The preconditions of the two programs that use the gate are read here too. -/

@[expose] public section

set_option maxRecDepth 16384
noncomputable section

namespace Cert.Silu

open Idealize.ShloMosaic

/-- One, as the programs write it, -/
abbrev c1 : Ideal .f32 := FloatOps.ofBits .f32 0x3F800000#32
/-- and zero. -/
abbrev c0 : Ideal .f32 := FloatOps.ofBits .f32 0x00000000#32

theorem c1_eq : c1 = ((1 : ℝ) : EReal) := by
  simp [c1, Ideal.ofBits, Ideal.ieee]
  rw [← EReal.coe_mul]
  norm_num

theorem c0_eq : c0 = (0 : EReal) := Ideal.ofBits_zero_f32

/-! ## The kernels' expressions -/

def ks (a : Ideal .f32) : Ideal .f32 := Ideal.div c1 ((c1 : EReal) + Ideal.exp ((c0 : EReal) - (a : EReal)))
def kda (a b : Ideal .f32) : Ideal .f32 := ((b : EReal) * ks a : EReal) * ((c1 : EReal) + (a : EReal) * ((c1 : EReal) - ks a))
def kdb (a : Ideal .f32) : Ideal .f32 := (a : EReal) * ks a
def kout (a b : Ideal .f32) : Ideal .f32 := ((a : EReal) * ks a : EReal) * (b : EReal)

/-! ## The references' -/

def rs (a : Ideal .f32) : Ideal .f32 := Ideal.div c1 ((c1 : EReal) + Ideal.exp (-(a : EReal)))
/-- The gradient of the gate's argument, from the gradient `g` of the gate's result times the second factor, -/
def rda (a g : Ideal .f32) : Ideal .f32 := ((g : EReal) * rs a : EReal) + ((a : EReal) * g : EReal) * ((rs a : EReal) * ((c1 : EReal) - rs a) : EReal)
/-- and the gate's result. -/
def rg (a : Ideal .f32) : Ideal .f32 := (a : EReal) * rs a

/-! ## Over the reals -/

def sig (a : ℝ) : ℝ := 1 / (1 + Real.exp (-a))

theorem div_one_coe {y : ℝ} (hy : y ≠ 0) : Ideal.div ((1 : ℝ) : EReal) ((y : ℝ) : EReal) = ((1 / y : ℝ) : EReal) := by
  unfold Ideal.div
  rw [if_neg (by exact_mod_cast hy), ← EReal.coe_inv, ← EReal.coe_mul, one_div, one_mul]

theorem den_ne (a : ℝ) : 1 + Real.exp (-a) ≠ 0 := (add_pos one_pos (Real.exp_pos _)).ne'

theorem rs_coe (a : ℝ) : rs ((a : ℝ) : EReal) = ((sig a : ℝ) : EReal) := by
  unfold rs
  rw [c1_eq, ← EReal.coe_neg, Ideal.exp_coe, ← EReal.coe_add, div_one_coe (den_ne a), sig]

theorem ks_coe (a : ℝ) : ks ((a : ℝ) : EReal) = ((sig a : ℝ) : EReal) := by
  unfold ks
  rw [c1_eq, c0_eq, zero_sub, ← EReal.coe_neg, Ideal.exp_coe, ← EReal.coe_add, div_one_coe (den_ne a), sig]

theorem kda_coe (a b : ℝ) : kda ((a : ℝ) : EReal) ((b : ℝ) : EReal) = ((b * sig a * (1 + a * (1 - sig a)) : ℝ) : EReal) := by
  unfold kda
  rw [ks_coe, c1_eq, ← EReal.coe_mul, ← EReal.coe_sub, ← EReal.coe_mul, ← EReal.coe_add, ← EReal.coe_mul]

theorem rda_coe (a g : ℝ) : rda ((a : ℝ) : EReal) ((g : ℝ) : EReal) = ((g * sig a * (1 + a * (1 - sig a)) : ℝ) : EReal) := by
  unfold rda
  rw [rs_coe, c1_eq, ← EReal.coe_mul, ← EReal.coe_sub, ← EReal.coe_mul, ← EReal.coe_mul, ← EReal.coe_mul, ← EReal.coe_add]
  congr 1
  ring

/-- A sum of products of reals is real. -/
theorem sum_coe {ι : Type} [Fintype ι] (x y : ι → EReal) (hx : ∀ k, ∃ r : ℝ, x k = ((r : ℝ) : EReal)) (hy : ∀ k, ∃ r : ℝ, y k = ((r : ℝ) : EReal)) :
    ∃ r : ℝ, ∑ k, x k * y k = ((r : ℝ) : EReal) := by
  choose u hu using hx
  choose v hv using hy
  refine ⟨∑ k, u k * v k, ?_⟩
  have coe_sum (f : ι → ℝ) : ((∑ k, f k : ℝ) : EReal) = ∑ k, ((f k : ℝ) : EReal) := by
    classical
    induction (Finset.univ : Finset ι) using Finset.induction_on with
    | empty => simp
    | insert x s hx ih => rw [Finset.sum_insert hx, Finset.sum_insert hx, EReal.coe_add, ih]
  rw [coe_sum]
  refine Finset.sum_congr rfl fun k _ => ?_
  rw [hu, hv, EReal.coe_mul]

/-! ## The preconditions -/

/-- Every element is a real number. -/
def Reals {s : Shape} (x : s.Idx → EReal) : Prop := ∀ i, ∃ r : ℝ, x i = ((r : ℝ) : EReal)

theorem upFacts : Cert.Pre_finite_up.Facts where
  bitsLt_bf16_f32 := by decide
  bcast_S_S8448x1024 := by decide
  reducesTo_S8448x1024_S_d0_1 := by decide
  h_S_ := by decide
  bcast_S_S1024x2816 := by decide
  reducesTo_S1024x2816_S_d0_1 := by decide

theorem midFacts : Cert.Pre_finite_mid.Facts where
  bcast_S_S8448x2816 := by decide
  reducesTo_S8448x2816_S_d0_1 := by decide
  h_S_ := by decide
  bitsLt_bf16_f32 := by decide
  bcast_S_S2816x1024 := by decide
  reducesTo_S2816x1024_S_d0_1 := by decide
  bcast_S_S8448x1024 := by decide
  reducesTo_S8448x1024_S_d0_1 := by decide

instance one_index : Subsingleton (⟨0, ![]⟩ : Shape).Idx := ⟨fun a b => funext fun x => x.elim0⟩

open Cert.Algebraic

section
local instance : Cert.Pre_finite_up.Facts := upFacts

theorem reals_up {x0 : FVec Ideal Pre_finite_up.S8448x1024 .bf16} {x1 x2 : FVec Ideal Pre_finite_up.S1024x2816 .bf16}
    (h : Pre_finite_up.fn (F := Ideal) x0 x1 x2 = fun _ => 1#1) : Reals x0 ∧ Reals x1 ∧ Reals x2 := by
  have h0 := congrFun h (fun a => a.elim0)
  obtain ⟨h1, h2⟩ := both h0
  obtain ⟨h3, h4⟩ := both h1
  exact ⟨fun i => real_of_lt (Host.reduce_andi_all _ _ _ _ _ h3 i), fun i => real_of_lt (Host.reduce_andi_all _ _ _ _ _ h4 i),
    fun i => real_of_lt (Host.reduce_andi_all _ _ _ _ _ h2 i)⟩
end

section
local instance : Cert.Pre_finite_mid.Facts := midFacts

theorem reals_mid {x0 x1 : FVec Ideal Pre_finite_mid.S8448x2816 .f32} {x2 : FVec Ideal Pre_finite_mid.S2816x1024 .bf16}
    {x3 : FVec Ideal Pre_finite_mid.S8448x1024 .f32}
    (h : Pre_finite_mid.fn (F := Ideal) x0 x1 x2 x3 = fun _ => 1#1) : Reals x0 ∧ Reals x1 ∧ Reals x2 ∧ Reals x3 := by
  have h0 := congrFun h (fun a => a.elim0)
  obtain ⟨h1, h2⟩ := both h0
  obtain ⟨h3, h4⟩ := both h1
  obtain ⟨h5, h6⟩ := both h3
  exact ⟨fun i => real_of_lt (Host.reduce_andi_all _ _ _ _ _ h5 i), fun i => real_of_lt (Host.reduce_andi_all _ _ _ _ _ h6 i),
    fun i => real_of_lt (Host.reduce_andi_all _ _ _ _ _ h4 i), fun i => real_of_lt (Host.reduce_andi_all _ _ _ _ _ h2 i)⟩
end

end Cert.Silu
-- ==== Proof.Calls.lean ====
module

public import proofs.«01_k».proof.Defs
public import proofs.«01_k».proof.Proof.Gen.Up.Frame
public import proofs.«01_k».proof.Proof.Gen.UpIdeal.Frame
public import proofs.«01_k».proof.Proof.Gen.UpRefIdeal.Run
public import proofs.«01_k».proof.Proof.Gen.Mid.Frame
public import proofs.«01_k».proof.Proof.Gen.MidIdeal.Frame
public import proofs.«01_k».proof.Proof.Gen.MidRefIdeal.Run
public import proofs.«01_k».proof.Proof.Gen.Dwb.Frame
public import proofs.«01_k».proof.Proof.Gen.DwbIdeal.Frame
public import proofs.«01_k».proof.Proof.Gen.DwbRefIdeal.Run
public import proofs.«01_k».proof.Proof.Gen.Dn.Frame
public import proofs.«01_k».proof.Proof.Gen.DnIdeal.Frame
public import proofs.«01_k».proof.Proof.Gen.DnRefIdeal.Run
public import proofs.«01_k».proof.Proof.Gen.Dwa.Frame
public import proofs.«01_k».proof.Proof.Gen.DwaIdeal.Frame
public import proofs.«01_k».proof.Proof.Gen.DwaRefIdeal.Run
public import proofs.«01_k».proof.Proof.Gen.Down.Frame
public import proofs.«01_k».proof.Proof.Gen.DownIdeal.Frame
public import proofs.«01_k».proof.Proof.Gen.DownRefIdeal.Run
public import proofs.«01_k».proof.Proof.Gen.Zx.Frame
public import proofs.«01_k».proof.Proof.Gen.ZxIdeal.Frame
public import proofs.«01_k».proof.Proof.Gen.ZxRefIdeal.Run
public import proofs.«01_k».proof.Proof.Gen.Dwz.Frame
public import proofs.«01_k».proof.Proof.Gen.DwzIdeal.Frame
public import proofs.«01_k».proof.Proof.Gen.DwzRefIdeal.Run
public import proofs.«01_k».proof.Proof.Gen.Dwx.Frame
public import proofs.«01_k».proof.Proof.Gen.DwxIdeal.Frame
public import proofs.«01_k».proof.Proof.Gen.DwxRefIdeal.Run
public import proofs.«01_k».proof.Proof.Gen.Duz.Frame
public import proofs.«01_k».proof.Proof.Gen.DuzIdeal.Frame
public import proofs.«01_k».proof.Proof.Gen.DuzRefIdeal.Run
public import proofs.«01_k».proof.Proof.Gen.Dux.Frame
public import proofs.«01_k».proof.Proof.Gen.DuxIdeal.Frame
public import proofs.«01_k».proof.Proof.Gen.DuxRefIdeal.Run
public import proofs.«01_k».proof.Proof.Gen.So.Frame
public import proofs.«01_k».proof.Proof.Gen.SoIdeal.Frame
public import proofs.«01_k».proof.Proof.Gen.SoRefIdeal.Run
public import proofs.«01_k».proof.Proof.Gen.Dwo.Frame
public import proofs.«01_k».proof.Proof.Gen.DwoIdeal.Frame
public import proofs.«01_k».proof.Proof.Gen.DwoRefIdeal.Run
public import proofs.«01_k».proof.Proof.Gen.Dy.Frame
public import proofs.«01_k».proof.Proof.Gen.DyIdeal.Frame
public import proofs.«01_k».proof.Proof.Gen.DyRefIdeal.Run
public import proofs.«01_k».proof.Proof.Gen.Qp.Frame
public import proofs.«01_k».proof.Proof.Gen.QpIdeal.Frame
public import proofs.«01_k».proof.Proof.Gen.QpRefIdeal.Run
public import proofs.«01_k».proof.Proof.Gen.Vp.Frame
public import proofs.«01_k».proof.Proof.Gen.VpIdeal.Frame
public import proofs.«01_k».proof.Proof.Gen.VpRefIdeal.Run
public import proofs.«01_k».proof.Proof.Gen.Do.Frame
public import proofs.«01_k».proof.Proof.Gen.DoIdeal.Frame
public import proofs.«01_k».proof.Proof.Gen.DoRefIdeal.Run
public import proofs.«01_k».proof.Proof.Gen.Ao.Frame
public import proofs.«01_k».proof.Proof.Gen.AoIdeal.Frame
public import proofs.«01_k».proof.Proof.Gen.AoRefIdeal.Run
public import proofs.«01_k».proof.Proof.Gen.Dwp.Frame
public import proofs.«01_k».proof.Proof.Gen.DwpIdeal.Frame
public import proofs.«01_k».proof.Proof.Gen.DwpRefIdeal.Run
public import proofs.«01_k».proof.Proof.Gen.Dwq.Frame
public import proofs.«01_k».proof.Proof.Gen.DwqIdeal.Frame
public import proofs.«01_k».proof.Proof.Gen.DwqRefIdeal.Run
public import proofs.«01_k».proof.Proof.Gen.Duq.Frame
public import proofs.«01_k».proof.Proof.Gen.DuqIdeal.Frame
public import proofs.«01_k».proof.Proof.Gen.DuqRefIdeal.Run
public import proofs.«01_k».proof.Proof.Gen.Dkv.Frame
public import proofs.«01_k».proof.Proof.Gen.DkvIdeal.Frame
public import proofs.«01_k».proof.Proof.Gen.DkvRefIdeal.Run
public import proofs.«01_k».proof.Proof.Silu

/-! The programs of the products run and leave their arguments as they were. -/

@[expose] public section

set_option maxRecDepth 16384
noncomputable section

namespace Cert.Calls

open Idealize.ShloMosaic Idealize.ShloMosaic.TcCoe Idealize.SL.Sem

local instance : Cert.Pre_finite_up.Facts := Silu.upFacts
local instance : Cert.Pre_finite_mid.Facts := Silu.midFacts

theorem up : Cert.quiescent_Up := fun m g _ => Up.Gen.frame (F := Bits) m g

theorem upIdeal : Cert.quiescent_UpIdeal := fun m g _ => UpIdeal.Gen.frame (F := Ideal) m g

theorem upRef_sem (x : GSem UpRefIdeal.nD UpRefIdeal.τ UpRefIdeal.sig) : False := by
  obtain ⟨_, s⟩ := x
  cases s with
  | reg s => exact s.elim0
  | dma s => exact s.elim0

theorem upRef : Cert.quiescent_UpRefIdeal := fun m g _ =>
  (θ_run _ _ _).mono (fun _ h => ⟨fun c => (h c).2.2.2, funext fun x => (upRef_sem x).elim⟩) (UpRefIdeal.Value.run (F := Ideal) m g)

theorem up_pre : Cert.quiescent_UpIdeal_pre_finite_up := fun m g _ => upIdeal m g trivial

theorem upRef_pre : Cert.quiescent_UpRefIdeal_pre_finite_up := fun m g _ => upRef m g trivial

theorem mid : Cert.quiescent_Mid := fun m g _ => Mid.Gen.frame (F := Bits) m g

theorem midIdeal : Cert.quiescent_MidIdeal := fun m g _ => MidIdeal.Gen.frame (F := Ideal) m g

theorem midRef_sem (x : GSem MidRefIdeal.nD MidRefIdeal.τ MidRefIdeal.sig) : False := by
  obtain ⟨_, s⟩ := x
  cases s with
  | reg s => exact s.elim0
  | dma s => exact s.elim0

theorem midRef : Cert.quiescent_MidRefIdeal := fun m g _ =>
  (θ_run _ _ _).mono (fun _ h => ⟨fun c => (h c).2.2, funext fun x => (midRef_sem x).elim⟩) (MidRefIdeal.Value.run (F := Ideal) m g)

theorem mid_pre : Cert.quiescent_MidIdeal_pre_finite_mid := fun m g _ => midIdeal m g trivial

theorem midRef_pre : Cert.quiescent_MidRefIdeal_pre_finite_mid := fun m g _ => midRef m g trivial

theorem dwb : Cert.quiescent_Dwb := fun m g _ => Dwb.Gen.frame (F := Bits) m g

theorem dwbIdeal : Cert.quiescent_DwbIdeal := fun m g _ => DwbIdeal.Gen.frame (F := Ideal) m g

theorem dwbRef_sem (x : GSem DwbRefIdeal.nD DwbRefIdeal.τ DwbRefIdeal.sig) : False := by
  obtain ⟨_, s⟩ := x
  cases s with
  | reg s => exact s.elim0
  | dma s => exact s.elim0

theorem dwbRef : Cert.quiescent_DwbRefIdeal := fun m g _ =>
  (θ_run _ _ _).mono (fun _ h => ⟨fun c => (h c).2, funext fun x => (dwbRef_sem x).elim⟩) (DwbRefIdeal.Value.run (F := Ideal) m g)

theorem dn : Cert.quiescent_Dn := fun m g _ => Dn.Gen.frame (F := Bits) m g

theorem dnIdeal : Cert.quiescent_DnIdeal := fun m g _ => DnIdeal.Gen.frame (F := Ideal) m g

theorem dnRef_sem (x : GSem DnRefIdeal.nD DnRefIdeal.τ DnRefIdeal.sig) : False := by
  obtain ⟨_, s⟩ := x
  cases s with
  | reg s => exact s.elim0
  | dma s => exact s.elim0

theorem dnRef : Cert.quiescent_DnRefIdeal := fun m g _ =>
  (θ_run _ _ _).mono (fun _ h => ⟨fun c => (h c).2, funext fun x => (dnRef_sem x).elim⟩) (DnRefIdeal.Value.run (F := Ideal) m g)

theorem dwa : Cert.quiescent_Dwa := fun m g _ => Dwa.Gen.frame (F := Bits) m g

theorem dwaIdeal : Cert.quiescent_DwaIdeal := fun m g _ => DwaIdeal.Gen.frame (F := Ideal) m g

theorem dwaRef_sem (x : GSem DwaRefIdeal.nD DwaRefIdeal.τ DwaRefIdeal.sig) : False := by
  obtain ⟨_, s⟩ := x
  cases s with
  | reg s => exact s.elim0
  | dma s => exact s.elim0

theorem dwaRef : Cert.quiescent_DwaRefIdeal := fun m g _ =>
  (θ_run _ _ _).mono (fun _ h => ⟨fun c => (h c).2, funext fun x => (dwaRef_sem x).elim⟩) (DwaRefIdeal.Value.run (F := Ideal) m g)

theorem down : Cert.quiescent_Down := fun m g _ => Down.Gen.frame (F := Bits) m g

theorem downIdeal : Cert.quiescent_DownIdeal := fun m g _ => DownIdeal.Gen.frame (F := Ideal) m g

theorem downRef_sem (x : GSem DownRefIdeal.nD DownRefIdeal.τ DownRefIdeal.sig) : False := by
  obtain ⟨_, s⟩ := x
  cases s with
  | reg s => exact s.elim0
  | dma s => exact s.elim0

theorem downRef : Cert.quiescent_DownRefIdeal := fun m g _ =>
  (θ_run _ _ _).mono (fun _ h => ⟨fun c => (h c).2, funext fun x => (downRef_sem x).elim⟩) (DownRefIdeal.Value.run (F := Ideal) m g)

theorem zx : Cert.quiescent_Zx := fun m g _ => Zx.Gen.frame (F := Bits) m g

theorem zxIdeal : Cert.quiescent_ZxIdeal := fun m g _ => ZxIdeal.Gen.frame (F := Ideal) m g

theorem zxRef_sem (x : GSem ZxRefIdeal.nD ZxRefIdeal.τ ZxRefIdeal.sig) : False := by
  obtain ⟨_, s⟩ := x
  cases s with
  | reg s => exact s.elim0
  | dma s => exact s.elim0

theorem zxRef : Cert.quiescent_ZxRefIdeal := fun m g _ =>
  (θ_run _ _ _).mono (fun _ h => ⟨fun c => (h c).2, funext fun x => (zxRef_sem x).elim⟩) (ZxRefIdeal.Value.run (F := Ideal) m g)

theorem dwz : Cert.quiescent_Dwz := fun m g _ => Dwz.Gen.frame (F := Bits) m g

theorem dwzIdeal : Cert.quiescent_DwzIdeal := fun m g _ => DwzIdeal.Gen.frame (F := Ideal) m g

theorem dwzRef_sem (x : GSem DwzRefIdeal.nD DwzRefIdeal.τ DwzRefIdeal.sig) : False := by
  obtain ⟨_, s⟩ := x
  cases s with
  | reg s => exact s.elim0
  | dma s => exact s.elim0

theorem dwzRef : Cert.quiescent_DwzRefIdeal := fun m g _ =>
  (θ_run _ _ _).mono (fun _ h => ⟨fun c => (h c).2, funext fun x => (dwzRef_sem x).elim⟩) (DwzRefIdeal.Value.run (F := Ideal) m g)

theorem dwx : Cert.quiescent_Dwx := fun m g _ => Dwx.Gen.frame (F := Bits) m g

theorem dwxIdeal : Cert.quiescent_DwxIdeal := fun m g _ => DwxIdeal.Gen.frame (F := Ideal) m g

theorem dwxRef_sem (x : GSem DwxRefIdeal.nD DwxRefIdeal.τ DwxRefIdeal.sig) : False := by
  obtain ⟨_, s⟩ := x
  cases s with
  | reg s => exact s.elim0
  | dma s => exact s.elim0

theorem dwxRef : Cert.quiescent_DwxRefIdeal := fun m g _ =>
  (θ_run _ _ _).mono (fun _ h => ⟨fun c => (h c).2, funext fun x => (dwxRef_sem x).elim⟩) (DwxRefIdeal.Value.run (F := Ideal) m g)

theorem duz : Cert.quiescent_Duz := fun m g _ => Duz.Gen.frame (F := Bits) m g

theorem duzIdeal : Cert.quiescent_DuzIdeal := fun m g _ => DuzIdeal.Gen.frame (F := Ideal) m g

theorem duzRef_sem (x : GSem DuzRefIdeal.nD DuzRefIdeal.τ DuzRefIdeal.sig) : False := by
  obtain ⟨_, s⟩ := x
  cases s with
  | reg s => exact s.elim0
  | dma s => exact s.elim0

theorem duzRef : Cert.quiescent_DuzRefIdeal := fun m g _ =>
  (θ_run _ _ _).mono (fun _ h => ⟨fun c => (h c).2, funext fun x => (duzRef_sem x).elim⟩) (DuzRefIdeal.Value.run (F := Ideal) m g)

theorem dux : Cert.quiescent_Dux := fun m g _ => Dux.Gen.frame (F := Bits) m g

theorem duxIdeal : Cert.quiescent_DuxIdeal := fun m g _ => DuxIdeal.Gen.frame (F := Ideal) m g

theorem duxRef_sem (x : GSem DuxRefIdeal.nD DuxRefIdeal.τ DuxRefIdeal.sig) : False := by
  obtain ⟨_, s⟩ := x
  cases s with
  | reg s => exact s.elim0
  | dma s => exact s.elim0

theorem duxRef : Cert.quiescent_DuxRefIdeal := fun m g _ =>
  (θ_run _ _ _).mono (fun _ h => ⟨fun c => (h c).2, funext fun x => (duxRef_sem x).elim⟩) (DuxRefIdeal.Value.run (F := Ideal) m g)

theorem so : Cert.quiescent_So := fun m g _ => So.Gen.frame (F := Bits) m g

theorem soIdeal : Cert.quiescent_SoIdeal := fun m g _ => SoIdeal.Gen.frame (F := Ideal) m g

theorem soRef_sem (x : GSem SoRefIdeal.nD SoRefIdeal.τ SoRefIdeal.sig) : False := by
  obtain ⟨_, s⟩ := x
  cases s with
  | reg s => exact s.elim0
  | dma s => exact s.elim0

theorem soRef : Cert.quiescent_SoRefIdeal := fun m g _ =>
  (θ_run _ _ _).mono (fun _ h => ⟨fun c => (h c).2, funext fun x => (soRef_sem x).elim⟩) (SoRefIdeal.Value.run (F := Ideal) m g)

theorem dwo : Cert.quiescent_Dwo := fun m g _ => Dwo.Gen.frame (F := Bits) m g

theorem dwoIdeal : Cert.quiescent_DwoIdeal := fun m g _ => DwoIdeal.Gen.frame (F := Ideal) m g

theorem dwoRef_sem (x : GSem DwoRefIdeal.nD DwoRefIdeal.τ DwoRefIdeal.sig) : False := by
  obtain ⟨_, s⟩ := x
  cases s with
  | reg s => exact s.elim0
  | dma s => exact s.elim0

theorem dwoRef : Cert.quiescent_DwoRefIdeal := fun m g _ =>
  (θ_run _ _ _).mono (fun _ h => ⟨fun c => (h c).2, funext fun x => (dwoRef_sem x).elim⟩) (DwoRefIdeal.Value.run (F := Ideal) m g)

theorem dy : Cert.quiescent_Dy := fun m g _ => Dy.Gen.frame (F := Bits) m g

theorem dyIdeal : Cert.quiescent_DyIdeal := fun m g _ => DyIdeal.Gen.frame (F := Ideal) m g

theorem dyRef_sem (x : GSem DyRefIdeal.nD DyRefIdeal.τ DyRefIdeal.sig) : False := by
  obtain ⟨_, s⟩ := x
  cases s with
  | reg s => exact s.elim0
  | dma s => exact s.elim0

theorem dyRef : Cert.quiescent_DyRefIdeal := fun m g _ =>
  (θ_run _ _ _).mono (fun _ h => ⟨fun c => (h c).2, funext fun x => (dyRef_sem x).elim⟩) (DyRefIdeal.Value.run (F := Ideal) m g)

theorem qp : Cert.quiescent_Qp := fun m g _ => Qp.Gen.frame (F := Bits) m g

theorem qpIdeal : Cert.quiescent_QpIdeal := fun m g _ => QpIdeal.Gen.frame (F := Ideal) m g

theorem qpRef_sem (x : GSem QpRefIdeal.nD QpRefIdeal.τ QpRefIdeal.sig) : False := by
  obtain ⟨_, s⟩ := x
  cases s with
  | reg s => exact s.elim0
  | dma s => exact s.elim0

theorem qpRef : Cert.quiescent_QpRefIdeal := fun m g _ =>
  (θ_run _ _ _).mono (fun _ h => ⟨fun c => (h c).2, funext fun x => (qpRef_sem x).elim⟩) (QpRefIdeal.Value.run (F := Ideal) m g)

theorem vp : Cert.quiescent_Vp := fun m g _ => Vp.Gen.frame (F := Bits) m g

theorem vpIdeal : Cert.quiescent_VpIdeal := fun m g _ => VpIdeal.Gen.frame (F := Ideal) m g

theorem vpRef_sem (x : GSem VpRefIdeal.nD VpRefIdeal.τ VpRefIdeal.sig) : False := by
  obtain ⟨_, s⟩ := x
  cases s with
  | reg s => exact s.elim0
  | dma s => exact s.elim0

theorem vpRef : Cert.quiescent_VpRefIdeal := fun m g _ =>
  (θ_run _ _ _).mono (fun _ h => ⟨fun c => (h c).2, funext fun x => (vpRef_sem x).elim⟩) (VpRefIdeal.Value.run (F := Ideal) m g)

theorem gradO : Cert.quiescent_Do := fun m g _ => Do.Gen.frame (F := Bits) m g

theorem gradOIdeal : Cert.quiescent_DoIdeal := fun m g _ => DoIdeal.Gen.frame (F := Ideal) m g

theorem gradORef_sem (x : GSem DoRefIdeal.nD DoRefIdeal.τ DoRefIdeal.sig) : False := by
  obtain ⟨_, s⟩ := x
  cases s with
  | reg s => exact s.elim0
  | dma s => exact s.elim0

theorem gradORef : Cert.quiescent_DoRefIdeal := fun m g _ =>
  (θ_run _ _ _).mono (fun _ h => ⟨fun c => (h c).2, funext fun x => (gradORef_sem x).elim⟩) (DoRefIdeal.Value.run (F := Ideal) m g)

theorem ao : Cert.quiescent_Ao := fun m g _ => Ao.Gen.frame (F := Bits) m g

theorem aoIdeal : Cert.quiescent_AoIdeal := fun m g _ => AoIdeal.Gen.frame (F := Ideal) m g

theorem aoRef_sem (x : GSem AoRefIdeal.nD AoRefIdeal.τ AoRefIdeal.sig) : False := by
  obtain ⟨_, s⟩ := x
  cases s with
  | reg s => exact s.elim0
  | dma s => exact s.elim0

theorem aoRef : Cert.quiescent_AoRefIdeal := fun m g _ =>
  (θ_run _ _ _).mono (fun _ h => ⟨fun c => (h c).2, funext fun x => (aoRef_sem x).elim⟩) (AoRefIdeal.Value.run (F := Ideal) m g)

theorem dwp : Cert.quiescent_Dwp := fun m g _ => Dwp.Gen.frame (F := Bits) m g

theorem dwpIdeal : Cert.quiescent_DwpIdeal := fun m g _ => DwpIdeal.Gen.frame (F := Ideal) m g

theorem dwpRef_sem (x : GSem DwpRefIdeal.nD DwpRefIdeal.τ DwpRefIdeal.sig) : False := by
  obtain ⟨_, s⟩ := x
  cases s with
  | reg s => exact s.elim0
  | dma s => exact s.elim0

theorem dwpRef : Cert.quiescent_DwpRefIdeal := fun m g _ =>
  (θ_run _ _ _).mono (fun _ h => ⟨fun c => (h c).2, funext fun x => (dwpRef_sem x).elim⟩) (DwpRefIdeal.Value.run (F := Ideal) m g)

theorem dwq : Cert.quiescent_Dwq := fun m g _ => Dwq.Gen.frame (F := Bits) m g

theorem dwqIdeal : Cert.quiescent_DwqIdeal := fun m g _ => DwqIdeal.Gen.frame (F := Ideal) m g

theorem dwqRef_sem (x : GSem DwqRefIdeal.nD DwqRefIdeal.τ DwqRefIdeal.sig) : False := by
  obtain ⟨_, s⟩ := x
  cases s with
  | reg s => exact s.elim0
  | dma s => exact s.elim0

theorem dwqRef : Cert.quiescent_DwqRefIdeal := fun m g _ =>
  (θ_run _ _ _).mono (fun _ h => ⟨fun c => (h c).2, funext fun x => (dwqRef_sem x).elim⟩) (DwqRefIdeal.Value.run (F := Ideal) m g)

theorem duq : Cert.quiescent_Duq := fun m g _ => Duq.Gen.frame (F := Bits) m g

theorem duqIdeal : Cert.quiescent_DuqIdeal := fun m g _ => DuqIdeal.Gen.frame (F := Ideal) m g

theorem duqRef_sem (x : GSem DuqRefIdeal.nD DuqRefIdeal.τ DuqRefIdeal.sig) : False := by
  obtain ⟨_, s⟩ := x
  cases s with
  | reg s => exact s.elim0
  | dma s => exact s.elim0

theorem duqRef : Cert.quiescent_DuqRefIdeal := fun m g _ =>
  (θ_run _ _ _).mono (fun _ h => ⟨fun c => (h c).2, funext fun x => (duqRef_sem x).elim⟩) (DuqRefIdeal.Value.run (F := Ideal) m g)

theorem dkv : Cert.quiescent_Dkv := fun m g _ => Dkv.Gen.frame (F := Bits) m g

theorem dkvIdeal : Cert.quiescent_DkvIdeal := fun m g _ => DkvIdeal.Gen.frame (F := Ideal) m g

theorem dkvRef_sem (x : GSem DkvRefIdeal.nD DkvRefIdeal.τ DkvRefIdeal.sig) : False := by
  obtain ⟨_, s⟩ := x
  cases s with
  | reg s => exact s.elim0
  | dma s => exact s.elim0

theorem dkvRef : Cert.quiescent_DkvRefIdeal := fun m g _ =>
  (θ_run _ _ _).mono (fun _ h => ⟨fun c => (h c).2, funext fun x => (dkvRef_sem x).elim⟩) (DkvRefIdeal.Value.run (F := Ideal) m g)

end Cert.Calls
-- ==== Proof.UpValue.lean ====
module

public import proofs.«01_k».proof.Proof.Gen.UpIdeal.Value
public import proofs.«01_k».proof.Defs
public import proofs.«01_k».proof.Proof.Gen.UpRefIdeal.Run
public import proofs.«01_k».proof.Proof.Gen.UpRefIdeal.Read
public import proofs.«01_k».proof.Proof.Blocked
public import proofs.«01_k».proof.Proof.Silu
public import Idealize.ShloMosaic.Lib.Pipeline.ValueKit
public import Idealize.ShloMosaic.Lib.Pipeline.Covers

/-! The up projections, the gate and its derivatives. -/

@[expose] public section

set_option maxRecDepth 16384
set_option maxHeartbeats 1000000
noncomputable section

namespace Cert.UpIdeal.Sums

open Idealize.ShloMosaic Idealize.ShloMosaic.TcCoe Idealize.ShloMosaic.Tactic Idealize.SL.Sem Cert.UpIdeal Cert.UpIdeal.Gen Cert.Blocked Cert.Silu Finset

variable (m : (ℓ : Loc nD τ sig) → Buf (Elt Ideal) ℓ)

theorem hz : (![0, 0] : Fin 2 → Nat) = fun _ => 0 := funext fun a => by fin_cases a <;> rfl

section
variable (x : Vec Ideal S384x1024 .bf16) (y z : Vec Ideal S1024x1408 .bf16)

theorem left_apply (r : Fin 384) (s : Fin 1408) : k0_pay1 x y (ix2 r s) = (∑ k : Fin 1024, x (ix2 r k) * y (ix2 k s) : EReal) := by
  pointwise [k0_pay1]

theorem right_apply (r : Fin 384) (s : Fin 1408) : k0_pay2 x z (ix2 r s) = (∑ k : Fin 1024, x (ix2 r k) * z (ix2 k s) : EReal) := by
  pointwise [k0_pay2]

theorem out3 (i : S384x1408.Idx) : out0_3 x y z i = kda (k0_pay1 x y i) (k0_pay2 x z i) := by
  unfold out0_3
  rw [View.canon_unit_zero (S := S384x1408) hz, View.ld_unit_zero (S := S384x1024) hz, View.ld_unit_zero (S := S1024x1408) hz, View.ld_unit_zero (S := S1024x1408) hz]
  rfl

theorem out4 (i : S384x1408.Idx) : out0_4 x y z i = kdb (k0_pay1 x y i) := by
  unfold out0_4
  rw [View.canon_unit_zero (S := S384x1408) hz, View.ld_unit_zero (S := S384x1024) hz, View.ld_unit_zero (S := S1024x1408) hz]
  rfl

theorem out5 (i : S384x1408.Idx) : out0_5 x y z i = kout (k0_pay1 x y i) (k0_pay2 x z i) := by
  unfold out0_5
  rw [View.canon_unit_zero (S := S384x1408) hz, View.ld_unit_zero (S := S384x1024) hz, View.ld_unit_zero (S := S1024x1408) hz, View.ld_unit_zero (S := S1024x1408) hz]
  rfl

end

theorem index : ∀ t : Fin grid0.N, win0_0.index t = ![t.val % 22, 0] ∧ win0_1.index t = ![0, t.val / 22] ∧ win0_2.index t = ![0, t.val / 22]
    ∧ win0_3.index t = ![t.val % 22, t.val / 22] ∧ win0_4.index t = ![t.val % 22, t.val / 22] ∧ win0_5.index t = ![t.val % 22, t.val / 22] := by
  decide +kernel

theorem iblk0 (c : Dev nD) (t : Fin grid0.N) (a : Fin 384) (b : Fin 1024) :
    iblk m c 0 t (ix2 a b) = at2 (V m c main_arg0) (384 * (t.val % 22) + a.val) b.val := by
  have h : t.val < 44 := t.isLt.trans_eq N_0
  have e : ((cfg0.win 0).index t) = ![t.val % 22, 0] := (index t).1
  refine Eq.trans ?_ (at2_ix (V m c main_arg0) ⟨384 * (t.val % 22) + a.val, by omega⟩ b)
  blk_ext [iblk, e]

theorem iblk1 (c : Dev nD) (t : Fin grid0.N) (a : Fin 1024) (b : Fin 1408) :
    iblk m c 1 t (ix2 a b) = at2 (V m c main_arg1) a.val (1408 * (t.val / 22) + b.val) := by
  have h : t.val < 44 := t.isLt.trans_eq N_0
  have e : ((cfg0.win 1).index t) = ![0, t.val / 22] := (index t).2.1
  refine Eq.trans ?_ (at2_ix (V m c main_arg1) a ⟨1408 * (t.val / 22) + b.val, by omega⟩)
  blk_ext [iblk, e]

theorem iblk2 (c : Dev nD) (t : Fin grid0.N) (a : Fin 1024) (b : Fin 1408) :
    iblk m c 2 t (ix2 a b) = at2 (V m c main_arg2) a.val (1408 * (t.val / 22) + b.val) := by
  have h : t.val < 44 := t.isLt.trans_eq N_0
  have e : ((cfg0.win 2).index t) = ![0, t.val / 22] := (index t).2.2.1
  refine Eq.trans ?_ (at2_ix (V m c main_arg2) a ⟨1408 * (t.val / 22) + b.val, by omega⟩)
  blk_ext [iblk, e]

/-- The two products, at a row and a column. -/
def left (c : Dev nD) (i j : ℕ) : EReal := ∑ k : Fin 1024, at2 (V m c main_arg0) i k.val * at2 (V m c main_arg1) k.val j
def right (c : Dev nD) (i j : ℕ) : EReal := ∑ k : Fin 1024, at2 (V m c main_arg0) i k.val * at2 (V m c main_arg2) k.val j

theorem left_blk (c : Dev nD) (t : Fin grid0.N) (r : Fin 384) (s : Fin 1408) :
    k0_pay1 (iblk m c 0 t) (iblk m c 1 t) (ix2 r s) = left m c (384 * (t.val % 22) + r.val) (1408 * (t.val / 22) + s.val) := by
  rw [left_apply]
  exact Finset.sum_congr rfl fun k _ => by rw [iblk0, iblk1]

theorem right_blk (c : Dev nD) (t : Fin grid0.N) (r : Fin 384) (s : Fin 1408) :
    k0_pay2 (iblk m c 0 t) (iblk m c 2 t) (ix2 r s) = right m c (384 * (t.val % 22) + r.val) (1408 * (t.val / 22) + s.val) := by
  rw [right_apply]
  exact Finset.sum_congr rfl fun k _ => by rw [iblk0, iblk2]

/-- The kernel's three results. -/
def G3 (c : Dev nD) : FVec Ideal S8448x2816 .bf16 := fun i => kda (left m c (i 0).val (i 1).val) (right m c (i 0).val (i 1).val)
def G4 (c : Dev nD) : FVec Ideal S8448x2816 .bf16 := fun i => kdb (left m c (i 0).val (i 1).val)
def G5 (c : Dev nD) : FVec Ideal S8448x2816 .bf16 := fun i => kout (left m c (i 0).val (i 1).val) (right m c (i 0).val (i 1).val)

theorem exists_coords (b0 : Fin 2) (b1 : Fin 22) : ∃ i : grid0.Coords, (i 0).val = b0.val ∧ (i 1).val = b1.val :=
  ⟨fun | ⟨0, _⟩ => b0 | ⟨1, _⟩ => b1 | ⟨_ + 2, h⟩ => absurd h (by simp), rfl, rfl⟩

theorem index3 (i : grid0.Coords) : cc0_transform_3 i = ![(i 1).val, (i 0).val] := by
  have h0 : (i 0).val < 2 := (i 0).isLt
  have h1 : (i 1).val < 22 := (i 1).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

theorem blocks : ∀ a : Fin 2, (S8448x2816.size a + S384x1408.size a - 1) / S384x1408.size a = (![22, 2] : Fin 2 → ℕ) a := by decide

theorem surj (β : (a : Fin 2) → Fin ((![22, 2] : Fin 2 → ℕ) a)) : ∃ i : grid0.Coords, ∀ a, cc0_transform_3 i a = (β a).val := by
  obtain ⟨i, h0, h1⟩ := exists_coords (β 1) (β 0)
  refine ⟨i, fun a => ?_⟩
  rw [index3, h0, h1]
  fin_cases a <;> rfl

theorem cover3 : (cfg0.win 3).Covers :=
  (cfg0.win 3).covers_of_indexMap_surj rfl (by decide : ∀ a : Fin 2, 0 < S384x1408.size a) fun β =>
    surj fun a => (⟨(β a).val, (β a).isLt.trans_eq (blocks a)⟩ : Fin ((![22, 2] : Fin 2 → ℕ) a))
theorem cover4 : (cfg0.win 4).Covers :=
  (cfg0.win 4).covers_of_indexMap_surj rfl (by decide : ∀ a : Fin 2, 0 < S384x1408.size a) fun β =>
    surj fun a => (⟨(β a).val, (β a).isLt.trans_eq (blocks a)⟩ : Fin ((![22, 2] : Fin 2 → ℕ) a))
theorem cover5 : (cfg0.win 5).Covers :=
  (cfg0.win 5).covers_of_indexMap_surj rfl (by decide : ∀ a : Fin 2, 0 < S384x1408.size a) fun β =>
    surj fun a => (⟨(β a).val, (β a).isLt.trans_eq (blocks a)⟩ : Fin ((![22, 2] : Fin 2 → ℕ) a))

/-- Where an index of a block lies in the array. -/
def place (t : Fin grid0.N) (r : Fin 384) (s : Fin 1408) : S8448x2816.Idx :=
  ix2 ⟨384 * (t.val % 22) + r.val, by omega⟩ ⟨1408 * (t.val / 22) + s.val, by have h : t.val < 44 := t.isLt.trans_eq N_0; omega⟩

theorem arr3 (c : Dev nD) : (dats m 0 c).arrAt 3 cfg0.N = G3 m c := by
  refine (dats m 0 c).arrAt_eq_of_covers 3 _ cover3 fun t _ y => ?_
  obtain ⟨r, s, rfl⟩ := idx2 (m := 384) (n := 1408) y
  have hp : ((cfg0.win 3).blk t).view.emb (ix2 r s) = place t r s := by
    have e : ((cfg0.win 3).index t) = ![t.val % 22, t.val / 22] := (index t).2.2.2.1
    blk_ext [e, place]
  rw [hp]
  refine (congrFun (after0_3 m c t) _).trans ((out3 _ _ _ _).trans ?_)
  exact congrArg₂ kda (left_blk m c t r s) (right_blk m c t r s)

theorem arr4 (c : Dev nD) : (dats m 0 c).arrAt 4 cfg0.N = G4 m c := by
  refine (dats m 0 c).arrAt_eq_of_covers 4 _ cover4 fun t _ y => ?_
  obtain ⟨r, s, rfl⟩ := idx2 (m := 384) (n := 1408) y
  have hp : ((cfg0.win 4).blk t).view.emb (ix2 r s) = place t r s := by
    have e : ((cfg0.win 4).index t) = ![t.val % 22, t.val / 22] := (index t).2.2.2.2.1
    blk_ext [e, place]
  rw [hp]
  refine (congrFun (after0_4 m c t) _).trans ((out4 _ _ _ _).trans ?_)
  exact congrArg kdb (left_blk m c t r s)

theorem arr5 (c : Dev nD) : (dats m 0 c).arrAt 5 cfg0.N = G5 m c := by
  refine (dats m 0 c).arrAt_eq_of_covers 5 _ cover5 fun t _ y => ?_
  obtain ⟨r, s, rfl⟩ := idx2 (m := 384) (n := 1408) y
  have hp : ((cfg0.win 5).blk t).view.emb (ix2 r s) = place t r s := by
    have e : ((cfg0.win 5).index t) = ![t.val % 22, t.val / 22] := (index t).2.2.2.2.2
    blk_ext [e, place]
  rw [hp]
  refine (congrFun (after0_5 m c t) _).trans ((out5 _ _ _ _).trans ?_)
  exact congrArg₂ kout (left_blk m c t r s) (right_blk m c t r s)

/-! ## The reference's results -/

section
variable (x0 : Vec Ideal S8448x1024 .bf16) (x1 x2 : Vec Ideal S1024x2816 .bf16)

theorem ref_left (i : Fin 8448) (j : Fin 2816) :
    UpRefIdeal.Read.val_main_v3 (F := Ideal) x0 x1 (ix2 i j) = (∑ k : Fin 1024, at2 x0 i.val k.val * at2 x1 k.val j.val : EReal) := by
  rw [UpRefIdeal.Read.val_main_v3_apply]
  refine Finset.sum_congr rfl fun k _ => ?_
  rw [idx2_val (UpRefIdeal.Read.lidx_main_v3 _ k) i.val k.val i.isLt k.isLt rfl rfl, idx2_val (UpRefIdeal.Read.ridx_main_v3 _ k) k.val j.val k.isLt j.isLt rfl rfl]
  show x0 (ix2 i k) * x1 (ix2 k j) = _
  rw [at2_ix x0, at2_ix x1]

theorem ref_right (i : Fin 8448) (j : Fin 2816) :
    UpRefIdeal.Read.val_main_v4 (F := Ideal) x0 x2 (ix2 i j) = (∑ k : Fin 1024, at2 x0 i.val k.val * at2 x2 k.val j.val : EReal) := by
  rw [UpRefIdeal.Read.val_main_v4_apply]
  refine Finset.sum_congr rfl fun k _ => ?_
  rw [idx2_val (UpRefIdeal.Read.lidx_main_v4 _ k) i.val k.val i.isLt k.isLt rfl rfl, idx2_val (UpRefIdeal.Read.ridx_main_v4 _ k) k.val j.val k.isLt j.isLt rfl rfl]
  show x0 (ix2 i k) * x2 (ix2 k j) = _
  rw [at2_ix x0, at2_ix x2]

theorem ref_gate (i : S8448x2816.Idx) :
    UpRefIdeal.Read.val_main_v5_2 (F := Ideal) x0 x1 i = rs (UpRefIdeal.Read.val_main_v3 (F := Ideal) x0 x1 i) := by
  rw [UpRefIdeal.Read.val_main_v5_2_apply, UpRefIdeal.Read.val_main_call0_v4_apply, UpRefIdeal.Read.val_main_call0_cst_0_apply, UpRefIdeal.Read.val_main_call0_v3_apply,
    UpRefIdeal.Read.val_main_call0_v2_apply, UpRefIdeal.Read.val_main_call0_cst_apply, UpRefIdeal.Read.val_main_call0_v1_apply, UpRefIdeal.Read.val_main_call0_v0_apply]
  rfl

theorem ref_da (i : S8448x2816.Idx) :
    UpRefIdeal.Read.val_main_v11 (F := Ideal) x0 x1 x2 i = rda (UpRefIdeal.Read.val_main_v3 (F := Ideal) x0 x1 i)
      ((c1 : EReal) * UpRefIdeal.Read.val_main_v4 (F := Ideal) x0 x2 i) := by
  rw [UpRefIdeal.Read.val_main_v11_apply, UpRefIdeal.Read.val_main_v10_apply, UpRefIdeal.Read.val_main_call1_v1_apply, UpRefIdeal.Read.val_main_call1_v2_apply,
    UpRefIdeal.Read.val_main_call1_v0_apply, UpRefIdeal.Read.val_main_v9_apply, UpRefIdeal.Read.val_main_v7_apply, UpRefIdeal.Read.val_main_cst_apply,
    UpRefIdeal.Read.val_main_v5_1_apply, UpRefIdeal.Read.val_main_call0_v7_apply, UpRefIdeal.Read.val_main_call0_v6_apply, UpRefIdeal.Read.val_main_call0_cst_1_apply, ref_gate]
  rfl

theorem ref_db (i : S8448x2816.Idx) :
    UpRefIdeal.Read.val_main_v12 (F := Ideal) x0 x1 i = (rg (UpRefIdeal.Read.val_main_v3 (F := Ideal) x0 x1 i) : EReal) * c1 := by
  rw [UpRefIdeal.Read.val_main_v12_apply, UpRefIdeal.Read.val_main_v8_apply, UpRefIdeal.Read.val_main_v5_0_apply, UpRefIdeal.Read.val_main_v7_apply, UpRefIdeal.Read.val_main_cst_apply, ref_gate]
  rfl

theorem ref_out (i : S8448x2816.Idx) :
    UpRefIdeal.Read.val_main_v13 (F := Ideal) x0 x1 x2 i = (rg (UpRefIdeal.Read.val_main_v3 (F := Ideal) x0 x1 i) : EReal) * UpRefIdeal.Read.val_main_v4 (F := Ideal) x0 x2 i := by
  rw [UpRefIdeal.Read.val_main_v13_apply, UpRefIdeal.Read.val_main_v6_apply, UpRefIdeal.Read.val_main_v5_0_apply, ref_gate]
  rfl

end

/-! ## With finite arguments -/

local instance : Cert.Pre_finite_up.Facts := upFacts

theorem at2_real {p q : ℕ} {A : (⟨2, ![p, q]⟩ : Shape).Idx → EReal} (h : Reals A) (i j : ℕ) : ∃ r : ℝ, at2 A i j = ((r : ℝ) : EReal) := by
  unfold at2
  split
  · exact h _
  · exact ⟨0, rfl⟩

theorem algebraic : Cert.algebraic_UpIdeal_UpRefIdeal_pre_finite_up := by
  intro m g m' g' hpre ha
  refine ⟨G3 m, G4 m, G5 m, ?_, ?_⟩
  · refine (θ_run _ _ _).mono (fun r h c => ?_) (Value.run_blocks (F := Ideal) m g)
    obtain ⟨h3, h4, h5, h6⟩ := h c
    exact ⟨h3.trans (arr3 m c), h4.trans (arr4 m c), h5.trans (arr5 m c), h6⟩
  · refine (θ_run _ _ _).mono (fun r h c => ?_) (UpRefIdeal.Value.run (F := Ideal) m' g')
    obtain ⟨h0, h1, h2, h3⟩ := h c
    obtain ⟨a0, a1, a2⟩ := ha c
    obtain ⟨f0, f1, f2⟩ := reals_up (hpre c)
    have fl (i j : ℕ) : ∃ r : ℝ, left m c i j = ((r : ℝ) : EReal) := sum_coe _ _ (fun _ => at2_real f0 _ _) (fun _ => at2_real f1 _ _)
    have fr (i j : ℕ) : ∃ r : ℝ, right m c i j = ((r : ℝ) : EReal) := sum_coe _ _ (fun _ => at2_real f0 _ _) (fun _ => at2_real f2 _ _)
    refine ⟨h0.trans ?_, h1.trans ?_, h2.trans ?_, h3⟩
    · rw [UpRefIdeal.Read.val_main_v11_eq, a0, a1, a2]
      funext i
      obtain ⟨a, b, rfl⟩ := idx2 (m := 8448) (n := 2816) i
      refine (ref_da _ _ _ _).trans ?_
      rw [ref_left, ref_right]
      show rda (left m c a.val b.val) ((c1 : EReal) * right m c a.val b.val) = kda (left m c a.val b.val) (right m c a.val b.val)
      obtain ⟨u, hu⟩ := fl a.val b.val
      obtain ⟨v, hv⟩ := fr a.val b.val
      rw [hu, hv, c1_eq, EReal.coe_one, one_mul, rda_coe, kda_coe]
    · rw [UpRefIdeal.Read.val_main_v12_eq, a0, a1]
      funext i
      obtain ⟨a, b, rfl⟩ := idx2 (m := 8448) (n := 2816) i
      refine (ref_db _ _ _).trans ?_
      rw [ref_left]
      show (rg (left m c a.val b.val) : EReal) * c1 = kdb (left m c a.val b.val)
      obtain ⟨u, hu⟩ := fl a.val b.val
      rw [hu, c1_eq, EReal.coe_one, mul_one, rg, kdb, rs_coe, ks_coe]
    · rw [UpRefIdeal.Read.val_main_v13_eq, a0, a1, a2]
      funext i
      obtain ⟨a, b, rfl⟩ := idx2 (m := 8448) (n := 2816) i
      refine (ref_out _ _ _ _).trans ?_
      rw [ref_left, ref_right]
      show (rg (left m c a.val b.val) : EReal) * right m c a.val b.val = kout (left m c a.val b.val) (right m c a.val b.val)
      obtain ⟨u, hu⟩ := fl a.val b.val
      rw [hu, rg, kout, rs_coe, ks_coe]

end Cert.UpIdeal.Sums
-- ==== Proof.MidValue.lean ====
module

public import proofs.«01_k».proof.Proof.Gen.MidIdeal.Value
public import proofs.«01_k».proof.Defs
public import proofs.«01_k».proof.Proof.Gen.MidRefIdeal.Run
public import proofs.«01_k».proof.Proof.Gen.MidRefIdeal.Read
public import proofs.«01_k».proof.Proof.Blocked
public import proofs.«01_k».proof.Proof.Silu
public import Idealize.ShloMosaic.Lib.Pipeline.ValueKit
public import Idealize.ShloMosaic.Lib.Pipeline.Covers

/-! The gradient of the gate: the down projection's gradient times the derivatives saved by the forward pass. -/

@[expose] public section

set_option maxRecDepth 16384
set_option maxHeartbeats 1000000
noncomputable section

namespace Cert.MidIdeal.Sums

open Idealize.ShloMosaic Idealize.ShloMosaic.TcCoe Idealize.ShloMosaic.Tactic Idealize.SL.Sem Cert.MidIdeal Cert.MidIdeal.Gen Cert.Blocked Cert.Silu Finset

variable (m : (ℓ : Loc nD τ sig) → Buf (Elt Ideal) ℓ)

theorem hz : (![0, 0] : Fin 2 → Nat) = fun _ => 0 := funext fun a => by fin_cases a <;> rfl

/-! ## The host's arrays -/

section
variable (a b : FVec Ideal S8448x2816 .f32)

def hone : FVec Ideal S8448x2816 .f32 := broadcastInDim S8448x2816 ![] bcast_S_S8448x2816 (constant (F := Ideal) S_ .f32 0x3F800000#32)
def hsig : FVec Ideal S8448x2816 .f32 := Host.divf hone (addf hone (Host.exp (Host.negf a)))
def hda : FVec Ideal S8448x2816 .bf16 :=
  truncf .bf16 (addf (mulf (mulf hone b) (hsig a)) (mulf (mulf a (mulf hone b)) (mulf (hsig a) (subf hone (hsig a))))) bitsLt_bf16_f32
def hdb : FVec Ideal S8448x2816 .bf16 := truncf .bf16 (mulf (mulf a (hsig a)) hone) bitsLt_bf16_f32

theorem hda_apply (i : S8448x2816.Idx) : hda a b i = rda (a i) ((c1 : EReal) * b i) := rfl
theorem hdb_apply (i : S8448x2816.Idx) : hdb a i = (rg (a i) : EReal) * c1 := rfl

end

theorem V6 (c : Dev nD) : V m c main_v6 = hda (m ((c : Thread nD τ).loc main_arg0)) (m ((c : Thread nD τ).loc main_arg1)) := by
  unfold V hda hsig hone
  simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem V7 (c : Dev nD) : V m c main_v7 = hdb (m ((c : Thread nD τ).loc main_arg0)) := by
  unfold V hdb hsig hone
  simp only [hostOps0, hostOps0_1, hostOps0_2, hostOps0_3, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

/-! ## The kernel's results -/

/-- A half, as the programs write it. -/
abbrev half : Ideal .f32 := FloatOps.ofBits .f32 0x3F000000#32

theorem half_coe : half = (((1 / 2 : ℝ) : ℝ) : EReal) := half_eq

section
variable (x : Vec Ideal S384x1024 .f32) (y : Vec Ideal S1408x1024 .bf16) (z w : Vec Ideal S384x1408 .bf16)

theorem pay1_apply (r : Fin 384) (s : Fin 1408) : k0_pay1 x y (ix2 r s) = (∑ k : Fin 1024, x (ix2 r k) * y (ix2 s k) : EReal) * half := by
  pointwise [k0_pay1]

theorem out4 (r : Fin 384) (s : Fin 1408) : out0_4 x y z w (ix2 r s) = (k0_pay1 x y (ix2 r s) : EReal) * (z (ix2 r s) : EReal) := by
  unfold out0_4
  rw [View.canon_unit_zero (S := S384x1408) hz, View.ld_unit_zero (S := S384x1024) hz, View.ld_unit_zero (S := S1408x1024) hz, View.ld_unit_zero (S := S384x1408) hz]
  pointwise [k0_pay2]

theorem out5 (r : Fin 384) (s : Fin 1408) : out0_5 x y z w (ix2 r s) = (k0_pay1 x y (ix2 r s) : EReal) * (w (ix2 r s) : EReal) := by
  unfold out0_5
  rw [View.canon_unit_zero (S := S384x1408) hz, View.ld_unit_zero (S := S384x1024) hz, View.ld_unit_zero (S := S1408x1024) hz, View.ld_unit_zero (S := S384x1408) hz]
  pointwise [k0_pay3]

end

theorem index : ∀ t : Fin grid0.N, win0_0.index t = ![t.val % 22, 0] ∧ win0_1.index t = ![t.val / 22, 0] ∧ win0_2.index t = ![t.val % 22, t.val / 22]
    ∧ win0_3.index t = ![t.val % 22, t.val / 22] ∧ win0_4.index t = ![t.val % 22, t.val / 22] ∧ win0_5.index t = ![t.val % 22, t.val / 22] := by
  decide +kernel

theorem iblk0 (c : Dev nD) (t : Fin grid0.N) (a : Fin 384) (b : Fin 1024) :
    iblk m c 0 t (ix2 a b) = at2 (m ((c : Thread nD τ).loc main_arg3)) (384 * (t.val % 22) + a.val) b.val := by
  have h : t.val < 44 := t.isLt.trans_eq N_0
  have e : ((cfg0.win 0).index t) = ![t.val % 22, 0] := (index t).1
  rw [← V_main_arg3 m c]
  refine Eq.trans ?_ (at2_ix (V m c main_arg3) ⟨384 * (t.val % 22) + a.val, by omega⟩ b)
  blk_ext [iblk, e]

theorem iblk1 (c : Dev nD) (t : Fin grid0.N) (a : Fin 1408) (b : Fin 1024) :
    iblk m c 1 t (ix2 a b) = at2 (m ((c : Thread nD τ).loc main_arg2)) (1408 * (t.val / 22) + a.val) b.val := by
  have h : t.val < 44 := t.isLt.trans_eq N_0
  have e : ((cfg0.win 1).index t) = ![t.val / 22, 0] := (index t).2.1
  rw [← V_main_arg2 m c]
  refine Eq.trans ?_ (at2_ix (V m c main_arg2) ⟨1408 * (t.val / 22) + a.val, by omega⟩ b)
  blk_ext [iblk, e]

/-- Where an index of a block lies in the array. -/
def place (t : Fin grid0.N) (r : Fin 384) (s : Fin 1408) : S8448x2816.Idx :=
  ix2 ⟨384 * (t.val % 22) + r.val, by omega⟩ ⟨1408 * (t.val / 22) + s.val, by have h : t.val < 44 := t.isLt.trans_eq N_0; omega⟩

theorem iblk2 (c : Dev nD) (t : Fin grid0.N) (a : Fin 384) (b : Fin 1408) : iblk m c 2 t (ix2 a b) = V m c main_v6 (place t a b) := by
  have e : ((cfg0.win 2).index t) = ![t.val % 22, t.val / 22] := (index t).2.2.1
  generalize hp : place t a b = p
  blk_ext [iblk, e, ← hp, place]

theorem iblk3 (c : Dev nD) (t : Fin grid0.N) (a : Fin 384) (b : Fin 1408) : iblk m c 3 t (ix2 a b) = V m c main_v7 (place t a b) := by
  have e : ((cfg0.win 3).index t) = ![t.val % 22, t.val / 22] := (index t).2.2.2.1
  generalize hp : place t a b = p
  blk_ext [iblk, e, ← hp, place]

/-- The product, at a row and a column. -/
def prod (c : Dev nD) (i j : ℕ) : EReal := ∑ k : Fin 1024, at2 (m ((c : Thread nD τ).loc main_arg3)) i k.val * at2 (m ((c : Thread nD τ).loc main_arg2)) j k.val

theorem prod_blk (c : Dev nD) (t : Fin grid0.N) (r : Fin 384) (s : Fin 1408) :
    k0_pay1 (iblk m c 0 t) (iblk m c 1 t) (ix2 r s) = prod m c (384 * (t.val % 22) + r.val) (1408 * (t.val / 22) + s.val) * half := by
  rw [pay1_apply]
  exact congrArg (· * (half : EReal)) (Finset.sum_congr rfl fun k _ => by rw [iblk0, iblk1])

/-- The kernel's two results. -/
def G4 (c : Dev nD) : FVec Ideal S8448x2816 .bf16 := fun i => (prod m c (i 0).val (i 1).val * half : EReal) * (V m c main_v6 i : EReal)
def G5 (c : Dev nD) : FVec Ideal S8448x2816 .bf16 := fun i => (prod m c (i 0).val (i 1).val * half : EReal) * (V m c main_v7 i : EReal)

theorem exists_coords (b0 : Fin 2) (b1 : Fin 22) : ∃ i : grid0.Coords, (i 0).val = b0.val ∧ (i 1).val = b1.val :=
  ⟨fun | ⟨0, _⟩ => b0 | ⟨1, _⟩ => b1 | ⟨_ + 2, h⟩ => absurd h (by simp), rfl, rfl⟩

theorem index4 (i : grid0.Coords) : cc0_transform_4 i = ![(i 1).val, (i 0).val] := by
  have h0 : (i 0).val < 2 := (i 0).isLt
  have h1 : (i 1).val < 22 := (i 1).isLt
  show ![(BitVec.ofNat 32 (i 1).val).toNat, (BitVec.ofNat 32 (i 0).val).toNat] = _
  rw [BitVec.toNat_ofNat, BitVec.toNat_ofNat, Nat.mod_eq_of_lt (by omega), Nat.mod_eq_of_lt (by omega)]

theorem blocks : ∀ a : Fin 2, (S8448x2816.size a + S384x1408.size a - 1) / S384x1408.size a = (![22, 2] : Fin 2 → ℕ) a := by decide

theorem surj (β : (a : Fin 2) → Fin ((![22, 2] : Fin 2 → ℕ) a)) : ∃ i : grid0.Coords, ∀ a, cc0_transform_4 i a = (β a).val := by
  obtain ⟨i, h0, h1⟩ := exists_coords (β 1) (β 0)
  refine ⟨i, fun a => ?_⟩
  rw [index4, h0, h1]
  fin_cases a <;> rfl

theorem cover4 : (cfg0.win 4).Covers :=
  (cfg0.win 4).covers_of_indexMap_surj rfl (by decide : ∀ a : Fin 2, 0 < S384x1408.size a) fun β =>
    surj fun a => (⟨(β a).val, (β a).isLt.trans_eq (blocks a)⟩ : Fin ((![22, 2] : Fin 2 → ℕ) a))
theorem cover5 : (cfg0.win 5).Covers :=
  (cfg0.win 5).covers_of_indexMap_surj rfl (by decide : ∀ a : Fin 2, 0 < S384x1408.size a) fun β =>
    surj fun a => (⟨(β a).val, (β a).isLt.trans_eq (blocks a)⟩ : Fin ((![22, 2] : Fin 2 → ℕ) a))

theorem arr4 (c : Dev nD) : (dats m 0 c).arrAt 4 cfg0.N = G4 m c := by
  refine (dats m 0 c).arrAt_eq_of_covers 4 _ cover4 fun t _ y => ?_
  obtain ⟨r, s, rfl⟩ := idx2 (m := 384) (n := 1408) y
  have hp : ((cfg0.win 4).blk t).view.emb (ix2 r s) = place t r s := by
    have e : ((cfg0.win 4).index t) = ![t.val % 22, t.val / 22] := (index t).2.2.2.2.1
    blk_ext [e, place]
  rw [hp]
  refine (congrFun (after0_4 m c t) _).trans ((out4 _ _ _ _ _ _).trans ?_)
  exact congrArg₂ (fun u v : EReal => u * v) (prod_blk m c t r s) (iblk2 m c t r s)

theorem arr5 (c : Dev nD) : (dats m 0 c).arrAt 5 cfg0.N = G5 m c := by
  refine (dats m 0 c).arrAt_eq_of_covers 5 _ cover5 fun t _ y => ?_
  obtain ⟨r, s, rfl⟩ := idx2 (m := 384) (n := 1408) y
  have hp : ((cfg0.win 5).blk t).view.emb (ix2 r s) = place t r s := by
    have e : ((cfg0.win 5).index t) = ![t.val % 22, t.val / 22] := (index t).2.2.2.2.2
    blk_ext [e, place]
  rw [hp]
  refine (congrFun (after0_5 m c t) _).trans ((out5 _ _ _ _ _ _).trans ?_)
  exact congrArg₂ (fun u v : EReal => u * v) (prod_blk m c t r s) (iblk3 m c t r s)

/-! ## The reference's results -/

section
variable (x0 x1 : Vec Ideal S8448x2816 .f32) (x2 : Vec Ideal S2816x1024 .bf16) (x3 : Vec Ideal S8448x1024 .f32)

theorem ref_prod (i : Fin 8448) (j : Fin 2816) :
    MidRefIdeal.Read.val_main_v8 (F := Ideal) x2 x3 (ix2 i j) = (∑ k : Fin 1024, at2 x3 i.val k.val * at2 x2 j.val k.val : EReal) * half := by
  rw [MidRefIdeal.Read.val_main_v8_apply, half_coe, scaled _ (by norm_num : (0 : ℝ) ≤ 1 / 2)]
  refine Finset.sum_congr rfl fun k _ => ?_
  rw [idx2_val (MidRefIdeal.Read.lidx_main_v8 _ k) i.val k.val i.isLt k.isLt rfl rfl, idx2_val (MidRefIdeal.Read.ridx_main_v8 _ k) j.val k.val j.isLt k.isLt rfl rfl,
    MidRefIdeal.Read.val_main_v7_apply, MidRefIdeal.Read.val_main_v6_apply, MidRefIdeal.Read.val_main_cst_0_apply, MidRefIdeal.Read.val_main_v2_apply]
  show (half * x3 (ix2 i k) : EReal) * x2 (ix2 j k) = _
  rw [at2_ix x3, at2_ix x2, half_coe, mul_assoc, mul_comm]

theorem ref_gate (i : S8448x2816.Idx) : MidRefIdeal.Read.val_main_v0_2 (F := Ideal) x0 i = rs (x0 i) := by
  rw [MidRefIdeal.Read.val_main_v0_2_apply, MidRefIdeal.Read.val_main_call0_v4_apply, MidRefIdeal.Read.val_main_call0_cst_0_apply, MidRefIdeal.Read.val_main_call0_v3_apply,
    MidRefIdeal.Read.val_main_call0_v2_apply, MidRefIdeal.Read.val_main_call0_cst_apply, MidRefIdeal.Read.val_main_call0_v1_apply, MidRefIdeal.Read.val_main_call0_v0_apply]
  rfl

theorem ref_da (i : S8448x2816.Idx) :
    MidRefIdeal.Read.val_main_v12 (F := Ideal) x0 x1 x2 x3 i = rda (x0 i) ((MidRefIdeal.Read.val_main_v8 (F := Ideal) x2 x3 i : EReal) * x1 i) := by
  rw [MidRefIdeal.Read.val_main_v12_apply, MidRefIdeal.Read.val_main_v11_apply, MidRefIdeal.Read.val_main_call1_v1_apply, MidRefIdeal.Read.val_main_call1_v2_apply,
    MidRefIdeal.Read.val_main_call1_v0_apply, MidRefIdeal.Read.val_main_v10_apply, MidRefIdeal.Read.val_main_v0_1_apply, MidRefIdeal.Read.val_main_call0_v7_apply,
    MidRefIdeal.Read.val_main_call0_v6_apply, MidRefIdeal.Read.val_main_call0_cst_1_apply, ref_gate]
  rfl

theorem ref_db (i : S8448x2816.Idx) :
    MidRefIdeal.Read.val_main_v13 (F := Ideal) x0 x2 x3 i = (rg (x0 i) : EReal) * MidRefIdeal.Read.val_main_v8 (F := Ideal) x2 x3 i := by
  rw [MidRefIdeal.Read.val_main_v13_apply, MidRefIdeal.Read.val_main_v9_apply, MidRefIdeal.Read.val_main_v0_0_apply, ref_gate]
  rfl

end

/-! ## With finite arguments -/

local instance : Cert.Pre_finite_mid.Facts := midFacts

theorem at2_real {p q : ℕ} {A : (⟨2, ![p, q]⟩ : Shape).Idx → EReal} (h : Reals A) (i j : ℕ) : ∃ r : ℝ, at2 A i j = ((r : ℝ) : EReal) := by
  unfold at2
  split
  · exact h _
  · exact ⟨0, rfl⟩

/-- A gradient scaled after the gate's derivative is the derivative of the scaled gradient. -/
theorem da_scaled (u v p q : ℝ) : ((p : ℝ) : EReal) * ((q : ℝ) : EReal) * (rda ((u : ℝ) : EReal) ((c1 : EReal) * ((v : ℝ) : EReal)) : EReal)
    = rda ((u : ℝ) : EReal) ((((p : ℝ) : EReal) * ((q : ℝ) : EReal)) * ((v : ℝ) : EReal)) := by
  rw [c1_eq, ← EReal.coe_mul, ← EReal.coe_mul, ← EReal.coe_mul, rda_coe, rda_coe, ← EReal.coe_mul]
  congr 1
  ring

theorem algebraic : Cert.algebraic_MidIdeal_MidRefIdeal_pre_finite_mid := by
  intro m g m' g' hpre ha
  refine ⟨G4 m, G5 m, ?_, ?_⟩
  · refine (θ_run _ _ _).mono (fun r h c => ?_) (Value.run_blocks (F := Ideal) m g)
    obtain ⟨h4, h5, h6⟩ := h c
    exact ⟨h4.trans (arr4 m c), h5.trans (arr5 m c), h6⟩
  · refine (θ_run _ _ _).mono (fun r h c => ?_) (MidRefIdeal.Value.run (F := Ideal) m' g')
    obtain ⟨h0, h1, h3⟩ := h c
    obtain ⟨a0, a1, a2, a3⟩ := ha c
    obtain ⟨f0, f1, f2, f3⟩ := reals_mid (hpre c)
    refine ⟨h0.trans ?_, h1.trans ?_, h3⟩
    · rw [MidRefIdeal.Read.val_main_v12_eq, a0, a1, a2, a3]
      funext i
      obtain ⟨a, b, rfl⟩ := idx2 (m := 8448) (n := 2816) i
      refine (ref_da _ _ _ _ _).trans ?_
      rw [ref_prod]
      show _ = (prod m c a.val b.val * half : EReal) * (V m c main_v6 (ix2 a b) : EReal)
      obtain ⟨p, hp⟩ : ∃ r : ℝ, prod m c a.val b.val = ((r : ℝ) : EReal) :=
        sum_coe _ _ (fun _ => at2_real f3 _ _) (fun _ => at2_real f2 _ _)
      obtain ⟨u, hu⟩ := f0 (ix2 a b)
      obtain ⟨v, hv⟩ := f1 (ix2 a b)
      have key := da_scaled u v p (1 / 2)
      rw [← hu, ← hv, ← hp, ← half_coe] at key
      rw [V6, hda_apply]
      exact key.symm
    · rw [MidRefIdeal.Read.val_main_v13_eq, a0, a2, a3]
      funext i
      obtain ⟨a, b, rfl⟩ := idx2 (m := 8448) (n := 2816) i
      refine (ref_db _ _ _ _).trans ?_
      rw [ref_prod]
      show _ = (prod m c a.val b.val * half : EReal) * (V m c main_v7 (ix2 a b) : EReal)
      rw [V7, hdb_apply, c1_eq, EReal.coe_one, mul_one]
      exact mul_comm _ _

end Cert.MidIdeal.Sums
-- ==== Proof.DwbValue.lean ====
module

public import proofs.«01_k».proof.Proof.Gen.DwbIdeal.Value
public import proofs.«01_k».proof.Defs
public import proofs.«01_k».proof.Proof.Gen.DwbRefIdeal.Run
public import proofs.«01_k».proof.Proof.Gen.DwbRefIdeal.Read
public import proofs.«01_k».proof.Proof.Blocked
public import Idealize.ShloMosaic.Lib.Pipeline.ValueKit
public import Idealize.ShloMosaic.Lib.Pipeline.Covers

/-! The gradient of the down projection's weights. -/

@[expose] public section

set_option maxRecDepth 16384
set_option maxHeartbeats 1000000
noncomputable section

namespace Cert.DwbIdeal.Sums

open Idealize.ShloMosaic Idealize.ShloMosaic.TcCoe Idealize.ShloMosaic.Tactic Idealize.SL.Sem Cert.DwbIdeal Cert.DwbIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S1408x1408 .bf16) (h3 : a3.IsWhole) (a4 : Memref sig .tc .vmem S1408x1024 .f32) (h4 : a4.IsWhole)
  (a5 : Memref sig .tc .vmem S1408x1024 .bf16) (h5 : a5.IsWhole) (a6 : Memref sig .tc .vmem S1408x1024 .f32) (h6 : a6.IsWhole)
  (x : Vec Ideal S1408x1408 .bf16) (y acc : Vec Ideal S1408x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz]
  simp only [View.readAt_eq_ld, View.readCov_unit_zero (S := S1408x1024) _ hz, h3.read_unread, h4.read_unread, View.ld_unit_zero (S := S1408x1408) hz, View.ld_unit_zero (S := S1408x1024) hz]

theorem middle (hc0 : ¬cond0_0 i) (hc1 : ¬cond0_1 i) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero (S := S1408x1024) hz]
  simp only [View.readAt_eq_ld, h3.read_unread, h4.read_unread, h6.read_unread, View.ld_unit_zero (S := S1408x1408) hz, View.ld_unit_zero (S := S1408x1024) hz]

theorem last (hc0 : ¬cond0_0 i) (hc1 : cond0_1 i) :
    sout0_C_0 c i a3 h3 a4 h4 a5 h5 a6 h6 hc0 hc1 x y acc = k0_pay2 x y acc := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero (S := S1408x1024) hz]
  simp only [View.readAt_eq_ld, h3.read_unread, h4.read_unread, h6.read_unread, View.ld_unit_zero (S := S1408x1408) hz, View.ld_unit_zero (S := S1408x1024) hz]

theorem written (hc0 : ¬cond0_0 i) (hc1 : cond0_1 i) :
    out0_C_2 c i a3 h3 a4 h4 a5 h5 a6 h6 hc0 hc1 x y acc = k0_pay3 (k0_pay2 x y acc) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S1408x1024) hz]
  simp only [View.readAt_eq_ld, View.readCov_unit_zero (S := S1408x1024) _ hz, h3.read_unread, h4.read_unread, h6.read_unread, View.ld_unit_zero (S := S1408x1408) hz, View.ld_unit_zero (S := S1408x1024) hz]

theorem zero_apply (r : Fin 1408) (s : Fin 1024) : k0_pay1 (F := Ideal) (ix2 r s) = (0 : EReal) := by
  pointwise [k0_pay1]

theorem step_apply (r : Fin 1408) (s : Fin 1024) :
    k0_pay2 x y acc (ix2 r s) = acc (ix2 r s) + ∑ k : Fin 1408, x (ix2 k r) * y (ix2 k s) := by
  pointwise [k0_pay2]

theorem out_apply (r : Fin 1408) (s : Fin 1024) :
    k0_pay3 acc (ix2 r s) = acc (ix2 r s) * (((1 / 2 : ℝ) : ℝ) : EReal) := by
  pointwise [k0_pay3]
  rw [← half_eq]
  rfl
end

theorem index : ∀ t : Fin grid0.N, win0_0.index t = ![t.val % 6, t.val / 6] ∧ win0_1.index t = ![t.val % 6, 0] := by
  decide +kernel

theorem iblk0 (c : Dev nD) (t : Fin grid0.N) (a : Fin 1408) (b : Fin 1408) :
    iblk m c 0 t (ix2 a b) = at2 (V m c main_arg0) (1408 * (t.val % 6) + a.val) (1408 * (t.val / 6) + b.val) := by
  have h : t.val < 12 := t.isLt.trans_eq N_0
  have e : ((cfg0.win 0).index t) = ![t.val % 6, t.val / 6] := (index t).1
  refine Eq.trans ?_ (at2_ix (V m c main_arg0) ⟨1408 * (t.val % 6) + a.val, by omega⟩ ⟨1408 * (t.val / 6) + b.val, by omega⟩)
  blk_ext [iblk, e]
theorem iblk1 (c : Dev nD) (t : Fin grid0.N) (a : Fin 1408) (b : Fin 1024) :
    iblk m c 1 t (ix2 a b) = at2 (V m c main_arg1) (1408 * (t.val % 6) + a.val) b.val := by
  have h : t.val < 12 := t.isLt.trans_eq N_0
  have e : ((cfg0.win 1).index t) = ![t.val % 6, 0] := (index t).2
  refine Eq.trans ?_ (at2_ix (V m c main_arg1) ⟨1408 * (t.val % 6) + a.val, by omega⟩ b)
  blk_ext [iblk, e]

abbrev term (c : Dev nD) (i j x : ℕ) : EReal := at2 (V m c main_arg0) x i * at2 (V m c main_arg1) x j

theorem add_block (c : Dev nD) (t : Fin grid0.N) (acc : Vec Ideal S1408x1024 .f32) (r : Fin 1408) (s : Fin 1024)
    (h : acc (ix2 r s) = ∑ x ∈ range (t.val % 6 * 1408), term m c (1408 * (t.val / 6) + r.val) s.val x) :
    k0_pay2 (iblk m c 0 t) (iblk m c 1 t) acc (ix2 r s) = ∑ x ∈ range ((t.val % 6 + 1) * 1408), term m c (1408 * (t.val / 6) + r.val) s.val x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 1408) (s : Fin 1024),
    (outsAt0 m c n h).2 (ix2 r s) = ∑ x ∈ range ((n % 6 + 1) * 1408), term m c (1408 * (n / 6) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have e1 : (n + 1) / 6 = n / 6 := by omega
      have e2 : (n + 1) % 6 = n % 6 + 1 := by omega
      have ha : (outsAt0 m c n (Nat.lt_of_succ_lt h)).2 (ix2 r s) = ∑ x ∈ range ((n + 1) % 6 * 1408), term m c (1408 * ((n + 1) / 6) + r.val) s.val x := by
        rw [hp, e1, e2]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 1408) (s : Fin 1024) :
    (outsAt0 m c n h).1 (ix2 r s) = (∑ x ∈ range 8448, term m c (1408 * (n / 6) + r.val) s.val x) * (((1 / 2 : ℝ) : ℝ) : EReal) := by
  obtain ⟨k, rfl⟩ : ∃ k, n = k + 1 := ⟨n - 1, by omega⟩
  have h0 : ¬(k + 1) % 6 = 0 := by omega
  rw [outsAt0_C m c ⟨k + 1, h⟩ h0 h1]
  dsimp only
  rw [written, out_apply, add_block m c ⟨k + 1, h⟩ _ r s (by
    show (outsAt0 m c k _).2 (ix2 r s) = _
    rw [scratch, show k % 6 + 1 = (k + 1) % 6 by omega, show k / 6 = (k + 1) / 6 by omega])]
  dsimp only
  rw [h1]

theorem total (c : Dev nD) (i : Fin 2816) (j : Fin 1024) :
    Value.G2 m c (ix2 i j) = (∑ x ∈ range 8448, term m c i.val j.val x) * (((1 / 2 : ℝ) : ℝ) : EReal) := by
  have hp : Value.pt2Of (ix2 i j) < cfg0.N := by
    rw [show cfg0.N = 12 from N_0]
    show 6 * (1 * (i.val / 1408 - 0) + 1 * (j.val / 1024 - 0)) + 5 < 12
    omega
  have hn : Value.pt2Of (ix2 i j) = 6 * (i.val / 1408) + 5 := by
    show 6 * (1 * (i.val / 1408 - 0) + 1 * (j.val / 1024 - 0)) + 5 = _
    omega
  have hl : Value.loc2Of (ix2 i j) = ix2 ⟨i.val % 1408, Nat.mod_lt _ (by decide)⟩ j := by
    refine idx2_val _ _ _ _ _ rfl ?_
    show j.val % 1024 = j.val
    omega
  unfold Value.G2
  rw [dif_pos hp, ← Value.outsAt0_sweep m c _ hp, hl, flushed m c _ hp (by omega)]
  show (∑ x ∈ range 8448, term m c (1408 * (Value.pt2Of (ix2 i j) / 6) + i.val % 1408) j.val x) * _ = _
  rw [show 1408 * (Value.pt2Of (ix2 i j) / 6) + i.val % 1408 = i.val by rw [hn]; omega]

/-! ## The reference's result -/

theorem reference_apply (x0 : Vec Ideal S8448x2816 .bf16) (x1 : Vec Ideal S8448x1024 .f32) (i : Fin 2816) (j : Fin 1024) :
    DwbRefIdeal.Read.val_main_v9 (F := Ideal) x0 x1 (ix2 i j) = (∑ x ∈ range 8448, at2 x0 x i.val * at2 x1 x j.val) * (((1 / 2 : ℝ) : ℝ) : EReal) := by
  rw [DwbRefIdeal.Read.val_main_v9_apply, DwbRefIdeal.Read.val_main_v8_apply]
  refine (DwbRefIdeal.Read.val_main_v7_apply x0 x1 _).trans ?_
  rw [← Fin.sum_univ_eq_sum_range (fun x => at2 x0 x i.val * at2 x1 x j.val), scaled _ (by norm_num)]
  refine Finset.sum_congr rfl fun x _ => ?_
  rw [DwbRefIdeal.Read.val_main_v6_apply, DwbRefIdeal.Read.val_main_v5_apply, DwbRefIdeal.Read.val_main_cst_1_apply, half_eq, DwbRefIdeal.Read.val_main_v1_apply,
    idx2_val (DwbRefIdeal.Read.ridx_main_v7 _ x) x.val i.val x.isLt i.isLt rfl rfl, idx2_val (DwbRefIdeal.Read.lidx_main_v7 _ x) x.val j.val x.isLt j.isLt rfl rfl]
  show _ * x1 (ix2 x j) * x0 (ix2 x i) = _
  rw [at2_ix x1, at2_ix x0, mul_comm (at2 x0 _ _), mul_assoc, mul_comm]

/-! ## The two programs -/

theorem algebraic : Cert.algebraic_DwbIdeal_DwbRefIdeal := by
  intro m g m' g' _ ha
  refine ⟨Value.G2 m, Value.run (F := Ideal) m g, ?_⟩
  refine (θ_run _ _ _).mono (fun r h c => ?_) (DwbRefIdeal.Value.run (F := Ideal) m' g')
  obtain ⟨h0, h1⟩ := h c
  obtain ⟨a0, a1⟩ := ha c
  refine ⟨h0.trans ?_, h1⟩
  rw [DwbRefIdeal.Read.val_main_v9_eq, a0, a1]
  funext i
  obtain ⟨a, b, rfl⟩ := idx2 (m := 2816) (n := 1024) i
  exact (reference_apply _ _ a b).trans (total m c a b).symm

end Cert.DwbIdeal.Sums
-- ==== Proof.DnValue.lean ====
module

public import proofs.«01_k».proof.Proof.Gen.DnIdeal.Value
public import proofs.«01_k».proof.Defs
public import proofs.«01_k».proof.Proof.Gen.DnRefIdeal.Run
public import proofs.«01_k».proof.Proof.Gen.DnRefIdeal.Read
public import proofs.«01_k».proof.Proof.Blocked
public import Idealize.ShloMosaic.Lib.Pipeline.ValueKit
public import Idealize.ShloMosaic.Lib.Pipeline.Covers

/-! The gradient of the feed-forward part's input: two products, one with each of the up projections' weights. -/

@[expose] public section

set_option maxRecDepth 16384
set_option maxHeartbeats 1000000
noncomputable section

namespace Cert.DnIdeal.Sums

open Idealize.ShloMosaic Idealize.ShloMosaic.TcCoe Idealize.ShloMosaic.Tactic Idealize.SL.Sem Cert.DnIdeal Cert.DnIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1408 .bf16) (h3 : a3.IsWhole) (a4 : Memref sig .tc .vmem S1024x1408 .bf16) (h4 : a4.IsWhole) (a5 : Memref sig .tc .vmem S768x1408 .bf16) (h5 : a5.IsWhole) (a6 : Memref sig .tc .vmem S1024x1408 .bf16) (h6 : a6.IsWhole) (a7 : Memref sig .tc .vmem S768x1024 .f32) (h7 : a7.IsWhole) (a8 : Memref sig .tc .vmem S768x1024 .f32) (h8 : a8.IsWhole)
  (x : Vec Ideal S768x1408 .bf16) (y : Vec Ideal S1024x1408 .bf16) (z : Vec Ideal S768x1408 .bf16) (w : Vec Ideal S1024x1408 .bf16) (acc : Vec Ideal S768x1024 .f32)

theorem first (hc0 : cond0_0 i) (hc1 : ¬cond0_1 i) :
    sout0_A_0 c i a3 h3 a4 h4 a5 h5 a6 h6 a7 h7 a8 h8 hc0 hc1 x y z w = k0_pay2 x y z w (k0_pay1 (F := Ideal)) := by
  unfold sout0_A_0
  rw [View.read_writes_eq_canon _ _ _ (scover0_A_0 c i a3 h3 a4 h4 a5 h5 a6 h6 a7 h7 a8 h8 hc0 hc1 x y z w)]
  unfold kernelRun0_A
  dsimp only
  sl_unfold_words
  rw [View.canon_cons_unit_zero (S := S768x1024) hz]
  simp only [View.readAt_eq_ld, View.readCov_unit_zero (S := S768x1024) _ hz, h3.read_unread, h4.read_unread, h5.read_unread, h6.read_unread, View.ld_unit_zero (S := S768x1408) hz, View.ld_unit_zero (S := S1024x1408) hz, View.ld_unit_zero (S := S768x1024) hz]

theorem written (hc0 : ¬cond0_0 i) (hc1 : cond0_1 i) :
    out0_B_4 c i a3 h3 a4 h4 a5 h5 a6 h6 a7 h7 a8 h8 hc0 hc1 x y z w acc = k0_pay2 x y z w acc := by
  unfold out0_B_4
  rw [View.read_writes_eq_canon _ _ _ (cover0_B_4 c i a3 h3 a4 h4 a5 h5 a6 h6 a7 h7 a8 h8 hc0 hc1 x y z w acc)]
  unfold kernelRun0_B
  dsimp only
  sl_unfold_words
  rw [View.canon_unit_zero (S := S768x1024) hz]
  simp only [View.readAt_eq_ld, View.readCov_unit_zero (S := S768x1024) _ hz, h3.read_unread, h4.read_unread, h5.read_unread, h6.read_unread, h8.read_unread, View.ld_unit_zero (S := S768x1408) hz, View.ld_unit_zero (S := S1024x1408) hz, View.ld_unit_zero (S := S768x1024) hz]

theorem zero_apply (r : Fin 768) (s : Fin 1024) : k0_pay1 (F := Ideal) (ix2 r s) = (0 : EReal) := by
  pointwise [k0_pay1]

theorem step_apply (r : Fin 768) (s : Fin 1024) :
    k0_pay2 x y z w acc (ix2 r s) = acc (ix2 r s) + ∑ k : Fin 1408, (x (ix2 r k) * y (ix2 s k) + z (ix2 r k) * w (ix2 s k)) := by
  rw [Finset.sum_add_distrib]
  pointwise [k0_pay2]

end

theorem index : ∀ t : Fin grid0.N, win0_0.index t = ![t.val / 2, t.val % 2] ∧ win0_1.index t = ![0, t.val % 2] ∧ win0_2.index t = ![t.val / 2, t.val % 2] ∧ win0_3.index t = ![0, t.val % 2] := by
  decide +kernel

theorem iblk0 (c : Dev nD) (t : Fin grid0.N) (a : Fin 768) (b : Fin 1408) :
    iblk m c 0 t (ix2 a b) = at2 (V m c main_arg2) (768 * (t.val / 2) + a.val) (1408 * (t.val % 2) + b.val) := by
  have h : t.val < 22 := t.isLt.trans_eq N_0
  have e : ((cfg0.win 0).index t) = ![t.val / 2, t.val % 2] := (index t).1
  refine Eq.trans ?_ (at2_ix (V m c main_arg2) ⟨(768 * (t.val / 2) + a.val), by omega⟩ ⟨(1408 * (t.val % 2) + b.val), by omega⟩)
  blk_ext [iblk, e]
theorem iblk1 (c : Dev nD) (t : Fin grid0.N) (a : Fin 1024) (b : Fin 1408) :
    iblk m c 1 t (ix2 a b) = at2 (V m c main_arg0) a.val (1408 * (t.val % 2) + b.val) := by
  have h : t.val < 22 := t.isLt.trans_eq N_0
  have e : ((cfg0.win 1).index t) = ![0, t.val % 2] := (index t).2.1
  refine Eq.trans ?_ (at2_ix (V m c main_arg0) a ⟨(1408 * (t.val % 2) + b.val), by omega⟩)
  blk_ext [iblk, e]
theorem iblk2 (c : Dev nD) (t : Fin grid0.N) (a : Fin 768) (b : Fin 1408) :
    iblk m c 2 t (ix2 a b) = at2 (V m c main_arg3) (768 * (t.val / 2) + a.val) (1408 * (t.val % 2) + b.val) := by
  have h : t.val < 22 := t.isLt.trans_eq N_0
  have e : ((cfg0.win 2).index t) = ![t.val / 2, t.val % 2] := (index t).2.2.1
  refine Eq.trans ?_ (at2_ix (V m c main_arg3) ⟨(768 * (t.val / 2) + a.val), by omega⟩ ⟨(1408 * (t.val % 2) + b.val), by omega⟩)
  blk_ext [iblk, e]
theorem iblk3 (c : Dev nD) (t : Fin grid0.N) (a : Fin 1024) (b : Fin 1408) :
    iblk m c 3 t (ix2 a b) = at2 (V m c main_arg1) a.val (1408 * (t.val % 2) + b.val) := by
  have h : t.val < 22 := t.isLt.trans_eq N_0
  have e : ((cfg0.win 3).index t) = ![0, t.val % 2] := (index t).2.2.2
  refine Eq.trans ?_ (at2_ix (V m c main_arg1) a ⟨(1408 * (t.val % 2) + b.val), by omega⟩)
  blk_ext [iblk, e]

abbrev term (c : Dev nD) (i j x : ℕ) : EReal :=
  at2 (V m c main_arg2) i x * at2 (V m c main_arg0) j x + at2 (V m c main_arg3) i x * at2 (V m c main_arg1) j x

theorem add_block (c : Dev nD) (t : Fin grid0.N) (acc : Vec Ideal S768x1024 .f32) (r : Fin 768) (s : Fin 1024)
    (h : acc (ix2 r s) = ∑ x ∈ range (t.val % 2 * 1408), term m c (768 * (t.val / 2) + r.val) s.val x) :
    k0_pay2 (iblk m c 0 t) (iblk m c 1 t) (iblk m c 2 t) (iblk m c 3 t) acc (ix2 r s) = ∑ x ∈ range ((t.val % 2 + 1) * 1408), term m c (768 * (t.val / 2) + r.val) s.val x := by
  rw [step_apply, h, ← next]
  refine congrArg _ (Finset.sum_congr rfl fun x _ => ?_)
  rw [iblk0, iblk1, iblk2, iblk3]

theorem scratch (c : Dev nD) (n : ℕ) (h : n < cfg0.N) (h0 : n % 2 = 0) (r : Fin 768) (s : Fin 1024) :
    (outsAt0 m c n h).2 (ix2 r s) = ∑ x ∈ range ((n % 2 + 1) * 1408), term m c (768 * (n / 2) + r.val) s.val x := by
  rw [outsAt0_A m c ⟨n, h⟩ h0 (by dsimp only; omega)]
  dsimp only
  rw [first]
  exact add_block m c ⟨n, h⟩ _ r s (by rw [zero_apply]; simp [h0])

/-- What the point that writes a block back leaves in it. -/
theorem flushed (c : Dev nD) (n : ℕ) (h : n < cfg0.N) (h1 : n % 2 = 1) (r : Fin 768) (s : Fin 1024) :
    (outsAt0 m c n h).1 (ix2 r s) = ∑ x ∈ range 2816, term m c (768 * (n / 2) + r.val) s.val x := by
  obtain ⟨k, rfl⟩ : ∃ k, n = k + 1 := ⟨n - 1, by omega⟩
  have h0 : ¬(k + 1) % 2 = 0 := by omega
  have ha := fun q => add_block m c ⟨k + 1, h⟩ (outsAt0 m c k q).2 r s (by
    rw [scratch m c k q (by omega), show k % 2 + 1 = (k + 1) % 2 by omega, show k / 2 = (k + 1) / 2 by omega])
  dsimp only at ha
  rw [h1] at ha
  rw [outsAt0_B m c ⟨k + 1, h⟩ h0 h1]
  dsimp only
  rw [written]
  exact ha _

theorem total (c : Dev nD) (i : Fin 8448) (j : Fin 1024) :
    Value.G4 m c (ix2 i j) = ∑ x ∈ range 2816, term m c i.val j.val x := by
  have hp : Value.pt4Of (ix2 i j) < cfg0.N := by
    rw [show cfg0.N = 22 from N_0]
    show 2 * (1 * (i.val / 768 - 0) + 1 * (j.val / 1024 - 0)) + 1 < 22
    omega
  have hn : Value.pt4Of (ix2 i j) = 2 * (i.val / 768) + 1 := by
    show 2 * (1 * (i.val / 768 - 0) + 1 * (j.val / 1024 - 0)) + 1 = _
    omega
  have hl : Value.loc4Of (ix2 i j) = ix2 ⟨i.val % 768, Nat.mod_lt _ (by decide)⟩ j := by
    refine idx2_val _ _ _ _ _ rfl ?_
    show j.val % 1024 = j.val
    omega
  unfold Value.G4
  rw [dif_pos hp, ← Value.outsAt0_sweep m c _ hp, hl, flushed m c _ hp (by omega)]
  show ∑ x ∈ range 2816, term m c (768 * (Value.pt4Of (ix2 i j) / 2) + i.val % 768) j.val x = _
  rw [show 768 * (Value.pt4Of (ix2 i j) / 2) + i.val % 768 = i.val by rw [hn]; omega]

/-! ## The reference's result -/

theorem product (x : Vec Ideal S8448x2816 .bf16) (w : Vec Ideal S1024x2816 .bf16) (i : Fin 8448) (j : Fin 1024) (k : Fin 2816) :
    x (ix2 i k) * w (ix2 j k) = at2 x i.val k.val * at2 w j.val k.val := by
  rw [at2_ix x, at2_ix w]

theorem reference_apply (x0 x1 : Vec Ideal S1024x2816 .bf16) (x2 x3 : Vec Ideal S8448x2816 .bf16) (i : Fin 8448) (j : Fin 1024) :
    DnRefIdeal.Read.val_main_v9 (F := Ideal) x0 x1 x2 x3 (ix2 i j) = ∑ x ∈ range 2816, (at2 x2 i.val x * at2 x0 j.val x + at2 x3 i.val x * at2 x1 j.val x) := by
  have h7 : DnRefIdeal.Read.val_main_v7 (F := Ideal) x1 x3 (ix2 i j) = ∑ x ∈ range 2816, at2 x3 i.val x * at2 x1 j.val x := by
    refine (DnRefIdeal.Read.val_main_v7_apply x1 x3 _).trans ?_
    rw [← Fin.sum_univ_eq_sum_range (fun x => at2 x3 i.val x * at2 x1 j.val x)]
    refine Finset.sum_congr rfl fun x _ => ?_
    rw [DnRefIdeal.Read.val_main_v3_apply, DnRefIdeal.Read.val_main_v1_apply,
      idx2_val (DnRefIdeal.Read.lidx_main_v7 _ x) i.val x.val i.isLt x.isLt rfl rfl, idx2_val (DnRefIdeal.Read.ridx_main_v7 _ x) j.val x.val j.isLt x.isLt rfl rfl]
    exact product x3 x1 i j x
  have h8 : DnRefIdeal.Read.val_main_v8 (F := Ideal) x0 x2 (ix2 i j) = ∑ x ∈ range 2816, at2 x2 i.val x * at2 x0 j.val x := by
    refine (DnRefIdeal.Read.val_main_v8_apply x0 x2 _).trans ?_
    rw [← Fin.sum_univ_eq_sum_range (fun x => at2 x2 i.val x * at2 x0 j.val x)]
    refine Finset.sum_congr rfl fun x _ => ?_
    rw [DnRefIdeal.Read.val_main_v2_apply, DnRefIdeal.Read.val_main_v0_apply,
      idx2_val (DnRefIdeal.Read.lidx_main_v8 _ x) i.val x.val i.isLt x.isLt rfl rfl, idx2_val (DnRefIdeal.Read.ridx_main_v8 _ x) j.val x.val j.isLt x.isLt rfl rfl]
    exact product x2 x0 i j x
  rw [DnRefIdeal.Read.val_main_v9_apply, h7, h8, Finset.sum_add_distrib]
  exact add_comm _ _

/-! ## The two programs -/

theorem algebraic : Cert.algebraic_DnIdeal_DnRefIdeal := by
  intro m g m' g' _ ha
  refine ⟨Value.G4 m, Value.run (F := Ideal) m g, ?_⟩
  refine (θ_run _ _ _).mono (fun r h c => ?_) (DnRefIdeal.Value.run (F := Ideal) m' g')
  obtain ⟨h0, h1⟩ := h c
  obtain ⟨a0, a1, a2, a3⟩ := ha c
  refine ⟨h0.trans ?_, h1⟩
  rw [DnRefIdeal.Read.val_main_v9_eq, a0, a1, a2, a3]
  funext i
  obtain ⟨a, b, rfl⟩ := idx2 (m := 8448) (n := 1024) i
  exact (reference_apply _ _ _ _ a b).trans (total m c a b).symm

end Cert.DnIdeal.Sums
-- ==== Proof.DwaValue.lean ====
module

public import proofs.«01_k».proof.Proof.Gen.DwaIdeal.Value
public import proofs.«01_k».proof.Defs
public import proofs.«01_k».proof.Proof.Gen.DwaRefIdeal.Run
public import proofs.«01_k».proof.Proof.Gen.DwaRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! The gradient of an up projection's weights, written shard by shard. -/

@[expose] public section

set_option maxRecDepth 16384
set_option maxHeartbeats 1000000
noncomputable section

namespace Cert.DwaIdeal.Sums

open Idealize.ShloMosaic Idealize.ShloMosaic.TcCoe Idealize.ShloMosaic.Tactic Idealize.SL.Sem Cert.DwaIdeal Cert.DwaIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S1408x512 .bf16) (h3 : a3.IsWhole) (a4 : Memref sig .tc .vmem S1408x2816 .bf16) (h4 : a4.IsWhole)
  (a5 : Memref sig .tc .vmem S8x512x352 .bf16) (h5 : a5.IsWhole) (a6 : Memref sig .tc .vmem S512x2816 .f32) (h6 : a6.IsWhole)
  (x : Vec Ideal S1408x512 .bf16) (y : Vec Ideal S1408x2816 .bf16) (acc : Vec Ideal S512x2816 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x2816) hz]
  simp only [View.readAt_eq_ld, View.readCov_unit_zero (S := S512x2816) _ hz, h3.read_unread, h4.read_unread, View.ld_unit_zero (S := S1408x512) hz, View.ld_unit_zero (S := S1408x2816) hz, View.ld_unit_zero (S := S512x2816) hz]

theorem middle (hc0 : ¬cond0_0 i) (hc1 : ¬cond0_1 i) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero (S := S512x2816) hz]
  simp only [View.readAt_eq_ld, h3.read_unread, h4.read_unread, h6.read_unread, View.ld_unit_zero (S := S1408x512) hz, View.ld_unit_zero (S := S1408x2816) hz, View.ld_unit_zero (S := S512x2816) hz]

theorem last (hc0 : ¬cond0_0 i) (hc1 : cond0_1 i) :
    sout0_C_0 c i a3 h3 a4 h4 a5 h5 a6 h6 hc0 hc1 x y acc = k0_pay2 x y acc := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero (S := S512x2816) hz]
  simp only [View.readAt_eq_ld, h3.read_unread, h4.read_unread, h6.read_unread, View.ld_unit_zero (S := S1408x512) hz, View.ld_unit_zero (S := S1408x2816) hz, View.ld_unit_zero (S := S512x2816) hz]

/-- A shard's piece, at an index of the block that it holds. -/
theorem shard (Z : Vec Ideal S512x2816 .f32) (o : ℕ) (inb : ∀ a, ![0, o] a + S512x352.size a ≤ S512x2816.size a) (u : S1x512x352.Idx)
    (r : Fin 512) (s : Fin 2816) (h1 : r.val = (u 1).val) (h2 : s.val = o + (u 2).val) :
    k0_pay5 (F := Ideal) (View.ld Z (Rect.unit (s := S512x2816) ![0, o] S512x352.size inb)) u = (Z (ix2 r s) : EReal) := by
  rw [ValueIdx.eq_ix3 (n0 := 1) (n1 := 512) (n2 := 352) u]
  refine Eq.trans (b := View.ld Z (Rect.unit (s := S512x2816) ![0, o] S512x352.size inb) (ix2 (u 1) (u 2))) ?_ ?_
  · generalize View.ld Z (Rect.unit (s := S512x2816) ![0, o] S512x352.size inb) = W
    pointwise [k0_pay5]
  · refine View.ld_unit_apply_of (S := S512x2816) Z _ _ _ _ _ fun a => ?_
    match a with
    | ⟨0, _⟩ => exact h1.trans (Nat.zero_add _).symm
    | ⟨1, _⟩ => exact h2

/-- Where an index of the block lies in the scratch. -/
abbrev place (q : Fin 8) (s : Fin 352) : Fin 2816 := ⟨352 * q.val + s.val, by omega⟩

/-- A part of the scratch, loaded after the whole of it was written. -/
theorem loaded (v : View sig Kind.tc Space.vmem S512x2816 .f32) (Z : Vec Ideal S512x2816 .f32) (o : ℕ)
    (w : ∀ a, (![0, 0] : Fin 2 → ℕ) a + ![512, 2816] a ≤ S512x2816.size a)
    (inb : ∀ a, (![0, o] : Fin 2 → ℕ) a + ![512, 352] a ≤ S512x2816.size a) :
    v.readCov [⟨Rect.unit (s := S512x2816) ![0, 0] ![512, 2816] w, Z⟩] (Rect.unit (s := S512x2816) ![0, o] ![512, 352] inb).toLoadRect
      = View.ld Z (Rect.unit (s := S512x2816) ![0, o] ![512, 352] inb) :=
  View.readCov_fill (Val := Elt Ideal) (s := S512x2816) v (off := ![0, 0]) w Z [] (Rect.unit (s := S512x2816) ![0, o] ![512, 352] inb) (by decide)

theorem written (hc0 : ¬cond0_0 i) (hc1 : cond0_1 i) (q : Fin 8) (r : Fin 512) (s : Fin 352) :
    out0_C_2 c i a3 h3 a4 h4 a5 h5 a6 h6 hc0 hc1 x y acc (ix3 q r s) = k0_pay2 x y acc (ix2 r (place q s)) := by
  unfold out0_C_2
  rw [View.read_writes_eq_canon _ _ _ (cover0_C_2 c i a3 h3 a4 h4 a5 h5 a6 h6 hc0 hc1 x y acc)]
  have hcov := cover0_C_2 c i a3 h3 a4 h4 a5 h5 a6 h6 hc0 hc1 x y acc (ix3 q r s)
  revert hcov
  unfold kernelRun0_C
  dsimp only
  sl_unfold_words
  simp only [View.readAt_eq_ld, h3.read_unread, h4.read_unread, h6.read_unread, View.ld_unit_zero (S := S1408x512) hz, View.ld_unit_zero (S := S1408x2816) hz, View.ld_unit_zero (S := S512x2816) hz]
  generalize k0_pay2 x y acc = Z
  intro hcov
  canon_tiles u h using hcov
  all_goals
    rw [loaded]
    exact shard Z _ _ u r (place q s) h1 (by show 352 * q.val + s.val = _; change q.val = _ at h0; change s.val = _ at h2; omega)

theorem zero_apply (r : Fin 512) (s : Fin 2816) : k0_pay1 (F := Ideal) (ix2 r s) = (0 : EReal) := by
  pointwise [k0_pay1]

theorem step_apply (r : Fin 512) (s : Fin 2816) :
    k0_pay2 x y acc (ix2 r s) = acc (ix2 r s) + ∑ k : Fin 1408, x (ix2 k r) * y (ix2 k s) := by
  pointwise [k0_pay2]

end

theorem index : ∀ t : Fin grid0.N, win0_0.index t = ![t.val % 6, t.val / 6] ∧ win0_1.index t = ![t.val % 6, 0] := by
  decide +kernel

theorem iblk0 (c : Dev nD) (t : Fin grid0.N) (a : Fin 1408) (b : Fin 512) :
    iblk m c 0 t (ix2 a b) = at2 (V m c main_arg0) (1408 * (t.val % 6) + a.val) (512 * (t.val / 6) + b.val) := by
  have h : t.val < 12 := t.isLt.trans_eq N_0
  have e : ((cfg0.win 0).index t) = ![t.val % 6, t.val / 6] := (index t).1
  refine Eq.trans ?_ (at2_ix (V m c main_arg0) ⟨1408 * (t.val % 6) + a.val, by omega⟩ ⟨512 * (t.val / 6) + b.val, by omega⟩)
  blk_ext [iblk, e]
theorem iblk1 (c : Dev nD) (t : Fin grid0.N) (a : Fin 1408) (b : Fin 2816) :
    iblk m c 1 t (ix2 a b) = at2 (V m c main_arg1) (1408 * (t.val % 6) + a.val) b.val := by
  have h : t.val < 12 := t.isLt.trans_eq N_0
  have e : ((cfg0.win 1).index t) = ![t.val % 6, 0] := (index t).2
  refine Eq.trans ?_ (at2_ix (V m c main_arg1) ⟨1408 * (t.val % 6) + a.val, by omega⟩ b)
  blk_ext [iblk, e]

abbrev term (c : Dev nD) (i j x : ℕ) : EReal := at2 (V m c main_arg0) x i * at2 (V m c main_arg1) x j

theorem add_block (c : Dev nD) (t : Fin grid0.N) (acc : Vec Ideal S512x2816 .f32) (r : Fin 512) (s : Fin 2816)
    (h : acc (ix2 r s) = ∑ x ∈ range (t.val % 6 * 1408), term m c (512 * (t.val / 6) + r.val) s.val x) :
    k0_pay2 (iblk m c 0 t) (iblk m c 1 t) acc (ix2 r s) = ∑ x ∈ range ((t.val % 6 + 1) * 1408), term m c (512 * (t.val / 6) + r.val) s.val x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 512) (s : Fin 2816),
    (outsAt0 m c n h).2 (ix2 r s) = ∑ x ∈ range ((n % 6 + 1) * 1408), term m c (512 * (n / 6) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have e1 : (n + 1) / 6 = n / 6 := by omega
      have e2 : (n + 1) % 6 = n % 6 + 1 := by omega
      have ha : (outsAt0 m c n (Nat.lt_of_succ_lt h)).2 (ix2 r s) = ∑ x ∈ range ((n + 1) % 6 * 1408), term m c (512 * ((n + 1) / 6) + r.val) s.val x := by
        rw [hp, e1, e2]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (q : Fin 8) (r : Fin 512) (s : Fin 352) :
    (outsAt0 m c n h).1 (ix3 q r s) = ∑ x ∈ range 8448, term m c (512 * (n / 6) + r.val) (352 * q.val + s.val) x := by
  obtain ⟨k, rfl⟩ : ∃ k, n = k + 1 := ⟨n - 1, by omega⟩
  have h0 : ¬(k + 1) % 6 = 0 := by omega
  rw [outsAt0_C m c ⟨k + 1, h⟩ h0 h1]
  dsimp only
  rw [written, add_block m c ⟨k + 1, h⟩ _ r (place q s) (by
    show (outsAt0 m c k _).2 (ix2 r (place q s)) = _
    rw [scratch, show k % 6 + 1 = (k + 1) % 6 by omega, show k / 6 = (k + 1) / 6 by omega])]
  dsimp only
  rw [h1]

theorem total (c : Dev nD) (q : Fin 8) (i : Fin 1024) (j : Fin 352) :
    Value.G2 m c (ix3 q i j) = ∑ x ∈ range 8448, term m c i.val (352 * q.val + j.val) x := by
  have hp : Value.pt2Of (ix3 q i j) < cfg0.N := by
    rw [show cfg0.N = 12 from N_0]
    show 6 * (2 * (q.val / 8 - 0) + 1 * (i.val / 512 - 0) + 1 * (j.val / 352 - 0)) + 5 < 12
    omega
  have hn : Value.pt2Of (ix3 q i j) = 6 * (i.val / 512) + 5 := by
    show 6 * (2 * (q.val / 8 - 0) + 1 * (i.val / 512 - 0) + 1 * (j.val / 352 - 0)) + 5 = _
    omega
  have hl : Value.loc2Of (ix3 q i j) = ix3 q ⟨i.val % 512, Nat.mod_lt _ (by decide)⟩ j := by
    funext a
    match a with
    | ⟨0, _⟩ => exact Fin.ext (Nat.mod_eq_of_lt q.isLt)
    | ⟨1, _⟩ => rfl
    | ⟨2, _⟩ => exact Fin.ext (Nat.mod_eq_of_lt j.isLt)
  unfold Value.G2
  rw [dif_pos hp, ← Value.outsAt0_sweep m c _ hp, hl, flushed m c _ hp (by omega)]
  show ∑ x ∈ range 8448, term m c (512 * (Value.pt2Of (ix3 q i j) / 6) + i.val % 512) (352 * q.val + j.val) x = _
  rw [show 512 * (Value.pt2Of (ix3 q i j) / 6) + i.val % 512 = i.val by rw [hn]; omega]

/-! ## The reference's result -/

theorem reference_apply (x0 : Vec Ideal S8448x1024 .bf16) (x1 : Vec Ideal S8448x2816 .bf16) (q : Fin 8) (i : Fin 1024) (j : Fin 352) :
    DwaRefIdeal.Read.val_main_v8 (F := Ideal) x0 x1 (ix3 q i j) = ∑ x ∈ range 8448, at2 x0 x i.val * at2 x1 x (352 * q.val + j.val) := by
  rw [DwaRefIdeal.Read.val_main_v8_apply, DwaRefIdeal.Read.val_main_v7_apply, DwaRefIdeal.Read.val_main_v6_apply, DwaRefIdeal.Read.val_main_v5_apply]
  refine (DwaRefIdeal.Read.val_main_v4_apply x0 x1 _).trans ?_
  rw [← Fin.sum_univ_eq_sum_range (fun x => at2 x0 x i.val * at2 x1 x (352 * q.val + j.val))]
  refine Finset.sum_congr rfl fun x _ => ?_
  have hi : ((i.val * 8 + q.val) * 352 + j.val) / 2816 = i.val := by omega
  have hj : ((i.val * 8 + q.val) * 352 + j.val) % 2816 = 352 * q.val + j.val := by omega
  rw [DwaRefIdeal.Read.val_main_v1_apply, DwaRefIdeal.Read.val_main_v0_apply,
    idx2_val (DwaRefIdeal.Read.lidx_main_v4 _ x) x.val (352 * q.val + j.val) x.isLt (by omega) rfl hj, idx2_val (DwaRefIdeal.Read.ridx_main_v4 _ x) x.val i.val x.isLt i.isLt rfl hi]
  show x1 (ix2 x (place q j)) * x0 (ix2 x i) = _
  rw [at2_ix x1, at2_ix x0, mul_comm]

/-! ## The two programs -/

theorem algebraic : Cert.algebraic_DwaIdeal_DwaRefIdeal := by
  intro m g m' g' _ ha
  refine ⟨Value.G2 m, Value.run (F := Ideal) m g, ?_⟩
  refine (θ_run _ _ _).mono (fun r h c => ?_) (DwaRefIdeal.Value.run (F := Ideal) m' g')
  obtain ⟨h0, h1⟩ := h c
  obtain ⟨a0, a1⟩ := ha c
  refine ⟨h0.trans ?_, h1⟩
  rw [DwaRefIdeal.Read.val_main_v8_eq, a0, a1]
  funext i
  rw [ValueIdx.eq_ix3 (n0 := 8) (n1 := 1024) (n2 := 352) i]
  exact (reference_apply _ _ _ _ _).trans (total m c _ _ _).symm

end Cert.DwaIdeal.Sums
-- ==== Proof.DownValue.lean ====
module

public import proofs.«01_k».proof.Proof.Gen.DownIdeal.Value
public import proofs.«01_k».proof.Defs
public import proofs.«01_k».proof.Proof.Gen.DownRefIdeal.Run
public import proofs.«01_k».proof.Proof.Gen.DownRefIdeal.Read
public import proofs.«01_k».proof.Proof.Blocked
public import Idealize.ShloMosaic.Lib.Pipeline.ValueKit
public import Idealize.ShloMosaic.Lib.Pipeline.Covers

/-! The feed-forward part's down projection, its result added to the residual stream. -/

@[expose] public section

set_option maxRecDepth 16384
set_option maxHeartbeats 1000000
noncomputable section

namespace Cert.DownIdeal.Sums

open Idealize.ShloMosaic Idealize.ShloMosaic.TcCoe Idealize.ShloMosaic.Tactic Idealize.SL.Sem Cert.DownIdeal Cert.DownIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1408 .bf16) (h3 : a3.IsWhole) (a4 : Memref sig .tc .vmem S1408x1024 .bf16) (h4 : a4.IsWhole) (a5 : Memref sig .tc .vmem S768x1024 .f32) (h5 : a5.IsWhole) (a6 : Memref sig .tc .vmem S768x1024 .f32) (h6 : a6.IsWhole) (a7 : Memref sig .tc .vmem S768x1024 .f32) (h7 : a7.IsWhole)
  (x : Vec Ideal S768x1408 .bf16) (y : Vec Ideal S1408x1024 .bf16) (z : Vec Ideal S768x1024 .f32) (acc : Vec Ideal S768x1024 .f32)

theorem first (hc0 : cond0_0 i) (hc1 : ¬cond0_1 i) :
    sout0_A_0 c i a3 h3 a4 h4 a5 h5 a6 h6 a7 h7 hc0 hc1 x y z = k0_pay2 x y (k0_pay1 (F := Ideal)) := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero (S := S768x1024) hz]
  simp only [View.readAt_eq_ld, View.readCov_unit_zero (S := S768x1024) _ hz, h3.read_unread, h4.read_unread, h5.read_unread, View.ld_unit_zero (S := S768x1408) hz, View.ld_unit_zero (S := S1408x1024) hz, View.ld_unit_zero (S := S768x1024) hz]

theorem written (hc0 : ¬cond0_0 i) (hc1 : cond0_1 i) :
    out0_B_3 c i a3 h3 a4 h4 a5 h5 a6 h6 a7 h7 hc0 hc1 x y z acc = k0_pay3 (k0_pay2 x y acc) z := by
  unfold out0_B_3
  rw [View.read_writes_eq_canon _ _ _ (cover0_B_3 c i a3 h3 a4 h4 a5 h5 a6 h6 a7 h7 hc0 hc1 x y z acc)]
  unfold kernelRun0_B
  dsimp only
  sl_unfold_words
  rw [View.canon_unit_zero (S := S768x1024) hz]
  simp only [View.readAt_eq_ld, View.readCov_unit_zero (S := S768x1024) _ hz, h3.read_unread, h4.read_unread, h5.read_unread, h7.read_unread, View.ld_unit_zero (S := S768x1408) hz, View.ld_unit_zero (S := S1408x1024) hz, View.ld_unit_zero (S := S768x1024) hz]

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1408, x (ix2 r k) * y (ix2 k s) := by
  pointwise [k0_pay2]

theorem out_apply (r : Fin 768) (s : Fin 1024) :
    k0_pay3 acc z (ix2 r s) = z (ix2 r s) + acc (ix2 r s) * (((1 / 2 : ℝ) : ℝ) : EReal) := by
  pointwise [k0_pay3]
  rw [← half_eq]
  rfl

end

theorem index : ∀ t : Fin grid0.N, win0_0.index t = ![t.val / 2, t.val % 2] ∧ win0_1.index t = ![t.val % 2, 0] ∧ win0_2.index t = ![t.val / 2, 0] := by
  decide +kernel

theorem iblk0 (c : Dev nD) (t : Fin grid0.N) (a : Fin 768) (b : Fin 1408) :
    iblk m c 0 t (ix2 a b) = at2 (V m c main_arg1) (768 * (t.val / 2) + a.val) (1408 * (t.val % 2) + b.val) := by
  have h : t.val < 22 := t.isLt.trans_eq N_0
  have e : ((cfg0.win 0).index t) = ![t.val / 2, t.val % 2] := (index t).1
  refine Eq.trans ?_ (at2_ix (V m c main_arg1) ⟨(768 * (t.val / 2) + a.val), by omega⟩ ⟨(1408 * (t.val % 2) + b.val), by omega⟩)
  blk_ext [iblk, e]
theorem iblk1 (c : Dev nD) (t : Fin grid0.N) (a : Fin 1408) (b : Fin 1024) :
    iblk m c 1 t (ix2 a b) = at2 (V m c main_arg2) (1408 * (t.val % 2) + a.val) b.val := by
  have h : t.val < 22 := t.isLt.trans_eq N_0
  have e : ((cfg0.win 1).index t) = ![t.val % 2, 0] := (index t).2.1
  refine Eq.trans ?_ (at2_ix (V m c main_arg2) ⟨(1408 * (t.val % 2) + a.val), by omega⟩ b)
  blk_ext [iblk, e]
theorem iblk2 (c : Dev nD) (t : Fin grid0.N) (a : Fin 768) (b : Fin 1024) :
    iblk m c 2 t (ix2 a b) = at2 (V m c main_arg0) (768 * (t.val / 2) + a.val) b.val := by
  have h : t.val < 22 := t.isLt.trans_eq N_0
  have e : ((cfg0.win 2).index t) = ![t.val / 2, 0] := (index t).2.2
  refine Eq.trans ?_ (at2_ix (V m c main_arg0) ⟨(768 * (t.val / 2) + a.val), by omega⟩ b)
  blk_ext [iblk, e]

abbrev term (c : Dev nD) (i j x : ℕ) : EReal := at2 (V m c main_arg1) i x * at2 (V m c main_arg2) x j

theorem add_block (c : Dev nD) (t : Fin grid0.N) (acc : Vec Ideal S768x1024 .f32) (r : Fin 768) (s : Fin 1024)
    (h : acc (ix2 r s) = ∑ x ∈ range (t.val % 2 * 1408), term m c (768 * (t.val / 2) + r.val) s.val x) :
    k0_pay2 (iblk m c 0 t) (iblk m c 1 t) acc (ix2 r s) = ∑ x ∈ range ((t.val % 2 + 1) * 1408), term m c (768 * (t.val / 2) + r.val) s.val x := by
  rw [step_apply, h, ← next]
  refine congrArg _ (Finset.sum_congr rfl fun x _ => ?_)
  rw [iblk0, iblk1]

theorem scratch (c : Dev nD) (n : ℕ) (h : n < cfg0.N) (h0 : n % 2 = 0) (r : Fin 768) (s : Fin 1024) :
    (outsAt0 m c n h).2 (ix2 r s) = ∑ x ∈ range ((n % 2 + 1) * 1408), term m c (768 * (n / 2) + r.val) s.val x := by
  rw [outsAt0_A m c ⟨n, h⟩ h0 (by dsimp only; omega)]
  dsimp only
  rw [first]
  exact add_block m c ⟨n, h⟩ _ r s (by rw [zero_apply]; simp [h0])

/-- What the point that writes a block back leaves in it. -/
theorem flushed (c : Dev nD) (n : ℕ) (h : n < cfg0.N) (h1 : n % 2 = 1) (r : Fin 768) (s : Fin 1024) :
    (outsAt0 m c n h).1 (ix2 r s) = at2 (V m c main_arg0) (768 * (n / 2) + r.val) s.val + (∑ x ∈ range 2816, term m c (768 * (n / 2) + r.val) s.val x) * (((1 / 2 : ℝ) : ℝ) : EReal) := by
  obtain ⟨k, rfl⟩ : ∃ k, n = k + 1 := ⟨n - 1, by omega⟩
  have h0 : ¬(k + 1) % 2 = 0 := by omega
  have ha := fun q => add_block m c ⟨k + 1, h⟩ (outsAt0 m c k q).2 r s (by
    rw [scratch m c k q (by omega), show k % 2 + 1 = (k + 1) % 2 by omega, show k / 2 = (k + 1) / 2 by omega])
  dsimp only at ha
  rw [h1] at ha
  rw [outsAt0_B m c ⟨k + 1, h⟩ h0 h1]
  dsimp only
  rw [written, out_apply, iblk2]
  exact congrArg (fun z : EReal => at2 (V m c main_arg0) (768 * ((k + 1) / 2) + r.val) s.val + z * (((1 / 2 : ℝ) : ℝ) : EReal)) (ha _)

theorem total (c : Dev nD) (i : Fin 8448) (j : Fin 1024) :
    Value.G3 m c (ix2 i j) = at2 (V m c main_arg0) i.val j.val + (∑ x ∈ range 2816, term m c i.val j.val x) * (((1 / 2 : ℝ) : ℝ) : EReal) := by
  have hp : Value.pt3Of (ix2 i j) < cfg0.N := by
    rw [show cfg0.N = 22 from N_0]
    show 2 * (1 * (i.val / 768 - 0) + 1 * (j.val / 1024 - 0)) + 1 < 22
    omega
  have hn : Value.pt3Of (ix2 i j) = 2 * (i.val / 768) + 1 := by
    show 2 * (1 * (i.val / 768 - 0) + 1 * (j.val / 1024 - 0)) + 1 = _
    omega
  have hl : Value.loc3Of (ix2 i j) = ix2 ⟨i.val % 768, Nat.mod_lt _ (by decide)⟩ j := by
    refine idx2_val _ _ _ _ _ rfl ?_
    show j.val % 1024 = j.val
    omega
  unfold Value.G3
  rw [dif_pos hp, ← Value.outsAt0_sweep m c _ hp, hl, flushed m c _ hp (by omega)]
  show at2 (V m c main_arg0) (768 * (Value.pt3Of (ix2 i j) / 2) + i.val % 768) j.val + (∑ x ∈ range 2816, term m c (768 * (Value.pt3Of (ix2 i j) / 2) + i.val % 768) j.val x) * (((1 / 2 : ℝ) : ℝ) : EReal) = _
  rw [show 768 * (Value.pt3Of (ix2 i j) / 2) + i.val % 768 = i.val by rw [hn]; omega]

/-! ## The reference's result -/

theorem reference_apply (x0 : Vec Ideal S8448x1024 .f32) (x1 : Vec Ideal S8448x2816 .bf16) (x2 : Vec Ideal S2816x1024 .bf16) (i : Fin 8448) (j : Fin 1024) :
    DownRefIdeal.Read.val_main_v5 (F := Ideal) x0 x1 x2 (ix2 i j) = at2 x0 i.val j.val + (∑ x ∈ range 2816, at2 x1 i.val x * at2 x2 x j.val) * (((1 / 2 : ℝ) : ℝ) : EReal) := by
  have hs : DownRefIdeal.Read.val_main_v2 (F := Ideal) x1 x2 (ix2 i j) = ∑ x ∈ range 2816, at2 x1 i.val x * at2 x2 x j.val := by
    refine (DownRefIdeal.Read.val_main_v2_apply x1 x2 _).trans ?_
    rw [← Fin.sum_univ_eq_sum_range (fun x => at2 x1 i.val x * at2 x2 x j.val)]
    refine Finset.sum_congr rfl fun x _ => ?_
    rw [DownRefIdeal.Read.val_main_v0_apply, DownRefIdeal.Read.val_main_v1_apply,
      idx2_val (DownRefIdeal.Read.lidx_main_v2 _ x) i.val x.val i.isLt x.isLt rfl rfl, idx2_val (DownRefIdeal.Read.ridx_main_v2 _ x) x.val j.val x.isLt j.isLt rfl rfl]
    show x1 (ix2 i x) * x2 (ix2 x j) = _
    rw [at2_ix x1, at2_ix x2]
  rw [DownRefIdeal.Read.val_main_v5_apply, DownRefIdeal.Read.val_main_v4_apply, DownRefIdeal.Read.val_main_v3_apply, DownRefIdeal.Read.val_main_cst_apply, hs, half_eq]
  show x0 (ix2 i j) + _ * _ = _
  rw [at2_ix x0, mul_comm]

/-! ## The two programs -/

theorem algebraic : Cert.algebraic_DownIdeal_DownRefIdeal := by
  intro m g m' g' _ ha
  refine ⟨Value.G3 m, Value.run (F := Ideal) m g, ?_⟩
  refine (θ_run _ _ _).mono (fun r h c => ?_) (DownRefIdeal.Value.run (F := Ideal) m' g')
  obtain ⟨h0, h1⟩ := h c
  obtain ⟨a0, a1, a2⟩ := ha c
  refine ⟨h0.trans ?_, h1⟩
  rw [DownRefIdeal.Read.val_main_v5_eq, a0, a1, a2]
  funext i
  obtain ⟨a, b, rfl⟩ := idx2 (m := 8448) (n := 1024) i
  exact (reference_apply _ _ _ a b).trans (total m c a b).symm

end Cert.DownIdeal.Sums
-- ==== Proof.ZxValue.lean ====
module

public import proofs.«01_k».proof.Proof.Gen.ZxIdeal.Value
public import proofs.«01_k».proof.Defs
public import proofs.«01_k».proof.Proof.Gen.ZxRefIdeal.Run
public import proofs.«01_k».proof.Proof.Gen.ZxRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! The state space layer's input projection, its columns for the gate and for the convolution. -/

@[expose] public section

set_option maxRecDepth 16384
set_option maxHeartbeats 1000000
noncomputable section

namespace Cert.ZxIdeal.Sums

open Idealize.ShloMosaic Idealize.ShloMosaic.TcCoe Idealize.ShloMosaic.Tactic Idealize.SL.Sem Cert.ZxIdeal Cert.ZxIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .bf16) (h3 : a3.IsWhole) (a4 : Memref sig .tc .vmem S1024x2048 .bf16) (h4 : a4.IsWhole) (a5 : Memref sig .tc .vmem S768x2048 .f32) (h5 : a5.IsWhole) (a6 : Memref sig .tc .vmem S768x2048 .f32) (h6 : a6.IsWhole)
  (x : Vec Ideal S768x1024 .bf16) (y : Vec Ideal S1024x2048 .bf16) (acc : Vec Ideal S768x2048 .f32)

theorem zero_apply (r : Fin 768) (s : Fin 2048) : k0_pay1 (F := Ideal) (ix2 r s) = (0 : EReal) := by
  pointwise [k0_pay1]

theorem step_apply (r : Fin 768) (s : Fin 2048) :
    k0_pay2 x y acc (ix2 r s) = acc (ix2 r s) + ∑ k : Fin 1024, x (ix2 r k) * y (ix2 k s) := by
  pointwise [k0_pay2]

/-- The scratch after its one step. -/
theorem sum_apply (r : Fin 768) (s : Fin 2048) :
    k0_pay2 x y (k0_pay1 (F := Ideal)) (ix2 r s) = (∑ k : Fin 1024, x (ix2 r k) * y (ix2 k s) : EReal) := by
  rw [step_apply, zero_apply, zero_add]

/-- The scratch, loaded after it was last written. -/
theorem loaded (v : View sig Kind.tc Space.vmem S768x2048 .f32) (Z : Vec Ideal S768x2048 .f32) (L : List (View.Piece (Elt Ideal) S768x2048 .f32))
    (w inb : ∀ a, (![0, 0] : Fin 2 → ℕ) a + ![768, 2048] a ≤ S768x2048.size a) :
    v.readCov (⟨Rect.unit (s := S768x2048) ![0, 0] ![768, 2048] w, Z⟩ :: L) (Rect.unit (s := S768x2048) ![0, 0] ![768, 2048] inb).toLoadRect = Z :=
  (View.readCov_fill (Val := Elt Ideal) (s := S768x2048) v (off := ![0, 0]) w Z L (Rect.unit (s := S768x2048) ![0, 0] ![768, 2048] inb) (by decide)).trans
    (View.ld_unit_zero (S := S768x2048) hz inb Z)

theorem written (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S768x2048) hz, loaded]
  simp only [View.readAt_eq_ld, View.readCov_unit_zero (S := S768x2048) _ hz, h3.read_unread, h4.read_unread, View.ld_unit_zero (S := S768x1024) hz, View.ld_unit_zero (S := S1024x2048) hz]

end

theorem index : ∀ t : Fin grid0.N, win0_0.index t = ![t.val / 3, 0] ∧ win0_1.index t = ![0, t.val % 3] ∧ win0_2.index t = ![t.val / 3, t.val % 3] := by
  decide +kernel

theorem sliced (c : Dev nD) : V m c main_v0 = extractStridedSlice S1024x6144 ![0, 0] (m ((c : Thread nD τ).loc main_arg1)) slices_S1024x6176_S1024x6144_0_0 := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem sliced_apply (c : Dev nD) (a : Fin 1024) (b : Fin 6144) : V m c main_v0 (ix2 a b) = at2 (m ((c : Thread nD τ).loc main_arg1)) a.val b.val := by
  refine (congrFun (sliced m c) _).trans (Eq.trans ?_ (at2_ix (m ((c : Thread nD τ).loc main_arg1)) a ⟨b.val, by omega⟩))
  exact extractStridedSlice_apply ![0, 0] (m ((c : Thread nD τ).loc main_arg1)) slices_S1024x6176_S1024x6144_0_0 (ix2 a b) (ix2 a ⟨b.val, by omega⟩) (fun a => match a with
    | ⟨0, _⟩ => (Nat.zero_add _).symm
    | ⟨1, _⟩ => (Nat.zero_add _).symm)

theorem iblk0 (c : Dev nD) (t : Fin grid0.N) (a : Fin 768) (b : Fin 1024) :
    iblk m c 0 t (ix2 a b) = at2 (m ((c : Thread nD τ).loc main_arg0)) (768 * (t.val / 3) + a.val) (b.val) := by
  have h : t.val < 33 := t.isLt.trans_eq N_0
  have e : ((cfg0.win 0).index t) = ![t.val / 3, 0] := (index t).1
  rw [← V_main_arg0 m c]
  refine Eq.trans ?_ (at2_ix (V m c main_arg0) ⟨768 * (t.val / 3) + a.val, by omega⟩ b)
  blk_ext [iblk, e]

theorem iblk1 (c : Dev nD) (t : Fin grid0.N) (a : Fin 1024) (b : Fin 2048) :
    iblk m c 1 t (ix2 a b) = at2 (m ((c : Thread nD τ).loc main_arg1)) (a.val) (2048 * (t.val % 3) + b.val) := by
  have h : t.val < 33 := t.isLt.trans_eq N_0
  have e : ((cfg0.win 1).index t) = ![0, t.val % 3] := (index t).2.1
  refine Eq.trans ?_ (sliced_apply m c a ⟨2048 * (t.val % 3) + b.val, by omega⟩)
  blk_ext [iblk, e]

/-- The product, at a row and a column. -/
def prod (c : Dev nD) (i j : ℕ) : EReal := ∑ x ∈ range 1024, at2 (m ((c : Thread nD τ).loc main_arg0)) i x * at2 (m ((c : Thread nD τ).loc main_arg1)) x j

theorem prod_blk (c : Dev nD) (t : Fin grid0.N) (r : Fin 768) (s : Fin 2048) :
    k0_pay2 (iblk m c 0 t) (iblk m c 1 t) (k0_pay1 (F := Ideal)) (ix2 r s) = prod m c (768 * (t.val / 3) + r.val) (2048 * (t.val % 3) + s.val) := by
  rw [sum_apply, prod, ← Fin.sum_univ_eq_sum_range]
  exact Finset.sum_congr rfl fun k _ => by rw [iblk0, iblk1]

/-- The kernel's result. -/
def G2 (c : Dev nD) : FVec Ideal S8448x6144 .f32 := fun i => prod m c (i 0).val (i 1).val

theorem index2 (i : grid0.Coords) : cc0_transform_2 i = ![(i 0).val, (i 1).val] := by
  have h0 : (i 0).val < 11 := (i 0).isLt
  have h1 : (i 1).val < 3 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem blocks : ∀ a : Fin 2, (S8448x6144.size a + S768x2048.size a - 1) / S768x2048.size a = (![11, 3] : Fin 2 → ℕ) a := by decide

theorem surj (β : (a : Fin 2) → Fin ((![11, 3] : Fin 2 → ℕ) a)) : ∃ i : grid0.Coords, ∀ a, cc0_transform_2 i a = (β a).val := by
  refine ⟨fun | ⟨0, _⟩ => β 0 | ⟨1, _⟩ => β 1 | ⟨2, _⟩ => (0 : Fin 1) | ⟨_ + 3, h⟩ => absurd h (by simp), fun a => ?_⟩
  rw [index2]
  match a with
  | ⟨0, _⟩ => rfl
  | ⟨1, _⟩ => rfl

theorem cover2 : (cfg0.win 2).Covers :=
  (cfg0.win 2).covers_of_indexMap_surj rfl (by decide : ∀ a : Fin 2, 0 < S768x2048.size a) fun β =>
    surj fun a => (⟨(β a).val, (β a).isLt.trans_eq (blocks a)⟩ : Fin ((![11, 3] : Fin 2 → ℕ) a))

/-- Where an index of a block lies in the array. -/
def spot (t : Fin grid0.N) (r : Fin 768) (s : Fin 2048) : S8448x6144.Idx :=
  have h : t.val < 33 := t.isLt.trans_eq N_0
  ix2 ⟨768 * (t.val / 3) + r.val, by omega⟩ ⟨2048 * (t.val % 3) + s.val, by omega⟩

theorem arr2 (c : Dev nD) : (dats m 0 c).arrAt 2 cfg0.N = G2 m c := by
  refine (dats m 0 c).arrAt_eq_of_covers 2 _ cover2 fun t _ y => ?_
  obtain ⟨r, s, rfl⟩ := idx2 (m := 768) (n := 2048) y
  have hp : ((cfg0.win 2).blk t).view.emb (ix2 r s) = spot t r s := by
    have e : ((cfg0.win 2).index t) = ![t.val / 3, t.val % 3] := (index t).2.2
    blk_ext [e, spot]
  rw [hp]
  refine (congrFun (after0_2 m c t) _).trans ?_
  unfold outsAt0
  rw [written]
  exact prod_blk m c t r s

/-! ## The reference's result -/

theorem reference_apply (x0 : Vec Ideal S8448x1024 .bf16) (x1 : Vec Ideal S1024x6176 .bf16) (i : Fin 8448) (j : Fin 6144) :
    ZxRefIdeal.Read.val_main_v3 (F := Ideal) x0 x1 (ix2 i j) = (∑ x ∈ range 1024, at2 x0 i.val x * at2 x1 x j.val : EReal) := by
  refine (ZxRefIdeal.Read.val_main_v3_apply x0 x1 _).trans ?_
  rw [← Fin.sum_univ_eq_sum_range (fun x => at2 x0 i.val x * at2 x1 x j.val)]
  refine Finset.sum_congr rfl fun x _ => ?_
  rw [ZxRefIdeal.Read.val_main_v0_apply, ZxRefIdeal.Read.val_main_v2_apply, ZxRefIdeal.Read.val_main_v1_apply,
    idx2_val (ZxRefIdeal.Read.lidx_main_v3 _ x) i.val x.val i.isLt x.isLt rfl rfl,
    idx2_val (ZxRefIdeal.Read.idx_main_v2 (ZxRefIdeal.Read.ridx_main_v3 _ x)) x.val j.val (by omega) (by omega) rfl rfl]
  show x0 (ix2 i x) * x1 (ix2 ⟨x.val, by omega⟩ ⟨j.val, by omega⟩) = _
  rw [at2_ix x0, at2_ix x1]

/-! ## The two programs -/

theorem algebraic : Cert.algebraic_ZxIdeal_ZxRefIdeal := by
  intro m g m' g' _ ha
  refine ⟨G2 m, ?_, ?_⟩
  · refine (θ_run _ _ _).mono (fun r h c => ?_) (Value.run_blocks (F := Ideal) m g)
    obtain ⟨h2, h3⟩ := h c
    exact ⟨h2.trans (arr2 m c), h3⟩
  refine (θ_run _ _ _).mono (fun r h c => ?_) (ZxRefIdeal.Value.run (F := Ideal) m' g')
  obtain ⟨h0, h1⟩ := h c
  obtain ⟨a0, a1⟩ := ha c
  refine ⟨h0.trans ?_, h1⟩
  rw [ZxRefIdeal.Read.val_main_v3_eq, a0, a1]
  funext i
  obtain ⟨a, b, rfl⟩ := idx2 (m := 8448) (n := 6144) i
  exact reference_apply _ _ a b

end Cert.ZxIdeal.Sums
-- ==== Proof.DwzValue.lean ====
module

public import proofs.«01_k».proof.Proof.Gen.DwzIdeal.Value
public import proofs.«01_k».proof.Defs
public import proofs.«01_k».proof.Proof.Gen.DwzRefIdeal.Run
public import proofs.«01_k».proof.Proof.Gen.DwzRefIdeal.Read
public import proofs.«01_k».proof.Proof.Blocked
public import Idealize.ShloMosaic.Lib.Pipeline.ValueKit
public import Idealize.ShloMosaic.Lib.Pipeline.Covers

/-! The gradient of the columns of the state space layer's input projection that make the gate. -/

@[expose] public section

set_option maxRecDepth 16384
set_option maxHeartbeats 1000000
noncomputable section

namespace Cert.DwzIdeal.Sums

open Idealize.ShloMosaic Idealize.ShloMosaic.TcCoe Idealize.ShloMosaic.Tactic Idealize.SL.Sem Cert.DwzIdeal Cert.DwzIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S1408x512 .bf16) (h3 : a3.IsWhole) (a4 : Memref sig .tc .vmem S1408x1024 .f32) (h4 : a4.IsWhole) (a5 : Memref sig .tc .vmem S512x1024 .bf16) (h5 : a5.IsWhole) (a6 : Memref sig .tc .vmem S512x1024 .f32) (h6 : a6.IsWhole)
  (x : Vec Ideal S1408x512 .bf16) (y : Vec Ideal S1408x1024 .f32) (acc : Vec Ideal S512x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz]
  simp only [View.readAt_eq_ld, View.readCov_unit_zero (S := S512x1024) _ hz, h3.read_unread, h4.read_unread, View.ld_unit_zero (S := S1408x512) hz, View.ld_unit_zero (S := S1408x1024) hz, View.ld_unit_zero (S := S512x1024) hz]

theorem middle (hc0 : ¬cond0_0 i) (hc1 : ¬cond0_1 i) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem last (hc0 : ¬cond0_0 i) (hc1 : cond0_1 i) :
    sout0_C_0 c i a3 h3 a4 h4 a5 h5 a6 h6 hc0 hc1 x y acc = k0_pay2 x y acc := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem written (hc0 : ¬cond0_0 i) (hc1 : cond0_1 i) :
    out0_C_2 c i a3 h3 a4 h4 a5 h5 a6 h6 hc0 hc1 x y acc = k0_pay3 (k0_pay2 x y acc) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S512x1024) hz]
  simp only [View.readAt_eq_ld, View.readCov_unit_zero (S := S512x1024) _ hz, h3.read_unread, h4.read_unread, h6.read_unread, View.ld_unit_zero (S := S1408x512) hz, View.ld_unit_zero (S := S1408x1024) hz, View.ld_unit_zero (S := S512x1024) hz]

theorem zero_apply (r : Fin 512) (s : Fin 1024) : k0_pay1 (F := Ideal) (ix2 r s) = (0 : EReal) := by
  pointwise [k0_pay1]

theorem step_apply (r : Fin 512) (s : Fin 1024) :
    k0_pay2 x y acc (ix2 r s) = acc (ix2 r s) + ∑ k : Fin 1408, x (ix2 k r) * y (ix2 k s) := by
  pointwise [k0_pay2]

theorem out_apply (r : Fin 512) (s : Fin 1024) : k0_pay3 acc (ix2 r s) = (acc (ix2 r s) : EReal) := by
  pointwise [k0_pay3]

end

theorem index : ∀ t : Fin grid0.N, win0_0.index t = ![t.val % 6, t.val / 12] ∧ win0_1.index t = ![t.val % 6, t.val / 6 % 2] := by
  decide +kernel

theorem iblk0 (c : Dev nD) (t : Fin grid0.N) (a : Fin 1408) (b : Fin 512) :
    iblk m c 0 t (ix2 a b) = at2 (V m c main_arg0) (1408 * (t.val % 6) + a.val) (512 * (t.val / 12) + b.val) := by
  have h : t.val < 24 := t.isLt.trans_eq N_0
  have e : ((cfg0.win 0).index t) = ![t.val % 6, t.val / 12] := (index t).1
  refine Eq.trans ?_ (at2_ix (V m c main_arg0) ⟨1408 * (t.val % 6) + a.val, by omega⟩ ⟨512 * (t.val / 12) + b.val, by omega⟩)
  blk_ext [iblk, e]

theorem iblk1 (c : Dev nD) (t : Fin grid0.N) (a : Fin 1408) (b : Fin 1024) :
    iblk m c 1 t (ix2 a b) = at2 (V m c main_arg1) (1408 * (t.val % 6) + a.val) (1024 * (t.val / 6 % 2) + b.val) := by
  have h : t.val < 24 := t.isLt.trans_eq N_0
  have e : ((cfg0.win 1).index t) = ![t.val % 6, t.val / 6 % 2] := (index t).2
  refine Eq.trans ?_ (at2_ix (V m c main_arg1) ⟨1408 * (t.val % 6) + a.val, by omega⟩ ⟨1024 * (t.val / 6 % 2) + b.val, by omega⟩)
  blk_ext [iblk, e]

abbrev term (c : Dev nD) (i j x : ℕ) : EReal := at2 (V m c main_arg0) x i * at2 (V m c main_arg1) x j

theorem add_block (c : Dev nD) (t : Fin grid0.N) (acc : Vec Ideal S512x1024 .f32) (r : Fin 512) (s : Fin 1024)
    (h : acc (ix2 r s) = ∑ x ∈ range (t.val % 6 * 1408), term m c (512 * (t.val / 12) + r.val) (1024 * (t.val / 6 % 2) + s.val) x) :
    k0_pay2 (iblk m c 0 t) (iblk m c 1 t) acc (ix2 r s) = ∑ x ∈ range ((t.val % 6 + 1) * 1408), term m c (512 * (t.val / 12) + r.val) (1024 * (t.val / 6 % 2) + s.val) x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 512) (s : Fin 1024),
    (outsAt0 m c n h).2 (ix2 r s) = ∑ x ∈ range ((n % 6 + 1) * 1408), term m c (512 * (n / 12) + r.val) (1024 * (n / 6 % 2) + s.val) x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 6 * 1408), term m c (512 * ((n + 1) / 12) + r.val) (1024 * ((n + 1) / 6 % 2) + s.val) x := by
        rw [hp, show (n + 1) / 12 = n / 12 by omega, show (n + 1) / 6 % 2 = n / 6 % 2 by omega, show (n + 1) % 6 = n % 6 + 1 by omega]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 512) (s : Fin 1024) :
    (outsAt0 m c n h).1 (ix2 r s) = (∑ x ∈ range 8448, term m c (512 * (n / 12) + r.val) (1024 * (n / 6 % 2) + s.val) x : EReal) := by
  obtain ⟨k, rfl⟩ : ∃ k, n = k + 1 := ⟨n - 1, by omega⟩
  have h0 : ¬(k + 1) % 6 = 0 := by omega
  have ha := fun q => add_block m c ⟨k + 1, h⟩ (outsAt0 m c k q).2 r s (by
    rw [scratch m c k q, show k % 6 + 1 = (k + 1) % 6 by omega, show k / 12 = (k + 1) / 12 by omega, show k / 6 % 2 = (k + 1) / 6 % 2 by omega])
  dsimp only at ha
  rw [h1] at ha
  rw [outsAt0_C m c ⟨k + 1, h⟩ h0 h1]
  dsimp only
  rw [written, out_apply]
  exact ha _

theorem total (c : Dev nD) (i : Fin 1024) (j : Fin 2048) :
    Value.G2 m c (ix2 i j) = (∑ x ∈ range 8448, term m c i.val j.val x : EReal) := by
  have hn : Value.pt2Of (ix2 i j) = 6 * (2 * (i.val / 512) + j.val / 1024) + 5 := by
    show 6 * (2 * (i.val / 512 - 0) + 1 * (j.val / 1024 - 0)) + 5 = _
    omega
  have hp : Value.pt2Of (ix2 i j) < cfg0.N := by
    rw [show cfg0.N = 24 from N_0]
    omega
  have hl : Value.loc2Of (ix2 i j) = ix2 ⟨i.val % 512, Nat.mod_lt _ (by decide)⟩ ⟨j.val % 1024, Nat.mod_lt _ (by decide)⟩ := by
    refine idx2_val _ _ _ _ _ rfl ?_
    rfl
  unfold Value.G2
  rw [dif_pos hp, ← Value.outsAt0_sweep m c _ hp, hl, flushed m c _ hp (by omega)]
  show (∑ x ∈ range 8448, term m c (512 * (Value.pt2Of (ix2 i j) / 12) + i.val % 512) (1024 * (Value.pt2Of (ix2 i j) / 6 % 2) + j.val % 1024) x : EReal) = _
  rw [show 512 * (Value.pt2Of (ix2 i j) / 12) + i.val % 512 = i.val by rw [hn]; omega, show 1024 * (Value.pt2Of (ix2 i j) / 6 % 2) + j.val % 1024 = j.val by rw [hn]; omega]

/-! ## The reference's result -/

theorem reference_apply (x0 : Vec Ideal S8448x1024 .bf16) (x1 : Vec Ideal S8448x2048 .f32) (i : Fin 1024) (j : Fin 2048) :
    DwzRefIdeal.Read.val_main_v5 (F := Ideal) x0 x1 (ix2 i j) = (∑ x ∈ range 8448, at2 x0 x i.val * at2 x1 x j.val : EReal) := by
  rw [DwzRefIdeal.Read.val_main_v5_apply, DwzRefIdeal.Read.val_main_v4_apply]
  refine (DwzRefIdeal.Read.val_main_v3_apply x0 x1 _).trans ?_
  rw [← Fin.sum_univ_eq_sum_range (fun x => at2 x0 x i.val * at2 x1 x j.val)]
  refine Finset.sum_congr rfl fun x _ => ?_
  rw [DwzRefIdeal.Read.val_main_v1_apply,
    idx2_val (DwzRefIdeal.Read.lidx_main_v3 _ x) x.val j.val x.isLt j.isLt rfl rfl, idx2_val (DwzRefIdeal.Read.ridx_main_v3 _ x) x.val i.val x.isLt i.isLt rfl rfl]
  show x1 (ix2 x j) * x0 (ix2 x i) = _
  rw [at2_ix x1, at2_ix x0, mul_comm]

/-! ## The two programs -/

theorem algebraic : Cert.algebraic_DwzIdeal_DwzRefIdeal := by
  intro m g m' g' _ ha
  refine ⟨Value.G2 m, Value.run (F := Ideal) m g, ?_⟩
  refine (θ_run _ _ _).mono (fun r h c => ?_) (DwzRefIdeal.Value.run (F := Ideal) m' g')
  obtain ⟨h0, h1⟩ := h c
  obtain ⟨a0, a1⟩ := ha c
  refine ⟨h0.trans ?_, h1⟩
  rw [DwzRefIdeal.Read.val_main_v5_eq, a0, a1]
  funext i
  obtain ⟨a, b, rfl⟩ := idx2 (m := 1024) (n := 2048) i
  exact (reference_apply _ _ a b).trans (total m c a b).symm

end Cert.DwzIdeal.Sums
-- ==== Proof.DwxValue.lean ====
module

public import proofs.«01_k».proof.Proof.Gen.DwxIdeal.Value
public import proofs.«01_k».proof.Defs
public import proofs.«01_k».proof.Proof.Gen.DwxRefIdeal.Run
public import proofs.«01_k».proof.Proof.Gen.DwxRefIdeal.Read
public import proofs.«01_k».proof.Proof.Blocked
public import Idealize.ShloMosaic.Lib.Pipeline.ValueKit
public import Idealize.ShloMosaic.Lib.Pipeline.Covers

/-! The gradient of the columns of the state space layer's input projection that make the convolution's input. -/

@[expose] public section

set_option maxRecDepth 16384
set_option maxHeartbeats 1000000
noncomputable section

namespace Cert.DwxIdeal.Sums

open Idealize.ShloMosaic Idealize.ShloMosaic.TcCoe Idealize.ShloMosaic.Tactic Idealize.SL.Sem Cert.DwxIdeal Cert.DwxIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S1408x512 .bf16) (h3 : a3.IsWhole) (a4 : Memref sig .tc .vmem S1408x1024 .f32) (h4 : a4.IsWhole) (a5 : Memref sig .tc .vmem S512x1024 .bf16) (h5 : a5.IsWhole) (a6 : Memref sig .tc .vmem S512x1024 .f32) (h6 : a6.IsWhole)
  (x : Vec Ideal S1408x512 .bf16) (y : Vec Ideal S1408x1024 .f32) (acc : Vec Ideal S512x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz]
  simp only [View.readAt_eq_ld, View.readCov_unit_zero (S := S512x1024) _ hz, h3.read_unread, h4.read_unread, View.ld_unit_zero (S := S1408x512) hz, View.ld_unit_zero (S := S1408x1024) hz, View.ld_unit_zero (S := S512x1024) hz]

theorem middle (hc0 : ¬cond0_0 i) (hc1 : ¬cond0_1 i) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem last (hc0 : ¬cond0_0 i) (hc1 : cond0_1 i) :
    sout0_C_0 c i a3 h3 a4 h4 a5 h5 a6 h6 hc0 hc1 x y acc = k0_pay2 x y acc := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem written (hc0 : ¬cond0_0 i) (hc1 : cond0_1 i) :
    out0_C_2 c i a3 h3 a4 h4 a5 h5 a6 h6 hc0 hc1 x y acc = k0_pay3 (k0_pay2 x y acc) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S512x1024) hz]
  simp only [View.readAt_eq_ld, View.readCov_unit_zero (S := S512x1024) _ hz, h3.read_unread, h4.read_unread, h6.read_unread, View.ld_unit_zero (S := S1408x512) hz, View.ld_unit_zero (S := S1408x1024) hz, View.ld_unit_zero (S := S512x1024) hz]

theorem zero_apply (r : Fin 512) (s : Fin 1024) : k0_pay1 (F := Ideal) (ix2 r s) = (0 : EReal) := by
  pointwise [k0_pay1]

theorem step_apply (r : Fin 512) (s : Fin 1024) :
    k0_pay2 x y acc (ix2 r s) = acc (ix2 r s) + ∑ k : Fin 1408, x (ix2 k r) * y (ix2 k s) := by
  pointwise [k0_pay2]

theorem out_apply (r : Fin 512) (s : Fin 1024) : k0_pay3 acc (ix2 r s) = (acc (ix2 r s) : EReal) := by
  pointwise [k0_pay3]

end

theorem index : ∀ t : Fin grid0.N, win0_0.index t = ![t.val % 6, t.val / 24] ∧ win0_1.index t = ![t.val % 6, t.val / 6 % 4] := by
  decide +kernel

theorem iblk0 (c : Dev nD) (t : Fin grid0.N) (a : Fin 1408) (b : Fin 512) :
    iblk m c 0 t (ix2 a b) = at2 (V m c main_arg0) (1408 * (t.val % 6) + a.val) (512 * (t.val / 24) + b.val) := by
  have h : t.val < 48 := t.isLt.trans_eq N_0
  have e : ((cfg0.win 0).index t) = ![t.val % 6, t.val / 24] := (index t).1
  refine Eq.trans ?_ (at2_ix (V m c main_arg0) ⟨1408 * (t.val % 6) + a.val, by omega⟩ ⟨512 * (t.val / 24) + b.val, by omega⟩)
  blk_ext [iblk, e]

theorem iblk1 (c : Dev nD) (t : Fin grid0.N) (a : Fin 1408) (b : Fin 1024) :
    iblk m c 1 t (ix2 a b) = at2 (V m c main_arg1) (1408 * (t.val % 6) + a.val) (1024 * (t.val / 6 % 4) + b.val) := by
  have h : t.val < 48 := t.isLt.trans_eq N_0
  have e : ((cfg0.win 1).index t) = ![t.val % 6, t.val / 6 % 4] := (index t).2
  refine Eq.trans ?_ (at2_ix (V m c main_arg1) ⟨1408 * (t.val % 6) + a.val, by omega⟩ ⟨1024 * (t.val / 6 % 4) + b.val, by omega⟩)
  blk_ext [iblk, e]

abbrev term (c : Dev nD) (i j x : ℕ) : EReal := at2 (V m c main_arg0) x i * at2 (V m c main_arg1) x j

theorem add_block (c : Dev nD) (t : Fin grid0.N) (acc : Vec Ideal S512x1024 .f32) (r : Fin 512) (s : Fin 1024)
    (h : acc (ix2 r s) = ∑ x ∈ range (t.val % 6 * 1408), term m c (512 * (t.val / 24) + r.val) (1024 * (t.val / 6 % 4) + s.val) x) :
    k0_pay2 (iblk m c 0 t) (iblk m c 1 t) acc (ix2 r s) = ∑ x ∈ range ((t.val % 6 + 1) * 1408), term m c (512 * (t.val / 24) + r.val) (1024 * (t.val / 6 % 4) + s.val) x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 512) (s : Fin 1024),
    (outsAt0 m c n h).2 (ix2 r s) = ∑ x ∈ range ((n % 6 + 1) * 1408), term m c (512 * (n / 24) + r.val) (1024 * (n / 6 % 4) + s.val) x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 6 * 1408), term m c (512 * ((n + 1) / 24) + r.val) (1024 * ((n + 1) / 6 % 4) + s.val) x := by
        rw [hp, show (n + 1) / 24 = n / 24 by omega, show (n + 1) / 6 % 4 = n / 6 % 4 by omega, show (n + 1) % 6 = n % 6 + 1 by omega]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 512) (s : Fin 1024) :
    (outsAt0 m c n h).1 (ix2 r s) = (∑ x ∈ range 8448, term m c (512 * (n / 24) + r.val) (1024 * (n / 6 % 4) + s.val) x : EReal) := by
  obtain ⟨k, rfl⟩ : ∃ k, n = k + 1 := ⟨n - 1, by omega⟩
  have h0 : ¬(k + 1) % 6 = 0 := by omega
  have ha := fun q => add_block m c ⟨k + 1, h⟩ (outsAt0 m c k q).2 r s (by
    rw [scratch m c k q, show k % 6 + 1 = (k + 1) % 6 by omega, show k / 24 = (k + 1) / 24 by omega, show k / 6 % 4 = (k + 1) / 6 % 4 by omega])
  dsimp only at ha
  rw [h1] at ha
  rw [outsAt0_C m c ⟨k + 1, h⟩ h0 h1]
  dsimp only
  rw [written, out_apply]
  exact ha _

theorem total (c : Dev nD) (i : Fin 1024) (j : Fin 4096) :
    Value.G2 m c (ix2 i j) = (∑ x ∈ range 8448, term m c i.val j.val x : EReal) := by
  have hn : Value.pt2Of (ix2 i j) = 6 * (4 * (i.val / 512) + j.val / 1024) + 5 := by
    show 6 * (4 * (i.val / 512 - 0) + 1 * (j.val / 1024 - 0)) + 5 = _
    omega
  have hp : Value.pt2Of (ix2 i j) < cfg0.N := by
    rw [show cfg0.N = 48 from N_0]
    omega
  have hl : Value.loc2Of (ix2 i j) = ix2 ⟨i.val % 512, Nat.mod_lt _ (by decide)⟩ ⟨j.val % 1024, Nat.mod_lt _ (by decide)⟩ := by
    refine idx2_val _ _ _ _ _ rfl ?_
    rfl
  unfold Value.G2
  rw [dif_pos hp, ← Value.outsAt0_sweep m c _ hp, hl, flushed m c _ hp (by omega)]
  show (∑ x ∈ range 8448, term m c (512 * (Value.pt2Of (ix2 i j) / 24) + i.val % 512) (1024 * (Value.pt2Of (ix2 i j) / 6 % 4) + j.val % 1024) x : EReal) = _
  rw [show 512 * (Value.pt2Of (ix2 i j) / 24) + i.val % 512 = i.val by rw [hn]; omega, show 1024 * (Value.pt2Of (ix2 i j) / 6 % 4) + j.val % 1024 = j.val by rw [hn]; omega]

/-! ## The reference's result -/

theorem reference_apply (x0 : Vec Ideal S8448x1024 .bf16) (x1 : Vec Ideal S8448x4096 .f32) (i : Fin 1024) (j : Fin 4096) :
    DwxRefIdeal.Read.val_main_v5 (F := Ideal) x0 x1 (ix2 i j) = (∑ x ∈ range 8448, at2 x0 x i.val * at2 x1 x j.val : EReal) := by
  rw [DwxRefIdeal.Read.val_main_v5_apply, DwxRefIdeal.Read.val_main_v4_apply]
  refine (DwxRefIdeal.Read.val_main_v3_apply x0 x1 _).trans ?_
  rw [← Fin.sum_univ_eq_sum_range (fun x => at2 x0 x i.val * at2 x1 x j.val)]
  refine Finset.sum_congr rfl fun x _ => ?_
  rw [DwxRefIdeal.Read.val_main_v1_apply,
    idx2_val (DwxRefIdeal.Read.lidx_main_v3 _ x) x.val j.val x.isLt j.isLt rfl rfl, idx2_val (DwxRefIdeal.Read.ridx_main_v3 _ x) x.val i.val x.isLt i.isLt rfl rfl]
  show x1 (ix2 x j) * x0 (ix2 x i) = _
  rw [at2_ix x1, at2_ix x0, mul_comm]

/-! ## The two programs -/

theorem algebraic : Cert.algebraic_DwxIdeal_DwxRefIdeal := by
  intro m g m' g' _ ha
  refine ⟨Value.G2 m, Value.run (F := Ideal) m g, ?_⟩
  refine (θ_run _ _ _).mono (fun r h c => ?_) (DwxRefIdeal.Value.run (F := Ideal) m' g')
  obtain ⟨h0, h1⟩ := h c
  obtain ⟨a0, a1⟩ := ha c
  refine ⟨h0.trans ?_, h1⟩
  rw [DwxRefIdeal.Read.val_main_v5_eq, a0, a1]
  funext i
  obtain ⟨a, b, rfl⟩ := idx2 (m := 1024) (n := 4096) i
  exact (reference_apply _ _ a b).trans (total m c a b).symm

end Cert.DwxIdeal.Sums
-- ==== Proof.DuzValue.lean ====
module

public import proofs.«01_k».proof.Proof.Gen.DuzIdeal.Value
public import proofs.«01_k».proof.Defs
public import proofs.«01_k».proof.Proof.Gen.DuzRefIdeal.Run
public import proofs.«01_k».proof.Proof.Gen.DuzRefIdeal.Read
public import proofs.«01_k».proof.Proof.Blocked
public import Idealize.ShloMosaic.Lib.Pipeline.ValueKit
public import Idealize.ShloMosaic.Lib.Pipeline.Covers

/-! The gradient of the state space layer's input, the gate's part. -/

@[expose] public section

set_option maxRecDepth 16384
set_option maxHeartbeats 1000000
noncomputable section

namespace Cert.DuzIdeal.Sums

open Idealize.ShloMosaic Idealize.ShloMosaic.TcCoe Idealize.ShloMosaic.Tactic Idealize.SL.Sem Cert.DuzIdeal Cert.DuzIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .f32) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole)
  (x : Vec Ideal S768x1024 .f32) (y : Vec Ideal S1024x1024 .bf16) (acc : Vec Ideal S768x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S768x1024) hz]
  simp only [View.readAt_eq_ld, View.readCov_unit_zero (S := S768x1024) _ hz, h3.read_unread, h4.read_unread, View.ld_unit_zero (S := S768x1024) hz, View.ld_unit_zero (S := S1024x1024) hz, View.ld_unit_zero (S := S768x1024) hz]

theorem written (hc0 : ¬cond0_0 i) (hc1 : cond0_1 i) :
    out0_B_2 c i a3 h3 a4 h4 a5 h5 a6 h6 hc0 hc1 x y acc = k0_pay2 x y acc := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero (S := S768x1024) hz]
  simp only [View.readAt_eq_ld, View.readCov_unit_zero (S := S768x1024) _ hz, h3.read_unread, h4.read_unread, h6.read_unread, View.ld_unit_zero (S := S768x1024) hz, View.ld_unit_zero (S := S1024x1024) hz, View.ld_unit_zero (S := S768x1024) hz]

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 s k) := by
  pointwise [k0_pay2]

end

theorem index : ∀ t : Fin grid0.N, win0_0.index t = ![t.val / 2, t.val % 2] ∧ win0_1.index t = ![0, t.val % 2] := by
  decide +kernel

theorem sliced (c : Dev nD) : V m c main_v0 = extractStridedSlice S1024x6144 ![0, 0] (m ((c : Thread nD τ).loc main_arg0)) slices_S1024x6176_S1024x6144_0_0 := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem sliced_apply (c : Dev nD) (a : Fin 1024) (b : Fin 6144) : V m c main_v0 (ix2 a b) = at2 (m ((c : Thread nD τ).loc main_arg0)) a.val b.val := by
  refine (congrFun (sliced m c) _).trans (Eq.trans ?_ (at2_ix (m ((c : Thread nD τ).loc main_arg0)) a ⟨b.val, by omega⟩))
  exact extractStridedSlice_apply ![0, 0] (m ((c : Thread nD τ).loc main_arg0)) slices_S1024x6176_S1024x6144_0_0 (ix2 a b) (ix2 a ⟨b.val, by omega⟩) (fun a => match a with
    | ⟨0, _⟩ => (Nat.zero_add _).symm
    | ⟨1, _⟩ => (Nat.zero_add _).symm)

theorem iblk0 (c : Dev nD) (t : Fin grid0.N) (a : Fin 768) (b : Fin 1024) :
    iblk m c 0 t (ix2 a b) = at2 (m ((c : Thread nD τ).loc main_arg1)) (768 * (t.val / 2) + a.val) (1024 * (t.val % 2) + b.val) := by
  have h : t.val < 22 := t.isLt.trans_eq N_0
  have e : ((cfg0.win 0).index t) = ![t.val / 2, t.val % 2] := (index t).1
  rw [← V_main_arg1 m c]
  refine Eq.trans ?_ (at2_ix (V m c main_arg1) ⟨768 * (t.val / 2) + a.val, by omega⟩ ⟨1024 * (t.val % 2) + b.val, by omega⟩)
  blk_ext [iblk, e]

theorem iblk1 (c : Dev nD) (t : Fin grid0.N) (a : Fin 1024) (b : Fin 1024) :
    iblk m c 1 t (ix2 a b) = at2 (m ((c : Thread nD τ).loc main_arg0)) (a.val) (1024 * (t.val % 2) + b.val) := by
  have h : t.val < 22 := t.isLt.trans_eq N_0
  have e : ((cfg0.win 1).index t) = ![0, t.val % 2] := (index t).2
  refine Eq.trans ?_ (sliced_apply m c a ⟨1024 * (t.val % 2) + b.val, by omega⟩)
  blk_ext [iblk, e]

abbrev term (c : Dev nD) (i j x : ℕ) : EReal := at2 (m ((c : Thread nD τ).loc main_arg1)) i x * at2 (m ((c : Thread nD τ).loc main_arg0)) j x

theorem add_block (c : Dev nD) (t : Fin grid0.N) (acc : Vec Ideal S768x1024 .f32) (r : Fin 768) (s : Fin 1024)
    (h : acc (ix2 r s) = ∑ x ∈ range (t.val % 2 * 1024), term m c (768 * (t.val / 2) + r.val) s.val x) :
    k0_pay2 (iblk m c 0 t) (iblk m c 1 t) acc (ix2 r s) = ∑ x ∈ range ((t.val % 2 + 1) * 1024), term m c (768 * (t.val / 2) + r.val) s.val x := by
  rw [step_apply, h, ← next]
  refine congrArg _ (Finset.sum_congr rfl fun x _ => ?_)
  rw [iblk0, iblk1]

theorem scratch (c : Dev nD) (n : ℕ) (h : n < cfg0.N) (h0 : n % 2 = 0) (r : Fin 768) (s : Fin 1024) :
    (outsAt0 m c n h).2 (ix2 r s) = ∑ x ∈ range ((n % 2 + 1) * 1024), term m c (768 * (n / 2) + r.val) s.val x := by
  rw [outsAt0_A m c ⟨n, h⟩ h0 (by dsimp only; omega)]
  dsimp only
  rw [first]
  exact add_block m c ⟨n, h⟩ _ r s (by rw [zero_apply]; simp [h0])

/-- What the point that writes a block back leaves in it. -/
theorem flushed (c : Dev nD) (n : ℕ) (h : n < cfg0.N) (h1 : n % 2 = 1) (r : Fin 768) (s : Fin 1024) :
    (outsAt0 m c n h).1 (ix2 r s) = (∑ x ∈ range 2048, term m c (768 * (n / 2) + r.val) s.val x : EReal) := by
  obtain ⟨k, rfl⟩ : ∃ k, n = k + 1 := ⟨n - 1, by omega⟩
  have h0 : ¬(k + 1) % 2 = 0 := by omega
  have ha := fun q => add_block m c ⟨k + 1, h⟩ (outsAt0 m c k q).2 r s (by
    rw [scratch m c k q (by omega), show k % 2 + 1 = (k + 1) % 2 by omega, show k / 2 = (k + 1) / 2 by omega])
  dsimp only at ha
  rw [h1] at ha
  rw [outsAt0_B m c ⟨k + 1, h⟩ h0 h1]
  dsimp only
  rw [written]
  exact ha _

theorem total (c : Dev nD) (i : Fin 8448) (j : Fin 1024) :
    Value.G2 m c (ix2 i j) = (∑ x ∈ range 2048, term m c i.val j.val x : EReal) := by
  have hn : Value.pt2Of (ix2 i j) = 2 * (1 * (i.val / 768) + j.val / 1024) + 1 := by
    show 2 * (1 * (i.val / 768 - 0) + 1 * (j.val / 1024 - 0)) + 1 = _
    omega
  have hp : Value.pt2Of (ix2 i j) < cfg0.N := by
    rw [show cfg0.N = 22 from N_0]
    omega
  have hl : Value.loc2Of (ix2 i j) = ix2 ⟨i.val % 768, Nat.mod_lt _ (by decide)⟩ j := by
    refine idx2_val _ _ _ _ _ rfl ?_
    show j.val % 1024 = j.val
    omega
  unfold Value.G2
  rw [dif_pos hp, ← Value.outsAt0_sweep m c _ hp, hl, flushed m c _ hp (by omega)]
  show (∑ x ∈ range 2048, term m c (768 * (Value.pt2Of (ix2 i j) / 2) + i.val % 768) j.val x : EReal) = _
  rw [show 768 * (Value.pt2Of (ix2 i j) / 2) + i.val % 768 = i.val by rw [hn]; omega]

/-! ## The reference's result -/

theorem reference_apply (x0 : Vec Ideal S1024x6176 .bf16) (x1 : Vec Ideal S8448x2048 .f32) (i : Fin 8448) (j : Fin 1024) :
    DuzRefIdeal.Read.val_main_v4 (F := Ideal) x0 x1 (ix2 i j) = (∑ x ∈ range 2048, at2 x1 i.val x * at2 x0 j.val x : EReal) := by
  refine (DuzRefIdeal.Read.val_main_v4_apply x0 x1 _).trans ?_
  rw [← Fin.sum_univ_eq_sum_range (fun x => at2 x1 i.val x * at2 x0 j.val x)]
  refine Finset.sum_congr rfl fun x _ => ?_
  rw [DuzRefIdeal.Read.val_main_v2_apply, DuzRefIdeal.Read.val_main_v0_apply,
    idx2_val (DuzRefIdeal.Read.lidx_main_v4 _ x) i.val x.val i.isLt x.isLt rfl rfl,
    idx2_val (DuzRefIdeal.Read.idx_main_v2 (DuzRefIdeal.Read.ridx_main_v4 _ x)) j.val (x.val) (by omega) (by omega) rfl rfl]
  show x1 (ix2 i x) * x0 (ix2 ⟨j.val, by omega⟩ ⟨x.val, by omega⟩) = _
  rw [at2_ix x1, at2_ix x0]

/-! ## The two programs -/

theorem algebraic : Cert.algebraic_DuzIdeal_DuzRefIdeal := by
  intro m g m' g' _ ha
  refine ⟨Value.G2 m, Value.run (F := Ideal) m g, ?_⟩
  refine (θ_run _ _ _).mono (fun r h c => ?_) (DuzRefIdeal.Value.run (F := Ideal) m' g')
  obtain ⟨h0, h1⟩ := h c
  obtain ⟨a0, a1⟩ := ha c
  refine ⟨h0.trans ?_, h1⟩
  rw [DuzRefIdeal.Read.val_main_v4_eq, a0, a1]
  funext i
  obtain ⟨a, b, rfl⟩ := idx2 (m := 8448) (n := 1024) i
  exact (reference_apply _ _ a b).trans (total m c a b).symm

end Cert.DuzIdeal.Sums
-- ==== Proof.DuxValue.lean ====
module

public import proofs.«01_k».proof.Proof.Gen.DuxIdeal.Value
public import proofs.«01_k».proof.Defs
public import proofs.«01_k».proof.Proof.Gen.DuxRefIdeal.Run
public import proofs.«01_k».proof.Proof.Gen.DuxRefIdeal.Read
public import proofs.«01_k».proof.Proof.Blocked
public import Idealize.ShloMosaic.Lib.Pipeline.ValueKit
public import Idealize.ShloMosaic.Lib.Pipeline.Covers

/-! The gradient of the state space layer's input, the convolution's part added to the gate's. -/

@[expose] public section

set_option maxRecDepth 16384
set_option maxHeartbeats 1000000
noncomputable section

namespace Cert.DuxIdeal.Sums

open Idealize.ShloMosaic Idealize.ShloMosaic.TcCoe Idealize.ShloMosaic.Tactic Idealize.SL.Sem Cert.DuxIdeal Cert.DuxIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .f32) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole) (a7 : Memref sig .tc .vmem S768x1024 .f32) (h7 : a7.IsWhole)
  (x : Vec Ideal S768x1024 .f32) (y : Vec Ideal S1024x1024 .bf16) (z : Vec Ideal S768x1024 .f32) (acc : Vec Ideal S768x1024 .f32)

theorem first (hc0 : cond0_0 i) (hc1 : ¬cond0_1 i) :
    sout0_A_0 c i a3 h3 a4 h4 a5 h5 a6 h6 a7 h7 hc0 hc1 x y z = k0_pay2 x y (k0_pay1 (F := Ideal)) := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero (S := S768x1024) hz]
  simp only [View.readAt_eq_ld, View.readCov_unit_zero (S := S768x1024) _ hz, h3.read_unread, h4.read_unread, h5.read_unread, View.ld_unit_zero (S := S768x1024) hz, View.ld_unit_zero (S := S1024x1024) hz, View.ld_unit_zero (S := S768x1024) hz]

theorem middle (hc0 : ¬cond0_0 i) (hc1 : ¬cond0_1 i) :
    sout0_B_0 c i a3 h3 a4 h4 a5 h5 a6 h6 a7 h7 hc0 hc1 x y z acc = k0_pay2 x y acc := by
  unfold sout0_B_0
  rw [View.read_writes_eq_canon _ _ _ (scover0_B_0 c i a3 h3 a4 h4 a5 h5 a6 h6 a7 h7 hc0 hc1 x y z acc)]
  unfold kernelRun0_B
  dsimp only
  sl_unfold_words
  rw [View.canon_unit_zero (S := S768x1024) hz]
  simp only [View.readAt_eq_ld, h3.read_unread, h4.read_unread, h5.read_unread, h7.read_unread, View.ld_unit_zero (S := S768x1024) hz, View.ld_unit_zero (S := S1024x1024) hz, View.ld_unit_zero (S := S768x1024) hz]

theorem last (hc0 : ¬cond0_0 i) (hc1 : cond0_1 i) :
    sout0_C_0 c i a3 h3 a4 h4 a5 h5 a6 h6 a7 h7 hc0 hc1 x y z acc = k0_pay2 x y acc := by
  unfold sout0_C_0
  rw [View.read_writes_eq_canon _ _ _ (scover0_C_0 c i a3 h3 a4 h4 a5 h5 a6 h6 a7 h7 hc0 hc1 x y z acc)]
  unfold kernelRun0_C
  dsimp only
  sl_unfold_words
  rw [View.canon_unit_zero (S := S768x1024) hz]
  simp only [View.readAt_eq_ld, h3.read_unread, h4.read_unread, h5.read_unread, h7.read_unread, View.ld_unit_zero (S := S768x1024) hz, View.ld_unit_zero (S := S1024x1024) hz, View.ld_unit_zero (S := S768x1024) hz]

theorem written (hc0 : ¬cond0_0 i) (hc1 : cond0_1 i) :
    out0_C_3 c i a3 h3 a4 h4 a5 h5 a6 h6 a7 h7 hc0 hc1 x y z acc = k0_pay3 (k0_pay2 x y acc) z := by
  unfold out0_C_3
  rw [View.read_writes_eq_canon _ _ _ (cover0_C_3 c i a3 h3 a4 h4 a5 h5 a6 h6 a7 h7 hc0 hc1 x y z acc)]
  unfold kernelRun0_C
  dsimp only
  sl_unfold_words
  rw [View.canon_unit_zero (S := S768x1024) hz]
  simp only [View.readAt_eq_ld, View.readCov_unit_zero (S := S768x1024) _ hz, h3.read_unread, h4.read_unread, h5.read_unread, h7.read_unread, View.ld_unit_zero (S := S768x1024) hz, View.ld_unit_zero (S := S1024x1024) hz, View.ld_unit_zero (S := S768x1024) hz]

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 s k) := by
  pointwise [k0_pay2]

theorem out_apply (r : Fin 768) (s : Fin 1024) : k0_pay3 acc z (ix2 r s) = (z (ix2 r s) + acc (ix2 r s) : EReal) := by
  pointwise [k0_pay3]

end

theorem index : ∀ t : Fin grid0.N, win0_0.index t = ![t.val / 4, t.val % 4] ∧ win0_1.index t = ![0, 2 + t.val % 4] ∧ win0_2.index t = ![t.val / 4, 0] := by
  decide +kernel

theorem sliced (c : Dev nD) : V m c main_v0 = extractStridedSlice S1024x6144 ![0, 0] (m ((c : Thread nD τ).loc main_arg0)) slices_S1024x6176_S1024x6144_0_0 := by
  unfold V
  simp only [hostOps0, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp

theorem sliced_apply (c : Dev nD) (a : Fin 1024) (b : Fin 6144) : V m c main_v0 (ix2 a b) = at2 (m ((c : Thread nD τ).loc main_arg0)) a.val b.val := by
  refine (congrFun (sliced m c) _).trans (Eq.trans ?_ (at2_ix (m ((c : Thread nD τ).loc main_arg0)) a ⟨b.val, by omega⟩))
  exact extractStridedSlice_apply ![0, 0] (m ((c : Thread nD τ).loc main_arg0)) slices_S1024x6176_S1024x6144_0_0 (ix2 a b) (ix2 a ⟨b.val, by omega⟩) (fun a => match a with
    | ⟨0, _⟩ => (Nat.zero_add _).symm
    | ⟨1, _⟩ => (Nat.zero_add _).symm)

theorem iblk0 (c : Dev nD) (t : Fin grid0.N) (a : Fin 768) (b : Fin 1024) :
    iblk m c 0 t (ix2 a b) = at2 (m ((c : Thread nD τ).loc main_arg1)) (768 * (t.val / 4) + a.val) (1024 * (t.val % 4) + b.val) := by
  have h : t.val < 44 := t.isLt.trans_eq N_0
  have e : ((cfg0.win 0).index t) = ![t.val / 4, t.val % 4] := (index t).1
  rw [← V_main_arg1 m c]
  refine Eq.trans ?_ (at2_ix (V m c main_arg1) ⟨768 * (t.val / 4) + a.val, by omega⟩ ⟨1024 * (t.val % 4) + b.val, by omega⟩)
  blk_ext [iblk, e]

theorem iblk1 (c : Dev nD) (t : Fin grid0.N) (a : Fin 1024) (b : Fin 1024) :
    iblk m c 1 t (ix2 a b) = at2 (m ((c : Thread nD τ).loc main_arg0)) (a.val) (1024 * (2 + t.val % 4) + b.val) := by
  have h : t.val < 44 := t.isLt.trans_eq N_0
  have e : ((cfg0.win 1).index t) = ![0, 2 + t.val % 4] := (index t).2.1
  refine Eq.trans ?_ (sliced_apply m c a ⟨1024 * (2 + t.val % 4) + b.val, by omega⟩)
  blk_ext [iblk, e]

theorem iblk2 (c : Dev nD) (t : Fin grid0.N) (a : Fin 768) (b : Fin 1024) :
    iblk m c 2 t (ix2 a b) = at2 (m ((c : Thread nD τ).loc main_arg2)) (768 * (t.val / 4) + a.val) (b.val) := by
  have h : t.val < 44 := t.isLt.trans_eq N_0
  have e : ((cfg0.win 2).index t) = ![t.val / 4, 0] := (index t).2.2
  rw [← V_main_arg2 m c]
  refine Eq.trans ?_ (at2_ix (V m c main_arg2) ⟨768 * (t.val / 4) + a.val, by omega⟩ b)
  blk_ext [iblk, e]

abbrev term (c : Dev nD) (i j x : ℕ) : EReal := at2 (m ((c : Thread nD τ).loc main_arg1)) i x * at2 (m ((c : Thread nD τ).loc main_arg0)) j (2048 + x)

theorem add_block (c : Dev nD) (t : Fin grid0.N) (acc : Vec Ideal S768x1024 .f32) (r : Fin 768) (s : Fin 1024)
    (h : acc (ix2 r s) = ∑ x ∈ range (t.val % 4 * 1024), term m c (768 * (t.val / 4) + r.val) s.val x) :
    k0_pay2 (iblk m c 0 t) (iblk m c 1 t) acc (ix2 r s) = ∑ x ∈ range ((t.val % 4 + 1) * 1024), term m c (768 * (t.val / 4) + r.val) s.val x := by
  rw [step_apply, h, ← next]
  refine congrArg _ (Finset.sum_congr rfl fun x _ => ?_)
  rw [iblk0, iblk1, show 1024 * (2 + t.val % 4) + x.val = 2048 + (1024 * (t.val % 4) + x.val) by omega]

/-- The scratch after a point: the sum over the blocks so far. -/
theorem scratch (c : Dev nD) : ∀ (n : ℕ) (h : n < cfg0.N) (r : Fin 768) (s : Fin 1024),
    (outsAt0 m c n h).2 (ix2 r s) = ∑ x ∈ range ((n % 4 + 1) * 1024), term m c (768 * (n / 4) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 4 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 4 * 1024), term m c (768 * ((n + 1) / 4) + r.val) s.val x := by
        rw [hp, show (n + 1) / 4 = n / 4 by omega, show (n + 1) % 4 = n % 4 + 1 by omega]
      by_cases h1 : (n + 1) % 4 = 3
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 4 = 3) (r : Fin 768) (s : Fin 1024) :
    (outsAt0 m c n h).1 (ix2 r s) = at2 (m ((c : Thread nD τ).loc main_arg2)) (768 * (n / 4) + r.val) s.val + (∑ x ∈ range 4096, term m c (768 * (n / 4) + r.val) s.val x : EReal) := by
  obtain ⟨k, rfl⟩ : ∃ k, n = k + 1 := ⟨n - 1, by omega⟩
  have h0 : ¬(k + 1) % 4 = 0 := by omega
  have ha := fun q => add_block m c ⟨k + 1, h⟩ (outsAt0 m c k q).2 r s (by
    rw [scratch m c k q, show k % 4 + 1 = (k + 1) % 4 by omega, show k / 4 = (k + 1) / 4 by omega])
  dsimp only at ha
  rw [h1] at ha
  rw [outsAt0_C m c ⟨k + 1, h⟩ h0 h1]
  dsimp only
  rw [written, out_apply, iblk2]
  exact congrArg (fun z : EReal => at2 (m ((c : Thread nD τ).loc main_arg2)) (768 * ((k + 1) / 4) + r.val) s.val + z) (ha _)

theorem total (c : Dev nD) (i : Fin 8448) (j : Fin 1024) :
    Value.G3 m c (ix2 i j) = at2 (m ((c : Thread nD τ).loc main_arg2)) i.val j.val + (∑ x ∈ range 4096, term m c i.val j.val x : EReal) := by
  have hn : Value.pt3Of (ix2 i j) = 4 * (1 * (i.val / 768) + j.val / 1024) + 3 := by
    show 4 * (1 * (i.val / 768 - 0) + 1 * (j.val / 1024 - 0)) + 3 = _
    omega
  have hp : Value.pt3Of (ix2 i j) < cfg0.N := by
    rw [show cfg0.N = 44 from N_0]
    omega
  have hl : Value.loc3Of (ix2 i j) = ix2 ⟨i.val % 768, Nat.mod_lt _ (by decide)⟩ j := by
    refine idx2_val _ _ _ _ _ rfl ?_
    show j.val % 1024 = j.val
    omega
  unfold Value.G3
  rw [dif_pos hp, ← Value.outsAt0_sweep m c _ hp, hl, flushed m c _ hp (by omega)]
  show at2 (m ((c : Thread nD τ).loc main_arg2)) (768 * (Value.pt3Of (ix2 i j) / 4) + i.val % 768) j.val + (∑ x ∈ range 4096, term m c (768 * (Value.pt3Of (ix2 i j) / 4) + i.val % 768) j.val x : EReal) = _
  rw [show 768 * (Value.pt3Of (ix2 i j) / 4) + i.val % 768 = i.val by rw [hn]; omega]

/-! ## The reference's result -/

theorem reference_apply (x0 : Vec Ideal S1024x6176 .bf16) (x1 : Vec Ideal S8448x4096 .f32) (x2 : Vec Ideal S8448x1024 .f32) (i : Fin 8448) (j : Fin 1024) :
    DuxRefIdeal.Read.val_main_v5 (F := Ideal) x0 x1 x2 (ix2 i j) = at2 x2 i.val j.val + (∑ x ∈ range 4096, at2 x1 i.val x * at2 x0 j.val (2048 + x) : EReal) := by
  have hs : DuxRefIdeal.Read.val_main_v4 (F := Ideal) x0 x1 (ix2 i j) = (∑ x ∈ range 4096, at2 x1 i.val x * at2 x0 j.val (2048 + x) : EReal) := by
    refine (DuxRefIdeal.Read.val_main_v4_apply x0 x1 _).trans ?_
    rw [← Fin.sum_univ_eq_sum_range (fun x => at2 x1 i.val x * at2 x0 j.val (2048 + x))]
    refine Finset.sum_congr rfl fun x _ => ?_
    rw [DuxRefIdeal.Read.val_main_v2_apply, DuxRefIdeal.Read.val_main_v0_apply,
      idx2_val (DuxRefIdeal.Read.lidx_main_v4 _ x) i.val x.val i.isLt x.isLt rfl rfl,
      idx2_val (DuxRefIdeal.Read.idx_main_v2 (DuxRefIdeal.Read.ridx_main_v4 _ x)) j.val (2048 + x.val) (by omega) (by omega) rfl rfl]
    show x1 (ix2 i x) * x0 (ix2 ⟨j.val, by omega⟩ ⟨2048 + x.val, by omega⟩) = _
    rw [at2_ix x1, at2_ix x0]
  rw [DuxRefIdeal.Read.val_main_v5_apply, hs]
  show x2 (ix2 i j) + _ = _
  rw [at2_ix x2]

/-! ## The two programs -/

theorem algebraic : Cert.algebraic_DuxIdeal_DuxRefIdeal := by
  intro m g m' g' _ ha
  refine ⟨Value.G3 m, Value.run (F := Ideal) m g, ?_⟩
  refine (θ_run _ _ _).mono (fun r h c => ?_) (DuxRefIdeal.Value.run (F := Ideal) m' g')
  obtain ⟨h0, h1⟩ := h c
  obtain ⟨a0, a1, a2⟩ := ha c
  refine ⟨h0.trans ?_, h1⟩
  rw [DuxRefIdeal.Read.val_main_v5_eq, a0, a1, a2]
  funext i
  obtain ⟨a, b, rfl⟩ := idx2 (m := 8448) (n := 1024) i
  exact (reference_apply _ _ _ a b).trans (total m c a b).symm

end Cert.DuxIdeal.Sums
-- ==== Proof.SoValue.lean ====
module

public import proofs.«01_k».proof.Proof.Gen.SoIdeal.Value
public import proofs.«01_k».proof.Defs
public import proofs.«01_k».proof.Proof.Gen.SoRefIdeal.Run
public import proofs.«01_k».proof.Proof.Gen.SoRefIdeal.Read
public import proofs.«01_k».proof.Proof.Blocked
public import Idealize.ShloMosaic.Lib.Pipeline.ValueKit
public import Idealize.ShloMosaic.Lib.Pipeline.Covers

/-! The state space layer's output projection, its result added to the residual stream. -/

@[expose] public section

set_option maxRecDepth 16384
set_option maxHeartbeats 1000000
noncomputable section

namespace Cert.SoIdeal.Sums

open Idealize.ShloMosaic Idealize.ShloMosaic.TcCoe Idealize.ShloMosaic.Tactic Idealize.SL.Sem Cert.SoIdeal Cert.SoIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .bf16) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole) (a7 : Memref sig .tc .vmem S768x1024 .f32) (h7 : a7.IsWhole)
  (x : Vec Ideal S768x1024 .bf16) (y : Vec Ideal S1024x1024 .bf16) (z : Vec Ideal S768x1024 .f32) (acc : Vec Ideal S768x1024 .f32)

theorem first (hc0 : cond0_0 i) (hc1 : ¬cond0_1 i) :
    sout0_A_0 c i a3 h3 a4 h4 a5 h5 a6 h6 a7 h7 hc0 hc1 x y z = k0_pay2 x y (k0_pay1 (F := Ideal)) := by
  unfold sout0_A_0
  rw [View.read_writes_eq_canon _ _ _ (scover0_A_0 c i a3 h3 a4 h4 a5 h5 a6 h6 a7 h7 hc0 hc1 x y z)]
  unfold kernelRun0_A
  dsimp only
  sl_unfold_words
  rw [View.canon_cons_unit_zero (S := S768x1024) hz]
  simp only [View.readAt_eq_ld, View.readCov_unit_zero (S := S768x1024) _ hz, h3.read_unread, h4.read_unread, h5.read_unread, View.ld_unit_zero (S := S768x1024) hz, View.ld_unit_zero (S := S1024x1024) hz, View.ld_unit_zero (S := S768x1024) hz]

theorem written (hc0 : ¬cond0_0 i) (hc1 : cond0_1 i) :
    out0_B_3 c i a3 h3 a4 h4 a5 h5 a6 h6 a7 h7 hc0 hc1 x y z acc = k0_pay3 (k0_pay2 x y acc) z := by
  unfold out0_B_3
  rw [View.read_writes_eq_canon _ _ _ (cover0_B_3 c i a3 h3 a4 h4 a5 h5 a6 h6 a7 h7 hc0 hc1 x y z acc)]
  unfold kernelRun0_B
  dsimp only
  sl_unfold_words
  rw [View.canon_unit_zero (S := S768x1024) hz]
  simp only [View.readAt_eq_ld, View.readCov_unit_zero (S := S768x1024) _ hz, h3.read_unread, h4.read_unread, h5.read_unread, h7.read_unread, View.ld_unit_zero (S := S768x1024) hz, View.ld_unit_zero (S := S1024x1024) hz, View.ld_unit_zero (S := S768x1024) hz]

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 k s) := by
  pointwise [k0_pay2]

theorem out_apply (r : Fin 768) (s : Fin 1024) : k0_pay3 acc z (ix2 r s) = (z (ix2 r s) + acc (ix2 r s) : EReal) := by
  pointwise [k0_pay3]

end

theorem index : ∀ t : Fin grid0.N, win0_0.index t = ![t.val / 2, t.val % 2] ∧ win0_1.index t = ![t.val % 2, 0] ∧ win0_2.index t = ![t.val / 2, 0] := by
  decide +kernel

theorem iblk0 (c : Dev nD) (t : Fin grid0.N) (a : Fin 768) (b : Fin 1024) :
    iblk m c 0 t (ix2 a b) = at2 (V m c main_arg1) (768 * (t.val / 2) + a.val) (1024 * (t.val % 2) + b.val) := by
  have h : t.val < 22 := t.isLt.trans_eq N_0
  have e : ((cfg0.win 0).index t) = ![t.val / 2, t.val % 2] := (index t).1
  refine Eq.trans ?_ (at2_ix (V m c main_arg1) ⟨768 * (t.val / 2) + a.val, by omega⟩ ⟨1024 * (t.val % 2) + b.val, by omega⟩)
  blk_ext [iblk, e]

theorem iblk1 (c : Dev nD) (t : Fin grid0.N) (a : Fin 1024) (b : Fin 1024) :
    iblk m c 1 t (ix2 a b) = at2 (V m c main_arg2) (1024 * (t.val % 2) + a.val) (b.val) := by
  have h : t.val < 22 := t.isLt.trans_eq N_0
  have e : ((cfg0.win 1).index t) = ![t.val % 2, 0] := (index t).2.1
  refine Eq.trans ?_ (at2_ix (V m c main_arg2) ⟨1024 * (t.val % 2) + a.val, by omega⟩ b)
  blk_ext [iblk, e]

theorem iblk2 (c : Dev nD) (t : Fin grid0.N) (a : Fin 768) (b : Fin 1024) :
    iblk m c 2 t (ix2 a b) = at2 (V m c main_arg0) (768 * (t.val / 2) + a.val) (b.val) := by
  have h : t.val < 22 := t.isLt.trans_eq N_0
  have e : ((cfg0.win 2).index t) = ![t.val / 2, 0] := (index t).2.2
  refine Eq.trans ?_ (at2_ix (V m c main_arg0) ⟨768 * (t.val / 2) + a.val, by omega⟩ b)
  blk_ext [iblk, e]

abbrev term (c : Dev nD) (i j x : ℕ) : EReal := at2 (V m c main_arg1) i x * at2 (V m c main_arg2) x j

theorem add_block (c : Dev nD) (t : Fin grid0.N) (acc : Vec Ideal S768x1024 .f32) (r : Fin 768) (s : Fin 1024)
    (h : acc (ix2 r s) = ∑ x ∈ range (t.val % 2 * 1024), term m c (768 * (t.val / 2) + r.val) s.val x) :
    k0_pay2 (iblk m c 0 t) (iblk m c 1 t) acc (ix2 r s) = ∑ x ∈ range ((t.val % 2 + 1) * 1024), term m c (768 * (t.val / 2) + r.val) s.val x := by
  rw [step_apply, h, ← next]
  refine congrArg _ (Finset.sum_congr rfl fun x _ => ?_)
  rw [iblk0, iblk1]

theorem scratch (c : Dev nD) (n : ℕ) (h : n < cfg0.N) (h0 : n % 2 = 0) (r : Fin 768) (s : Fin 1024) :
    (outsAt0 m c n h).2 (ix2 r s) = ∑ x ∈ range ((n % 2 + 1) * 1024), term m c (768 * (n / 2) + r.val) s.val x := by
  rw [outsAt0_A m c ⟨n, h⟩ h0 (by dsimp only; omega)]
  dsimp only
  rw [first]
  exact add_block m c ⟨n, h⟩ _ r s (by rw [zero_apply]; simp [h0])

/-- What the point that writes a block back leaves in it. -/
theorem flushed (c : Dev nD) (n : ℕ) (h : n < cfg0.N) (h1 : n % 2 = 1) (r : Fin 768) (s : Fin 1024) :
    (outsAt0 m c n h).1 (ix2 r s) = at2 (V m c main_arg0) (768 * (n / 2) + r.val) s.val + (∑ x ∈ range 2048, term m c (768 * (n / 2) + r.val) s.val x : EReal) := by
  obtain ⟨k, rfl⟩ : ∃ k, n = k + 1 := ⟨n - 1, by omega⟩
  have h0 : ¬(k + 1) % 2 = 0 := by omega
  have ha := fun q => add_block m c ⟨k + 1, h⟩ (outsAt0 m c k q).2 r s (by
    rw [scratch m c k q (by omega), show k % 2 + 1 = (k + 1) % 2 by omega, show k / 2 = (k + 1) / 2 by omega])
  dsimp only at ha
  rw [h1] at ha
  rw [outsAt0_B m c ⟨k + 1, h⟩ h0 h1]
  dsimp only
  rw [written, out_apply, iblk2]
  exact congrArg (fun z : EReal => at2 (V m c main_arg0) (768 * ((k + 1) / 2) + r.val) s.val + z) (ha _)

theorem total (c : Dev nD) (i : Fin 8448) (j : Fin 1024) :
    Value.G3 m c (ix2 i j) = at2 (V m c main_arg0) i.val j.val + (∑ x ∈ range 2048, term m c i.val j.val x : EReal) := by
  have hn : Value.pt3Of (ix2 i j) = 2 * (1 * (i.val / 768) + j.val / 1024) + 1 := by
    show 2 * (1 * (i.val / 768 - 0) + 1 * (j.val / 1024 - 0)) + 1 = _
    omega
  have hp : Value.pt3Of (ix2 i j) < cfg0.N := by
    rw [show cfg0.N = 22 from N_0]
    omega
  have hl : Value.loc3Of (ix2 i j) = ix2 ⟨i.val % 768, Nat.mod_lt _ (by decide)⟩ j := by
    refine idx2_val _ _ _ _ _ rfl ?_
    show j.val % 1024 = j.val
    omega
  unfold Value.G3
  rw [dif_pos hp, ← Value.outsAt0_sweep m c _ hp, hl, flushed m c _ hp (by omega)]
  show at2 (V m c main_arg0) (768 * (Value.pt3Of (ix2 i j) / 2) + i.val % 768) j.val + (∑ x ∈ range 2048, term m c (768 * (Value.pt3Of (ix2 i j) / 2) + i.val % 768) j.val x : EReal) = _
  rw [show 768 * (Value.pt3Of (ix2 i j) / 2) + i.val % 768 = i.val by rw [hn]; omega]

/-! ## The reference's result -/

theorem reference_apply (x0 : Vec Ideal S8448x1024 .f32) (x1 : Vec Ideal S8448x2048 .bf16) (x2 : Vec Ideal S2048x1024 .bf16) (i : Fin 8448) (j : Fin 1024) :
    SoRefIdeal.Read.val_main_v3 (F := Ideal) x0 x1 x2 (ix2 i j) = at2 x0 i.val j.val + (∑ x ∈ range 2048, at2 x1 i.val x * at2 x2 x j.val : EReal) := by
  have hs : SoRefIdeal.Read.val_main_v2 (F := Ideal) x1 x2 (ix2 i j) = (∑ x ∈ range 2048, at2 x1 i.val x * at2 x2 x j.val : EReal) := by
    refine (SoRefIdeal.Read.val_main_v2_apply x1 x2 _).trans ?_
    rw [← Fin.sum_univ_eq_sum_range (fun x => at2 x1 i.val x * at2 x2 x j.val)]
    refine Finset.sum_congr rfl fun x _ => ?_
    rw [SoRefIdeal.Read.val_main_v0_apply, SoRefIdeal.Read.val_main_v1_apply,
      idx2_val (SoRefIdeal.Read.lidx_main_v2 _ x) i.val x.val i.isLt x.isLt rfl rfl, idx2_val (SoRefIdeal.Read.ridx_main_v2 _ x) x.val j.val x.isLt j.isLt rfl rfl]
    show x1 (ix2 i x) * x2 (ix2 x j) = _
    rw [at2_ix x1, at2_ix x2]
  rw [SoRefIdeal.Read.val_main_v3_apply, hs]
  show x0 (ix2 i j) + _ = _
  rw [at2_ix x0]

/-! ## The two programs -/

theorem algebraic : Cert.algebraic_SoIdeal_SoRefIdeal := by
  intro m g m' g' _ ha
  refine ⟨Value.G3 m, Value.run (F := Ideal) m g, ?_⟩
  refine (θ_run _ _ _).mono (fun r h c => ?_) (SoRefIdeal.Value.run (F := Ideal) m' g')
  obtain ⟨h0, h1⟩ := h c
  obtain ⟨a0, a1, a2⟩ := ha c
  refine ⟨h0.trans ?_, h1⟩
  rw [SoRefIdeal.Read.val_main_v3_eq, a0, a1, a2]
  funext i
  obtain ⟨a, b, rfl⟩ := idx2 (m := 8448) (n := 1024) i
  exact (reference_apply _ _ _ a b).trans (total m c a b).symm

end Cert.SoIdeal.Sums
-- ==== Proof.DwoValue.lean ====
module

public import proofs.«01_k».proof.Proof.Gen.DwoIdeal.Value
public import proofs.«01_k».proof.Defs
public import proofs.«01_k».proof.Proof.Gen.DwoRefIdeal.Run
public import proofs.«01_k».proof.Proof.Gen.DwoRefIdeal.Read
public import proofs.«01_k».proof.Proof.Blocked
public import Idealize.ShloMosaic.Lib.Pipeline.ValueKit
public import Idealize.ShloMosaic.Lib.Pipeline.Covers

/-! The gradient of the state space layer's output projection. -/

@[expose] public section

set_option maxRecDepth 16384
set_option maxHeartbeats 1000000
noncomputable section

namespace Cert.DwoIdeal.Sums

open Idealize.ShloMosaic Idealize.ShloMosaic.TcCoe Idealize.ShloMosaic.Tactic Idealize.SL.Sem Cert.DwoIdeal Cert.DwoIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S1408x512 .bf16) (h3 : a3.IsWhole) (a4 : Memref sig .tc .vmem S1408x1024 .f32) (h4 : a4.IsWhole) (a5 : Memref sig .tc .vmem S512x1024 .bf16) (h5 : a5.IsWhole) (a6 : Memref sig .tc .vmem S512x1024 .f32) (h6 : a6.IsWhole)
  (x : Vec Ideal S1408x512 .bf16) (y : Vec Ideal S1408x1024 .f32) (acc : Vec Ideal S512x1024 .f32)

theorem first (hc0 : cond0_0 i) (hc1 : ¬cond0_1 i) :
    sout0_A_0 c i a3 h3 a4 h4 a5 h5 a6 h6 hc0 hc1 x y = k0_pay2 x y (k0_pay1 (F := Ideal)) := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S512x1024) hz]
  simp only [View.readAt_eq_ld, View.readCov_unit_zero (S := S512x1024) _ hz, h3.read_unread, h4.read_unread, View.ld_unit_zero (S := S1408x512) hz, View.ld_unit_zero (S := S1408x1024) hz, View.ld_unit_zero (S := S512x1024) hz]

theorem middle (hc0 : ¬cond0_0 i) (hc1 : ¬cond0_1 i) :
    sout0_B_0 c i a3 h3 a4 h4 a5 h5 a6 h6 hc0 hc1 x y acc = k0_pay2 x y acc := by
  unfold sout0_B_0
  rw [View.read_writes_eq_canon _ _ _ (scover0_B_0 c i a3 h3 a4 h4 a5 h5 a6 h6 hc0 hc1 x y acc)]
  unfold kernelRun0_B
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem last (hc0 : ¬cond0_0 i) (hc1 : cond0_1 i) :
    sout0_C_0 c i a3 h3 a4 h4 a5 h5 a6 h6 hc0 hc1 x y acc = k0_pay2 x y acc := by
  unfold sout0_C_0
  rw [View.read_writes_eq_canon _ _ _ (scover0_C_0 c i a3 h3 a4 h4 a5 h5 a6 h6 hc0 hc1 x y acc)]
  unfold kernelRun0_C
  dsimp only
  sl_unfold_words
  rw [View.canon_unit_zero (S := S512x1024) hz]
  simp only [View.readAt_eq_ld, h3.read_unread, h4.read_unread, h6.read_unread, View.ld_unit_zero (S := S1408x512) hz, View.ld_unit_zero (S := S1408x1024) hz, View.ld_unit_zero (S := S512x1024) hz]

theorem written (hc0 : ¬cond0_0 i) (hc1 : cond0_1 i) :
    out0_C_2 c i a3 h3 a4 h4 a5 h5 a6 h6 hc0 hc1 x y acc = k0_pay3 (k0_pay2 x y acc) := by
  unfold out0_C_2
  rw [View.read_writes_eq_canon _ _ _ (cover0_C_2 c i a3 h3 a4 h4 a5 h5 a6 h6 hc0 hc1 x y acc)]
  unfold kernelRun0_C
  dsimp only
  sl_unfold_words
  rw [View.canon_unit_zero (S := S512x1024) hz]
  simp only [View.readAt_eq_ld, View.readCov_unit_zero (S := S512x1024) _ hz, h3.read_unread, h4.read_unread, h6.read_unread, View.ld_unit_zero (S := S1408x512) hz, View.ld_unit_zero (S := S1408x1024) hz, View.ld_unit_zero (S := S512x1024) hz]

theorem zero_apply (r : Fin 512) (s : Fin 1024) : k0_pay1 (F := Ideal) (ix2 r s) = (0 : EReal) := by
  pointwise [k0_pay1]

theorem step_apply (r : Fin 512) (s : Fin 1024) :
    k0_pay2 x y acc (ix2 r s) = acc (ix2 r s) + ∑ k : Fin 1408, x (ix2 k r) * y (ix2 k s) := by
  pointwise [k0_pay2]

theorem out_apply (r : Fin 512) (s : Fin 1024) : k0_pay3 acc (ix2 r s) = (acc (ix2 r s) : EReal) := by
  pointwise [k0_pay3]

end

theorem index : ∀ t : Fin grid0.N, win0_0.index t = ![t.val % 6, t.val / 6] ∧ win0_1.index t = ![t.val % 6, 0] := by
  decide +kernel

theorem iblk0 (c : Dev nD) (t : Fin grid0.N) (a : Fin 1408) (b : Fin 512) :
    iblk m c 0 t (ix2 a b) = at2 (V m c main_arg0) (1408 * (t.val % 6) + a.val) (512 * (t.val / 6) + b.val) := by
  have h : t.val < 24 := t.isLt.trans_eq N_0
  have e : ((cfg0.win 0).index t) = ![t.val % 6, t.val / 6] := (index t).1
  refine Eq.trans ?_ (at2_ix (V m c main_arg0) ⟨1408 * (t.val % 6) + a.val, by omega⟩ ⟨512 * (t.val / 6) + b.val, by omega⟩)
  blk_ext [iblk, e]

theorem iblk1 (c : Dev nD) (t : Fin grid0.N) (a : Fin 1408) (b : Fin 1024) :
    iblk m c 1 t (ix2 a b) = at2 (V m c main_arg1) (1408 * (t.val % 6) + a.val) (b.val) := by
  have h : t.val < 24 := t.isLt.trans_eq N_0
  have e : ((cfg0.win 1).index t) = ![t.val % 6, 0] := (index t).2
  refine Eq.trans ?_ (at2_ix (V m c main_arg1) ⟨1408 * (t.val % 6) + a.val, by omega⟩ b)
  blk_ext [iblk, e]

abbrev term (c : Dev nD) (i j x : ℕ) : EReal := at2 (V m c main_arg0) x i * at2 (V m c main_arg1) x j

theorem add_block (c : Dev nD) (t : Fin grid0.N) (acc : Vec Ideal S512x1024 .f32) (r : Fin 512) (s : Fin 1024)
    (h : acc (ix2 r s) = ∑ x ∈ range (t.val % 6 * 1408), term m c (512 * (t.val / 6) + r.val) s.val x) :
    k0_pay2 (iblk m c 0 t) (iblk m c 1 t) acc (ix2 r s) = ∑ x ∈ range ((t.val % 6 + 1) * 1408), term m c (512 * (t.val / 6) + r.val) s.val x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 512) (s : Fin 1024),
    (outsAt0 m c n h).2 (ix2 r s) = ∑ x ∈ range ((n % 6 + 1) * 1408), term m c (512 * (n / 6) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 6 * 1408), term m c (512 * ((n + 1) / 6) + r.val) s.val x := by
        rw [hp, show (n + 1) / 6 = n / 6 by omega, show (n + 1) % 6 = n % 6 + 1 by omega]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 512) (s : Fin 1024) :
    (outsAt0 m c n h).1 (ix2 r s) = (∑ x ∈ range 8448, term m c (512 * (n / 6) + r.val) s.val x : EReal) := by
  obtain ⟨k, rfl⟩ : ∃ k, n = k + 1 := ⟨n - 1, by omega⟩
  have h0 : ¬(k + 1) % 6 = 0 := by omega
  have ha := fun q => add_block m c ⟨k + 1, h⟩ (outsAt0 m c k q).2 r s (by
    rw [scratch m c k q, show k % 6 + 1 = (k + 1) % 6 by omega, show k / 6 = (k + 1) / 6 by omega])
  dsimp only at ha
  rw [h1] at ha
  rw [outsAt0_C m c ⟨k + 1, h⟩ h0 h1]
  dsimp only
  rw [written, out_apply]
  exact ha _

theorem total (c : Dev nD) (i : Fin 2048) (j : Fin 1024) :
    Value.G2 m c (ix2 i j) = (∑ x ∈ range 8448, term m c i.val j.val x : EReal) := by
  have hn : Value.pt2Of (ix2 i j) = 6 * (1 * (i.val / 512) + j.val / 1024) + 5 := by
    show 6 * (1 * (i.val / 512 - 0) + 1 * (j.val / 1024 - 0)) + 5 = _
    omega
  have hp : Value.pt2Of (ix2 i j) < cfg0.N := by
    rw [show cfg0.N = 24 from N_0]
    omega
  have hl : Value.loc2Of (ix2 i j) = ix2 ⟨i.val % 512, Nat.mod_lt _ (by decide)⟩ j := by
    refine idx2_val _ _ _ _ _ rfl ?_
    show j.val % 1024 = j.val
    omega
  unfold Value.G2
  rw [dif_pos hp, ← Value.outsAt0_sweep m c _ hp, hl, flushed m c _ hp (by omega)]
  show (∑ x ∈ range 8448, term m c (512 * (Value.pt2Of (ix2 i j) / 6) + i.val % 512) j.val x : EReal) = _
  rw [show 512 * (Value.pt2Of (ix2 i j) / 6) + i.val % 512 = i.val by rw [hn]; omega]

/-! ## The reference's result -/

theorem reference_apply (x0 : Vec Ideal S8448x2048 .bf16) (x1 : Vec Ideal S8448x1024 .f32) (i : Fin 2048) (j : Fin 1024) :
    DwoRefIdeal.Read.val_main_v5 (F := Ideal) x0 x1 (ix2 i j) = (∑ x ∈ range 8448, at2 x0 x i.val * at2 x1 x j.val : EReal) := by
  rw [DwoRefIdeal.Read.val_main_v5_apply, DwoRefIdeal.Read.val_main_v4_apply]
  refine (DwoRefIdeal.Read.val_main_v3_apply x0 x1 _).trans ?_
  rw [← Fin.sum_univ_eq_sum_range (fun x => at2 x0 x i.val * at2 x1 x j.val)]
  refine Finset.sum_congr rfl fun x _ => ?_
  rw [DwoRefIdeal.Read.val_main_v1_apply,
    idx2_val (DwoRefIdeal.Read.lidx_main_v3 _ x) x.val j.val x.isLt j.isLt rfl rfl, idx2_val (DwoRefIdeal.Read.ridx_main_v3 _ x) x.val i.val x.isLt i.isLt rfl rfl]
  show x1 (ix2 x j) * x0 (ix2 x i) = _
  rw [at2_ix x1, at2_ix x0, mul_comm]

/-! ## The two programs -/

theorem algebraic : Cert.algebraic_DwoIdeal_DwoRefIdeal := by
  intro m g m' g' _ ha
  refine ⟨Value.G2 m, Value.run (F := Ideal) m g, ?_⟩
  refine (θ_run _ _ _).mono (fun r h c => ?_) (DwoRefIdeal.Value.run (F := Ideal) m' g')
  obtain ⟨h0, h1⟩ := h c
  obtain ⟨a0, a1⟩ := ha c
  refine ⟨h0.trans ?_, h1⟩
  rw [DwoRefIdeal.Read.val_main_v5_eq, a0, a1]
  funext i
  obtain ⟨a, b, rfl⟩ := idx2 (m := 2048) (n := 1024) i
  exact (reference_apply _ _ a b).trans (total m c a b).symm

end Cert.DwoIdeal.Sums
-- ==== Proof.DyValue.lean ====
module

public import proofs.«01_k».proof.Proof.Gen.DyIdeal.Value
public import proofs.«01_k».proof.Defs
public import proofs.«01_k».proof.Proof.Gen.DyRefIdeal.Run
public import proofs.«01_k».proof.Proof.Gen.DyRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! The gradient of the state space layer's output before its projection. -/

@[expose] public section

set_option maxRecDepth 16384
set_option maxHeartbeats 1000000
noncomputable section

namespace Cert.DyIdeal.Sums

open Idealize.ShloMosaic Idealize.ShloMosaic.TcCoe Idealize.ShloMosaic.Tactic Idealize.SL.Sem Cert.DyIdeal Cert.DyIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .f32) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole)
  (x : Vec Ideal S768x1024 .f32) (y : Vec Ideal S1024x1024 .bf16) (acc : Vec Ideal S768x1024 .f32)

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 s k) := by
  pointwise [k0_pay2]

/-- The scratch after its one step. -/
theorem sum_apply (r : Fin 768) (s : Fin 1024) :
    k0_pay2 x y (k0_pay1 (F := Ideal)) (ix2 r s) = (∑ k : Fin 1024, x (ix2 r k) * y (ix2 s k) : EReal) := by
  rw [step_apply, zero_apply, zero_add]

/-- The scratch, loaded after it was last written. -/
theorem loaded (v : View sig Kind.tc Space.vmem S768x1024 .f32) (Z : Vec Ideal S768x1024 .f32) (L : List (View.Piece (Elt Ideal) S768x1024 .f32))
    (w inb : ∀ a, (![0, 0] : Fin 2 → ℕ) a + ![768, 1024] a ≤ S768x1024.size a) :
    v.readCov (⟨Rect.unit (s := S768x1024) ![0, 0] ![768, 1024] w, Z⟩ :: L) (Rect.unit (s := S768x1024) ![0, 0] ![768, 1024] inb).toLoadRect = Z :=
  (View.readCov_fill (Val := Elt Ideal) (s := S768x1024) v (off := ![0, 0]) w Z L (Rect.unit (s := S768x1024) ![0, 0] ![768, 1024] inb) (by decide)).trans
    (View.ld_unit_zero (S := S768x1024) hz inb Z)

theorem written (hc0 : cond0_0 i) (hc1 : cond0_1 i) :
    out0_A_2 c i a3 h3 a4 h4 a5 h5 a6 h6 hc0 hc1 x y = k0_pay2 x y (k0_pay1 (F := Ideal)) := by
  unfold out0_A_2
  rw [View.read_writes_eq_canon _ _ _ (cover0_A_2 c i a3 h3 a4 h4 a5 h5 a6 h6 hc0 hc1 x y)]
  unfold kernelRun0_A
  dsimp only
  sl_unfold_words
  rw [View.canon_unit_zero (S := S768x1024) hz, loaded]
  simp only [View.readAt_eq_ld, View.readCov_unit_zero (S := S768x1024) _ hz, h3.read_unread, h4.read_unread, View.ld_unit_zero (S := S768x1024) hz, View.ld_unit_zero (S := S1024x1024) hz]

end

theorem index : ∀ t : Fin grid0.N, win0_0.index t = ![t.val / 2, 0] ∧ win0_1.index t = ![t.val % 2, 0] ∧ win0_2.index t = ![t.val / 2, t.val % 2] := by
  decide +kernel

theorem iblk0 (c : Dev nD) (t : Fin grid0.N) (a : Fin 768) (b : Fin 1024) :
    iblk m c 0 t (ix2 a b) = at2 (V m c main_arg1) (768 * (t.val / 2) + a.val) (b.val) := by
  have h : t.val < 22 := t.isLt.trans_eq N_0
  have e : ((cfg0.win 0).index t) = ![t.val / 2, 0] := (index t).1
  refine Eq.trans ?_ (at2_ix (V m c main_arg1) ⟨768 * (t.val / 2) + a.val, by omega⟩ b)
  blk_ext [iblk, e]

theorem iblk1 (c : Dev nD) (t : Fin grid0.N) (a : Fin 1024) (b : Fin 1024) :
    iblk m c 1 t (ix2 a b) = at2 (V m c main_arg0) (1024 * (t.val % 2) + a.val) (b.val) := by
  have h : t.val < 22 := t.isLt.trans_eq N_0
  have e : ((cfg0.win 1).index t) = ![t.val % 2, 0] := (index t).2.1
  refine Eq.trans ?_ (at2_ix (V m c main_arg0) ⟨1024 * (t.val % 2) + a.val, by omega⟩ b)
  blk_ext [iblk, e]

/-- The product, at a row and a column. -/
def prod (c : Dev nD) (i j : ℕ) : EReal := ∑ x ∈ range 1024, at2 (V m c main_arg1) i x * at2 (V m c main_arg0) j x

theorem prod_blk (c : Dev nD) (t : Fin grid0.N) (r : Fin 768) (s : Fin 1024) :
    k0_pay2 (iblk m c 0 t) (iblk m c 1 t) (k0_pay1 (F := Ideal)) (ix2 r s) = prod m c (768 * (t.val / 2) + r.val) (1024 * (t.val % 2) + s.val) := by
  rw [sum_apply, prod, ← Fin.sum_univ_eq_sum_range]
  exact Finset.sum_congr rfl fun k _ => by rw [iblk0, iblk1]

/-- The kernel's result. -/
def G2 (c : Dev nD) : FVec Ideal S8448x2048 .f32 := fun i => prod m c (i 0).val (i 1).val

theorem index2 (i : grid0.Coords) : cc0_transform_2 i = ![(i 0).val, (i 1).val] := by
  have h0 : (i 0).val < 11 := (i 0).isLt
  have h1 : (i 1).val < 2 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem blocks : ∀ a : Fin 2, (S8448x2048.size a + S768x1024.size a - 1) / S768x1024.size a = (![11, 2] : Fin 2 → ℕ) a := by decide

theorem surj (β : (a : Fin 2) → Fin ((![11, 2] : Fin 2 → ℕ) a)) : ∃ i : grid0.Coords, ∀ a, cc0_transform_2 i a = (β a).val := by
  refine ⟨fun | ⟨0, _⟩ => β 0 | ⟨1, _⟩ => β 1 | ⟨2, _⟩ => (0 : Fin 1) | ⟨_ + 3, h⟩ => absurd h (by simp), fun a => ?_⟩
  rw [index2]
  match a with
  | ⟨0, _⟩ => rfl
  | ⟨1, _⟩ => rfl

theorem cover2 : (cfg0.win 2).Covers :=
  (cfg0.win 2).covers_of_indexMap_surj rfl (by decide : ∀ a : Fin 2, 0 < S768x1024.size a) fun β =>
    surj fun a => (⟨(β a).val, (β a).isLt.trans_eq (blocks a)⟩ : Fin ((![11, 2] : Fin 2 → ℕ) a))

/-- Where an index of a block lies in the array. -/
def spot (t : Fin grid0.N) (r : Fin 768) (s : Fin 1024) : S8448x2048.Idx :=
  have h : t.val < 22 := t.isLt.trans_eq N_0
  ix2 ⟨768 * (t.val / 2) + r.val, by omega⟩ ⟨1024 * (t.val % 2) + s.val, by omega⟩

theorem arr2 (c : Dev nD) : (dats m 0 c).arrAt 2 cfg0.N = G2 m c := by
  refine (dats m 0 c).arrAt_eq_of_covers 2 _ cover2 fun t _ y => ?_
  obtain ⟨r, s, rfl⟩ := idx2 (m := 768) (n := 1024) y
  have hp : ((cfg0.win 2).blk t).view.emb (ix2 r s) = spot t r s := by
    have e : ((cfg0.win 2).index t) = ![t.val / 2, t.val % 2] := (index t).2.2
    blk_ext [e, spot]
  rw [hp]
  refine (congrFun (after0_2 m c t) _).trans ?_
  unfold outsAt0
  rw [written]
  exact prod_blk m c t r s

/-! ## The reference's result -/

theorem reference_apply (x0 : Vec Ideal S2048x1024 .bf16) (x1 : Vec Ideal S8448x1024 .f32) (i : Fin 8448) (j : Fin 2048) :
    DyRefIdeal.Read.val_main_v3 (F := Ideal) x0 x1 (ix2 i j) = (∑ x ∈ range 1024, at2 x1 i.val x * at2 x0 j.val x : EReal) := by
  refine (DyRefIdeal.Read.val_main_v3_apply x0 x1 _).trans ?_
  rw [← Fin.sum_univ_eq_sum_range (fun x => at2 x1 i.val x * at2 x0 j.val x)]
  refine Finset.sum_congr rfl fun x _ => ?_
  rw [DyRefIdeal.Read.val_main_v1_apply,
    idx2_val (DyRefIdeal.Read.lidx_main_v3 _ x) i.val x.val i.isLt x.isLt rfl rfl,
    idx2_val (DyRefIdeal.Read.ridx_main_v3 _ x) j.val x.val j.isLt x.isLt rfl rfl]
  show x1 (ix2 i x) * x0 (ix2 j x) = _
  rw [at2_ix x1, at2_ix x0]

/-! ## The two programs -/

theorem algebraic : Cert.algebraic_DyIdeal_DyRefIdeal := by
  intro m g m' g' _ ha
  refine ⟨G2 m, ?_, ?_⟩
  · refine (θ_run _ _ _).mono (fun r h c => ?_) (Value.run_blocks (F := Ideal) m g)
    obtain ⟨h2, h3⟩ := h c
    exact ⟨h2.trans (arr2 m c), h3⟩
  refine (θ_run _ _ _).mono (fun r h c => ?_) (DyRefIdeal.Value.run (F := Ideal) m' g')
  obtain ⟨h0, h1⟩ := h c
  obtain ⟨a0, a1⟩ := ha c
  refine ⟨h0.trans ?_, h1⟩
  rw [DyRefIdeal.Read.val_main_v3_eq, a0, a1]
  funext i
  obtain ⟨a, b, rfl⟩ := idx2 (m := 8448) (n := 2048) i
  exact reference_apply _ _ a b

end Cert.DyIdeal.Sums
-- ==== Proof.QpValue.lean ====
module

public import proofs.«01_k».proof.Proof.Gen.QpIdeal.Value
public import proofs.«01_k».proof.Defs
public import proofs.«01_k».proof.Proof.Gen.QpRefIdeal.Run
public import proofs.«01_k».proof.Proof.Gen.QpRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! A projection of the attention, written head by head. -/

@[expose] public section

set_option maxRecDepth 16384
set_option maxHeartbeats 1000000
noncomputable section

namespace Cert.QpIdeal.Sums

open Idealize.ShloMosaic Idealize.ShloMosaic.TcCoe Idealize.ShloMosaic.Tactic Idealize.SL.Sem Cert.QpIdeal Cert.QpIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .bf16) (h3 : a3.IsWhole) (a4 : Memref sig .tc .vmem S1024x1024 .bf16) (h4 : a4.IsWhole) (a5 : Memref sig .tc .vmem S16x768x64 .f32) (h5 : a5.IsWhole) (a6 : Memref sig .tc .vmem S768x1024 .f32) (h6 : a6.IsWhole)
  (x : Vec Ideal S768x1024 .bf16) (y : Vec Ideal S1024x1024 .bf16) (acc : Vec Ideal S768x1024 .f32)

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 k s) := by
  pointwise [k0_pay2]

/-- The scratch after its one step. -/
theorem sum_apply (r : Fin 768) (s : Fin 1024) :
    k0_pay2 x y (k0_pay1 (F := Ideal)) (ix2 r s) = (∑ k : Fin 1024, x (ix2 r k) * y (ix2 k s) : EReal) := by
  rw [step_apply, zero_apply, zero_add]

/-- A head's piece, at an index of the block that it holds. -/
theorem head (Z : Vec Ideal S768x1024 .f32) (o : ℕ) (inb : ∀ a, ![0, o] a + S768x64.size a ≤ S768x1024.size a) (u : S1x768x64.Idx)
    (r : Fin 768) (s : Fin 1024) (h1 : r.val = (u 1).val) (h2 : s.val = o + (u 2).val) :
    k0_pay3 (F := Ideal) (View.ld Z (Rect.unit (s := S768x1024) ![0, o] S768x64.size inb)) u = (Z (ix2 r s) : EReal) := by
  rw [ValueIdx.eq_ix3 (n0 := 1) (n1 := 768) (n2 := 64) u]
  refine Eq.trans (b := View.ld Z (Rect.unit (s := S768x1024) ![0, o] S768x64.size inb) (ix2 (u 1) (u 2))) ?_ ?_
  · generalize View.ld Z (Rect.unit (s := S768x1024) ![0, o] S768x64.size inb) = W
    pointwise [k0_pay3]
  · refine View.ld_unit_apply_of (S := S768x1024) Z _ _ _ _ _ fun a => ?_
    match a with
    | ⟨0, _⟩ => exact h1.trans (Nat.zero_add _).symm
    | ⟨1, _⟩ => exact h2

/-- Where an index of the block lies in the scratch. -/
abbrev place (q : Fin 16) (s : Fin 64) : Fin 1024 := ⟨64 * q.val + s.val, by omega⟩

/-- A part of the scratch, loaded after the whole of it was written. -/
theorem loaded (v : View sig Kind.tc Space.vmem S768x1024 .f32) (Z : Vec Ideal S768x1024 .f32) (L : List (View.Piece (Elt Ideal) S768x1024 .f32)) (o : ℕ)
    (w : ∀ a, (![0, 0] : Fin 2 → ℕ) a + ![768, 1024] a ≤ S768x1024.size a)
    (inb : ∀ a, (![0, o] : Fin 2 → ℕ) a + ![768, 64] a ≤ S768x1024.size a) :
    v.readCov (⟨Rect.unit (s := S768x1024) ![0, 0] ![768, 1024] w, Z⟩ :: L) (Rect.unit (s := S768x1024) ![0, o] ![768, 64] inb).toLoadRect
      = View.ld Z (Rect.unit (s := S768x1024) ![0, o] ![768, 64] inb) :=
  View.readCov_fill (Val := Elt Ideal) (s := S768x1024) v (off := ![0, 0]) w Z L (Rect.unit (s := S768x1024) ![0, o] ![768, 64] inb) (by decide)

theorem written (hc0 : cond0_0 i) (hc1 : cond0_1 i) (q : Fin 16) (r : Fin 768) (s : Fin 64) :
    out0_A_2 c i a3 h3 a4 h4 a5 h5 a6 h6 hc0 hc1 x y (ix3 q r s) = k0_pay2 x y (k0_pay1 (F := Ideal)) (ix2 r (place q s)) := by
  unfold out0_A_2
  rw [View.read_writes_eq_canon _ _ _ (cover0_A_2 c i a3 h3 a4 h4 a5 h5 a6 h6 hc0 hc1 x y)]
  have hcov := cover0_A_2 c i a3 h3 a4 h4 a5 h5 a6 h6 hc0 hc1 x y (ix3 q r s)
  revert hcov
  unfold kernelRun0_A
  dsimp only
  sl_unfold_words
  simp only [View.readAt_eq_ld, View.readCov_unit_zero (S := S768x1024) _ hz, h3.read_unread, h4.read_unread, View.ld_unit_zero (S := S768x1024) hz, View.ld_unit_zero (S := S1024x1024) hz]
  generalize k0_pay2 x y (k0_pay1 (F := Ideal)) = Z
  intro hcov
  canon_tiles u h using hcov
  all_goals
    rw [loaded]
    exact head Z _ _ u r (place q s) h1 (by show 64 * q.val + s.val = _; change q.val = _ at h0; change s.val = _ at h2; omega)

end

theorem index : ∀ t : Fin grid0.N, win0_0.index t = ![t.val, 0] ∧ win0_1.index t = ![0, 0] ∧ win0_2.index t = ![0, t.val, 0] := by
  decide +kernel

theorem iblk0 (c : Dev nD) (t : Fin grid0.N) (a : Fin 768) (b : Fin 1024) :
    iblk m c 0 t (ix2 a b) = at2 (V m c main_arg0) (768 * (t.val) + a.val) (b.val) := by
  have h : t.val < 11 := t.isLt.trans_eq N_0
  have e : ((cfg0.win 0).index t) = ![t.val, 0] := (index t).1
  refine Eq.trans ?_ (at2_ix (V m c main_arg0) ⟨768 * (t.val) + a.val, by omega⟩ b)
  blk_ext [iblk, e]

theorem iblk1 (c : Dev nD) (t : Fin grid0.N) (a : Fin 1024) (b : Fin 1024) :
    iblk m c 1 t (ix2 a b) = at2 (V m c main_arg1) (a.val) (b.val) := by
  have h : t.val < 11 := t.isLt.trans_eq N_0
  have e : ((cfg0.win 1).index t) = ![0, 0] := (index t).2.1
  refine Eq.trans ?_ (at2_ix (V m c main_arg1) a b)
  blk_ext [iblk, e]

/-- The product, at a row and a column. -/
def prod (c : Dev nD) (i j : ℕ) : EReal := ∑ x ∈ range 1024, at2 (V m c main_arg0) i x * at2 (V m c main_arg1) x j

theorem prod_blk (c : Dev nD) (t : Fin grid0.N) (r : Fin 768) (s : Fin 1024) :
    k0_pay2 (iblk m c 0 t) (iblk m c 1 t) (k0_pay1 (F := Ideal)) (ix2 r s) = prod m c (768 * (t.val) + r.val) s.val := by
  rw [sum_apply, prod, ← Fin.sum_univ_eq_sum_range]
  exact Finset.sum_congr rfl fun k _ => by rw [iblk0, iblk1]

/-- The kernel's result. -/
def G2 (c : Dev nD) : FVec Ideal S16x8448x64 .f32 := fun i => prod m c (i 1).val (64 * (i 0).val + (i 2).val)

theorem index2 (i : grid0.Coords) : cc0_transform_2 i = ![0, (i 0).val, 0] := by
  have h0 : (i 0).val < 11 := (i 0).isLt
  show ![(0#32 : BitVec 32).toNat, (BitVec.ofNat 32 (i 0).val).toNat, (0#32 : BitVec 32).toNat] = _
  rw [BitVec.toNat_ofNat (i 0).val, Nat.mod_eq_of_lt (by omega)]
  rfl

theorem blocks : ∀ a : Fin 3, (S16x8448x64.size a + S16x768x64.size a - 1) / S16x768x64.size a = (![1, 11, 1] : Fin 3 → ℕ) a := by decide

theorem surj (β : (a : Fin 3) → Fin ((![1, 11, 1] : Fin 3 → ℕ) a)) : ∃ i : grid0.Coords, ∀ a, cc0_transform_2 i a = (β a).val := by
  refine ⟨fun | ⟨0, _⟩ => β 1 | ⟨1, _⟩ => (0 : Fin 1) | ⟨2, _⟩ => (0 : Fin 1) | ⟨_ + 3, h⟩ => absurd h (by simp), fun a => ?_⟩
  rw [index2]
  have h0 : (β 0).val < 1 := (β 0).isLt
  have h2 : (β 2).val < 1 := (β 2).isLt
  match a with
  | ⟨0, _⟩ => show 0 = (β 0).val; omega
  | ⟨1, _⟩ => rfl
  | ⟨2, _⟩ => show 0 = (β 2).val; omega

theorem cover2 : (cfg0.win 2).Covers :=
  (cfg0.win 2).covers_of_indexMap_surj rfl (by decide : ∀ a : Fin 3, 0 < S16x768x64.size a) fun β =>
    surj fun a => (⟨(β a).val, (β a).isLt.trans_eq (blocks a)⟩ : Fin ((![1, 11, 1] : Fin 3 → ℕ) a))

theorem idx3 (y : S16x768x64.Idx) : ∃ (q : Fin 16) (r : Fin 768) (s : Fin 64), y = ix3 q r s :=
  ⟨y 0, y 1, y 2, ValueIdx.eq_ix3 (n0 := 16) (n1 := 768) (n2 := 64) y⟩

/-- Where an index of a block lies in the array. -/
def spot (t : Fin grid0.N) (q : Fin 16) (r : Fin 768) (s : Fin 64) : S16x8448x64.Idx :=
  have h : t.val < 11 := t.isLt.trans_eq N_0
  ix3 q ⟨768 * (t.val) + r.val, by omega⟩ s

theorem arr2 (c : Dev nD) : (dats m 0 c).arrAt 2 cfg0.N = G2 m c := by
  refine (dats m 0 c).arrAt_eq_of_covers 2 _ cover2 fun t _ y => ?_
  obtain ⟨q, r, s, rfl⟩ := idx3 y
  have hp : ((cfg0.win 2).blk t).view.emb (ix3 q r s) = spot t q r s := by
    have e : ((cfg0.win 2).index t) = ![0, t.val, 0] := (index t).2.2
    blk_ext [e, spot]
  rw [hp]
  refine (congrFun (after0_2 m c t) _).trans ?_
  unfold outsAt0
  exact (written c (grid0.coords t) _ _ _ _ _ _ _ _ (iblk m c 0 t) (iblk m c 1 t) (hcond0_0 t) (hcond0_1 t) q r s).trans (prod_blk m c t r (place q s))

/-! ## The reference's result -/

theorem reference_apply (x0 : Vec Ideal S8448x1024 .bf16) (x1 : Vec Ideal S1024x1024 .bf16) (q : Fin 16) (i : Fin 8448) (j : Fin 64) :
    QpRefIdeal.Read.val_main_v4 (F := Ideal) x0 x1 (ix3 q i j) = (∑ x ∈ range 1024, at2 x0 i.val x * at2 x1 x (64 * q.val + j.val) : EReal) := by
  rw [QpRefIdeal.Read.val_main_v4_apply, QpRefIdeal.Read.val_main_v3_apply]
  refine (QpRefIdeal.Read.val_main_v2_apply x0 x1 _).trans ?_
  rw [← Fin.sum_univ_eq_sum_range (fun x => at2 x0 i.val x * at2 x1 x (64 * q.val + j.val))]
  refine Finset.sum_congr rfl fun x _ => ?_
  have hi : ((i.val * 16 + q.val) * 64 + j.val) / 1024 = i.val := by omega
  have hj : ((i.val * 16 + q.val) * 64 + j.val) % 1024 = 64 * q.val + j.val := by omega
  rw [QpRefIdeal.Read.val_main_v0_apply, QpRefIdeal.Read.val_main_v1_apply,
    idx2_val (QpRefIdeal.Read.lidx_main_v2 _ x) i.val x.val i.isLt x.isLt hi rfl,
    idx2_val (QpRefIdeal.Read.ridx_main_v2 _ x) x.val (64 * q.val + j.val) x.isLt (by omega) rfl hj]
  show x0 (ix2 i x) * x1 (ix2 x (place q j)) = _
  rw [at2_ix x0, at2_ix x1]

/-! ## The two programs -/

theorem algebraic : Cert.algebraic_QpIdeal_QpRefIdeal := by
  intro m g m' g' _ ha
  refine ⟨G2 m, ?_, ?_⟩
  · refine (θ_run _ _ _).mono (fun r h c => ?_) (Value.run_blocks (F := Ideal) m g)
    obtain ⟨h2, h3⟩ := h c
    exact ⟨h2.trans (arr2 m c), h3⟩
  refine (θ_run _ _ _).mono (fun r h c => ?_) (QpRefIdeal.Value.run (F := Ideal) m' g')
  obtain ⟨h0, h1⟩ := h c
  obtain ⟨a0, a1⟩ := ha c
  refine ⟨h0.trans ?_, h1⟩
  rw [QpRefIdeal.Read.val_main_v4_eq, a0, a1]
  funext i
  rw [ValueIdx.eq_ix3 (n0 := 16) (n1 := 8448) (n2 := 64) i]
  exact reference_apply _ _ _ _ _

end Cert.QpIdeal.Sums
-- ==== Proof.VpValue.lean ====
module

public import proofs.«01_k».proof.Proof.Gen.VpIdeal.Value
public import proofs.«01_k».proof.Defs
public import proofs.«01_k».proof.Proof.Gen.VpRefIdeal.Run
public import proofs.«01_k».proof.Proof.Gen.VpRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! The attention's projection to v, written head by head and rounded. -/

@[expose] public section

set_option maxRecDepth 16384
set_option maxHeartbeats 1000000
noncomputable section

namespace Cert.VpIdeal.Sums

open Idealize.ShloMosaic Idealize.ShloMosaic.TcCoe Idealize.ShloMosaic.Tactic Idealize.SL.Sem Cert.VpIdeal Cert.VpIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .bf16) (h3 : a3.IsWhole) (a4 : Memref sig .tc .vmem S1024x1024 .bf16) (h4 : a4.IsWhole) (a5 : Memref sig .tc .vmem S16x768x64 .bf16) (h5 : a5.IsWhole) (a6 : Memref sig .tc .vmem S768x1024 .f32) (h6 : a6.IsWhole)
  (x : Vec Ideal S768x1024 .bf16) (y : Vec Ideal S1024x1024 .bf16) (acc : Vec Ideal S768x1024 .f32)

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 k s) := by
  pointwise [k0_pay2]

/-- The scratch after its one step. -/
theorem sum_apply (r : Fin 768) (s : Fin 1024) :
    k0_pay2 x y (k0_pay1 (F := Ideal)) (ix2 r s) = (∑ k : Fin 1024, x (ix2 r k) * y (ix2 k s) : EReal) := by
  rw [step_apply, zero_apply, zero_add]

/-- A head's piece, at an index of the block that it holds. -/
theorem head (Z : Vec Ideal S768x1024 .f32) (o : ℕ) (inb : ∀ a, ![0, o] a + S768x64.size a ≤ S768x1024.size a) (u : S1x768x64.Idx)
    (r : Fin 768) (s : Fin 1024) (h1 : r.val = (u 1).val) (h2 : s.val = o + (u 2).val) :
    k0_pay3 (F := Ideal) (View.ld Z (Rect.unit (s := S768x1024) ![0, o] S768x64.size inb)) u = (Z (ix2 r s) : EReal) := by
  rw [ValueIdx.eq_ix3 (n0 := 1) (n1 := 768) (n2 := 64) u]
  refine Eq.trans (b := View.ld Z (Rect.unit (s := S768x1024) ![0, o] S768x64.size inb) (ix2 (u 1) (u 2))) ?_ ?_
  · generalize View.ld Z (Rect.unit (s := S768x1024) ![0, o] S768x64.size inb) = W
    pointwise [k0_pay3]
  · refine View.ld_unit_apply_of (S := S768x1024) Z _ _ _ _ _ fun a => ?_
    match a with
    | ⟨0, _⟩ => exact h1.trans (Nat.zero_add _).symm
    | ⟨1, _⟩ => exact h2

/-- Where an index of the block lies in the scratch. -/
abbrev place (q : Fin 16) (s : Fin 64) : Fin 1024 := ⟨64 * q.val + s.val, by omega⟩

/-- A part of the scratch, loaded after the whole of it was written. -/
theorem loaded (v : View sig Kind.tc Space.vmem S768x1024 .f32) (Z : Vec Ideal S768x1024 .f32) (L : List (View.Piece (Elt Ideal) S768x1024 .f32)) (o : ℕ)
    (w : ∀ a, (![0, 0] : Fin 2 → ℕ) a + ![768, 1024] a ≤ S768x1024.size a)
    (inb : ∀ a, (![0, o] : Fin 2 → ℕ) a + ![768, 64] a ≤ S768x1024.size a) :
    v.readCov (⟨Rect.unit (s := S768x1024) ![0, 0] ![768, 1024] w, Z⟩ :: L) (Rect.unit (s := S768x1024) ![0, o] ![768, 64] inb).toLoadRect
      = View.ld Z (Rect.unit (s := S768x1024) ![0, o] ![768, 64] inb) :=
  View.readCov_fill (Val := Elt Ideal) (s := S768x1024) v (off := ![0, 0]) w Z L (Rect.unit (s := S768x1024) ![0, o] ![768, 64] inb) (by decide)

theorem written (hc0 : cond0_0 i) (hc1 : cond0_1 i) (q : Fin 16) (r : Fin 768) (s : Fin 64) :
    out0_A_2 c i a3 h3 a4 h4 a5 h5 a6 h6 hc0 hc1 x y (ix3 q r s) = k0_pay2 x y (k0_pay1 (F := Ideal)) (ix2 r (place q s)) := by
  unfold out0_A_2
  rw [View.read_writes_eq_canon _ _ _ (cover0_A_2 c i a3 h3 a4 h4 a5 h5 a6 h6 hc0 hc1 x y)]
  have hcov := cover0_A_2 c i a3 h3 a4 h4 a5 h5 a6 h6 hc0 hc1 x y (ix3 q r s)
  revert hcov
  unfold kernelRun0_A
  dsimp only
  sl_unfold_words
  simp only [View.readAt_eq_ld, View.readCov_unit_zero (S := S768x1024) _ hz, h3.read_unread, h4.read_unread, View.ld_unit_zero (S := S768x1024) hz, View.ld_unit_zero (S := S1024x1024) hz]
  generalize k0_pay2 x y (k0_pay1 (F := Ideal)) = Z
  intro hcov
  canon_tiles u h using hcov
  all_goals
    rw [loaded]
    exact head Z _ _ u r (place q s) h1 (by show 64 * q.val + s.val = _; change q.val = _ at h0; change s.val = _ at h2; omega)

end

theorem index : ∀ t : Fin grid0.N, win0_0.index t = ![t.val, 0] ∧ win0_1.index t = ![0, 0] ∧ win0_2.index t = ![0, t.val, 0] := by
  decide +kernel

theorem iblk0 (c : Dev nD) (t : Fin grid0.N) (a : Fin 768) (b : Fin 1024) :
    iblk m c 0 t (ix2 a b) = at2 (V m c main_arg0) (768 * (t.val) + a.val) (b.val) := by
  have h : t.val < 11 := t.isLt.trans_eq N_0
  have e : ((cfg0.win 0).index t) = ![t.val, 0] := (index t).1
  refine Eq.trans ?_ (at2_ix (V m c main_arg0) ⟨768 * (t.val) + a.val, by omega⟩ b)
  blk_ext [iblk, e]

theorem iblk1 (c : Dev nD) (t : Fin grid0.N) (a : Fin 1024) (b : Fin 1024) :
    iblk m c 1 t (ix2 a b) = at2 (V m c main_arg1) (a.val) (b.val) := by
  have h : t.val < 11 := t.isLt.trans_eq N_0
  have e : ((cfg0.win 1).index t) = ![0, 0] := (index t).2.1
  refine Eq.trans ?_ (at2_ix (V m c main_arg1) a b)
  blk_ext [iblk, e]

/-- The product, at a row and a column. -/
def prod (c : Dev nD) (i j : ℕ) : EReal := ∑ x ∈ range 1024, at2 (V m c main_arg0) i x * at2 (V m c main_arg1) x j

theorem prod_blk (c : Dev nD) (t : Fin grid0.N) (r : Fin 768) (s : Fin 1024) :
    k0_pay2 (iblk m c 0 t) (iblk m c 1 t) (k0_pay1 (F := Ideal)) (ix2 r s) = prod m c (768 * (t.val) + r.val) s.val := by
  rw [sum_apply, prod, ← Fin.sum_univ_eq_sum_range]
  exact Finset.sum_congr rfl fun k _ => by rw [iblk0, iblk1]

/-- The kernel's result. -/
def G2 (c : Dev nD) : FVec Ideal S16x8448x64 .bf16 := fun i => prod m c (i 1).val (64 * (i 0).val + (i 2).val)

theorem index2 (i : grid0.Coords) : cc0_transform_2 i = ![0, (i 0).val, 0] := by
  have h0 : (i 0).val < 11 := (i 0).isLt
  show ![(0#32 : BitVec 32).toNat, (BitVec.ofNat 32 (i 0).val).toNat, (0#32 : BitVec 32).toNat] = _
  rw [BitVec.toNat_ofNat (i 0).val, Nat.mod_eq_of_lt (by omega)]
  rfl

theorem blocks : ∀ a : Fin 3, (S16x8448x64.size a + S16x768x64.size a - 1) / S16x768x64.size a = (![1, 11, 1] : Fin 3 → ℕ) a := by decide

theorem surj (β : (a : Fin 3) → Fin ((![1, 11, 1] : Fin 3 → ℕ) a)) : ∃ i : grid0.Coords, ∀ a, cc0_transform_2 i a = (β a).val := by
  refine ⟨fun | ⟨0, _⟩ => β 1 | ⟨1, _⟩ => (0 : Fin 1) | ⟨2, _⟩ => (0 : Fin 1) | ⟨_ + 3, h⟩ => absurd h (by simp), fun a => ?_⟩
  rw [index2]
  have h0 : (β 0).val < 1 := (β 0).isLt
  have h2 : (β 2).val < 1 := (β 2).isLt
  match a with
  | ⟨0, _⟩ => show 0 = (β 0).val; omega
  | ⟨1, _⟩ => rfl
  | ⟨2, _⟩ => show 0 = (β 2).val; omega

theorem cover2 : (cfg0.win 2).Covers :=
  (cfg0.win 2).covers_of_indexMap_surj rfl (by decide : ∀ a : Fin 3, 0 < S16x768x64.size a) fun β =>
    surj fun a => (⟨(β a).val, (β a).isLt.trans_eq (blocks a)⟩ : Fin ((![1, 11, 1] : Fin 3 → ℕ) a))

theorem idx3 (y : S16x768x64.Idx) : ∃ (q : Fin 16) (r : Fin 768) (s : Fin 64), y = ix3 q r s :=
  ⟨y 0, y 1, y 2, ValueIdx.eq_ix3 (n0 := 16) (n1 := 768) (n2 := 64) y⟩

/-- Where an index of a block lies in the array. -/
def spot (t : Fin grid0.N) (q : Fin 16) (r : Fin 768) (s : Fin 64) : S16x8448x64.Idx :=
  have h : t.val < 11 := t.isLt.trans_eq N_0
  ix3 q ⟨768 * (t.val) + r.val, by omega⟩ s

theorem arr2 (c : Dev nD) : (dats m 0 c).arrAt 2 cfg0.N = G2 m c := by
  refine (dats m 0 c).arrAt_eq_of_covers 2 _ cover2 fun t _ y => ?_
  obtain ⟨q, r, s, rfl⟩ := idx3 y
  have hp : ((cfg0.win 2).blk t).view.emb (ix3 q r s) = spot t q r s := by
    have e : ((cfg0.win 2).index t) = ![0, t.val, 0] := (index t).2.2
    blk_ext [e, spot]
  rw [hp]
  refine (congrFun (after0_2 m c t) _).trans ?_
  unfold outsAt0
  exact (written c (grid0.coords t) _ _ _ _ _ _ _ _ (iblk m c 0 t) (iblk m c 1 t) (hcond0_0 t) (hcond0_1 t) q r s).trans (prod_blk m c t r (place q s))

/-! ## The reference's result -/

theorem reference_apply (x0 : Vec Ideal S8448x1024 .bf16) (x1 : Vec Ideal S1024x1024 .bf16) (q : Fin 16) (i : Fin 8448) (j : Fin 64) :
    VpRefIdeal.Read.val_main_v5 (F := Ideal) x0 x1 (ix3 q i j) = (∑ x ∈ range 1024, at2 x0 i.val x * at2 x1 x (64 * q.val + j.val) : EReal) := by
  rw [VpRefIdeal.Read.val_main_v5_apply, VpRefIdeal.Read.val_main_v4_apply, VpRefIdeal.Read.val_main_v3_apply]
  refine (VpRefIdeal.Read.val_main_v2_apply x0 x1 _).trans ?_
  rw [← Fin.sum_univ_eq_sum_range (fun x => at2 x0 i.val x * at2 x1 x (64 * q.val + j.val))]
  refine Finset.sum_congr rfl fun x _ => ?_
  have hi : ((i.val * 16 + q.val) * 64 + j.val) / 1024 = i.val := by omega
  have hj : ((i.val * 16 + q.val) * 64 + j.val) % 1024 = 64 * q.val + j.val := by omega
  rw [VpRefIdeal.Read.val_main_v0_apply, VpRefIdeal.Read.val_main_v1_apply,
    idx2_val (VpRefIdeal.Read.lidx_main_v2 _ x) i.val x.val i.isLt x.isLt hi rfl,
    idx2_val (VpRefIdeal.Read.ridx_main_v2 _ x) x.val (64 * q.val + j.val) x.isLt (by omega) rfl hj]
  show x0 (ix2 i x) * x1 (ix2 x (place q j)) = _
  rw [at2_ix x0, at2_ix x1]

/-! ## The two programs -/

theorem algebraic : Cert.algebraic_VpIdeal_VpRefIdeal := by
  intro m g m' g' _ ha
  refine ⟨G2 m, ?_, ?_⟩
  · refine (θ_run _ _ _).mono (fun r h c => ?_) (Value.run_blocks (F := Ideal) m g)
    obtain ⟨h2, h3⟩ := h c
    exact ⟨h2.trans (arr2 m c), h3⟩
  refine (θ_run _ _ _).mono (fun r h c => ?_) (VpRefIdeal.Value.run (F := Ideal) m' g')
  obtain ⟨h0, h1⟩ := h c
  obtain ⟨a0, a1⟩ := ha c
  refine ⟨h0.trans ?_, h1⟩
  rw [VpRefIdeal.Read.val_main_v5_eq, a0, a1]
  funext i
  rw [ValueIdx.eq_ix3 (n0 := 16) (n1 := 8448) (n2 := 64) i]
  exact reference_apply _ _ _ _ _

end Cert.VpIdeal.Sums
-- ==== Proof.DoValue.lean ====
module

public import proofs.«01_k».proof.Proof.Gen.DoIdeal.Value
public import proofs.«01_k».proof.Defs
public import proofs.«01_k».proof.Proof.Gen.DoRefIdeal.Run
public import proofs.«01_k».proof.Proof.Gen.DoRefIdeal.Read
public import proofs.«01_k».proof.Proof.Blocked
public import Idealize.ShloMosaic.Lib.Pipeline.ValueKit
public import Idealize.ShloMosaic.Lib.Pipeline.ReadBack
public import Idealize.ShloMosaic.Lib.Pipeline.Covers

/-! The gradient of the attention's output before its projection, written head by head. -/

@[expose] public section

set_option maxRecDepth 16384
set_option maxHeartbeats 1000000
noncomputable section

namespace Cert.DoIdeal.Sums

open Idealize.ShloMosaic Idealize.ShloMosaic.TcCoe Idealize.ShloMosaic.Tactic Idealize.SL.Sem Cert.DoIdeal Cert.DoIdeal.Gen Cert.Blocked Finset

variable (m : (ℓ : Loc nD τ sig) → Buf (Elt Ideal) ℓ)

theorem hz : (![0, 0] : Fin 2 → Nat) = fun _ => 0 := funext fun a => by fin_cases a <;> rfl

section
variable (c : Dev nD) (i : grid0.Coords) (a3 : Memref sig .tc .vmem S768x1024 .f32) (h3 : a3.IsWhole) (a4 : Memref sig .tc .vmem S1024x1024 .bf16) (h4 : a4.IsWhole) (a5 : Memref sig .tc .vmem S16x768x64 .f32) (h5 : a5.IsWhole) (a6 : Memref sig .tc .vmem S768x1024 .f32) (h6 : a6.IsWhole)
  (x : Vec Ideal S768x1024 .f32) (y : Vec Ideal S1024x1024 .bf16) (acc : Vec Ideal S768x1024 .f32)

theorem zero_apply (r : Fin 768) (s : Fin 1024) : k0_pay1 (F := Ideal) (ix2 r s) = (0 : EReal) := by
  pointwise [k0_pay1]

theorem step_apply (r : Fin 768) (s : Fin 1024) :
    k0_pay2 x y acc (ix2 r s) = acc (ix2 r s) + ∑ k : Fin 1024, x (ix2 r k) * y (ix2 s k) := by
  pointwise [k0_pay2]

/-- The scratch after its one step. -/
theorem sum_apply (r : Fin 768) (s : Fin 1024) :
    k0_pay2 x y (k0_pay1 (F := Ideal)) (ix2 r s) = (∑ k : Fin 1024, x (ix2 r k) * y (ix2 s k) : EReal) := by
  rw [step_apply, zero_apply, zero_add]

/-- A head's piece, at an index of the block that it holds. -/
theorem head (Z : Vec Ideal S768x1024 .f32) (o : ℕ) (inb : ∀ a, ![0, o] a + S768x64.size a ≤ S768x1024.size a) (u : S1x768x64.Idx)
    (r : Fin 768) (s : Fin 1024) (h1 : r.val = (u 1).val) (h2 : s.val = o + (u 2).val) :
    k0_pay3 (F := Ideal) (View.ld Z (Rect.unit (s := S768x1024) ![0, o] S768x64.size inb)) u = (Z (ix2 r s) : EReal) := by
  rw [ValueIdx.eq_ix3 (n0 := 1) (n1 := 768) (n2 := 64) u]
  refine Eq.trans (b := View.ld Z (Rect.unit (s := S768x1024) ![0, o] S768x64.size inb) (ix2 (u 1) (u 2))) ?_ ?_
  · generalize View.ld Z (Rect.unit (s := S768x1024) ![0, o] S768x64.size inb) = W
    pointwise [k0_pay3]
  · refine View.ld_unit_apply_of (S := S768x1024) Z _ _ _ _ _ fun a => ?_
    match a with
    | ⟨0, _⟩ => exact h1.trans (Nat.zero_add _).symm
    | ⟨1, _⟩ => exact h2

/-- Where an index of the block lies in the scratch. -/
abbrev place (q : Fin 16) (s : Fin 64) : Fin 1024 := ⟨64 * q.val + s.val, by omega⟩

/-- A part of the scratch, loaded after the whole of it was written. -/
theorem loaded (v : View sig Kind.tc Space.vmem S768x1024 .f32) (Z : Vec Ideal S768x1024 .f32) (L : List (View.Piece (Elt Ideal) S768x1024 .f32)) (o : ℕ)
    (w : ∀ a, (![0, 0] : Fin 2 → ℕ) a + ![768, 1024] a ≤ S768x1024.size a)
    (inb : ∀ a, (![0, o] : Fin 2 → ℕ) a + ![768, 64] a ≤ S768x1024.size a) :
    v.readCov (⟨Rect.unit (s := S768x1024) ![0, 0] ![768, 1024] w, Z⟩ :: L) (Rect.unit (s := S768x1024) ![0, o] ![768, 64] inb).toLoadRect
      = View.ld Z (Rect.unit (s := S768x1024) ![0, o] ![768, 64] inb) :=
  View.readCov_fill (Val := Elt Ideal) (s := S768x1024) v (off := ![0, 0]) w Z L (Rect.unit (s := S768x1024) ![0, o] ![768, 64] inb) (by decide)

theorem written (hc0 : cond0_0 i) (hc1 : cond0_1 i) (q : Fin 16) (r : Fin 768) (s : Fin 64) :
    out0_A_2 c i a3 h3 a4 h4 a5 h5 a6 h6 hc0 hc1 x y (ix3 q r s) = k0_pay2 x y (k0_pay1 (F := Ideal)) (ix2 r (place q s)) := by
  unfold out0_A_2
  rw [View.read_writes_eq_canon _ _ _ (cover0_A_2 c i a3 h3 a4 h4 a5 h5 a6 h6 hc0 hc1 x y)]
  have hcov := cover0_A_2 c i a3 h3 a4 h4 a5 h5 a6 h6 hc0 hc1 x y (ix3 q r s)
  revert hcov
  unfold kernelRun0_A
  dsimp only
  sl_unfold_words
  simp only [View.readAt_eq_ld, View.readCov_unit_zero (S := S768x1024) _ hz, h3.read_unread, h4.read_unread, View.ld_unit_zero (S := S768x1024) hz, View.ld_unit_zero (S := S1024x1024) hz]
  generalize k0_pay2 x y (k0_pay1 (F := Ideal)) = Z
  intro hcov
  canon_tiles u h using hcov
  all_goals
    rw [loaded]
    exact head Z _ _ u r (place q s) h1 (by show 64 * q.val + s.val = _; change q.val = _ at h0; change s.val = _ at h2; omega)

end

theorem index : ∀ t : Fin grid0.N, win0_0.index t = ![t.val, 0] ∧ win0_1.index t = ![0, 0] ∧ win0_2.index t = ![0, t.val, 0] := by
  decide +kernel

theorem iblk0 (c : Dev nD) (t : Fin grid0.N) (a : Fin 768) (b : Fin 1024) :
    iblk m c 0 t (ix2 a b) = at2 (V m c main_arg1) (768 * (t.val) + a.val) (b.val) := by
  have h : t.val < 11 := t.isLt.trans_eq N_0
  have e : ((cfg0.win 0).index t) = ![t.val, 0] := (index t).1
  refine Eq.trans ?_ (at2_ix (V m c main_arg1) ⟨768 * (t.val) + a.val, by omega⟩ b)
  blk_ext [iblk, e]

theorem iblk1 (c : Dev nD) (t : Fin grid0.N) (a : Fin 1024) (b : Fin 1024) :
    iblk m c 1 t (ix2 a b) = at2 (V m c main_arg0) (a.val) (b.val) := by
  have h : t.val < 11 := t.isLt.trans_eq N_0
  have e : ((cfg0.win 1).index t) = ![0, 0] := (index t).2.1
  refine Eq.trans ?_ (at2_ix (V m c main_arg0) a b)
  blk_ext [iblk, e]

/-- The product, at a row and a column. -/
def prod (c : Dev nD) (i j : ℕ) : EReal := ∑ x ∈ range 1024, at2 (V m c main_arg1) i x * at2 (V m c main_arg0) j x

theorem prod_blk (c : Dev nD) (t : Fin grid0.N) (r : Fin 768) (s : Fin 1024) :
    k0_pay2 (iblk m c 0 t) (iblk m c 1 t) (k0_pay1 (F := Ideal)) (ix2 r s) = prod m c (768 * (t.val) + r.val) s.val := by
  rw [sum_apply, prod, ← Fin.sum_univ_eq_sum_range]
  exact Finset.sum_congr rfl fun k _ => by rw [iblk0, iblk1]

/-- The kernel's result. -/
def G2 (c : Dev nD) : FVec Ideal S16x8448x64 .f32 := fun i => prod m c (i 1).val (64 * (i 0).val + (i 2).val)

theorem index2 (i : grid0.Coords) : cc0_transform_2 i = ![0, (i 0).val, 0] := by
  have h0 : (i 0).val < 11 := (i 0).isLt
  show ![(0#32 : BitVec 32).toNat, (BitVec.ofNat 32 (i 0).val).toNat, (0#32 : BitVec 32).toNat] = _
  rw [BitVec.toNat_ofNat (i 0).val, Nat.mod_eq_of_lt (by omega)]
  rfl

theorem blocks : ∀ a : Fin 3, (S16x8448x64.size a + S16x768x64.size a - 1) / S16x768x64.size a = (![1, 11, 1] : Fin 3 → ℕ) a := by decide

theorem surj (β : (a : Fin 3) → Fin ((![1, 11, 1] : Fin 3 → ℕ) a)) : ∃ i : grid0.Coords, ∀ a, cc0_transform_2 i a = (β a).val := by
  refine ⟨fun | ⟨0, _⟩ => β 1 | ⟨1, _⟩ => (0 : Fin 1) | ⟨2, _⟩ => (0 : Fin 1) | ⟨_ + 3, h⟩ => absurd h (by simp), fun a => ?_⟩
  rw [index2]
  have h0 : (β 0).val < 1 := (β 0).isLt
  have h2 : (β 2).val < 1 := (β 2).isLt
  match a with
  | ⟨0, _⟩ => show 0 = (β 0).val; omega
  | ⟨1, _⟩ => rfl
  | ⟨2, _⟩ => show 0 = (β 2).val; omega

theorem cover2 : (cfg0.win 2).Covers :=
  (cfg0.win 2).covers_of_indexMap_surj rfl (by decide : ∀ a : Fin 3, 0 < S16x768x64.size a) fun β =>
    surj fun a => (⟨(β a).val, (β a).isLt.trans_eq (blocks a)⟩ : Fin ((![1, 11, 1] : Fin 3 → ℕ) a))

theorem idx3 (y : S16x768x64.Idx) : ∃ (q : Fin 16) (r : Fin 768) (s : Fin 64), y = ix3 q r s :=
  ⟨y 0, y 1, y 2, ValueIdx.eq_ix3 (n0 := 16) (n1 := 768) (n2 := 64) y⟩

/-- Where an index of a block lies in the array. -/
def spot (t : Fin grid0.N) (q : Fin 16) (r : Fin 768) (s : Fin 64) : S16x8448x64.Idx :=
  have h : t.val < 11 := t.isLt.trans_eq N_0
  ix3 q ⟨768 * (t.val) + r.val, by omega⟩ s

theorem arr2 (c : Dev nD) : (dats m 0 c).arrAt 2 cfg0.N = G2 m c := by
  refine (dats m 0 c).arrAt_eq_of_covers 2 _ cover2 fun t _ y => ?_
  obtain ⟨q, r, s, rfl⟩ := idx3 y
  have hp : ((cfg0.win 2).blk t).view.emb (ix3 q r s) = spot t q r s := by
    have e : ((cfg0.win 2).index t) = ![0, t.val, 0] := (index t).2.2
    blk_ext [e, spot]
  rw [hp]
  refine (congrFun (after0_2 m c t) _).trans ?_
  unfold outsAt0
  exact (written c (grid0.coords t) _ _ _ _ _ _ _ _ (iblk m c 0 t) (iblk m c 1 t) (hcond0_0 t) (hcond0_1 t) q r s).trans (prod_blk m c t r (place q s))

/-! ## The reference's result -/

theorem reference_apply (x0 : Vec Ideal S1024x1024 .bf16) (x1 : Vec Ideal S8448x1024 .f32) (q : Fin 16) (i : Fin 8448) (j : Fin 64) :
    DoRefIdeal.Read.val_main_v7 (F := Ideal) x0 x1 (ix3 q i j) = (∑ x ∈ range 1024, at2 x1 i.val x * at2 x0 (64 * q.val + j.val) x : EReal) := by
  rw [DoRefIdeal.Read.val_main_v7_apply, DoRefIdeal.Read.val_main_v6_apply]
  refine (DoRefIdeal.Read.val_main_v5_apply x0 x1 _).trans ?_
  rw [← Fin.sum_univ_eq_sum_range (fun x => at2 x1 i.val x * at2 x0 (64 * q.val + j.val) x)]
  refine Finset.sum_congr rfl fun x _ => ?_
  have hi : ((i.val * 16 + q.val) * 64 + j.val) / 1024 = i.val := by omega
  have hj : ((i.val * 16 + q.val) * 64 + j.val) % 1024 = 64 * q.val + j.val := by omega
  rw [DoRefIdeal.Read.val_main_v1_apply,
    idx2_val (DoRefIdeal.Read.lidx_main_v5 _ x) i.val x.val i.isLt x.isLt hi rfl,
    idx2_val (DoRefIdeal.Read.ridx_main_v5 _ x) (64 * q.val + j.val) x.val (by omega) x.isLt hj rfl]
  show x1 (ix2 i x) * x0 (ix2 (place q j) x) = _
  rw [at2_ix x1, at2_ix x0]

/-! ## The two programs -/

theorem algebraic : Cert.algebraic_DoIdeal_DoRefIdeal := by
  intro m g m' g' _ ha
  refine ⟨G2 m, ?_, ?_⟩
  · refine (θ_run _ _ _).mono (fun r h c => ?_) (Value.run_blocks (F := Ideal) m g)
    obtain ⟨h2, h3⟩ := h c
    exact ⟨h2.trans (arr2 m c), h3⟩
  refine (θ_run _ _ _).mono (fun r h c => ?_) (DoRefIdeal.Value.run (F := Ideal) m' g')
  obtain ⟨h0, h1⟩ := h c
  obtain ⟨a0, a1⟩ := ha c
  refine ⟨h0.trans ?_, h1⟩
  rw [DoRefIdeal.Read.val_main_v7_eq, a0, a1]
  funext i
  rw [ValueIdx.eq_ix3 (n0 := 16) (n1 := 8448) (n2 := 64) i]
  exact reference_apply _ _ _ _ _

end Cert.DoIdeal.Sums
-- ==== Proof.Heads.lean ====
module

public import proofs.«01_k».proof.Proof.Blocked

/-! Sixteen heads of 64 columns each, side by side. -/

@[expose] public section

noncomputable section

namespace Cert.Blocked

open Idealize.ShloMosaic

/-- The heads of every row, one after another. -/
def joined {n : ℕ} (A : (⟨3, ![16, n, 64]⟩ : Shape).Idx → EReal) : (⟨2, ![n, 1024]⟩ : Shape).Idx → EReal := fun i =>
  have h : (i 1).val < 1024 := (i 1).isLt
  A (ix3 ⟨(i 1).val / 64, by omega⟩ (i 0) ⟨(i 1).val % 64, by omega⟩)

/-- An entry of one head, found in the row of all the heads. -/
theorem joined_at {n : ℕ} (A : (⟨3, ![16, n, 64]⟩ : Shape).Idx → EReal) (p : (⟨3, ![16, n, 64]⟩ : Shape).Idx) (i : (⟨2, ![n, 1024]⟩ : Shape).Idx)
    (h0 : (p 0).val = (i 1).val / 64) (h1 : (p 1).val = (i 0).val) (h2 : (p 2).val = (i 1).val % 64) : A p = joined A i := by
  unfold joined
  refine congrArg A (funext fun a => ?_)
  match a with
  | ⟨0, _⟩ => exact Fin.ext h0
  | ⟨1, _⟩ => exact Fin.ext h1
  | ⟨2, _⟩ => exact Fin.ext h2

end Cert.Blocked
-- ==== Proof.AoValue.lean ====
module

public import proofs.«01_k».proof.Proof.Gen.AoIdeal.Value
public import proofs.«01_k».proof.Defs
public import proofs.«01_k».proof.Proof.Gen.AoRefIdeal.Run
public import proofs.«01_k».proof.Proof.Gen.AoRefIdeal.Read
public import proofs.«01_k».proof.Proof.Heads
public import Idealize.ShloMosaic.Lib.Pipeline.ValueKit
public import Idealize.ShloMosaic.Lib.Pipeline.ReadBack
public import Idealize.ShloMosaic.Lib.Pipeline.Covers

/-! The attention's output projection, from the heads, its result added to the residual stream. -/

@[expose] public section

set_option maxRecDepth 16384
set_option maxHeartbeats 1000000
noncomputable section

namespace Cert.AoIdeal.Sums

open Idealize.ShloMosaic Idealize.ShloMosaic.TcCoe Idealize.ShloMosaic.Tactic Idealize.SL.Sem Cert.AoIdeal Cert.AoIdeal.Gen Cert.Blocked Finset

variable (m : (ℓ : Loc nD τ sig) → Buf (Elt Ideal) ℓ)

theorem hz : (![0, 0] : Fin 2 → Nat) = fun _ => 0 := funext fun a => by fin_cases a <;> rfl

theorem zero_apply (r : Fin 768) (s : Fin 1024) : k0_pay5 (F := Ideal) (ix2 r s) = (0 : EReal) := by
  pointwise [k0_pay5]

theorem step_apply (f : Vec Ideal S768x1024 .bf16) (y : Vec Ideal S1024x1024 .bf16) (acc : Vec Ideal S768x1024 .f32) (r : Fin 768) (s : Fin 1024) :
    k0_pay3 f y acc (ix2 r s) = acc (ix2 r s) + ∑ k : Fin 1024, f (ix2 r k) * y (ix2 k s) := by
  pointwise [k0_pay3]

/-- The scratch after its one step. -/
theorem sum_apply (f : Vec Ideal S768x1024 .bf16) (y : Vec Ideal S1024x1024 .bf16) (r : Fin 768) (s : Fin 1024) :
    k0_pay3 f y (k0_pay5 (F := Ideal)) (ix2 r s) = (∑ k : Fin 1024, f (ix2 r k) * y (ix2 k s) : EReal) := by
  rw [step_apply, zero_apply, zero_add]

theorem out_apply (acc z : Vec Ideal S768x1024 .f32) (r : Fin 768) (s : Fin 1024) : k0_pay4 acc z (ix2 r s) = (z (ix2 r s) + acc (ix2 r s) : EReal) := by
  pointwise [k0_pay4]

/-- A head's piece, at an index of the row of all the heads that it holds. -/
theorem head (x : Vec Ideal S16x768x64 .f32) (o : ℕ) (inb : ∀ a, ![o, 0, 0] a + S1x768x64.size a ≤ S16x768x64.size a) (u : S768x64.Idx) (q : S768x1024.Idx)
    (h0 : (q 0).val = (u 0).val) (h1 : (q 1).val = 64 * o + (u 1).val) :
    k0_pay1 (F := Ideal) (View.ld x (Rect.unit (s := S16x768x64) ![o, 0, 0] S1x768x64.size inb)) u = joined x q := by
  obtain ⟨r, s, rfl⟩ := idx2 (m := 768) (n := 64) u
  change (q 0).val = r.val at h0
  change (q 1).val = 64 * o + s.val at h1
  refine Eq.trans (b := View.ld x (Rect.unit (s := S16x768x64) ![o, 0, 0] S1x768x64.size inb) (ix3 (n0 := 1) (n1 := 768) (n2 := 64) 0 r s)) ?_ ?_
  · generalize View.ld x (Rect.unit (s := S16x768x64) ![o, 0, 0] S1x768x64.size inb) = W
    pointwise [k0_pay1]
  · unfold joined
    refine View.ld_unit_apply_of (S := S16x768x64) x _ _ _ _ _ fun a => ?_
    match a with
    | ⟨0, _⟩ => show (q 1).val / 64 = o + 0; omega
    | ⟨1, _⟩ => show (q 0).val = 0 + r.val; omega
    | ⟨2, _⟩ => show (q 1).val % 64 = 0 + s.val; omega

/-- The row of all the heads, loaded whole. -/
theorem whole (v : View sig Kind.tc Space.vmem S768x1024 .bf16) (L : List (View.Piece (Elt Ideal) S768x1024 .bf16))
    (inb : ∀ a, (![0, 0] : Fin 2 → ℕ) a + ![768, 1024] a ≤ S768x1024.size a) :
    v.readCov L (Rect.unit (s := S768x1024) ![0, 0] ![768, 1024] inb).toLoadRect = View.canon L :=
  (View.readCov_eq_canon' v L _).trans (View.ld_unit_zero (S := S768x1024) hz inb (View.canon L))

/-- The scratch, loaded after it was last written. -/
theorem loaded (v : View sig Kind.tc Space.vmem S768x1024 .f32) (Z : Vec Ideal S768x1024 .f32) (L : List (View.Piece (Elt Ideal) S768x1024 .f32))
    (w inb : ∀ a, (![0, 0] : Fin 2 → ℕ) a + ![768, 1024] a ≤ S768x1024.size a) :
    v.readCov (⟨Rect.unit (s := S768x1024) ![0, 0] ![768, 1024] w, Z⟩ :: L) (Rect.unit (s := S768x1024) ![0, 0] ![768, 1024] inb).toLoadRect = Z :=
  (View.readCov_fill (Val := Elt Ideal) (s := S768x1024) v (off := ![0, 0]) w Z L (Rect.unit (s := S768x1024) ![0, 0] ![768, 1024] inb) (by decide)).trans
    (View.ld_unit_zero (S := S768x1024) hz inb Z)

section
variable (c : Dev nD) (i : grid0.Coords) (a3 : Memref sig .tc .vmem S16x768x64 .f32) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole) (a7 : Memref sig .tc .vmem S768x1024 .f32) (h7 : a7.IsWhole) (a8 : Memref sig .tc .vmem S768x1024 .bf16) (h8 : a8.IsWhole)
  (x : Vec Ideal S16x768x64 .f32) (y : Vec Ideal S1024x1024 .bf16) (z : Vec Ideal S768x1024 .f32)

theorem written (hc0 : cond0_0 i) (hc1 : cond0_1 i) :
    out0_A_3 c i a3 h3 a4 h4 a5 h5 a6 h6 a7 h7 a8 h8 hc0 hc1 x y z = k0_pay4 (k0_pay3 (joined x) y (k0_pay5 (F := Ideal))) z := by
  unfold out0_A_3
  rw [View.read_writes_eq_canon _ _ _ (cover0_A_3 c i a3 h3 a4 h4 a5 h5 a6 h6 a7 h7 a8 h8 hc0 hc1 x y z)]
  unfold kernelRun0_A
  dsimp only
  sl_unfold_words
  rw [View.canon_unit_zero (S := S768x1024) hz, loaded]
  simp only [whole, View.readAt_eq_ld, View.readCov_unit_zero (S := S768x1024) _ hz, h3.read_unread, h4.read_unread, h5.read_unread, View.ld_unit_zero (S := S1024x1024) hz, View.ld_unit_zero (S := S768x1024) hz]
  refine congrArg (fun f => k0_pay4 (k0_pay3 f y (k0_pay5 (F := Ideal))) z) (funext fun q => ?_)
  canon_tiles u h
  all_goals exact head x _ _ u q (by omega) (by omega)

end

theorem index : ∀ t : Fin grid0.N, win0_0.index t = ![0, t.val, 0] ∧ win0_1.index t = ![0, 0] ∧ win0_2.index t = ![t.val, 0] ∧ win0_3.index t = ![t.val, 0] := by
  decide +kernel

theorem iblk0 (c : Dev nD) (t : Fin grid0.N) (a : Fin 768) (b : Fin 1024) :
    joined (iblk m c 0 t) (ix2 a b) = at2 (joined (V m c main_arg1)) (768 * t.val + a.val) b.val := by
  have h : t.val < 11 := t.isLt.trans_eq N_0
  have e : ((cfg0.win 0).index t) = ![0, t.val, 0] := (index t).1
  refine Eq.trans ?_ (at2_ix (joined (V m c main_arg1)) ⟨768 * t.val + a.val, by omega⟩ b)
  show iblk m c 0 t (ix3 ⟨b.val / 64, by omega⟩ a ⟨b.val % 64, by omega⟩) = V m c main_arg1 (ix3 ⟨b.val / 64, by omega⟩ ⟨768 * t.val + a.val, by omega⟩ ⟨b.val % 64, by omega⟩)
  blk_ext [iblk, e]

theorem iblk1 (c : Dev nD) (t : Fin grid0.N) (a : Fin 1024) (b : Fin 1024) :
    iblk m c 1 t (ix2 a b) = at2 (V m c main_arg2) a.val b.val := by
  have h : t.val < 11 := t.isLt.trans_eq N_0
  have e : ((cfg0.win 1).index t) = ![0, 0] := (index t).2.1
  refine Eq.trans ?_ (at2_ix (V m c main_arg2) a b)
  blk_ext [iblk, e]

theorem iblk2 (c : Dev nD) (t : Fin grid0.N) (a : Fin 768) (b : Fin 1024) :
    iblk m c 2 t (ix2 a b) = at2 (V m c main_arg0) (768 * t.val + a.val) b.val := by
  have h : t.val < 11 := t.isLt.trans_eq N_0
  have e : ((cfg0.win 2).index t) = ![t.val, 0] := (index t).2.2.1
  refine Eq.trans ?_ (at2_ix (V m c main_arg0) ⟨768 * t.val + a.val, by omega⟩ b)
  blk_ext [iblk, e]

/-- The kernel's result, at a row and a column. -/
def prod (c : Dev nD) (i j : ℕ) : EReal := at2 (V m c main_arg0) i j + ∑ x ∈ range 1024, at2 (joined (V m c main_arg1)) i x * at2 (V m c main_arg2) x j

theorem prod_blk (c : Dev nD) (t : Fin grid0.N) (r : Fin 768) (s : Fin 1024) :
    k0_pay4 (k0_pay3 (joined (iblk m c 0 t)) (iblk m c 1 t) (k0_pay5 (F := Ideal))) (iblk m c 2 t) (ix2 r s) = prod m c (768 * t.val + r.val) s.val := by
  rw [out_apply, sum_apply, prod, ← Fin.sum_univ_eq_sum_range, iblk2]
  exact congrArg (fun a : EReal => _ + a) (Finset.sum_congr rfl fun k _ => by rw [iblk0, iblk1])

/-- The kernel's result. -/
def G (c : Dev nD) : FVec Ideal S8448x1024 .f32 := fun i => prod m c (i 0).val (i 1).val

theorem index_out (i : grid0.Coords) : cc0_transform_3 i = ![(i 0).val, (i 1).val] := by
  have h0 : (i 0).val < 11 := (i 0).isLt
  have h1 : (i 1).val < 1 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem blocks : ∀ a : Fin 2, (S8448x1024.size a + S768x1024.size a - 1) / S768x1024.size a = (![11, 1] : Fin 2 → ℕ) a := by decide

theorem surj (β : (a : Fin 2) → Fin ((![11, 1] : Fin 2 → ℕ) a)) : ∃ i : grid0.Coords, ∀ a, cc0_transform_3 i a = (β a).val := by
  refine ⟨fun | ⟨0, _⟩ => β 0 | ⟨1, _⟩ => β 1 | ⟨2, _⟩ => (0 : Fin 1) | ⟨_ + 3, h⟩ => absurd h (by simp), fun a => ?_⟩
  rw [index_out]
  match a with
  | ⟨0, _⟩ => rfl
  | ⟨1, _⟩ => rfl

theorem cover_out : (cfg0.win 3).Covers :=
  (cfg0.win 3).covers_of_indexMap_surj rfl (by decide : ∀ a : Fin 2, 0 < S768x1024.size a) fun β =>
    surj fun a => (⟨(β a).val, (β a).isLt.trans_eq (blocks a)⟩ : Fin ((![11, 1] : Fin 2 → ℕ) a))

/-- Where an index of a block lies in the array. -/
def spot (t : Fin grid0.N) (r : Fin 768) (s : Fin 1024) : S8448x1024.Idx :=
  have h : t.val < 11 := t.isLt.trans_eq N_0
  ix2 ⟨768 * t.val + r.val, by omega⟩ s

theorem arr_out (c : Dev nD) : (dats m 0 c).arrAt 3 cfg0.N = G m c := by
  refine (dats m 0 c).arrAt_eq_of_covers 3 _ cover_out fun t _ y => ?_
  obtain ⟨r, s, rfl⟩ := idx2 (m := 768) (n := 1024) y
  have hp : ((cfg0.win 3).blk t).view.emb (ix2 r s) = spot t r s := by
    have e : ((cfg0.win 3).index t) = ![t.val, 0] := (index t).2.2.2
    blk_ext [e, spot]
  rw [hp]
  refine (congrFun (after0_3 m c t) _).trans ?_
  unfold outsAt0
  rw [written]
  exact prod_blk m c t r s

/-! ## The reference's result -/

theorem product3 (x1 : Vec Ideal S16x8448x64 .f32) (x2 : Vec Ideal S1024x1024 .bf16) (i : Fin 8448) (j : Fin 1024) :
    AoRefIdeal.Read.val_main_v3 (F := Ideal) x1 x2 (ix2 i j) = (∑ x ∈ range 1024, at2 (joined x1) i.val x * at2 x2 x j.val : EReal) := by
  refine (AoRefIdeal.Read.val_main_v3_apply x1 x2 _).trans ?_
  rw [← Fin.sum_univ_eq_sum_range (fun x => at2 (joined x1) i.val x * at2 x2 x j.val)]
  refine Finset.sum_congr rfl fun x _ => ?_
  rw [AoRefIdeal.Read.val_main_v2_apply, AoRefIdeal.Read.val_main_v1_apply, AoRefIdeal.Read.val_main_v0_apply,
    idx2_val (AoRefIdeal.Read.ridx_main_v3 _ x) x.val j.val x.isLt j.isLt rfl rfl,
    joined_at x1 (AoRefIdeal.Read.idx_main_v1 (AoRefIdeal.Read.idx_main_v2 (AoRefIdeal.Read.lidx_main_v3 (ix2 i j) x))) (ix2 i x)
      (by show (i.val * 1024 + x.val) / 64 % 16 = x.val / 64; omega) (by show (i.val * 1024 + x.val) / 1024 = i.val; omega)
      (by show (i.val * 1024 + x.val) % 64 = x.val % 64; omega)]
  show joined x1 (ix2 i x) * x2 (ix2 x j) = _
  rw [at2_ix (joined x1), at2_ix x2]

theorem reference_apply (x0 : Vec Ideal S8448x1024 .f32) (x1 : Vec Ideal S16x8448x64 .f32) (x2 : Vec Ideal S1024x1024 .bf16) (i : Fin 8448) (j : Fin 1024) :
    AoRefIdeal.Read.val_main_v4 (F := Ideal) x0 x1 x2 (ix2 i j) = (at2 x0 i.val j.val + ∑ x ∈ range 1024, at2 (joined x1) i.val x * at2 x2 x j.val : EReal) := by
  rw [AoRefIdeal.Read.val_main_v4_apply, product3]
  show x0 (ix2 i j) + _ = _
  rw [at2_ix x0]

/-! ## The two programs -/

theorem algebraic : Cert.algebraic_AoIdeal_AoRefIdeal := by
  intro m g m' g' _ ha
  refine ⟨G m, ?_, ?_⟩
  · refine (θ_run _ _ _).mono (fun r h c => ?_) (Value.run_blocks (F := Ideal) m g)
    obtain ⟨h2, h3⟩ := h c
    exact ⟨h2.trans (arr_out m c), h3⟩
  refine (θ_run _ _ _).mono (fun r h c => ?_) (AoRefIdeal.Value.run (F := Ideal) m' g')
  obtain ⟨h0, h1⟩ := h c
  obtain ⟨a0, a1, a2⟩ := ha c
  refine ⟨h0.trans ?_, h1⟩
  rw [AoRefIdeal.Read.val_main_v4_eq, a0, a1, a2]
  funext i
  obtain ⟨a, b, rfl⟩ := idx2 (m := 8448) (n := 1024) i
  exact reference_apply _ _ _ a b

end Cert.AoIdeal.Sums
-- ==== Proof.DwpValue.lean ====
module

public import proofs.«01_k».proof.Proof.Gen.DwpIdeal.Value
public import proofs.«01_k».proof.Defs
public import proofs.«01_k».proof.Proof.Gen.DwpRefIdeal.Run
public import proofs.«01_k».proof.Proof.Gen.DwpRefIdeal.Read
public import proofs.«01_k».proof.Proof.Heads
public import Idealize.ShloMosaic.Lib.Pipeline.ValueKit
public import Idealize.ShloMosaic.Lib.Pipeline.ReadBack
public import Idealize.ShloMosaic.Lib.Pipeline.Covers

/-! The gradient of the attention's output projection, from the heads. -/

@[expose] public section

set_option maxRecDepth 16384
set_option maxHeartbeats 1000000
noncomputable section

namespace Cert.DwpIdeal.Sums

open Idealize.ShloMosaic Idealize.ShloMosaic.TcCoe Idealize.ShloMosaic.Tactic Idealize.SL.Sem Cert.DwpIdeal Cert.DwpIdeal.Gen Cert.Blocked Finset

variable (m : (ℓ : Loc nD τ sig) → Buf (Elt Ideal) ℓ)

theorem hz : (![0, 0] : Fin 2 → Nat) = fun _ => 0 := funext fun a => by fin_cases a <;> rfl

/-- A head's piece, at an index of the row of all the heads that it holds. -/
theorem head (x : Vec Ideal S16x1408x64 .f32) (o : ℕ) (inb : ∀ a, ![o, 0, 0] a + S1x1408x64.size a ≤ S16x1408x64.size a) (u : S1408x64.Idx) (q : S1408x1024.Idx)
    (h0 : (q 0).val = (u 0).val) (h1 : (q 1).val = 64 * o + (u 1).val) :
    k0_pay1 (F := Ideal) (View.ld x (Rect.unit (s := S16x1408x64) ![o, 0, 0] S1x1408x64.size inb)) u = joined x q := by
  obtain ⟨r, s, rfl⟩ := idx2 (m := 1408) (n := 64) u
  change (q 0).val = r.val at h0
  change (q 1).val = 64 * o + s.val at h1
  refine Eq.trans (b := View.ld x (Rect.unit (s := S16x1408x64) ![o, 0, 0] S1x1408x64.size inb) (ix3 (n0 := 1) (n1 := 1408) (n2 := 64) 0 r s)) ?_ ?_
  · generalize View.ld x (Rect.unit (s := S16x1408x64) ![o, 0, 0] S1x1408x64.size inb) = W
    pointwise [k0_pay1]
  · unfold joined
    refine View.ld_unit_apply_of (S := S16x1408x64) x _ _ _ _ _ fun a => ?_
    match a with
    | ⟨0, _⟩ => show (q 1).val / 64 = o + 0; omega
    | ⟨1, _⟩ => show (q 0).val = 0 + r.val; omega
    | ⟨2, _⟩ => show (q 1).val % 64 = 0 + s.val; omega

/-- The row of all the heads, loaded whole. -/
theorem whole (v : View sig Kind.tc Space.vmem S1408x1024 .bf16) (L : List (View.Piece (Elt Ideal) S1408x1024 .bf16))
    (inb : ∀ a, (![0, 0] : Fin 2 → ℕ) a + ![1408, 1024] a ≤ S1408x1024.size a) :
    v.readCov L (Rect.unit (s := S1408x1024) ![0, 0] ![1408, 1024] inb).toLoadRect = View.canon L :=
  (View.readCov_eq_canon' v L _).trans (View.ld_unit_zero (S := S1408x1024) hz inb (View.canon L))

section
variable (c : Dev nD) (i : grid0.Coords) (a3 : Memref sig .tc .vmem S16x1408x64 .f32) (h3 : a3.IsWhole) (a4 : Memref sig .tc .vmem S1408x1024 .f32) (h4 : a4.IsWhole) (a5 : Memref sig .tc .vmem S1024x1024 .bf16) (h5 : a5.IsWhole) (a6 : Memref sig .tc .vmem S1024x1024 .f32) (h6 : a6.IsWhole) (a7 : Memref sig .tc .vmem S1408x1024 .bf16) (h7 : a7.IsWhole)
  (x : Vec Ideal S16x1408x64 .f32) (y : Vec Ideal S1408x1024 .f32) (acc : Vec Ideal S1024x1024 .f32)

theorem first (hc0 : cond0_0 i) (hc1 : ¬cond0_1 i) :
    sout0_A_0 c i a3 h3 a4 h4 a5 h5 a6 h6 a7 h7 hc0 hc1 x y = k0_pay3 (joined x) y (k0_pay5 (F := Ideal)) := by
  unfold sout0_A_0
  rw [View.read_writes_eq_canon _ _ _ (scover0_A_0 c i a3 h3 a4 h4 a5 h5 a6 h6 a7 h7 hc0 hc1 x y)]
  unfold kernelRun0_A
  dsimp only
  sl_unfold_words
  rw [View.canon_cons_unit_zero (S := S1024x1024) hz]
  simp only [whole, View.readAt_eq_ld, View.readCov_unit_zero (S := S1024x1024) _ hz, h3.read_unread, h4.read_unread, View.ld_unit_zero (S := S1408x1024) hz, View.ld_unit_zero (S := S1408x1024) hz, View.ld_unit_zero (S := S1024x1024) hz]
  refine congrArg (fun f => k0_pay3 f y (k0_pay5 (F := Ideal))) (funext fun q => ?_)
  canon_tiles u h
  all_goals exact head x _ _ u q (by omega) (by omega)

theorem middle (hc0 : ¬cond0_0 i) (hc1 : ¬cond0_1 i) :
    sout0_B_0 c i a3 h3 a4 h4 a5 h5 a6 h6 a7 h7 hc0 hc1 x y acc = k0_pay3 (joined x) y acc := by
  unfold sout0_B_0
  rw [View.read_writes_eq_canon _ _ _ (scover0_B_0 c i a3 h3 a4 h4 a5 h5 a6 h6 a7 h7 hc0 hc1 x y acc)]
  unfold kernelRun0_B
  dsimp only
  sl_unfold_words
  rw [View.canon_unit_zero (S := S1024x1024) hz]
  simp only [whole, View.readAt_eq_ld, h3.read_unread, h4.read_unread, h6.read_unread, View.ld_unit_zero (S := S1408x1024) hz, View.ld_unit_zero (S := S1408x1024) hz, View.ld_unit_zero (S := S1024x1024) hz]
  refine congrArg (fun f => k0_pay3 f y acc) (funext fun q => ?_)
  canon_tiles u h
  all_goals exact head x _ _ u q (by omega) (by omega)

theorem last (hc0 : ¬cond0_0 i) (hc1 : cond0_1 i) :
    sout0_C_0 c i a3 h3 a4 h4 a5 h5 a6 h6 a7 h7 hc0 hc1 x y acc = k0_pay3 (joined x) y acc := by
  unfold sout0_C_0
  rw [View.read_writes_eq_canon _ _ _ (scover0_C_0 c i a3 h3 a4 h4 a5 h5 a6 h6 a7 h7 hc0 hc1 x y acc)]
  unfold kernelRun0_C
  dsimp only
  sl_unfold_words
  rw [View.canon_unit_zero (S := S1024x1024) hz]
  simp only [whole, View.readAt_eq_ld, h3.read_unread, h4.read_unread, h6.read_unread, View.ld_unit_zero (S := S1408x1024) hz, View.ld_unit_zero (S := S1408x1024) hz, View.ld_unit_zero (S := S1024x1024) hz]
  refine congrArg (fun f => k0_pay3 f y acc) (funext fun q => ?_)
  canon_tiles u h
  all_goals exact head x _ _ u q (by omega) (by omega)

theorem written (hc0 : ¬cond0_0 i) (hc1 : cond0_1 i) :
    out0_C_2 c i a3 h3 a4 h4 a5 h5 a6 h6 a7 h7 hc0 hc1 x y acc = k0_pay4 (k0_pay3 (joined x) y acc) := by
  unfold out0_C_2
  rw [View.read_writes_eq_canon _ _ _ (cover0_C_2 c i a3 h3 a4 h4 a5 h5 a6 h6 a7 h7 hc0 hc1 x y acc)]
  unfold kernelRun0_C
  dsimp only
  sl_unfold_words
  rw [View.canon_unit_zero (S := S1024x1024) hz]
  simp only [whole, View.readAt_eq_ld, View.readCov_unit_zero (S := S1024x1024) _ hz, h3.read_unread, h4.read_unread, h6.read_unread, View.ld_unit_zero (S := S1408x1024) hz, View.ld_unit_zero (S := S1408x1024) hz, View.ld_unit_zero (S := S1024x1024) hz]
  refine congrArg (fun f => k0_pay4 (k0_pay3 f y acc)) (funext fun q => ?_)
  canon_tiles u h
  all_goals exact head x _ _ u q (by omega) (by omega)

theorem zero_apply (r : Fin 1024) (s : Fin 1024) : k0_pay5 (F := Ideal) (ix2 r s) = (0 : EReal) := by
  pointwise [k0_pay5]

theorem step_apply (f : Vec Ideal S1408x1024 .bf16) (r : Fin 1024) (s : Fin 1024) :
    k0_pay3 f y acc (ix2 r s) = acc (ix2 r s) + ∑ k : Fin 1408, f (ix2 k r) * y (ix2 k s) := by
  pointwise [k0_pay3]

theorem out_apply (r : Fin 1024) (s : Fin 1024) : k0_pay4 acc (ix2 r s) = (acc (ix2 r s) : EReal) := by
  pointwise [k0_pay4]

end

theorem index : ∀ t : Fin grid0.N, win0_0.index t = ![0, t.val % 6, 0] ∧ win0_1.index t = ![t.val % 6, 0] := by
  decide +kernel

theorem iblk0 (c : Dev nD) (t : Fin grid0.N) (a : Fin 1408) (b : Fin 1024) :
    joined (iblk m c 0 t) (ix2 a b) = at2 (joined (V m c main_arg0)) (1408 * (t.val % 6) + a.val) (1024 * (t.val / 6) + b.val) := by
  have h : t.val < 6 := t.isLt.trans_eq N_0
  have e : ((cfg0.win 0).index t) = ![0, t.val % 6, 0] := (index t).1
  refine Eq.trans ?_ (at2_ix (joined (V m c main_arg0)) ⟨1408 * (t.val % 6) + a.val, by omega⟩ ⟨1024 * (t.val / 6) + b.val, by omega⟩)
  show iblk m c 0 t (ix3 ⟨b.val / 64, by omega⟩ a ⟨b.val % 64, by omega⟩) = V m c main_arg0 (ix3 ⟨(1024 * (t.val / 6) + b.val) / 64, by omega⟩ ⟨1408 * (t.val % 6) + a.val, by omega⟩ ⟨(1024 * (t.val / 6) + b.val) % 64, by omega⟩)
  blk_ext [iblk, e]

theorem iblk1 (c : Dev nD) (t : Fin grid0.N) (a : Fin 1408) (b : Fin 1024) :
    iblk m c 1 t (ix2 a b) = at2 (V m c main_arg1) (1408 * (t.val % 6) + a.val) (b.val) := by
  have h : t.val < 6 := t.isLt.trans_eq N_0
  have e : ((cfg0.win 1).index t) = ![t.val % 6, 0] := (index t).2
  refine Eq.trans ?_ (at2_ix (V m c main_arg1) ⟨1408 * (t.val % 6) + a.val, by omega⟩ b)
  blk_ext [iblk, e]

abbrev term (c : Dev nD) (i j x : ℕ) : EReal := at2 (joined (V m c main_arg0)) x i * at2 (V m c main_arg1) x j

theorem add_block (c : Dev nD) (t : Fin grid0.N) (acc : Vec Ideal S1024x1024 .f32) (r : Fin 1024) (s : Fin 1024)
    (h : acc (ix2 r s) = ∑ x ∈ range (t.val % 6 * 1408), term m c (1024 * (t.val / 6) + r.val) s.val x) :
    k0_pay3 (joined (iblk m c 0 t)) (iblk m c 1 t) acc (ix2 r s) = ∑ x ∈ range ((t.val % 6 + 1) * 1408), term m c (1024 * (t.val / 6) + r.val) s.val x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 1024) (s : Fin 1024),
    (outsAt0 m c n h).2 (ix2 r s) = ∑ x ∈ range ((n % 6 + 1) * 1408), term m c (1024 * (n / 6) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 6 * 1408), term m c (1024 * ((n + 1) / 6) + r.val) s.val x := by
        rw [hp, show (n + 1) / 6 = n / 6 by omega, show (n + 1) % 6 = n % 6 + 1 by omega]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 1024) (s : Fin 1024) :
    (outsAt0 m c n h).1 (ix2 r s) = (∑ x ∈ range 8448, term m c (1024 * (n / 6) + r.val) s.val x : EReal) := by
  obtain ⟨k, rfl⟩ : ∃ k, n = k + 1 := ⟨n - 1, by omega⟩
  have h0 : ¬(k + 1) % 6 = 0 := by omega
  have ha := fun q => add_block m c ⟨k + 1, h⟩ (outsAt0 m c k q).2 r s (by
    rw [scratch m c k q, show k % 6 + 1 = (k + 1) % 6 by omega, show k / 6 = (k + 1) / 6 by omega])
  dsimp only at ha
  rw [h1] at ha
  rw [outsAt0_C m c ⟨k + 1, h⟩ h0 h1]
  dsimp only
  rw [written, out_apply]
  exact ha _

theorem total (c : Dev nD) (i : Fin 1024) (j : Fin 1024) :
    Value.G2 m c (ix2 i j) = (∑ x ∈ range 8448, term m c i.val j.val x : EReal) := by
  have hn : Value.pt2Of (ix2 i j) = 6 * (1 * (i.val / 1024) + j.val / 1024) + 5 := by
    show 6 * (1 * (i.val / 1024 - 0) + 1 * (j.val / 1024 - 0)) + 5 = _
    omega
  have hp : Value.pt2Of (ix2 i j) < cfg0.N := by
    rw [show cfg0.N = 6 from N_0]
    omega
  have hl : Value.loc2Of (ix2 i j) = ix2 ⟨i.val % 1024, Nat.mod_lt _ (by decide)⟩ j := by
    refine idx2_val _ _ _ _ _ rfl ?_
    show j.val % 1024 = j.val
    omega
  unfold Value.G2
  rw [dif_pos hp, ← Value.outsAt0_sweep m c _ hp, hl, flushed m c _ hp (by omega)]
  show (∑ x ∈ range 8448, term m c (1024 * (Value.pt2Of (ix2 i j) / 6) + i.val % 1024) j.val x : EReal) = _
  rw [show 1024 * (Value.pt2Of (ix2 i j) / 6) + i.val % 1024 = i.val by rw [hn]; omega]

/-! ## The reference's result -/

theorem reference_apply (x0 : Vec Ideal S16x8448x64 .f32) (x1 : Vec Ideal S8448x1024 .f32) (i : Fin 1024) (j : Fin 1024) :
    DwpRefIdeal.Read.val_main_v6 (F := Ideal) x0 x1 (ix2 i j) = (∑ x ∈ range 8448, at2 (joined x0) x i.val * at2 x1 x j.val : EReal) := by
  rw [DwpRefIdeal.Read.val_main_v6_apply, DwpRefIdeal.Read.val_main_v5_apply, idx2_val (DwpRefIdeal.Read.idx_main_v5 _) j.val i.val j.isLt i.isLt rfl rfl]
  refine (DwpRefIdeal.Read.val_main_v4_apply x0 x1 _).trans ?_
  rw [← Fin.sum_univ_eq_sum_range (fun x => at2 (joined x0) x i.val * at2 x1 x j.val)]
  refine Finset.sum_congr rfl fun x _ => ?_
  rw [DwpRefIdeal.Read.val_main_v2_apply, DwpRefIdeal.Read.val_main_v1_apply,
    idx2_val (DwpRefIdeal.Read.lidx_main_v4 _ x) x.val j.val x.isLt j.isLt rfl rfl,
    joined_at x0 (DwpRefIdeal.Read.idx_main_v1 (DwpRefIdeal.Read.idx_main_v2 (DwpRefIdeal.Read.ridx_main_v4 (ix2 j i) x))) (ix2 x i)
      (by show (x.val * 1024 + i.val) / 64 % 16 = i.val / 64; omega) (by show (x.val * 1024 + i.val) / 1024 = x.val; omega)
      (by show (x.val * 1024 + i.val) % 64 = i.val % 64; omega)]
  show x1 (ix2 x j) * joined x0 (ix2 x i) = _
  rw [at2_ix (joined x0), at2_ix x1, mul_comm]

/-! ## The two programs -/

theorem algebraic : Cert.algebraic_DwpIdeal_DwpRefIdeal := by
  intro m g m' g' _ ha
  refine ⟨Value.G2 m, Value.run (F := Ideal) m g, ?_⟩
  refine (θ_run _ _ _).mono (fun r h c => ?_) (DwpRefIdeal.Value.run (F := Ideal) m' g')
  obtain ⟨h0, h1⟩ := h c
  obtain ⟨a0, a1⟩ := ha c
  refine ⟨h0.trans ?_, h1⟩
  rw [DwpRefIdeal.Read.val_main_v6_eq, a0, a1]
  funext i
  obtain ⟨a, b, rfl⟩ := idx2 (m := 1024) (n := 1024) i
  exact (reference_apply _ _ a b).trans (total m c a b).symm

end Cert.DwpIdeal.Sums
-- ==== Proof.DwqValue.lean ====
module

public import proofs.«01_k».proof.Proof.Gen.DwqIdeal.Value
public import proofs.«01_k».proof.Defs
public import proofs.«01_k».proof.Proof.Gen.DwqRefIdeal.Run
public import proofs.«01_k».proof.Proof.Gen.DwqRefIdeal.Read
public import proofs.«01_k».proof.Proof.Heads
public import Idealize.ShloMosaic.Lib.Pipeline.ValueKit
public import Idealize.ShloMosaic.Lib.Pipeline.ReadBack
public import Idealize.ShloMosaic.Lib.Pipeline.Covers

/-! The gradient of a projection of the attention, from the heads. -/

@[expose] public section

set_option maxRecDepth 16384
set_option maxHeartbeats 1000000
noncomputable section

namespace Cert.DwqIdeal.Sums

open Idealize.ShloMosaic Idealize.ShloMosaic.TcCoe Idealize.ShloMosaic.Tactic Idealize.SL.Sem Cert.DwqIdeal Cert.DwqIdeal.Gen Cert.Blocked Finset

variable (m : (ℓ : Loc nD τ sig) → Buf (Elt Ideal) ℓ)

theorem hz : (![0, 0] : Fin 2 → Nat) = fun _ => 0 := funext fun a => by fin_cases a <;> rfl

/-- A head's piece, at an index of the row of all the heads that it holds. -/
theorem head (x : Vec Ideal S16x1408x64 .f32) (o : ℕ) (inb : ∀ a, ![o, 0, 0] a + S1x1408x64.size a ≤ S16x1408x64.size a) (u : S1408x64.Idx) (q : S1408x1024.Idx)
    (h0 : (q 0).val = (u 0).val) (h1 : (q 1).val = 64 * o + (u 1).val) :
    k0_pay1 (F := Ideal) (View.ld x (Rect.unit (s := S16x1408x64) ![o, 0, 0] S1x1408x64.size inb)) u = joined x q := by
  obtain ⟨r, s, rfl⟩ := idx2 (m := 1408) (n := 64) u
  change (q 0).val = r.val at h0
  change (q 1).val = 64 * o + s.val at h1
  refine Eq.trans (b := View.ld x (Rect.unit (s := S16x1408x64) ![o, 0, 0] S1x1408x64.size inb) (ix3 (n0 := 1) (n1 := 1408) (n2 := 64) 0 r s)) ?_ ?_
  · generalize View.ld x (Rect.unit (s := S16x1408x64) ![o, 0, 0] S1x1408x64.size inb) = W
    pointwise [k0_pay1]
  · unfold joined
    refine View.ld_unit_apply_of (S := S16x1408x64) x _ _ _ _ _ fun a => ?_
    match a with
    | ⟨0, _⟩ => show (q 1).val / 64 = o + 0; omega
    | ⟨1, _⟩ => show (q 0).val = 0 + r.val; omega
    | ⟨2, _⟩ => show (q 1).val % 64 = 0 + s.val; omega

/-- The row of all the heads, loaded whole. -/
theorem whole (v : View sig Kind.tc Space.vmem S1408x1024 .bf16) (L : List (View.Piece (Elt Ideal) S1408x1024 .bf16))
    (inb : ∀ a, (![0, 0] : Fin 2 → ℕ) a + ![1408, 1024] a ≤ S1408x1024.size a) :
    v.readCov L (Rect.unit (s := S1408x1024) ![0, 0] ![1408, 1024] inb).toLoadRect = View.canon L :=
  (View.readCov_eq_canon' v L _).trans (View.ld_unit_zero (S := S1408x1024) hz inb (View.canon L))

section
variable (c : Dev nD) (i : grid0.Coords) (a3 : Memref sig .tc .vmem S1408x512 .bf16) (h3 : a3.IsWhole) (a4 : Memref sig .tc .vmem S16x1408x64 .f32) (h4 : a4.IsWhole) (a5 : Memref sig .tc .vmem S512x1024 .bf16) (h5 : a5.IsWhole) (a6 : Memref sig .tc .vmem S512x1024 .f32) (h6 : a6.IsWhole) (a7 : Memref sig .tc .vmem S1408x1024 .bf16) (h7 : a7.IsWhole)
  (x : Vec Ideal S1408x512 .bf16) (y : Vec Ideal S16x1408x64 .f32) (acc : Vec Ideal S512x1024 .f32)

theorem first (hc0 : cond0_0 i) (hc1 : ¬cond0_1 i) :
    sout0_A_0 c i a3 h3 a4 h4 a5 h5 a6 h6 a7 h7 hc0 hc1 x y = k0_pay3 x (joined y) (k0_pay5 (F := Ideal)) := by
  unfold sout0_A_0
  rw [View.read_writes_eq_canon _ _ _ (scover0_A_0 c i a3 h3 a4 h4 a5 h5 a6 h6 a7 h7 hc0 hc1 x y)]
  unfold kernelRun0_A
  dsimp only
  sl_unfold_words
  rw [View.canon_cons_unit_zero (S := S512x1024) hz]
  simp only [whole, View.readAt_eq_ld, View.readCov_unit_zero (S := S512x1024) _ hz, h3.read_unread, h4.read_unread, View.ld_unit_zero (S := S1408x512) hz, View.ld_unit_zero (S := S1408x1024) hz, View.ld_unit_zero (S := S512x1024) hz]
  refine congrArg (fun f => k0_pay3 x f (k0_pay5 (F := Ideal))) (funext fun q => ?_)
  canon_tiles u h
  all_goals exact head y _ _ u q (by omega) (by omega)

theorem middle (hc0 : ¬cond0_0 i) (hc1 : ¬cond0_1 i) :
    sout0_B_0 c i a3 h3 a4 h4 a5 h5 a6 h6 a7 h7 hc0 hc1 x y acc = k0_pay3 x (joined y) acc := by
  unfold sout0_B_0
  rw [View.read_writes_eq_canon _ _ _ (scover0_B_0 c i a3 h3 a4 h4 a5 h5 a6 h6 a7 h7 hc0 hc1 x y acc)]
  unfold kernelRun0_B
  dsimp only
  sl_unfold_words
  rw [View.canon_unit_zero (S := S512x1024) hz]
  simp only [whole, View.readAt_eq_ld, h3.read_unread, h4.read_unread, h6.read_unread, View.ld_unit_zero (S := S1408x512) hz, View.ld_unit_zero (S := S1408x1024) hz, View.ld_unit_zero (S := S512x1024) hz]
  refine congrArg (fun f => k0_pay3 x f acc) (funext fun q => ?_)
  canon_tiles u h
  all_goals exact head y _ _ u q (by omega) (by omega)

theorem last (hc0 : ¬cond0_0 i) (hc1 : cond0_1 i) :
    sout0_C_0 c i a3 h3 a4 h4 a5 h5 a6 h6 a7 h7 hc0 hc1 x y acc = k0_pay3 x (joined y) acc := by
  unfold sout0_C_0
  rw [View.read_writes_eq_canon _ _ _ (scover0_C_0 c i a3 h3 a4 h4 a5 h5 a6 h6 a7 h7 hc0 hc1 x y acc)]
  unfold kernelRun0_C
  dsimp only
  sl_unfold_words
  rw [View.canon_unit_zero (S := S512x1024) hz]
  simp only [whole, View.readAt_eq_ld, h3.read_unread, h4.read_unread, h6.read_unread, View.ld_unit_zero (S := S1408x512) hz, View.ld_unit_zero (S := S1408x1024) hz, View.ld_unit_zero (S := S512x1024) hz]
  refine congrArg (fun f => k0_pay3 x f acc) (funext fun q => ?_)
  canon_tiles u h
  all_goals exact head y _ _ u q (by omega) (by omega)

theorem written (hc0 : ¬cond0_0 i) (hc1 : cond0_1 i) :
    out0_C_2 c i a3 h3 a4 h4 a5 h5 a6 h6 a7 h7 hc0 hc1 x y acc = k0_pay4 (k0_pay3 x (joined y) acc) := by
  unfold out0_C_2
  rw [View.read_writes_eq_canon _ _ _ (cover0_C_2 c i a3 h3 a4 h4 a5 h5 a6 h6 a7 h7 hc0 hc1 x y acc)]
  unfold kernelRun0_C
  dsimp only
  sl_unfold_words
  rw [View.canon_unit_zero (S := S512x1024) hz]
  simp only [whole, View.readAt_eq_ld, View.readCov_unit_zero (S := S512x1024) _ hz, h3.read_unread, h4.read_unread, h6.read_unread, View.ld_unit_zero (S := S1408x512) hz, View.ld_unit_zero (S := S1408x1024) hz, View.ld_unit_zero (S := S512x1024) hz]
  refine congrArg (fun f => k0_pay4 (k0_pay3 x f acc)) (funext fun q => ?_)
  canon_tiles u h
  all_goals exact head y _ _ u q (by omega) (by omega)

theorem zero_apply (r : Fin 512) (s : Fin 1024) : k0_pay5 (F := Ideal) (ix2 r s) = (0 : EReal) := by
  pointwise [k0_pay5]

theorem step_apply (f : Vec Ideal S1408x1024 .bf16) (r : Fin 512) (s : Fin 1024) :
    k0_pay3 x f acc (ix2 r s) = acc (ix2 r s) + ∑ k : Fin 1408, x (ix2 k r) * f (ix2 k s) := by
  pointwise [k0_pay3]

theorem out_apply (r : Fin 512) (s : Fin 1024) : k0_pay4 acc (ix2 r s) = (acc (ix2 r s) : EReal) := by
  pointwise [k0_pay4]

end

theorem index : ∀ t : Fin grid0.N, win0_0.index t = ![t.val % 6, t.val / 6] ∧ win0_1.index t = ![0, t.val % 6, 0] := by
  decide +kernel

theorem iblk0 (c : Dev nD) (t : Fin grid0.N) (a : Fin 1408) (b : Fin 512) :
    iblk m c 0 t (ix2 a b) = at2 (V m c main_arg0) (1408 * (t.val % 6) + a.val) (512 * (t.val / 6) + b.val) := by
  have h : t.val < 12 := t.isLt.trans_eq N_0
  have e : ((cfg0.win 0).index t) = ![t.val % 6, t.val / 6] := (index t).1
  refine Eq.trans ?_ (at2_ix (V m c main_arg0) ⟨1408 * (t.val % 6) + a.val, by omega⟩ ⟨512 * (t.val / 6) + b.val, by omega⟩)
  blk_ext [iblk, e]

theorem iblk1 (c : Dev nD) (t : Fin grid0.N) (a : Fin 1408) (b : Fin 1024) :
    joined (iblk m c 1 t) (ix2 a b) = at2 (joined (V m c main_arg1)) (1408 * (t.val % 6) + a.val) (b.val) := by
  have h : t.val < 12 := t.isLt.trans_eq N_0
  have e : ((cfg0.win 1).index t) = ![0, t.val % 6, 0] := (index t).2
  refine Eq.trans ?_ (at2_ix (joined (V m c main_arg1)) ⟨1408 * (t.val % 6) + a.val, by omega⟩ b)
  show iblk m c 1 t (ix3 ⟨b.val / 64, by omega⟩ a ⟨b.val % 64, by omega⟩) = V m c main_arg1 (ix3 ⟨b.val / 64, by omega⟩ ⟨1408 * (t.val % 6) + a.val, by omega⟩ ⟨b.val % 64, by omega⟩)
  blk_ext [iblk, e]

abbrev term (c : Dev nD) (i j x : ℕ) : EReal := at2 (V m c main_arg0) x i * at2 (joined (V m c main_arg1)) x j

theorem add_block (c : Dev nD) (t : Fin grid0.N) (acc : Vec Ideal S512x1024 .f32) (r : Fin 512) (s : Fin 1024)
    (h : acc (ix2 r s) = ∑ x ∈ range (t.val % 6 * 1408), term m c (512 * (t.val / 6) + r.val) s.val x) :
    k0_pay3 (iblk m c 0 t) (joined (iblk m c 1 t)) acc (ix2 r s) = ∑ x ∈ range ((t.val % 6 + 1) * 1408), term m c (512 * (t.val / 6) + r.val) s.val x := by
  rw [step_apply, h, ← next]
  refine congrArg _ (Finset.sum_congr rfl fun x _ => ?_)
  rw [iblk0, iblk1]

/-- The scratch after a point: the sum over the blocks so far. -/
theorem scratch (c : Dev nD) : ∀ (n : ℕ) (h : n < cfg0.N) (r : Fin 512) (s : Fin 1024),
    (outsAt0 m c n h).2 (ix2 r s) = ∑ x ∈ range ((n % 6 + 1) * 1408), term m c (512 * (n / 6) + r.val) s.val x := by
  intro n
  induction n with
  | zero =>
    intro h r s
    rw [outsAt0_A m c ⟨0, h⟩ rfl (by dsimp only; omega)]
    dsimp only
    rw [first]
    exact add_block m c ⟨0, h⟩ _ r s (by rw [zero_apply]; simp)
  | succ n ih =>
    intro h r s
    have hp := ih (Nat.lt_of_succ_lt h) r s
    by_cases h0 : (n + 1) % 6 = 0
    · rw [outsAt0_A m c ⟨n + 1, h⟩ h0 (by dsimp only; omega)]
      dsimp only
      rw [first]
      exact add_block m c ⟨n + 1, h⟩ _ r s (by rw [zero_apply]; simp [h0])
    · have ha : (outsAt0 m c n (Nat.lt_of_succ_lt h)).2 (ix2 r s) = ∑ x ∈ range ((n + 1) % 6 * 1408), term m c (512 * ((n + 1) / 6) + r.val) s.val x := by
        rw [hp, show (n + 1) / 6 = n / 6 by omega, show (n + 1) % 6 = n % 6 + 1 by omega]
      by_cases h1 : (n + 1) % 6 = 5
      · rw [outsAt0_C m c ⟨n + 1, h⟩ h0 h1]
        dsimp only
        rw [last]
        exact add_block m c ⟨n + 1, h⟩ _ r s ha
      · rw [outsAt0_B m c ⟨n + 1, h⟩ h0 h1]
        dsimp only
        rw [middle]
        exact add_block m c ⟨n + 1, h⟩ _ r s ha

/-- What the point that writes a block back leaves in it. -/
theorem flushed (c : Dev nD) (n : ℕ) (h : n < cfg0.N) (h1 : n % 6 = 5) (r : Fin 512) (s : Fin 1024) :
    (outsAt0 m c n h).1 (ix2 r s) = (∑ x ∈ range 8448, term m c (512 * (n / 6) + r.val) s.val x : EReal) := by
  obtain ⟨k, rfl⟩ : ∃ k, n = k + 1 := ⟨n - 1, by omega⟩
  have h0 : ¬(k + 1) % 6 = 0 := by omega
  have ha := fun q => add_block m c ⟨k + 1, h⟩ (outsAt0 m c k q).2 r s (by
    rw [scratch m c k q, show k % 6 + 1 = (k + 1) % 6 by omega, show k / 6 = (k + 1) / 6 by omega])
  dsimp only at ha
  rw [h1] at ha
  rw [outsAt0_C m c ⟨k + 1, h⟩ h0 h1]
  dsimp only
  rw [written, out_apply]
  exact ha _

theorem total (c : Dev nD) (i : Fin 1024) (j : Fin 1024) :
    Value.G2 m c (ix2 i j) = (∑ x ∈ range 8448, term m c i.val j.val x : EReal) := by
  have hn : Value.pt2Of (ix2 i j) = 6 * (1 * (i.val / 512) + j.val / 1024) + 5 := by
    show 6 * (1 * (i.val / 512 - 0) + 1 * (j.val / 1024 - 0)) + 5 = _
    omega
  have hp : Value.pt2Of (ix2 i j) < cfg0.N := by
    rw [show cfg0.N = 12 from N_0]
    omega
  have hl : Value.loc2Of (ix2 i j) = ix2 ⟨i.val % 512, Nat.mod_lt _ (by decide)⟩ j := by
    refine idx2_val _ _ _ _ _ rfl ?_
    show j.val % 1024 = j.val
    omega
  unfold Value.G2
  rw [dif_pos hp, ← Value.outsAt0_sweep m c _ hp, hl, flushed m c _ hp (by omega)]
  show (∑ x ∈ range 8448, term m c (512 * (Value.pt2Of (ix2 i j) / 6) + i.val % 512) j.val x : EReal) = _
  rw [show 512 * (Value.pt2Of (ix2 i j) / 6) + i.val % 512 = i.val by rw [hn]; omega]

/-! ## The reference's result -/

theorem reference_apply (x0 : Vec Ideal S8448x1024 .bf16) (x1 : Vec Ideal S16x8448x64 .f32) (i : Fin 1024) (j : Fin 1024) :
    DwqRefIdeal.Read.val_main_v9 (F := Ideal) x0 x1 (ix2 i j) = (∑ x ∈ range 8448, at2 x0 x i.val * at2 (joined x1) x j.val : EReal) := by
  rw [DwqRefIdeal.Read.val_main_v9_apply, DwqRefIdeal.Read.val_main_v8_apply, idx2_val (DwqRefIdeal.Read.idx_main_v8 _) j.val i.val j.isLt i.isLt rfl rfl]
  refine (DwqRefIdeal.Read.val_main_v7_apply x0 x1 _).trans ?_
  rw [← Fin.sum_univ_eq_sum_range (fun x => at2 x0 x i.val * at2 (joined x1) x j.val)]
  refine Finset.sum_congr rfl fun x _ => ?_
  rw [DwqRefIdeal.Read.val_main_v6_apply, DwqRefIdeal.Read.val_main_v5_apply, DwqRefIdeal.Read.val_main_v1_apply,
    idx2_val (DwqRefIdeal.Read.ridx_main_v7 _ x) x.val i.val x.isLt i.isLt rfl rfl,
    joined_at x1 (DwqRefIdeal.Read.idx_main_v5 (DwqRefIdeal.Read.idx_main_v6 (DwqRefIdeal.Read.lidx_main_v7 (ix2 j i) x))) (ix2 x j)
      (by show (x.val * 1024 + j.val) / 64 % 16 = j.val / 64; omega) (by show (x.val * 1024 + j.val) / 1024 = x.val; omega)
      (by show (x.val * 1024 + j.val) % 64 = j.val % 64; omega)]
  show joined x1 (ix2 x j) * x0 (ix2 x i) = _
  rw [at2_ix (joined x1), at2_ix x0, mul_comm]

/-! ## The two programs -/

theorem algebraic : Cert.algebraic_DwqIdeal_DwqRefIdeal := by
  intro m g m' g' _ ha
  refine ⟨Value.G2 m, Value.run (F := Ideal) m g, ?_⟩
  refine (θ_run _ _ _).mono (fun r h c => ?_) (DwqRefIdeal.Value.run (F := Ideal) m' g')
  obtain ⟨h0, h1⟩ := h c
  obtain ⟨a0, a1⟩ := ha c
  refine ⟨h0.trans ?_, h1⟩
  rw [DwqRefIdeal.Read.val_main_v9_eq, a0, a1]
  funext i
  obtain ⟨a, b, rfl⟩ := idx2 (m := 1024) (n := 1024) i
  exact (reference_apply _ _ a b).trans (total m c a b).symm

end Cert.DwqIdeal.Sums
-- ==== Proof.DuqValue.lean ====
module

public import proofs.«01_k».proof.Proof.Gen.DuqIdeal.Value
public import proofs.«01_k».proof.Defs
public import proofs.«01_k».proof.Proof.Gen.DuqRefIdeal.Run
public import proofs.«01_k».proof.Proof.Gen.DuqRefIdeal.Read
public import proofs.«01_k».proof.Proof.Heads
public import Idealize.ShloMosaic.Lib.Pipeline.ValueKit
public import Idealize.ShloMosaic.Lib.Pipeline.ReadBack
public import Idealize.ShloMosaic.Lib.Pipeline.Covers

/-! The gradient of the attention's input through its projection to q, from the heads. -/

@[expose] public section

set_option maxRecDepth 16384
set_option maxHeartbeats 1000000
noncomputable section

namespace Cert.DuqIdeal.Sums

open Idealize.ShloMosaic Idealize.ShloMosaic.TcCoe Idealize.ShloMosaic.Tactic Idealize.SL.Sem Cert.DuqIdeal Cert.DuqIdeal.Gen Cert.Blocked Finset

variable (m : (ℓ : Loc nD τ sig) → Buf (Elt Ideal) ℓ)

theorem hz : (![0, 0] : Fin 2 → Nat) = fun _ => 0 := funext fun a => by fin_cases a <;> rfl

theorem zero_apply (r : Fin 768) (s : Fin 1024) : k0_pay4 (F := Ideal) (ix2 r s) = (0 : EReal) := by
  pointwise [k0_pay4]

theorem step_apply (f : Vec Ideal S768x1024 .bf16) (y : Vec Ideal S1024x1024 .bf16) (acc : Vec Ideal S768x1024 .f32) (r : Fin 768) (s : Fin 1024) :
    k0_pay3 f y acc (ix2 r s) = acc (ix2 r s) + ∑ k : Fin 1024, f (ix2 r k) * y (ix2 s k) := by
  pointwise [k0_pay3]

/-- The scratch after its one step. -/
theorem sum_apply (f : Vec Ideal S768x1024 .bf16) (y : Vec Ideal S1024x1024 .bf16) (r : Fin 768) (s : Fin 1024) :
    k0_pay3 f y (k0_pay4 (F := Ideal)) (ix2 r s) = (∑ k : Fin 1024, f (ix2 r k) * y (ix2 s k) : EReal) := by
  rw [step_apply, zero_apply, zero_add]

/-- A head's piece, at an index of the row of all the heads that it holds. -/
theorem head (x : Vec Ideal S16x768x64 .f32) (o : ℕ) (inb : ∀ a, ![o, 0, 0] a + S1x768x64.size a ≤ S16x768x64.size a) (u : S768x64.Idx) (q : S768x1024.Idx)
    (h0 : (q 0).val = (u 0).val) (h1 : (q 1).val = 64 * o + (u 1).val) :
    k0_pay1 (F := Ideal) (View.ld x (Rect.unit (s := S16x768x64) ![o, 0, 0] S1x768x64.size inb)) u = joined x q := by
  obtain ⟨r, s, rfl⟩ := idx2 (m := 768) (n := 64) u
  change (q 0).val = r.val at h0
  change (q 1).val = 64 * o + s.val at h1
  refine Eq.trans (b := View.ld x (Rect.unit (s := S16x768x64) ![o, 0, 0] S1x768x64.size inb) (ix3 (n0 := 1) (n1 := 768) (n2 := 64) 0 r s)) ?_ ?_
  · generalize View.ld x (Rect.unit (s := S16x768x64) ![o, 0, 0] S1x768x64.size inb) = W
    pointwise [k0_pay1]
  · unfold joined
    refine View.ld_unit_apply_of (S := S16x768x64) x _ _ _ _ _ fun a => ?_
    match a with
    | ⟨0, _⟩ => show (q 1).val / 64 = o + 0; omega
    | ⟨1, _⟩ => show (q 0).val = 0 + r.val; omega
    | ⟨2, _⟩ => show (q 1).val % 64 = 0 + s.val; omega

/-- The row of all the heads, loaded whole. -/
theorem whole (v : View sig Kind.tc Space.vmem S768x1024 .bf16) (L : List (View.Piece (Elt Ideal) S768x1024 .bf16))
    (inb : ∀ a, (![0, 0] : Fin 2 → ℕ) a + ![768, 1024] a ≤ S768x1024.size a) :
    v.readCov L (Rect.unit (s := S768x1024) ![0, 0] ![768, 1024] inb).toLoadRect = View.canon L :=
  (View.readCov_eq_canon' v L _).trans (View.ld_unit_zero (S := S768x1024) hz inb (View.canon L))

/-- The scratch, loaded after it was last written. -/
theorem loaded (v : View sig Kind.tc Space.vmem S768x1024 .f32) (Z : Vec Ideal S768x1024 .f32) (L : List (View.Piece (Elt Ideal) S768x1024 .f32))
    (w inb : ∀ a, (![0, 0] : Fin 2 → ℕ) a + ![768, 1024] a ≤ S768x1024.size a) :
    v.readCov (⟨Rect.unit (s := S768x1024) ![0, 0] ![768, 1024] w, Z⟩ :: L) (Rect.unit (s := S768x1024) ![0, 0] ![768, 1024] inb).toLoadRect = Z :=
  (View.readCov_fill (Val := Elt Ideal) (s := S768x1024) v (off := ![0, 0]) w Z L (Rect.unit (s := S768x1024) ![0, 0] ![768, 1024] inb) (by decide)).trans
    (View.ld_unit_zero (S := S768x1024) hz inb Z)

section
variable (c : Dev nD) (i : grid0.Coords) (a3 : Memref sig .tc .vmem S16x768x64 .f32) (h3 : a3.IsWhole) (a4 : Memref sig .tc .vmem S1024x1024 .bf16) (h4 : a4.IsWhole) (a5 : Memref sig .tc .vmem S768x1024 .f32) (h5 : a5.IsWhole) (a6 : Memref sig .tc .vmem S768x1024 .f32) (h6 : a6.IsWhole) (a7 : Memref sig .tc .vmem S768x1024 .bf16) (h7 : a7.IsWhole)
  (x : Vec Ideal S16x768x64 .f32) (y : Vec Ideal S1024x1024 .bf16)

theorem written (hc0 : cond0_0 i) (hc1 : cond0_1 i) :
    out0_A_2 c i a3 h3 a4 h4 a5 h5 a6 h6 a7 h7 hc0 hc1 x y = k0_pay3 (joined x) y (k0_pay4 (F := Ideal)) := by
  unfold out0_A_2
  rw [View.read_writes_eq_canon _ _ _ (cover0_A_2 c i a3 h3 a4 h4 a5 h5 a6 h6 a7 h7 hc0 hc1 x y)]
  unfold kernelRun0_A
  dsimp only
  sl_unfold_words
  rw [View.canon_unit_zero (S := S768x1024) hz, loaded]
  simp only [whole, View.readAt_eq_ld, View.readCov_unit_zero (S := S768x1024) _ hz, h3.read_unread, h4.read_unread, View.ld_unit_zero (S := S1024x1024) hz, View.ld_unit_zero (S := S768x1024) hz]
  refine congrArg (fun f => k0_pay3 f y (k0_pay4 (F := Ideal))) (funext fun q => ?_)
  canon_tiles u h
  all_goals exact head x _ _ u q (by omega) (by omega)

end

theorem index : ∀ t : Fin grid0.N, win0_0.index t = ![0, t.val, 0] ∧ win0_1.index t = ![0, 0] ∧ win0_2.index t = ![t.val, 0] := by
  decide +kernel

theorem iblk0 (c : Dev nD) (t : Fin grid0.N) (a : Fin 768) (b : Fin 1024) :
    joined (iblk m c 0 t) (ix2 a b) = at2 (joined (V m c main_arg1)) (768 * t.val + a.val) b.val := by
  have h : t.val < 11 := t.isLt.trans_eq N_0
  have e : ((cfg0.win 0).index t) = ![0, t.val, 0] := (index t).1
  refine Eq.trans ?_ (at2_ix (joined (V m c main_arg1)) ⟨768 * t.val + a.val, by omega⟩ b)
  show iblk m c 0 t (ix3 ⟨b.val / 64, by omega⟩ a ⟨b.val % 64, by omega⟩) = V m c main_arg1 (ix3 ⟨b.val / 64, by omega⟩ ⟨768 * t.val + a.val, by omega⟩ ⟨b.val % 64, by omega⟩)
  blk_ext [iblk, e]

theorem iblk1 (c : Dev nD) (t : Fin grid0.N) (a : Fin 1024) (b : Fin 1024) :
    iblk m c 1 t (ix2 a b) = at2 (V m c main_arg0) a.val b.val := by
  have h : t.val < 11 := t.isLt.trans_eq N_0
  have e : ((cfg0.win 1).index t) = ![0, 0] := (index t).2.1
  refine Eq.trans ?_ (at2_ix (V m c main_arg0) a b)
  blk_ext [iblk, e]

/-- The kernel's result, at a row and a column. -/
def prod (c : Dev nD) (i j : ℕ) : EReal := ∑ x ∈ range 1024, at2 (joined (V m c main_arg1)) i x * at2 (V m c main_arg0) j x

theorem prod_blk (c : Dev nD) (t : Fin grid0.N) (r : Fin 768) (s : Fin 1024) :
    k0_pay3 (joined (iblk m c 0 t)) (iblk m c 1 t) (k0_pay4 (F := Ideal)) (ix2 r s) = prod m c (768 * t.val + r.val) s.val := by
  rw [sum_apply, prod, ← Fin.sum_univ_eq_sum_range]
  exact Finset.sum_congr rfl fun k _ => by rw [iblk0, iblk1]

/-- The kernel's result. -/
def G (c : Dev nD) : FVec Ideal S8448x1024 .f32 := fun i => prod m c (i 0).val (i 1).val

theorem index_out (i : grid0.Coords) : cc0_transform_2 i = ![(i 0).val, (i 1).val] := by
  have h0 : (i 0).val < 11 := (i 0).isLt
  have h1 : (i 1).val < 1 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem blocks : ∀ a : Fin 2, (S8448x1024.size a + S768x1024.size a - 1) / S768x1024.size a = (![11, 1] : Fin 2 → ℕ) a := by decide

theorem surj (β : (a : Fin 2) → Fin ((![11, 1] : Fin 2 → ℕ) a)) : ∃ i : grid0.Coords, ∀ a, cc0_transform_2 i a = (β a).val := by
  refine ⟨fun | ⟨0, _⟩ => β 0 | ⟨1, _⟩ => β 1 | ⟨2, _⟩ => (0 : Fin 1) | ⟨_ + 3, h⟩ => absurd h (by simp), fun a => ?_⟩
  rw [index_out]
  match a with
  | ⟨0, _⟩ => rfl
  | ⟨1, _⟩ => rfl

theorem cover_out : (cfg0.win 2).Covers :=
  (cfg0.win 2).covers_of_indexMap_surj rfl (by decide : ∀ a : Fin 2, 0 < S768x1024.size a) fun β =>
    surj fun a => (⟨(β a).val, (β a).isLt.trans_eq (blocks a)⟩ : Fin ((![11, 1] : Fin 2 → ℕ) a))

/-- Where an index of a block lies in the array. -/
def spot (t : Fin grid0.N) (r : Fin 768) (s : Fin 1024) : S8448x1024.Idx :=
  have h : t.val < 11 := t.isLt.trans_eq N_0
  ix2 ⟨768 * t.val + r.val, by omega⟩ s

theorem arr_out (c : Dev nD) : (dats m 0 c).arrAt 2 cfg0.N = G m c := by
  refine (dats m 0 c).arrAt_eq_of_covers 2 _ cover_out fun t _ y => ?_
  obtain ⟨r, s, rfl⟩ := idx2 (m := 768) (n := 1024) y
  have hp : ((cfg0.win 2).blk t).view.emb (ix2 r s) = spot t r s := by
    have e : ((cfg0.win 2).index t) = ![t.val, 0] := (index t).2.2
    blk_ext [e, spot]
  rw [hp]
  refine (congrFun (after0_2 m c t) _).trans ?_
  unfold outsAt0
  rw [written]
  exact prod_blk m c t r s

/-! ## The reference's result -/

theorem product7 (x0 : Vec Ideal S1024x1024 .bf16) (x1 : Vec Ideal S16x8448x64 .f32) (i : Fin 8448) (j : Fin 1024) :
    DuqRefIdeal.Read.val_main_v7 (F := Ideal) x0 x1 (ix2 i j) = (∑ x ∈ range 1024, at2 (joined x1) i.val x * at2 x0 j.val x : EReal) := by
  refine (DuqRefIdeal.Read.val_main_v7_apply x0 x1 _).trans ?_
  rw [← Fin.sum_univ_eq_sum_range (fun x => at2 (joined x1) i.val x * at2 x0 j.val x)]
  refine Finset.sum_congr rfl fun x _ => ?_
  rw [DuqRefIdeal.Read.val_main_v6_apply, DuqRefIdeal.Read.val_main_v5_apply, DuqRefIdeal.Read.val_main_v1_apply,
    idx2_val (DuqRefIdeal.Read.ridx_main_v7 _ x) j.val x.val j.isLt x.isLt rfl rfl,
    joined_at x1 (DuqRefIdeal.Read.idx_main_v5 (DuqRefIdeal.Read.idx_main_v6 (DuqRefIdeal.Read.lidx_main_v7 (ix2 i j) x))) (ix2 i x)
      (by show (i.val * 1024 + x.val) / 64 % 16 = x.val / 64; omega) (by show (i.val * 1024 + x.val) / 1024 = i.val; omega)
      (by show (i.val * 1024 + x.val) % 64 = x.val % 64; omega)]
  show joined x1 (ix2 i x) * x0 (ix2 j x) = _
  rw [at2_ix (joined x1), at2_ix x0]

theorem reference_apply (x0 : Vec Ideal S1024x1024 .bf16) (x1 : Vec Ideal S16x8448x64 .f32) (i : Fin 8448) (j : Fin 1024) :
    DuqRefIdeal.Read.val_main_v7 (F := Ideal) x0 x1 (ix2 i j) = (∑ x ∈ range 1024, at2 (joined x1) i.val x * at2 x0 j.val x : EReal) := by
  exact product7 _ _ i j

/-! ## The two programs -/

theorem algebraic : Cert.algebraic_DuqIdeal_DuqRefIdeal := by
  intro m g m' g' _ ha
  refine ⟨G m, ?_, ?_⟩
  · refine (θ_run _ _ _).mono (fun r h c => ?_) (Value.run_blocks (F := Ideal) m g)
    obtain ⟨h2, h3⟩ := h c
    exact ⟨h2.trans (arr_out m c), h3⟩
  refine (θ_run _ _ _).mono (fun r h c => ?_) (DuqRefIdeal.Value.run (F := Ideal) m' g')
  obtain ⟨h0, h1⟩ := h c
  obtain ⟨a0, a1⟩ := ha c
  refine ⟨h0.trans ?_, h1⟩
  rw [DuqRefIdeal.Read.val_main_v7_eq, a0, a1]
  funext i
  obtain ⟨a, b, rfl⟩ := idx2 (m := 8448) (n := 1024) i
  exact reference_apply _ _ a b

end Cert.DuqIdeal.Sums
-- ==== Proof.DkvValue.lean ====
module

public import proofs.«01_k».proof.Proof.Gen.DkvIdeal.Value
public import proofs.«01_k».proof.Defs
public import proofs.«01_k».proof.Proof.Gen.DkvRefIdeal.Run
public import proofs.«01_k».proof.Proof.Gen.DkvRefIdeal.Read
public import proofs.«01_k».proof.Proof.Heads
public import Idealize.ShloMosaic.Lib.Pipeline.ValueKit
public import Idealize.ShloMosaic.Lib.Pipeline.ReadBack
public import Idealize.ShloMosaic.Lib.Pipeline.Covers

/-! The gradient of the attention's input through its projections to k and v, from the heads. -/

@[expose] public section

set_option maxRecDepth 16384
set_option maxHeartbeats 1000000
noncomputable section

namespace Cert.DkvIdeal.Sums

open Idealize.ShloMosaic Idealize.ShloMosaic.TcCoe Idealize.ShloMosaic.Tactic Idealize.SL.Sem Cert.DkvIdeal Cert.DkvIdeal.Gen Cert.Blocked Finset

variable (m : (ℓ : Loc nD τ sig) → Buf (Elt Ideal) ℓ)

theorem hz : (![0, 0] : Fin 2 → Nat) = fun _ => 0 := funext fun a => by fin_cases a <;> rfl

theorem zero_apply (r : Fin 768) (s : Fin 1024) : k0_pay1 (F := Ideal) (ix2 r s) = (0 : EReal) := by
  pointwise [k0_pay1]

theorem one_apply (f : Vec Ideal S768x1024 .bf16) (y : Vec Ideal S1024x1024 .bf16) (r : Fin 768) (s : Fin 1024) :
    k0_pay18 f y (ix2 r s) = ∑ k : Fin 1024, f (ix2 r k) * y (ix2 s k) := by
  pointwise [k0_pay18]

theorem step_apply (p : Vec Ideal S768x1024 .f32) (f : Vec Ideal S768x1024 .bf16) (y : Vec Ideal S1024x1024 .bf16) (acc : Vec Ideal S768x1024 .f32) (r : Fin 768) (s : Fin 1024) :
    k0_pay38 p f y acc (ix2 r s) = acc (ix2 r s) + (p (ix2 r s) + ∑ k : Fin 1024, f (ix2 r k) * y (ix2 s k)) := by
  pointwise [k0_pay38]

/-- The scratch after its one step. -/
theorem sum_apply (f f' : Vec Ideal S768x1024 .bf16) (y y' : Vec Ideal S1024x1024 .bf16) (r : Fin 768) (s : Fin 1024) :
    k0_pay38 (k0_pay18 f y) f' y' (k0_pay1 (F := Ideal)) (ix2 r s) = (∑ k : Fin 1024, f (ix2 r k) * y (ix2 s k) + ∑ k : Fin 1024, f' (ix2 r k) * y' (ix2 s k) : EReal) := by
  rw [step_apply, one_apply, zero_apply, zero_add]

/-- A head's piece, at an index of the row of all the heads that it holds. -/
theorem head (x : Vec Ideal S16x768x64 .f32) (o : ℕ) (inb : ∀ a, ![o, 0, 0] a + S1x768x64.size a ≤ S16x768x64.size a) (u : S768x64.Idx) (q : S768x1024.Idx)
    (h0 : (q 0).val = (u 0).val) (h1 : (q 1).val = 64 * o + (u 1).val) :
    k0_pay17 (F := Ideal) (View.ld x (Rect.unit (s := S16x768x64) ![o, 0, 0] S1x768x64.size inb)) u = joined x q := by
  obtain ⟨r, s, rfl⟩ := idx2 (m := 768) (n := 64) u
  change (q 0).val = r.val at h0
  change (q 1).val = 64 * o + s.val at h1
  refine Eq.trans (b := View.ld x (Rect.unit (s := S16x768x64) ![o, 0, 0] S1x768x64.size inb) (ix3 (n0 := 1) (n1 := 768) (n2 := 64) 0 r s)) ?_ ?_
  · generalize View.ld x (Rect.unit (s := S16x768x64) ![o, 0, 0] S1x768x64.size inb) = W
    pointwise [k0_pay17]
  · unfold joined
    refine View.ld_unit_apply_of (S := S16x768x64) x _ _ _ _ _ fun a => ?_
    match a with
    | ⟨0, _⟩ => show (q 1).val / 64 = o + 0; omega
    | ⟨1, _⟩ => show (q 0).val = 0 + r.val; omega
    | ⟨2, _⟩ => show (q 1).val % 64 = 0 + s.val; omega

/-- The row of all the heads, loaded whole. -/
theorem whole (v : View sig Kind.tc Space.vmem S768x1024 .bf16) (L : List (View.Piece (Elt Ideal) S768x1024 .bf16))
    (inb : ∀ a, (![0, 0] : Fin 2 → ℕ) a + ![768, 1024] a ≤ S768x1024.size a) :
    v.readCov L (Rect.unit (s := S768x1024) ![0, 0] ![768, 1024] inb).toLoadRect = View.canon L :=
  (View.readCov_eq_canon' v L _).trans (View.ld_unit_zero (S := S768x1024) hz inb (View.canon L))

/-- The scratch, loaded after it was last written. -/
theorem loaded (v : View sig Kind.tc Space.vmem S768x1024 .f32) (Z : Vec Ideal S768x1024 .f32) (L : List (View.Piece (Elt Ideal) S768x1024 .f32))
    (w inb : ∀ a, (![0, 0] : Fin 2 → ℕ) a + ![768, 1024] a ≤ S768x1024.size a) :
    v.readCov (⟨Rect.unit (s := S768x1024) ![0, 0] ![768, 1024] w, Z⟩ :: L) (Rect.unit (s := S768x1024) ![0, 0] ![768, 1024] inb).toLoadRect = Z :=
  (View.readCov_fill (Val := Elt Ideal) (s := S768x1024) v (off := ![0, 0]) w Z L (Rect.unit (s := S768x1024) ![0, 0] ![768, 1024] inb) (by decide)).trans
    (View.ld_unit_zero (S := S768x1024) hz inb Z)

section
variable (c : Dev nD) (i : grid0.Coords) (a3 : Memref sig .tc .vmem S16x768x64 .f32) (h3 : a3.IsWhole) (a4 : Memref sig .tc .vmem S1024x1024 .bf16) (h4 : a4.IsWhole) (a5 : Memref sig .tc .vmem S16x768x64 .f32) (h5 : a5.IsWhole) (a6 : Memref sig .tc .vmem S1024x1024 .bf16) (h6 : a6.IsWhole) (a7 : Memref sig .tc .vmem S768x1024 .f32) (h7 : a7.IsWhole) (a8 : Memref sig .tc .vmem S768x1024 .f32) (h8 : a8.IsWhole) (a9 : Memref sig .tc .vmem S768x1024 .bf16) (h9 : a9.IsWhole) (a10 : Memref sig .tc .vmem S768x1024 .bf16) (h10 : a10.IsWhole)
  (x : Vec Ideal S16x768x64 .f32) (y : Vec Ideal S1024x1024 .bf16) (x' : Vec Ideal S16x768x64 .f32) (y' : Vec Ideal S1024x1024 .bf16)

theorem written (hc0 : cond0_0 i) (hc1 : cond0_1 i) :
    out0_A_4 c i a3 h3 a4 h4 a5 h5 a6 h6 a7 h7 a8 h8 a9 h9 a10 h10 hc0 hc1 x y x' y' = k0_pay38 (k0_pay18 (joined x) y) (joined x') y' (k0_pay1 (F := Ideal)) := by
  unfold out0_A_4
  rw [View.read_writes_eq_canon _ _ _ (cover0_A_4 c i a3 h3 a4 h4 a5 h5 a6 h6 a7 h7 a8 h8 a9 h9 a10 h10 hc0 hc1 x y x' y')]
  unfold kernelRun0_A
  dsimp only
  sl_unfold_words
  rw [View.canon_unit_zero (S := S768x1024) hz, loaded]
  simp only [whole, View.readAt_eq_ld, View.readCov_unit_zero (S := S768x1024) _ hz, h3.read_unread, h4.read_unread, h5.read_unread, h6.read_unread, View.ld_unit_zero (S := S1024x1024) hz, View.ld_unit_zero (S := S768x1024) hz]
  refine congrArg₂ (fun f f' => k0_pay38 (k0_pay18 f y) f' y' (k0_pay1 (F := Ideal))) (funext fun q => ?_) (funext fun q => ?_)
  all_goals
    canon_tiles u h
    all_goals exact head _ _ _ u q (by omega) (by omega)

end

theorem index : ∀ t : Fin grid0.N, win0_0.index t = ![0, t.val, 0] ∧ win0_1.index t = ![0, 0] ∧ win0_2.index t = ![0, t.val, 0] ∧ win0_3.index t = ![0, 0] ∧ win0_4.index t = ![t.val, 0] := by
  decide +kernel

theorem iblk0 (c : Dev nD) (t : Fin grid0.N) (a : Fin 768) (b : Fin 1024) :
    joined (iblk m c 0 t) (ix2 a b) = at2 (joined (V m c main_arg2)) (768 * t.val + a.val) b.val := by
  have h : t.val < 11 := t.isLt.trans_eq N_0
  have e : ((cfg0.win 0).index t) = ![0, t.val, 0] := (index t).1
  refine Eq.trans ?_ (at2_ix (joined (V m c main_arg2)) ⟨768 * t.val + a.val, by omega⟩ b)
  show iblk m c 0 t (ix3 ⟨b.val / 64, by omega⟩ a ⟨b.val % 64, by omega⟩) = V m c main_arg2 (ix3 ⟨b.val / 64, by omega⟩ ⟨768 * t.val + a.val, by omega⟩ ⟨b.val % 64, by omega⟩)
  blk_ext [iblk, e]

theorem iblk1 (c : Dev nD) (t : Fin grid0.N) (a : Fin 1024) (b : Fin 1024) :
    iblk m c 1 t (ix2 a b) = at2 (V m c main_arg0) a.val b.val := by
  have h : t.val < 11 := t.isLt.trans_eq N_0
  have e : ((cfg0.win 1).index t) = ![0, 0] := (index t).2.1
  refine Eq.trans ?_ (at2_ix (V m c main_arg0) a b)
  blk_ext [iblk, e]

theorem iblk2 (c : Dev nD) (t : Fin grid0.N) (a : Fin 768) (b : Fin 1024) :
    joined (iblk m c 2 t) (ix2 a b) = at2 (joined (V m c main_arg3)) (768 * t.val + a.val) b.val := by
  have h : t.val < 11 := t.isLt.trans_eq N_0
  have e : ((cfg0.win 2).index t) = ![0, t.val, 0] := (index t).2.2.1
  refine Eq.trans ?_ (at2_ix (joined (V m c main_arg3)) ⟨768 * t.val + a.val, by omega⟩ b)
  show iblk m c 2 t (ix3 ⟨b.val / 64, by omega⟩ a ⟨b.val % 64, by omega⟩) = V m c main_arg3 (ix3 ⟨b.val / 64, by omega⟩ ⟨768 * t.val + a.val, by omega⟩ ⟨b.val % 64, by omega⟩)
  blk_ext [iblk, e]

theorem iblk3 (c : Dev nD) (t : Fin grid0.N) (a : Fin 1024) (b : Fin 1024) :
    iblk m c 3 t (ix2 a b) = at2 (V m c main_arg1) a.val b.val := by
  have h : t.val < 11 := t.isLt.trans_eq N_0
  have e : ((cfg0.win 3).index t) = ![0, 0] := (index t).2.2.2.1
  refine Eq.trans ?_ (at2_ix (V m c main_arg1) a b)
  blk_ext [iblk, e]

/-- The kernel's result, at a row and a column. -/
def prod (c : Dev nD) (i j : ℕ) : EReal := ∑ x ∈ range 1024, at2 (joined (V m c main_arg2)) i x * at2 (V m c main_arg0) j x + ∑ x ∈ range 1024, at2 (joined (V m c main_arg3)) i x * at2 (V m c main_arg1) j x

theorem prod_blk (c : Dev nD) (t : Fin grid0.N) (r : Fin 768) (s : Fin 1024) :
    k0_pay38 (k0_pay18 (joined (iblk m c 0 t)) (iblk m c 1 t)) (joined (iblk m c 2 t)) (iblk m c 3 t) (k0_pay1 (F := Ideal)) (ix2 r s) = prod m c (768 * t.val + r.val) s.val := by
  rw [sum_apply, prod, ← Fin.sum_univ_eq_sum_range, ← Fin.sum_univ_eq_sum_range]
  exact congrArg₂ (fun a b : EReal => a + b) (Finset.sum_congr rfl fun k _ => by rw [iblk0, iblk1]) (Finset.sum_congr rfl fun k _ => by rw [iblk2, iblk3])

/-- The kernel's result. -/
def G (c : Dev nD) : FVec Ideal S8448x1024 .f32 := fun i => prod m c (i 0).val (i 1).val

theorem index_out (i : grid0.Coords) : cc0_transform_4 i = ![(i 0).val, (i 1).val] := by
  have h0 : (i 0).val < 11 := (i 0).isLt
  have h1 : (i 1).val < 1 := (i 1).isLt
  show ![(BitVec.ofNat 32 (i 0).val).toNat, (BitVec.ofNat 32 (i 1).val).toNat] = _
  rw [BitVec.toNat_ofNat, BitVec.toNat_ofNat, Nat.mod_eq_of_lt (by omega), Nat.mod_eq_of_lt (by omega)]

theorem blocks : ∀ a : Fin 2, (S8448x1024.size a + S768x1024.size a - 1) / S768x1024.size a = (![11, 1] : Fin 2 → ℕ) a := by decide

theorem surj (β : (a : Fin 2) → Fin ((![11, 1] : Fin 2 → ℕ) a)) : ∃ i : grid0.Coords, ∀ a, cc0_transform_4 i a = (β a).val := by
  refine ⟨fun | ⟨0, _⟩ => β 0 | ⟨1, _⟩ => β 1 | ⟨2, _⟩ => (0 : Fin 1) | ⟨_ + 3, h⟩ => absurd h (by simp), fun a => ?_⟩
  rw [index_out]
  match a with
  | ⟨0, _⟩ => rfl
  | ⟨1, _⟩ => rfl

theorem cover_out : (cfg0.win 4).Covers :=
  (cfg0.win 4).covers_of_indexMap_surj rfl (by decide : ∀ a : Fin 2, 0 < S768x1024.size a) fun β =>
    surj fun a => (⟨(β a).val, (β a).isLt.trans_eq (blocks a)⟩ : Fin ((![11, 1] : Fin 2 → ℕ) a))

/-- Where an index of a block lies in the array. -/
def spot (t : Fin grid0.N) (r : Fin 768) (s : Fin 1024) : S8448x1024.Idx :=
  have h : t.val < 11 := t.isLt.trans_eq N_0
  ix2 ⟨768 * t.val + r.val, by omega⟩ s

theorem arr_out (c : Dev nD) : (dats m 0 c).arrAt 4 cfg0.N = G m c := by
  refine (dats m 0 c).arrAt_eq_of_covers 4 _ cover_out fun t _ y => ?_
  obtain ⟨r, s, rfl⟩ := idx2 (m := 768) (n := 1024) y
  have hp : ((cfg0.win 4).blk t).view.emb (ix2 r s) = spot t r s := by
    have e : ((cfg0.win 4).index t) = ![t.val, 0] := (index t).2.2.2.2
    blk_ext [e, spot]
  rw [hp]
  refine (congrFun (after0_4 m c t) _).trans ?_
  unfold outsAt0
  rw [written]
  exact prod_blk m c t r s

/-! ## The reference's result -/

theorem product11 (x1 : Vec Ideal S1024x1024 .bf16) (x3 : Vec Ideal S16x8448x64 .f32) (i : Fin 8448) (j : Fin 1024) :
    DkvRefIdeal.Read.val_main_v11 (F := Ideal) x1 x3 (ix2 i j) = (∑ x ∈ range 1024, at2 (joined x3) i.val x * at2 x1 j.val x : EReal) := by
  refine (DkvRefIdeal.Read.val_main_v11_apply x1 x3 _).trans ?_
  rw [← Fin.sum_univ_eq_sum_range (fun x => at2 (joined x3) i.val x * at2 x1 j.val x)]
  refine Finset.sum_congr rfl fun x _ => ?_
  rw [DkvRefIdeal.Read.val_main_v10_apply, DkvRefIdeal.Read.val_main_v9_apply, DkvRefIdeal.Read.val_main_v1_apply,
    idx2_val (DkvRefIdeal.Read.ridx_main_v11 _ x) j.val x.val j.isLt x.isLt rfl rfl,
    joined_at x3 (DkvRefIdeal.Read.idx_main_v9 (DkvRefIdeal.Read.idx_main_v10 (DkvRefIdeal.Read.lidx_main_v11 (ix2 i j) x))) (ix2 i x)
      (by show (i.val * 1024 + x.val) / 64 % 16 = x.val / 64; omega) (by show (i.val * 1024 + x.val) / 1024 = i.val; omega)
      (by show (i.val * 1024 + x.val) % 64 = x.val % 64; omega)]
  show joined x3 (ix2 i x) * x1 (ix2 j x) = _
  rw [at2_ix (joined x3), at2_ix x1]

theorem product14 (x0 : Vec Ideal S1024x1024 .bf16) (x2 : Vec Ideal S16x8448x64 .f32) (i : Fin 8448) (j : Fin 1024) :
    DkvRefIdeal.Read.val_main_v14 (F := Ideal) x0 x2 (ix2 i j) = (∑ x ∈ range 1024, at2 (joined x2) i.val x * at2 x0 j.val x : EReal) := by
  refine (DkvRefIdeal.Read.val_main_v14_apply x0 x2 _).trans ?_
  rw [← Fin.sum_univ_eq_sum_range (fun x => at2 (joined x2) i.val x * at2 x0 j.val x)]
  refine Finset.sum_congr rfl fun x _ => ?_
  rw [DkvRefIdeal.Read.val_main_v13_apply, DkvRefIdeal.Read.val_main_v12_apply, DkvRefIdeal.Read.val_main_v0_apply,
    idx2_val (DkvRefIdeal.Read.ridx_main_v14 _ x) j.val x.val j.isLt x.isLt rfl rfl,
    joined_at x2 (DkvRefIdeal.Read.idx_main_v12 (DkvRefIdeal.Read.idx_main_v13 (DkvRefIdeal.Read.lidx_main_v14 (ix2 i j) x))) (ix2 i x)
      (by show (i.val * 1024 + x.val) / 64 % 16 = x.val / 64; omega) (by show (i.val * 1024 + x.val) / 1024 = i.val; omega)
      (by show (i.val * 1024 + x.val) % 64 = x.val % 64; omega)]
  show joined x2 (ix2 i x) * x0 (ix2 j x) = _
  rw [at2_ix (joined x2), at2_ix x0]

theorem reference_apply (x0 : Vec Ideal S1024x1024 .bf16) (x1 : Vec Ideal S1024x1024 .bf16) (x2 : Vec Ideal S16x8448x64 .f32) (x3 : Vec Ideal S16x8448x64 .f32) (i : Fin 8448) (j : Fin 1024) :
    DkvRefIdeal.Read.val_main_v15 (F := Ideal) x0 x1 x2 x3 (ix2 i j) = (∑ x ∈ range 1024, at2 (joined x2) i.val x * at2 x0 j.val x + ∑ x ∈ range 1024, at2 (joined x3) i.val x * at2 x1 j.val x : EReal) := by
  rw [DkvRefIdeal.Read.val_main_v15_apply, product11, product14]
  exact add_comm (_ : EReal) _

/-! ## The two programs -/

theorem algebraic : Cert.algebraic_DkvIdeal_DkvRefIdeal := by
  intro m g m' g' _ ha
  refine ⟨G m, ?_, ?_⟩
  · refine (θ_run _ _ _).mono (fun r h c => ?_) (Value.run_blocks (F := Ideal) m g)
    obtain ⟨h2, h3⟩ := h c
    exact ⟨h2.trans (arr_out m c), h3⟩
  refine (θ_run _ _ _).mono (fun r h c => ?_) (DkvRefIdeal.Value.run (F := Ideal) m' g')
  obtain ⟨h0, h1⟩ := h c
  obtain ⟨a0, a1, a2, a3⟩ := ha c
  refine ⟨h0.trans ?_, h1⟩
  rw [DkvRefIdeal.Read.val_main_v15_eq, a0, a1, a2, a3]
  funext i
  obtain ⟨a, b, rfl⟩ := idx2 (m := 8448) (n := 1024) i
  exact reference_apply _ _ _ _ a b

end Cert.DkvIdeal.Sums
-- ==== Proof.FwdRun.lean ====
module

public import proofs.«01_k».proof.Proof.Gen.FwdIdeal.Launch
public import proofs.«01_k».proof.Proof.Gen.FwdIdeal.Skeleton
public import proofs.«01_k».proof.Proof.Gen.FwdIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.StableHlo.Run

/-! The forward attention's run, at any float instance. A point treats its own key block and the one before it, then
    goes back over the earlier ones in a loop whose test reads the data: `loop` is what the loop leaves. -/

@[expose] public section

set_option maxRecDepth 16384
noncomputable section

namespace Cert.FwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Cert.FwdIdeal Cert.FwdIdeal.Gen

variable {F : FTy → Type} [FloatOps F] [Named F]

local notation "𝕄" => MT nD τ sig Unit (Elt F) ℕ (UR sig nD τ) ℕ

set_option synthInstance.maxHeartbeats 200000

/-! ## The loop -/

/-- What a loop's trips do not change. -/
structure In (F : FTy → Type) where
  k : Vec F S1x8448x64 .bf16
  v : Vec F S1x8448x64 .bf16
  v26 : FVec F S256x64 .bf16
  v24 : FVec F S512x256 .bf16
  v2 : IVec S256x128 32
  v28 : FVec F S1x1 .f32

/-- What a trip carries to the next: the counter, the carry, the sum, the test, the saved carries. -/
structure St (F : FTy → Type) where
  kb : BitVec 32
  c : FVec F S256x1 .f32
  acc : FVec F S256x64 .f32
  live : BitVec 1
  cm : Vec F S1x256x128 .f32

theorem chk {n : ℕ} (h : n < 33) : k0_chk1 (BitVec.ofNat 32 n) :=
  (by decide +kernel : ∀ n : Fin 33, k0_chk1 (BitVec.ofNat 32 n.val)) ⟨n, h⟩

theorem sge_of {n : ℕ} (h : n < 33) : Scalar.cmpi .sge (BitVec.ofNat 32 n) 0#32 = 1#1 :=
  (by decide +kernel : ∀ n : Fin 33, Scalar.cmpi .sge (BitVec.ofNat 32 n.val) 0#32 = 1#1) ⟨n, h⟩

theorem subi_of {n : ℕ} (h : n < 33) : Scalar.subi (BitVec.ofNat 32 (n + 1)) 1#32 = BitVec.ofNat 32 n :=
  (by decide +kernel : ∀ n : Fin 33, Scalar.subi (BitVec.ofNat 32 (n.val + 1)) 1#32 = BitVec.ofNat 32 n.val) ⟨n, h⟩

theorem andi_one (b : BitVec 1) : Scalar.andi 1#1 b = b := by revert b; decide
theorem andi_zero (b : BitVec 1) : Scalar.andi 0#1 b = 0#1 := by revert b; decide

/-- The saved carries' one rectangle. -/
abbrev rc : Rect S1x256x128 := Rect.unit (s := S1x256x128) ![0, 0, 0] S1x256x128.size inb_S1x256x128_S1x256x128_0_0_0
abbrev ro : Rect S1x256x64 := Rect.unit (s := S1x256x64) ![0, 0, 0] S1x256x64.size inb_S1x256x64_S1x256x64_0_0_0
abbrev rf : Rect S1x1x8x128 := Rect.unit (s := S1x1x8x128) ![0, 0, 0, 0] S1x1x8x128.size inb_S1x1x8x128_S1x1x8x128_0_0_0_0
abbrev rz : Rect S1x128 := Rect.unit (s := S1x128) ![0, 0] S1x1.size inb_S1x128_S1x1_0_0
/-- The rows of block `n`. -/
abbrev rk (n : ℕ) (h : n < 33) : Rect S1x8448x64 :=
  Rect.unit (s := S1x8448x64) (k0_off3 (BitVec.ofNat 32 n)) S1x256x64.size (k0_off3_inb (BitVec.ofNat 32 n) (chk h))

/-- One trip, at block `n`. -/
def step (I : In F) (n : ℕ) (h : n < 33) (s : St F) : St F where
  kb := Scalar.subi (BitVec.ofNat 32 n) 1#32
  c := k0_pay4 s.c (k0_pay25 I.v26 (View.ld I.k (rk n h)))
  acc := k0_pay26 I.v26 I.v24 s.c s.acc (View.ld I.k (rk n h)) (View.ld I.v (rk n h))
  live := Scalar.cmpf .ogt (k0_pay5 I.v28 s.c (k0_pay25 I.v26 (View.ld I.k (rk n h)))) (Scalar.ofBits .f32 0xC2D00000#32)
  cm := View.canon [⟨rc, k0_pay27 I.v2 (BitVec.ofNat 32 n) s.c (View.ld s.cm rc)⟩]

/-- The loop with at most `n` trips to go. -/
def loop (I : In F) : (n : ℕ) → n ≤ 33 → St F → St F
  | 0, _, s => s
  | n + 1, h, s => if s.live = 1#1 then loop I n (Nat.le_of_succ_le h) (step I n h s) else s

/-- The counter when at most `n` trips are to go. -/
def At : ℕ → BitVec 32 → Prop
  | 0, kb => Scalar.cmpi .sge kb 0#32 = 0#1
  | n + 1, kb => kb = BitVec.ofNat 32 n

theorem at_step {n : ℕ} (h : n < 33) : At n (Scalar.subi (BitVec.ofNat 32 n) 1#32) := by
  cases n with
  | zero => show Scalar.cmpi .sge (Scalar.subi (BitVec.ofNat 32 0) 1#32) 0#32 = 0#1; decide
  | succ n => exact subi_of (Nat.lt_of_succ_lt h)

theorem cover_c (p : Vec F S1x256x128 .f32) (y : S1x256x128.Idx) :
    ∃ pc ∈ ([⟨rc, p⟩] : List (View.Piece (Elt F) S1x256x128 .f32)), y ∈ pc.1.set :=
  View.cover_of_tiled [⟨rc, p⟩] S1x256x128.size (by rfl) y
theorem cover_o (p : Vec F S1x256x64 .f32) (y : S1x256x64.Idx) :
    ∃ pc ∈ ([⟨ro, p⟩] : List (View.Piece (Elt F) S1x256x64 .f32)), y ∈ pc.1.set :=
  View.cover_of_tiled [⟨ro, p⟩] S1x256x64.size (by rfl) y
theorem cover_f (p : Vec F S1x1x8x128 .f32) (y : S1x1x8x128.Idx) :
    ∃ pc ∈ ([⟨rf, p⟩] : List (View.Piece (Elt F) S1x1x8x128 .f32)), y ∈ pc.1.set :=
  View.cover_of_tiled [⟨rf, p⟩] S1x1x8x128.size (by rfl) y

abbrev 𝒱₀ : Variants := Variants.nat

section Label

variable (c : Dev nD) (i : grid0.Coords) (arg3 : Memref sig .tc .vmem S1x8448x64 .bf16) (harg3 : arg3.IsWhole)
  (arg4 : Memref sig .tc .vmem S1x8448x64 .bf16) (harg4 : arg4.IsWhole) (arg7 : Memref sig .tc .vmem S1x256x128 .f32) (harg7 : arg7.IsWhole)
  (I : In F)

/-- The buffers the loop uses. -/
def held (cm : Vec F S1x256x128 .f32) : sProp 𝕄 :=
  iprop(owns (c : Thread nD τ) arg3 fullShare I.k ∗ owns (c : Thread nD τ) arg4 fullShare I.v ∗ owns (c : Thread nD τ) arg7 fullShare cm)

/-- The loop's results. -/
def res (s : St F) : BitVec 32 × FVec F S256x1 .f32 × FVec F S256x64 .f32 × BitVec 1 := (s.kb, s.c, s.acc, s.live)

/-- The loop with at most `n` trips to go. -/
def spec (n : ℕ) (h : n ≤ 33) (s : St F) : sWPT 𝕄 (BitVec 32 × FVec F S256x1 .f32 × FVec F S256x64 .f32 × BitVec 1) := do
  sWPT.consume (held c arg3 arg4 arg7 I s.cm)
  sWPT.produce (held c arg3 arg4 arg7 I (loop I n h s).cm)
  pure (res (loop I n h s))

theorem spec_apply (n : ℕ) (h : n ≤ 33) (s : St F) (K : BitVec 32 × FVec F S256x1 .f32 × FVec F S256x64 .f32 × BitVec 1 → sProp 𝕄) :
    spec c arg3 arg4 arg7 I n h s K
      = iprop(held c arg3 arg4 arg7 I s.cm ∗ (held c arg3 arg4 arg7 I (loop I n h s).cm -∗ K (res (loop I n h s)))) := rfl

/-- The label's arguments. -/
abbrev args (s : St F) : (Λ₀ F).Args (1 : (Λ₀ F).Label) :=
  ⟨i, arg3, harg3, arg4, harg4, I.v26, I.v24, I.v2, arg7, harg7, I.v28, s.kb, s.c, s.acc, s.live⟩

set_option maxHeartbeats 1000000 in
theorem spec_le (E : Set ℕ) : ∀ (n : ℕ) (h : n ≤ 33) (s : St F), At n s.kb → ∀ K, spec c arg3 arg4 arg7 I n h s K
      ⊢ wp frame (wpE (defs₀ (F := F)) 𝒱₀ (c : Thread nD τ) (some n)) E
          (defs₀ (F := F) .tc 1 (args i arg3 harg3 arg4 harg4 arg7 harg7 I s)) K := by
  intro n
  induction n with
  | zero =>
    intro h s hs K
    rw [spec_apply]
    show _ ⊢ wp frame (wpE (defs₀ (F := F)) 𝒱₀ (c : Thread nD τ) (some 0)) E
      (cc0_while1 i arg3 harg3 arg4 harg4 I.v26 I.v24 I.v2 arg7 harg7 I.v28 s.kb s.c s.acc s.live) K
    simp only [cc0_while1_eq_skeleton]; unfold cc0_while1_skel
    have htest : ¬ Scalar.andi (Scalar.cmpi .sge s.kb 0#32) s.live = 1#1 := by
      rw [show Scalar.cmpi .sge s.kb 0#32 = 0#1 from hs, andi_zero]; decide
    simp only [htest, ↓reduceIte, Prog.pure_eq_ret]
    simp only [res, loop]
    iintro ⟨H, Hk⟩
    rw [wp_ret]; imodintro
    iapply Hk
    iexact H
  | succ n ih =>
    intro h s hs K
    have hn : n < 33 := h
    rw [spec_apply]
    show _ ⊢ wp frame (wpE (defs₀ (F := F)) 𝒱₀ (c : Thread nD τ) (some (n + 1))) E
      (cc0_while1 i arg3 harg3 arg4 harg4 I.v26 I.v24 I.v2 arg7 harg7 I.v28 s.kb s.c s.acc s.live) K
    simp only [cc0_while1_eq_skeleton]; unfold cc0_while1_skel
    rw [show s.kb = BitVec.ofNat 32 n from hs]
    by_cases hl : s.live = 1#1
    · have htest : Scalar.andi (Scalar.cmpi .sge (BitVec.ofNat 32 n) 0#32) s.live = 1#1 := by
        rw [sge_of hn, andi_one, hl]
      rw [show loop I (n + 1) h s = loop I n (Nat.le_of_succ_le h) (step I n h s) from if_pos hl]
      simp only [htest, ↓reduceIte, k0_part4_eq_skeleton]; unfold k0_part4_skel
      simp only [Prog.lift, Prog.bind_op, Prog.bind_ret, Prog.pure_eq_ret]
      unfold held owns
      iintro ⟨⟨⟨%f3, %hf3, H3⟩, ⟨%f4, %hf4, H4⟩, ⟨%f7, %hf7, H7⟩⟩, Hk⟩
      have hchk : k0_chk1 (BitVec.ofNat 32 n) := chk hn
      sl_exec
      iapply (wp_call_spec 𝒱₀ (c : Thread nD τ) (some (n + 1)) E (spec c arg3 arg4 arg7 I n (Nat.le_of_succ_le h) (step I n h s)) n
        (fun u hu => by cases hu; exact Nat.lt_succ_self n)
        (by
          obtain ⟨k, v, v26, v24, v2, v28⟩ := I
          dsimp only at hf3 hf4
          subst hf3 hf4
          exact ih (Nat.le_of_succ_le h) (step _ n h s) (at_step hn)))
      rw [spec_apply]; unfold held owns
      isplitl [H3 H4 H7]
      · isplitl [H3]
        · iexists f3; isplitr; · ipureintro; exact hf3
          iexact H3
        isplitl [H4]
        · iexists f4; isplitr; · ipureintro; exact hf4
          iexact H4
        iexists _; isplitr
        swap; · iexact H7
        ipureintro
        rw [step, ← hf7]
        exact View.read_writes_eq_canon _ _ _ (cover_c _)
      iintro H
      rw [wp_ret]; imodintro
      iapply Hk
      iexact H
    · have htest : ¬ Scalar.andi (Scalar.cmpi .sge (BitVec.ofNat 32 n) 0#32) s.live = 1#1 := by
        rw [sge_of hn, andi_one]; exact hl
      rw [show loop I (n + 1) h s = s from if_neg hl]
      simp only [htest, ↓reduceIte, Prog.pure_eq_ret, res]
      rw [show s.kb = BitVec.ofNat 32 n from hs]
      iintro ⟨H, Hk⟩
      rw [wp_ret]; imodintro
      iapply Hk
      iexact H

end Label

end Cert.FwdIdeal.Run
-- ==== Proof.FwdBody.lean ====
module

public import proofs.«01_k».proof.Proof.FwdRun

/-! A point of the forward attention, at any float instance: what it leaves in its three result windows. -/

@[expose] public section

set_option maxRecDepth 16384
noncomputable section

namespace Cert.FwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Cert.FwdIdeal Cert.FwdIdeal.Gen

variable {F : FTy → Type} [FloatOps F] [Named F]

local notation "𝕄" => MT nD τ sig Unit (Elt F) ℕ (UR sig nD τ) ℕ

set_option synthInstance.maxHeartbeats 200000

/-- The places along the two axes. -/
abbrev r0 : IVec S256x256 32 := iota .tc S256x256 32 [0] iota_S256x256_d0_w32
abbrev r1 : IVec S256x256 32 := iota .tc S256x256 32 [1] iota_S256x256_d1_w32
abbrev r2 : IVec S256x128 32 := iota .tc S256x128 32 [1] iota_S256x128_d1_w32
/-- The rows of the point's own block, and of the one before. -/
abbrev rk1 (i : grid0.Coords) : Rect S1x8448x64 := Rect.unit (s := S1x8448x64) (k0_off1 i) S1x256x64.size (k0_off1_inb i)
abbrev rk2 (i : grid0.Coords) : Rect S1x8448x64 := Rect.unit (s := S1x8448x64) (k0_off2 i) S1x256x64.size (k0_off2_inb i)
/-- The point's block number, as a word. -/
abbrev bw (i : grid0.Coords) : BitVec 32 := BitVec.ofNat 32 (i 1).val

section Point

variable (q : Vec F S1x256x64 .bf16) (k v : Vec F S1x8448x64 .bf16) (z : Vec F S1x128 .f32) (i : grid0.Coords)

/-- What the loop is given. -/
def inp : In F where
  k := k
  v := v
  v26 := k0_pay7 (View.ld q ro)
  v24 := k0_pay6
  v2 := r2
  v28 := k0_pay8 (View.ld z rz)

/-- The kept part of a row's logarithm, on the point's own block. -/
def spd : FVec F S256x256 .f32 := k0_pay15 r0 r1 (k0_pay7 (View.ld q ro)) (k0_pay9 (View.ld k (rk1 i)))
/-- And on the block before. -/
def spp : FVec F S256x256 .f32 := k0_pay18 (bw i) (k0_pay7 (View.ld q ro)) (View.ld k (rk2 i))

/-- What the loop starts from. -/
def start : St F where
  kb := Scalar.subi (bw i) 2#32
  c := k0_pay21 (spd q k i) (spp q k i)
  acc := k0_pay20 k0_pay6 (k0_pay10 (View.ld v (rk1 i))) (k0_pay11 (View.ld v (rk2 i))) (k0_pay12 r0 r1) (k0_pay13 (bw i)) (spd q k i)
    (k0_pay16 r0 r1 k0_pay6 (k0_pay7 (View.ld q ro)) (k0_pay9 (View.ld k (rk1 i)))) (k0_pay17 (k0_pay7 (View.ld q ro)) (View.ld k (rk2 i))) (spp q k i)
  live := Scalar.cmpf .ogt (k0_pay1 (k0_pay23 (k0_pay8 (View.ld z rz)) (spd q k i) (spp q k i))) (Scalar.ofBits .f32 0xC2D00000#32)
  cm := View.canon [⟨rc, k0_pay22 (bw i) r2 (spd q k i)⟩]

theorem trips_le : (i 1).val - 1 ≤ 33 := by have h : (i 1).val < 33 := (i 1).isLt; omega

/-- What the loop ends with. -/
def fin : St F := loop (inp q k v z) ((i 1).val - 1) (trips_le i) (start q k v z i)

def outO : Vec F S1x256x64 .f32 := View.canon [⟨ro, k0_pay2 (fin q k v z i).acc⟩]
def outC : Vec F S1x256x128 .f32 := (fin q k v z i).cm
def outK : Vec F S1x1x8x128 .f32 := View.canon [⟨rf, k0_pay3 (fin q k v z i).kb⟩]

theorem at_start : At ((i 1).val - 1) (Scalar.subi (bw i) 2#32) := by
  have h : ∀ r : Fin 33, (r.val ≤ 1 → Scalar.cmpi .sge (Scalar.subi (BitVec.ofNat 32 r.val) 2#32) 0#32 = 0#1)
      ∧ (1 < r.val → Scalar.subi (BitVec.ofNat 32 r.val) 2#32 = BitVec.ofNat 32 (r.val - 2)) := by decide +kernel
  have hr : (i 1).val < 33 := (i 1).isLt
  obtain ⟨h1, h2⟩ := h ⟨(i 1).val, hr⟩
  by_cases hi : (i 1).val ≤ 1
  · rw [show (i 1).val - 1 = 0 by omega]; exact h1 hi
  · rw [show (i 1).val - 1 = (i 1).val - 2 + 1 by omega]; exact h2 (by simp only; omega)

end Point

set_option maxHeartbeats 2000000 in
theorem sound_kernel (c : Dev nD) (E : Set ℕ) (i : grid0.Coords) (arg2 : Memref sig .tc .vmem S1x256x64 .bf16) (harg2 : arg2.IsWhole) (arg3 : Memref sig .tc .vmem S1x8448x64 .bf16) (harg3 : arg3.IsWhole) (arg4 : Memref sig .tc .vmem S1x8448x64 .bf16) (harg4 : arg4.IsWhole) (arg5 : Memref sig .tc .vmem S1x128 .f32) (harg5 : arg5.IsWhole) (arg6 : Memref sig .tc .vmem S1x256x64 .f32) (harg6 : arg6.IsWhole) (arg7 : Memref sig .tc .vmem S1x256x128 .f32) (harg7 : arg7.IsWhole) (arg8 : Memref sig .tc .vmem S1x1x8x128 .f32) (harg8 : arg8.IsWhole)
    (q : Vec F S1x256x64 .bf16) (k v : Vec F S1x8448x64 .bf16) (z : Vec F S1x128 .f32) (K : PUnit → sProp 𝕄) :
    iprop(owns (c : Thread nD τ) arg2 fullShare q ∗ owns (c : Thread nD τ) arg3 fullShare k ∗ owns (c : Thread nD τ) arg4 fullShare v ∗ owns (c : Thread nD τ) arg5 fullShare z ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v ∗ owns (c : Thread nD τ) arg5 fullShare z ∗ owns (c : Thread nD τ) arg6 fullShare (outO q k v z i) ∗ owns (c : Thread nD τ) arg7 fullShare (outC q k v z i) ∗ owns (c : Thread nD τ) arg8 fullShare (outK q k v z i)) -∗ K ⟨⟩))
      ⊢ wp frame (wpE (defs₀ (F := F)) 𝒱₀ c none) E (cc0_sb_fwd i arg2 harg2 arg3 harg3 arg4 harg4 arg5 harg5 arg6 harg6 arg7 harg7 arg8 harg8) K := by
  simp only [cc0_sb_fwd_eq_skeleton]; unfold cc0_sb_fwd_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2 hf3 hf4 hf5
  sl_exec
  iapply (wp_call_spec 𝒱₀ (c : Thread nD τ) none E (spec c arg3 arg4 arg7 (inp (View.read (Elt F) arg2.view f2) (View.read (Elt F) arg3.view f3) (View.read (Elt F) arg4.view f4) (View.read (Elt F) arg5.view f5))
      ((i 1).val - 1) (trips_le i) (start (View.read (Elt F) arg2.view f2) (View.read (Elt F) arg3.view f3) (View.read (Elt F) arg4.view f4) (View.read (Elt F) arg5.view f5) i)) ((i 1).val - 1)
    (fun u hu => nomatch hu)
    (spec_le c i arg3 harg3 arg4 harg4 arg7 harg7 _ E _ (trips_le i) _ (at_start i)))
  rw [spec_apply]; unfold held owns
  isplitl [H3 H4 H7]
  · isplitl [H3]
    · iexists f3; isplitr; · ipureintro; rfl
      iexact H3
    isplitl [H4]
    · iexists f4; isplitr; · ipureintro; rfl
      iexact H4
    iexists _; isplitr
    swap; · iexact H7
    ipureintro
    exact View.read_writes_eq_canon _ _ _ (cover_c _)
  iintro ⟨⟨%g3, %hg3, H3⟩, ⟨%g4, %hg4, H4⟩, ⟨%g7, %hg7, H7⟩⟩
  sl_exec
  sl_step
  iapply Hk
  isplitl [H2]
  · iexists f2; isplitr; · ipureintro; rfl
    iexact H2
  isplitl [H3]
  · iexists g3; isplitr; · ipureintro; exact hg3
    iexact H3
  isplitl [H4]
  · iexists g4; isplitr; · ipureintro; exact hg4
    iexact H4
  isplitl [H5]
  · iexists f5; isplitr; · ipureintro; rfl
    iexact H5
  isplitl [H6]
  · iexists _; isplitr
    swap; · iexact H6
    ipureintro
    exact View.read_writes_eq_canon _ _ _ (cover_o _)
  isplitl [H7]
  · iexists g7; isplitr; · ipureintro; exact hg7
    iexact H7
  iexists _; isplitr
  swap; · iexact H8
  ipureintro
  exact View.read_writes_eq_canon _ _ _ (cover_f _)

end Cert.FwdIdeal.Run
-- ==== Proof.FwdMain.lean ====
module

public import proofs.«01_k».proof.Proof.FwdBody

/-! The forward attention's launch, at any float instance: what every array holds when it ends. -/

@[expose] public section

set_option maxRecDepth 16384
noncomputable section

namespace Cert.FwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligation cellOf)
open Cert.FwdIdeal Cert.FwdIdeal.Gen

variable {F : FTy → Type} [FloatOps F] [Named F]

local notation "𝕄" => MT nD τ sig Unit (Elt F) ℕ (UR sig nD τ) ℕ

set_option synthInstance.maxHeartbeats 200000

variable (m : (ℓ : Loc nD τ sig) → Buf (Elt F) ℓ) (ρ : Dev nD → PrngReg)

/-- What the launch finds in a buffer. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 1000000 in
theorem hmain (𝒱₁ : Variants) : Pipeline.HMain (Ix := Unit) (Name := ℕ) (U := UR sig nD τ) (Lvl := ℕ) cfgs 0 defs₀ 𝒱₁ m (main (F := F)) (V m) :=
  Pipeline.hmain_prefix cfgs 0 defs₀ 𝒱₁ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, Finset.mem_singleton]
    repeat' apply And.intro
    all_goals exact StableHlo.devRef_ne_of_ne (by decide)))

/-- The bound that the host passes. -/
theorem V_bound (c : Dev nD) : V m c main_v0 = broadcastInDim S1x128 ![] bcast_S_S1x128 (constant S_ .f32 0x7F800000#32 : Vec F S_ .f32) := by
  simp only [V, hostOps0]
  after_results_simp

/-- A window's block at a point. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The launch's data. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outO (iblk m c 0 t) (iblk m c 1 t) (iblk m c 2 t) (iblk m c 3 t) (grid0.coords t)
    | ⟨5, _⟩ => outC (iblk m c 0 t) (iblk m c 1 t) (iblk m c 2 t) (iblk m c 3 t) (grid0.coords t)
    | ⟨6, _⟩ => outK (iblk m c 0 t) (iblk m c 1 t) (iblk m c 2 t) (iblk m c 3 t) (grid0.coords t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := by dsimp only [dats]; rfl
theorem after_1 (c : Dev nD) (t : Fin (cfg0 (F := F)).N) : (dats m 0 c).after 1 t = iblk m c 1 t := by dsimp only [dats]; rfl
theorem after_2 (c : Dev nD) (t : Fin (cfg0 (F := F)).N) : (dats m 0 c).after 2 t = iblk m c 2 t := by dsimp only [dats]; rfl
theorem after_3 (c : Dev nD) (t : Fin (cfg0 (F := F)).N) : (dats m 0 c).after 3 t = iblk m c 3 t := by dsimp only [dats]; rfl
theorem after_4 (c : Dev nD) (t : Fin (cfg0 (F := F)).N) : (dats m 0 c).after 4 t = outO (iblk m c 0 t) (iblk m c 1 t) (iblk m c 2 t) (iblk m c 3 t) (grid0.coords t) := by dsimp only [dats]; rfl
theorem after_5 (c : Dev nD) (t : Fin (cfg0 (F := F)).N) : (dats m 0 c).after 5 t = outC (iblk m c 0 t) (iblk m c 1 t) (iblk m c 2 t) (iblk m c 3 t) (grid0.coords t) := by dsimp only [dats]; rfl
theorem after_6 (c : Dev nD) (t : Fin (cfg0 (F := F)).N) : (dats m 0 c).after 6 t = outK (iblk m c 0 t) (iblk m c 1 t) (iblk m c 2 t) (iblk m c 3 t) (grid0.coords t) := by dsimp only [dats]; rfl
theorem before_0 (c : Dev nD) (t : Fin (cfg0 (F := F)).N) (d) : (dats m 0 c).before 0 t d = iblk m c 0 t :=
  before_0_of m (dats m 0 c) (A_eq m c 0) (after_0 m c) t d
theorem before_1 (c : Dev nD) (t : Fin (cfg0 (F := F)).N) (d) : (dats m 0 c).before 1 t d = iblk m c 1 t :=
  before_1_of m (dats m 0 c) (A_eq m c 1) (after_1 m c) t d
theorem before_2 (c : Dev nD) (t : Fin (cfg0 (F := F)).N) (d) : (dats m 0 c).before 2 t d = iblk m c 2 t :=
  before_2_of m (dats m 0 c) (A_eq m c 2) (after_2 m c) t d
theorem before_3 (c : Dev nD) (t : Fin (cfg0 (F := F)).N) (d) : (dats m 0 c).before 3 t d = iblk m c 3 t :=
  before_3_of m (dats m 0 c) (A_eq m c 3) (after_3 m c) t d

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
set_option maxHeartbeats 800000 in
/-- The launch ends, with every array at what the points leave and no semaphore owed. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The arguments are left alone. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 2).trans (((dats m 0 c).arrAt_in 2 rfl _).trans ((A_eq m c 2).trans (V_arg2 m c)))⟩

end Cert.FwdIdeal.Run
-- ==== Proof.FwdTile.lean ====
module

public import proofs.«01_k».proof.Proof.FwdBody
public import proofs.«01_k».proof.Proof.Tile
public import Idealize.ShloMosaic.Lib.Pointwise
public import Idealize.ShloMosaic.Lib.WordCmp

/-! One tile of the forward attention over the extended reals: with finite queries and keys its weights and sums are the model's. -/

@[expose] public section

set_option maxRecDepth 16384
set_option maxHeartbeats 1000000
noncomputable section

namespace Cert.FwdIdeal.Tile

open Idealize.ShloMosaic Idealize.ShloMosaic.WordCmp Cert.Model Cert.FwdIdeal Cert.FwdIdeal.Gen Cert.FwdIdeal.Run Finset
open Cert.KernelIdeal.Tile (toInt_small bit_value rowWord rowWord_eq sum_block sum_from)

theorem sum_blockE (f : ℕ → EReal) (n : ℕ) : ∑ x : Fin 256, f (256 * n + x.val) = ∑ j ∈ Ico (256 * n) (256 * (n + 1)), f j := by
  rw [Finset.sum_Ico_eq_sum_range, show 256 * (n + 1) - 256 * n = 256 by omega, ← Fin.sum_univ_eq_sum_range (fun x => f (256 * n + x))]

theorem lower_apply (r : Fin 512) (s : Fin 256) :
    (k0_pay6 (F := Ideal)) (ix2 r s) = ((if s.val ≤ r.val % 256 then (1 : ℝ) else 0 : ℝ) : EReal) := by
  pointwise [k0_pay6]
  rw [← bit_value]
  congr 2
  refine (congrArg (fun w => IntOp.cmpi CmpIPredicate.sge w (BitVec.ofNat 32 ↑s)) (rowWord_eq r)).trans ?_
  rw [cmpi_sge_eq, toInt_small (by omega), toInt_small (by omega)]
  norm_cast

variable {A : Arr} {U : ℕ → Fin 64 → EReal} {i n : ℕ} {Q : FVec Ideal S256x64 .bf16} {X Y : Vec Ideal S1x256x64 .bf16}

/-- The rows of the point. -/
abbrev IsQ (A : Arr) (i : ℕ) (Q : FVec Ideal S256x64 .bf16) : Prop :=
  ∀ (a : Fin 256) (e : Fin 64), Q (ix2 a e) = ((A.q (256 * i + a.val) e : ℝ) : EReal)
/-- The keys of block `n`. -/
abbrev IsK (A : Arr) (n : ℕ) (X : Vec Ideal S1x256x64 .bf16) : Prop :=
  ∀ (b : Fin 256) (e : Fin 64), X (ix3 0 b e) = ((A.k (256 * n + b.val) e : ℝ) : EReal)
/-- The values of block `n`, which may be infinite. -/
abbrev IsV (U : ℕ → Fin 64 → EReal) (n : ℕ) (X : Vec Ideal S1x256x64 .bf16) : Prop :=
  ∀ (b : Fin 256) (e : Fin 64), X (ix3 0 b e) = U (256 * n + b.val) e
/-- A query's weighted values. -/
abbrev wv (A : Arr) (U : ℕ → Fin 64 → EReal) (t : ℕ) (e : Fin 64) (j : ℕ) : EReal := ((A.wt t j : ℝ) : EReal) * U j e
/-- The kept parts, at block `n`. -/
abbrev IsKeep (A : Arr) (i n : ℕ) (sp : FVec Ideal S256x256 .f32) : Prop :=
  ∀ a b : Fin 256, sp (ix2 a b) = ((A.keep (256 * i + a.val) (256 * n + b.val) : ℝ) : EReal)

theorem z24 (hq : IsQ A i Q) (hk : IsK A n X) (a b : Fin 256) :
    k0_pay24 Q X (ix2 a b) = ((A.z (256 * i + a.val) (256 * n + b.val) : ℝ) : EReal) := by
  pointwise [k0_pay24]
  rw [Arr.z, coe_sum]
  refine Finset.sum_congr rfl fun e _ => ?_
  rw [hq, hk, EReal.coe_mul]

theorem z17 (hq : IsQ A i Q) (hk : IsK A n X) (a b : Fin 256) :
    k0_pay17 Q X (ix2 a b) = ((A.z (256 * i + a.val) (256 * n + b.val) : ℝ) : EReal) := z24 hq hk a b

theorem z14 (hq : IsQ A i Q) (hk : IsK A n X) (a b : Fin 256) :
    k0_pay14 Q (k0_pay9 X) (ix2 a b) = ((A.z (256 * i + a.val) (256 * n + b.val) : ℝ) : EReal) := z24 hq hk a b

theorem sp25 (hq : IsQ A i Q) (hk : IsK A n X) (hn : n < i) : IsKeep A i n (k0_pay25 Q X) := by
  intro a b
  pointwise [k0_pay25]
  rw [z24 hq hk, Arr.keep, if_pos (by omega), ← kernel_sp]
  rfl

theorem sp15 (hq : IsQ A i Q) (hk : IsK A i X) : IsKeep A i i (k0_pay15 r0 r1 Q (k0_pay9 X)) := by
  intro a b
  pointwise [k0_pay15, k0_pay12]
  rw [z14 hq hk, cmpi_slt_eq, toInt_small (by omega), toInt_small (by omega), select_ofBool, Arr.keep]
  by_cases hp : b.val < a.val
  · rw [if_pos (by simpa using hp), if_pos (by omega), ← kernel_sp]; rfl
  · rw [if_neg (by simpa using hp), if_neg (by omega)]; rfl

theorem prev_word : ∀ r : Fin 33, Scalar.cmpi CmpIPredicate.sgt (BitVec.ofNat 32 r.val) 0#32 = BitVec.ofBool (decide (0 < r.val)) := by
  decide +kernel

theorem sp18 (hi : i < 33) (h0 : 0 < i) (hq : IsQ A i Q) (hk : IsK A n X) (hn : n < i) : IsKeep A i n (k0_pay18 (BitVec.ofNat 32 i) Q X) := by
  intro a b
  pointwise [k0_pay18, k0_pay13]
  rw [z17 hq hk, prev_word ⟨i, hi⟩, select_ofBool, if_pos (by simpa using h0), Arr.keep, if_pos (by omega), ← kernel_sp]
  rfl

theorem sp18_zero (a b : Fin 256) : k0_pay18 (BitVec.ofNat 32 0) Q X (ix2 a b) = (0 : EReal) := by
  pointwise [k0_pay18, k0_pay13]
  rw [prev_word ⟨0, by omega⟩, select_ofBool, if_neg (by simp)]

/-- The kept parts from a column on, within the block. -/
theorem suffix {sp : FVec Ideal S256x256 .f32} (hs : IsKeep A i n sp) (a b : Fin 256) :
    (∑ x : Fin 256, sp (ix2 a x) * (k0_pay6 (F := Ideal)) (ix2 ⟨x.val, by omega⟩ b)) +
      (∑ x : Fin 256, (sp (ix2 a x) - sp (ix2 a x)) * (k0_pay6 (F := Ideal)) (ix2 ⟨256 + x.val, by omega⟩ b)) =
    ((∑ j ∈ Ico (256 * n + b.val) (256 * (n + 1)), A.keep (256 * i + a.val) j : ℝ) : EReal) := by
  have h2 : (∑ x : Fin 256, (sp (ix2 a x) - sp (ix2 a x)) * (k0_pay6 (F := Ideal)) (ix2 ⟨256 + x.val, by omega⟩ b)) = (0 : EReal) := by
    refine Finset.sum_eq_zero fun x _ => ?_
    rw [hs, ← EReal.coe_sub, sub_self, EReal.coe_zero, zero_mul]
  rw [h2, add_zero, ← sum_from _ n b.val b.isLt, coe_sum]
  refine Finset.sum_congr rfl fun x _ => ?_
  rw [hs, lower_apply, EReal.coe_mul]
  simp only [Nat.mod_eq_of_lt x.isLt]

/-- A trip's carry. -/
theorem c4 {c : FVec Ideal S256x1 .f32} {sp : FVec Ideal S256x256 .f32} (hn : n < 33)
    (hc : ∀ a : Fin 256, c (ix2 a 0) = ((-(∑ j ∈ Ico (256 * (n + 1)) 8448, A.keep (256 * i + a.val) j) : ℝ) : EReal))
    (hs : IsKeep A i n sp) (a : Fin 256) :
    k0_pay4 c sp (ix2 a 0) = ((-(∑ j ∈ Ico (256 * n) 8448, A.keep (256 * i + a.val) j) : ℝ) : EReal) := by
  pointwise [k0_pay4]
  rw [hc, ← Finset.sum_Ico_consecutive _ (show 256 * n ≤ 256 * (n + 1) by omega) (show 256 * (n + 1) ≤ 8448 by omega), neg_add_rev, ← sub_eq_add_neg,
    EReal.coe_sub]
  congr 1
  rw [← sum_block, coe_sum univ]
  exact Finset.sum_congr rfl fun x _ => hs a x

/-- A weight, from its block's kept parts and the carry. -/
theorem weight {t x : ℕ} (hn : n < 33) (hx : 256 * n + x < t) (hb : x ≤ 256 := by omega) :
    Real.exp (A.z t (256 * n + x) - ∑ j ∈ Ico (256 * n + x) (256 * (n + 1)), A.keep t j + -(∑ j ∈ Ico (256 * (n + 1)) 8448, A.keep t j)) =
      A.wt t (256 * n + x) := by
  rw [Arr.wt, if_pos hx, ← Finset.sum_Ico_consecutive _ (show 256 * n + x ≤ 256 * (n + 1) by omega) (show 256 * (n + 1) ≤ 8448 by omega)]
  congr 1
  ring

theorem acc26 {c : FVec Ideal S256x1 .f32} {acc : FVec Ideal S256x64 .f32} (hn : n < 33) (hni : n < i)
    (hc : ∀ a : Fin 256, c (ix2 a 0) = ((-(∑ j ∈ Ico (256 * (n + 1)) 8448, A.keep (256 * i + a.val) j) : ℝ) : EReal))
    (hq : IsQ A i Q) (hk : IsK A n X) (hv : IsV U n Y)
    (ha : ∀ (a : Fin 256) (e : Fin 64), acc (ix2 a e) = ∑ j ∈ Ico (256 * (n + 1)) 8448, wv A U (256 * i + a.val) e j)
    (a : Fin 256) (e : Fin 64) :
    k0_pay26 Q k0_pay6 c acc X Y (ix2 a e) = ∑ j ∈ Ico (256 * n) 8448, wv A U (256 * i + a.val) e j := by
  pointwise [k0_pay26]
  rw [ha, ← Finset.sum_Ico_consecutive _ (show 256 * n ≤ 256 * (n + 1) by omega) (show 256 * (n + 1) ≤ 8448 by omega), add_comm]
  congr 1
  rw [← sum_blockE (wv A U (256 * i + a.val) e)]
  refine Finset.sum_congr rfl fun x _ => ?_
  rw [z24 hq hk, suffix (sp25 hq hk hni) a x, hc, hv, ← EReal.coe_sub, ← EReal.coe_add, Ideal.exp_coe, weight hn (by omega)]

theorem cm27 (w : BitVec 32) (c : FVec Ideal S256x1 .f32) (cm : Vec Ideal S1x256x128 .f32) (a : Fin 256) (b : Fin 128) :
    k0_pay27 r2 w c cm (ix3 0 a b) = if BitVec.ofNat 32 b.val = w then c (ix2 a 0) else cm (ix3 0 a b) := by
  pointwise [k0_pay27]
  rw [cmpi_eq_eq, select_ofBool]
  simp only [decide_eq_true_eq]

/-- The largest of some values, one of them infinite. -/
theorem fold_top {ι : Type*} (s : Finset ι) {b : EReal} {f : ι → EReal} {x : ι} (hx : x ∈ s) (h : f x = ⊤) : fold max b f s = ⊤ :=
  top_le_iff.1 ((Finset.le_fold_max _).2 (.inr ⟨x, hx, h.ge⟩))

/-- With no bound on the scores, the test holds. -/
theorem top5 {v : FVec Ideal S1x1 .f32} (hv : v (ix2 0 0) = (⊤ : EReal)) {c : FVec Ideal S256x1 .f32} {sp : FVec Ideal S256x256 .f32} {r : ℝ}
    (hc : k0_pay4 c sp (ix2 0 0) = ((r : ℝ) : EReal)) :
    k0_pay5 v c sp = (⊤ : EReal) := by
  pointwise [k0_pay5]
  refine fold_top univ (x := (0, 0)) (Finset.mem_univ _) ?_
  show k0_pay4 c sp (ix2 0 0) + v (ix2 0 0) = ⊤
  rw [hc, hv, EReal.coe_add_top]

theorem top23 {v : FVec Ideal S1x1 .f32} (hv : v (ix2 0 0) = (⊤ : EReal)) {s1 s2 : FVec Ideal S256x256 .f32} {r : ℝ}
    (hc : k0_pay21 s1 s2 (ix2 0 0) = ((r : ℝ) : EReal)) : k0_pay1 (k0_pay23 v s1 s2) = (⊤ : EReal) := by
  pointwise [k0_pay1, k0_pay23]
  refine fold_top univ (x := (0, 0)) (Finset.mem_univ _) ?_
  show k0_pay21 s1 s2 (ix2 0 0) + v (ix2 0 0) = ⊤
  rw [hc, hv, EReal.coe_add_top]

theorem live_top {x : Ideal .f32} (h : x = (⊤ : EReal)) : Scalar.cmpf .ogt x (Scalar.ofBits .f32 0xC2D00000#32) = 1#1 := by
  subst h
  have h : Ideal.ofBits .f32 0xC2D00000#32 < (⊤ : EReal) := by
    rw [show Ideal.ofBits .f32 0xC2D00000#32 = ((-(13631488 * (2 ^ 17)⁻¹) : ℝ) : EReal) by simp [Ideal.ofBits, Ideal.ieee]]
    exact EReal.coe_lt_top _
  show Ideal.cmp .ogt (⊤ : EReal) (Ideal.ofBits .f32 0xC2D00000#32) = 1#1
  simp [Ideal.cmp, h]

/-! ## The first two blocks -/

theorem keep_after (A : Arr) {t n : ℕ} (h : t < n) : ∑ j ∈ Ico n 8448, A.keep t j = 0 :=
  Finset.sum_eq_zero fun j hj => by rw [Finset.mem_Ico] at hj; rw [Arr.keep, if_neg (by omega)]

theorem keep_split {b : ℕ} (hi : i < 33) (hb : b ≤ 256 := by omega) (a : Fin 256) :
    ∑ j ∈ Ico (256 * i + b) 8448, A.keep (256 * i + a.val) j = ∑ j ∈ Ico (256 * i + b) (256 * (i + 1)), A.keep (256 * i + a.val) j := by
  rw [← Finset.sum_Ico_consecutive _ (show 256 * i + b ≤ 256 * (i + 1) by omega) (show 256 * (i + 1) ≤ 8448 by omega),
    keep_after A (show 256 * i + a.val < 256 * (i + 1) by omega), add_zero]

theorem c19 {sp : FVec Ideal S256x256 .f32} (hi : i < 33) (hs : IsKeep A i i sp) (a : Fin 256) :
    k0_pay19 sp (ix2 a 0) = ((-(∑ j ∈ Ico (256 * i) 8448, A.keep (256 * i + a.val) j) : ℝ) : EReal) := by
  pointwise [k0_pay19]
  have h := keep_split (A := A) (b := 0) hi (by omega) a
  rw [add_zero] at h
  rw [zero_sub, EReal.coe_neg, h, ← sum_block, coe_sum univ]
  exact congrArg _ (Finset.sum_congr rfl fun x _ => hs a x)

theorem c21 {s1 s2 : FVec Ideal S256x256 .f32} (a : Fin 256) :
    k0_pay21 s1 s2 (ix2 a 0) = k0_pay4 (k0_pay19 s1) s2 (ix2 a 0) := by
  pointwise [k0_pay21, k0_pay4]

theorem cm22 (w : BitVec 32) (sp : FVec Ideal S256x256 .f32) (a : Fin 256) (b : Fin 128) :
    k0_pay22 w r2 sp (ix3 0 a b) = if BitVec.ofNat 32 b.val = Scalar.subi w 1#32 then k0_pay19 sp (ix2 a 0) else 0 := by
  pointwise [k0_pay22]
  rw [cmpi_eq_eq, select_ofBool]
  simp only [decide_eq_true_eq]

theorem acc20 {V W : Vec Ideal S1x256x64 .bf16} (a : Fin 256) (e : Fin 64) (hi : i < 33) (hq : IsQ A i Q) (hk : IsK A i X) (hk' : IsK A (i - 1) Y) (hv : IsV U i V) (hw : IsV U (i - 1) W) :
    k0_pay20 k0_pay6 (k0_pay10 V) (k0_pay11 W) (k0_pay12 r0 r1) (k0_pay13 (BitVec.ofNat 32 i)) (k0_pay15 r0 r1 Q (k0_pay9 X))
      (k0_pay16 r0 r1 k0_pay6 Q (k0_pay9 X)) (k0_pay17 Q Y) (k0_pay18 (BitVec.ofNat 32 i) Q Y) (ix2 a e) =
      ∑ j ∈ Ico (256 * (i - 1)) 8448, wv A U (256 * i + a.val) e j := by
  pointwise [k0_pay20, k0_pay16]
  have h1 : ∀ x : Fin 256, Scalar.select (k0_pay12 r0 r1 (ix2 a x))
          (Ideal.exp
              (k0_pay14 Q (k0_pay9 X) (ix2 a x) -
                ((∑ y : Fin 256, k0_pay15 r0 r1 Q (k0_pay9 X) (ix2 a y) * (k0_pay6 (F := Ideal)) (ix2 ⟨y.val, by omega⟩ x)) +
                  ∑ y : Fin 256, (k0_pay15 r0 r1 Q (k0_pay9 X) (ix2 a y) - k0_pay15 r0 r1 Q (k0_pay9 X) (ix2 a y)) *
                      (k0_pay6 (F := Ideal)) (ix2 ⟨256 + y.val, by omega⟩ x))) * k0_pay10 V (ix2 x e)) (0 : EReal) =
      wv A U (256 * i + a.val) e (256 * i + x.val) := by
    intro x
    rw [suffix (sp15 hq hk) a x, z14 hq hk, ← EReal.coe_sub, Ideal.exp_coe, ← keep_split hi (by omega)]
    pointwise [k0_pay12, k0_pay10]
    rw [hv, cmpi_slt_eq, toInt_small (by omega), toInt_small (by omega), select_ofBool, wv, Arr.wt]
    by_cases hp : x.val < a.val
    · rw [if_pos (by simpa using hp), if_pos (by omega)]
    · rw [if_neg (by simpa using hp), if_neg (by omega), EReal.coe_zero, zero_mul]
  have hsum1 := Finset.sum_congr (rfl : (univ : Finset (Fin 256)) = univ) fun x _ => h1 x
  refine (congrArg₂ (fun u w : EReal => u + w) hsum1 rfl).trans ?_
  have hrest : ∑ j ∈ Ico (256 * (i + 1)) 8448, wv A U (256 * i + a.val) e j = 0 :=
    Finset.sum_eq_zero fun j hj => by rw [Finset.mem_Ico] at hj; rw [wv, Arr.wt, if_neg (by omega), EReal.coe_zero, zero_mul]
  rw [sum_blockE (wv A U (256 * i + a.val) e)]
  rcases Nat.eq_zero_or_pos i with h0 | h0
  · subst h0
    refine (congrArg₂ (fun u w : EReal => u + w) rfl (Finset.sum_eq_zero fun x _ => ?_)).trans ?_
    · pointwise [k0_pay13]
      rw [prev_word ⟨0, by omega⟩, select_ofBool, if_neg (by simp)]
    · show _ + (0 : EReal) = _
      rw [add_zero, ← Finset.sum_Ico_consecutive _ (show 256 * (0 - 1) ≤ 256 * (0 + 1) by omega) (show 256 * (0 + 1) ≤ 8448 by omega), hrest, add_zero]
  · obtain ⟨n, rfl⟩ : ∃ n, i = n + 1 := ⟨i - 1, by omega⟩
    simp only [Nat.add_sub_cancel] at hk' hw ⊢
    rw [← Finset.sum_Ico_consecutive _ (show 256 * n ≤ 256 * (n + 1) by omega) (show 256 * (n + 1) ≤ 8448 by omega),
      ← Finset.sum_Ico_consecutive _ (show 256 * (n + 1) ≤ 256 * (n + 1 + 1) by omega) (show 256 * (n + 1 + 1) ≤ 8448 by omega), hrest, add_zero, add_comm]
    congr 1
    rw [← sum_blockE (wv A U (256 * (n + 1) + a.val) e)]
    refine Finset.sum_congr rfl fun x _ => ?_
    rw [z17 hq hk', suffix (sp18 hi h0 hq hk' (Nat.lt_succ_self n)) a x, c19 hi (sp15 hq hk) a, ← EReal.coe_sub, ← EReal.coe_add, Ideal.exp_coe,
      weight (by omega) (by omega)]
    pointwise [k0_pay13, k0_pay11]
    rw [hw, prev_word ⟨n + 1, hi⟩, select_ofBool, if_pos (by simp)]

end Cert.FwdIdeal.Tile
-- ==== Proof.FwdPoint.lean ====
module

public import proofs.«01_k».proof.Proof.FwdTile
public import Idealize.ShloMosaic.Lib.Pipeline.ValueKit

/-! A point of the forward attention, over the extended reals: with finite queries and keys and no bound on the scores the
    loop goes back to the first block, and what it leaves are the model's weighted sums and later kept parts. -/

@[expose] public section

set_option maxRecDepth 16384
set_option maxHeartbeats 1000000
noncomputable section

namespace Cert.FwdIdeal.Point

open Idealize.ShloMosaic Idealize.ShloMosaic.TcCoe Cert.Model Cert.FwdIdeal Cert.FwdIdeal.Gen Cert.FwdIdeal.Run Cert.FwdIdeal.Tile Finset

/-! ## What the rectangles read -/

theorem zero3 : (![0, 0, 0] : Fin 3 → ℕ) = fun _ => 0 := by decide
theorem off1 (i : grid0.Coords) : k0_off1 i = ![0, 256 * (i 1).val, 0] :=
  (by decide +kernel : ∀ n : Fin 33, (![0, (Scalar.indexCast (Scalar.muli (BitVec.ofNat 32 n.val) 256#32)).toNat, 0] : Fin 3 → ℕ) = ![0, 256 * n.val, 0]) (i 1)
theorem off2 (i : grid0.Coords) : k0_off2 i = ![0, 256 * ((i 1).val - 1), 0] :=
  (by decide +kernel : ∀ n : Fin 33, (![0, (Scalar.indexCast (Scalar.muli (Scalar.maxsi (Scalar.subi (BitVec.ofNat 32 n.val) 1#32) 0#32) 256#32)).toNat, 0] : Fin 3 → ℕ) =
    ![0, 256 * (n.val - 1), 0]) (i 1)
theorem off3 {n : ℕ} (h : n < 33) : k0_off3 (BitVec.ofNat 32 n) = ![0, 256 * n, 0] :=
  (by decide +kernel : ∀ n : Fin 33, k0_off3 (BitVec.ofNat 32 n.val) = ![0, 256 * n.val, 0]) ⟨n, h⟩

theorem blk_apply {n : ℕ} {off : Fin 3 → ℕ} {h : ∀ a, off a + S1x256x64.size a ≤ S1x8448x64.size a} (X : Vec Ideal S1x8448x64 .bf16)
    (ho : off = ![0, 256 * n, 0]) (hn : n < 33) (b : Fin 256) (e : Fin 64) :
    View.ld X (Rect.unit (s := S1x8448x64) off S1x256x64.size h) (ix3 0 b e) = X (ix3 0 ⟨256 * n + b.val, by omega⟩ e) := by
  subst ho
  refine congrArg X (funext fun a => Fin.ext ?_)
  fin_cases a <;> simp [LoadRect.idx, Rect.unit, ix3]

theorem ld_c (X : Vec Ideal S1x256x128 .f32) : View.ld X rc = X := View.ld_unit_zero (S := S1x256x128) zero3 _ X
theorem ld_o (X : Vec Ideal S1x256x64 .bf16) : View.ld X ro = X := View.ld_unit_zero (S := S1x256x64) zero3 _ X
theorem canon_c (X : Vec Ideal S1x256x128 .f32) : View.canon ([⟨rc, X⟩] : List (View.Piece (Elt Ideal) S1x256x128 .f32)) = X :=
  View.canon_unit_zero (S := S1x256x128) zero3 _ X
theorem canon_o (X : Vec Ideal S1x256x64 .f32) : View.canon ([⟨ro, X⟩] : List (View.Piece (Elt Ideal) S1x256x64 .f32)) = X :=
  View.canon_unit_zero (S := S1x256x64) zero3 _ X

theorem lane (b : Fin 128) (n : Fin 33) : BitVec.ofNat 32 b.val = Scalar.subi (BitVec.ofNat 32 n.val) 1#32 ↔ b.val + 1 = n.val := by
  revert b n
  decide +kernel

/-! ## The loop -/

/-- A point's blocks hold a model's rows, and the bound is infinite. -/
structure Reads (A : Arr) (U : ℕ → Fin 64 → EReal) (i : ℕ) (q : Vec Ideal S1x256x64 .bf16) (k v : Vec Ideal S1x8448x64 .bf16) (z : Vec Ideal S1x128 .f32) : Prop where
  q : ∀ (a : Fin 256) (e : Fin 64), q (ix3 0 a e) = ((A.q (256 * i + a.val) e : ℝ) : EReal)
  k : ∀ (s : Fin 8448) (e : Fin 64), k (ix3 0 s e) = ((A.k s.val e : ℝ) : EReal)
  v : ∀ (s : Fin 8448) (e : Fin 64), v (ix3 0 s e) = U s.val e
  z : ∀ b : Fin 128, z (ix2 0 b) = (⊤ : EReal)

/-- What holds with `n` trips to go. -/
structure Inv (A : Arr) (U : ℕ → Fin 64 → EReal) (i n : ℕ) (s : St Ideal) : Prop where
  c : ∀ a : Fin 256, s.c (ix2 a 0) = ((-(∑ j ∈ Ico (256 * n) 8448, A.keep (256 * i + a.val) j) : ℝ) : EReal)
  acc : ∀ (a : Fin 256) (e : Fin 64), s.acc (ix2 a e) = ∑ j ∈ Ico (256 * n) 8448, wv A U (256 * i + a.val) e j
  live : s.live = 1#1
  cm : ∀ (a : Fin 256) (b : Fin 128), s.cm (ix3 0 a b) =
    ((if n ≤ b.val then -(∑ j ∈ Ico (256 * (b.val + 1)) 8448, A.keep (256 * i + a.val) j) else 0 : ℝ) : EReal)

variable {A : Arr} {U : ℕ → Fin 64 → EReal} {i : grid0.Coords} {q : Vec Ideal S1x256x64 .bf16} {k v : Vec Ideal S1x8448x64 .bf16} {z : Vec Ideal S1x128 .f32}

section
variable (R : Reads A U (i 1).val q k v z)
include R

theorem isQ : IsQ A (i 1).val (k0_pay7 (View.ld q ro)) := by
  intro a e
  rw [ld_o]
  pointwise [k0_pay7]
  exact R.q a e

theorem isK {n : ℕ} {off : Fin 3 → ℕ} {h : ∀ a, off a + S1x256x64.size a ≤ S1x8448x64.size a} (ho : off = ![0, 256 * n, 0]) (hn : n < 33) :
    IsK A n (View.ld k (Rect.unit (s := S1x8448x64) off S1x256x64.size h)) := fun b e => (blk_apply k ho hn b e).trans (R.k _ e)
theorem isV {n : ℕ} {off : Fin 3 → ℕ} {h : ∀ a, off a + S1x256x64.size a ≤ S1x8448x64.size a} (ho : off = ![0, 256 * n, 0]) (hn : n < 33) :
    IsV U n (View.ld v (Rect.unit (s := S1x8448x64) off S1x256x64.size h)) := fun b e => (blk_apply v ho hn b e).trans (R.v _ e)

theorem bound : k0_pay8 (View.ld z rz) (ix2 0 0) = (⊤ : EReal) := by
  pointwise [k0_pay8]
  refine Eq.trans ?_ (R.z 0)
  refine congrArg z (funext fun a => Fin.ext ?_)
  fin_cases a <;> simp [LoadRect.idx, Rect.unit, ix2]

/-- A trip. -/
theorem step_inv {n : ℕ} (hn : n < 33) (hni : n < (i 1).val) {s : St Ideal} (h : Inv A U (i 1).val (n + 1) s) :
    Inv A U (i 1).val n (step (inp q k v z) n hn s) := by
  have hk : IsK A n (View.ld k (rk n hn)) := isK R (off3 hn) hn
  have hv : IsV U n (View.ld v (rk n hn)) := isV R (off3 hn) hn
  have hs := sp25 (isQ R) hk hni
  have hc := c4 hn h.c hs
  refine ⟨hc, acc26 hn hni h.c (isQ R) hk hv h.acc, live_top (top5 (bound R) (hc 0)), fun a b => ?_⟩
  show View.canon ([⟨rc, k0_pay27 r2 (BitVec.ofNat 32 n) s.c (View.ld s.cm rc)⟩] : List (View.Piece (Elt Ideal) S1x256x128 .f32)) (ix3 0 a b) = _
  rw [canon_c, ld_c, cm27, h.c, h.cm]
  have hw : BitVec.ofNat 32 b.val = BitVec.ofNat 32 n ↔ b.val = n := by
    constructor
    · intro h
      have := congrArg BitVec.toNat h
      rwa [BitVec.toNat_ofNat, BitVec.toNat_ofNat, Nat.mod_eq_of_lt (by omega), Nat.mod_eq_of_lt (by omega)] at this
    · intro h; rw [h]
  by_cases hb : b.val = n
  · rw [if_pos (hw.2 hb), if_pos (by omega), hb]
  · rw [if_neg (fun h => hb (hw.1 h))]
    by_cases hb' : n + 1 ≤ b.val
    · rw [if_pos hb', if_pos (by omega)]
    · rw [if_neg hb', if_neg (by omega)]

theorem loop_inv (n : ℕ) (hn : n ≤ 33) (hni : n < (i 1).val ∨ n = 0) (s : St Ideal) (h : Inv A U (i 1).val n s) :
    Inv A U (i 1).val 0 (loop (inp q k v z) n hn s) := by
  induction n generalizing s with
  | zero => exact h
  | succ n ih =>
    rw [loop, if_pos h.live]
    exact ih _ (.inl (by omega)) _ (step_inv R (by omega) (by omega) h)

theorem start_inv : Inv A U (i 1).val ((i 1).val - 1) (start q k v z i) := by
  have hi : (i 1).val < 33 := (i 1).isLt
  have hk : IsK A (i 1).val (View.ld k (rk1 i)) := isK R (off1 i) hi
  have hv : IsV U (i 1).val (View.ld v (rk1 i)) := isV R (off1 i) hi
  have hk' : IsK A ((i 1).val - 1) (View.ld k (rk2 i)) := isK R (off2 i) (by omega)
  have hv' : IsV U ((i 1).val - 1) (View.ld v (rk2 i)) := isV R (off2 i) (by omega)
  have hd : IsKeep A (i 1).val (i 1).val (spd q k i) := sp15 (isQ R) hk
  have h19 := c19 hi hd
  have hc : ∀ a : Fin 256, k0_pay21 (spd q k i) (spp q k i) (ix2 a 0) =
      ((-(∑ j ∈ Ico (256 * ((i 1).val - 1)) 8448, A.keep (256 * (i 1).val + a.val) j) : ℝ) : EReal) := by
    intro a
    rw [c21]
    rcases Nat.eq_zero_or_pos (i 1).val with h0 | h0
    · have hz : ∀ x : Fin 256, spp q k i (ix2 a x) = (0 : EReal) := by
        intro x
        rw [spp, bw, h0]
        exact sp18_zero a x
      pointwise [k0_pay4]
      rw [Finset.sum_eq_zero fun x _ => hz x, h19, h0, sub_zero]
    · have he : (i 1).val - 1 + 1 = (i 1).val := by omega
      refine c4 (by omega) ?_ (sp18 hi h0 (isQ R) hk' (by omega)) a
      rw [he]
      exact h19
  have ht : k0_pay1 (k0_pay23 (k0_pay8 (View.ld z rz)) (spd q k i) (spp q k i)) = (⊤ : EReal) := top23 (bound R) (hc 0)
  have hl : (start q k v z i).live = 1#1 := by
    have h2 := live_top ht
    unfold start
    dsimp only
    exact h2
  refine ⟨hc, fun a e => acc20 a e hi (isQ R) hk hk' hv hv', hl, fun a b => ?_⟩
  show View.canon ([⟨rc, k0_pay22 (bw i) r2 (spd q k i)⟩] : List (View.Piece (Elt Ideal) S1x256x128 .f32)) (ix3 0 a b) = _
  rw [canon_c, cm22, h19]
  have hw : BitVec.ofNat 32 b.val = Scalar.subi (bw i) 1#32 ↔ b.val + 1 = (i 1).val :=
    lane b (i 1)
  by_cases hb : b.val + 1 = (i 1).val
  · rw [if_pos (hw.2 hb), if_pos (by omega), hb]
  · rw [if_neg (fun h => hb (hw.1 h))]
    by_cases hb' : (i 1).val - 1 ≤ b.val
    · rw [if_pos hb', keep_after A (by omega), neg_zero, EReal.coe_zero]
    · rw [if_neg hb', EReal.coe_zero]

theorem fin_inv : Inv A U (i 1).val 0 (fin q k v z i) :=
  loop_inv R _ _ (by omega) _ (start_inv R)

/-- A point's sums, -/
theorem outO_apply (a : Fin 256) (e : Fin 64) :
    outO q k v z i (ix3 0 a e) = ∑ j ∈ range 8448, wv A U (256 * (i 1).val + a.val) e j := by
  rw [outO, canon_o]
  pointwise [k0_pay2]
  rw [(fin_inv R).acc, Finset.range_eq_Ico]

/-- and its saved carries. -/
theorem outC_apply (a : Fin 256) (b : Fin 128) :
    outC q k v z i (ix3 0 a b) = ((-(∑ j ∈ Ico (256 * (b.val + 1)) 8448, A.keep (256 * (i 1).val + a.val) j) : ℝ) : EReal) := by
  rw [outC, (fin_inv R).cm, if_pos (Nat.zero_le _)]

end

end Cert.FwdIdeal.Point
-- ==== Proof.FwdRefValue.lean ====
module

public import proofs.«01_k».proof.Proof.Gen.FwdRefIdeal.Read
public import proofs.«01_k».proof.Proof.RefValue
public import proofs.«01_k».proof.Proof.Carry
public import Idealize.ShloMosaic.Lib.Pointwise
public import Idealize.ShloMosaic.Lib.WordCmp

/-! The forward reference's two results over the extended reals: with finite queries and keys, the model's weighted sums and later kept parts. -/

@[expose] public section

set_option maxRecDepth 16384
set_option maxHeartbeats 1000000
noncomputable section

namespace Cert.FwdRefIdeal.RefValue

open Cert.ReferenceIdeal.RefValue (F0 F0_eq soft toInt_small idx3 lw exp_lw sum_rows)
open Cert.KernelIdeal.Carry (sum_later)
open Idealize.ShloMosaic Idealize.ShloMosaic.TcCoe Idealize.ShloMosaic.WordCmp Cert.Model Cert.FwdRefIdeal Cert.FwdRefIdeal.Gen Cert.FwdRefIdeal.Read Finset

abbrev B3 := (⟨S16x8448x64, .bf16⟩ : BufTy).Contents (Elt Ideal)

variable {x0 x1 x2 : B3} {A : Arr} {U : ℕ → Fin 64 → EReal} {h : Fin 16}

/-- The model's rows are the arguments' rows at one head. -/
structure Is (x0 x1 x2 : B3) (A : Arr) (U : ℕ → Fin 64 → EReal) (h : Fin 16) : Prop where
  q : ∀ (t : Fin 8448) (e : Fin 64), x0 (ix3 h t e) = ((A.q t.val e : ℝ) : EReal)
  k : ∀ (t : Fin 8448) (e : Fin 64), x1 (ix3 h t e) = ((A.k t.val e : ℝ) : EReal)
  v : ∀ (t : Fin 8448) (e : Fin 64), x2 (ix3 h t e) = U t.val e

theorem idx4 {a b c d : ℕ} (i : (⟨4, ![a, b, c, d]⟩ : Shape).Idx) (x : Fin a) (y : Fin b) (z : Fin c) (w : Fin d) (h0 : (i 0).val = x.val) (h1 : (i 1).val = y.val)
    (h2 : (i 2).val = z.val) (h3 : (i 3).val = w.val) : i = ix4 x y z w := by
  funext u
  match u with
  | ⟨0, _⟩ => exact Fin.ext h0
  | ⟨1, _⟩ => exact Fin.ext h1
  | ⟨2, _⟩ => exact Fin.ext h2
  | ⟨3, _⟩ => exact Fin.ext h3

theorem z_apply (H : Is x0 x1 x2 A U h) (t s : Fin 8448) : val_main_v3 (F := Ideal) x0 x1 (ix3 h t s) = ((A.z t.val s.val : ℝ) : EReal) := by
  rw [val_main_v3_apply, Arr.z, coe_sum univ]
  refine Finset.sum_congr rfl fun e _ => ?_
  rw [idx3 (lidx_main_v3 (ix3 h t s) e) h t e rfl rfl rfl, idx3 (ridx_main_v3 (ix3 h t s) e) h s e rfl rfl rfl, EReal.coe_mul]
  exact congrArg₂ (fun a b : EReal => a * b) (H.q t e) (H.k s e)

/-! ## The weights -/

/-- A choice by the mask. -/
theorem mask_sel {X Y : Ideal .f32} (t s : Fin 8448) :
    Scalar.select (val_main_call1_v1 (F := Ideal) (ix3 h t s)) X Y = if s.val < t.val then X else Y := by
  rw [val_main_call1_v1_apply, val_main_v10_apply, val_main_v8_apply, val_main_v9_apply, val_main_v5_apply, val_main_v7_apply, val_main_v4_apply, val_main_v6_apply]
  show Scalar.select (IntOp.cmpi CmpIPredicate.slt (BitVec.ofNat 32 s.val) (BitVec.ofNat 32 t.val)) X Y = _
  rw [cmpi_slt_eq, toInt_small (by omega), toInt_small (by omega)]
  by_cases hst : s.val < t.val
  · rw [if_pos hst]
    simp only [Int.ofNat_lt, hst, decide_true]
    rfl
  · rw [if_neg hst]
    simp only [Int.ofNat_lt, hst, decide_false]
    rfl

theorem y0_apply (H : Is x0 x1 x2 A U h) (t s : Fin 8448) : val_main_call0_v0 (F := Ideal) x0 x1 (ix3 h t s) = ((A.z t.val s.val : ℝ) : EReal) := by
  rw [val_main_call0_v0_apply, val_main_v11_apply, z_apply H]
  show -(-(((A.z t.val s.val : ℝ) : EReal))) = _
  rw [neg_neg]

theorem sp0_apply (H : Is x0 x1 x2 A U h) (t s : Fin 8448) :
    val_main_call0_v1 (F := Ideal) x0 x1 (ix3 h t s) = ((sp (A.z t.val s.val) : ℝ) : EReal) := by
  simp only [val_main_call0_v1_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply,
    val_main_call0_call0_v2_apply, val_main_call0_call0_v5_apply, val_main_call0_call0_v0_apply, val_main_call0_call0_cst_apply]
  exact soft (y0_apply H t s)

theorem y2_apply (H : Is x0 x1 x2 A U h) (t s : Fin 8448) : val_main_call2_v0 (F := Ideal) x0 x1 (ix3 h t s) = ((-(A.z t.val s.val) : ℝ) : EReal) := by
  rw [val_main_call2_v0_apply, z_apply H, EReal.coe_neg]
  rfl

theorem sp2_apply (H : Is x0 x1 x2 A U h) (t s : Fin 8448) :
    val_main_call2_v1 (F := Ideal) x0 x1 (ix3 h t s) = ((sp (-(A.z t.val s.val)) : ℝ) : EReal) := by
  simp only [val_main_call2_v1_apply, val_main_call2_call0_v4_apply, val_main_call2_call0_v6_apply, val_main_call2_call0_v11_apply, val_main_call2_call0_v1_apply,
    val_main_call2_call0_v10_apply, val_main_call2_call0_v9_apply, val_main_call2_call0_v8_apply, val_main_call2_call0_v7_apply, val_main_call2_call0_v3_apply,
    val_main_call2_call0_v2_apply, val_main_call2_call0_v5_apply, val_main_call2_call0_v0_apply, val_main_call2_call0_cst_apply]
  exact soft (y2_apply H t s)

theorem keep_apply (H : Is x0 x1 x2 A U h) (t s : Fin 8448) : val_main_v13 (F := Ideal) x0 x1 (ix3 h t s) = ((-(A.keep t.val s.val) : ℝ) : EReal) := by
  rw [val_main_v13_apply, mask_sel, val_main_v12_apply, sp0_apply H, Arr.keep]
  split
  · exact (EReal.coe_neg _).symm
  · rw [val_main_call1_v2_apply, val_main_call1_v0_apply, val_main_cst_apply, neg_zero]
    exact F0_eq

theorem keeps_apply (H : Is x0 x1 x2 A U h) (t s : Fin 8448) :
    val_main_v15 (F := Ideal) x0 x1 (ix3 h t s) = ((∑ j ∈ Ico s.val 8448, -(A.keep t.val j) : ℝ) : EReal) := by
  have hk := keep_apply H t
  have h0 : val_main_call3_v0 (F := Ideal) (Shape.Idx.first h_S_) = (0 : EReal) := by
    rw [val_main_call3_v0_apply, val_main_call3_cst_apply]; exact F0_eq
  unfold val_main_v15
  generalize val_main_v13 (F := Ideal) x0 x1 = y at hk ⊢
  exact Window.host_suffix (by norm_num) y _ (fun j => -(A.keep t.val j)) h t hk _ _ h0 s

theorem exp_apply (H : Is x0 x1 x2 A U h) (t s : Fin 8448) : val_main_v18 (F := Ideal) x0 x1 (ix3 h t s) = ((Real.exp (lw A t.val s.val) : ℝ) : EReal) := by
  rw [val_main_v18_apply, val_main_v17_apply, val_main_v16_apply, val_main_v14_apply, keeps_apply H, keep_apply H, sp2_apply H]
  show Ideal.exp (-((sp (-(A.z t.val s.val)) : ℝ) : EReal) + ((_ : ℝ) : EReal) - ((_ : ℝ) : EReal)) = _
  rw [← EReal.coe_neg, ← EReal.coe_add, ← EReal.coe_sub, Ideal.exp_coe, lw, Finset.sum_neg_distrib, sub_neg_eq_add]

theorem mask_sel' {X Y : Ideal .f32} (t s : Fin 8448) :
    Scalar.select (val_main_call4_v1 (F := Ideal) (ix3 h t s)) X Y = if s.val < t.val then X else Y := mask_sel t s

theorem wt_apply (H : Is x0 x1 x2 A U h) (t s : Fin 8448) : val_main_v19 (F := Ideal) x0 x1 (ix3 h t s) = ((A.wt t.val s.val : ℝ) : EReal) := by
  rw [val_main_v19_apply, mask_sel', exp_apply H]
  split
  · next hst => rw [exp_lw hst]
  · next hst =>
    rw [A.wt_of_le (by omega), val_main_call4_v2_apply, val_main_call4_v0_apply, val_main_cst_0_apply]
    exact F0_eq

theorem o_apply (H : Is x0 x1 x2 A U h) (t : Fin 8448) (e : Fin 64) :
    val_main_v20 (F := Ideal) x0 x1 x2 (ix3 h t e) = ∑ j ∈ range 8448, ((A.wt t.val j : ℝ) : EReal) * U j e := by
  rw [val_main_v20_apply, ← Fin.sum_univ_eq_sum_range (fun j => ((A.wt t.val j : ℝ) : EReal) * U j e)]
  refine Finset.sum_congr rfl fun s _ => ?_
  rw [idx3 (lidx_main_v20 (ix3 h t e) s) h t s rfl rfl rfl, idx3 (ridx_main_v20 (ix3 h t e) s) h s e rfl rfl rfl, wt_apply H]
  exact congrArg (fun b : EReal => ((A.wt t.val s.val : ℝ) : EReal) * b) (H.v s e)

/-! ## The later blocks' sums -/

theorem z_apply' (H : Is x0 x1 x2 A U h) (t s : Fin 8448) : val_main_v21 (F := Ideal) x0 x1 (ix3 h t s) = ((A.z t.val s.val : ℝ) : EReal) := z_apply H t s

theorem keep_apply' (H : Is x0 x1 x2 A U h) (t s : Fin 8448) : val_main_v31 (F := Ideal) x0 x1 (ix3 h t s) = ((-(A.keep t.val s.val) : ℝ) : EReal) := keep_apply H t s

theorem block_apply (H : Is x0 x1 x2 A U h) (t : Fin 8448) (B : Fin 33) :
    val_main_v33 (F := Ideal) x0 x1 (ix3 h t B) = ((∑ y : Fin 256, -(A.keep t.val (256 * B.val + y.val)) : ℝ) : EReal) := by
  rw [val_main_v33_apply, val_main_cst_2_apply, coe_sum univ]
  refine (congrArg₂ (fun a b : EReal => a + b) F0_eq rfl).trans ((zero_add _).trans (Finset.sum_congr rfl fun y _ => ?_))
  have hy : 256 * B.val + y.val < 8448 := by omega
  have h32 : val_main_v32 (F := Ideal) x0 x1 (ix4 h t B y) = val_main_v31 (F := Ideal) x0 x1 (ix3 h t ⟨256 * B.val + y.val, hy⟩) := by
    rw [val_main_v32_apply]
    congr 1
    refine idx3 _ _ _ _ ?_ ?_ ?_ <;> simp [ix4, idx_main_v32] <;> omega
  rw [idx4 (idx_main_v33 (ix3 h t B) y) h t B y rfl rfl rfl rfl, h32, keep_apply' H]

theorem later_apply (H : Is x0 x1 x2 A U h) (t : Fin 8448) (b : Fin 128) :
    val_main_v43 (F := Ideal) x0 x1 (ix3 h t b) = ((-(∑ j ∈ Ico (256 * (b.val + 1)) 8448, A.keep t.val j) : ℝ) : EReal) := by
  rw [val_main_v43_apply, val_main_cst_4_apply, ← Finset.sum_neg_distrib, ← sum_later, coe_sum univ]
  refine (congrArg₂ (fun a b : EReal => a + b) F0_eq rfl).trans ((zero_add _).trans (Finset.sum_congr rfl fun B _ => ?_))
  rw [idx4 (idx_main_v43 (ix3 h t b) B) h t b B rfl rfl rfl rfl, val_main_v42_apply, val_main_call7_v1_apply, val_main_v40_apply, val_main_v38_apply, val_main_v39_apply,
    val_main_v35_apply, val_main_v37_apply, val_main_v34_apply, val_main_v36_apply, val_main_call7_v2_apply, val_main_v41_apply]
  show Scalar.select (IntOp.cmpi CmpIPredicate.sgt (BitVec.ofNat 32 B.val) (BitVec.ofNat 32 b.val)) _ _ = _
  rw [cmpi_sgt_eq, toInt_small (by omega), toInt_small (by omega)]
  by_cases hb : b.val < B.val
  · rw [if_pos hb]
    simp only [Int.ofNat_lt, hb, decide_true]
    refine Eq.trans ?_ (block_apply H t B)
    simp only [Scalar.select]
    exact congrArg (val_main_v33 (F := Ideal) x0 x1) (idx3 _ h t B rfl rfl rfl)
  · rw [if_neg hb]
    simp only [Int.ofNat_lt, hb, decide_false]
    refine Eq.trans ?_ F0_eq
    simp only [Scalar.select]
    rw [val_main_call7_v3_apply, val_main_call7_v0_apply, val_main_cst_3_apply]
    rfl

end Cert.FwdRefIdeal.RefValue
-- ==== Proof.FwdValue.lean ====
module

public import proofs.«01_k».proof.Defs
public import proofs.«01_k».proof.Proof.FwdMain
public import proofs.«01_k».proof.Proof.FwdPoint
public import proofs.«01_k».proof.Proof.FwdRefValue
public import proofs.«01_k».proof.Proof.Algebraic
public import proofs.«01_k».proof.Proof.FwdBitsMain
public import proofs.«01_k».proof.Proof.Gen.Pre_finite_fwd
public import Idealize.ShloMosaic.Lib.Pipeline.Covers

/-! The forward attention's claims: the three programs run and leave their arguments as they were, and the kernel's
    first two results are the reference's, where the queries and keys hold no infinity. -/

@[expose] public section

set_option maxRecDepth 16384
set_option maxHeartbeats 1000000
noncomputable section

namespace Cert.FwdIdeal.Arrays

open Idealize.ShloMosaic Idealize.ShloMosaic.TcCoe Idealize.SL.Sem Cert.Model Cert.FwdIdeal Cert.FwdIdeal.Gen Cert.FwdIdeal.Run Finset
open Cert.KernelIdeal.Carry (Real3 rowsOf rowsOf_coe)
open Cert.KernelIdeal.Arrays (rows_blocks)

variable (m : (ℓ : Loc nD τ sig) → Buf (Elt Ideal) ℓ)

/-! ## The blocks' places -/

theorem coords_zero (t : Fin grid0.N) : (grid0.coords t 0).val = t.val / 33 := by
  have h : t.val < 528 := t.isLt.trans_eq N_0
  rw [Pipeline.Grid.coords_val (S := 33) (B := 16) t 0 (by decide) rfl]
  omega

theorem coords_one (t : Fin grid0.N) : (grid0.coords t 1).val = t.val % 33 := by
  rw [Pipeline.Grid.coords_val (S := 1) (B := 33) t 1 (by decide) rfl, Nat.div_one]

theorem row_index (i : grid0.Coords) : cc0_transform_0 i = ![(i 0).val, (i 1).val, 0] := by
  have h0 : (i 0).val < 16 := (i 0).isLt
  have h1 : (i 1).val < 33 := (i 1).isLt
  show (![(BitVec.ofNat 32 (i 0).val).toNat, (BitVec.ofNat 32 (i 1).val).toNat, 0] : Fin 3 → ℕ) = _
  rw [BitVec.toNat_ofNat, BitVec.toNat_ofNat, Nat.mod_eq_of_lt (by omega), Nat.mod_eq_of_lt (by omega)]

theorem all_index (i : grid0.Coords) : cc0_transform_1 i = ![(i 0).val, 0, 0] := by
  have h0 : (i 0).val < 16 := (i 0).isLt
  show (![(BitVec.ofNat 32 (i 0).val).toNat, 0, 0] : Fin 3 → ℕ) = _
  rw [BitVec.toNat_ofNat, Nat.mod_eq_of_lt (by omega)]

theorem rows (t : Fin grid0.N) : cc0_transform_0 (grid0.coords t) = ![t.val / 33, t.val % 33, 0] := by
  rw [row_index, coords_zero, coords_one]
theorem all (t : Fin grid0.N) : cc0_transform_1 (grid0.coords t) = ![t.val / 33, 0, 0] := by
  rw [all_index, coords_zero]

theorem idx0 (t : Fin (cfg0 (F := Ideal)).N) : ((cfg0 (F := Ideal)).win 0).index t = ![t.val / 33, t.val % 33, 0] := rows t
theorem idx1 (t : Fin (cfg0 (F := Ideal)).N) : ((cfg0 (F := Ideal)).win 1).index t = ![t.val / 33, 0, 0] := all t
theorem idx2 (t : Fin (cfg0 (F := Ideal)).N) : ((cfg0 (F := Ideal)).win 2).index t = ![t.val / 33, 0, 0] := all t
theorem idx3 (t : Fin (cfg0 (F := Ideal)).N) : ((cfg0 (F := Ideal)).win 3).index t = ![0, 0] := rfl
theorem idx4 (t : Fin (cfg0 (F := Ideal)).N) : ((cfg0 (F := Ideal)).win 4).index t = ![t.val / 33, t.val % 33, 0] := rows t
theorem idx5 (t : Fin (cfg0 (F := Ideal)).N) : ((cfg0 (F := Ideal)).win 5).index t = ![t.val / 33, t.val % 33, 0] := rows t

/-- A point's head. -/
def head (t : Fin grid0.N) : Fin 16 := ⟨t.val / 33, by have h : t.val < 528 := t.isLt.trans_eq N_0; omega⟩
/-- A row of a point's block. -/
def row (t : Fin grid0.N) (a : Fin 256) : Fin 8448 := ⟨256 * (t.val % 33) + a.val, by omega⟩

theorem iblk0 (c : Dev nD) (t : Fin grid0.N) (a : Fin 256) (e : Fin 64) :
    iblk m c 0 t (ix3 0 a e) = V m c main_arg0 (ix3 (head t) (row t a) e) := by
  blk_ext [iblk, idx0 t, head, row]
theorem iblk1 (c : Dev nD) (t : Fin grid0.N) (s : Fin 8448) (e : Fin 64) :
    iblk m c 1 t (ix3 0 s e) = V m c main_arg1 (ix3 (head t) s e) := by
  blk_ext [iblk, idx1 t, head]
theorem iblk2 (c : Dev nD) (t : Fin grid0.N) (s : Fin 8448) (e : Fin 64) :
    iblk m c 2 t (ix3 0 s e) = V m c main_arg2 (ix3 (head t) s e) := by
  blk_ext [iblk, idx2 t, head]
theorem iblk3 (c : Dev nD) (t : Fin grid0.N) (b : Fin 128) :
    iblk m c 3 t (ix2 0 b) = V m c main_v0 (ix2 0 b) := by
  blk_ext [iblk, idx3 t]

/-! ## The points' inputs -/

/-- The three arguments. -/
abbrev argQ (c : Dev nD) : FVec Ideal S16x8448x64 .bf16 := m ((c : Thread nD τ).loc main_arg0)
abbrev argK (c : Dev nD) : FVec Ideal S16x8448x64 .bf16 := m ((c : Thread nD τ).loc main_arg1)
abbrev argV (c : Dev nD) : FVec Ideal S16x8448x64 .bf16 := m ((c : Thread nD τ).loc main_arg2)

/-- The queries and the keys hold no infinity. -/
structure Finite (c : Dev nD) : Prop where
  q : Real3 (argQ m c)
  k : Real3 (argK m c)

/-- A head's model. -/
def mdl (c : Dev nD) (h : Fin 16) : Arr := ⟨rowsOf (argQ m c) h, rowsOf (argK m c) h, fun _ _ => 0, fun _ _ => 0⟩

/-- A head's values. -/
def vals (c : Dev nD) (h : Fin 16) (t : ℕ) (e : Fin 64) : EReal := if ht : t < 8448 then argV m c (ix3 h ⟨t, ht⟩ e) else 0

theorem vals_apply (c : Dev nD) (h : Fin 16) (t : Fin 8448) (e : Fin 64) : argV m c (ix3 h t e) = vals m c h t.val e := by
  rw [vals, dif_pos t.isLt]

theorem bound_top (c : Dev nD) (b : Fin 128) : V m c main_v0 (ix2 0 b) = (⊤ : EReal) := by
  rw [V_bound]
  exact ReferenceIdeal.RefValue.Finf_eq

theorem reads {c : Dev nD} (hf : Finite m c) (t : Fin grid0.N) :
    Point.Reads (mdl m c (head t)) (vals m c (head t)) (grid0.coords t 1).val (iblk m c 0 t) (iblk m c 1 t) (iblk m c 2 t) (iblk m c 3 t) := by
  rw [coords_one]
  refine ⟨fun a e => ?_, fun s e => ?_, fun s e => ?_, fun b => ?_⟩
  · rw [iblk0, V_arg0]; exact rowsOf_coe hf.q _ _ _
  · rw [iblk1, V_arg1]; exact rowsOf_coe hf.k _ _ _
  · rw [iblk2, V_arg2]; exact vals_apply m c _ _ _
  · rw [iblk3]; exact bound_top m c b

/-! ## The results -/

/-- The weighted sums, -/
def G4 (c : Dev nD) : FVec Ideal S16x8448x64 .f32 := fun i => ∑ j ∈ range 8448, (((mdl m c (i 0)).wt (i 1).val j : ℝ) : EReal) * vals m c (i 0) j (i 2)
/-- and the later blocks' kept parts. -/
def G5 (c : Dev nD) : FVec Ideal S16x8448x128 .f32 := fun i =>
  ((-(∑ j ∈ Ico (256 * ((i 2).val + 1)) 8448, (mdl m c (i 0)).keep (i 1).val j) : ℝ) : EReal)

theorem exists_coords (b0 : Fin 16) (b1 : Fin 33) : ∃ i : grid0.Coords, (i 0).val = b0.val ∧ (i 1).val = b1.val :=
  ⟨fun | ⟨0, _⟩ => b0 | ⟨1, _⟩ => b1 | ⟨_ + 2, h⟩ => absurd h (by simp), rfl, rfl⟩

theorem rows_cover (β : (a : Fin 3) → Fin ((![16, 33, 1] : Fin 3 → ℕ) a)) : ∃ i : grid0.Coords, ∀ a, cc0_transform_0 i a = (β a).val := by
  obtain ⟨i, h0, h1⟩ := exists_coords (β 0) (β 1)
  refine ⟨i, fun a => ?_⟩
  rw [row_index, h0, h1]
  fin_cases a
  · rfl
  · rfl
  · exact ((Nat.lt_one_iff.1 (β 2).isLt) : (β 2).val = 0).symm

theorem lane_blocks : ∀ a : Fin 3, (S16x8448x128.size a + S1x256x128.size a - 1) / S1x256x128.size a = (![16, 33, 1] : Fin 3 → ℕ) a := by decide

theorem cover4 : ((cfg0 (F := Ideal)).win 4).Covers :=
  ((cfg0 (F := Ideal)).win 4).covers_of_indexMap_surj rfl (by decide : ∀ a : Fin 3, 0 < S1x256x64.size a) fun β =>
    rows_cover fun a => (⟨(β a).val, (β a).isLt.trans_eq (rows_blocks a)⟩ : Fin ((![16, 33, 1] : Fin 3 → ℕ) a))

theorem cover5 : ((cfg0 (F := Ideal)).win 5).Covers :=
  ((cfg0 (F := Ideal)).win 5).covers_of_indexMap_surj rfl (by decide : ∀ a : Fin 3, 0 < S1x256x128.size a) fun β =>
    rows_cover fun a => (⟨(β a).val, (β a).isLt.trans_eq (lane_blocks a)⟩ : Fin ((![16, 33, 1] : Fin 3 → ℕ) a))

theorem exists_ix3 {n k : ℕ} (y : (⟨3, ![1, n, k]⟩ : Shape).Idx) : ∃ (a : Fin n) (e : Fin k), y = ix3 0 a e :=
  ⟨y 1, y 2, (eq_ix3 y).trans (congrArg (fun z : Fin 1 => ix3 z (y 1) (y 2)) (Fin.fin_one_eq_zero (y 0)))⟩

theorem point4 {c : Dev nD} (hf : Finite m c) (t : Fin grid0.N) (a : Fin 256) (e : Fin 64) :
    outO (iblk m c 0 t) (iblk m c 1 t) (iblk m c 2 t) (iblk m c 3 t) (grid0.coords t) (ix3 0 a e) = G4 m c (ix3 (head t) (row t a) e) := by
  rw [Point.outO_apply (reads m hf t), coords_one]
  rfl

theorem point5 {c : Dev nD} (hf : Finite m c) (t : Fin grid0.N) (a : Fin 256) (b : Fin 128) :
    outC (iblk m c 0 t) (iblk m c 1 t) (iblk m c 2 t) (iblk m c 3 t) (grid0.coords t) (ix3 0 a b) = G5 m c (ix3 (head t) (row t a) b) := by
  rw [Point.outC_apply (reads m hf t), coords_one]
  rfl

theorem arr4 {c : Dev nD} (hf : Finite m c) : (dats m 0 c).arrAt 4 (cfg0 (F := Ideal)).N = G4 m c := by
  refine (dats m 0 c).arrAt_eq_of_covers 4 _ cover4 fun t hfl y => ?_
  obtain ⟨a, e, rfl⟩ := exists_ix3 (n := 256) (k := 64) y
  have hp : (((cfg0 (F := Ideal)).win 4).blk t).view.emb (ix3 0 a e) = (ix3 (head t) (row t a) e : S16x8448x64.Idx) := by
    blk_ext [idx4 t, head, row]
  rw [hp]
  exact point4 m hf t a e

theorem arr5 {c : Dev nD} (hf : Finite m c) : (dats m 0 c).arrAt 5 (cfg0 (F := Ideal)).N = G5 m c := by
  refine (dats m 0 c).arrAt_eq_of_covers 5 _ cover5 fun t hfl y => ?_
  obtain ⟨a, b, rfl⟩ := exists_ix3 (n := 256) (k := 128) y
  have hp : (((cfg0 (F := Ideal)).win 5).blk t).view.emb (ix3 0 a b) = (ix3 (head t) (row t a) b : S16x8448x128.Idx) := by
    blk_ext [idx5 t, head, row]
  rw [hp]
  exact point5 m hf t a b

/-! ## The frames -/

theorem fwdIdeal : Cert.quiescent_FwdIdeal := fun m g _ =>
  (θ_run _ _ _).mono (fun _ h => ⟨fun c => args_of m h.1 c, h.2⟩) (run (F := Ideal) m g)

theorem fwd : Cert.quiescent_Fwd := fun m g _ =>
  (θ_run _ _ _).mono (fun _ h => ⟨fun c => Fwd.Run.args_of m h.1 c, h.2⟩) (Fwd.Run.run (F := Bits) m g)

/-- The reference declares no semaphore. -/
theorem no_sem (x : GSem FwdRefIdeal.nD FwdRefIdeal.τ FwdRefIdeal.sig) : False := by
  obtain ⟨_, s⟩ := x
  cases s with
  | reg s => exact s.elim0
  | dma s => exact s.elim0

theorem fwdRef : Cert.quiescent_FwdRefIdeal := fun m g _ =>
  (θ_run _ _ _).mono (fun _ h => ⟨fun c => (h c).2.2, funext fun x => (no_sem x).elim⟩) (FwdRefIdeal.Value.run (F := Ideal) m g)

theorem fwd_pre : Cert.quiescent_FwdIdeal_pre_finite_fwd := fun m g _ => fwdIdeal m g trivial
theorem fwdRef_pre : Cert.quiescent_FwdRefIdeal_pre_finite_fwd := fun m g _ => fwdRef m g trivial

theorem preserves : Cert.preserves_Fwd_FwdIdeal :=
  ⟨rfl, fun _ => IdealRules.named_const.ideal_named _ _ _ _ rfl, rfl⟩

/-! ## The two programs -/

theorem finite_of {m : (ℓ : Loc nD τ sig) → Buf (Elt Ideal) ℓ} (h : Cert.Pre_FwdIdeal_finite_fwd m) (c : Dev nD) : Finite m c := by
  have hc := h c
  have hi : ∀ i : Pre_finite_fwd.S16x8448x64.Idx, _ := fun i => congrFun hc i
  have hr : ∀ i : Pre_finite_fwd.S16x8448x64.Idx,
      FloatOps.cmpf (F := Ideal) (φ := .f32) .olt (FloatOps.hostAbsf (argQ m c i)) (FloatOps.ofBits .f32 0x7F800000#32) = 1#1
        ∧ FloatOps.cmpf (F := Ideal) (φ := .f32) .olt (FloatOps.hostAbsf (argK m c i)) (FloatOps.ofBits .f32 0x7F800000#32) = 1#1 := by
    intro i
    obtain ⟨hq, hk⟩ := Algebraic.both (hi i)
    exact ⟨hq, hk⟩
  exact ⟨fun a b e => Algebraic.real_of_lt (hr (ix3 a b e)).1, fun a b e => Algebraic.real_of_lt (hr (ix3 a b e)).2⟩

section
variable {m : (ℓ : Loc nD τ sig) → Buf (Elt Ideal) ℓ} {c : Dev nD}

theorem is_model (hf : Finite m c) (h : Fin 16) : FwdRefIdeal.RefValue.Is (argQ m c) (argK m c) (argV m c) (mdl m c h) (vals m c h) h :=
  ⟨fun t e => rowsOf_coe hf.q h t e, fun t e => rowsOf_coe hf.k h t e, fun t e => vals_apply m c h t e⟩

theorem ref_o (hf : Finite m c) : FwdRefIdeal.Read.val_main_v20 (F := Ideal) (argQ m c) (argK m c) (argV m c) = G4 m c := by
  funext i
  obtain ⟨a, b, e, rfl⟩ : ∃ (a : Fin 16) (b : Fin 8448) (e : Fin 64), i = ix3 a b e := ⟨i 0, i 1, i 2, ReferenceIdeal.RefValue.idx3 i _ _ _ rfl rfl rfl⟩
  exact FwdRefIdeal.RefValue.o_apply (is_model hf a) b e

theorem ref_later (hf : Finite m c) : FwdRefIdeal.Read.val_main_v43 (F := Ideal) (argQ m c) (argK m c) = G5 m c := by
  funext i
  obtain ⟨a, b, e, rfl⟩ : ∃ (a : Fin 16) (b : Fin 8448) (e : Fin 128), i = ix3 a b e := ⟨i 0, i 1, i 2, ReferenceIdeal.RefValue.idx3 i _ _ _ rfl rfl rfl⟩
  exact FwdRefIdeal.RefValue.later_apply (is_model hf a) b e

end

theorem algebraic : Cert.algebraic_FwdIdeal_FwdRefIdeal_pre_finite_fwd := by
  intro m g m' g' hp ha
  have hf := finite_of hp
  refine ⟨G4 m, G5 m, ?_, ?_⟩
  · refine (θ_run _ _ _).mono (fun r h c => ?_) (run (F := Ideal) m g)
    exact ⟨((h.1 c).1 4).trans (arr4 m (hf c)), ((h.1 c).1 5).trans (arr5 m (hf c)), args_of m h.1 c⟩
  · refine (θ_run _ _ _).mono (fun r h c => ?_) (FwdRefIdeal.Value.run (F := Ideal) m' g')
    obtain ⟨h0, h1, h2⟩ := h c
    obtain ⟨a0, a1, a2⟩ := ha c
    refine ⟨h0.trans ?_, h1.trans ?_, h2⟩
    · rw [FwdRefIdeal.Read.val_main_v20_eq, a0, a1, a2]; exact ref_o (hf c)
    · rw [FwdRefIdeal.Read.val_main_v43_eq, a0, a1]; exact ref_later (hf c)

end Cert.FwdIdeal.Arrays
-- ==== Proof.lean ====
module

public import proofs.«01_k».proof.Proof.Gen.Fwd
public import proofs.«01_k».proof.Proof.Gen.FwdIdeal
public import proofs.«01_k».proof.Proof.Gen.FwdRefIdeal.Read
public import proofs.«01_k».proof.Proof.Gen.Zx
public import proofs.«01_k».proof.Proof.Gen.Zx.Frame
public import proofs.«01_k».proof.Proof.Gen.ZxIdeal.Frame
public import proofs.«01_k».proof.Proof.Gen.ZxIdeal.Value
public import proofs.«01_k».proof.Proof.Gen.ZxRefIdeal.Read
public import proofs.«01_k».proof.Proof.Gen.Dwz
public import proofs.«01_k».proof.Proof.Gen.Dwz.Frame
public import proofs.«01_k».proof.Proof.Gen.DwzIdeal.Frame
public import proofs.«01_k».proof.Proof.Gen.DwzIdeal.Value
public import proofs.«01_k».proof.Proof.Gen.DwzRefIdeal.Read
public import proofs.«01_k».proof.Proof.Gen.Dwx
public import proofs.«01_k».proof.Proof.Gen.Dwx.Frame
public import proofs.«01_k».proof.Proof.Gen.DwxIdeal.Frame
public import proofs.«01_k».proof.Proof.Gen.DwxIdeal.Value
public import proofs.«01_k».proof.Proof.Gen.DwxRefIdeal.Read
public import proofs.«01_k».proof.Proof.Gen.Duz
public import proofs.«01_k».proof.Proof.Gen.Duz.Frame
public import proofs.«01_k».proof.Proof.Gen.DuzIdeal.Frame
public import proofs.«01_k».proof.Proof.Gen.DuzIdeal.Value
public import proofs.«01_k».proof.Proof.Gen.DuzRefIdeal.Read
public import proofs.«01_k».proof.Proof.Gen.Dux
public import proofs.«01_k».proof.Proof.Gen.Dux.Frame
public import proofs.«01_k».proof.Proof.Gen.DuxIdeal.Frame
public import proofs.«01_k».proof.Proof.Gen.DuxIdeal.Value
public import proofs.«01_k».proof.Proof.Gen.DuxRefIdeal.Read
public import proofs.«01_k».proof.Proof.Gen.So
public import proofs.«01_k».proof.Proof.Gen.So.Frame
public import proofs.«01_k».proof.Proof.Gen.SoIdeal.Frame
public import proofs.«01_k».proof.Proof.Gen.SoIdeal.Value
public import proofs.«01_k».proof.Proof.Gen.SoRefIdeal.Read
public import proofs.«01_k».proof.Proof.Gen.Dwo
public import proofs.«01_k».proof.Proof.Gen.Dwo.Frame
public import proofs.«01_k».proof.Proof.Gen.DwoIdeal.Frame
public import proofs.«01_k».proof.Proof.Gen.DwoIdeal.Value
public import proofs.«01_k».proof.Proof.Gen.DwoRefIdeal.Read
public import proofs.«01_k».proof.Proof.Gen.Dy
public import proofs.«01_k».proof.Proof.Gen.Dy.Frame
public import proofs.«01_k».proof.Proof.Gen.DyIdeal.Frame
public import proofs.«01_k».proof.Proof.Gen.DyIdeal.Value
public import proofs.«01_k».proof.Proof.Gen.DyRefIdeal.Read
public import proofs.«01_k».proof.Proof.Gen.Qp
public import proofs.«01_k».proof.Proof.Gen.Qp.Frame
public import proofs.«01_k».proof.Proof.Gen.QpIdeal.Frame
public import proofs.«01_k».proof.Proof.Gen.QpIdeal.Value
public import proofs.«01_k».proof.Proof.Gen.QpRefIdeal.Read
public import proofs.«01_k».proof.Proof.Gen.Vp
public import proofs.«01_k».proof.Proof.Gen.Vp.Frame
public import proofs.«01_k».proof.Proof.Gen.VpIdeal.Frame
public import proofs.«01_k».proof.Proof.Gen.VpIdeal.Value
public import proofs.«01_k».proof.Proof.Gen.VpRefIdeal.Read
public import proofs.«01_k».proof.Proof.Gen.Do
public import proofs.«01_k».proof.Proof.Gen.Do.Frame
public import proofs.«01_k».proof.Proof.Gen.DoIdeal.Frame
public import proofs.«01_k».proof.Proof.Gen.DoIdeal.Value
public import proofs.«01_k».proof.Proof.Gen.DoRefIdeal.Read
public import proofs.«01_k».proof.Proof.Gen.Ao
public import proofs.«01_k».proof.Proof.Gen.Ao.Frame
public import proofs.«01_k».proof.Proof.Gen.AoIdeal.Frame
public import proofs.«01_k».proof.Proof.Gen.AoIdeal.Value
public import proofs.«01_k».proof.Proof.Gen.AoRefIdeal.Read
public import proofs.«01_k».proof.Proof.Gen.Dwp
public import proofs.«01_k».proof.Proof.Gen.Dwp.Frame
public import proofs.«01_k».proof.Proof.Gen.DwpIdeal.Frame
public import proofs.«01_k».proof.Proof.Gen.DwpIdeal.Value
public import proofs.«01_k».proof.Proof.Gen.DwpRefIdeal.Read
public import proofs.«01_k».proof.Proof.Gen.Dwq
public import proofs.«01_k».proof.Proof.Gen.Dwq.Frame
public import proofs.«01_k».proof.Proof.Gen.DwqIdeal.Frame
public import proofs.«01_k».proof.Proof.Gen.DwqIdeal.Value
public import proofs.«01_k».proof.Proof.Gen.DwqRefIdeal.Read
public import proofs.«01_k».proof.Proof.Gen.Duq
public import proofs.«01_k».proof.Proof.Gen.Duq.Frame
public import proofs.«01_k».proof.Proof.Gen.DuqIdeal.Frame
public import proofs.«01_k».proof.Proof.Gen.DuqIdeal.Value
public import proofs.«01_k».proof.Proof.Gen.DuqRefIdeal.Read
public import proofs.«01_k».proof.Proof.Gen.Dkv
public import proofs.«01_k».proof.Proof.Gen.Dkv.Frame
public import proofs.«01_k».proof.Proof.Gen.DkvIdeal.Frame
public import proofs.«01_k».proof.Proof.Gen.DkvIdeal.Value
public import proofs.«01_k».proof.Proof.Gen.DkvRefIdeal.Read
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Up
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Read
public import proofs.«01_k».proof.Proof.Gen.Mid
public import proofs.«01_k».proof.Proof.Gen.Mid.Frame
public import proofs.«01_k».proof.Proof.Gen.MidIdeal.Frame
public import proofs.«01_k».proof.Proof.Gen.MidIdeal.Value
public import proofs.«01_k».proof.Proof.Gen.MidRefIdeal.Read
public import proofs.«01_k».proof.Proof.Gen.Dwb
public import proofs.«01_k».proof.Proof.Gen.Dwb.Frame
public import proofs.«01_k».proof.Proof.Gen.DwbIdeal.Frame
public import proofs.«01_k».proof.Proof.Gen.DwbIdeal.Value
public import proofs.«01_k».proof.Proof.Gen.DwbRefIdeal.Read
public import proofs.«01_k».proof.Proof.Gen.Dn
public import proofs.«01_k».proof.Proof.Gen.Dn.Frame
public import proofs.«01_k».proof.Proof.Gen.DnIdeal.Frame
public import proofs.«01_k».proof.Proof.Gen.DnIdeal.Value
public import proofs.«01_k».proof.Proof.Gen.DnRefIdeal.Read
public import proofs.«01_k».proof.Proof.Gen.Dwa
public import proofs.«01_k».proof.Proof.Gen.Dwa.Frame
public import proofs.«01_k».proof.Proof.Gen.DwaIdeal.Frame
public import proofs.«01_k».proof.Proof.Gen.DwaIdeal.Value
public import proofs.«01_k».proof.Proof.Gen.DwaRefIdeal.Read
public import proofs.«01_k».proof.Proof.Gen.Down
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Read
public import proofs.«01_k».proof.Proof.Frames
public import proofs.«01_k».proof.Proof.Algebraic
public import proofs.«01_k».proof.Proof.Silu
public import proofs.«01_k».proof.Proof.Calls
public import proofs.«01_k».proof.Proof.UpValue
public import proofs.«01_k».proof.Proof.MidValue
public import proofs.«01_k».proof.Proof.DwbValue
public import proofs.«01_k».proof.Proof.DnValue
public import proofs.«01_k».proof.Proof.DwaValue
public import proofs.«01_k».proof.Proof.DownValue
public import proofs.«01_k».proof.Proof.ZxValue
public import proofs.«01_k».proof.Proof.DwzValue
public import proofs.«01_k».proof.Proof.DwxValue
public import proofs.«01_k».proof.Proof.DuzValue
public import proofs.«01_k».proof.Proof.DuxValue
public import proofs.«01_k».proof.Proof.SoValue
public import proofs.«01_k».proof.Proof.DwoValue
public import proofs.«01_k».proof.Proof.DyValue
public import proofs.«01_k».proof.Proof.QpValue
public import proofs.«01_k».proof.Proof.VpValue
public import proofs.«01_k».proof.Proof.DoValue
public import proofs.«01_k».proof.Proof.AoValue
public import proofs.«01_k».proof.Proof.DwpValue
public import proofs.«01_k».proof.Proof.DwqValue
public import proofs.«01_k».proof.Proof.DuqValue
public import proofs.«01_k».proof.Proof.DkvValue
public import proofs.«01_k».proof.Proof.FwdValue

@[expose] public section

noncomputable section

namespace Cert.Proof

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts,
  Cert.Mid.Gen.facts, Cert.MidIdeal.Gen.facts, Cert.MidRefIdeal.Gen.facts,
  Cert.Dwb.Gen.facts, Cert.DwbIdeal.Gen.facts, Cert.DwbRefIdeal.Gen.facts,
  Cert.Dn.Gen.facts, Cert.DnIdeal.Gen.facts, Cert.DnRefIdeal.Gen.facts,
  Cert.Dwa.Gen.facts, Cert.DwaIdeal.Gen.facts, Cert.DwaRefIdeal.Gen.facts,
  Cert.Down.Gen.facts, Cert.DownIdeal.Gen.facts, Cert.DownRefIdeal.Gen.facts,
  Cert.Zx.Gen.facts, Cert.ZxIdeal.Gen.facts, Cert.ZxRefIdeal.Gen.facts,
  Cert.Dwz.Gen.facts, Cert.DwzIdeal.Gen.facts, Cert.DwzRefIdeal.Gen.facts,
  Cert.Dwx.Gen.facts, Cert.DwxIdeal.Gen.facts, Cert.DwxRefIdeal.Gen.facts,
  Cert.Duz.Gen.facts, Cert.DuzIdeal.Gen.facts, Cert.DuzRefIdeal.Gen.facts,
  Cert.Dux.Gen.facts, Cert.DuxIdeal.Gen.facts, Cert.DuxRefIdeal.Gen.facts,
  Cert.So.Gen.facts, Cert.SoIdeal.Gen.facts, Cert.SoRefIdeal.Gen.facts,
  Cert.Dwo.Gen.facts, Cert.DwoIdeal.Gen.facts, Cert.DwoRefIdeal.Gen.facts,
  Cert.Dy.Gen.facts, Cert.DyIdeal.Gen.facts, Cert.DyRefIdeal.Gen.facts,
  Cert.Qp.Gen.facts, Cert.QpIdeal.Gen.facts, Cert.QpRefIdeal.Gen.facts,
  Cert.Vp.Gen.facts, Cert.VpIdeal.Gen.facts, Cert.VpRefIdeal.Gen.facts,
  Cert.Do.Gen.facts, Cert.DoIdeal.Gen.facts, Cert.DoRefIdeal.Gen.facts,
  Cert.Ao.Gen.facts, Cert.AoIdeal.Gen.facts, Cert.AoRefIdeal.Gen.facts,
  Cert.Dwp.Gen.facts, Cert.DwpIdeal.Gen.facts, Cert.DwpRefIdeal.Gen.facts,
  Cert.Dwq.Gen.facts, Cert.DwqIdeal.Gen.facts, Cert.DwqRefIdeal.Gen.facts,
  Cert.Duq.Gen.facts, Cert.DuqIdeal.Gen.facts, Cert.DuqRefIdeal.Gen.facts,
  Cert.Dkv.Gen.facts, Cert.DkvIdeal.Gen.facts, Cert.DkvRefIdeal.Gen.facts,
  Cert.Fwd.Gen.facts, Cert.FwdIdeal.Gen.facts, Cert.FwdRefIdeal.Gen.facts,
  Algebraic.preFacts, Silu.upFacts, Silu.midFacts, Cert.Pre_finite_fwd.Gen.facts,
  Frames.kernel, Frames.kernelIdeal, (Algebraic.frames Frames.kernelIdeal Frames.referenceIdeal).1, Frames.referenceIdeal,
  (Algebraic.frames Frames.kernelIdeal Frames.referenceIdeal).2,
  Calls.up, Calls.upIdeal, Calls.up_pre, Calls.upRef, Calls.upRef_pre,
  Calls.mid, Calls.midIdeal, Calls.mid_pre, Calls.midRef, Calls.midRef_pre,
  Calls.dwb, Calls.dwbIdeal, Calls.dwbRef,
  Calls.dn, Calls.dnIdeal, Calls.dnRef,
  Calls.dwa, Calls.dwaIdeal, Calls.dwaRef,
  Calls.down, Calls.downIdeal, Calls.downRef,
  Calls.zx, Calls.zxIdeal, Calls.zxRef,
  Calls.dwz, Calls.dwzIdeal, Calls.dwzRef,
  Calls.dwx, Calls.dwxIdeal, Calls.dwxRef,
  Calls.duz, Calls.duzIdeal, Calls.duzRef,
  Calls.dux, Calls.duxIdeal, Calls.duxRef,
  Calls.so, Calls.soIdeal, Calls.soRef,
  Calls.dwo, Calls.dwoIdeal, Calls.dwoRef,
  Calls.dy, Calls.dyIdeal, Calls.dyRef,
  Calls.qp, Calls.qpIdeal, Calls.qpRef,
  Calls.vp, Calls.vpIdeal, Calls.vpRef,
  Calls.gradO, Calls.gradOIdeal, Calls.gradORef,
  Calls.ao, Calls.aoIdeal, Calls.aoRef,
  Calls.dwp, Calls.dwpIdeal, Calls.dwpRef,
  Calls.dwq, Calls.dwqIdeal, Calls.dwqRef,
  Calls.duq, Calls.duqIdeal, Calls.duqRef,
  Calls.dkv, Calls.dkvIdeal, Calls.dkvRef,
  FwdIdeal.Arrays.fwd, FwdIdeal.Arrays.fwdIdeal, FwdIdeal.Arrays.fwd_pre, FwdIdeal.Arrays.fwdRef, FwdIdeal.Arrays.fwdRef_pre,
  Frames.preserves, Algebraic.algebraic,
  trivial, UpIdeal.Sums.algebraic,
  trivial, MidIdeal.Sums.algebraic,
  trivial, DwbIdeal.Sums.algebraic,
  trivial, DnIdeal.Sums.algebraic,
  trivial, DwaIdeal.Sums.algebraic,
  trivial, DownIdeal.Sums.algebraic,
  trivial, ZxIdeal.Sums.algebraic,
  trivial, DwzIdeal.Sums.algebraic,
  trivial, DwxIdeal.Sums.algebraic,
  trivial, DuzIdeal.Sums.algebraic,
  trivial, DuxIdeal.Sums.algebraic,
  trivial, SoIdeal.Sums.algebraic,
  trivial, DwoIdeal.Sums.algebraic,
  trivial, DyIdeal.Sums.algebraic,
  trivial, QpIdeal.Sums.algebraic,
  trivial, VpIdeal.Sums.algebraic,
  trivial, DoIdeal.Sums.algebraic,
  trivial, AoIdeal.Sums.algebraic,
  trivial, DwpIdeal.Sums.algebraic,
  trivial, DwqIdeal.Sums.algebraic,
  trivial, DuqIdeal.Sums.algebraic,
  trivial, DkvIdeal.Sums.algebraic,
  FwdIdeal.Arrays.preserves, FwdIdeal.Arrays.algebraic⟩

end Cert.Proof

end
